-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S18944x8192 : Shape := ⟨2, ![18944, 8192]⟩
abbrev S18944 : Shape := ⟨1, ![18944]⟩
abbrev S192x8192 : Shape := ⟨2, ![192, 8192]⟩
abbrev S148x128 : Shape := ⟨2, ![148, 128]⟩
abbrev S192x18944 : Shape := ⟨2, ![192, 18944]⟩
abbrev S1x192 : Shape := ⟨2, ![1, 192]⟩
abbrev S8x512x8192 : Shape := ⟨3, ![8, 512, 8192]⟩
abbrev S192x128 : Shape := ⟨2, ![192, 128]⟩
abbrev S192x512 : Shape := ⟨2, ![192, 512]⟩
abbrev S6 : Shape := ⟨1, ![6]⟩
abbrev S8 : Shape := ⟨1, ![8]⟩
abbrev S2 : Shape := ⟨1, ![2]⟩
abbrev S_ : Shape := ⟨0, ![]⟩
abbrev S1 : Shape := ⟨1, ![1]⟩
abbrev S32x8192 : Shape := ⟨2, ![32, 8192]⟩
abbrev S1x512x8192 : Shape := ⟨3, ![1, 512, 8192]⟩
abbrev S512x8192 : Shape := ⟨2, ![512, 8192]⟩
abbrev S192x256 : Shape := ⟨2, ![192, 256]⟩
abbrev S32x128 : Shape := ⟨2, ![32, 128]⟩
abbrev S32 : Shape := ⟨1, ![32]⟩
abbrev S32x1 : Shape := ⟨2, ![32, 1]⟩
abbrev S1x256x256 : Shape := ⟨3, ![1, 256, 256]⟩
abbrev S256x256 : Shape := ⟨2, ![256, 256]⟩
abbrev S8x128 : Shape := ⟨2, ![8, 128]⟩
abbrev S1x128 : Shape := ⟨2, ![1, 128]⟩
abbrev S128x192 : Shape := ⟨2, ![128, 192]⟩

abbrev nBuf : Space → Nat
  | .hbm => 10
  | .vmem => 10
  | .smem => 0
  | _ => 0

abbrev bufTy : (tb : Table) → Fin (tcTables nBuf tb) → BufTy
  | .hbm, ⟨0, _⟩ => ⟨S192x1x8192, .bf16⟩
  | .hbm, ⟨1, _⟩ => ⟨S18944x8192, .fp8e4m3⟩
  | .hbm, ⟨2, _⟩ => ⟨S18944, .f32⟩
  | .hbm, ⟨3, _⟩ => ⟨S18944, .f32⟩
  | .hbm, ⟨4, _⟩ => ⟨S192x8192, .bf16⟩
  | .hbm, ⟨5, _⟩ => ⟨S148x128, .f32⟩
  | .hbm, ⟨6, _⟩ => ⟨S148x128, .f32⟩
  | .hbm, ⟨7, _⟩ => ⟨S192x18944, .f32⟩
  | .hbm, ⟨8, _⟩ => ⟨S192x8192, .fp8e4m3⟩
  | .hbm, ⟨9, _⟩ => ⟨S1x192, .f32⟩
  | .local _ .vmem, ⟨0, _⟩ => ⟨S192x18944, .f32⟩
  | .local _ .vmem, ⟨1, _⟩ => ⟨S1x192, .f32⟩
  | .local _ .vmem, ⟨2, _⟩ => ⟨S192x8192, .bf16⟩
  | .local _ .vmem, ⟨3, _⟩ => ⟨S192x8192, .fp8e4m3⟩
  | .local _ .vmem, ⟨4, _⟩ => ⟨S8x512x8192, .fp8e4m3⟩
  | .local _ .vmem, ⟨5, _⟩ => ⟨S148x128, .f32⟩
  | .local _ .vmem, ⟨6, _⟩ => ⟨S148x128, .f32⟩
  | .local _ .vmem, ⟨7, _⟩ => ⟨S192x128, .f32⟩
  | .local _ .vmem, ⟨8, _⟩ => ⟨S192x512, .f32⟩
  | .local _ .vmem, ⟨9, _⟩ => ⟨S192x512, .f32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def k0_mult1 : BitVec 32 :=
  let c0_i32_r0 : BitVec 32 := 0#32
  c0_i32_r0
def k0_mult2 : BitVec 32 :=
  let c32_i32_r0 : BitVec 32 := 32#32
  c32_i32_r0
def k0_mult3 : BitVec 32 :=
  let c64_i32_r0 : BitVec 32 := 64#32
  c64_i32_r0
def k0_mult4 : BitVec 32 :=
  let c96_i32_r0 : BitVec 32 := 96#32
  c96_i32_r0
def k0_mult5 : BitVec 32 :=
  let c128_i32_r0 : BitVec 32 := 128#32
  c128_i32_r0
def k0_mult6 : BitVec 32 :=
  let c160_i32_r0 : BitVec 32 := 160#32
  c160_i32_r0
def k0_off1 (c0_i32_15_r0 : BitVec 32) : Fin 1 → Nat :=
  let c8_i32_r0 : BitVec 32 := 8#32
  let v34_r0 : BitVec 32 := Scalar.remsi c0_i32_15_r0 c8_i32_r0
  ![v34_r0.toNat]
def k0_off2 (c0_i32_15_r0 : BitVec 32) : Fin 3 → Nat :=
  let c8_i32_r0 : BitVec 32 := 8#32
  let v34_r0 : BitVec 32 := Scalar.remsi c0_i32_15_r0 c8_i32_r0
  let c0_i32_16_r0 : BitVec 32 := 0#32
  let c0_i32_17_r0 : BitVec 32 := 0#32
  ![v34_r0.toNat, 0, 0]
@[reducible] def k0_t1_loop (i : grid0.Coords) : Scf.Loop 32 :=
  let c0_i32_64_r0 : BitVec 32 := 0#32
  let c6_i32_59_r0 : BitVec 32 := 6#32
  let arg0 : BitVec 32 := BitVec.ofNat 32 (i 0).val
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_66_r0 : BitVec 32 := 1#32
  ⟨c0_i32_64_r0, v106_r0, c1_i32_66_r0⟩
def k0_mult7 (i : grid0.Coords) (k0_t1 : Fin (k0_t1_loop i).trips) : BitVec 32 :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_585_r0 : BitVec 32 := 32#32
  let v1203_r0 : BitVec 32 := Scalar.muli v1202_r0 c32_i32_585_r0
  v1203_r0
def k0_off3 (i : grid0.Coords) (k0_t1 : Fin (k0_t1_loop i).trips) : Fin 1 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  ![v1202_r0.toNat]
def k0_off4 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_585_r0 : BitVec 32 := 32#32
  let v1203_r0 : BitVec 32 := Scalar.muli v1202_r0 c32_i32_585_r0
  let v1204_r0 : BitVec 32 := v1203_r0
  let c0_i32_586_r0 : BitVec 32 := 0#32
  ![v1204_r0.toNat, 0]
def k0_mult8 (i : grid0.Coords) (k0_t1 : Fin (k0_t1_loop i).trips) : BitVec 32 :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  v1209_r0
def k0_off5 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1211_r0 : Index := Scalar.indexCast v1210_r0
  let c0_589_r0 : Index := 0#32
  ![v1211_r0.toNat, 0]
def k0_off6 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1214_r0 : Index := Scalar.indexCast v1210_r0
  let c128_590_r0 : Index := 128#32
  ![v1214_r0.toNat, 128]
def k0_off7 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1218_r0 : Index := Scalar.indexCast v1210_r0
  let c256_591_r0 : Index := 256#32
  ![v1218_r0.toNat, 256]
def k0_off8 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1222_r0 : Index := Scalar.indexCast v1210_r0
  let c384_592_r0 : Index := 384#32
  ![v1222_r0.toNat, 384]
def k0_off9 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1226_r0 : Index := Scalar.indexCast v1210_r0
  let c512_r0 : Index := 512#32
  ![v1226_r0.toNat, 512]
def k0_off10 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1230_r0 : Index := Scalar.indexCast v1210_r0
  let c640_r0 : Index := 640#32
  ![v1230_r0.toNat, 640]
def k0_off11 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1234_r0 : Index := Scalar.indexCast v1210_r0
  let c768_r0 : Index := 768#32
  ![v1234_r0.toNat, 768]
def k0_off12 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1238_r0 : Index := Scalar.indexCast v1210_r0
  let c896_r0 : Index := 896#32
  ![v1238_r0.toNat, 896]
def k0_off13 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1242_r0 : Index := Scalar.indexCast v1210_r0
  let c1024_r0 : Index := 1024#32
  ![v1242_r0.toNat, 1024]
def k0_off14 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1246_r0 : Index := Scalar.indexCast v1210_r0
  let c1152_r0 : Index := 1152#32
  ![v1246_r0.toNat, 1152]
def k0_off15 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1250_r0 : Index := Scalar.indexCast v1210_r0
  let c1280_r0 : Index := 1280#32
  ![v1250_r0.toNat, 1280]
def k0_off16 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1254_r0 : Index := Scalar.indexCast v1210_r0
  let c1408_r0 : Index := 1408#32
  ![v1254_r0.toNat, 1408]
def k0_off17 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1258_r0 : Index := Scalar.indexCast v1210_r0
  let c1536_r0 : Index := 1536#32
  ![v1258_r0.toNat, 1536]
def k0_off18 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1262_r0 : Index := Scalar.indexCast v1210_r0
  let c1664_r0 : Index := 1664#32
  ![v1262_r0.toNat, 1664]
def k0_off19 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1266_r0 : Index := Scalar.indexCast v1210_r0
  let c1792_r0 : Index := 1792#32
  ![v1266_r0.toNat, 1792]
def k0_off20 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1270_r0 : Index := Scalar.indexCast v1210_r0
  let c1920_r0 : Index := 1920#32
  ![v1270_r0.toNat, 1920]
def k0_off21 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1274_r0 : Index := Scalar.indexCast v1210_r0
  let c2048_r0 : Index := 2048#32
  ![v1274_r0.toNat, 2048]
def k0_off22 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1278_r0 : Index := Scalar.indexCast v1210_r0
  let c2176_r0 : Index := 2176#32
  ![v1278_r0.toNat, 2176]
def k0_off23 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1282_r0 : Index := Scalar.indexCast v1210_r0
  let c2304_r0 : Index := 2304#32
  ![v1282_r0.toNat, 2304]
def k0_off24 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1286_r0 : Index := Scalar.indexCast v1210_r0
  let c2432_r0 : Index := 2432#32
  ![v1286_r0.toNat, 2432]
def k0_off25 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1290_r0 : Index := Scalar.indexCast v1210_r0
  let c2560_r0 : Index := 2560#32
  ![v1290_r0.toNat, 2560]
def k0_off26 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1294_r0 : Index := Scalar.indexCast v1210_r0
  let c2688_r0 : Index := 2688#32
  ![v1294_r0.toNat, 2688]
def k0_off27 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1298_r0 : Index := Scalar.indexCast v1210_r0
  let c2816_r0 : Index := 2816#32
  ![v1298_r0.toNat, 2816]
def k0_off28 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1302_r0 : Index := Scalar.indexCast v1210_r0
  let c2944_r0 : Index := 2944#32
  ![v1302_r0.toNat, 2944]
def k0_off29 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1306_r0 : Index := Scalar.indexCast v1210_r0
  let c3072_r0 : Index := 3072#32
  ![v1306_r0.toNat, 3072]
def k0_off30 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1310_r0 : Index := Scalar.indexCast v1210_r0
  let c3200_r0 : Index := 3200#32
  ![v1310_r0.toNat, 3200]
def k0_off31 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1314_r0 : Index := Scalar.indexCast v1210_r0
  let c3328_r0 : Index := 3328#32
  ![v1314_r0.toNat, 3328]
def k0_off32 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1318_r0 : Index := Scalar.indexCast v1210_r0
  let c3456_r0 : Index := 3456#32
  ![v1318_r0.toNat, 3456]
def k0_off33 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1322_r0 : Index := Scalar.indexCast v1210_r0
  let c3584_r0 : Index := 3584#32
  ![v1322_r0.toNat, 3584]
def k0_off34 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1326_r0 : Index := Scalar.indexCast v1210_r0
  let c3712_r0 : Index := 3712#32
  ![v1326_r0.toNat, 3712]
def k0_off35 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1330_r0 : Index := Scalar.indexCast v1210_r0
  let c3840_r0 : Index := 3840#32
  ![v1330_r0.toNat, 3840]
def k0_off36 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1334_r0 : Index := Scalar.indexCast v1210_r0
  let c3968_r0 : Index := 3968#32
  ![v1334_r0.toNat, 3968]
def k0_off37 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1338_r0 : Index := Scalar.indexCast v1210_r0
  let c4096_r0 : Index := 4096#32
  ![v1338_r0.toNat, 4096]
def k0_off38 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1342_r0 : Index := Scalar.indexCast v1210_r0
  let c4224_r0 : Index := 4224#32
  ![v1342_r0.toNat, 4224]
def k0_off39 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1346_r0 : Index := Scalar.indexCast v1210_r0
  let c4352_r0 : Index := 4352#32
  ![v1346_r0.toNat, 4352]
def k0_off40 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1350_r0 : Index := Scalar.indexCast v1210_r0
  let c4480_r0 : Index := 4480#32
  ![v1350_r0.toNat, 4480]
def k0_off41 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1354_r0 : Index := Scalar.indexCast v1210_r0
  let c4608_r0 : Index := 4608#32
  ![v1354_r0.toNat, 4608]
def k0_off42 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1358_r0 : Index := Scalar.indexCast v1210_r0
  let c4736_r0 : Index := 4736#32
  ![v1358_r0.toNat, 4736]
def k0_off43 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1362_r0 : Index := Scalar.indexCast v1210_r0
  let c4864_r0 : Index := 4864#32
  ![v1362_r0.toNat, 4864]
def k0_off44 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1366_r0 : Index := Scalar.indexCast v1210_r0
  let c4992_r0 : Index := 4992#32
  ![v1366_r0.toNat, 4992]
def k0_off45 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1370_r0 : Index := Scalar.indexCast v1210_r0
  let c5120_r0 : Index := 5120#32
  ![v1370_r0.toNat, 5120]
def k0_off46 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1374_r0 : Index := Scalar.indexCast v1210_r0
  let c5248_r0 : Index := 5248#32
  ![v1374_r0.toNat, 5248]
def k0_off47 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1378_r0 : Index := Scalar.indexCast v1210_r0
  let c5376_r0 : Index := 5376#32
  ![v1378_r0.toNat, 5376]
def k0_off48 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1382_r0 : Index := Scalar.indexCast v1210_r0
  let c5504_r0 : Index := 5504#32
  ![v1382_r0.toNat, 5504]
def k0_off49 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1386_r0 : Index := Scalar.indexCast v1210_r0
  let c5632_r0 : Index := 5632#32
  ![v1386_r0.toNat, 5632]
def k0_off50 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1390_r0 : Index := Scalar.indexCast v1210_r0
  let c5760_r0 : Index := 5760#32
  ![v1390_r0.toNat, 5760]
def k0_off51 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1394_r0 : Index := Scalar.indexCast v1210_r0
  let c5888_r0 : Index := 5888#32
  ![v1394_r0.toNat, 5888]
def k0_off52 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1398_r0 : Index := Scalar.indexCast v1210_r0
  let c6016_r0 : Index := 6016#32
  ![v1398_r0.toNat, 6016]
def k0_off53 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1402_r0 : Index := Scalar.indexCast v1210_r0
  let c6144_r0 : Index := 6144#32
  ![v1402_r0.toNat, 6144]
def k0_off54 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1406_r0 : Index := Scalar.indexCast v1210_r0
  let c6272_r0 : Index := 6272#32
  ![v1406_r0.toNat, 6272]
def k0_off55 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1410_r0 : Index := Scalar.indexCast v1210_r0
  let c6400_r0 : Index := 6400#32
  ![v1410_r0.toNat, 6400]
def k0_off56 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1414_r0 : Index := Scalar.indexCast v1210_r0
  let c6528_r0 : Index := 6528#32
  ![v1414_r0.toNat, 6528]
def k0_off57 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1418_r0 : Index := Scalar.indexCast v1210_r0
  let c6656_r0 : Index := 6656#32
  ![v1418_r0.toNat, 6656]
def k0_off58 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1422_r0 : Index := Scalar.indexCast v1210_r0
  let c6784_r0 : Index := 6784#32
  ![v1422_r0.toNat, 6784]
def k0_off59 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1426_r0 : Index := Scalar.indexCast v1210_r0
  let c6912_r0 : Index := 6912#32
  ![v1426_r0.toNat, 6912]
def k0_off60 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1430_r0 : Index := Scalar.indexCast v1210_r0
  let c7040_r0 : Index := 7040#32
  ![v1430_r0.toNat, 7040]
def k0_off61 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1434_r0 : Index := Scalar.indexCast v1210_r0
  let c7168_r0 : Index := 7168#32
  ![v1434_r0.toNat, 7168]
def k0_off62 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1438_r0 : Index := Scalar.indexCast v1210_r0
  let c7296_r0 : Index := 7296#32
  ![v1438_r0.toNat, 7296]
def k0_off63 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1442_r0 : Index := Scalar.indexCast v1210_r0
  let c7424_r0 : Index := 7424#32
  ![v1442_r0.toNat, 7424]
def k0_off64 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1446_r0 : Index := Scalar.indexCast v1210_r0
  let c7552_r0 : Index := 7552#32
  ![v1446_r0.toNat, 7552]
def k0_off65 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1450_r0 : Index := Scalar.indexCast v1210_r0
  let c7680_r0 : Index := 7680#32
  ![v1450_r0.toNat, 7680]
def k0_off66 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1454_r0 : Index := Scalar.indexCast v1210_r0
  let c7808_r0 : Index := 7808#32
  ![v1454_r0.toNat, 7808]
def k0_off67 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1458_r0 : Index := Scalar.indexCast v1210_r0
  let c7936_r0 : Index := 7936#32
  ![v1458_r0.toNat, 7936]
def k0_off68 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1462_r0 : Index := Scalar.indexCast v1210_r0
  let c8064_r0 : Index := 8064#32
  ![v1462_r0.toNat, 8064]
def k0_off69 (i : grid0.Coords) (k0_t1 : Fin (k0_t1_loop i).trips) : Fin 2 → Nat :=
  let arg0 : BitVec 32 := BitVec.ofNat 32 (i 0).val
  let c0_i32_64_r0 : BitVec 32 := 0#32
  let c1_i32_66_r0 : BitVec 32 := 1#32
  let arg20_r0 : BitVec 32 := Scf.iv c0_i32_64_r0 c1_i32_66_r0 k0_t1
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1544_r0 : Index := Scalar.indexCast v1210_r0
  let c0_613_r0 : Index := 0#32
  ![v1544_r0.toNat, 0]
@[reducible] def k0_t2_loop (i : grid0.Coords) : Scf.Loop 32 :=
  let c0_i32_64_r0 : BitVec 32 := 0#32
  let c6_i32_59_r0 : BitVec 32 := 6#32
  let arg0 : BitVec 32 := BitVec.ofNat 32 (i 0).val
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let v103_r0 : BitVec 32 := Scalar.addi c0_i32_64_r0 v102_r0
  let c1_i32_67_r0 : BitVec 32 := 1#32
  ⟨v106_r0, v103_r0, c1_i32_67_r0⟩
def k0_mult9 (i : grid0.Coords) (k0_t2 : Fin (k0_t2_loop i).trips) : BitVec 32 :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_585_r0 : BitVec 32 := 32#32
  let v1203_r0 : BitVec 32 := Scalar.muli v1202_r0 c32_i32_585_r0
  v1203_r0
def k0_off70 (i : grid0.Coords) (k0_t2 : Fin (k0_t2_loop i).trips) : Fin 1 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  ![v1202_r0.toNat]
def k0_off71 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_585_r0 : BitVec 32 := 32#32
  let v1203_r0 : BitVec 32 := Scalar.muli v1202_r0 c32_i32_585_r0
  let v1204_r0 : BitVec 32 := v1203_r0
  let c0_i32_586_r0 : BitVec 32 := 0#32
  ![v1204_r0.toNat, 0]
def k0_mult10 (i : grid0.Coords) (k0_t2 : Fin (k0_t2_loop i).trips) : BitVec 32 :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  v1209_r0
def k0_off72 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1211_r0 : Index := Scalar.indexCast v1210_r0
  let c0_589_r0 : Index := 0#32
  ![v1211_r0.toNat, 0]
def k0_off73 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1214_r0 : Index := Scalar.indexCast v1210_r0
  let c128_590_r0 : Index := 128#32
  ![v1214_r0.toNat, 128]
def k0_off74 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1218_r0 : Index := Scalar.indexCast v1210_r0
  let c256_591_r0 : Index := 256#32
  ![v1218_r0.toNat, 256]
def k0_off75 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1222_r0 : Index := Scalar.indexCast v1210_r0
  let c384_592_r0 : Index := 384#32
  ![v1222_r0.toNat, 384]
def k0_off76 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1226_r0 : Index := Scalar.indexCast v1210_r0
  let c512_r0 : Index := 512#32
  ![v1226_r0.toNat, 512]
def k0_off77 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1230_r0 : Index := Scalar.indexCast v1210_r0
  let c640_r0 : Index := 640#32
  ![v1230_r0.toNat, 640]
def k0_off78 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1234_r0 : Index := Scalar.indexCast v1210_r0
  let c768_r0 : Index := 768#32
  ![v1234_r0.toNat, 768]
def k0_off79 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1238_r0 : Index := Scalar.indexCast v1210_r0
  let c896_r0 : Index := 896#32
  ![v1238_r0.toNat, 896]
def k0_off80 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1242_r0 : Index := Scalar.indexCast v1210_r0
  let c1024_r0 : Index := 1024#32
  ![v1242_r0.toNat, 1024]
def k0_off81 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1246_r0 : Index := Scalar.indexCast v1210_r0
  let c1152_r0 : Index := 1152#32
  ![v1246_r0.toNat, 1152]
def k0_off82 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1250_r0 : Index := Scalar.indexCast v1210_r0
  let c1280_r0 : Index := 1280#32
  ![v1250_r0.toNat, 1280]
def k0_off83 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1254_r0 : Index := Scalar.indexCast v1210_r0
  let c1408_r0 : Index := 1408#32
  ![v1254_r0.toNat, 1408]
def k0_off84 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1258_r0 : Index := Scalar.indexCast v1210_r0
  let c1536_r0 : Index := 1536#32
  ![v1258_r0.toNat, 1536]
def k0_off85 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1262_r0 : Index := Scalar.indexCast v1210_r0
  let c1664_r0 : Index := 1664#32
  ![v1262_r0.toNat, 1664]
def k0_off86 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1266_r0 : Index := Scalar.indexCast v1210_r0
  let c1792_r0 : Index := 1792#32
  ![v1266_r0.toNat, 1792]
def k0_off87 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1270_r0 : Index := Scalar.indexCast v1210_r0
  let c1920_r0 : Index := 1920#32
  ![v1270_r0.toNat, 1920]
def k0_off88 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1274_r0 : Index := Scalar.indexCast v1210_r0
  let c2048_r0 : Index := 2048#32
  ![v1274_r0.toNat, 2048]
def k0_off89 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1278_r0 : Index := Scalar.indexCast v1210_r0
  let c2176_r0 : Index := 2176#32
  ![v1278_r0.toNat, 2176]
def k0_off90 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1282_r0 : Index := Scalar.indexCast v1210_r0
  let c2304_r0 : Index := 2304#32
  ![v1282_r0.toNat, 2304]
def k0_off91 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1286_r0 : Index := Scalar.indexCast v1210_r0
  let c2432_r0 : Index := 2432#32
  ![v1286_r0.toNat, 2432]
def k0_off92 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1290_r0 : Index := Scalar.indexCast v1210_r0
  let c2560_r0 : Index := 2560#32
  ![v1290_r0.toNat, 2560]
def k0_off93 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1294_r0 : Index := Scalar.indexCast v1210_r0
  let c2688_r0 : Index := 2688#32
  ![v1294_r0.toNat, 2688]
def k0_off94 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1298_r0 : Index := Scalar.indexCast v1210_r0
  let c2816_r0 : Index := 2816#32
  ![v1298_r0.toNat, 2816]
def k0_off95 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1302_r0 : Index := Scalar.indexCast v1210_r0
  let c2944_r0 : Index := 2944#32
  ![v1302_r0.toNat, 2944]
def k0_off96 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1306_r0 : Index := Scalar.indexCast v1210_r0
  let c3072_r0 : Index := 3072#32
  ![v1306_r0.toNat, 3072]
def k0_off97 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1310_r0 : Index := Scalar.indexCast v1210_r0
  let c3200_r0 : Index := 3200#32
  ![v1310_r0.toNat, 3200]
def k0_off98 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1314_r0 : Index := Scalar.indexCast v1210_r0
  let c3328_r0 : Index := 3328#32
  ![v1314_r0.toNat, 3328]
def k0_off99 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1318_r0 : Index := Scalar.indexCast v1210_r0
  let c3456_r0 : Index := 3456#32
  ![v1318_r0.toNat, 3456]
def k0_off100 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1322_r0 : Index := Scalar.indexCast v1210_r0
  let c3584_r0 : Index := 3584#32
  ![v1322_r0.toNat, 3584]
def k0_off101 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1326_r0 : Index := Scalar.indexCast v1210_r0
  let c3712_r0 : Index := 3712#32
  ![v1326_r0.toNat, 3712]
def k0_off102 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1330_r0 : Index := Scalar.indexCast v1210_r0
  let c3840_r0 : Index := 3840#32
  ![v1330_r0.toNat, 3840]
def k0_off103 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1334_r0 : Index := Scalar.indexCast v1210_r0
  let c3968_r0 : Index := 3968#32
  ![v1334_r0.toNat, 3968]
def k0_off104 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1338_r0 : Index := Scalar.indexCast v1210_r0
  let c4096_r0 : Index := 4096#32
  ![v1338_r0.toNat, 4096]
def k0_off105 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1342_r0 : Index := Scalar.indexCast v1210_r0
  let c4224_r0 : Index := 4224#32
  ![v1342_r0.toNat, 4224]
def k0_off106 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1346_r0 : Index := Scalar.indexCast v1210_r0
  let c4352_r0 : Index := 4352#32
  ![v1346_r0.toNat, 4352]
def k0_off107 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1350_r0 : Index := Scalar.indexCast v1210_r0
  let c4480_r0 : Index := 4480#32
  ![v1350_r0.toNat, 4480]
def k0_off108 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1354_r0 : Index := Scalar.indexCast v1210_r0
  let c4608_r0 : Index := 4608#32
  ![v1354_r0.toNat, 4608]
def k0_off109 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1358_r0 : Index := Scalar.indexCast v1210_r0
  let c4736_r0 : Index := 4736#32
  ![v1358_r0.toNat, 4736]
def k0_off110 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1362_r0 : Index := Scalar.indexCast v1210_r0
  let c4864_r0 : Index := 4864#32
  ![v1362_r0.toNat, 4864]
def k0_off111 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1366_r0 : Index := Scalar.indexCast v1210_r0
  let c4992_r0 : Index := 4992#32
  ![v1366_r0.toNat, 4992]
def k0_off112 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1370_r0 : Index := Scalar.indexCast v1210_r0
  let c5120_r0 : Index := 5120#32
  ![v1370_r0.toNat, 5120]
def k0_off113 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1374_r0 : Index := Scalar.indexCast v1210_r0
  let c5248_r0 : Index := 5248#32
  ![v1374_r0.toNat, 5248]
def k0_off114 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1378_r0 : Index := Scalar.indexCast v1210_r0
  let c5376_r0 : Index := 5376#32
  ![v1378_r0.toNat, 5376]
def k0_off115 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1382_r0 : Index := Scalar.indexCast v1210_r0
  let c5504_r0 : Index := 5504#32
  ![v1382_r0.toNat, 5504]
def k0_off116 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1386_r0 : Index := Scalar.indexCast v1210_r0
  let c5632_r0 : Index := 5632#32
  ![v1386_r0.toNat, 5632]
def k0_off117 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1390_r0 : Index := Scalar.indexCast v1210_r0
  let c5760_r0 : Index := 5760#32
  ![v1390_r0.toNat, 5760]
def k0_off118 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1394_r0 : Index := Scalar.indexCast v1210_r0
  let c5888_r0 : Index := 5888#32
  ![v1394_r0.toNat, 5888]
def k0_off119 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1398_r0 : Index := Scalar.indexCast v1210_r0
  let c6016_r0 : Index := 6016#32
  ![v1398_r0.toNat, 6016]
def k0_off120 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1402_r0 : Index := Scalar.indexCast v1210_r0
  let c6144_r0 : Index := 6144#32
  ![v1402_r0.toNat, 6144]
def k0_off121 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1406_r0 : Index := Scalar.indexCast v1210_r0
  let c6272_r0 : Index := 6272#32
  ![v1406_r0.toNat, 6272]
def k0_off122 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1410_r0 : Index := Scalar.indexCast v1210_r0
  let c6400_r0 : Index := 6400#32
  ![v1410_r0.toNat, 6400]
def k0_off123 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1414_r0 : Index := Scalar.indexCast v1210_r0
  let c6528_r0 : Index := 6528#32
  ![v1414_r0.toNat, 6528]
def k0_off124 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1418_r0 : Index := Scalar.indexCast v1210_r0
  let c6656_r0 : Index := 6656#32
  ![v1418_r0.toNat, 6656]
def k0_off125 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1422_r0 : Index := Scalar.indexCast v1210_r0
  let c6784_r0 : Index := 6784#32
  ![v1422_r0.toNat, 6784]
def k0_off126 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1426_r0 : Index := Scalar.indexCast v1210_r0
  let c6912_r0 : Index := 6912#32
  ![v1426_r0.toNat, 6912]
def k0_off127 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1430_r0 : Index := Scalar.indexCast v1210_r0
  let c7040_r0 : Index := 7040#32
  ![v1430_r0.toNat, 7040]
def k0_off128 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1434_r0 : Index := Scalar.indexCast v1210_r0
  let c7168_r0 : Index := 7168#32
  ![v1434_r0.toNat, 7168]
def k0_off129 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1438_r0 : Index := Scalar.indexCast v1210_r0
  let c7296_r0 : Index := 7296#32
  ![v1438_r0.toNat, 7296]
def k0_off130 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1442_r0 : Index := Scalar.indexCast v1210_r0
  let c7424_r0 : Index := 7424#32
  ![v1442_r0.toNat, 7424]
def k0_off131 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1446_r0 : Index := Scalar.indexCast v1210_r0
  let c7552_r0 : Index := 7552#32
  ![v1446_r0.toNat, 7552]
def k0_off132 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1450_r0 : Index := Scalar.indexCast v1210_r0
  let c7680_r0 : Index := 7680#32
  ![v1450_r0.toNat, 7680]
def k0_off133 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1454_r0 : Index := Scalar.indexCast v1210_r0
  let c7808_r0 : Index := 7808#32
  ![v1454_r0.toNat, 7808]
def k0_off134 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1458_r0 : Index := Scalar.indexCast v1210_r0
  let c7936_r0 : Index := 7936#32
  ![v1458_r0.toNat, 7936]
def k0_off135 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1462_r0 : Index := Scalar.indexCast v1210_r0
  let c8064_r0 : Index := 8064#32
  ![v1462_r0.toNat, 8064]
def k0_off136 (i : grid0.Coords) (k0_t2 : Fin (k0_t2_loop i).trips) : Fin 2 → Nat :=
  let arg0 : BitVec 32 := BitVec.ofNat 32 (i 0).val
  let c0_i32_64_r0 : BitVec 32 := 0#32
  let c6_i32_59_r0 : BitVec 32 := 6#32
  let v98_r0 : BitVec 32 := Scalar.subi c6_i32_59_r0 arg0
  let c1_i32_60_r0 : BitVec 32 := 1#32
  let c1_i32_61_r0 : BitVec 32 := 1#32
  let v99_r0 : BitVec 32 := Scalar.subi c1_i32_60_r0 c1_i32_61_r0
  let v100_r0 : BitVec 32 := Scalar.addi v98_r0 v99_r0
  let c1_i32_62_r0 : BitVec 32 := 1#32
  let v101_r0 : BitVec 32 := Scalar.divsi v100_r0 c1_i32_62_r0
  let v102_r0 : BitVec 32 := Scalar.subi v101_r0 c0_i32_64_r0
  let c1_i32_65_r0 : BitVec 32 := 1#32
  let v104_r0 : BitVec 32 := Scalar.divsi v102_r0 c1_i32_65_r0
  let v105_r0 : BitVec 32 := Scalar.muli v104_r0 c1_i32_65_r0
  let v106_r0 : BitVec 32 := Scalar.addi c0_i32_64_r0 v105_r0
  let c1_i32_67_r0 : BitVec 32 := 1#32
  let arg20_r0 : BitVec 32 := Scf.iv v106_r0 c1_i32_67_r0 k0_t2
  let c1_i32_63_r0 : BitVec 32 := 1#32
  let v1201_r0 : BitVec 32 := Scalar.muli arg20_r0 c1_i32_63_r0
  let v1202_r0 : BitVec 32 := Scalar.addi arg0 v1201_r0
  let c32_i32_588_r0 : BitVec 32 := 32#32
  let v1209_r0 : BitVec 32 := Scalar.muli v1202_r0 c32_i32_588_r0
  let v1210_r0 : BitVec 32 := v1209_r0
  let v1544_r0 : Index := Scalar.indexCast v1210_r0
  let c0_613_r0 : Index := 0#32
  ![v1544_r0.toNat, 0]
def k0_mult11 : BitVec 32 :=
  let c0_i32_78_r0 : BitVec 32 := 0#32
  c0_i32_78_r0
def k0_off137 : Fin 3 → Nat :=
  let c0_i32_76_r0 : BitVec 32 := 0#32
  let c8_i32_77_r0 : BitVec 32 := 8#32
  let v117_r0 : BitVec 32 := Scalar.remsi c0_i32_76_r0 c8_i32_77_r0
  let v119_r0 : Index := Scalar.indexCast v117_r0
  let c0_79_r0 : Index := 0#32
  let c0_i32_78_r0 : BitVec 32 := 0#32
  let v118_r0 : BitVec 32 := c0_i32_78_r0
  let v120_r0 : Index := Scalar.indexCast v118_r0
  ![v119_r0.toNat, 0, 0]
def k0_mult12 : BitVec 32 :=
  let c0_i32_80_r0 : BitVec 32 := 0#32
  c0_i32_80_r0
def k0_off138 : Fin 3 → Nat :=
  let c0_i32_76_r0 : BitVec 32 := 0#32
  let c8_i32_77_r0 : BitVec 32 := 8#32
  let v117_r0 : BitVec 32 := Scalar.remsi c0_i32_76_r0 c8_i32_77_r0
  let v125_r0 : Index := Scalar.indexCast v117_r0
  let c256_81_r0 : Index := 256#32
  let c0_i32_80_r0 : BitVec 32 := 0#32
  let v124_r0 : BitVec 32 := c0_i32_80_r0
  let v126_r0 : Index := Scalar.indexCast v124_r0
  ![v125_r0.toNat, 256, 0]
@[reducible] def k0_t3_loop (i : grid0.Coords) : Scf.Loop 32 :=
  let c0_i32_86_r0 : BitVec 32 := 0#32
  let c18_i32_r0 : BitVec 32 := 18#32
  let arg0 : BitVec 32 := BitVec.ofNat 32 (i 0).val
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_88_r0 : BitVec 32 := 1#32
  ⟨c0_i32_86_r0, v138_r0, c1_i32_88_r0⟩
def k0_cond1 (i : grid0.Coords) (k0_t3 : Fin (k0_t3_loop i).trips) : BitVec 1 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c0_i32_587_r0 : BitVec 32 := 0#32
  let v1205_r0 : BitVec 1 := Scalar.cmpi .sgt v1204_r0 c0_i32_587_r0
  let c1_i32_588_r0 : BitVec 32 := 1#32
  let v1206_r0 : BitVec 32 := Scalar.subi v1204_r0 c1_i32_588_r0
  let c8_i32_589_r0 : BitVec 32 := 8#32
  let v1207_r0 : BitVec 32 := Scalar.addi v1206_r0 c8_i32_589_r0
  let c37_i32_r0 : BitVec 32 := 37#32
  let v1208_r0 : BitVec 1 := Scalar.cmpi .slt v1207_r0 c37_i32_r0
  let v1209_r0 : BitVec 1 := Scalar.andi v1205_r0 v1208_r0
  let v1210_r0 : BitVec 32 := Scalar.extui v1209_r0
  let c0_i32_590_r0 : BitVec 32 := 0#32
  let v1211_r0 : BitVec 1 := Scalar.cmpi .ne v1210_r0 c0_i32_590_r0
  v1211_r0

def k0_off139 (i : grid0.Coords) (k0_t3 : Fin (k0_t3_loop i).trips) : Fin 1 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_808_r0 : BitVec 32 := 1#32
  let v1633_r0 : BitVec 32 := Scalar.subi v1204_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  ![v1635_r0.toNat]
def k0_off140 (i : grid0.Coords) (k0_t3 : Fin (k0_t3_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_808_r0 : BitVec 32 := 1#32
  let v1633_r0 : BitVec 32 := Scalar.subi v1204_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  let c0_i32_812_r0 : BitVec 32 := 0#32
  let c0_i32_813_r0 : BitVec 32 := 0#32
  ![v1635_r0.toNat, 0, 0]
def k0_off141 (i : grid0.Coords) (k0_t3 : Fin (k0_t3_loop i).trips) : Fin 2 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_808_r0 : BitVec 32 := 1#32
  let v1633_r0 : BitVec 32 := Scalar.subi v1204_r0 c1_i32_808_r0
  let c8_i32_809_r0 : BitVec 32 := 8#32
  let v1634_r0 : BitVec 32 := Scalar.addi v1633_r0 c8_i32_809_r0
  let c512_i32_811_r0 : BitVec 32 := 512#32
  let v1636_r0 : BitVec 32 := Scalar.muli v1634_r0 c512_i32_811_r0
  let c0_i32_814_r0 : BitVec 32 := 0#32
  ![v1636_r0.toNat, 0]
def k0_mult13 : BitVec 32 :=
  let c0_i32_591_r0 : BitVec 32 := 0#32
  let c8_i32_592_r0 : BitVec 32 := 8#32
  let v1212_r0 : BitVec 32 := Scalar.muli c0_i32_591_r0 c8_i32_592_r0
  let c0_i32_593_r0 : BitVec 32 := 0#32
  let v1213_r0 : BitVec 32 := Scalar.addi v1212_r0 c0_i32_593_r0
  let c256_i32_594_r0 : BitVec 32 := 256#32
  let v1214_r0 : BitVec 32 := Scalar.muli v1213_r0 c256_i32_594_r0
  v1214_r0
def k0_off142 (c0_i32_593_r0 : BitVec 32) : Fin 2 → Nat :=
  let c0_595_r0 : Index := 0#32
  let c0_i32_591_r0 : BitVec 32 := 0#32
  let c8_i32_592_r0 : BitVec 32 := 8#32
  let v1212_r0 : BitVec 32 := Scalar.muli c0_i32_591_r0 c8_i32_592_r0
  let v1213_r0 : BitVec 32 := Scalar.addi v1212_r0 c0_i32_593_r0
  let c256_i32_594_r0 : BitVec 32 := 256#32
  let v1214_r0 : BitVec 32 := Scalar.muli v1213_r0 c256_i32_594_r0
  let v1215_r0 : BitVec 32 := v1214_r0
  let v1216_r0 : Index := Scalar.indexCast v1215_r0
  ![0, v1216_r0.toNat]
def k0_mult14 : BitVec 32 :=
  let c0_i32_591_r0 : BitVec 32 := 0#32
  let c8_i32_592_r0 : BitVec 32 := 8#32
  let v1212_r0 : BitVec 32 := Scalar.muli c0_i32_591_r0 c8_i32_592_r0
  let c0_i32_593_r0 : BitVec 32 := 0#32
  let v1213_r0 : BitVec 32 := Scalar.addi v1212_r0 c0_i32_593_r0
  let c1_i32_596_r0 : BitVec 32 := 1#32
  let v1219_r0 : BitVec 32 := Scalar.addi v1213_r0 c1_i32_596_r0
  let c256_i32_598_r0 : BitVec 32 := 256#32
  let v1221_r0 : BitVec 32 := Scalar.muli v1219_r0 c256_i32_598_r0
  v1221_r0
def k0_off143 (i : grid0.Coords) (k0_t3 : Fin (k0_t3_loop i).trips) (c0_i32_586_r0 : BitVec 32) (c0_i32_593_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c8_i32_597_r0 : BitVec 32 := 8#32
  let v1220_r0 : BitVec 32 := Scalar.remsi v1204_r0 c8_i32_597_r0
  let v1223_r0 : Index := Scalar.indexCast v1220_r0
  let c0_599_r0 : Index := 0#32
  let c0_i32_591_r0 : BitVec 32 := 0#32
  let c8_i32_592_r0 : BitVec 32 := 8#32
  let v1212_r0 : BitVec 32 := Scalar.muli c0_i32_591_r0 c8_i32_592_r0
  let v1213_r0 : BitVec 32 := Scalar.addi v1212_r0 c0_i32_593_r0
  let c1_i32_596_r0 : BitVec 32 := 1#32
  let v1219_r0 : BitVec 32 := Scalar.addi v1213_r0 c1_i32_596_r0
  let c256_i32_598_r0 : BitVec 32 := 256#32
  let v1221_r0 : BitVec 32 := Scalar.muli v1219_r0 c256_i32_598_r0
  let v1222_r0 : BitVec 32 := v1221_r0
  let v1224_r0 : Index := Scalar.indexCast v1222_r0
  ![v1223_r0.toNat, 0, v1224_r0.toNat]
def k0_mult15 : BitVec 32 :=
  let c0_i32_591_r0 : BitVec 32 := 0#32
  let c8_i32_592_r0 : BitVec 32 := 8#32
  let v1212_r0 : BitVec 32 := Scalar.muli c0_i32_591_r0 c8_i32_592_r0
  let c0_i32_593_r0 : BitVec 32 := 0#32
  let v1213_r0 : BitVec 32 := Scalar.addi v1212_r0 c0_i32_593_r0
  let c1_i32_596_r0 : BitVec 32 := 1#32
  let v1219_r0 : BitVec 32 := Scalar.addi v1213_r0 c1_i32_596_r0
  let c256_i32_600_r0 : BitVec 32 := 256#32
  let v1228_r0 : BitVec 32 := Scalar.muli v1219_r0 c256_i32_600_r0
  v1228_r0
def k0_off144 (i : grid0.Coords) (k0_t3 : Fin (k0_t3_loop i).trips) (c0_i32_586_r0 : BitVec 32) (c0_i32_593_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c8_i32_597_r0 : BitVec 32 := 8#32
  let v1220_r0 : BitVec 32 := Scalar.remsi v1204_r0 c8_i32_597_r0
  let v1230_r0 : Index := Scalar.indexCast v1220_r0
  let c256_601_r0 : Index := 256#32
  let c0_i32_591_r0 : BitVec 32 := 0#32
  let c8_i32_592_r0 : BitVec 32 := 8#32
  let v1212_r0 : BitVec 32 := Scalar.muli c0_i32_591_r0 c8_i32_592_r0
  let v1213_r0 : BitVec 32 := Scalar.addi v1212_r0 c0_i32_593_r0
  let c1_i32_596_r0 : BitVec 32 := 1#32
  let v1219_r0 : BitVec 32 := Scalar.addi v1213_r0 c1_i32_596_r0
  let c256_i32_600_r0 : BitVec 32 := 256#32
  let v1228_r0 : BitVec 32 := Scalar.muli v1219_r0 c256_i32_600_r0
  let v1229_r0 : BitVec 32 := v1228_r0
  let v1231_r0 : Index := Scalar.indexCast v1229_r0
  ![v1230_r0.toNat, 256, v1231_r0.toNat]
def k0_mult16 : BitVec 32 :=
  let c0_i32_602_r0 : BitVec 32 := 0#32
  let c8_i32_603_r0 : BitVec 32 := 8#32
  let v1235_r0 : BitVec 32 := Scalar.muli c0_i32_602_r0 c8_i32_603_r0
  let c1_i32_604_r0 : BitVec 32 := 1#32
  let v1236_r0 : BitVec 32 := Scalar.addi v1235_r0 c1_i32_604_r0
  let c256_i32_605_r0 : BitVec 32 := 256#32
  let v1237_r0 : BitVec 32 := Scalar.muli v1236_r0 c256_i32_605_r0
  v1237_r0
def k0_mult17 : BitVec 32 :=
  let c0_i32_602_r0 : BitVec 32 := 0#32
  let c8_i32_603_r0 : BitVec 32 := 8#32
  let v1235_r0 : BitVec 32 := Scalar.muli c0_i32_602_r0 c8_i32_603_r0
  let c1_i32_604_r0 : BitVec 32 := 1#32
  let v1236_r0 : BitVec 32 := Scalar.addi v1235_r0 c1_i32_604_r0
  let c1_i32_607_r0 : BitVec 32 := 1#32
  let v1242_r0 : BitVec 32 := Scalar.addi v1236_r0 c1_i32_607_r0
  let c256_i32_609_r0 : BitVec 32 := 256#32
  let v1244_r0 : BitVec 32 := Scalar.muli v1242_r0 c256_i32_609_r0
  v1244_r0
def k0_mult18 : BitVec 32 :=
  let c0_i32_602_r0 : BitVec 32 := 0#32
  let c8_i32_603_r0 : BitVec 32 := 8#32
  let v1235_r0 : BitVec 32 := Scalar.muli c0_i32_602_r0 c8_i32_603_r0
  let c1_i32_604_r0 : BitVec 32 := 1#32
  let v1236_r0 : BitVec 32 := Scalar.addi v1235_r0 c1_i32_604_r0
  let c1_i32_607_r0 : BitVec 32 := 1#32
  let v1242_r0 : BitVec 32 := Scalar.addi v1236_r0 c1_i32_607_r0
  let c256_i32_611_r0 : BitVec 32 := 256#32
  let v1251_r0 : BitVec 32 := Scalar.muli v1242_r0 c256_i32_611_r0
  v1251_r0
def k0_mult19 : BitVec 32 :=
  let c0_i32_613_r0 : BitVec 32 := 0#32
  let c8_i32_614_r0 : BitVec 32 := 8#32
  let v1258_r0 : BitVec 32 := Scalar.muli c0_i32_613_r0 c8_i32_614_r0
  let c2_i32_615_r0 : BitVec 32 := 2#32
  let v1259_r0 : BitVec 32 := Scalar.addi v1258_r0 c2_i32_615_r0
  let c256_i32_616_r0 : BitVec 32 := 256#32
  let v1260_r0 : BitVec 32 := Scalar.muli v1259_r0 c256_i32_616_r0
  v1260_r0
def k0_mult20 : BitVec 32 :=
  let c0_i32_613_r0 : BitVec 32 := 0#32
  let c8_i32_614_r0 : BitVec 32 := 8#32
  let v1258_r0 : BitVec 32 := Scalar.muli c0_i32_613_r0 c8_i32_614_r0
  let c2_i32_615_r0 : BitVec 32 := 2#32
  let v1259_r0 : BitVec 32 := Scalar.addi v1258_r0 c2_i32_615_r0
  let c1_i32_618_r0 : BitVec 32 := 1#32
  let v1265_r0 : BitVec 32 := Scalar.addi v1259_r0 c1_i32_618_r0
  let c256_i32_620_r0 : BitVec 32 := 256#32
  let v1267_r0 : BitVec 32 := Scalar.muli v1265_r0 c256_i32_620_r0
  v1267_r0
def k0_mult21 : BitVec 32 :=
  let c0_i32_613_r0 : BitVec 32 := 0#32
  let c8_i32_614_r0 : BitVec 32 := 8#32
  let v1258_r0 : BitVec 32 := Scalar.muli c0_i32_613_r0 c8_i32_614_r0
  let c2_i32_615_r0 : BitVec 32 := 2#32
  let v1259_r0 : BitVec 32 := Scalar.addi v1258_r0 c2_i32_615_r0
  let c1_i32_618_r0 : BitVec 32 := 1#32
  let v1265_r0 : BitVec 32 := Scalar.addi v1259_r0 c1_i32_618_r0
  let c256_i32_622_r0 : BitVec 32 := 256#32
  let v1274_r0 : BitVec 32 := Scalar.muli v1265_r0 c256_i32_622_r0
  v1274_r0
def k0_mult22 : BitVec 32 :=
  let c0_i32_624_r0 : BitVec 32 := 0#32
  let c8_i32_625_r0 : BitVec 32 := 8#32
  let v1281_r0 : BitVec 32 := Scalar.muli c0_i32_624_r0 c8_i32_625_r0
  let c3_i32_626_r0 : BitVec 32 := 3#32
  let v1282_r0 : BitVec 32 := Scalar.addi v1281_r0 c3_i32_626_r0
  let c256_i32_627_r0 : BitVec 32 := 256#32
  let v1283_r0 : BitVec 32 := Scalar.muli v1282_r0 c256_i32_627_r0
  v1283_r0
def k0_mult23 : BitVec 32 :=
  let c0_i32_624_r0 : BitVec 32 := 0#32
  let c8_i32_625_r0 : BitVec 32 := 8#32
  let v1281_r0 : BitVec 32 := Scalar.muli c0_i32_624_r0 c8_i32_625_r0
  let c3_i32_626_r0 : BitVec 32 := 3#32
  let v1282_r0 : BitVec 32 := Scalar.addi v1281_r0 c3_i32_626_r0
  let c1_i32_629_r0 : BitVec 32 := 1#32
  let v1288_r0 : BitVec 32 := Scalar.addi v1282_r0 c1_i32_629_r0
  let c256_i32_631_r0 : BitVec 32 := 256#32
  let v1290_r0 : BitVec 32 := Scalar.muli v1288_r0 c256_i32_631_r0
  v1290_r0
def k0_mult24 : BitVec 32 :=
  let c0_i32_624_r0 : BitVec 32 := 0#32
  let c8_i32_625_r0 : BitVec 32 := 8#32
  let v1281_r0 : BitVec 32 := Scalar.muli c0_i32_624_r0 c8_i32_625_r0
  let c3_i32_626_r0 : BitVec 32 := 3#32
  let v1282_r0 : BitVec 32 := Scalar.addi v1281_r0 c3_i32_626_r0
  let c1_i32_629_r0 : BitVec 32 := 1#32
  let v1288_r0 : BitVec 32 := Scalar.addi v1282_r0 c1_i32_629_r0
  let c256_i32_633_r0 : BitVec 32 := 256#32
  let v1297_r0 : BitVec 32 := Scalar.muli v1288_r0 c256_i32_633_r0
  v1297_r0
def k0_mult25 : BitVec 32 :=
  let c0_i32_635_r0 : BitVec 32 := 0#32
  let c8_i32_636_r0 : BitVec 32 := 8#32
  let v1304_r0 : BitVec 32 := Scalar.muli c0_i32_635_r0 c8_i32_636_r0
  let c4_i32_637_r0 : BitVec 32 := 4#32
  let v1305_r0 : BitVec 32 := Scalar.addi v1304_r0 c4_i32_637_r0
  let c256_i32_638_r0 : BitVec 32 := 256#32
  let v1306_r0 : BitVec 32 := Scalar.muli v1305_r0 c256_i32_638_r0
  v1306_r0
def k0_mult26 : BitVec 32 :=
  let c0_i32_635_r0 : BitVec 32 := 0#32
  let c8_i32_636_r0 : BitVec 32 := 8#32
  let v1304_r0 : BitVec 32 := Scalar.muli c0_i32_635_r0 c8_i32_636_r0
  let c4_i32_637_r0 : BitVec 32 := 4#32
  let v1305_r0 : BitVec 32 := Scalar.addi v1304_r0 c4_i32_637_r0
  let c1_i32_640_r0 : BitVec 32 := 1#32
  let v1311_r0 : BitVec 32 := Scalar.addi v1305_r0 c1_i32_640_r0
  let c256_i32_642_r0 : BitVec 32 := 256#32
  let v1313_r0 : BitVec 32 := Scalar.muli v1311_r0 c256_i32_642_r0
  v1313_r0
def k0_mult27 : BitVec 32 :=
  let c0_i32_635_r0 : BitVec 32 := 0#32
  let c8_i32_636_r0 : BitVec 32 := 8#32
  let v1304_r0 : BitVec 32 := Scalar.muli c0_i32_635_r0 c8_i32_636_r0
  let c4_i32_637_r0 : BitVec 32 := 4#32
  let v1305_r0 : BitVec 32 := Scalar.addi v1304_r0 c4_i32_637_r0
  let c1_i32_640_r0 : BitVec 32 := 1#32
  let v1311_r0 : BitVec 32 := Scalar.addi v1305_r0 c1_i32_640_r0
  let c256_i32_644_r0 : BitVec 32 := 256#32
  let v1320_r0 : BitVec 32 := Scalar.muli v1311_r0 c256_i32_644_r0
  v1320_r0
def k0_mult28 : BitVec 32 :=
  let c0_i32_650_r0 : BitVec 32 := 0#32
  let c8_i32_651_r0 : BitVec 32 := 8#32
  let v1335_r0 : BitVec 32 := Scalar.muli c0_i32_650_r0 c8_i32_651_r0
  let c5_i32_652_r0 : BitVec 32 := 5#32
  let v1336_r0 : BitVec 32 := Scalar.addi v1335_r0 c5_i32_652_r0
  let c256_i32_653_r0 : BitVec 32 := 256#32
  let v1337_r0 : BitVec 32 := Scalar.muli v1336_r0 c256_i32_653_r0
  v1337_r0
def k0_mult29 : BitVec 32 :=
  let c0_i32_650_r0 : BitVec 32 := 0#32
  let c8_i32_651_r0 : BitVec 32 := 8#32
  let v1335_r0 : BitVec 32 := Scalar.muli c0_i32_650_r0 c8_i32_651_r0
  let c5_i32_652_r0 : BitVec 32 := 5#32
  let v1336_r0 : BitVec 32 := Scalar.addi v1335_r0 c5_i32_652_r0
  let c1_i32_655_r0 : BitVec 32 := 1#32
  let v1342_r0 : BitVec 32 := Scalar.addi v1336_r0 c1_i32_655_r0
  let c256_i32_657_r0 : BitVec 32 := 256#32
  let v1344_r0 : BitVec 32 := Scalar.muli v1342_r0 c256_i32_657_r0
  v1344_r0
def k0_mult30 : BitVec 32 :=
  let c0_i32_650_r0 : BitVec 32 := 0#32
  let c8_i32_651_r0 : BitVec 32 := 8#32
  let v1335_r0 : BitVec 32 := Scalar.muli c0_i32_650_r0 c8_i32_651_r0
  let c5_i32_652_r0 : BitVec 32 := 5#32
  let v1336_r0 : BitVec 32 := Scalar.addi v1335_r0 c5_i32_652_r0
  let c1_i32_655_r0 : BitVec 32 := 1#32
  let v1342_r0 : BitVec 32 := Scalar.addi v1336_r0 c1_i32_655_r0
  let c256_i32_659_r0 : BitVec 32 := 256#32
  let v1351_r0 : BitVec 32 := Scalar.muli v1342_r0 c256_i32_659_r0
  v1351_r0
def k0_mult31 : BitVec 32 :=
  let c0_i32_661_r0 : BitVec 32 := 0#32
  let c8_i32_662_r0 : BitVec 32 := 8#32
  let v1358_r0 : BitVec 32 := Scalar.muli c0_i32_661_r0 c8_i32_662_r0
  let c6_i32_663_r0 : BitVec 32 := 6#32
  let v1359_r0 : BitVec 32 := Scalar.addi v1358_r0 c6_i32_663_r0
  let c256_i32_664_r0 : BitVec 32 := 256#32
  let v1360_r0 : BitVec 32 := Scalar.muli v1359_r0 c256_i32_664_r0
  v1360_r0
def k0_mult32 : BitVec 32 :=
  let c0_i32_661_r0 : BitVec 32 := 0#32
  let c8_i32_662_r0 : BitVec 32 := 8#32
  let v1358_r0 : BitVec 32 := Scalar.muli c0_i32_661_r0 c8_i32_662_r0
  let c6_i32_663_r0 : BitVec 32 := 6#32
  let v1359_r0 : BitVec 32 := Scalar.addi v1358_r0 c6_i32_663_r0
  let c1_i32_666_r0 : BitVec 32 := 1#32
  let v1365_r0 : BitVec 32 := Scalar.addi v1359_r0 c1_i32_666_r0
  let c256_i32_668_r0 : BitVec 32 := 256#32
  let v1367_r0 : BitVec 32 := Scalar.muli v1365_r0 c256_i32_668_r0
  v1367_r0
def k0_mult33 : BitVec 32 :=
  let c0_i32_661_r0 : BitVec 32 := 0#32
  let c8_i32_662_r0 : BitVec 32 := 8#32
  let v1358_r0 : BitVec 32 := Scalar.muli c0_i32_661_r0 c8_i32_662_r0
  let c6_i32_663_r0 : BitVec 32 := 6#32
  let v1359_r0 : BitVec 32 := Scalar.addi v1358_r0 c6_i32_663_r0
  let c1_i32_666_r0 : BitVec 32 := 1#32
  let v1365_r0 : BitVec 32 := Scalar.addi v1359_r0 c1_i32_666_r0
  let c256_i32_670_r0 : BitVec 32 := 256#32
  let v1374_r0 : BitVec 32 := Scalar.muli v1365_r0 c256_i32_670_r0
  v1374_r0
def k0_mult34 : BitVec 32 :=
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c256_i32_675_r0 : BitVec 32 := 256#32
  let v1383_r0 : BitVec 32 := Scalar.muli v1382_r0 c256_i32_675_r0
  v1383_r0
def k0_mult35 : BitVec 32 :=
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_682_r0 : BitVec 32 := 256#32
  let v1394_r0 : BitVec 32 := Scalar.muli v1392_r0 c256_i32_682_r0
  v1394_r0
def k0_off145 (i : grid0.Coords) (k0_t3 : Fin (k0_t3_loop i).trips) (c0_i32_586_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_677_r0 : BitVec 32 := 1#32
  let v1388_r0 : BitVec 32 := Scalar.addi v1382_r0 c1_i32_677_r0
  let c32_i32_678_r0 : BitVec 32 := 32#32
  let v1389_r0 : BitVec 32 := Scalar.divsi v1388_r0 c32_i32_678_r0
  let v1390_r0 : BitVec 32 := Scalar.addi v1204_r0 v1389_r0
  let c8_i32_681_r0 : BitVec 32 := 8#32
  let v1393_r0 : BitVec 32 := Scalar.remsi v1390_r0 c8_i32_681_r0
  let v1396_r0 : Index := Scalar.indexCast v1393_r0
  let c0_683_r0 : Index := 0#32
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_682_r0 : BitVec 32 := 256#32
  let v1394_r0 : BitVec 32 := Scalar.muli v1392_r0 c256_i32_682_r0
  let v1395_r0 : BitVec 32 := v1394_r0
  let v1397_r0 : Index := Scalar.indexCast v1395_r0
  ![v1396_r0.toNat, 0, v1397_r0.toNat]
def k0_mult36 : BitVec 32 :=
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_684_r0 : BitVec 32 := 256#32
  let v1401_r0 : BitVec 32 := Scalar.muli v1392_r0 c256_i32_684_r0
  v1401_r0
def k0_off146 (i : grid0.Coords) (k0_t3 : Fin (k0_t3_loop i).trips) (c0_i32_586_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_677_r0 : BitVec 32 := 1#32
  let v1388_r0 : BitVec 32 := Scalar.addi v1382_r0 c1_i32_677_r0
  let c32_i32_678_r0 : BitVec 32 := 32#32
  let v1389_r0 : BitVec 32 := Scalar.divsi v1388_r0 c32_i32_678_r0
  let v1390_r0 : BitVec 32 := Scalar.addi v1204_r0 v1389_r0
  let c8_i32_681_r0 : BitVec 32 := 8#32
  let v1393_r0 : BitVec 32 := Scalar.remsi v1390_r0 c8_i32_681_r0
  let v1403_r0 : Index := Scalar.indexCast v1393_r0
  let c256_685_r0 : Index := 256#32
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_684_r0 : BitVec 32 := 256#32
  let v1401_r0 : BitVec 32 := Scalar.muli v1392_r0 c256_i32_684_r0
  let v1402_r0 : BitVec 32 := v1401_r0
  let v1404_r0 : Index := Scalar.indexCast v1402_r0
  ![v1403_r0.toNat, 256, v1404_r0.toNat]
@[reducible] def k0_t4_loop (i : grid0.Coords) : Scf.Loop 32 :=
  let c0_i32_692_r0 : BitVec 32 := 0#32
  let c4_i32_687_r0 : BitVec 32 := 4#32
  let arg0 : BitVec 32 := BitVec.ofNat 32 (i 0).val
  let c1_i32_686_r0 : BitVec 32 := 1#32
  let v1408_r0 : BitVec 32 := Scalar.addi arg0 c1_i32_686_r0
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_694_r0 : BitVec 32 := 1#32
  ⟨c0_i32_692_r0, v1417_r0, c1_i32_694_r0⟩
def k0_cond2 (i : grid0.Coords) (k0_t4 : Fin (k0_t4_loop i).trips) : BitVec 1 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off147 (i : grid0.Coords) (k0_t3 : Fin (k0_t3_loop i).trips) : Fin 1 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  ![v2587_r0.toNat]
def k0_off148 (i : grid0.Coords) (k0_t3 : Fin (k0_t3_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off149 (i : grid0.Coords) (k0_t3 : Fin (k0_t3_loop i).trips) : Fin 2 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult37 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off150 (i : grid0.Coords) (k0_t4 : Fin (k0_t4_loop i).trips) (c0_i32_811_r0 : BitVec 32) : Fin 2 → Nat :=
  let c0_813_r0 : Index := 0#32
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult38 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off151 (i : grid0.Coords) (k0_t3 : Fin (k0_t3_loop i).trips) (k0_t4 : Fin (k0_t4_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1649_r0 : Index := Scalar.indexCast v1646_r0
  let c0_817_r0 : Index := 0#32
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult39 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off152 (i : grid0.Coords) (k0_t3 : Fin (k0_t3_loop i).trips) (k0_t4 : Fin (k0_t4_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1656_r0 : Index := Scalar.indexCast v1646_r0
  let c256_819_r0 : Index := 256#32
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult40 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off153 (i : grid0.Coords) (k0_t4 : Fin (k0_t4_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off154 (i : grid0.Coords) (k0_t3 : Fin (k0_t3_loop i).trips) (c0_i32_829_r0 : BitVec 32) : Fin 2 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off155 (i : grid0.Coords) (k0_t4 : Fin (k0_t4_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult41 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off156 (i : grid0.Coords) (k0_t3 : Fin (k0_t3_loop i).trips) (k0_t4 : Fin (k0_t4_loop i).trips) (c0_i32_823_r0 : BitVec 32) (c0_i32_835_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_585_r0 : BitVec 32 := 2#32
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off157 (i : grid0.Coords) (k0_t4 : Fin (k0_t4_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult42 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off158 (i : grid0.Coords) (k0_t4 : Fin (k0_t4_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult43 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off159 (i : grid0.Coords) (k0_t4 : Fin (k0_t4_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult44 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult45 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult46 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult47 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult48 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult49 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult50 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult51 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult52 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult53 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult54 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult55 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult56 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult57 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult58 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult59 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult60 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult61 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult62 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult63 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult64 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult65 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult66 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult67 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult68 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult69 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult70 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult71 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult72 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult73 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult74 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult75 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult76 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult77 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult78 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult79 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult80 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult81 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult82 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult83 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult84 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult85 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult86 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult87 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult88 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult89 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult90 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult91 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult92 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult93 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult94 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off160 (i : grid0.Coords) (k0_t3 : Fin (k0_t3_loop i).trips) (k0_t4 : Fin (k0_t4_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult95 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off161 (i : grid0.Coords) (k0_t3 : Fin (k0_t3_loop i).trips) (k0_t4 : Fin (k0_t4_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult96 (i : grid0.Coords) (k0_t4 : Fin (k0_t4_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t4
  let c1_i32_691_r0 : BitVec 32 := 1#32
  let v1633_r0 : BitVec 32 := Scalar.muli arg21_r0 c1_i32_691_r0
  let v1634_r0 : BitVec 32 := Scalar.addi v1408_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult97 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult98 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult99 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult100 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
@[reducible] def k0_t5_loop (i : grid0.Coords) : Scf.Loop 32 :=
  let c0_i32_692_r0 : BitVec 32 := 0#32
  let c4_i32_687_r0 : BitVec 32 := 4#32
  let arg0 : BitVec 32 := BitVec.ofNat 32 (i 0).val
  let c1_i32_686_r0 : BitVec 32 := 1#32
  let v1408_r0 : BitVec 32 := Scalar.addi arg0 c1_i32_686_r0
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let v1414_r0 : BitVec 32 := Scalar.addi c0_i32_692_r0 v1413_r0
  let c1_i32_695_r0 : BitVec 32 := 1#32
  ⟨v1417_r0, v1414_r0, c1_i32_695_r0⟩
def k0_cond3 (i : grid0.Coords) (k0_t5 : Fin (k0_t5_loop i).trips) : BitVec 1 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off162 (i : grid0.Coords) (k0_t3 : Fin (k0_t3_loop i).trips) : Fin 1 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  ![v2587_r0.toNat]
def k0_off163 (i : grid0.Coords) (k0_t3 : Fin (k0_t3_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off164 (i : grid0.Coords) (k0_t3 : Fin (k0_t3_loop i).trips) : Fin 2 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult101 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off165 (i : grid0.Coords) (k0_t5 : Fin (k0_t5_loop i).trips) (c0_i32_811_r0 : BitVec 32) : Fin 2 → Nat :=
  let c0_813_r0 : Index := 0#32
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult102 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off166 (i : grid0.Coords) (k0_t3 : Fin (k0_t3_loop i).trips) (k0_t5 : Fin (k0_t5_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1649_r0 : Index := Scalar.indexCast v1646_r0
  let c0_817_r0 : Index := 0#32
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult103 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off167 (i : grid0.Coords) (k0_t3 : Fin (k0_t3_loop i).trips) (k0_t5 : Fin (k0_t5_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1656_r0 : Index := Scalar.indexCast v1646_r0
  let c256_819_r0 : Index := 256#32
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult104 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off168 (i : grid0.Coords) (k0_t5 : Fin (k0_t5_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off169 (i : grid0.Coords) (k0_t3 : Fin (k0_t3_loop i).trips) (c0_i32_829_r0 : BitVec 32) : Fin 2 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off170 (i : grid0.Coords) (k0_t5 : Fin (k0_t5_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult105 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off171 (i : grid0.Coords) (k0_t3 : Fin (k0_t3_loop i).trips) (k0_t5 : Fin (k0_t5_loop i).trips) (c0_i32_823_r0 : BitVec 32) (c0_i32_835_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_585_r0 : BitVec 32 := 2#32
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off172 (i : grid0.Coords) (k0_t5 : Fin (k0_t5_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult106 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off173 (i : grid0.Coords) (k0_t5 : Fin (k0_t5_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult107 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off174 (i : grid0.Coords) (k0_t5 : Fin (k0_t5_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult108 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult109 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult110 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult111 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult112 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult113 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult114 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult115 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult116 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult117 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult118 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult119 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult120 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult121 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult122 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult123 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult124 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult125 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult126 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult127 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult128 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult129 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult130 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult131 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult132 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult133 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult134 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult135 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult136 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult137 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult138 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult139 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult140 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult141 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult142 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult143 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult144 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult145 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult146 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult147 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult148 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult149 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult150 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult151 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult152 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult153 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult154 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult155 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult156 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult157 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult158 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off175 (i : grid0.Coords) (k0_t3 : Fin (k0_t3_loop i).trips) (k0_t5 : Fin (k0_t5_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult159 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off176 (i : grid0.Coords) (k0_t3 : Fin (k0_t3_loop i).trips) (k0_t5 : Fin (k0_t5_loop i).trips) : Fin 3 → Nat :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult160 (i : grid0.Coords) (k0_t5 : Fin (k0_t5_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t5
  let c1_i32_691_r0 : BitVec 32 := 1#32
  let v1633_r0 : BitVec 32 := Scalar.muli arg21_r0 c1_i32_691_r0
  let v1634_r0 : BitVec 32 := Scalar.addi v1408_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult161 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult162 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult163 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult164 (i : grid0.Coords) (k0_t3 : Fin (k0_t3_loop i).trips) : BitVec 32 :=
  let c2_i32_585_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
def k0_cond4 (i : grid0.Coords) (k0_t3 : Fin (k0_t3_loop i).trips) : BitVec 1 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c0_i32_698_r0 : BitVec 32 := 0#32
  let v1420_r0 : BitVec 1 := Scalar.cmpi .sgt v1419_r0 c0_i32_698_r0
  let c1_i32_699_r0 : BitVec 32 := 1#32
  let v1421_r0 : BitVec 32 := Scalar.subi v1419_r0 c1_i32_699_r0
  let c8_i32_700_r0 : BitVec 32 := 8#32
  let v1422_r0 : BitVec 32 := Scalar.addi v1421_r0 c8_i32_700_r0
  let c37_i32_701_r0 : BitVec 32 := 37#32
  let v1423_r0 : BitVec 1 := Scalar.cmpi .slt v1422_r0 c37_i32_701_r0
  let v1424_r0 : BitVec 1 := Scalar.andi v1420_r0 v1423_r0
  let v1425_r0 : BitVec 32 := Scalar.extui v1424_r0
  let c0_i32_702_r0 : BitVec 32 := 0#32
  let v1426_r0 : BitVec 1 := Scalar.cmpi .ne v1425_r0 c0_i32_702_r0
  v1426_r0

def k0_off177 (i : grid0.Coords) (k0_t3 : Fin (k0_t3_loop i).trips) : Fin 1 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_808_r0 : BitVec 32 := 1#32
  let v1633_r0 : BitVec 32 := Scalar.subi v1419_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  ![v1635_r0.toNat]
def k0_off178 (i : grid0.Coords) (k0_t3 : Fin (k0_t3_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_808_r0 : BitVec 32 := 1#32
  let v1633_r0 : BitVec 32 := Scalar.subi v1419_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  let c0_i32_812_r0 : BitVec 32 := 0#32
  let c0_i32_813_r0 : BitVec 32 := 0#32
  ![v1635_r0.toNat, 0, 0]
def k0_off179 (i : grid0.Coords) (k0_t3 : Fin (k0_t3_loop i).trips) : Fin 2 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_808_r0 : BitVec 32 := 1#32
  let v1633_r0 : BitVec 32 := Scalar.subi v1419_r0 c1_i32_808_r0
  let c8_i32_809_r0 : BitVec 32 := 8#32
  let v1634_r0 : BitVec 32 := Scalar.addi v1633_r0 c8_i32_809_r0
  let c512_i32_811_r0 : BitVec 32 := 512#32
  let v1636_r0 : BitVec 32 := Scalar.muli v1634_r0 c512_i32_811_r0
  let c0_i32_814_r0 : BitVec 32 := 0#32
  ![v1636_r0.toNat, 0]
def k0_mult165 : BitVec 32 :=
  let c0_i32_703_r0 : BitVec 32 := 0#32
  let c8_i32_704_r0 : BitVec 32 := 8#32
  let v1427_r0 : BitVec 32 := Scalar.muli c0_i32_703_r0 c8_i32_704_r0
  let c0_i32_705_r0 : BitVec 32 := 0#32
  let v1428_r0 : BitVec 32 := Scalar.addi v1427_r0 c0_i32_705_r0
  let c256_i32_706_r0 : BitVec 32 := 256#32
  let v1429_r0 : BitVec 32 := Scalar.muli v1428_r0 c256_i32_706_r0
  v1429_r0
def k0_mult166 : BitVec 32 :=
  let c0_i32_703_r0 : BitVec 32 := 0#32
  let c8_i32_704_r0 : BitVec 32 := 8#32
  let v1427_r0 : BitVec 32 := Scalar.muli c0_i32_703_r0 c8_i32_704_r0
  let c0_i32_705_r0 : BitVec 32 := 0#32
  let v1428_r0 : BitVec 32 := Scalar.addi v1427_r0 c0_i32_705_r0
  let c1_i32_708_r0 : BitVec 32 := 1#32
  let v1434_r0 : BitVec 32 := Scalar.addi v1428_r0 c1_i32_708_r0
  let c256_i32_710_r0 : BitVec 32 := 256#32
  let v1436_r0 : BitVec 32 := Scalar.muli v1434_r0 c256_i32_710_r0
  v1436_r0
def k0_mult167 : BitVec 32 :=
  let c0_i32_703_r0 : BitVec 32 := 0#32
  let c8_i32_704_r0 : BitVec 32 := 8#32
  let v1427_r0 : BitVec 32 := Scalar.muli c0_i32_703_r0 c8_i32_704_r0
  let c0_i32_705_r0 : BitVec 32 := 0#32
  let v1428_r0 : BitVec 32 := Scalar.addi v1427_r0 c0_i32_705_r0
  let c1_i32_708_r0 : BitVec 32 := 1#32
  let v1434_r0 : BitVec 32 := Scalar.addi v1428_r0 c1_i32_708_r0
  let c256_i32_712_r0 : BitVec 32 := 256#32
  let v1443_r0 : BitVec 32 := Scalar.muli v1434_r0 c256_i32_712_r0
  v1443_r0
def k0_mult168 : BitVec 32 :=
  let c0_i32_714_r0 : BitVec 32 := 0#32
  let c8_i32_715_r0 : BitVec 32 := 8#32
  let v1450_r0 : BitVec 32 := Scalar.muli c0_i32_714_r0 c8_i32_715_r0
  let c1_i32_716_r0 : BitVec 32 := 1#32
  let v1451_r0 : BitVec 32 := Scalar.addi v1450_r0 c1_i32_716_r0
  let c256_i32_717_r0 : BitVec 32 := 256#32
  let v1452_r0 : BitVec 32 := Scalar.muli v1451_r0 c256_i32_717_r0
  v1452_r0
def k0_mult169 : BitVec 32 :=
  let c0_i32_714_r0 : BitVec 32 := 0#32
  let c8_i32_715_r0 : BitVec 32 := 8#32
  let v1450_r0 : BitVec 32 := Scalar.muli c0_i32_714_r0 c8_i32_715_r0
  let c1_i32_716_r0 : BitVec 32 := 1#32
  let v1451_r0 : BitVec 32 := Scalar.addi v1450_r0 c1_i32_716_r0
  let c1_i32_719_r0 : BitVec 32 := 1#32
  let v1457_r0 : BitVec 32 := Scalar.addi v1451_r0 c1_i32_719_r0
  let c256_i32_721_r0 : BitVec 32 := 256#32
  let v1459_r0 : BitVec 32 := Scalar.muli v1457_r0 c256_i32_721_r0
  v1459_r0
def k0_mult170 : BitVec 32 :=
  let c0_i32_714_r0 : BitVec 32 := 0#32
  let c8_i32_715_r0 : BitVec 32 := 8#32
  let v1450_r0 : BitVec 32 := Scalar.muli c0_i32_714_r0 c8_i32_715_r0
  let c1_i32_716_r0 : BitVec 32 := 1#32
  let v1451_r0 : BitVec 32 := Scalar.addi v1450_r0 c1_i32_716_r0
  let c1_i32_719_r0 : BitVec 32 := 1#32
  let v1457_r0 : BitVec 32 := Scalar.addi v1451_r0 c1_i32_719_r0
  let c256_i32_723_r0 : BitVec 32 := 256#32
  let v1466_r0 : BitVec 32 := Scalar.muli v1457_r0 c256_i32_723_r0
  v1466_r0
def k0_mult171 : BitVec 32 :=
  let c0_i32_725_r0 : BitVec 32 := 0#32
  let c8_i32_726_r0 : BitVec 32 := 8#32
  let v1473_r0 : BitVec 32 := Scalar.muli c0_i32_725_r0 c8_i32_726_r0
  let c2_i32_727_r0 : BitVec 32 := 2#32
  let v1474_r0 : BitVec 32 := Scalar.addi v1473_r0 c2_i32_727_r0
  let c256_i32_728_r0 : BitVec 32 := 256#32
  let v1475_r0 : BitVec 32 := Scalar.muli v1474_r0 c256_i32_728_r0
  v1475_r0
def k0_mult172 : BitVec 32 :=
  let c0_i32_725_r0 : BitVec 32 := 0#32
  let c8_i32_726_r0 : BitVec 32 := 8#32
  let v1473_r0 : BitVec 32 := Scalar.muli c0_i32_725_r0 c8_i32_726_r0
  let c2_i32_727_r0 : BitVec 32 := 2#32
  let v1474_r0 : BitVec 32 := Scalar.addi v1473_r0 c2_i32_727_r0
  let c1_i32_730_r0 : BitVec 32 := 1#32
  let v1480_r0 : BitVec 32 := Scalar.addi v1474_r0 c1_i32_730_r0
  let c256_i32_732_r0 : BitVec 32 := 256#32
  let v1482_r0 : BitVec 32 := Scalar.muli v1480_r0 c256_i32_732_r0
  v1482_r0
def k0_mult173 : BitVec 32 :=
  let c0_i32_725_r0 : BitVec 32 := 0#32
  let c8_i32_726_r0 : BitVec 32 := 8#32
  let v1473_r0 : BitVec 32 := Scalar.muli c0_i32_725_r0 c8_i32_726_r0
  let c2_i32_727_r0 : BitVec 32 := 2#32
  let v1474_r0 : BitVec 32 := Scalar.addi v1473_r0 c2_i32_727_r0
  let c1_i32_730_r0 : BitVec 32 := 1#32
  let v1480_r0 : BitVec 32 := Scalar.addi v1474_r0 c1_i32_730_r0
  let c256_i32_734_r0 : BitVec 32 := 256#32
  let v1489_r0 : BitVec 32 := Scalar.muli v1480_r0 c256_i32_734_r0
  v1489_r0
def k0_mult174 : BitVec 32 :=
  let c0_i32_736_r0 : BitVec 32 := 0#32
  let c8_i32_737_r0 : BitVec 32 := 8#32
  let v1496_r0 : BitVec 32 := Scalar.muli c0_i32_736_r0 c8_i32_737_r0
  let c3_i32_738_r0 : BitVec 32 := 3#32
  let v1497_r0 : BitVec 32 := Scalar.addi v1496_r0 c3_i32_738_r0
  let c256_i32_739_r0 : BitVec 32 := 256#32
  let v1498_r0 : BitVec 32 := Scalar.muli v1497_r0 c256_i32_739_r0
  v1498_r0
def k0_mult175 : BitVec 32 :=
  let c0_i32_736_r0 : BitVec 32 := 0#32
  let c8_i32_737_r0 : BitVec 32 := 8#32
  let v1496_r0 : BitVec 32 := Scalar.muli c0_i32_736_r0 c8_i32_737_r0
  let c3_i32_738_r0 : BitVec 32 := 3#32
  let v1497_r0 : BitVec 32 := Scalar.addi v1496_r0 c3_i32_738_r0
  let c1_i32_741_r0 : BitVec 32 := 1#32
  let v1503_r0 : BitVec 32 := Scalar.addi v1497_r0 c1_i32_741_r0
  let c256_i32_743_r0 : BitVec 32 := 256#32
  let v1505_r0 : BitVec 32 := Scalar.muli v1503_r0 c256_i32_743_r0
  v1505_r0
def k0_mult176 : BitVec 32 :=
  let c0_i32_736_r0 : BitVec 32 := 0#32
  let c8_i32_737_r0 : BitVec 32 := 8#32
  let v1496_r0 : BitVec 32 := Scalar.muli c0_i32_736_r0 c8_i32_737_r0
  let c3_i32_738_r0 : BitVec 32 := 3#32
  let v1497_r0 : BitVec 32 := Scalar.addi v1496_r0 c3_i32_738_r0
  let c1_i32_741_r0 : BitVec 32 := 1#32
  let v1503_r0 : BitVec 32 := Scalar.addi v1497_r0 c1_i32_741_r0
  let c256_i32_745_r0 : BitVec 32 := 256#32
  let v1512_r0 : BitVec 32 := Scalar.muli v1503_r0 c256_i32_745_r0
  v1512_r0
def k0_mult177 : BitVec 32 :=
  let c0_i32_747_r0 : BitVec 32 := 0#32
  let c8_i32_748_r0 : BitVec 32 := 8#32
  let v1519_r0 : BitVec 32 := Scalar.muli c0_i32_747_r0 c8_i32_748_r0
  let c4_i32_749_r0 : BitVec 32 := 4#32
  let v1520_r0 : BitVec 32 := Scalar.addi v1519_r0 c4_i32_749_r0
  let c256_i32_750_r0 : BitVec 32 := 256#32
  let v1521_r0 : BitVec 32 := Scalar.muli v1520_r0 c256_i32_750_r0
  v1521_r0
def k0_mult178 : BitVec 32 :=
  let c0_i32_747_r0 : BitVec 32 := 0#32
  let c8_i32_748_r0 : BitVec 32 := 8#32
  let v1519_r0 : BitVec 32 := Scalar.muli c0_i32_747_r0 c8_i32_748_r0
  let c4_i32_749_r0 : BitVec 32 := 4#32
  let v1520_r0 : BitVec 32 := Scalar.addi v1519_r0 c4_i32_749_r0
  let c1_i32_752_r0 : BitVec 32 := 1#32
  let v1526_r0 : BitVec 32 := Scalar.addi v1520_r0 c1_i32_752_r0
  let c256_i32_754_r0 : BitVec 32 := 256#32
  let v1528_r0 : BitVec 32 := Scalar.muli v1526_r0 c256_i32_754_r0
  v1528_r0
def k0_mult179 : BitVec 32 :=
  let c0_i32_747_r0 : BitVec 32 := 0#32
  let c8_i32_748_r0 : BitVec 32 := 8#32
  let v1519_r0 : BitVec 32 := Scalar.muli c0_i32_747_r0 c8_i32_748_r0
  let c4_i32_749_r0 : BitVec 32 := 4#32
  let v1520_r0 : BitVec 32 := Scalar.addi v1519_r0 c4_i32_749_r0
  let c1_i32_752_r0 : BitVec 32 := 1#32
  let v1526_r0 : BitVec 32 := Scalar.addi v1520_r0 c1_i32_752_r0
  let c256_i32_756_r0 : BitVec 32 := 256#32
  let v1535_r0 : BitVec 32 := Scalar.muli v1526_r0 c256_i32_756_r0
  v1535_r0
def k0_mult180 : BitVec 32 :=
  let c0_i32_762_r0 : BitVec 32 := 0#32
  let c8_i32_763_r0 : BitVec 32 := 8#32
  let v1550_r0 : BitVec 32 := Scalar.muli c0_i32_762_r0 c8_i32_763_r0
  let c5_i32_764_r0 : BitVec 32 := 5#32
  let v1551_r0 : BitVec 32 := Scalar.addi v1550_r0 c5_i32_764_r0
  let c256_i32_765_r0 : BitVec 32 := 256#32
  let v1552_r0 : BitVec 32 := Scalar.muli v1551_r0 c256_i32_765_r0
  v1552_r0
def k0_mult181 : BitVec 32 :=
  let c0_i32_762_r0 : BitVec 32 := 0#32
  let c8_i32_763_r0 : BitVec 32 := 8#32
  let v1550_r0 : BitVec 32 := Scalar.muli c0_i32_762_r0 c8_i32_763_r0
  let c5_i32_764_r0 : BitVec 32 := 5#32
  let v1551_r0 : BitVec 32 := Scalar.addi v1550_r0 c5_i32_764_r0
  let c1_i32_767_r0 : BitVec 32 := 1#32
  let v1557_r0 : BitVec 32 := Scalar.addi v1551_r0 c1_i32_767_r0
  let c256_i32_769_r0 : BitVec 32 := 256#32
  let v1559_r0 : BitVec 32 := Scalar.muli v1557_r0 c256_i32_769_r0
  v1559_r0
def k0_mult182 : BitVec 32 :=
  let c0_i32_762_r0 : BitVec 32 := 0#32
  let c8_i32_763_r0 : BitVec 32 := 8#32
  let v1550_r0 : BitVec 32 := Scalar.muli c0_i32_762_r0 c8_i32_763_r0
  let c5_i32_764_r0 : BitVec 32 := 5#32
  let v1551_r0 : BitVec 32 := Scalar.addi v1550_r0 c5_i32_764_r0
  let c1_i32_767_r0 : BitVec 32 := 1#32
  let v1557_r0 : BitVec 32 := Scalar.addi v1551_r0 c1_i32_767_r0
  let c256_i32_771_r0 : BitVec 32 := 256#32
  let v1566_r0 : BitVec 32 := Scalar.muli v1557_r0 c256_i32_771_r0
  v1566_r0
def k0_mult183 : BitVec 32 :=
  let c0_i32_773_r0 : BitVec 32 := 0#32
  let c8_i32_774_r0 : BitVec 32 := 8#32
  let v1573_r0 : BitVec 32 := Scalar.muli c0_i32_773_r0 c8_i32_774_r0
  let c6_i32_775_r0 : BitVec 32 := 6#32
  let v1574_r0 : BitVec 32 := Scalar.addi v1573_r0 c6_i32_775_r0
  let c256_i32_776_r0 : BitVec 32 := 256#32
  let v1575_r0 : BitVec 32 := Scalar.muli v1574_r0 c256_i32_776_r0
  v1575_r0
def k0_mult184 : BitVec 32 :=
  let c0_i32_773_r0 : BitVec 32 := 0#32
  let c8_i32_774_r0 : BitVec 32 := 8#32
  let v1573_r0 : BitVec 32 := Scalar.muli c0_i32_773_r0 c8_i32_774_r0
  let c6_i32_775_r0 : BitVec 32 := 6#32
  let v1574_r0 : BitVec 32 := Scalar.addi v1573_r0 c6_i32_775_r0
  let c1_i32_778_r0 : BitVec 32 := 1#32
  let v1580_r0 : BitVec 32 := Scalar.addi v1574_r0 c1_i32_778_r0
  let c256_i32_780_r0 : BitVec 32 := 256#32
  let v1582_r0 : BitVec 32 := Scalar.muli v1580_r0 c256_i32_780_r0
  v1582_r0
def k0_mult185 : BitVec 32 :=
  let c0_i32_773_r0 : BitVec 32 := 0#32
  let c8_i32_774_r0 : BitVec 32 := 8#32
  let v1573_r0 : BitVec 32 := Scalar.muli c0_i32_773_r0 c8_i32_774_r0
  let c6_i32_775_r0 : BitVec 32 := 6#32
  let v1574_r0 : BitVec 32 := Scalar.addi v1573_r0 c6_i32_775_r0
  let c1_i32_778_r0 : BitVec 32 := 1#32
  let v1580_r0 : BitVec 32 := Scalar.addi v1574_r0 c1_i32_778_r0
  let c256_i32_782_r0 : BitVec 32 := 256#32
  let v1589_r0 : BitVec 32 := Scalar.muli v1580_r0 c256_i32_782_r0
  v1589_r0
def k0_mult186 : BitVec 32 :=
  let c0_i32_784_r0 : BitVec 32 := 0#32
  let c8_i32_785_r0 : BitVec 32 := 8#32
  let v1596_r0 : BitVec 32 := Scalar.muli c0_i32_784_r0 c8_i32_785_r0
  let c7_i32_786_r0 : BitVec 32 := 7#32
  let v1597_r0 : BitVec 32 := Scalar.addi v1596_r0 c7_i32_786_r0
  let c256_i32_787_r0 : BitVec 32 := 256#32
  let v1598_r0 : BitVec 32 := Scalar.muli v1597_r0 c256_i32_787_r0
  v1598_r0
def k0_mult187 : BitVec 32 :=
  let c0_i32_784_r0 : BitVec 32 := 0#32
  let c8_i32_785_r0 : BitVec 32 := 8#32
  let v1596_r0 : BitVec 32 := Scalar.muli c0_i32_784_r0 c8_i32_785_r0
  let c7_i32_786_r0 : BitVec 32 := 7#32
  let v1597_r0 : BitVec 32 := Scalar.addi v1596_r0 c7_i32_786_r0
  let c1_i32_791_r0 : BitVec 32 := 1#32
  let v1606_r0 : BitVec 32 := Scalar.addi v1597_r0 c1_i32_791_r0
  let c32_i32_792_r0 : BitVec 32 := 32#32
  let v1607_r0 : BitVec 32 := Scalar.remsi v1606_r0 c32_i32_792_r0
  let c256_i32_794_r0 : BitVec 32 := 256#32
  let v1609_r0 : BitVec 32 := Scalar.muli v1607_r0 c256_i32_794_r0
  v1609_r0
def k0_mult188 : BitVec 32 :=
  let c0_i32_784_r0 : BitVec 32 := 0#32
  let c8_i32_785_r0 : BitVec 32 := 8#32
  let v1596_r0 : BitVec 32 := Scalar.muli c0_i32_784_r0 c8_i32_785_r0
  let c7_i32_786_r0 : BitVec 32 := 7#32
  let v1597_r0 : BitVec 32 := Scalar.addi v1596_r0 c7_i32_786_r0
  let c1_i32_791_r0 : BitVec 32 := 1#32
  let v1606_r0 : BitVec 32 := Scalar.addi v1597_r0 c1_i32_791_r0
  let c32_i32_792_r0 : BitVec 32 := 32#32
  let v1607_r0 : BitVec 32 := Scalar.remsi v1606_r0 c32_i32_792_r0
  let c256_i32_796_r0 : BitVec 32 := 256#32
  let v1616_r0 : BitVec 32 := Scalar.muli v1607_r0 c256_i32_796_r0
  v1616_r0
@[reducible] def k0_t6_loop (i : grid0.Coords) : Scf.Loop 32 :=
  let c0_i32_804_r0 : BitVec 32 := 0#32
  let c4_i32_799_r0 : BitVec 32 := 4#32
  let arg0 : BitVec 32 := BitVec.ofNat 32 (i 0).val
  let c1_i32_798_r0 : BitVec 32 := 1#32
  let v1623_r0 : BitVec 32 := Scalar.addi arg0 c1_i32_798_r0
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_806_r0 : BitVec 32 := 1#32
  ⟨c0_i32_804_r0, v1632_r0, c1_i32_806_r0⟩
def k0_cond5 (i : grid0.Coords) (k0_t6 : Fin (k0_t6_loop i).trips) : BitVec 1 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off180 (i : grid0.Coords) (k0_t3 : Fin (k0_t3_loop i).trips) : Fin 1 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  ![v2587_r0.toNat]
def k0_off181 (i : grid0.Coords) (k0_t3 : Fin (k0_t3_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off182 (i : grid0.Coords) (k0_t3 : Fin (k0_t3_loop i).trips) : Fin 2 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult189 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off183 (i : grid0.Coords) (k0_t6 : Fin (k0_t6_loop i).trips) (c0_i32_811_r0 : BitVec 32) : Fin 2 → Nat :=
  let c0_813_r0 : Index := 0#32
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult190 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off184 (i : grid0.Coords) (k0_t3 : Fin (k0_t3_loop i).trips) (k0_t6 : Fin (k0_t6_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1649_r0 : Index := Scalar.indexCast v1646_r0
  let c0_817_r0 : Index := 0#32
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult191 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off185 (i : grid0.Coords) (k0_t3 : Fin (k0_t3_loop i).trips) (k0_t6 : Fin (k0_t6_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1656_r0 : Index := Scalar.indexCast v1646_r0
  let c256_819_r0 : Index := 256#32
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult192 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off186 (i : grid0.Coords) (k0_t6 : Fin (k0_t6_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off187 (i : grid0.Coords) (k0_t3 : Fin (k0_t3_loop i).trips) (c0_i32_829_r0 : BitVec 32) : Fin 2 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off188 (i : grid0.Coords) (k0_t6 : Fin (k0_t6_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult193 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off189 (i : grid0.Coords) (k0_t3 : Fin (k0_t3_loop i).trips) (k0_t6 : Fin (k0_t6_loop i).trips) (c0_i32_823_r0 : BitVec 32) (c0_i32_835_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_696_r0 : BitVec 32 := 2#32
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off190 (i : grid0.Coords) (k0_t6 : Fin (k0_t6_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult194 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off191 (i : grid0.Coords) (k0_t6 : Fin (k0_t6_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult195 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off192 (i : grid0.Coords) (k0_t6 : Fin (k0_t6_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult196 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult197 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult198 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult199 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult200 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult201 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult202 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult203 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult204 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult205 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult206 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult207 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult208 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult209 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult210 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult211 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult212 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult213 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult214 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult215 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult216 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult217 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult218 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult219 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult220 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult221 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult222 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult223 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult224 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult225 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult226 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult227 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult228 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult229 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult230 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult231 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult232 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult233 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult234 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult235 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult236 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult237 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult238 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult239 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult240 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult241 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult242 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult243 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult244 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult245 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult246 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off193 (i : grid0.Coords) (k0_t3 : Fin (k0_t3_loop i).trips) (k0_t6 : Fin (k0_t6_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult247 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off194 (i : grid0.Coords) (k0_t3 : Fin (k0_t3_loop i).trips) (k0_t6 : Fin (k0_t6_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult248 (i : grid0.Coords) (k0_t6 : Fin (k0_t6_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t6
  let c1_i32_803_r0 : BitVec 32 := 1#32
  let v1633_r0 : BitVec 32 := Scalar.muli arg21_r0 c1_i32_803_r0
  let v1634_r0 : BitVec 32 := Scalar.addi v1623_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult249 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult250 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult251 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult252 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
@[reducible] def k0_t7_loop (i : grid0.Coords) : Scf.Loop 32 :=
  let c0_i32_804_r0 : BitVec 32 := 0#32
  let c4_i32_799_r0 : BitVec 32 := 4#32
  let arg0 : BitVec 32 := BitVec.ofNat 32 (i 0).val
  let c1_i32_798_r0 : BitVec 32 := 1#32
  let v1623_r0 : BitVec 32 := Scalar.addi arg0 c1_i32_798_r0
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let v1629_r0 : BitVec 32 := Scalar.addi c0_i32_804_r0 v1628_r0
  let c1_i32_807_r0 : BitVec 32 := 1#32
  ⟨v1632_r0, v1629_r0, c1_i32_807_r0⟩
def k0_cond6 (i : grid0.Coords) (k0_t7 : Fin (k0_t7_loop i).trips) : BitVec 1 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off195 (i : grid0.Coords) (k0_t3 : Fin (k0_t3_loop i).trips) : Fin 1 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  ![v2587_r0.toNat]
def k0_off196 (i : grid0.Coords) (k0_t3 : Fin (k0_t3_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off197 (i : grid0.Coords) (k0_t3 : Fin (k0_t3_loop i).trips) : Fin 2 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult253 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off198 (i : grid0.Coords) (k0_t7 : Fin (k0_t7_loop i).trips) (c0_i32_811_r0 : BitVec 32) : Fin 2 → Nat :=
  let c0_813_r0 : Index := 0#32
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult254 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off199 (i : grid0.Coords) (k0_t3 : Fin (k0_t3_loop i).trips) (k0_t7 : Fin (k0_t7_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1649_r0 : Index := Scalar.indexCast v1646_r0
  let c0_817_r0 : Index := 0#32
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult255 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off200 (i : grid0.Coords) (k0_t3 : Fin (k0_t3_loop i).trips) (k0_t7 : Fin (k0_t7_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1656_r0 : Index := Scalar.indexCast v1646_r0
  let c256_819_r0 : Index := 256#32
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult256 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off201 (i : grid0.Coords) (k0_t7 : Fin (k0_t7_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off202 (i : grid0.Coords) (k0_t3 : Fin (k0_t3_loop i).trips) (c0_i32_829_r0 : BitVec 32) : Fin 2 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off203 (i : grid0.Coords) (k0_t7 : Fin (k0_t7_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult257 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off204 (i : grid0.Coords) (k0_t3 : Fin (k0_t3_loop i).trips) (k0_t7 : Fin (k0_t7_loop i).trips) (c0_i32_823_r0 : BitVec 32) (c0_i32_835_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_696_r0 : BitVec 32 := 2#32
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off205 (i : grid0.Coords) (k0_t7 : Fin (k0_t7_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult258 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off206 (i : grid0.Coords) (k0_t7 : Fin (k0_t7_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult259 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off207 (i : grid0.Coords) (k0_t7 : Fin (k0_t7_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult260 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult261 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult262 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult263 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult264 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult265 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult266 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult267 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult268 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult269 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult270 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult271 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult272 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult273 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult274 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult275 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult276 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult277 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult278 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult279 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult280 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult281 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult282 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult283 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult284 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult285 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult286 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult287 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult288 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult289 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult290 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult291 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult292 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult293 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult294 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult295 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult296 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult297 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult298 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult299 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult300 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult301 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult302 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult303 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult304 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult305 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult306 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult307 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult308 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult309 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult310 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off208 (i : grid0.Coords) (k0_t3 : Fin (k0_t3_loop i).trips) (k0_t7 : Fin (k0_t7_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult311 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off209 (i : grid0.Coords) (k0_t3 : Fin (k0_t3_loop i).trips) (k0_t7 : Fin (k0_t7_loop i).trips) : Fin 3 → Nat :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult312 (i : grid0.Coords) (k0_t7 : Fin (k0_t7_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t7
  let c1_i32_803_r0 : BitVec 32 := 1#32
  let v1633_r0 : BitVec 32 := Scalar.muli arg21_r0 c1_i32_803_r0
  let v1634_r0 : BitVec 32 := Scalar.addi v1623_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult313 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult314 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult315 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult316 (i : grid0.Coords) (k0_t3 : Fin (k0_t3_loop i).trips) : BitVec 32 :=
  let c2_i32_696_r0 : BitVec 32 := 2#32
  let arg0 : BitVec 32 := BitVec.ofNat 32 (i 0).val
  let c0_i32_86_r0 : BitVec 32 := 0#32
  let c1_i32_88_r0 : BitVec 32 := 1#32
  let arg20_r0 : BitVec 32 := Scf.iv c0_i32_86_r0 c1_i32_88_r0 k0_t3
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
@[reducible] def k0_t8_loop (i : grid0.Coords) : Scf.Loop 32 :=
  let c0_i32_86_r0 : BitVec 32 := 0#32
  let c18_i32_r0 : BitVec 32 := 18#32
  let arg0 : BitVec 32 := BitVec.ofNat 32 (i 0).val
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let v135_r0 : BitVec 32 := Scalar.addi c0_i32_86_r0 v134_r0
  let c1_i32_89_r0 : BitVec 32 := 1#32
  ⟨v138_r0, v135_r0, c1_i32_89_r0⟩
def k0_cond7 (i : grid0.Coords) (k0_t8 : Fin (k0_t8_loop i).trips) : BitVec 1 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c0_i32_587_r0 : BitVec 32 := 0#32
  let v1205_r0 : BitVec 1 := Scalar.cmpi .sgt v1204_r0 c0_i32_587_r0
  let c1_i32_588_r0 : BitVec 32 := 1#32
  let v1206_r0 : BitVec 32 := Scalar.subi v1204_r0 c1_i32_588_r0
  let c8_i32_589_r0 : BitVec 32 := 8#32
  let v1207_r0 : BitVec 32 := Scalar.addi v1206_r0 c8_i32_589_r0
  let c37_i32_r0 : BitVec 32 := 37#32
  let v1208_r0 : BitVec 1 := Scalar.cmpi .slt v1207_r0 c37_i32_r0
  let v1209_r0 : BitVec 1 := Scalar.andi v1205_r0 v1208_r0
  let v1210_r0 : BitVec 32 := Scalar.extui v1209_r0
  let c0_i32_590_r0 : BitVec 32 := 0#32
  let v1211_r0 : BitVec 1 := Scalar.cmpi .ne v1210_r0 c0_i32_590_r0
  v1211_r0

def k0_off210 (i : grid0.Coords) (k0_t8 : Fin (k0_t8_loop i).trips) : Fin 1 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_808_r0 : BitVec 32 := 1#32
  let v1633_r0 : BitVec 32 := Scalar.subi v1204_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  ![v1635_r0.toNat]
def k0_off211 (i : grid0.Coords) (k0_t8 : Fin (k0_t8_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_808_r0 : BitVec 32 := 1#32
  let v1633_r0 : BitVec 32 := Scalar.subi v1204_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  let c0_i32_812_r0 : BitVec 32 := 0#32
  let c0_i32_813_r0 : BitVec 32 := 0#32
  ![v1635_r0.toNat, 0, 0]
def k0_off212 (i : grid0.Coords) (k0_t8 : Fin (k0_t8_loop i).trips) : Fin 2 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_808_r0 : BitVec 32 := 1#32
  let v1633_r0 : BitVec 32 := Scalar.subi v1204_r0 c1_i32_808_r0
  let c8_i32_809_r0 : BitVec 32 := 8#32
  let v1634_r0 : BitVec 32 := Scalar.addi v1633_r0 c8_i32_809_r0
  let c512_i32_811_r0 : BitVec 32 := 512#32
  let v1636_r0 : BitVec 32 := Scalar.muli v1634_r0 c512_i32_811_r0
  let c0_i32_814_r0 : BitVec 32 := 0#32
  ![v1636_r0.toNat, 0]
def k0_mult317 : BitVec 32 :=
  let c0_i32_591_r0 : BitVec 32 := 0#32
  let c8_i32_592_r0 : BitVec 32 := 8#32
  let v1212_r0 : BitVec 32 := Scalar.muli c0_i32_591_r0 c8_i32_592_r0
  let c0_i32_593_r0 : BitVec 32 := 0#32
  let v1213_r0 : BitVec 32 := Scalar.addi v1212_r0 c0_i32_593_r0
  let c256_i32_594_r0 : BitVec 32 := 256#32
  let v1214_r0 : BitVec 32 := Scalar.muli v1213_r0 c256_i32_594_r0
  v1214_r0
def k0_off213 (c0_i32_593_r0 : BitVec 32) : Fin 2 → Nat :=
  let c0_595_r0 : Index := 0#32
  let c0_i32_591_r0 : BitVec 32 := 0#32
  let c8_i32_592_r0 : BitVec 32 := 8#32
  let v1212_r0 : BitVec 32 := Scalar.muli c0_i32_591_r0 c8_i32_592_r0
  let v1213_r0 : BitVec 32 := Scalar.addi v1212_r0 c0_i32_593_r0
  let c256_i32_594_r0 : BitVec 32 := 256#32
  let v1214_r0 : BitVec 32 := Scalar.muli v1213_r0 c256_i32_594_r0
  let v1215_r0 : BitVec 32 := v1214_r0
  let v1216_r0 : Index := Scalar.indexCast v1215_r0
  ![0, v1216_r0.toNat]
def k0_mult318 : BitVec 32 :=
  let c0_i32_591_r0 : BitVec 32 := 0#32
  let c8_i32_592_r0 : BitVec 32 := 8#32
  let v1212_r0 : BitVec 32 := Scalar.muli c0_i32_591_r0 c8_i32_592_r0
  let c0_i32_593_r0 : BitVec 32 := 0#32
  let v1213_r0 : BitVec 32 := Scalar.addi v1212_r0 c0_i32_593_r0
  let c1_i32_596_r0 : BitVec 32 := 1#32
  let v1219_r0 : BitVec 32 := Scalar.addi v1213_r0 c1_i32_596_r0
  let c256_i32_598_r0 : BitVec 32 := 256#32
  let v1221_r0 : BitVec 32 := Scalar.muli v1219_r0 c256_i32_598_r0
  v1221_r0
def k0_off214 (i : grid0.Coords) (k0_t8 : Fin (k0_t8_loop i).trips) (c0_i32_586_r0 : BitVec 32) (c0_i32_593_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c8_i32_597_r0 : BitVec 32 := 8#32
  let v1220_r0 : BitVec 32 := Scalar.remsi v1204_r0 c8_i32_597_r0
  let v1223_r0 : Index := Scalar.indexCast v1220_r0
  let c0_599_r0 : Index := 0#32
  let c0_i32_591_r0 : BitVec 32 := 0#32
  let c8_i32_592_r0 : BitVec 32 := 8#32
  let v1212_r0 : BitVec 32 := Scalar.muli c0_i32_591_r0 c8_i32_592_r0
  let v1213_r0 : BitVec 32 := Scalar.addi v1212_r0 c0_i32_593_r0
  let c1_i32_596_r0 : BitVec 32 := 1#32
  let v1219_r0 : BitVec 32 := Scalar.addi v1213_r0 c1_i32_596_r0
  let c256_i32_598_r0 : BitVec 32 := 256#32
  let v1221_r0 : BitVec 32 := Scalar.muli v1219_r0 c256_i32_598_r0
  let v1222_r0 : BitVec 32 := v1221_r0
  let v1224_r0 : Index := Scalar.indexCast v1222_r0
  ![v1223_r0.toNat, 0, v1224_r0.toNat]
def k0_mult319 : BitVec 32 :=
  let c0_i32_591_r0 : BitVec 32 := 0#32
  let c8_i32_592_r0 : BitVec 32 := 8#32
  let v1212_r0 : BitVec 32 := Scalar.muli c0_i32_591_r0 c8_i32_592_r0
  let c0_i32_593_r0 : BitVec 32 := 0#32
  let v1213_r0 : BitVec 32 := Scalar.addi v1212_r0 c0_i32_593_r0
  let c1_i32_596_r0 : BitVec 32 := 1#32
  let v1219_r0 : BitVec 32 := Scalar.addi v1213_r0 c1_i32_596_r0
  let c256_i32_600_r0 : BitVec 32 := 256#32
  let v1228_r0 : BitVec 32 := Scalar.muli v1219_r0 c256_i32_600_r0
  v1228_r0
def k0_off215 (i : grid0.Coords) (k0_t8 : Fin (k0_t8_loop i).trips) (c0_i32_586_r0 : BitVec 32) (c0_i32_593_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c8_i32_597_r0 : BitVec 32 := 8#32
  let v1220_r0 : BitVec 32 := Scalar.remsi v1204_r0 c8_i32_597_r0
  let v1230_r0 : Index := Scalar.indexCast v1220_r0
  let c256_601_r0 : Index := 256#32
  let c0_i32_591_r0 : BitVec 32 := 0#32
  let c8_i32_592_r0 : BitVec 32 := 8#32
  let v1212_r0 : BitVec 32 := Scalar.muli c0_i32_591_r0 c8_i32_592_r0
  let v1213_r0 : BitVec 32 := Scalar.addi v1212_r0 c0_i32_593_r0
  let c1_i32_596_r0 : BitVec 32 := 1#32
  let v1219_r0 : BitVec 32 := Scalar.addi v1213_r0 c1_i32_596_r0
  let c256_i32_600_r0 : BitVec 32 := 256#32
  let v1228_r0 : BitVec 32 := Scalar.muli v1219_r0 c256_i32_600_r0
  let v1229_r0 : BitVec 32 := v1228_r0
  let v1231_r0 : Index := Scalar.indexCast v1229_r0
  ![v1230_r0.toNat, 256, v1231_r0.toNat]
def k0_mult320 : BitVec 32 :=
  let c0_i32_602_r0 : BitVec 32 := 0#32
  let c8_i32_603_r0 : BitVec 32 := 8#32
  let v1235_r0 : BitVec 32 := Scalar.muli c0_i32_602_r0 c8_i32_603_r0
  let c1_i32_604_r0 : BitVec 32 := 1#32
  let v1236_r0 : BitVec 32 := Scalar.addi v1235_r0 c1_i32_604_r0
  let c256_i32_605_r0 : BitVec 32 := 256#32
  let v1237_r0 : BitVec 32 := Scalar.muli v1236_r0 c256_i32_605_r0
  v1237_r0
def k0_mult321 : BitVec 32 :=
  let c0_i32_602_r0 : BitVec 32 := 0#32
  let c8_i32_603_r0 : BitVec 32 := 8#32
  let v1235_r0 : BitVec 32 := Scalar.muli c0_i32_602_r0 c8_i32_603_r0
  let c1_i32_604_r0 : BitVec 32 := 1#32
  let v1236_r0 : BitVec 32 := Scalar.addi v1235_r0 c1_i32_604_r0
  let c1_i32_607_r0 : BitVec 32 := 1#32
  let v1242_r0 : BitVec 32 := Scalar.addi v1236_r0 c1_i32_607_r0
  let c256_i32_609_r0 : BitVec 32 := 256#32
  let v1244_r0 : BitVec 32 := Scalar.muli v1242_r0 c256_i32_609_r0
  v1244_r0
def k0_mult322 : BitVec 32 :=
  let c0_i32_602_r0 : BitVec 32 := 0#32
  let c8_i32_603_r0 : BitVec 32 := 8#32
  let v1235_r0 : BitVec 32 := Scalar.muli c0_i32_602_r0 c8_i32_603_r0
  let c1_i32_604_r0 : BitVec 32 := 1#32
  let v1236_r0 : BitVec 32 := Scalar.addi v1235_r0 c1_i32_604_r0
  let c1_i32_607_r0 : BitVec 32 := 1#32
  let v1242_r0 : BitVec 32 := Scalar.addi v1236_r0 c1_i32_607_r0
  let c256_i32_611_r0 : BitVec 32 := 256#32
  let v1251_r0 : BitVec 32 := Scalar.muli v1242_r0 c256_i32_611_r0
  v1251_r0
def k0_mult323 : BitVec 32 :=
  let c0_i32_613_r0 : BitVec 32 := 0#32
  let c8_i32_614_r0 : BitVec 32 := 8#32
  let v1258_r0 : BitVec 32 := Scalar.muli c0_i32_613_r0 c8_i32_614_r0
  let c2_i32_615_r0 : BitVec 32 := 2#32
  let v1259_r0 : BitVec 32 := Scalar.addi v1258_r0 c2_i32_615_r0
  let c256_i32_616_r0 : BitVec 32 := 256#32
  let v1260_r0 : BitVec 32 := Scalar.muli v1259_r0 c256_i32_616_r0
  v1260_r0
def k0_mult324 : BitVec 32 :=
  let c0_i32_613_r0 : BitVec 32 := 0#32
  let c8_i32_614_r0 : BitVec 32 := 8#32
  let v1258_r0 : BitVec 32 := Scalar.muli c0_i32_613_r0 c8_i32_614_r0
  let c2_i32_615_r0 : BitVec 32 := 2#32
  let v1259_r0 : BitVec 32 := Scalar.addi v1258_r0 c2_i32_615_r0
  let c1_i32_618_r0 : BitVec 32 := 1#32
  let v1265_r0 : BitVec 32 := Scalar.addi v1259_r0 c1_i32_618_r0
  let c256_i32_620_r0 : BitVec 32 := 256#32
  let v1267_r0 : BitVec 32 := Scalar.muli v1265_r0 c256_i32_620_r0
  v1267_r0
def k0_mult325 : BitVec 32 :=
  let c0_i32_613_r0 : BitVec 32 := 0#32
  let c8_i32_614_r0 : BitVec 32 := 8#32
  let v1258_r0 : BitVec 32 := Scalar.muli c0_i32_613_r0 c8_i32_614_r0
  let c2_i32_615_r0 : BitVec 32 := 2#32
  let v1259_r0 : BitVec 32 := Scalar.addi v1258_r0 c2_i32_615_r0
  let c1_i32_618_r0 : BitVec 32 := 1#32
  let v1265_r0 : BitVec 32 := Scalar.addi v1259_r0 c1_i32_618_r0
  let c256_i32_622_r0 : BitVec 32 := 256#32
  let v1274_r0 : BitVec 32 := Scalar.muli v1265_r0 c256_i32_622_r0
  v1274_r0
def k0_mult326 : BitVec 32 :=
  let c0_i32_624_r0 : BitVec 32 := 0#32
  let c8_i32_625_r0 : BitVec 32 := 8#32
  let v1281_r0 : BitVec 32 := Scalar.muli c0_i32_624_r0 c8_i32_625_r0
  let c3_i32_626_r0 : BitVec 32 := 3#32
  let v1282_r0 : BitVec 32 := Scalar.addi v1281_r0 c3_i32_626_r0
  let c256_i32_627_r0 : BitVec 32 := 256#32
  let v1283_r0 : BitVec 32 := Scalar.muli v1282_r0 c256_i32_627_r0
  v1283_r0
def k0_mult327 : BitVec 32 :=
  let c0_i32_624_r0 : BitVec 32 := 0#32
  let c8_i32_625_r0 : BitVec 32 := 8#32
  let v1281_r0 : BitVec 32 := Scalar.muli c0_i32_624_r0 c8_i32_625_r0
  let c3_i32_626_r0 : BitVec 32 := 3#32
  let v1282_r0 : BitVec 32 := Scalar.addi v1281_r0 c3_i32_626_r0
  let c1_i32_629_r0 : BitVec 32 := 1#32
  let v1288_r0 : BitVec 32 := Scalar.addi v1282_r0 c1_i32_629_r0
  let c256_i32_631_r0 : BitVec 32 := 256#32
  let v1290_r0 : BitVec 32 := Scalar.muli v1288_r0 c256_i32_631_r0
  v1290_r0
def k0_mult328 : BitVec 32 :=
  let c0_i32_624_r0 : BitVec 32 := 0#32
  let c8_i32_625_r0 : BitVec 32 := 8#32
  let v1281_r0 : BitVec 32 := Scalar.muli c0_i32_624_r0 c8_i32_625_r0
  let c3_i32_626_r0 : BitVec 32 := 3#32
  let v1282_r0 : BitVec 32 := Scalar.addi v1281_r0 c3_i32_626_r0
  let c1_i32_629_r0 : BitVec 32 := 1#32
  let v1288_r0 : BitVec 32 := Scalar.addi v1282_r0 c1_i32_629_r0
  let c256_i32_633_r0 : BitVec 32 := 256#32
  let v1297_r0 : BitVec 32 := Scalar.muli v1288_r0 c256_i32_633_r0
  v1297_r0
def k0_mult329 : BitVec 32 :=
  let c0_i32_635_r0 : BitVec 32 := 0#32
  let c8_i32_636_r0 : BitVec 32 := 8#32
  let v1304_r0 : BitVec 32 := Scalar.muli c0_i32_635_r0 c8_i32_636_r0
  let c4_i32_637_r0 : BitVec 32 := 4#32
  let v1305_r0 : BitVec 32 := Scalar.addi v1304_r0 c4_i32_637_r0
  let c256_i32_638_r0 : BitVec 32 := 256#32
  let v1306_r0 : BitVec 32 := Scalar.muli v1305_r0 c256_i32_638_r0
  v1306_r0
def k0_mult330 : BitVec 32 :=
  let c0_i32_635_r0 : BitVec 32 := 0#32
  let c8_i32_636_r0 : BitVec 32 := 8#32
  let v1304_r0 : BitVec 32 := Scalar.muli c0_i32_635_r0 c8_i32_636_r0
  let c4_i32_637_r0 : BitVec 32 := 4#32
  let v1305_r0 : BitVec 32 := Scalar.addi v1304_r0 c4_i32_637_r0
  let c1_i32_640_r0 : BitVec 32 := 1#32
  let v1311_r0 : BitVec 32 := Scalar.addi v1305_r0 c1_i32_640_r0
  let c256_i32_642_r0 : BitVec 32 := 256#32
  let v1313_r0 : BitVec 32 := Scalar.muli v1311_r0 c256_i32_642_r0
  v1313_r0
def k0_mult331 : BitVec 32 :=
  let c0_i32_635_r0 : BitVec 32 := 0#32
  let c8_i32_636_r0 : BitVec 32 := 8#32
  let v1304_r0 : BitVec 32 := Scalar.muli c0_i32_635_r0 c8_i32_636_r0
  let c4_i32_637_r0 : BitVec 32 := 4#32
  let v1305_r0 : BitVec 32 := Scalar.addi v1304_r0 c4_i32_637_r0
  let c1_i32_640_r0 : BitVec 32 := 1#32
  let v1311_r0 : BitVec 32 := Scalar.addi v1305_r0 c1_i32_640_r0
  let c256_i32_644_r0 : BitVec 32 := 256#32
  let v1320_r0 : BitVec 32 := Scalar.muli v1311_r0 c256_i32_644_r0
  v1320_r0
def k0_mult332 : BitVec 32 :=
  let c0_i32_650_r0 : BitVec 32 := 0#32
  let c8_i32_651_r0 : BitVec 32 := 8#32
  let v1335_r0 : BitVec 32 := Scalar.muli c0_i32_650_r0 c8_i32_651_r0
  let c5_i32_652_r0 : BitVec 32 := 5#32
  let v1336_r0 : BitVec 32 := Scalar.addi v1335_r0 c5_i32_652_r0
  let c256_i32_653_r0 : BitVec 32 := 256#32
  let v1337_r0 : BitVec 32 := Scalar.muli v1336_r0 c256_i32_653_r0
  v1337_r0
def k0_mult333 : BitVec 32 :=
  let c0_i32_650_r0 : BitVec 32 := 0#32
  let c8_i32_651_r0 : BitVec 32 := 8#32
  let v1335_r0 : BitVec 32 := Scalar.muli c0_i32_650_r0 c8_i32_651_r0
  let c5_i32_652_r0 : BitVec 32 := 5#32
  let v1336_r0 : BitVec 32 := Scalar.addi v1335_r0 c5_i32_652_r0
  let c1_i32_655_r0 : BitVec 32 := 1#32
  let v1342_r0 : BitVec 32 := Scalar.addi v1336_r0 c1_i32_655_r0
  let c256_i32_657_r0 : BitVec 32 := 256#32
  let v1344_r0 : BitVec 32 := Scalar.muli v1342_r0 c256_i32_657_r0
  v1344_r0
def k0_mult334 : BitVec 32 :=
  let c0_i32_650_r0 : BitVec 32 := 0#32
  let c8_i32_651_r0 : BitVec 32 := 8#32
  let v1335_r0 : BitVec 32 := Scalar.muli c0_i32_650_r0 c8_i32_651_r0
  let c5_i32_652_r0 : BitVec 32 := 5#32
  let v1336_r0 : BitVec 32 := Scalar.addi v1335_r0 c5_i32_652_r0
  let c1_i32_655_r0 : BitVec 32 := 1#32
  let v1342_r0 : BitVec 32 := Scalar.addi v1336_r0 c1_i32_655_r0
  let c256_i32_659_r0 : BitVec 32 := 256#32
  let v1351_r0 : BitVec 32 := Scalar.muli v1342_r0 c256_i32_659_r0
  v1351_r0
def k0_mult335 : BitVec 32 :=
  let c0_i32_661_r0 : BitVec 32 := 0#32
  let c8_i32_662_r0 : BitVec 32 := 8#32
  let v1358_r0 : BitVec 32 := Scalar.muli c0_i32_661_r0 c8_i32_662_r0
  let c6_i32_663_r0 : BitVec 32 := 6#32
  let v1359_r0 : BitVec 32 := Scalar.addi v1358_r0 c6_i32_663_r0
  let c256_i32_664_r0 : BitVec 32 := 256#32
  let v1360_r0 : BitVec 32 := Scalar.muli v1359_r0 c256_i32_664_r0
  v1360_r0
def k0_mult336 : BitVec 32 :=
  let c0_i32_661_r0 : BitVec 32 := 0#32
  let c8_i32_662_r0 : BitVec 32 := 8#32
  let v1358_r0 : BitVec 32 := Scalar.muli c0_i32_661_r0 c8_i32_662_r0
  let c6_i32_663_r0 : BitVec 32 := 6#32
  let v1359_r0 : BitVec 32 := Scalar.addi v1358_r0 c6_i32_663_r0
  let c1_i32_666_r0 : BitVec 32 := 1#32
  let v1365_r0 : BitVec 32 := Scalar.addi v1359_r0 c1_i32_666_r0
  let c256_i32_668_r0 : BitVec 32 := 256#32
  let v1367_r0 : BitVec 32 := Scalar.muli v1365_r0 c256_i32_668_r0
  v1367_r0
def k0_mult337 : BitVec 32 :=
  let c0_i32_661_r0 : BitVec 32 := 0#32
  let c8_i32_662_r0 : BitVec 32 := 8#32
  let v1358_r0 : BitVec 32 := Scalar.muli c0_i32_661_r0 c8_i32_662_r0
  let c6_i32_663_r0 : BitVec 32 := 6#32
  let v1359_r0 : BitVec 32 := Scalar.addi v1358_r0 c6_i32_663_r0
  let c1_i32_666_r0 : BitVec 32 := 1#32
  let v1365_r0 : BitVec 32 := Scalar.addi v1359_r0 c1_i32_666_r0
  let c256_i32_670_r0 : BitVec 32 := 256#32
  let v1374_r0 : BitVec 32 := Scalar.muli v1365_r0 c256_i32_670_r0
  v1374_r0
def k0_mult338 : BitVec 32 :=
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c256_i32_675_r0 : BitVec 32 := 256#32
  let v1383_r0 : BitVec 32 := Scalar.muli v1382_r0 c256_i32_675_r0
  v1383_r0
def k0_mult339 : BitVec 32 :=
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_682_r0 : BitVec 32 := 256#32
  let v1394_r0 : BitVec 32 := Scalar.muli v1392_r0 c256_i32_682_r0
  v1394_r0
def k0_off216 (i : grid0.Coords) (k0_t8 : Fin (k0_t8_loop i).trips) (c0_i32_586_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_677_r0 : BitVec 32 := 1#32
  let v1388_r0 : BitVec 32 := Scalar.addi v1382_r0 c1_i32_677_r0
  let c32_i32_678_r0 : BitVec 32 := 32#32
  let v1389_r0 : BitVec 32 := Scalar.divsi v1388_r0 c32_i32_678_r0
  let v1390_r0 : BitVec 32 := Scalar.addi v1204_r0 v1389_r0
  let c8_i32_681_r0 : BitVec 32 := 8#32
  let v1393_r0 : BitVec 32 := Scalar.remsi v1390_r0 c8_i32_681_r0
  let v1396_r0 : Index := Scalar.indexCast v1393_r0
  let c0_683_r0 : Index := 0#32
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_682_r0 : BitVec 32 := 256#32
  let v1394_r0 : BitVec 32 := Scalar.muli v1392_r0 c256_i32_682_r0
  let v1395_r0 : BitVec 32 := v1394_r0
  let v1397_r0 : Index := Scalar.indexCast v1395_r0
  ![v1396_r0.toNat, 0, v1397_r0.toNat]
def k0_mult340 : BitVec 32 :=
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_684_r0 : BitVec 32 := 256#32
  let v1401_r0 : BitVec 32 := Scalar.muli v1392_r0 c256_i32_684_r0
  v1401_r0
def k0_off217 (i : grid0.Coords) (k0_t8 : Fin (k0_t8_loop i).trips) (c0_i32_586_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let v1204_r0 : BitVec 32 := Scalar.addi v1203_r0 c0_i32_586_r0
  let c0_i32_672_r0 : BitVec 32 := 0#32
  let c8_i32_673_r0 : BitVec 32 := 8#32
  let v1381_r0 : BitVec 32 := Scalar.muli c0_i32_672_r0 c8_i32_673_r0
  let c7_i32_674_r0 : BitVec 32 := 7#32
  let v1382_r0 : BitVec 32 := Scalar.addi v1381_r0 c7_i32_674_r0
  let c1_i32_677_r0 : BitVec 32 := 1#32
  let v1388_r0 : BitVec 32 := Scalar.addi v1382_r0 c1_i32_677_r0
  let c32_i32_678_r0 : BitVec 32 := 32#32
  let v1389_r0 : BitVec 32 := Scalar.divsi v1388_r0 c32_i32_678_r0
  let v1390_r0 : BitVec 32 := Scalar.addi v1204_r0 v1389_r0
  let c8_i32_681_r0 : BitVec 32 := 8#32
  let v1393_r0 : BitVec 32 := Scalar.remsi v1390_r0 c8_i32_681_r0
  let v1403_r0 : Index := Scalar.indexCast v1393_r0
  let c256_685_r0 : Index := 256#32
  let c1_i32_679_r0 : BitVec 32 := 1#32
  let v1391_r0 : BitVec 32 := Scalar.addi v1382_r0 c1_i32_679_r0
  let c32_i32_680_r0 : BitVec 32 := 32#32
  let v1392_r0 : BitVec 32 := Scalar.remsi v1391_r0 c32_i32_680_r0
  let c256_i32_684_r0 : BitVec 32 := 256#32
  let v1401_r0 : BitVec 32 := Scalar.muli v1392_r0 c256_i32_684_r0
  let v1402_r0 : BitVec 32 := v1401_r0
  let v1404_r0 : Index := Scalar.indexCast v1402_r0
  ![v1403_r0.toNat, 256, v1404_r0.toNat]
@[reducible] def k0_t9_loop (i : grid0.Coords) : Scf.Loop 32 :=
  let c0_i32_692_r0 : BitVec 32 := 0#32
  let c4_i32_687_r0 : BitVec 32 := 4#32
  let arg0 : BitVec 32 := BitVec.ofNat 32 (i 0).val
  let c1_i32_686_r0 : BitVec 32 := 1#32
  let v1408_r0 : BitVec 32 := Scalar.addi arg0 c1_i32_686_r0
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_694_r0 : BitVec 32 := 1#32
  ⟨c0_i32_692_r0, v1417_r0, c1_i32_694_r0⟩
def k0_cond8 (i : grid0.Coords) (k0_t9 : Fin (k0_t9_loop i).trips) : BitVec 1 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off218 (i : grid0.Coords) (k0_t8 : Fin (k0_t8_loop i).trips) : Fin 1 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  ![v2587_r0.toNat]
def k0_off219 (i : grid0.Coords) (k0_t8 : Fin (k0_t8_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off220 (i : grid0.Coords) (k0_t8 : Fin (k0_t8_loop i).trips) : Fin 2 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult341 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off221 (i : grid0.Coords) (k0_t9 : Fin (k0_t9_loop i).trips) (c0_i32_811_r0 : BitVec 32) : Fin 2 → Nat :=
  let c0_813_r0 : Index := 0#32
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult342 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off222 (i : grid0.Coords) (k0_t8 : Fin (k0_t8_loop i).trips) (k0_t9 : Fin (k0_t9_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1649_r0 : Index := Scalar.indexCast v1646_r0
  let c0_817_r0 : Index := 0#32
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult343 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off223 (i : grid0.Coords) (k0_t8 : Fin (k0_t8_loop i).trips) (k0_t9 : Fin (k0_t9_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1656_r0 : Index := Scalar.indexCast v1646_r0
  let c256_819_r0 : Index := 256#32
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult344 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off224 (i : grid0.Coords) (k0_t9 : Fin (k0_t9_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off225 (i : grid0.Coords) (k0_t8 : Fin (k0_t8_loop i).trips) (c0_i32_829_r0 : BitVec 32) : Fin 2 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off226 (i : grid0.Coords) (k0_t9 : Fin (k0_t9_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult345 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off227 (i : grid0.Coords) (k0_t8 : Fin (k0_t8_loop i).trips) (k0_t9 : Fin (k0_t9_loop i).trips) (c0_i32_823_r0 : BitVec 32) (c0_i32_835_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_585_r0 : BitVec 32 := 2#32
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off228 (i : grid0.Coords) (k0_t9 : Fin (k0_t9_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult346 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off229 (i : grid0.Coords) (k0_t9 : Fin (k0_t9_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult347 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off230 (i : grid0.Coords) (k0_t9 : Fin (k0_t9_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult348 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult349 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult350 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult351 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult352 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult353 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult354 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult355 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult356 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult357 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult358 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult359 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult360 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult361 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult362 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult363 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult364 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult365 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult366 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult367 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult368 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult369 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult370 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult371 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult372 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult373 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult374 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult375 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult376 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult377 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult378 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult379 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult380 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult381 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult382 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult383 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult384 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult385 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult386 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult387 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult388 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult389 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult390 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult391 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult392 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult393 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult394 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult395 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult396 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult397 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult398 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off231 (i : grid0.Coords) (k0_t8 : Fin (k0_t8_loop i).trips) (k0_t9 : Fin (k0_t9_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult399 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off232 (i : grid0.Coords) (k0_t8 : Fin (k0_t8_loop i).trips) (k0_t9 : Fin (k0_t9_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult400 (i : grid0.Coords) (k0_t9 : Fin (k0_t9_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c1_i32_694_r0 : BitVec 32 := 1#32
  let arg21_r0 : BitVec 32 := Scf.iv c0_i32_692_r0 c1_i32_694_r0 k0_t9
  let c1_i32_691_r0 : BitVec 32 := 1#32
  let v1633_r0 : BitVec 32 := Scalar.muli arg21_r0 c1_i32_691_r0
  let v1634_r0 : BitVec 32 := Scalar.addi v1408_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult401 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult402 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult403 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult404 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
@[reducible] def k0_t10_loop (i : grid0.Coords) : Scf.Loop 32 :=
  let c0_i32_692_r0 : BitVec 32 := 0#32
  let c4_i32_687_r0 : BitVec 32 := 4#32
  let arg0 : BitVec 32 := BitVec.ofNat 32 (i 0).val
  let c1_i32_686_r0 : BitVec 32 := 1#32
  let v1408_r0 : BitVec 32 := Scalar.addi arg0 c1_i32_686_r0
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let v1414_r0 : BitVec 32 := Scalar.addi c0_i32_692_r0 v1413_r0
  let c1_i32_695_r0 : BitVec 32 := 1#32
  ⟨v1417_r0, v1414_r0, c1_i32_695_r0⟩
def k0_cond9 (i : grid0.Coords) (k0_t10 : Fin (k0_t10_loop i).trips) : BitVec 1 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off233 (i : grid0.Coords) (k0_t8 : Fin (k0_t8_loop i).trips) : Fin 1 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  ![v2587_r0.toNat]
def k0_off234 (i : grid0.Coords) (k0_t8 : Fin (k0_t8_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off235 (i : grid0.Coords) (k0_t8 : Fin (k0_t8_loop i).trips) : Fin 2 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1221_r0 : BitVec 32 := 1#32
  let v2586_r0 : BitVec 32 := Scalar.addi v1204_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult405 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off236 (i : grid0.Coords) (k0_t10 : Fin (k0_t10_loop i).trips) (c0_i32_811_r0 : BitVec 32) : Fin 2 → Nat :=
  let c0_813_r0 : Index := 0#32
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult406 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off237 (i : grid0.Coords) (k0_t8 : Fin (k0_t8_loop i).trips) (k0_t10 : Fin (k0_t10_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1649_r0 : Index := Scalar.indexCast v1646_r0
  let c0_817_r0 : Index := 0#32
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult407 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off238 (i : grid0.Coords) (k0_t8 : Fin (k0_t8_loop i).trips) (k0_t10 : Fin (k0_t10_loop i).trips) (c0_i32_811_r0 : BitVec 32) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c8_i32_815_r0 : BitVec 32 := 8#32
  let v1646_r0 : BitVec 32 := Scalar.remsi v1204_r0 c8_i32_815_r0
  let v1656_r0 : Index := Scalar.indexCast v1646_r0
  let c256_819_r0 : Index := 256#32
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult408 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off239 (i : grid0.Coords) (k0_t10 : Fin (k0_t10_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off240 (i : grid0.Coords) (k0_t8 : Fin (k0_t8_loop i).trips) (c0_i32_829_r0 : BitVec 32) : Fin 2 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off241 (i : grid0.Coords) (k0_t10 : Fin (k0_t10_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult409 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off242 (i : grid0.Coords) (k0_t8 : Fin (k0_t8_loop i).trips) (k0_t10 : Fin (k0_t10_loop i).trips) (c0_i32_823_r0 : BitVec 32) (c0_i32_835_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_585_r0 : BitVec 32 := 2#32
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off243 (i : grid0.Coords) (k0_t10 : Fin (k0_t10_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult410 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off244 (i : grid0.Coords) (k0_t10 : Fin (k0_t10_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult411 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off245 (i : grid0.Coords) (k0_t10 : Fin (k0_t10_loop i).trips) (c0_i32_823_r0 : BitVec 32) : Fin 2 → Nat :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult412 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_820_r0 : BitVec 32 := 1#32
  let v1661_r0 : BitVec 32 := Scalar.subi v1204_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult413 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult414 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult415 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult416 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult417 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult418 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult419 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult420 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_871_r0 : BitVec 32 := 1#32
  let v1779_r0 : BitVec 32 := Scalar.subi v1204_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult421 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult422 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult423 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult424 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult425 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult426 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult427 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult428 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_922_r0 : BitVec 32 := 1#32
  let v1897_r0 : BitVec 32 := Scalar.subi v1204_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult429 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult430 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult431 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult432 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult433 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult434 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult435 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult436 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_973_r0 : BitVec 32 := 1#32
  let v2015_r0 : BitVec 32 := Scalar.subi v1204_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult437 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult438 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult439 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult440 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult441 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult442 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult443 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult444 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1024_r0 : BitVec 32 := 1#32
  let v2133_r0 : BitVec 32 := Scalar.subi v1204_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult445 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult446 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult447 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult448 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult449 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult450 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult451 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult452 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1075_r0 : BitVec 32 := 1#32
  let v2251_r0 : BitVec 32 := Scalar.subi v1204_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult453 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult454 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult455 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult456 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult457 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult458 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult459 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult460 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1126_r0 : BitVec 32 := 1#32
  let v2369_r0 : BitVec 32 := Scalar.subi v1204_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult461 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult462 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off246 (i : grid0.Coords) (k0_t8 : Fin (k0_t8_loop i).trips) (k0_t10 : Fin (k0_t10_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult463 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off247 (i : grid0.Coords) (k0_t8 : Fin (k0_t8_loop i).trips) (k0_t10 : Fin (k0_t10_loop i).trips) : Fin 3 → Nat :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1204_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult464 (i : grid0.Coords) (k0_t10 : Fin (k0_t10_loop i).trips) : BitVec 32 :=
  let arg0 : BitVec 32 := BitVec.ofNat 32 (i 0).val
  let c1_i32_686_r0 : BitVec 32 := 1#32
  let v1408_r0 : BitVec 32 := Scalar.addi arg0 c1_i32_686_r0
  let c0_i32_692_r0 : BitVec 32 := 0#32
  let c4_i32_687_r0 : BitVec 32 := 4#32
  let v1409_r0 : BitVec 32 := Scalar.subi c4_i32_687_r0 v1408_r0
  let c1_i32_688_r0 : BitVec 32 := 1#32
  let c1_i32_689_r0 : BitVec 32 := 1#32
  let v1410_r0 : BitVec 32 := Scalar.subi c1_i32_688_r0 c1_i32_689_r0
  let v1411_r0 : BitVec 32 := Scalar.addi v1409_r0 v1410_r0
  let c1_i32_690_r0 : BitVec 32 := 1#32
  let v1412_r0 : BitVec 32 := Scalar.divsi v1411_r0 c1_i32_690_r0
  let v1413_r0 : BitVec 32 := Scalar.subi v1412_r0 c0_i32_692_r0
  let c1_i32_693_r0 : BitVec 32 := 1#32
  let v1415_r0 : BitVec 32 := Scalar.divsi v1413_r0 c1_i32_693_r0
  let v1416_r0 : BitVec 32 := Scalar.muli v1415_r0 c1_i32_693_r0
  let v1417_r0 : BitVec 32 := Scalar.addi c0_i32_692_r0 v1416_r0
  let c1_i32_695_r0 : BitVec 32 := 1#32
  let arg21_r0 : BitVec 32 := Scf.iv v1417_r0 c1_i32_695_r0 k0_t10
  let c1_i32_691_r0 : BitVec 32 := 1#32
  let v1633_r0 : BitVec 32 := Scalar.muli arg21_r0 c1_i32_691_r0
  let v1634_r0 : BitVec 32 := Scalar.addi v1408_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult465 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult466 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult467 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult468 (i : grid0.Coords) (k0_t8 : Fin (k0_t8_loop i).trips) : BitVec 32 :=
  let c2_i32_585_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1203_r0 : BitVec 32 := Scalar.muli c2_i32_585_r0 v1202_r0
  let c0_i32_586_r0 : BitVec 32 := 0#32
  let v1204_r0 : BitVec 32 := Scalar.addi v1203_r0 c0_i32_586_r0
  let c1_i32_1180_r0 : BitVec 32 := 1#32
  let v2491_r0 : BitVec 32 := Scalar.subi v1204_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
def k0_cond10 (i : grid0.Coords) (k0_t8 : Fin (k0_t8_loop i).trips) : BitVec 1 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c0_i32_698_r0 : BitVec 32 := 0#32
  let v1420_r0 : BitVec 1 := Scalar.cmpi .sgt v1419_r0 c0_i32_698_r0
  let c1_i32_699_r0 : BitVec 32 := 1#32
  let v1421_r0 : BitVec 32 := Scalar.subi v1419_r0 c1_i32_699_r0
  let c8_i32_700_r0 : BitVec 32 := 8#32
  let v1422_r0 : BitVec 32 := Scalar.addi v1421_r0 c8_i32_700_r0
  let c37_i32_701_r0 : BitVec 32 := 37#32
  let v1423_r0 : BitVec 1 := Scalar.cmpi .slt v1422_r0 c37_i32_701_r0
  let v1424_r0 : BitVec 1 := Scalar.andi v1420_r0 v1423_r0
  let v1425_r0 : BitVec 32 := Scalar.extui v1424_r0
  let c0_i32_702_r0 : BitVec 32 := 0#32
  let v1426_r0 : BitVec 1 := Scalar.cmpi .ne v1425_r0 c0_i32_702_r0
  v1426_r0

def k0_off248 (i : grid0.Coords) (k0_t8 : Fin (k0_t8_loop i).trips) : Fin 1 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_808_r0 : BitVec 32 := 1#32
  let v1633_r0 : BitVec 32 := Scalar.subi v1419_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  ![v1635_r0.toNat]
def k0_off249 (i : grid0.Coords) (k0_t8 : Fin (k0_t8_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_808_r0 : BitVec 32 := 1#32
  let v1633_r0 : BitVec 32 := Scalar.subi v1419_r0 c1_i32_808_r0
  let c8_i32_809_r0 : BitVec 32 := 8#32
  let v1634_r0 : BitVec 32 := Scalar.addi v1633_r0 c8_i32_809_r0
  let c8_i32_810_r0 : BitVec 32 := 8#32
  let v1635_r0 : BitVec 32 := Scalar.remsi v1634_r0 c8_i32_810_r0
  let c0_i32_812_r0 : BitVec 32 := 0#32
  let c0_i32_813_r0 : BitVec 32 := 0#32
  ![v1635_r0.toNat, 0, 0]
def k0_off250 (i : grid0.Coords) (k0_t8 : Fin (k0_t8_loop i).trips) : Fin 2 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_808_r0 : BitVec 32 := 1#32
  let v1633_r0 : BitVec 32 := Scalar.subi v1419_r0 c1_i32_808_r0
  let c8_i32_809_r0 : BitVec 32 := 8#32
  let v1634_r0 : BitVec 32 := Scalar.addi v1633_r0 c8_i32_809_r0
  let c512_i32_811_r0 : BitVec 32 := 512#32
  let v1636_r0 : BitVec 32 := Scalar.muli v1634_r0 c512_i32_811_r0
  let c0_i32_814_r0 : BitVec 32 := 0#32
  ![v1636_r0.toNat, 0]
def k0_mult469 : BitVec 32 :=
  let c0_i32_703_r0 : BitVec 32 := 0#32
  let c8_i32_704_r0 : BitVec 32 := 8#32
  let v1427_r0 : BitVec 32 := Scalar.muli c0_i32_703_r0 c8_i32_704_r0
  let c0_i32_705_r0 : BitVec 32 := 0#32
  let v1428_r0 : BitVec 32 := Scalar.addi v1427_r0 c0_i32_705_r0
  let c256_i32_706_r0 : BitVec 32 := 256#32
  let v1429_r0 : BitVec 32 := Scalar.muli v1428_r0 c256_i32_706_r0
  v1429_r0
def k0_mult470 : BitVec 32 :=
  let c0_i32_703_r0 : BitVec 32 := 0#32
  let c8_i32_704_r0 : BitVec 32 := 8#32
  let v1427_r0 : BitVec 32 := Scalar.muli c0_i32_703_r0 c8_i32_704_r0
  let c0_i32_705_r0 : BitVec 32 := 0#32
  let v1428_r0 : BitVec 32 := Scalar.addi v1427_r0 c0_i32_705_r0
  let c1_i32_708_r0 : BitVec 32 := 1#32
  let v1434_r0 : BitVec 32 := Scalar.addi v1428_r0 c1_i32_708_r0
  let c256_i32_710_r0 : BitVec 32 := 256#32
  let v1436_r0 : BitVec 32 := Scalar.muli v1434_r0 c256_i32_710_r0
  v1436_r0
def k0_mult471 : BitVec 32 :=
  let c0_i32_703_r0 : BitVec 32 := 0#32
  let c8_i32_704_r0 : BitVec 32 := 8#32
  let v1427_r0 : BitVec 32 := Scalar.muli c0_i32_703_r0 c8_i32_704_r0
  let c0_i32_705_r0 : BitVec 32 := 0#32
  let v1428_r0 : BitVec 32 := Scalar.addi v1427_r0 c0_i32_705_r0
  let c1_i32_708_r0 : BitVec 32 := 1#32
  let v1434_r0 : BitVec 32 := Scalar.addi v1428_r0 c1_i32_708_r0
  let c256_i32_712_r0 : BitVec 32 := 256#32
  let v1443_r0 : BitVec 32 := Scalar.muli v1434_r0 c256_i32_712_r0
  v1443_r0
def k0_mult472 : BitVec 32 :=
  let c0_i32_714_r0 : BitVec 32 := 0#32
  let c8_i32_715_r0 : BitVec 32 := 8#32
  let v1450_r0 : BitVec 32 := Scalar.muli c0_i32_714_r0 c8_i32_715_r0
  let c1_i32_716_r0 : BitVec 32 := 1#32
  let v1451_r0 : BitVec 32 := Scalar.addi v1450_r0 c1_i32_716_r0
  let c256_i32_717_r0 : BitVec 32 := 256#32
  let v1452_r0 : BitVec 32 := Scalar.muli v1451_r0 c256_i32_717_r0
  v1452_r0
def k0_mult473 : BitVec 32 :=
  let c0_i32_714_r0 : BitVec 32 := 0#32
  let c8_i32_715_r0 : BitVec 32 := 8#32
  let v1450_r0 : BitVec 32 := Scalar.muli c0_i32_714_r0 c8_i32_715_r0
  let c1_i32_716_r0 : BitVec 32 := 1#32
  let v1451_r0 : BitVec 32 := Scalar.addi v1450_r0 c1_i32_716_r0
  let c1_i32_719_r0 : BitVec 32 := 1#32
  let v1457_r0 : BitVec 32 := Scalar.addi v1451_r0 c1_i32_719_r0
  let c256_i32_721_r0 : BitVec 32 := 256#32
  let v1459_r0 : BitVec 32 := Scalar.muli v1457_r0 c256_i32_721_r0
  v1459_r0
def k0_mult474 : BitVec 32 :=
  let c0_i32_714_r0 : BitVec 32 := 0#32
  let c8_i32_715_r0 : BitVec 32 := 8#32
  let v1450_r0 : BitVec 32 := Scalar.muli c0_i32_714_r0 c8_i32_715_r0
  let c1_i32_716_r0 : BitVec 32 := 1#32
  let v1451_r0 : BitVec 32 := Scalar.addi v1450_r0 c1_i32_716_r0
  let c1_i32_719_r0 : BitVec 32 := 1#32
  let v1457_r0 : BitVec 32 := Scalar.addi v1451_r0 c1_i32_719_r0
  let c256_i32_723_r0 : BitVec 32 := 256#32
  let v1466_r0 : BitVec 32 := Scalar.muli v1457_r0 c256_i32_723_r0
  v1466_r0
def k0_mult475 : BitVec 32 :=
  let c0_i32_725_r0 : BitVec 32 := 0#32
  let c8_i32_726_r0 : BitVec 32 := 8#32
  let v1473_r0 : BitVec 32 := Scalar.muli c0_i32_725_r0 c8_i32_726_r0
  let c2_i32_727_r0 : BitVec 32 := 2#32
  let v1474_r0 : BitVec 32 := Scalar.addi v1473_r0 c2_i32_727_r0
  let c256_i32_728_r0 : BitVec 32 := 256#32
  let v1475_r0 : BitVec 32 := Scalar.muli v1474_r0 c256_i32_728_r0
  v1475_r0
def k0_mult476 : BitVec 32 :=
  let c0_i32_725_r0 : BitVec 32 := 0#32
  let c8_i32_726_r0 : BitVec 32 := 8#32
  let v1473_r0 : BitVec 32 := Scalar.muli c0_i32_725_r0 c8_i32_726_r0
  let c2_i32_727_r0 : BitVec 32 := 2#32
  let v1474_r0 : BitVec 32 := Scalar.addi v1473_r0 c2_i32_727_r0
  let c1_i32_730_r0 : BitVec 32 := 1#32
  let v1480_r0 : BitVec 32 := Scalar.addi v1474_r0 c1_i32_730_r0
  let c256_i32_732_r0 : BitVec 32 := 256#32
  let v1482_r0 : BitVec 32 := Scalar.muli v1480_r0 c256_i32_732_r0
  v1482_r0
def k0_mult477 : BitVec 32 :=
  let c0_i32_725_r0 : BitVec 32 := 0#32
  let c8_i32_726_r0 : BitVec 32 := 8#32
  let v1473_r0 : BitVec 32 := Scalar.muli c0_i32_725_r0 c8_i32_726_r0
  let c2_i32_727_r0 : BitVec 32 := 2#32
  let v1474_r0 : BitVec 32 := Scalar.addi v1473_r0 c2_i32_727_r0
  let c1_i32_730_r0 : BitVec 32 := 1#32
  let v1480_r0 : BitVec 32 := Scalar.addi v1474_r0 c1_i32_730_r0
  let c256_i32_734_r0 : BitVec 32 := 256#32
  let v1489_r0 : BitVec 32 := Scalar.muli v1480_r0 c256_i32_734_r0
  v1489_r0
def k0_mult478 : BitVec 32 :=
  let c0_i32_736_r0 : BitVec 32 := 0#32
  let c8_i32_737_r0 : BitVec 32 := 8#32
  let v1496_r0 : BitVec 32 := Scalar.muli c0_i32_736_r0 c8_i32_737_r0
  let c3_i32_738_r0 : BitVec 32 := 3#32
  let v1497_r0 : BitVec 32 := Scalar.addi v1496_r0 c3_i32_738_r0
  let c256_i32_739_r0 : BitVec 32 := 256#32
  let v1498_r0 : BitVec 32 := Scalar.muli v1497_r0 c256_i32_739_r0
  v1498_r0
def k0_mult479 : BitVec 32 :=
  let c0_i32_736_r0 : BitVec 32 := 0#32
  let c8_i32_737_r0 : BitVec 32 := 8#32
  let v1496_r0 : BitVec 32 := Scalar.muli c0_i32_736_r0 c8_i32_737_r0
  let c3_i32_738_r0 : BitVec 32 := 3#32
  let v1497_r0 : BitVec 32 := Scalar.addi v1496_r0 c3_i32_738_r0
  let c1_i32_741_r0 : BitVec 32 := 1#32
  let v1503_r0 : BitVec 32 := Scalar.addi v1497_r0 c1_i32_741_r0
  let c256_i32_743_r0 : BitVec 32 := 256#32
  let v1505_r0 : BitVec 32 := Scalar.muli v1503_r0 c256_i32_743_r0
  v1505_r0
def k0_mult480 : BitVec 32 :=
  let c0_i32_736_r0 : BitVec 32 := 0#32
  let c8_i32_737_r0 : BitVec 32 := 8#32
  let v1496_r0 : BitVec 32 := Scalar.muli c0_i32_736_r0 c8_i32_737_r0
  let c3_i32_738_r0 : BitVec 32 := 3#32
  let v1497_r0 : BitVec 32 := Scalar.addi v1496_r0 c3_i32_738_r0
  let c1_i32_741_r0 : BitVec 32 := 1#32
  let v1503_r0 : BitVec 32 := Scalar.addi v1497_r0 c1_i32_741_r0
  let c256_i32_745_r0 : BitVec 32 := 256#32
  let v1512_r0 : BitVec 32 := Scalar.muli v1503_r0 c256_i32_745_r0
  v1512_r0
def k0_mult481 : BitVec 32 :=
  let c0_i32_747_r0 : BitVec 32 := 0#32
  let c8_i32_748_r0 : BitVec 32 := 8#32
  let v1519_r0 : BitVec 32 := Scalar.muli c0_i32_747_r0 c8_i32_748_r0
  let c4_i32_749_r0 : BitVec 32 := 4#32
  let v1520_r0 : BitVec 32 := Scalar.addi v1519_r0 c4_i32_749_r0
  let c256_i32_750_r0 : BitVec 32 := 256#32
  let v1521_r0 : BitVec 32 := Scalar.muli v1520_r0 c256_i32_750_r0
  v1521_r0
def k0_mult482 : BitVec 32 :=
  let c0_i32_747_r0 : BitVec 32 := 0#32
  let c8_i32_748_r0 : BitVec 32 := 8#32
  let v1519_r0 : BitVec 32 := Scalar.muli c0_i32_747_r0 c8_i32_748_r0
  let c4_i32_749_r0 : BitVec 32 := 4#32
  let v1520_r0 : BitVec 32 := Scalar.addi v1519_r0 c4_i32_749_r0
  let c1_i32_752_r0 : BitVec 32 := 1#32
  let v1526_r0 : BitVec 32 := Scalar.addi v1520_r0 c1_i32_752_r0
  let c256_i32_754_r0 : BitVec 32 := 256#32
  let v1528_r0 : BitVec 32 := Scalar.muli v1526_r0 c256_i32_754_r0
  v1528_r0
def k0_mult483 : BitVec 32 :=
  let c0_i32_747_r0 : BitVec 32 := 0#32
  let c8_i32_748_r0 : BitVec 32 := 8#32
  let v1519_r0 : BitVec 32 := Scalar.muli c0_i32_747_r0 c8_i32_748_r0
  let c4_i32_749_r0 : BitVec 32 := 4#32
  let v1520_r0 : BitVec 32 := Scalar.addi v1519_r0 c4_i32_749_r0
  let c1_i32_752_r0 : BitVec 32 := 1#32
  let v1526_r0 : BitVec 32 := Scalar.addi v1520_r0 c1_i32_752_r0
  let c256_i32_756_r0 : BitVec 32 := 256#32
  let v1535_r0 : BitVec 32 := Scalar.muli v1526_r0 c256_i32_756_r0
  v1535_r0
def k0_mult484 : BitVec 32 :=
  let c0_i32_762_r0 : BitVec 32 := 0#32
  let c8_i32_763_r0 : BitVec 32 := 8#32
  let v1550_r0 : BitVec 32 := Scalar.muli c0_i32_762_r0 c8_i32_763_r0
  let c5_i32_764_r0 : BitVec 32 := 5#32
  let v1551_r0 : BitVec 32 := Scalar.addi v1550_r0 c5_i32_764_r0
  let c256_i32_765_r0 : BitVec 32 := 256#32
  let v1552_r0 : BitVec 32 := Scalar.muli v1551_r0 c256_i32_765_r0
  v1552_r0
def k0_mult485 : BitVec 32 :=
  let c0_i32_762_r0 : BitVec 32 := 0#32
  let c8_i32_763_r0 : BitVec 32 := 8#32
  let v1550_r0 : BitVec 32 := Scalar.muli c0_i32_762_r0 c8_i32_763_r0
  let c5_i32_764_r0 : BitVec 32 := 5#32
  let v1551_r0 : BitVec 32 := Scalar.addi v1550_r0 c5_i32_764_r0
  let c1_i32_767_r0 : BitVec 32 := 1#32
  let v1557_r0 : BitVec 32 := Scalar.addi v1551_r0 c1_i32_767_r0
  let c256_i32_769_r0 : BitVec 32 := 256#32
  let v1559_r0 : BitVec 32 := Scalar.muli v1557_r0 c256_i32_769_r0
  v1559_r0
def k0_mult486 : BitVec 32 :=
  let c0_i32_762_r0 : BitVec 32 := 0#32
  let c8_i32_763_r0 : BitVec 32 := 8#32
  let v1550_r0 : BitVec 32 := Scalar.muli c0_i32_762_r0 c8_i32_763_r0
  let c5_i32_764_r0 : BitVec 32 := 5#32
  let v1551_r0 : BitVec 32 := Scalar.addi v1550_r0 c5_i32_764_r0
  let c1_i32_767_r0 : BitVec 32 := 1#32
  let v1557_r0 : BitVec 32 := Scalar.addi v1551_r0 c1_i32_767_r0
  let c256_i32_771_r0 : BitVec 32 := 256#32
  let v1566_r0 : BitVec 32 := Scalar.muli v1557_r0 c256_i32_771_r0
  v1566_r0
def k0_mult487 : BitVec 32 :=
  let c0_i32_773_r0 : BitVec 32 := 0#32
  let c8_i32_774_r0 : BitVec 32 := 8#32
  let v1573_r0 : BitVec 32 := Scalar.muli c0_i32_773_r0 c8_i32_774_r0
  let c6_i32_775_r0 : BitVec 32 := 6#32
  let v1574_r0 : BitVec 32 := Scalar.addi v1573_r0 c6_i32_775_r0
  let c256_i32_776_r0 : BitVec 32 := 256#32
  let v1575_r0 : BitVec 32 := Scalar.muli v1574_r0 c256_i32_776_r0
  v1575_r0
def k0_mult488 : BitVec 32 :=
  let c0_i32_773_r0 : BitVec 32 := 0#32
  let c8_i32_774_r0 : BitVec 32 := 8#32
  let v1573_r0 : BitVec 32 := Scalar.muli c0_i32_773_r0 c8_i32_774_r0
  let c6_i32_775_r0 : BitVec 32 := 6#32
  let v1574_r0 : BitVec 32 := Scalar.addi v1573_r0 c6_i32_775_r0
  let c1_i32_778_r0 : BitVec 32 := 1#32
  let v1580_r0 : BitVec 32 := Scalar.addi v1574_r0 c1_i32_778_r0
  let c256_i32_780_r0 : BitVec 32 := 256#32
  let v1582_r0 : BitVec 32 := Scalar.muli v1580_r0 c256_i32_780_r0
  v1582_r0
def k0_mult489 : BitVec 32 :=
  let c0_i32_773_r0 : BitVec 32 := 0#32
  let c8_i32_774_r0 : BitVec 32 := 8#32
  let v1573_r0 : BitVec 32 := Scalar.muli c0_i32_773_r0 c8_i32_774_r0
  let c6_i32_775_r0 : BitVec 32 := 6#32
  let v1574_r0 : BitVec 32 := Scalar.addi v1573_r0 c6_i32_775_r0
  let c1_i32_778_r0 : BitVec 32 := 1#32
  let v1580_r0 : BitVec 32 := Scalar.addi v1574_r0 c1_i32_778_r0
  let c256_i32_782_r0 : BitVec 32 := 256#32
  let v1589_r0 : BitVec 32 := Scalar.muli v1580_r0 c256_i32_782_r0
  v1589_r0
def k0_mult490 : BitVec 32 :=
  let c0_i32_784_r0 : BitVec 32 := 0#32
  let c8_i32_785_r0 : BitVec 32 := 8#32
  let v1596_r0 : BitVec 32 := Scalar.muli c0_i32_784_r0 c8_i32_785_r0
  let c7_i32_786_r0 : BitVec 32 := 7#32
  let v1597_r0 : BitVec 32 := Scalar.addi v1596_r0 c7_i32_786_r0
  let c256_i32_787_r0 : BitVec 32 := 256#32
  let v1598_r0 : BitVec 32 := Scalar.muli v1597_r0 c256_i32_787_r0
  v1598_r0
def k0_mult491 : BitVec 32 :=
  let c0_i32_784_r0 : BitVec 32 := 0#32
  let c8_i32_785_r0 : BitVec 32 := 8#32
  let v1596_r0 : BitVec 32 := Scalar.muli c0_i32_784_r0 c8_i32_785_r0
  let c7_i32_786_r0 : BitVec 32 := 7#32
  let v1597_r0 : BitVec 32 := Scalar.addi v1596_r0 c7_i32_786_r0
  let c1_i32_791_r0 : BitVec 32 := 1#32
  let v1606_r0 : BitVec 32 := Scalar.addi v1597_r0 c1_i32_791_r0
  let c32_i32_792_r0 : BitVec 32 := 32#32
  let v1607_r0 : BitVec 32 := Scalar.remsi v1606_r0 c32_i32_792_r0
  let c256_i32_794_r0 : BitVec 32 := 256#32
  let v1609_r0 : BitVec 32 := Scalar.muli v1607_r0 c256_i32_794_r0
  v1609_r0
def k0_mult492 : BitVec 32 :=
  let c0_i32_784_r0 : BitVec 32 := 0#32
  let c8_i32_785_r0 : BitVec 32 := 8#32
  let v1596_r0 : BitVec 32 := Scalar.muli c0_i32_784_r0 c8_i32_785_r0
  let c7_i32_786_r0 : BitVec 32 := 7#32
  let v1597_r0 : BitVec 32 := Scalar.addi v1596_r0 c7_i32_786_r0
  let c1_i32_791_r0 : BitVec 32 := 1#32
  let v1606_r0 : BitVec 32 := Scalar.addi v1597_r0 c1_i32_791_r0
  let c32_i32_792_r0 : BitVec 32 := 32#32
  let v1607_r0 : BitVec 32 := Scalar.remsi v1606_r0 c32_i32_792_r0
  let c256_i32_796_r0 : BitVec 32 := 256#32
  let v1616_r0 : BitVec 32 := Scalar.muli v1607_r0 c256_i32_796_r0
  v1616_r0
@[reducible] def k0_t11_loop (i : grid0.Coords) : Scf.Loop 32 :=
  let c0_i32_804_r0 : BitVec 32 := 0#32
  let c4_i32_799_r0 : BitVec 32 := 4#32
  let arg0 : BitVec 32 := BitVec.ofNat 32 (i 0).val
  let c1_i32_798_r0 : BitVec 32 := 1#32
  let v1623_r0 : BitVec 32 := Scalar.addi arg0 c1_i32_798_r0
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_806_r0 : BitVec 32 := 1#32
  ⟨c0_i32_804_r0, v1632_r0, c1_i32_806_r0⟩
def k0_cond11 (i : grid0.Coords) (k0_t11 : Fin (k0_t11_loop i).trips) : BitVec 1 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off251 (i : grid0.Coords) (k0_t8 : Fin (k0_t8_loop i).trips) : Fin 1 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  ![v2587_r0.toNat]
def k0_off252 (i : grid0.Coords) (k0_t8 : Fin (k0_t8_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off253 (i : grid0.Coords) (k0_t8 : Fin (k0_t8_loop i).trips) : Fin 2 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult493 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off254 (i : grid0.Coords) (k0_t11 : Fin (k0_t11_loop i).trips) (c0_i32_811_r0 : BitVec 32) : Fin 2 → Nat :=
  let c0_813_r0 : Index := 0#32
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult494 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off255 (i : grid0.Coords) (k0_t8 : Fin (k0_t8_loop i).trips) (k0_t11 : Fin (k0_t11_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1649_r0 : Index := Scalar.indexCast v1646_r0
  let c0_817_r0 : Index := 0#32
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult495 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off256 (i : grid0.Coords) (k0_t8 : Fin (k0_t8_loop i).trips) (k0_t11 : Fin (k0_t11_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1656_r0 : Index := Scalar.indexCast v1646_r0
  let c256_819_r0 : Index := 256#32
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult496 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off257 (i : grid0.Coords) (k0_t11 : Fin (k0_t11_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off258 (i : grid0.Coords) (k0_t8 : Fin (k0_t8_loop i).trips) (c0_i32_829_r0 : BitVec 32) : Fin 2 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off259 (i : grid0.Coords) (k0_t11 : Fin (k0_t11_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult497 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off260 (i : grid0.Coords) (k0_t8 : Fin (k0_t8_loop i).trips) (k0_t11 : Fin (k0_t11_loop i).trips) (c0_i32_823_r0 : BitVec 32) (c0_i32_835_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_696_r0 : BitVec 32 := 2#32
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off261 (i : grid0.Coords) (k0_t11 : Fin (k0_t11_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult498 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off262 (i : grid0.Coords) (k0_t11 : Fin (k0_t11_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult499 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off263 (i : grid0.Coords) (k0_t11 : Fin (k0_t11_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult500 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult501 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult502 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult503 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult504 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult505 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult506 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult507 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult508 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult509 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult510 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult511 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult512 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult513 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult514 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult515 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult516 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult517 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult518 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult519 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult520 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult521 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult522 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult523 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult524 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult525 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult526 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult527 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult528 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult529 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult530 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult531 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult532 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult533 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult534 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult535 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult536 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult537 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult538 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult539 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult540 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult541 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult542 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult543 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult544 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult545 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult546 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult547 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult548 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult549 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult550 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off264 (i : grid0.Coords) (k0_t8 : Fin (k0_t8_loop i).trips) (k0_t11 : Fin (k0_t11_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult551 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off265 (i : grid0.Coords) (k0_t8 : Fin (k0_t8_loop i).trips) (k0_t11 : Fin (k0_t11_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult552 (i : grid0.Coords) (k0_t11 : Fin (k0_t11_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c1_i32_806_r0 : BitVec 32 := 1#32
  let arg21_r0 : BitVec 32 := Scf.iv c0_i32_804_r0 c1_i32_806_r0 k0_t11
  let c1_i32_803_r0 : BitVec 32 := 1#32
  let v1633_r0 : BitVec 32 := Scalar.muli arg21_r0 c1_i32_803_r0
  let v1634_r0 : BitVec 32 := Scalar.addi v1623_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult553 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult554 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult555 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult556 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
@[reducible] def k0_t12_loop (i : grid0.Coords) : Scf.Loop 32 :=
  let c0_i32_804_r0 : BitVec 32 := 0#32
  let c4_i32_799_r0 : BitVec 32 := 4#32
  let arg0 : BitVec 32 := BitVec.ofNat 32 (i 0).val
  let c1_i32_798_r0 : BitVec 32 := 1#32
  let v1623_r0 : BitVec 32 := Scalar.addi arg0 c1_i32_798_r0
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let v1629_r0 : BitVec 32 := Scalar.addi c0_i32_804_r0 v1628_r0
  let c1_i32_807_r0 : BitVec 32 := 1#32
  ⟨v1632_r0, v1629_r0, c1_i32_807_r0⟩
def k0_cond12 (i : grid0.Coords) (k0_t12 : Fin (k0_t12_loop i).trips) : BitVec 1 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c3_i32_808_r0 : BitVec 32 := 3#32
  let v1635_r0 : BitVec 1 := Scalar.cmpi .eq v1634_r0 c3_i32_808_r0
  let v1636_r0 : BitVec 32 := Scalar.extui v1635_r0
  let c0_i32_809_r0 : BitVec 32 := 0#32
  let v1637_r0 : BitVec 1 := Scalar.cmpi .ne v1636_r0 c0_i32_809_r0
  v1637_r0

def k0_off266 (i : grid0.Coords) (k0_t8 : Fin (k0_t8_loop i).trips) : Fin 1 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  ![v2587_r0.toNat]
def k0_off267 (i : grid0.Coords) (k0_t8 : Fin (k0_t8_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c8_i32_1222_r0 : BitVec 32 := 8#32
  let v2587_r0 : BitVec 32 := Scalar.remsi v2586_r0 c8_i32_1222_r0
  let c0_i32_1224_r0 : BitVec 32 := 0#32
  let c0_i32_1225_r0 : BitVec 32 := 0#32
  ![v2587_r0.toNat, 0, 0]
def k0_off268 (i : grid0.Coords) (k0_t8 : Fin (k0_t8_loop i).trips) : Fin 2 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1221_r0 : BitVec 32 := 1#32
  let v2586_r0 : BitVec 32 := Scalar.addi v1419_r0 c1_i32_1221_r0
  let c512_i32_1223_r0 : BitVec 32 := 512#32
  let v2588_r0 : BitVec 32 := Scalar.muli v2586_r0 c512_i32_1223_r0
  let c0_i32_1226_r0 : BitVec 32 := 0#32
  ![v2588_r0.toNat, 0]
def k0_mult557 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c256_i32_812_r0 : BitVec 32 := 256#32
  let v1640_r0 : BitVec 32 := Scalar.muli v1639_r0 c256_i32_812_r0
  v1640_r0
def k0_off269 (i : grid0.Coords) (k0_t12 : Fin (k0_t12_loop i).trips) (c0_i32_811_r0 : BitVec 32) : Fin 2 → Nat :=
  let c0_813_r0 : Index := 0#32
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c256_i32_812_r0 : BitVec 32 := 256#32
  let v1640_r0 : BitVec 32 := Scalar.muli v1639_r0 c256_i32_812_r0
  let v1641_r0 : BitVec 32 := v1640_r0
  let v1642_r0 : Index := Scalar.indexCast v1641_r0
  ![0, v1642_r0.toNat]
def k0_mult558 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  v1647_r0
def k0_off270 (i : grid0.Coords) (k0_t8 : Fin (k0_t8_loop i).trips) (k0_t12 : Fin (k0_t12_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1649_r0 : Index := Scalar.indexCast v1646_r0
  let c0_817_r0 : Index := 0#32
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_816_r0 : BitVec 32 := 256#32
  let v1647_r0 : BitVec 32 := Scalar.muli v1645_r0 c256_i32_816_r0
  let v1648_r0 : BitVec 32 := v1647_r0
  let v1650_r0 : Index := Scalar.indexCast v1648_r0
  ![v1649_r0.toNat, 0, v1650_r0.toNat]
def k0_mult559 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let c0_i32_811_r0 : BitVec 32 := 0#32
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  v1654_r0
def k0_off271 (i : grid0.Coords) (k0_t8 : Fin (k0_t8_loop i).trips) (k0_t12 : Fin (k0_t12_loop i).trips) (c0_i32_811_r0 : BitVec 32) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c8_i32_815_r0 : BitVec 32 := 8#32
  let v1646_r0 : BitVec 32 := Scalar.remsi v1419_r0 c8_i32_815_r0
  let v1656_r0 : Index := Scalar.indexCast v1646_r0
  let c256_819_r0 : Index := 256#32
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_810_r0 : BitVec 32 := 8#32
  let v1638_r0 : BitVec 32 := Scalar.muli v1634_r0 c8_i32_810_r0
  let v1639_r0 : BitVec 32 := Scalar.addi v1638_r0 c0_i32_811_r0
  let c1_i32_814_r0 : BitVec 32 := 1#32
  let v1645_r0 : BitVec 32 := Scalar.addi v1639_r0 c1_i32_814_r0
  let c256_i32_818_r0 : BitVec 32 := 256#32
  let v1654_r0 : BitVec 32 := Scalar.muli v1645_r0 c256_i32_818_r0
  let v1655_r0 : BitVec 32 := v1654_r0
  let v1657_r0 : Index := Scalar.indexCast v1655_r0
  ![v1656_r0.toNat, 256, v1657_r0.toNat]
def k0_mult560 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let c0_i32_823_r0 : BitVec 32 := 0#32
  let v1664_r0 : BitVec 32 := Scalar.addi v1663_r0 c0_i32_823_r0
  let c8_i32_827_r0 : BitVec 32 := 8#32
  let v1668_r0 : BitVec 32 := Scalar.muli v1664_r0 c8_i32_827_r0
  v1668_r0
def k0_off272 (i : grid0.Coords) (k0_t12 : Fin (k0_t12_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1670_r0 : Index := Scalar.indexCast v1669_r0
  let c0_828_r0 : Index := 0#32
  ![v1670_r0.toNat, 0]
def k0_off273 (i : grid0.Coords) (k0_t8 : Fin (k0_t8_loop i).trips) (c0_i32_829_r0 : BitVec 32) : Fin 2 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1672_r0 : BitVec 32 := Scalar.addi v1667_r0 c0_i32_829_r0
  let v1673_r0 : Index := Scalar.indexCast v1672_r0
  let c0_830_r0 : Index := 0#32
  ![v1673_r0.toNat, 0]
def k0_off274 (i : grid0.Coords) (k0_t12 : Fin (k0_t12_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1680_r0 : Index := Scalar.indexCast v1669_r0
  let c0_834_r0 : Index := 0#32
  ![v1680_r0.toNat, 0]
def k0_mult561 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c0_i32_835_r0 : BitVec 32 := 0#32
  let v1687_r0 : BitVec 32 := Scalar.addi v1667_r0 c0_i32_835_r0
  let c128_i32_836_r0 : BitVec 32 := 128#32
  let v1688_r0 : BitVec 32 := Scalar.muli v1687_r0 c128_i32_836_r0
  v1688_r0
def k0_off275 (i : grid0.Coords) (k0_t8 : Fin (k0_t8_loop i).trips) (k0_t12 : Fin (k0_t12_loop i).trips) (c0_i32_823_r0 : BitVec 32) (c0_i32_835_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1690_r0 : Index := Scalar.indexCast v1669_r0
  let c2_i32_696_r0 : BitVec 32 := 2#32
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let v1687_r0 : BitVec 32 := Scalar.addi v1667_r0 c0_i32_835_r0
  let c128_i32_836_r0 : BitVec 32 := 128#32
  let v1688_r0 : BitVec 32 := Scalar.muli v1687_r0 c128_i32_836_r0
  let v1689_r0 : BitVec 32 := v1688_r0
  let v1691_r0 : Index := Scalar.indexCast v1689_r0
  ![v1690_r0.toNat, v1691_r0.toNat]
def k0_off276 (i : grid0.Coords) (k0_t12 : Fin (k0_t12_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1701_r0 : Index := Scalar.indexCast v1669_r0
  let c128_842_r0 : Index := 128#32
  ![v1701_r0.toNat, 128]
def k0_mult562 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c1_i32_843_r0 : BitVec 32 := 1#32
  let v1708_r0 : BitVec 32 := Scalar.addi v1667_r0 c1_i32_843_r0
  let c128_i32_844_r0 : BitVec 32 := 128#32
  let v1709_r0 : BitVec 32 := Scalar.muli v1708_r0 c128_i32_844_r0
  v1709_r0
def k0_off277 (i : grid0.Coords) (k0_t12 : Fin (k0_t12_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1722_r0 : Index := Scalar.indexCast v1669_r0
  let c256_850_r0 : Index := 256#32
  ![v1722_r0.toNat, 256]
def k0_mult563 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c2_i32_851_r0 : BitVec 32 := 2#32
  let v1729_r0 : BitVec 32 := Scalar.addi v1667_r0 c2_i32_851_r0
  let c128_i32_852_r0 : BitVec 32 := 128#32
  let v1730_r0 : BitVec 32 := Scalar.muli v1729_r0 c128_i32_852_r0
  v1730_r0
def k0_off278 (i : grid0.Coords) (k0_t12 : Fin (k0_t12_loop i).trips) (c0_i32_823_r0 : BitVec 32) : Fin 2 → Nat :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_821_r0 : BitVec 32 := 1#32
  let v1662_r0 : BitVec 32 := Scalar.subi v1634_r0 c1_i32_821_r0
  let c8_i32_822_r0 : BitVec 32 := 8#32
  let v1663_r0 : BitVec 32 := Scalar.muli v1662_r0 c8_i32_822_r0
  let v1664_r0 : BitVec 32 := Scalar.addi v1663_r0 c0_i32_823_r0
  let c8_i32_827_r0 : BitVec 32 := 8#32
  let v1668_r0 : BitVec 32 := Scalar.muli v1664_r0 c8_i32_827_r0
  let v1669_r0 : BitVec 32 := v1668_r0
  let v1743_r0 : Index := Scalar.indexCast v1669_r0
  let c384_858_r0 : Index := 384#32
  ![v1743_r0.toNat, 384]
def k0_mult564 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_820_r0 : BitVec 32 := 1#32
  let v1661_r0 : BitVec 32 := Scalar.subi v1419_r0 c1_i32_820_r0
  let c0_i32_825_r0 : BitVec 32 := 0#32
  let v1666_r0 : BitVec 32 := Scalar.maxsi v1661_r0 c0_i32_825_r0
  let c4_i32_826_r0 : BitVec 32 := 4#32
  let v1667_r0 : BitVec 32 := Scalar.muli v1666_r0 c4_i32_826_r0
  let c3_i32_859_r0 : BitVec 32 := 3#32
  let v1750_r0 : BitVec 32 := Scalar.addi v1667_r0 c3_i32_859_r0
  let c128_i32_860_r0 : BitVec 32 := 128#32
  let v1751_r0 : BitVec 32 := Scalar.muli v1750_r0 c128_i32_860_r0
  v1751_r0
def k0_mult565 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c256_i32_863_r0 : BitVec 32 := 256#32
  let v1758_r0 : BitVec 32 := Scalar.muli v1757_r0 c256_i32_863_r0
  v1758_r0
def k0_mult566 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_867_r0 : BitVec 32 := 256#32
  let v1765_r0 : BitVec 32 := Scalar.muli v1763_r0 c256_i32_867_r0
  v1765_r0
def k0_mult567 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_861_r0 : BitVec 32 := 8#32
  let v1756_r0 : BitVec 32 := Scalar.muli v1634_r0 c8_i32_861_r0
  let c1_i32_862_r0 : BitVec 32 := 1#32
  let v1757_r0 : BitVec 32 := Scalar.addi v1756_r0 c1_i32_862_r0
  let c1_i32_865_r0 : BitVec 32 := 1#32
  let v1763_r0 : BitVec 32 := Scalar.addi v1757_r0 c1_i32_865_r0
  let c256_i32_869_r0 : BitVec 32 := 256#32
  let v1772_r0 : BitVec 32 := Scalar.muli v1763_r0 c256_i32_869_r0
  v1772_r0
def k0_mult568 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_872_r0 : BitVec 32 := 1#32
  let v1780_r0 : BitVec 32 := Scalar.subi v1634_r0 c1_i32_872_r0
  let c8_i32_873_r0 : BitVec 32 := 8#32
  let v1781_r0 : BitVec 32 := Scalar.muli v1780_r0 c8_i32_873_r0
  let c1_i32_874_r0 : BitVec 32 := 1#32
  let v1782_r0 : BitVec 32 := Scalar.addi v1781_r0 c1_i32_874_r0
  let c8_i32_878_r0 : BitVec 32 := 8#32
  let v1786_r0 : BitVec 32 := Scalar.muli v1782_r0 c8_i32_878_r0
  v1786_r0
def k0_mult569 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c0_i32_886_r0 : BitVec 32 := 0#32
  let v1805_r0 : BitVec 32 := Scalar.addi v1785_r0 c0_i32_886_r0
  let c128_i32_887_r0 : BitVec 32 := 128#32
  let v1806_r0 : BitVec 32 := Scalar.muli v1805_r0 c128_i32_887_r0
  v1806_r0
def k0_mult570 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c1_i32_894_r0 : BitVec 32 := 1#32
  let v1826_r0 : BitVec 32 := Scalar.addi v1785_r0 c1_i32_894_r0
  let c128_i32_895_r0 : BitVec 32 := 128#32
  let v1827_r0 : BitVec 32 := Scalar.muli v1826_r0 c128_i32_895_r0
  v1827_r0
def k0_mult571 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c2_i32_902_r0 : BitVec 32 := 2#32
  let v1847_r0 : BitVec 32 := Scalar.addi v1785_r0 c2_i32_902_r0
  let c128_i32_903_r0 : BitVec 32 := 128#32
  let v1848_r0 : BitVec 32 := Scalar.muli v1847_r0 c128_i32_903_r0
  v1848_r0
def k0_mult572 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_871_r0 : BitVec 32 := 1#32
  let v1779_r0 : BitVec 32 := Scalar.subi v1419_r0 c1_i32_871_r0
  let c0_i32_876_r0 : BitVec 32 := 0#32
  let v1784_r0 : BitVec 32 := Scalar.maxsi v1779_r0 c0_i32_876_r0
  let c4_i32_877_r0 : BitVec 32 := 4#32
  let v1785_r0 : BitVec 32 := Scalar.muli v1784_r0 c4_i32_877_r0
  let c3_i32_910_r0 : BitVec 32 := 3#32
  let v1868_r0 : BitVec 32 := Scalar.addi v1785_r0 c3_i32_910_r0
  let c128_i32_911_r0 : BitVec 32 := 128#32
  let v1869_r0 : BitVec 32 := Scalar.muli v1868_r0 c128_i32_911_r0
  v1869_r0
def k0_mult573 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c256_i32_914_r0 : BitVec 32 := 256#32
  let v1876_r0 : BitVec 32 := Scalar.muli v1875_r0 c256_i32_914_r0
  v1876_r0
def k0_mult574 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_918_r0 : BitVec 32 := 256#32
  let v1883_r0 : BitVec 32 := Scalar.muli v1881_r0 c256_i32_918_r0
  v1883_r0
def k0_mult575 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_912_r0 : BitVec 32 := 8#32
  let v1874_r0 : BitVec 32 := Scalar.muli v1634_r0 c8_i32_912_r0
  let c2_i32_913_r0 : BitVec 32 := 2#32
  let v1875_r0 : BitVec 32 := Scalar.addi v1874_r0 c2_i32_913_r0
  let c1_i32_916_r0 : BitVec 32 := 1#32
  let v1881_r0 : BitVec 32 := Scalar.addi v1875_r0 c1_i32_916_r0
  let c256_i32_920_r0 : BitVec 32 := 256#32
  let v1890_r0 : BitVec 32 := Scalar.muli v1881_r0 c256_i32_920_r0
  v1890_r0
def k0_mult576 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_923_r0 : BitVec 32 := 1#32
  let v1898_r0 : BitVec 32 := Scalar.subi v1634_r0 c1_i32_923_r0
  let c8_i32_924_r0 : BitVec 32 := 8#32
  let v1899_r0 : BitVec 32 := Scalar.muli v1898_r0 c8_i32_924_r0
  let c2_i32_925_r0 : BitVec 32 := 2#32
  let v1900_r0 : BitVec 32 := Scalar.addi v1899_r0 c2_i32_925_r0
  let c8_i32_929_r0 : BitVec 32 := 8#32
  let v1904_r0 : BitVec 32 := Scalar.muli v1900_r0 c8_i32_929_r0
  v1904_r0
def k0_mult577 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c0_i32_937_r0 : BitVec 32 := 0#32
  let v1923_r0 : BitVec 32 := Scalar.addi v1903_r0 c0_i32_937_r0
  let c128_i32_938_r0 : BitVec 32 := 128#32
  let v1924_r0 : BitVec 32 := Scalar.muli v1923_r0 c128_i32_938_r0
  v1924_r0
def k0_mult578 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c1_i32_945_r0 : BitVec 32 := 1#32
  let v1944_r0 : BitVec 32 := Scalar.addi v1903_r0 c1_i32_945_r0
  let c128_i32_946_r0 : BitVec 32 := 128#32
  let v1945_r0 : BitVec 32 := Scalar.muli v1944_r0 c128_i32_946_r0
  v1945_r0
def k0_mult579 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c2_i32_953_r0 : BitVec 32 := 2#32
  let v1965_r0 : BitVec 32 := Scalar.addi v1903_r0 c2_i32_953_r0
  let c128_i32_954_r0 : BitVec 32 := 128#32
  let v1966_r0 : BitVec 32 := Scalar.muli v1965_r0 c128_i32_954_r0
  v1966_r0
def k0_mult580 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_922_r0 : BitVec 32 := 1#32
  let v1897_r0 : BitVec 32 := Scalar.subi v1419_r0 c1_i32_922_r0
  let c0_i32_927_r0 : BitVec 32 := 0#32
  let v1902_r0 : BitVec 32 := Scalar.maxsi v1897_r0 c0_i32_927_r0
  let c4_i32_928_r0 : BitVec 32 := 4#32
  let v1903_r0 : BitVec 32 := Scalar.muli v1902_r0 c4_i32_928_r0
  let c3_i32_961_r0 : BitVec 32 := 3#32
  let v1986_r0 : BitVec 32 := Scalar.addi v1903_r0 c3_i32_961_r0
  let c128_i32_962_r0 : BitVec 32 := 128#32
  let v1987_r0 : BitVec 32 := Scalar.muli v1986_r0 c128_i32_962_r0
  v1987_r0
def k0_mult581 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c256_i32_965_r0 : BitVec 32 := 256#32
  let v1994_r0 : BitVec 32 := Scalar.muli v1993_r0 c256_i32_965_r0
  v1994_r0
def k0_mult582 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_969_r0 : BitVec 32 := 256#32
  let v2001_r0 : BitVec 32 := Scalar.muli v1999_r0 c256_i32_969_r0
  v2001_r0
def k0_mult583 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_963_r0 : BitVec 32 := 8#32
  let v1992_r0 : BitVec 32 := Scalar.muli v1634_r0 c8_i32_963_r0
  let c3_i32_964_r0 : BitVec 32 := 3#32
  let v1993_r0 : BitVec 32 := Scalar.addi v1992_r0 c3_i32_964_r0
  let c1_i32_967_r0 : BitVec 32 := 1#32
  let v1999_r0 : BitVec 32 := Scalar.addi v1993_r0 c1_i32_967_r0
  let c256_i32_971_r0 : BitVec 32 := 256#32
  let v2008_r0 : BitVec 32 := Scalar.muli v1999_r0 c256_i32_971_r0
  v2008_r0
def k0_mult584 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_974_r0 : BitVec 32 := 1#32
  let v2016_r0 : BitVec 32 := Scalar.subi v1634_r0 c1_i32_974_r0
  let c8_i32_975_r0 : BitVec 32 := 8#32
  let v2017_r0 : BitVec 32 := Scalar.muli v2016_r0 c8_i32_975_r0
  let c3_i32_976_r0 : BitVec 32 := 3#32
  let v2018_r0 : BitVec 32 := Scalar.addi v2017_r0 c3_i32_976_r0
  let c8_i32_980_r0 : BitVec 32 := 8#32
  let v2022_r0 : BitVec 32 := Scalar.muli v2018_r0 c8_i32_980_r0
  v2022_r0
def k0_mult585 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c0_i32_988_r0 : BitVec 32 := 0#32
  let v2041_r0 : BitVec 32 := Scalar.addi v2021_r0 c0_i32_988_r0
  let c128_i32_989_r0 : BitVec 32 := 128#32
  let v2042_r0 : BitVec 32 := Scalar.muli v2041_r0 c128_i32_989_r0
  v2042_r0
def k0_mult586 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c1_i32_996_r0 : BitVec 32 := 1#32
  let v2062_r0 : BitVec 32 := Scalar.addi v2021_r0 c1_i32_996_r0
  let c128_i32_997_r0 : BitVec 32 := 128#32
  let v2063_r0 : BitVec 32 := Scalar.muli v2062_r0 c128_i32_997_r0
  v2063_r0
def k0_mult587 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c2_i32_1004_r0 : BitVec 32 := 2#32
  let v2083_r0 : BitVec 32 := Scalar.addi v2021_r0 c2_i32_1004_r0
  let c128_i32_1005_r0 : BitVec 32 := 128#32
  let v2084_r0 : BitVec 32 := Scalar.muli v2083_r0 c128_i32_1005_r0
  v2084_r0
def k0_mult588 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_973_r0 : BitVec 32 := 1#32
  let v2015_r0 : BitVec 32 := Scalar.subi v1419_r0 c1_i32_973_r0
  let c0_i32_978_r0 : BitVec 32 := 0#32
  let v2020_r0 : BitVec 32 := Scalar.maxsi v2015_r0 c0_i32_978_r0
  let c4_i32_979_r0 : BitVec 32 := 4#32
  let v2021_r0 : BitVec 32 := Scalar.muli v2020_r0 c4_i32_979_r0
  let c3_i32_1012_r0 : BitVec 32 := 3#32
  let v2104_r0 : BitVec 32 := Scalar.addi v2021_r0 c3_i32_1012_r0
  let c128_i32_1013_r0 : BitVec 32 := 128#32
  let v2105_r0 : BitVec 32 := Scalar.muli v2104_r0 c128_i32_1013_r0
  v2105_r0
def k0_mult589 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c256_i32_1016_r0 : BitVec 32 := 256#32
  let v2112_r0 : BitVec 32 := Scalar.muli v2111_r0 c256_i32_1016_r0
  v2112_r0
def k0_mult590 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1020_r0 : BitVec 32 := 256#32
  let v2119_r0 : BitVec 32 := Scalar.muli v2117_r0 c256_i32_1020_r0
  v2119_r0
def k0_mult591 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1014_r0 : BitVec 32 := 8#32
  let v2110_r0 : BitVec 32 := Scalar.muli v1634_r0 c8_i32_1014_r0
  let c4_i32_1015_r0 : BitVec 32 := 4#32
  let v2111_r0 : BitVec 32 := Scalar.addi v2110_r0 c4_i32_1015_r0
  let c1_i32_1018_r0 : BitVec 32 := 1#32
  let v2117_r0 : BitVec 32 := Scalar.addi v2111_r0 c1_i32_1018_r0
  let c256_i32_1022_r0 : BitVec 32 := 256#32
  let v2126_r0 : BitVec 32 := Scalar.muli v2117_r0 c256_i32_1022_r0
  v2126_r0
def k0_mult592 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_1025_r0 : BitVec 32 := 1#32
  let v2134_r0 : BitVec 32 := Scalar.subi v1634_r0 c1_i32_1025_r0
  let c8_i32_1026_r0 : BitVec 32 := 8#32
  let v2135_r0 : BitVec 32 := Scalar.muli v2134_r0 c8_i32_1026_r0
  let c4_i32_1027_r0 : BitVec 32 := 4#32
  let v2136_r0 : BitVec 32 := Scalar.addi v2135_r0 c4_i32_1027_r0
  let c8_i32_1031_r0 : BitVec 32 := 8#32
  let v2140_r0 : BitVec 32 := Scalar.muli v2136_r0 c8_i32_1031_r0
  v2140_r0
def k0_mult593 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c0_i32_1039_r0 : BitVec 32 := 0#32
  let v2159_r0 : BitVec 32 := Scalar.addi v2139_r0 c0_i32_1039_r0
  let c128_i32_1040_r0 : BitVec 32 := 128#32
  let v2160_r0 : BitVec 32 := Scalar.muli v2159_r0 c128_i32_1040_r0
  v2160_r0
def k0_mult594 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c1_i32_1047_r0 : BitVec 32 := 1#32
  let v2180_r0 : BitVec 32 := Scalar.addi v2139_r0 c1_i32_1047_r0
  let c128_i32_1048_r0 : BitVec 32 := 128#32
  let v2181_r0 : BitVec 32 := Scalar.muli v2180_r0 c128_i32_1048_r0
  v2181_r0
def k0_mult595 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c2_i32_1055_r0 : BitVec 32 := 2#32
  let v2201_r0 : BitVec 32 := Scalar.addi v2139_r0 c2_i32_1055_r0
  let c128_i32_1056_r0 : BitVec 32 := 128#32
  let v2202_r0 : BitVec 32 := Scalar.muli v2201_r0 c128_i32_1056_r0
  v2202_r0
def k0_mult596 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1024_r0 : BitVec 32 := 1#32
  let v2133_r0 : BitVec 32 := Scalar.subi v1419_r0 c1_i32_1024_r0
  let c0_i32_1029_r0 : BitVec 32 := 0#32
  let v2138_r0 : BitVec 32 := Scalar.maxsi v2133_r0 c0_i32_1029_r0
  let c4_i32_1030_r0 : BitVec 32 := 4#32
  let v2139_r0 : BitVec 32 := Scalar.muli v2138_r0 c4_i32_1030_r0
  let c3_i32_1063_r0 : BitVec 32 := 3#32
  let v2222_r0 : BitVec 32 := Scalar.addi v2139_r0 c3_i32_1063_r0
  let c128_i32_1064_r0 : BitVec 32 := 128#32
  let v2223_r0 : BitVec 32 := Scalar.muli v2222_r0 c128_i32_1064_r0
  v2223_r0
def k0_mult597 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c256_i32_1067_r0 : BitVec 32 := 256#32
  let v2230_r0 : BitVec 32 := Scalar.muli v2229_r0 c256_i32_1067_r0
  v2230_r0
def k0_mult598 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1071_r0 : BitVec 32 := 256#32
  let v2237_r0 : BitVec 32 := Scalar.muli v2235_r0 c256_i32_1071_r0
  v2237_r0
def k0_mult599 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1065_r0 : BitVec 32 := 8#32
  let v2228_r0 : BitVec 32 := Scalar.muli v1634_r0 c8_i32_1065_r0
  let c5_i32_1066_r0 : BitVec 32 := 5#32
  let v2229_r0 : BitVec 32 := Scalar.addi v2228_r0 c5_i32_1066_r0
  let c1_i32_1069_r0 : BitVec 32 := 1#32
  let v2235_r0 : BitVec 32 := Scalar.addi v2229_r0 c1_i32_1069_r0
  let c256_i32_1073_r0 : BitVec 32 := 256#32
  let v2244_r0 : BitVec 32 := Scalar.muli v2235_r0 c256_i32_1073_r0
  v2244_r0
def k0_mult600 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_1076_r0 : BitVec 32 := 1#32
  let v2252_r0 : BitVec 32 := Scalar.subi v1634_r0 c1_i32_1076_r0
  let c8_i32_1077_r0 : BitVec 32 := 8#32
  let v2253_r0 : BitVec 32 := Scalar.muli v2252_r0 c8_i32_1077_r0
  let c5_i32_1078_r0 : BitVec 32 := 5#32
  let v2254_r0 : BitVec 32 := Scalar.addi v2253_r0 c5_i32_1078_r0
  let c8_i32_1082_r0 : BitVec 32 := 8#32
  let v2258_r0 : BitVec 32 := Scalar.muli v2254_r0 c8_i32_1082_r0
  v2258_r0
def k0_mult601 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c0_i32_1090_r0 : BitVec 32 := 0#32
  let v2277_r0 : BitVec 32 := Scalar.addi v2257_r0 c0_i32_1090_r0
  let c128_i32_1091_r0 : BitVec 32 := 128#32
  let v2278_r0 : BitVec 32 := Scalar.muli v2277_r0 c128_i32_1091_r0
  v2278_r0
def k0_mult602 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c1_i32_1098_r0 : BitVec 32 := 1#32
  let v2298_r0 : BitVec 32 := Scalar.addi v2257_r0 c1_i32_1098_r0
  let c128_i32_1099_r0 : BitVec 32 := 128#32
  let v2299_r0 : BitVec 32 := Scalar.muli v2298_r0 c128_i32_1099_r0
  v2299_r0
def k0_mult603 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c2_i32_1106_r0 : BitVec 32 := 2#32
  let v2319_r0 : BitVec 32 := Scalar.addi v2257_r0 c2_i32_1106_r0
  let c128_i32_1107_r0 : BitVec 32 := 128#32
  let v2320_r0 : BitVec 32 := Scalar.muli v2319_r0 c128_i32_1107_r0
  v2320_r0
def k0_mult604 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1075_r0 : BitVec 32 := 1#32
  let v2251_r0 : BitVec 32 := Scalar.subi v1419_r0 c1_i32_1075_r0
  let c0_i32_1080_r0 : BitVec 32 := 0#32
  let v2256_r0 : BitVec 32 := Scalar.maxsi v2251_r0 c0_i32_1080_r0
  let c4_i32_1081_r0 : BitVec 32 := 4#32
  let v2257_r0 : BitVec 32 := Scalar.muli v2256_r0 c4_i32_1081_r0
  let c3_i32_1114_r0 : BitVec 32 := 3#32
  let v2340_r0 : BitVec 32 := Scalar.addi v2257_r0 c3_i32_1114_r0
  let c128_i32_1115_r0 : BitVec 32 := 128#32
  let v2341_r0 : BitVec 32 := Scalar.muli v2340_r0 c128_i32_1115_r0
  v2341_r0
def k0_mult605 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c256_i32_1118_r0 : BitVec 32 := 256#32
  let v2348_r0 : BitVec 32 := Scalar.muli v2347_r0 c256_i32_1118_r0
  v2348_r0
def k0_mult606 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1122_r0 : BitVec 32 := 256#32
  let v2355_r0 : BitVec 32 := Scalar.muli v2353_r0 c256_i32_1122_r0
  v2355_r0
def k0_mult607 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1116_r0 : BitVec 32 := 8#32
  let v2346_r0 : BitVec 32 := Scalar.muli v1634_r0 c8_i32_1116_r0
  let c6_i32_1117_r0 : BitVec 32 := 6#32
  let v2347_r0 : BitVec 32 := Scalar.addi v2346_r0 c6_i32_1117_r0
  let c1_i32_1120_r0 : BitVec 32 := 1#32
  let v2353_r0 : BitVec 32 := Scalar.addi v2347_r0 c1_i32_1120_r0
  let c256_i32_1124_r0 : BitVec 32 := 256#32
  let v2362_r0 : BitVec 32 := Scalar.muli v2353_r0 c256_i32_1124_r0
  v2362_r0
def k0_mult608 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_1127_r0 : BitVec 32 := 1#32
  let v2370_r0 : BitVec 32 := Scalar.subi v1634_r0 c1_i32_1127_r0
  let c8_i32_1128_r0 : BitVec 32 := 8#32
  let v2371_r0 : BitVec 32 := Scalar.muli v2370_r0 c8_i32_1128_r0
  let c6_i32_1129_r0 : BitVec 32 := 6#32
  let v2372_r0 : BitVec 32 := Scalar.addi v2371_r0 c6_i32_1129_r0
  let c8_i32_1133_r0 : BitVec 32 := 8#32
  let v2376_r0 : BitVec 32 := Scalar.muli v2372_r0 c8_i32_1133_r0
  v2376_r0
def k0_mult609 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c0_i32_1141_r0 : BitVec 32 := 0#32
  let v2395_r0 : BitVec 32 := Scalar.addi v2375_r0 c0_i32_1141_r0
  let c128_i32_1142_r0 : BitVec 32 := 128#32
  let v2396_r0 : BitVec 32 := Scalar.muli v2395_r0 c128_i32_1142_r0
  v2396_r0
def k0_mult610 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c1_i32_1149_r0 : BitVec 32 := 1#32
  let v2416_r0 : BitVec 32 := Scalar.addi v2375_r0 c1_i32_1149_r0
  let c128_i32_1150_r0 : BitVec 32 := 128#32
  let v2417_r0 : BitVec 32 := Scalar.muli v2416_r0 c128_i32_1150_r0
  v2417_r0
def k0_mult611 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c2_i32_1157_r0 : BitVec 32 := 2#32
  let v2437_r0 : BitVec 32 := Scalar.addi v2375_r0 c2_i32_1157_r0
  let c128_i32_1158_r0 : BitVec 32 := 128#32
  let v2438_r0 : BitVec 32 := Scalar.muli v2437_r0 c128_i32_1158_r0
  v2438_r0
def k0_mult612 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1126_r0 : BitVec 32 := 1#32
  let v2369_r0 : BitVec 32 := Scalar.subi v1419_r0 c1_i32_1126_r0
  let c0_i32_1131_r0 : BitVec 32 := 0#32
  let v2374_r0 : BitVec 32 := Scalar.maxsi v2369_r0 c0_i32_1131_r0
  let c4_i32_1132_r0 : BitVec 32 := 4#32
  let v2375_r0 : BitVec 32 := Scalar.muli v2374_r0 c4_i32_1132_r0
  let c3_i32_1165_r0 : BitVec 32 := 3#32
  let v2458_r0 : BitVec 32 := Scalar.addi v2375_r0 c3_i32_1165_r0
  let c128_i32_1166_r0 : BitVec 32 := 128#32
  let v2459_r0 : BitVec 32 := Scalar.muli v2458_r0 c128_i32_1166_r0
  v2459_r0
def k0_mult613 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c256_i32_1169_r0 : BitVec 32 := 256#32
  let v2466_r0 : BitVec 32 := Scalar.muli v2465_r0 c256_i32_1169_r0
  v2466_r0
def k0_mult614 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  v2477_r0
def k0_off279 (i : grid0.Coords) (k0_t8 : Fin (k0_t8_loop i).trips) (k0_t12 : Fin (k0_t12_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2479_r0 : Index := Scalar.indexCast v2476_r0
  let c0_1177_r0 : Index := 0#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1176_r0 : BitVec 32 := 256#32
  let v2477_r0 : BitVec 32 := Scalar.muli v2475_r0 c256_i32_1176_r0
  let v2478_r0 : BitVec 32 := v2477_r0
  let v2480_r0 : Index := Scalar.indexCast v2478_r0
  ![v2479_r0.toNat, 0, v2480_r0.toNat]
def k0_mult615 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  v2484_r0
def k0_off280 (i : grid0.Coords) (k0_t8 : Fin (k0_t8_loop i).trips) (k0_t12 : Fin (k0_t12_loop i).trips) : Fin 3 → Nat :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c8_i32_1167_r0 : BitVec 32 := 8#32
  let v2464_r0 : BitVec 32 := Scalar.muli v1634_r0 c8_i32_1167_r0
  let c7_i32_1168_r0 : BitVec 32 := 7#32
  let v2465_r0 : BitVec 32 := Scalar.addi v2464_r0 c7_i32_1168_r0
  let c1_i32_1171_r0 : BitVec 32 := 1#32
  let v2471_r0 : BitVec 32 := Scalar.addi v2465_r0 c1_i32_1171_r0
  let c32_i32_1172_r0 : BitVec 32 := 32#32
  let v2472_r0 : BitVec 32 := Scalar.divsi v2471_r0 c32_i32_1172_r0
  let v2473_r0 : BitVec 32 := Scalar.addi v1419_r0 v2472_r0
  let c8_i32_1175_r0 : BitVec 32 := 8#32
  let v2476_r0 : BitVec 32 := Scalar.remsi v2473_r0 c8_i32_1175_r0
  let v2486_r0 : Index := Scalar.indexCast v2476_r0
  let c256_1179_r0 : Index := 256#32
  let c1_i32_1173_r0 : BitVec 32 := 1#32
  let v2474_r0 : BitVec 32 := Scalar.addi v2465_r0 c1_i32_1173_r0
  let c32_i32_1174_r0 : BitVec 32 := 32#32
  let v2475_r0 : BitVec 32 := Scalar.remsi v2474_r0 c32_i32_1174_r0
  let c256_i32_1178_r0 : BitVec 32 := 256#32
  let v2484_r0 : BitVec 32 := Scalar.muli v2475_r0 c256_i32_1178_r0
  let v2485_r0 : BitVec 32 := v2484_r0
  let v2487_r0 : Index := Scalar.indexCast v2485_r0
  ![v2486_r0.toNat, 256, v2487_r0.toNat]
def k0_mult616 (i : grid0.Coords) (k0_t12 : Fin (k0_t12_loop i).trips) : BitVec 32 :=
  let arg0 : BitVec 32 := BitVec.ofNat 32 (i 0).val
  let c1_i32_798_r0 : BitVec 32 := 1#32
  let v1623_r0 : BitVec 32 := Scalar.addi arg0 c1_i32_798_r0
  let c0_i32_804_r0 : BitVec 32 := 0#32
  let c4_i32_799_r0 : BitVec 32 := 4#32
  let v1624_r0 : BitVec 32 := Scalar.subi c4_i32_799_r0 v1623_r0
  let c1_i32_800_r0 : BitVec 32 := 1#32
  let c1_i32_801_r0 : BitVec 32 := 1#32
  let v1625_r0 : BitVec 32 := Scalar.subi c1_i32_800_r0 c1_i32_801_r0
  let v1626_r0 : BitVec 32 := Scalar.addi v1624_r0 v1625_r0
  let c1_i32_802_r0 : BitVec 32 := 1#32
  let v1627_r0 : BitVec 32 := Scalar.divsi v1626_r0 c1_i32_802_r0
  let v1628_r0 : BitVec 32 := Scalar.subi v1627_r0 c0_i32_804_r0
  let c1_i32_805_r0 : BitVec 32 := 1#32
  let v1630_r0 : BitVec 32 := Scalar.divsi v1628_r0 c1_i32_805_r0
  let v1631_r0 : BitVec 32 := Scalar.muli v1630_r0 c1_i32_805_r0
  let v1632_r0 : BitVec 32 := Scalar.addi c0_i32_804_r0 v1631_r0
  let c1_i32_807_r0 : BitVec 32 := 1#32
  let arg21_r0 : BitVec 32 := Scf.iv v1632_r0 c1_i32_807_r0 k0_t12
  let c1_i32_803_r0 : BitVec 32 := 1#32
  let v1633_r0 : BitVec 32 := Scalar.muli arg21_r0 c1_i32_803_r0
  let v1634_r0 : BitVec 32 := Scalar.addi v1623_r0 v1633_r0
  let c1_i32_1181_r0 : BitVec 32 := 1#32
  let v2492_r0 : BitVec 32 := Scalar.subi v1634_r0 c1_i32_1181_r0
  let c8_i32_1182_r0 : BitVec 32 := 8#32
  let v2493_r0 : BitVec 32 := Scalar.muli v2492_r0 c8_i32_1182_r0
  let c7_i32_1183_r0 : BitVec 32 := 7#32
  let v2494_r0 : BitVec 32 := Scalar.addi v2493_r0 c7_i32_1183_r0
  let c8_i32_1187_r0 : BitVec 32 := 8#32
  let v2498_r0 : BitVec 32 := Scalar.muli v2494_r0 c8_i32_1187_r0
  v2498_r0
def k0_mult617 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c0_i32_1195_r0 : BitVec 32 := 0#32
  let v2517_r0 : BitVec 32 := Scalar.addi v2497_r0 c0_i32_1195_r0
  let c128_i32_1196_r0 : BitVec 32 := 128#32
  let v2518_r0 : BitVec 32 := Scalar.muli v2517_r0 c128_i32_1196_r0
  v2518_r0
def k0_mult618 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c1_i32_1203_r0 : BitVec 32 := 1#32
  let v2538_r0 : BitVec 32 := Scalar.addi v2497_r0 c1_i32_1203_r0
  let c128_i32_1204_r0 : BitVec 32 := 128#32
  let v2539_r0 : BitVec 32 := Scalar.muli v2538_r0 c128_i32_1204_r0
  v2539_r0
def k0_mult619 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c2_i32_1211_r0 : BitVec 32 := 2#32
  let v2559_r0 : BitVec 32 := Scalar.addi v2497_r0 c2_i32_1211_r0
  let c128_i32_1212_r0 : BitVec 32 := 128#32
  let v2560_r0 : BitVec 32 := Scalar.muli v2559_r0 c128_i32_1212_r0
  v2560_r0
def k0_mult620 (i : grid0.Coords) (k0_t8 : Fin (k0_t8_loop i).trips) : BitVec 32 :=
  let c2_i32_696_r0 : BitVec 32 := 2#32
  let arg0 : BitVec 32 := BitVec.ofNat 32 (i 0).val
  let c0_i32_86_r0 : BitVec 32 := 0#32
  let c18_i32_r0 : BitVec 32 := 18#32
  let v130_r0 : BitVec 32 := Scalar.subi c18_i32_r0 arg0
  let c1_i32_82_r0 : BitVec 32 := 1#32
  let c1_i32_83_r0 : BitVec 32 := 1#32
  let v131_r0 : BitVec 32 := Scalar.subi c1_i32_82_r0 c1_i32_83_r0
  let v132_r0 : BitVec 32 := Scalar.addi v130_r0 v131_r0
  let c1_i32_84_r0 : BitVec 32 := 1#32
  let v133_r0 : BitVec 32 := Scalar.divsi v132_r0 c1_i32_84_r0
  let v134_r0 : BitVec 32 := Scalar.subi v133_r0 c0_i32_86_r0
  let c1_i32_87_r0 : BitVec 32 := 1#32
  let v136_r0 : BitVec 32 := Scalar.divsi v134_r0 c1_i32_87_r0
  let v137_r0 : BitVec 32 := Scalar.muli v136_r0 c1_i32_87_r0
  let v138_r0 : BitVec 32 := Scalar.addi c0_i32_86_r0 v137_r0
  let c1_i32_89_r0 : BitVec 32 := 1#32
  let arg20_r0 : BitVec 32 := Scf.iv v138_r0 c1_i32_89_r0 k0_t8
  let c1_i32_85_r0 : BitVec 32 := 1#32
  let v1201_r0 : BitVec 32 := Scalar.muli arg20_r0 c1_i32_85_r0
  let v1202_r0 : BitVec 32 := Scalar.addi arg0 v1201_r0
  let v1418_r0 : BitVec 32 := Scalar.muli c2_i32_696_r0 v1202_r0
  let c1_i32_697_r0 : BitVec 32 := 1#32
  let v1419_r0 : BitVec 32 := Scalar.addi v1418_r0 c1_i32_697_r0
  let c1_i32_1180_r0 : BitVec 32 := 1#32
  let v2491_r0 : BitVec 32 := Scalar.subi v1419_r0 c1_i32_1180_r0
  let c0_i32_1185_r0 : BitVec 32 := 0#32
  let v2496_r0 : BitVec 32 := Scalar.maxsi v2491_r0 c0_i32_1185_r0
  let c4_i32_1186_r0 : BitVec 32 := 4#32
  let v2497_r0 : BitVec 32 := Scalar.muli v2496_r0 c4_i32_1186_r0
  let c3_i32_1219_r0 : BitVec 32 := 3#32
  let v2580_r0 : BitVec 32 := Scalar.addi v2497_r0 c3_i32_1219_r0
  let c128_i32_1220_r0 : BitVec 32 := 128#32
  let v2581_r0 : BitVec 32 := Scalar.muli v2580_r0 c128_i32_1220_r0
  v2581_r0
def k0_mult621 : BitVec 32 :=
  let c0_i32_90_r0 : BitVec 32 := 0#32
  let c8_i32_91_r0 : BitVec 32 := 8#32
  let v139_r0 : BitVec 32 := Scalar.muli c0_i32_90_r0 c8_i32_91_r0
  let c0_i32_92_r0 : BitVec 32 := 0#32
  let v140_r0 : BitVec 32 := Scalar.addi v139_r0 c0_i32_92_r0
  let c256_i32_r0 : BitVec 32 := 256#32
  let v141_r0 : BitVec 32 := Scalar.muli v140_r0 c256_i32_r0
  v141_r0
def k0_off281 (c0_i32_92_r0 : BitVec 32) : Fin 2 → Nat :=
  let c0_93_r0 : Index := 0#32
  let c0_i32_90_r0 : BitVec 32 := 0#32
  let c8_i32_91_r0 : BitVec 32 := 8#32
  let v139_r0 : BitVec 32 := Scalar.muli c0_i32_90_r0 c8_i32_91_r0
  let v140_r0 : BitVec 32 := Scalar.addi v139_r0 c0_i32_92_r0
  let c256_i32_r0 : BitVec 32 := 256#32
  let v141_r0 : BitVec 32 := Scalar.muli v140_r0 c256_i32_r0
  let v142_r0 : BitVec 32 := v141_r0
  let v143_r0 : Index := Scalar.indexCast v142_r0
  ![0, v143_r0.toNat]
def k0_mult622 : BitVec 32 :=
  let c0_i32_90_r0 : BitVec 32 := 0#32
  let c8_i32_91_r0 : BitVec 32 := 8#32
  let v139_r0 : BitVec 32 := Scalar.muli c0_i32_90_r0 c8_i32_91_r0
  let c0_i32_92_r0 : BitVec 32 := 0#32
  let v140_r0 : BitVec 32 := Scalar.addi v139_r0 c0_i32_92_r0
  let c1_i32_94_r0 : BitVec 32 := 1#32
  let v146_r0 : BitVec 32 := Scalar.addi v140_r0 c1_i32_94_r0
  let c256_i32_96_r0 : BitVec 32 := 256#32
  let v148_r0 : BitVec 32 := Scalar.muli v146_r0 c256_i32_96_r0
  v148_r0
def k0_off282 (c0_i32_92_r0 : BitVec 32) : Fin 3 → Nat :=
  let c36_i32_r0 : BitVec 32 := 36#32
  let c8_i32_95_r0 : BitVec 32 := 8#32
  let v147_r0 : BitVec 32 := Scalar.remsi c36_i32_r0 c8_i32_95_r0
  let v150_r0 : Index := Scalar.indexCast v147_r0
  let c0_97_r0 : Index := 0#32
  let c0_i32_90_r0 : BitVec 32 := 0#32
  let c8_i32_91_r0 : BitVec 32 := 8#32
  let v139_r0 : BitVec 32 := Scalar.muli c0_i32_90_r0 c8_i32_91_r0
  let v140_r0 : BitVec 32 := Scalar.addi v139_r0 c0_i32_92_r0
  let c1_i32_94_r0 : BitVec 32 := 1#32
  let v146_r0 : BitVec 32 := Scalar.addi v140_r0 c1_i32_94_r0
  let c256_i32_96_r0 : BitVec 32 := 256#32
  let v148_r0 : BitVec 32 := Scalar.muli v146_r0 c256_i32_96_r0
  let v149_r0 : BitVec 32 := v148_r0
  let v151_r0 : Index := Scalar.indexCast v149_r0
  ![v150_r0.toNat, 0, v151_r0.toNat]
def k0_mult623 : BitVec 32 :=
  let c0_i32_90_r0 : BitVec 32 := 0#32
  let c8_i32_91_r0 : BitVec 32 := 8#32
  let v139_r0 : BitVec 32 := Scalar.muli c0_i32_90_r0 c8_i32_91_r0
  let c0_i32_92_r0 : BitVec 32 := 0#32
  let v140_r0 : BitVec 32 := Scalar.addi v139_r0 c0_i32_92_r0
  let c1_i32_94_r0 : BitVec 32 := 1#32
  let v146_r0 : BitVec 32 := Scalar.addi v140_r0 c1_i32_94_r0
  let c256_i32_98_r0 : BitVec 32 := 256#32
  let v155_r0 : BitVec 32 := Scalar.muli v146_r0 c256_i32_98_r0
  v155_r0
def k0_off283 (c0_i32_92_r0 : BitVec 32) : Fin 3 → Nat :=
  let c36_i32_r0 : BitVec 32 := 36#32
  let c8_i32_95_r0 : BitVec 32 := 8#32
  let v147_r0 : BitVec 32 := Scalar.remsi c36_i32_r0 c8_i32_95_r0
  let v157_r0 : Index := Scalar.indexCast v147_r0
  let c256_99_r0 : Index := 256#32
  let c0_i32_90_r0 : BitVec 32 := 0#32
  let c8_i32_91_r0 : BitVec 32 := 8#32
  let v139_r0 : BitVec 32 := Scalar.muli c0_i32_90_r0 c8_i32_91_r0
  let v140_r0 : BitVec 32 := Scalar.addi v139_r0 c0_i32_92_r0
  let c1_i32_94_r0 : BitVec 32 := 1#32
  let v146_r0 : BitVec 32 := Scalar.addi v140_r0 c1_i32_94_r0
  let c256_i32_98_r0 : BitVec 32 := 256#32
  let v155_r0 : BitVec 32 := Scalar.muli v146_r0 c256_i32_98_r0
  let v156_r0 : BitVec 32 := v155_r0
  let v158_r0 : Index := Scalar.indexCast v156_r0
  ![v157_r0.toNat, 256, v158_r0.toNat]
def k0_mult624 : BitVec 32 :=
  let c0_i32_100_r0 : BitVec 32 := 0#32
  let c8_i32_101_r0 : BitVec 32 := 8#32
  let v162_r0 : BitVec 32 := Scalar.muli c0_i32_100_r0 c8_i32_101_r0
  let c1_i32_102_r0 : BitVec 32 := 1#32
  let v163_r0 : BitVec 32 := Scalar.addi v162_r0 c1_i32_102_r0
  let c256_i32_103_r0 : BitVec 32 := 256#32
  let v164_r0 : BitVec 32 := Scalar.muli v163_r0 c256_i32_103_r0
  v164_r0
def k0_mult625 : BitVec 32 :=
  let c0_i32_100_r0 : BitVec 32 := 0#32
  let c8_i32_101_r0 : BitVec 32 := 8#32
  let v162_r0 : BitVec 32 := Scalar.muli c0_i32_100_r0 c8_i32_101_r0
  let c1_i32_102_r0 : BitVec 32 := 1#32
  let v163_r0 : BitVec 32 := Scalar.addi v162_r0 c1_i32_102_r0
  let c1_i32_105_r0 : BitVec 32 := 1#32
  let v169_r0 : BitVec 32 := Scalar.addi v163_r0 c1_i32_105_r0
  let c256_i32_108_r0 : BitVec 32 := 256#32
  let v171_r0 : BitVec 32 := Scalar.muli v169_r0 c256_i32_108_r0
  v171_r0
def k0_mult626 : BitVec 32 :=
  let c0_i32_100_r0 : BitVec 32 := 0#32
  let c8_i32_101_r0 : BitVec 32 := 8#32
  let v162_r0 : BitVec 32 := Scalar.muli c0_i32_100_r0 c8_i32_101_r0
  let c1_i32_102_r0 : BitVec 32 := 1#32
  let v163_r0 : BitVec 32 := Scalar.addi v162_r0 c1_i32_102_r0
  let c1_i32_105_r0 : BitVec 32 := 1#32
  let v169_r0 : BitVec 32 := Scalar.addi v163_r0 c1_i32_105_r0
  let c256_i32_110_r0 : BitVec 32 := 256#32
  let v178_r0 : BitVec 32 := Scalar.muli v169_r0 c256_i32_110_r0
  v178_r0
def k0_mult627 : BitVec 32 :=
  let c0_i32_112_r0 : BitVec 32 := 0#32
  let c8_i32_113_r0 : BitVec 32 := 8#32
  let v185_r0 : BitVec 32 := Scalar.muli c0_i32_112_r0 c8_i32_113_r0
  let c2_i32_114_r0 : BitVec 32 := 2#32
  let v186_r0 : BitVec 32 := Scalar.addi v185_r0 c2_i32_114_r0
  let c256_i32_115_r0 : BitVec 32 := 256#32
  let v187_r0 : BitVec 32 := Scalar.muli v186_r0 c256_i32_115_r0
  v187_r0
def k0_mult628 : BitVec 32 :=
  let c0_i32_112_r0 : BitVec 32 := 0#32
  let c8_i32_113_r0 : BitVec 32 := 8#32
  let v185_r0 : BitVec 32 := Scalar.muli c0_i32_112_r0 c8_i32_113_r0
  let c2_i32_114_r0 : BitVec 32 := 2#32
  let v186_r0 : BitVec 32 := Scalar.addi v185_r0 c2_i32_114_r0
  let c1_i32_117_r0 : BitVec 32 := 1#32
  let v192_r0 : BitVec 32 := Scalar.addi v186_r0 c1_i32_117_r0
  let c256_i32_120_r0 : BitVec 32 := 256#32
  let v194_r0 : BitVec 32 := Scalar.muli v192_r0 c256_i32_120_r0
  v194_r0
def k0_mult629 : BitVec 32 :=
  let c0_i32_112_r0 : BitVec 32 := 0#32
  let c8_i32_113_r0 : BitVec 32 := 8#32
  let v185_r0 : BitVec 32 := Scalar.muli c0_i32_112_r0 c8_i32_113_r0
  let c2_i32_114_r0 : BitVec 32 := 2#32
  let v186_r0 : BitVec 32 := Scalar.addi v185_r0 c2_i32_114_r0
  let c1_i32_117_r0 : BitVec 32 := 1#32
  let v192_r0 : BitVec 32 := Scalar.addi v186_r0 c1_i32_117_r0
  let c256_i32_122_r0 : BitVec 32 := 256#32
  let v201_r0 : BitVec 32 := Scalar.muli v192_r0 c256_i32_122_r0
  v201_r0
def k0_mult630 : BitVec 32 :=
  let c0_i32_124_r0 : BitVec 32 := 0#32
  let c8_i32_125_r0 : BitVec 32 := 8#32
  let v208_r0 : BitVec 32 := Scalar.muli c0_i32_124_r0 c8_i32_125_r0
  let c3_i32_126_r0 : BitVec 32 := 3#32
  let v209_r0 : BitVec 32 := Scalar.addi v208_r0 c3_i32_126_r0
  let c256_i32_127_r0 : BitVec 32 := 256#32
  let v210_r0 : BitVec 32 := Scalar.muli v209_r0 c256_i32_127_r0
  v210_r0
def k0_mult631 : BitVec 32 :=
  let c0_i32_124_r0 : BitVec 32 := 0#32
  let c8_i32_125_r0 : BitVec 32 := 8#32
  let v208_r0 : BitVec 32 := Scalar.muli c0_i32_124_r0 c8_i32_125_r0
  let c3_i32_126_r0 : BitVec 32 := 3#32
  let v209_r0 : BitVec 32 := Scalar.addi v208_r0 c3_i32_126_r0
  let c1_i32_129_r0 : BitVec 32 := 1#32
  let v215_r0 : BitVec 32 := Scalar.addi v209_r0 c1_i32_129_r0
  let c256_i32_132_r0 : BitVec 32 := 256#32
  let v217_r0 : BitVec 32 := Scalar.muli v215_r0 c256_i32_132_r0
  v217_r0
def k0_mult632 : BitVec 32 :=
  let c0_i32_124_r0 : BitVec 32 := 0#32
  let c8_i32_125_r0 : BitVec 32 := 8#32
  let v208_r0 : BitVec 32 := Scalar.muli c0_i32_124_r0 c8_i32_125_r0
  let c3_i32_126_r0 : BitVec 32 := 3#32
  let v209_r0 : BitVec 32 := Scalar.addi v208_r0 c3_i32_126_r0
  let c1_i32_129_r0 : BitVec 32 := 1#32
  let v215_r0 : BitVec 32 := Scalar.addi v209_r0 c1_i32_129_r0
  let c256_i32_134_r0 : BitVec 32 := 256#32
  let v224_r0 : BitVec 32 := Scalar.muli v215_r0 c256_i32_134_r0
  v224_r0
def k0_mult633 : BitVec 32 :=
  let c0_i32_136_r0 : BitVec 32 := 0#32
  let c8_i32_137_r0 : BitVec 32 := 8#32
  let v231_r0 : BitVec 32 := Scalar.muli c0_i32_136_r0 c8_i32_137_r0
  let c4_i32_138_r0 : BitVec 32 := 4#32
  let v232_r0 : BitVec 32 := Scalar.addi v231_r0 c4_i32_138_r0
  let c256_i32_139_r0 : BitVec 32 := 256#32
  let v233_r0 : BitVec 32 := Scalar.muli v232_r0 c256_i32_139_r0
  v233_r0
def k0_mult634 : BitVec 32 :=
  let c0_i32_136_r0 : BitVec 32 := 0#32
  let c8_i32_137_r0 : BitVec 32 := 8#32
  let v231_r0 : BitVec 32 := Scalar.muli c0_i32_136_r0 c8_i32_137_r0
  let c4_i32_138_r0 : BitVec 32 := 4#32
  let v232_r0 : BitVec 32 := Scalar.addi v231_r0 c4_i32_138_r0
  let c1_i32_141_r0 : BitVec 32 := 1#32
  let v238_r0 : BitVec 32 := Scalar.addi v232_r0 c1_i32_141_r0
  let c256_i32_144_r0 : BitVec 32 := 256#32
  let v240_r0 : BitVec 32 := Scalar.muli v238_r0 c256_i32_144_r0
  v240_r0
def k0_mult635 : BitVec 32 :=
  let c0_i32_136_r0 : BitVec 32 := 0#32
  let c8_i32_137_r0 : BitVec 32 := 8#32
  let v231_r0 : BitVec 32 := Scalar.muli c0_i32_136_r0 c8_i32_137_r0
  let c4_i32_138_r0 : BitVec 32 := 4#32
  let v232_r0 : BitVec 32 := Scalar.addi v231_r0 c4_i32_138_r0
  let c1_i32_141_r0 : BitVec 32 := 1#32
  let v238_r0 : BitVec 32 := Scalar.addi v232_r0 c1_i32_141_r0
  let c256_i32_146_r0 : BitVec 32 := 256#32
  let v247_r0 : BitVec 32 := Scalar.muli v238_r0 c256_i32_146_r0
  v247_r0
def k0_mult636 : BitVec 32 :=
  let c0_i32_152_r0 : BitVec 32 := 0#32
  let c8_i32_153_r0 : BitVec 32 := 8#32
  let v262_r0 : BitVec 32 := Scalar.muli c0_i32_152_r0 c8_i32_153_r0
  let c5_i32_154_r0 : BitVec 32 := 5#32
  let v263_r0 : BitVec 32 := Scalar.addi v262_r0 c5_i32_154_r0
  let c256_i32_155_r0 : BitVec 32 := 256#32
  let v264_r0 : BitVec 32 := Scalar.muli v263_r0 c256_i32_155_r0
  v264_r0
def k0_mult637 : BitVec 32 :=
  let c0_i32_152_r0 : BitVec 32 := 0#32
  let c8_i32_153_r0 : BitVec 32 := 8#32
  let v262_r0 : BitVec 32 := Scalar.muli c0_i32_152_r0 c8_i32_153_r0
  let c5_i32_154_r0 : BitVec 32 := 5#32
  let v263_r0 : BitVec 32 := Scalar.addi v262_r0 c5_i32_154_r0
  let c1_i32_157_r0 : BitVec 32 := 1#32
  let v269_r0 : BitVec 32 := Scalar.addi v263_r0 c1_i32_157_r0
  let c256_i32_160_r0 : BitVec 32 := 256#32
  let v271_r0 : BitVec 32 := Scalar.muli v269_r0 c256_i32_160_r0
  v271_r0
def k0_mult638 : BitVec 32 :=
  let c0_i32_152_r0 : BitVec 32 := 0#32
  let c8_i32_153_r0 : BitVec 32 := 8#32
  let v262_r0 : BitVec 32 := Scalar.muli c0_i32_152_r0 c8_i32_153_r0
  let c5_i32_154_r0 : BitVec 32 := 5#32
  let v263_r0 : BitVec 32 := Scalar.addi v262_r0 c5_i32_154_r0
  let c1_i32_157_r0 : BitVec 32 := 1#32
  let v269_r0 : BitVec 32 := Scalar.addi v263_r0 c1_i32_157_r0
  let c256_i32_162_r0 : BitVec 32 := 256#32
  let v278_r0 : BitVec 32 := Scalar.muli v269_r0 c256_i32_162_r0
  v278_r0
def k0_mult639 : BitVec 32 :=
  let c0_i32_164_r0 : BitVec 32 := 0#32
  let c8_i32_165_r0 : BitVec 32 := 8#32
  let v285_r0 : BitVec 32 := Scalar.muli c0_i32_164_r0 c8_i32_165_r0
  let c6_i32_166_r0 : BitVec 32 := 6#32
  let v286_r0 : BitVec 32 := Scalar.addi v285_r0 c6_i32_166_r0
  let c256_i32_167_r0 : BitVec 32 := 256#32
  let v287_r0 : BitVec 32 := Scalar.muli v286_r0 c256_i32_167_r0
  v287_r0
def k0_mult640 : BitVec 32 :=
  let c0_i32_164_r0 : BitVec 32 := 0#32
  let c8_i32_165_r0 : BitVec 32 := 8#32
  let v285_r0 : BitVec 32 := Scalar.muli c0_i32_164_r0 c8_i32_165_r0
  let c6_i32_166_r0 : BitVec 32 := 6#32
  let v286_r0 : BitVec 32 := Scalar.addi v285_r0 c6_i32_166_r0
  let c1_i32_169_r0 : BitVec 32 := 1#32
  let v292_r0 : BitVec 32 := Scalar.addi v286_r0 c1_i32_169_r0
  let c256_i32_172_r0 : BitVec 32 := 256#32
  let v294_r0 : BitVec 32 := Scalar.muli v292_r0 c256_i32_172_r0
  v294_r0
def k0_mult641 : BitVec 32 :=
  let c0_i32_164_r0 : BitVec 32 := 0#32
  let c8_i32_165_r0 : BitVec 32 := 8#32
  let v285_r0 : BitVec 32 := Scalar.muli c0_i32_164_r0 c8_i32_165_r0
  let c6_i32_166_r0 : BitVec 32 := 6#32
  let v286_r0 : BitVec 32 := Scalar.addi v285_r0 c6_i32_166_r0
  let c1_i32_169_r0 : BitVec 32 := 1#32
  let v292_r0 : BitVec 32 := Scalar.addi v286_r0 c1_i32_169_r0
  let c256_i32_174_r0 : BitVec 32 := 256#32
  let v301_r0 : BitVec 32 := Scalar.muli v292_r0 c256_i32_174_r0
  v301_r0
def k0_mult642 : BitVec 32 :=
  let c0_i32_176_r0 : BitVec 32 := 0#32
  let c8_i32_177_r0 : BitVec 32 := 8#32
  let v308_r0 : BitVec 32 := Scalar.muli c0_i32_176_r0 c8_i32_177_r0
  let c7_i32_178_r0 : BitVec 32 := 7#32
  let v309_r0 : BitVec 32 := Scalar.addi v308_r0 c7_i32_178_r0
  let c256_i32_179_r0 : BitVec 32 := 256#32
  let v310_r0 : BitVec 32 := Scalar.muli v309_r0 c256_i32_179_r0
  v310_r0
def k0_mult643 : BitVec 32 :=
  let c0_i32_176_r0 : BitVec 32 := 0#32
  let c8_i32_177_r0 : BitVec 32 := 8#32
  let v308_r0 : BitVec 32 := Scalar.muli c0_i32_176_r0 c8_i32_177_r0
  let c7_i32_178_r0 : BitVec 32 := 7#32
  let v309_r0 : BitVec 32 := Scalar.addi v308_r0 c7_i32_178_r0
  let c1_i32_184_r0 : BitVec 32 := 1#32
  let v318_r0 : BitVec 32 := Scalar.addi v309_r0 c1_i32_184_r0
  let c32_i32_185_r0 : BitVec 32 := 32#32
  let v319_r0 : BitVec 32 := Scalar.remsi v318_r0 c32_i32_185_r0
  let c256_i32_187_r0 : BitVec 32 := 256#32
  let v321_r0 : BitVec 32 := Scalar.muli v319_r0 c256_i32_187_r0
  v321_r0
def k0_off284 : Fin 3 → Nat :=
  let c36_i32_183_r0 : BitVec 32 := 36#32
  let c0_i32_176_r0 : BitVec 32 := 0#32
  let c8_i32_177_r0 : BitVec 32 := 8#32
  let v308_r0 : BitVec 32 := Scalar.muli c0_i32_176_r0 c8_i32_177_r0
  let c7_i32_178_r0 : BitVec 32 := 7#32
  let v309_r0 : BitVec 32 := Scalar.addi v308_r0 c7_i32_178_r0
  let c1_i32_181_r0 : BitVec 32 := 1#32
  let v315_r0 : BitVec 32 := Scalar.addi v309_r0 c1_i32_181_r0
  let c32_i32_182_r0 : BitVec 32 := 32#32
  let v316_r0 : BitVec 32 := Scalar.divsi v315_r0 c32_i32_182_r0
  let v317_r0 : BitVec 32 := Scalar.addi c36_i32_183_r0 v316_r0
  let c8_i32_186_r0 : BitVec 32 := 8#32
  let v320_r0 : BitVec 32 := Scalar.remsi v317_r0 c8_i32_186_r0
  let v323_r0 : Index := Scalar.indexCast v320_r0
  let c0_188_r0 : Index := 0#32
  let c1_i32_184_r0 : BitVec 32 := 1#32
  let v318_r0 : BitVec 32 := Scalar.addi v309_r0 c1_i32_184_r0
  let c32_i32_185_r0 : BitVec 32 := 32#32
  let v319_r0 : BitVec 32 := Scalar.remsi v318_r0 c32_i32_185_r0
  let c256_i32_187_r0 : BitVec 32 := 256#32
  let v321_r0 : BitVec 32 := Scalar.muli v319_r0 c256_i32_187_r0
  let v322_r0 : BitVec 32 := v321_r0
  let v324_r0 : Index := Scalar.indexCast v322_r0
  ![v323_r0.toNat, 0, v324_r0.toNat]
def k0_mult644 : BitVec 32 :=
  let c0_i32_176_r0 : BitVec 32 := 0#32
  let c8_i32_177_r0 : BitVec 32 := 8#32
  let v308_r0 : BitVec 32 := Scalar.muli c0_i32_176_r0 c8_i32_177_r0
  let c7_i32_178_r0 : BitVec 32 := 7#32
  let v309_r0 : BitVec 32 := Scalar.addi v308_r0 c7_i32_178_r0
  let c1_i32_184_r0 : BitVec 32 := 1#32
  let v318_r0 : BitVec 32 := Scalar.addi v309_r0 c1_i32_184_r0
  let c32_i32_185_r0 : BitVec 32 := 32#32
  let v319_r0 : BitVec 32 := Scalar.remsi v318_r0 c32_i32_185_r0
  let c256_i32_189_r0 : BitVec 32 := 256#32
  let v328_r0 : BitVec 32 := Scalar.muli v319_r0 c256_i32_189_r0
  v328_r0
def k0_off285 : Fin 3 → Nat :=
  let c36_i32_183_r0 : BitVec 32 := 36#32
  let c0_i32_176_r0 : BitVec 32 := 0#32
  let c8_i32_177_r0 : BitVec 32 := 8#32
  let v308_r0 : BitVec 32 := Scalar.muli c0_i32_176_r0 c8_i32_177_r0
  let c7_i32_178_r0 : BitVec 32 := 7#32
  let v309_r0 : BitVec 32 := Scalar.addi v308_r0 c7_i32_178_r0
  let c1_i32_181_r0 : BitVec 32 := 1#32
  let v315_r0 : BitVec 32 := Scalar.addi v309_r0 c1_i32_181_r0
  let c32_i32_182_r0 : BitVec 32 := 32#32
  let v316_r0 : BitVec 32 := Scalar.divsi v315_r0 c32_i32_182_r0
  let v317_r0 : BitVec 32 := Scalar.addi c36_i32_183_r0 v316_r0
  let c8_i32_186_r0 : BitVec 32 := 8#32
  let v320_r0 : BitVec 32 := Scalar.remsi v317_r0 c8_i32_186_r0
  let v330_r0 : Index := Scalar.indexCast v320_r0
  let c256_190_r0 : Index := 256#32
  let c1_i32_184_r0 : BitVec 32 := 1#32
  let v318_r0 : BitVec 32 := Scalar.addi v309_r0 c1_i32_184_r0
  let c32_i32_185_r0 : BitVec 32 := 32#32
  let v319_r0 : BitVec 32 := Scalar.remsi v318_r0 c32_i32_185_r0
  let c256_i32_189_r0 : BitVec 32 := 256#32
  let v328_r0 : BitVec 32 := Scalar.muli v319_r0 c256_i32_189_r0
  let v329_r0 : BitVec 32 := v328_r0
  let v331_r0 : Index := Scalar.indexCast v329_r0
  ![v330_r0.toNat, 256, v331_r0.toNat]
@[reducible] def k0_t13_loop (i : grid0.Coords) : Scf.Loop 32 :=
  let c0_i32_197_r0 : BitVec 32 := 0#32
  let c3_i32_192_r0 : BitVec 32 := 3#32
  let arg0 : BitVec 32 := BitVec.ofNat 32 (i 0).val
  let c1_i32_191_r0 : BitVec 32 := 1#32
  let v335_r0 : BitVec 32 := Scalar.addi arg0 c1_i32_191_r0
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_199_r0 : BitVec 32 := 1#32
  ⟨c0_i32_197_r0, v344_r0, c1_i32_199_r0⟩
def k0_mult645 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c256_i32_587_r0 : BitVec 32 := 256#32
  let v1205_r0 : BitVec 32 := Scalar.muli v1204_r0 c256_i32_587_r0
  v1205_r0
def k0_off286 (i : grid0.Coords) (k0_t13 : Fin (k0_t13_loop i).trips) (c0_i32_586_r0 : BitVec 32) : Fin 2 → Nat :=
  let c0_588_r0 : Index := 0#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c256_i32_587_r0 : BitVec 32 := 256#32
  let v1205_r0 : BitVec 32 := Scalar.muli v1204_r0 c256_i32_587_r0
  let v1206_r0 : BitVec 32 := v1205_r0
  let v1207_r0 : Index := Scalar.indexCast v1206_r0
  ![0, v1207_r0.toNat]
def k0_mult646 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c1_i32_589_r0 : BitVec 32 := 1#32
  let v1210_r0 : BitVec 32 := Scalar.addi v1204_r0 c1_i32_589_r0
  let c256_i32_592_r0 : BitVec 32 := 256#32
  let v1212_r0 : BitVec 32 := Scalar.muli v1210_r0 c256_i32_592_r0
  v1212_r0
def k0_off287 (i : grid0.Coords) (k0_t13 : Fin (k0_t13_loop i).trips) (c0_i32_586_r0 : BitVec 32) : Fin 3 → Nat :=
  let c36_i32_590_r0 : BitVec 32 := 36#32
  let c8_i32_591_r0 : BitVec 32 := 8#32
  let v1211_r0 : BitVec 32 := Scalar.remsi c36_i32_590_r0 c8_i32_591_r0
  let v1214_r0 : Index := Scalar.indexCast v1211_r0
  let c0_593_r0 : Index := 0#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c1_i32_589_r0 : BitVec 32 := 1#32
  let v1210_r0 : BitVec 32 := Scalar.addi v1204_r0 c1_i32_589_r0
  let c256_i32_592_r0 : BitVec 32 := 256#32
  let v1212_r0 : BitVec 32 := Scalar.muli v1210_r0 c256_i32_592_r0
  let v1213_r0 : BitVec 32 := v1212_r0
  let v1215_r0 : Index := Scalar.indexCast v1213_r0
  ![v1214_r0.toNat, 0, v1215_r0.toNat]
def k0_mult647 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c1_i32_589_r0 : BitVec 32 := 1#32
  let v1210_r0 : BitVec 32 := Scalar.addi v1204_r0 c1_i32_589_r0
  let c256_i32_594_r0 : BitVec 32 := 256#32
  let v1219_r0 : BitVec 32 := Scalar.muli v1210_r0 c256_i32_594_r0
  v1219_r0
def k0_off288 (i : grid0.Coords) (k0_t13 : Fin (k0_t13_loop i).trips) (c0_i32_586_r0 : BitVec 32) : Fin 3 → Nat :=
  let c36_i32_590_r0 : BitVec 32 := 36#32
  let c8_i32_591_r0 : BitVec 32 := 8#32
  let v1211_r0 : BitVec 32 := Scalar.remsi c36_i32_590_r0 c8_i32_591_r0
  let v1221_r0 : Index := Scalar.indexCast v1211_r0
  let c256_595_r0 : Index := 256#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c1_i32_589_r0 : BitVec 32 := 1#32
  let v1210_r0 : BitVec 32 := Scalar.addi v1204_r0 c1_i32_589_r0
  let c256_i32_594_r0 : BitVec 32 := 256#32
  let v1219_r0 : BitVec 32 := Scalar.muli v1210_r0 c256_i32_594_r0
  let v1220_r0 : BitVec 32 := v1219_r0
  let v1222_r0 : Index := Scalar.indexCast v1220_r0
  ![v1221_r0.toNat, 256, v1222_r0.toNat]
def k0_mult648 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let c0_i32_598_r0 : BitVec 32 := 0#32
  let v1228_r0 : BitVec 32 := Scalar.addi v1227_r0 c0_i32_598_r0
  let c8_i32_602_r0 : BitVec 32 := 8#32
  let v1231_r0 : BitVec 32 := Scalar.muli v1228_r0 c8_i32_602_r0
  v1231_r0
def k0_off289 (i : grid0.Coords) (k0_t13 : Fin (k0_t13_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1233_r0 : Index := Scalar.indexCast v1232_r0
  let c0_603_r0 : Index := 0#32
  ![v1233_r0.toNat, 0]
def k0_off290 (c0_i32_604_r0 : BitVec 32) : Fin 2 → Nat :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let v1235_r0 : BitVec 32 := Scalar.addi v1230_r0 c0_i32_604_r0
  let v1236_r0 : Index := Scalar.indexCast v1235_r0
  let c0_605_r0 : Index := 0#32
  ![v1236_r0.toNat, 0]
def k0_off291 (i : grid0.Coords) (k0_t13 : Fin (k0_t13_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1243_r0 : Index := Scalar.indexCast v1232_r0
  let c0_610_r0 : Index := 0#32
  ![v1243_r0.toNat, 0]
def k0_mult649 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c0_i32_611_r0 : BitVec 32 := 0#32
  let v1250_r0 : BitVec 32 := Scalar.addi v1230_r0 c0_i32_611_r0
  let c128_i32_612_r0 : BitVec 32 := 128#32
  let v1251_r0 : BitVec 32 := Scalar.muli v1250_r0 c128_i32_612_r0
  v1251_r0
def k0_off292 (i : grid0.Coords) (k0_t13 : Fin (k0_t13_loop i).trips) (c0_i32_598_r0 : BitVec 32) (c0_i32_611_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1253_r0 : Index := Scalar.indexCast v1232_r0
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let v1250_r0 : BitVec 32 := Scalar.addi v1230_r0 c0_i32_611_r0
  let c128_i32_612_r0 : BitVec 32 := 128#32
  let v1251_r0 : BitVec 32 := Scalar.muli v1250_r0 c128_i32_612_r0
  let v1252_r0 : BitVec 32 := v1251_r0
  let v1254_r0 : Index := Scalar.indexCast v1252_r0
  ![v1253_r0.toNat, v1254_r0.toNat]
def k0_off293 (i : grid0.Coords) (k0_t13 : Fin (k0_t13_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1264_r0 : Index := Scalar.indexCast v1232_r0
  let c128_619_r0 : Index := 128#32
  ![v1264_r0.toNat, 128]
def k0_mult650 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c1_i32_620_r0 : BitVec 32 := 1#32
  let v1271_r0 : BitVec 32 := Scalar.addi v1230_r0 c1_i32_620_r0
  let c128_i32_621_r0 : BitVec 32 := 128#32
  let v1272_r0 : BitVec 32 := Scalar.muli v1271_r0 c128_i32_621_r0
  v1272_r0
def k0_off294 (i : grid0.Coords) (k0_t13 : Fin (k0_t13_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1285_r0 : Index := Scalar.indexCast v1232_r0
  let c256_628_r0 : Index := 256#32
  ![v1285_r0.toNat, 256]
def k0_mult651 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c2_i32_629_r0 : BitVec 32 := 2#32
  let v1292_r0 : BitVec 32 := Scalar.addi v1230_r0 c2_i32_629_r0
  let c128_i32_630_r0 : BitVec 32 := 128#32
  let v1293_r0 : BitVec 32 := Scalar.muli v1292_r0 c128_i32_630_r0
  v1293_r0
def k0_off295 (i : grid0.Coords) (k0_t13 : Fin (k0_t13_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1306_r0 : Index := Scalar.indexCast v1232_r0
  let c384_637_r0 : Index := 384#32
  ![v1306_r0.toNat, 384]
def k0_mult652 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c3_i32_638_r0 : BitVec 32 := 3#32
  let v1313_r0 : BitVec 32 := Scalar.addi v1230_r0 c3_i32_638_r0
  let c128_i32_639_r0 : BitVec 32 := 128#32
  let v1314_r0 : BitVec 32 := Scalar.muli v1313_r0 c128_i32_639_r0
  v1314_r0
def k0_mult653 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_640_r0 : BitVec 32 := 8#32
  let v1319_r0 : BitVec 32 := Scalar.muli v1202_r0 c8_i32_640_r0
  let c1_i32_641_r0 : BitVec 32 := 1#32
  let v1320_r0 : BitVec 32 := Scalar.addi v1319_r0 c1_i32_641_r0
  let c256_i32_642_r0 : BitVec 32 := 256#32
  let v1321_r0 : BitVec 32 := Scalar.muli v1320_r0 c256_i32_642_r0
  v1321_r0
def k0_mult654 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_640_r0 : BitVec 32 := 8#32
  let v1319_r0 : BitVec 32 := Scalar.muli v1202_r0 c8_i32_640_r0
  let c1_i32_641_r0 : BitVec 32 := 1#32
  let v1320_r0 : BitVec 32 := Scalar.addi v1319_r0 c1_i32_641_r0
  let c1_i32_644_r0 : BitVec 32 := 1#32
  let v1326_r0 : BitVec 32 := Scalar.addi v1320_r0 c1_i32_644_r0
  let c256_i32_647_r0 : BitVec 32 := 256#32
  let v1328_r0 : BitVec 32 := Scalar.muli v1326_r0 c256_i32_647_r0
  v1328_r0
def k0_mult655 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_640_r0 : BitVec 32 := 8#32
  let v1319_r0 : BitVec 32 := Scalar.muli v1202_r0 c8_i32_640_r0
  let c1_i32_641_r0 : BitVec 32 := 1#32
  let v1320_r0 : BitVec 32 := Scalar.addi v1319_r0 c1_i32_641_r0
  let c1_i32_644_r0 : BitVec 32 := 1#32
  let v1326_r0 : BitVec 32 := Scalar.addi v1320_r0 c1_i32_644_r0
  let c256_i32_649_r0 : BitVec 32 := 256#32
  let v1335_r0 : BitVec 32 := Scalar.muli v1326_r0 c256_i32_649_r0
  v1335_r0
def k0_mult656 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_651_r0 : BitVec 32 := 1#32
  let v1342_r0 : BitVec 32 := Scalar.subi v1202_r0 c1_i32_651_r0
  let c8_i32_652_r0 : BitVec 32 := 8#32
  let v1343_r0 : BitVec 32 := Scalar.muli v1342_r0 c8_i32_652_r0
  let c1_i32_653_r0 : BitVec 32 := 1#32
  let v1344_r0 : BitVec 32 := Scalar.addi v1343_r0 c1_i32_653_r0
  let c8_i32_657_r0 : BitVec 32 := 8#32
  let v1347_r0 : BitVec 32 := Scalar.muli v1344_r0 c8_i32_657_r0
  v1347_r0
def k0_mult657 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c0_i32_666_r0 : BitVec 32 := 0#32
  let v1366_r0 : BitVec 32 := Scalar.addi v1346_r0 c0_i32_666_r0
  let c128_i32_667_r0 : BitVec 32 := 128#32
  let v1367_r0 : BitVec 32 := Scalar.muli v1366_r0 c128_i32_667_r0
  v1367_r0
def k0_mult658 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c1_i32_675_r0 : BitVec 32 := 1#32
  let v1387_r0 : BitVec 32 := Scalar.addi v1346_r0 c1_i32_675_r0
  let c128_i32_676_r0 : BitVec 32 := 128#32
  let v1388_r0 : BitVec 32 := Scalar.muli v1387_r0 c128_i32_676_r0
  v1388_r0
def k0_mult659 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c2_i32_684_r0 : BitVec 32 := 2#32
  let v1408_r0 : BitVec 32 := Scalar.addi v1346_r0 c2_i32_684_r0
  let c128_i32_685_r0 : BitVec 32 := 128#32
  let v1409_r0 : BitVec 32 := Scalar.muli v1408_r0 c128_i32_685_r0
  v1409_r0
def k0_mult660 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c3_i32_693_r0 : BitVec 32 := 3#32
  let v1429_r0 : BitVec 32 := Scalar.addi v1346_r0 c3_i32_693_r0
  let c128_i32_694_r0 : BitVec 32 := 128#32
  let v1430_r0 : BitVec 32 := Scalar.muli v1429_r0 c128_i32_694_r0
  v1430_r0
def k0_mult661 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_695_r0 : BitVec 32 := 8#32
  let v1435_r0 : BitVec 32 := Scalar.muli v1202_r0 c8_i32_695_r0
  let c2_i32_696_r0 : BitVec 32 := 2#32
  let v1436_r0 : BitVec 32 := Scalar.addi v1435_r0 c2_i32_696_r0
  let c256_i32_697_r0 : BitVec 32 := 256#32
  let v1437_r0 : BitVec 32 := Scalar.muli v1436_r0 c256_i32_697_r0
  v1437_r0
def k0_mult662 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_695_r0 : BitVec 32 := 8#32
  let v1435_r0 : BitVec 32 := Scalar.muli v1202_r0 c8_i32_695_r0
  let c2_i32_696_r0 : BitVec 32 := 2#32
  let v1436_r0 : BitVec 32 := Scalar.addi v1435_r0 c2_i32_696_r0
  let c1_i32_699_r0 : BitVec 32 := 1#32
  let v1442_r0 : BitVec 32 := Scalar.addi v1436_r0 c1_i32_699_r0
  let c256_i32_702_r0 : BitVec 32 := 256#32
  let v1444_r0 : BitVec 32 := Scalar.muli v1442_r0 c256_i32_702_r0
  v1444_r0
def k0_mult663 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_695_r0 : BitVec 32 := 8#32
  let v1435_r0 : BitVec 32 := Scalar.muli v1202_r0 c8_i32_695_r0
  let c2_i32_696_r0 : BitVec 32 := 2#32
  let v1436_r0 : BitVec 32 := Scalar.addi v1435_r0 c2_i32_696_r0
  let c1_i32_699_r0 : BitVec 32 := 1#32
  let v1442_r0 : BitVec 32 := Scalar.addi v1436_r0 c1_i32_699_r0
  let c256_i32_704_r0 : BitVec 32 := 256#32
  let v1451_r0 : BitVec 32 := Scalar.muli v1442_r0 c256_i32_704_r0
  v1451_r0
def k0_mult664 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_706_r0 : BitVec 32 := 1#32
  let v1458_r0 : BitVec 32 := Scalar.subi v1202_r0 c1_i32_706_r0
  let c8_i32_707_r0 : BitVec 32 := 8#32
  let v1459_r0 : BitVec 32 := Scalar.muli v1458_r0 c8_i32_707_r0
  let c2_i32_708_r0 : BitVec 32 := 2#32
  let v1460_r0 : BitVec 32 := Scalar.addi v1459_r0 c2_i32_708_r0
  let c8_i32_712_r0 : BitVec 32 := 8#32
  let v1463_r0 : BitVec 32 := Scalar.muli v1460_r0 c8_i32_712_r0
  v1463_r0
def k0_mult665 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c0_i32_721_r0 : BitVec 32 := 0#32
  let v1482_r0 : BitVec 32 := Scalar.addi v1462_r0 c0_i32_721_r0
  let c128_i32_722_r0 : BitVec 32 := 128#32
  let v1483_r0 : BitVec 32 := Scalar.muli v1482_r0 c128_i32_722_r0
  v1483_r0
def k0_mult666 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c1_i32_730_r0 : BitVec 32 := 1#32
  let v1503_r0 : BitVec 32 := Scalar.addi v1462_r0 c1_i32_730_r0
  let c128_i32_731_r0 : BitVec 32 := 128#32
  let v1504_r0 : BitVec 32 := Scalar.muli v1503_r0 c128_i32_731_r0
  v1504_r0
def k0_mult667 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c2_i32_739_r0 : BitVec 32 := 2#32
  let v1524_r0 : BitVec 32 := Scalar.addi v1462_r0 c2_i32_739_r0
  let c128_i32_740_r0 : BitVec 32 := 128#32
  let v1525_r0 : BitVec 32 := Scalar.muli v1524_r0 c128_i32_740_r0
  v1525_r0
def k0_mult668 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c3_i32_748_r0 : BitVec 32 := 3#32
  let v1545_r0 : BitVec 32 := Scalar.addi v1462_r0 c3_i32_748_r0
  let c128_i32_749_r0 : BitVec 32 := 128#32
  let v1546_r0 : BitVec 32 := Scalar.muli v1545_r0 c128_i32_749_r0
  v1546_r0
def k0_mult669 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_750_r0 : BitVec 32 := 8#32
  let v1551_r0 : BitVec 32 := Scalar.muli v1202_r0 c8_i32_750_r0
  let c3_i32_751_r0 : BitVec 32 := 3#32
  let v1552_r0 : BitVec 32 := Scalar.addi v1551_r0 c3_i32_751_r0
  let c256_i32_752_r0 : BitVec 32 := 256#32
  let v1553_r0 : BitVec 32 := Scalar.muli v1552_r0 c256_i32_752_r0
  v1553_r0
def k0_mult670 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_750_r0 : BitVec 32 := 8#32
  let v1551_r0 : BitVec 32 := Scalar.muli v1202_r0 c8_i32_750_r0
  let c3_i32_751_r0 : BitVec 32 := 3#32
  let v1552_r0 : BitVec 32 := Scalar.addi v1551_r0 c3_i32_751_r0
  let c1_i32_754_r0 : BitVec 32 := 1#32
  let v1558_r0 : BitVec 32 := Scalar.addi v1552_r0 c1_i32_754_r0
  let c256_i32_757_r0 : BitVec 32 := 256#32
  let v1560_r0 : BitVec 32 := Scalar.muli v1558_r0 c256_i32_757_r0
  v1560_r0
def k0_mult671 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_750_r0 : BitVec 32 := 8#32
  let v1551_r0 : BitVec 32 := Scalar.muli v1202_r0 c8_i32_750_r0
  let c3_i32_751_r0 : BitVec 32 := 3#32
  let v1552_r0 : BitVec 32 := Scalar.addi v1551_r0 c3_i32_751_r0
  let c1_i32_754_r0 : BitVec 32 := 1#32
  let v1558_r0 : BitVec 32 := Scalar.addi v1552_r0 c1_i32_754_r0
  let c256_i32_759_r0 : BitVec 32 := 256#32
  let v1567_r0 : BitVec 32 := Scalar.muli v1558_r0 c256_i32_759_r0
  v1567_r0
def k0_mult672 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_761_r0 : BitVec 32 := 1#32
  let v1574_r0 : BitVec 32 := Scalar.subi v1202_r0 c1_i32_761_r0
  let c8_i32_762_r0 : BitVec 32 := 8#32
  let v1575_r0 : BitVec 32 := Scalar.muli v1574_r0 c8_i32_762_r0
  let c3_i32_763_r0 : BitVec 32 := 3#32
  let v1576_r0 : BitVec 32 := Scalar.addi v1575_r0 c3_i32_763_r0
  let c8_i32_767_r0 : BitVec 32 := 8#32
  let v1579_r0 : BitVec 32 := Scalar.muli v1576_r0 c8_i32_767_r0
  v1579_r0
def k0_mult673 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c0_i32_776_r0 : BitVec 32 := 0#32
  let v1598_r0 : BitVec 32 := Scalar.addi v1578_r0 c0_i32_776_r0
  let c128_i32_777_r0 : BitVec 32 := 128#32
  let v1599_r0 : BitVec 32 := Scalar.muli v1598_r0 c128_i32_777_r0
  v1599_r0
def k0_mult674 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c1_i32_785_r0 : BitVec 32 := 1#32
  let v1619_r0 : BitVec 32 := Scalar.addi v1578_r0 c1_i32_785_r0
  let c128_i32_786_r0 : BitVec 32 := 128#32
  let v1620_r0 : BitVec 32 := Scalar.muli v1619_r0 c128_i32_786_r0
  v1620_r0
def k0_mult675 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c2_i32_794_r0 : BitVec 32 := 2#32
  let v1640_r0 : BitVec 32 := Scalar.addi v1578_r0 c2_i32_794_r0
  let c128_i32_795_r0 : BitVec 32 := 128#32
  let v1641_r0 : BitVec 32 := Scalar.muli v1640_r0 c128_i32_795_r0
  v1641_r0
def k0_mult676 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c3_i32_803_r0 : BitVec 32 := 3#32
  let v1661_r0 : BitVec 32 := Scalar.addi v1578_r0 c3_i32_803_r0
  let c128_i32_804_r0 : BitVec 32 := 128#32
  let v1662_r0 : BitVec 32 := Scalar.muli v1661_r0 c128_i32_804_r0
  v1662_r0
def k0_mult677 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_805_r0 : BitVec 32 := 8#32
  let v1667_r0 : BitVec 32 := Scalar.muli v1202_r0 c8_i32_805_r0
  let c4_i32_806_r0 : BitVec 32 := 4#32
  let v1668_r0 : BitVec 32 := Scalar.addi v1667_r0 c4_i32_806_r0
  let c256_i32_807_r0 : BitVec 32 := 256#32
  let v1669_r0 : BitVec 32 := Scalar.muli v1668_r0 c256_i32_807_r0
  v1669_r0
def k0_mult678 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_805_r0 : BitVec 32 := 8#32
  let v1667_r0 : BitVec 32 := Scalar.muli v1202_r0 c8_i32_805_r0
  let c4_i32_806_r0 : BitVec 32 := 4#32
  let v1668_r0 : BitVec 32 := Scalar.addi v1667_r0 c4_i32_806_r0
  let c1_i32_809_r0 : BitVec 32 := 1#32
  let v1674_r0 : BitVec 32 := Scalar.addi v1668_r0 c1_i32_809_r0
  let c256_i32_812_r0 : BitVec 32 := 256#32
  let v1676_r0 : BitVec 32 := Scalar.muli v1674_r0 c256_i32_812_r0
  v1676_r0
def k0_mult679 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_805_r0 : BitVec 32 := 8#32
  let v1667_r0 : BitVec 32 := Scalar.muli v1202_r0 c8_i32_805_r0
  let c4_i32_806_r0 : BitVec 32 := 4#32
  let v1668_r0 : BitVec 32 := Scalar.addi v1667_r0 c4_i32_806_r0
  let c1_i32_809_r0 : BitVec 32 := 1#32
  let v1674_r0 : BitVec 32 := Scalar.addi v1668_r0 c1_i32_809_r0
  let c256_i32_814_r0 : BitVec 32 := 256#32
  let v1683_r0 : BitVec 32 := Scalar.muli v1674_r0 c256_i32_814_r0
  v1683_r0
def k0_mult680 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_816_r0 : BitVec 32 := 1#32
  let v1690_r0 : BitVec 32 := Scalar.subi v1202_r0 c1_i32_816_r0
  let c8_i32_817_r0 : BitVec 32 := 8#32
  let v1691_r0 : BitVec 32 := Scalar.muli v1690_r0 c8_i32_817_r0
  let c4_i32_818_r0 : BitVec 32 := 4#32
  let v1692_r0 : BitVec 32 := Scalar.addi v1691_r0 c4_i32_818_r0
  let c8_i32_822_r0 : BitVec 32 := 8#32
  let v1695_r0 : BitVec 32 := Scalar.muli v1692_r0 c8_i32_822_r0
  v1695_r0
def k0_mult681 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c0_i32_831_r0 : BitVec 32 := 0#32
  let v1714_r0 : BitVec 32 := Scalar.addi v1694_r0 c0_i32_831_r0
  let c128_i32_832_r0 : BitVec 32 := 128#32
  let v1715_r0 : BitVec 32 := Scalar.muli v1714_r0 c128_i32_832_r0
  v1715_r0
def k0_mult682 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c1_i32_840_r0 : BitVec 32 := 1#32
  let v1735_r0 : BitVec 32 := Scalar.addi v1694_r0 c1_i32_840_r0
  let c128_i32_841_r0 : BitVec 32 := 128#32
  let v1736_r0 : BitVec 32 := Scalar.muli v1735_r0 c128_i32_841_r0
  v1736_r0
def k0_mult683 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c2_i32_849_r0 : BitVec 32 := 2#32
  let v1756_r0 : BitVec 32 := Scalar.addi v1694_r0 c2_i32_849_r0
  let c128_i32_850_r0 : BitVec 32 := 128#32
  let v1757_r0 : BitVec 32 := Scalar.muli v1756_r0 c128_i32_850_r0
  v1757_r0
def k0_mult684 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c3_i32_858_r0 : BitVec 32 := 3#32
  let v1777_r0 : BitVec 32 := Scalar.addi v1694_r0 c3_i32_858_r0
  let c128_i32_859_r0 : BitVec 32 := 128#32
  let v1778_r0 : BitVec 32 := Scalar.muli v1777_r0 c128_i32_859_r0
  v1778_r0
def k0_mult685 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_860_r0 : BitVec 32 := 8#32
  let v1783_r0 : BitVec 32 := Scalar.muli v1202_r0 c8_i32_860_r0
  let c5_i32_861_r0 : BitVec 32 := 5#32
  let v1784_r0 : BitVec 32 := Scalar.addi v1783_r0 c5_i32_861_r0
  let c256_i32_862_r0 : BitVec 32 := 256#32
  let v1785_r0 : BitVec 32 := Scalar.muli v1784_r0 c256_i32_862_r0
  v1785_r0
def k0_mult686 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_860_r0 : BitVec 32 := 8#32
  let v1783_r0 : BitVec 32 := Scalar.muli v1202_r0 c8_i32_860_r0
  let c5_i32_861_r0 : BitVec 32 := 5#32
  let v1784_r0 : BitVec 32 := Scalar.addi v1783_r0 c5_i32_861_r0
  let c1_i32_864_r0 : BitVec 32 := 1#32
  let v1790_r0 : BitVec 32 := Scalar.addi v1784_r0 c1_i32_864_r0
  let c256_i32_867_r0 : BitVec 32 := 256#32
  let v1792_r0 : BitVec 32 := Scalar.muli v1790_r0 c256_i32_867_r0
  v1792_r0
def k0_mult687 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_860_r0 : BitVec 32 := 8#32
  let v1783_r0 : BitVec 32 := Scalar.muli v1202_r0 c8_i32_860_r0
  let c5_i32_861_r0 : BitVec 32 := 5#32
  let v1784_r0 : BitVec 32 := Scalar.addi v1783_r0 c5_i32_861_r0
  let c1_i32_864_r0 : BitVec 32 := 1#32
  let v1790_r0 : BitVec 32 := Scalar.addi v1784_r0 c1_i32_864_r0
  let c256_i32_869_r0 : BitVec 32 := 256#32
  let v1799_r0 : BitVec 32 := Scalar.muli v1790_r0 c256_i32_869_r0
  v1799_r0
def k0_mult688 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_871_r0 : BitVec 32 := 1#32
  let v1806_r0 : BitVec 32 := Scalar.subi v1202_r0 c1_i32_871_r0
  let c8_i32_872_r0 : BitVec 32 := 8#32
  let v1807_r0 : BitVec 32 := Scalar.muli v1806_r0 c8_i32_872_r0
  let c5_i32_873_r0 : BitVec 32 := 5#32
  let v1808_r0 : BitVec 32 := Scalar.addi v1807_r0 c5_i32_873_r0
  let c8_i32_877_r0 : BitVec 32 := 8#32
  let v1811_r0 : BitVec 32 := Scalar.muli v1808_r0 c8_i32_877_r0
  v1811_r0
def k0_mult689 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c0_i32_886_r0 : BitVec 32 := 0#32
  let v1830_r0 : BitVec 32 := Scalar.addi v1810_r0 c0_i32_886_r0
  let c128_i32_887_r0 : BitVec 32 := 128#32
  let v1831_r0 : BitVec 32 := Scalar.muli v1830_r0 c128_i32_887_r0
  v1831_r0
def k0_mult690 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c1_i32_895_r0 : BitVec 32 := 1#32
  let v1851_r0 : BitVec 32 := Scalar.addi v1810_r0 c1_i32_895_r0
  let c128_i32_896_r0 : BitVec 32 := 128#32
  let v1852_r0 : BitVec 32 := Scalar.muli v1851_r0 c128_i32_896_r0
  v1852_r0
def k0_mult691 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c2_i32_904_r0 : BitVec 32 := 2#32
  let v1872_r0 : BitVec 32 := Scalar.addi v1810_r0 c2_i32_904_r0
  let c128_i32_905_r0 : BitVec 32 := 128#32
  let v1873_r0 : BitVec 32 := Scalar.muli v1872_r0 c128_i32_905_r0
  v1873_r0
def k0_mult692 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c3_i32_913_r0 : BitVec 32 := 3#32
  let v1893_r0 : BitVec 32 := Scalar.addi v1810_r0 c3_i32_913_r0
  let c128_i32_914_r0 : BitVec 32 := 128#32
  let v1894_r0 : BitVec 32 := Scalar.muli v1893_r0 c128_i32_914_r0
  v1894_r0
def k0_mult693 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_915_r0 : BitVec 32 := 8#32
  let v1899_r0 : BitVec 32 := Scalar.muli v1202_r0 c8_i32_915_r0
  let c6_i32_916_r0 : BitVec 32 := 6#32
  let v1900_r0 : BitVec 32 := Scalar.addi v1899_r0 c6_i32_916_r0
  let c256_i32_917_r0 : BitVec 32 := 256#32
  let v1901_r0 : BitVec 32 := Scalar.muli v1900_r0 c256_i32_917_r0
  v1901_r0
def k0_mult694 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_915_r0 : BitVec 32 := 8#32
  let v1899_r0 : BitVec 32 := Scalar.muli v1202_r0 c8_i32_915_r0
  let c6_i32_916_r0 : BitVec 32 := 6#32
  let v1900_r0 : BitVec 32 := Scalar.addi v1899_r0 c6_i32_916_r0
  let c1_i32_919_r0 : BitVec 32 := 1#32
  let v1906_r0 : BitVec 32 := Scalar.addi v1900_r0 c1_i32_919_r0
  let c256_i32_922_r0 : BitVec 32 := 256#32
  let v1908_r0 : BitVec 32 := Scalar.muli v1906_r0 c256_i32_922_r0
  v1908_r0
def k0_mult695 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_915_r0 : BitVec 32 := 8#32
  let v1899_r0 : BitVec 32 := Scalar.muli v1202_r0 c8_i32_915_r0
  let c6_i32_916_r0 : BitVec 32 := 6#32
  let v1900_r0 : BitVec 32 := Scalar.addi v1899_r0 c6_i32_916_r0
  let c1_i32_919_r0 : BitVec 32 := 1#32
  let v1906_r0 : BitVec 32 := Scalar.addi v1900_r0 c1_i32_919_r0
  let c256_i32_924_r0 : BitVec 32 := 256#32
  let v1915_r0 : BitVec 32 := Scalar.muli v1906_r0 c256_i32_924_r0
  v1915_r0
def k0_mult696 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_926_r0 : BitVec 32 := 1#32
  let v1922_r0 : BitVec 32 := Scalar.subi v1202_r0 c1_i32_926_r0
  let c8_i32_927_r0 : BitVec 32 := 8#32
  let v1923_r0 : BitVec 32 := Scalar.muli v1922_r0 c8_i32_927_r0
  let c6_i32_928_r0 : BitVec 32 := 6#32
  let v1924_r0 : BitVec 32 := Scalar.addi v1923_r0 c6_i32_928_r0
  let c8_i32_932_r0 : BitVec 32 := 8#32
  let v1927_r0 : BitVec 32 := Scalar.muli v1924_r0 c8_i32_932_r0
  v1927_r0
def k0_mult697 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c0_i32_941_r0 : BitVec 32 := 0#32
  let v1946_r0 : BitVec 32 := Scalar.addi v1926_r0 c0_i32_941_r0
  let c128_i32_942_r0 : BitVec 32 := 128#32
  let v1947_r0 : BitVec 32 := Scalar.muli v1946_r0 c128_i32_942_r0
  v1947_r0
def k0_mult698 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c1_i32_950_r0 : BitVec 32 := 1#32
  let v1967_r0 : BitVec 32 := Scalar.addi v1926_r0 c1_i32_950_r0
  let c128_i32_951_r0 : BitVec 32 := 128#32
  let v1968_r0 : BitVec 32 := Scalar.muli v1967_r0 c128_i32_951_r0
  v1968_r0
def k0_mult699 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c2_i32_959_r0 : BitVec 32 := 2#32
  let v1988_r0 : BitVec 32 := Scalar.addi v1926_r0 c2_i32_959_r0
  let c128_i32_960_r0 : BitVec 32 := 128#32
  let v1989_r0 : BitVec 32 := Scalar.muli v1988_r0 c128_i32_960_r0
  v1989_r0
def k0_mult700 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c3_i32_968_r0 : BitVec 32 := 3#32
  let v2009_r0 : BitVec 32 := Scalar.addi v1926_r0 c3_i32_968_r0
  let c128_i32_969_r0 : BitVec 32 := 128#32
  let v2010_r0 : BitVec 32 := Scalar.muli v2009_r0 c128_i32_969_r0
  v2010_r0
def k0_mult701 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c256_i32_972_r0 : BitVec 32 := 256#32
  let v2017_r0 : BitVec 32 := Scalar.muli v2016_r0 c256_i32_972_r0
  v2017_r0
def k0_mult702 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_980_r0 : BitVec 32 := 256#32
  let v2028_r0 : BitVec 32 := Scalar.muli v2026_r0 c256_i32_980_r0
  v2028_r0
def k0_off296 (i : grid0.Coords) (k0_t13 : Fin (k0_t13_loop i).trips) : Fin 3 → Nat :=
  let c36_i32_976_r0 : BitVec 32 := 36#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_974_r0 : BitVec 32 := 1#32
  let v2022_r0 : BitVec 32 := Scalar.addi v2016_r0 c1_i32_974_r0
  let c32_i32_975_r0 : BitVec 32 := 32#32
  let v2023_r0 : BitVec 32 := Scalar.divsi v2022_r0 c32_i32_975_r0
  let v2024_r0 : BitVec 32 := Scalar.addi c36_i32_976_r0 v2023_r0
  let c8_i32_979_r0 : BitVec 32 := 8#32
  let v2027_r0 : BitVec 32 := Scalar.remsi v2024_r0 c8_i32_979_r0
  let v2030_r0 : Index := Scalar.indexCast v2027_r0
  let c0_981_r0 : Index := 0#32
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_980_r0 : BitVec 32 := 256#32
  let v2028_r0 : BitVec 32 := Scalar.muli v2026_r0 c256_i32_980_r0
  let v2029_r0 : BitVec 32 := v2028_r0
  let v2031_r0 : Index := Scalar.indexCast v2029_r0
  ![v2030_r0.toNat, 0, v2031_r0.toNat]
def k0_mult703 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_982_r0 : BitVec 32 := 256#32
  let v2035_r0 : BitVec 32 := Scalar.muli v2026_r0 c256_i32_982_r0
  v2035_r0
def k0_off297 (i : grid0.Coords) (k0_t13 : Fin (k0_t13_loop i).trips) : Fin 3 → Nat :=
  let c36_i32_976_r0 : BitVec 32 := 36#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_974_r0 : BitVec 32 := 1#32
  let v2022_r0 : BitVec 32 := Scalar.addi v2016_r0 c1_i32_974_r0
  let c32_i32_975_r0 : BitVec 32 := 32#32
  let v2023_r0 : BitVec 32 := Scalar.divsi v2022_r0 c32_i32_975_r0
  let v2024_r0 : BitVec 32 := Scalar.addi c36_i32_976_r0 v2023_r0
  let c8_i32_979_r0 : BitVec 32 := 8#32
  let v2027_r0 : BitVec 32 := Scalar.remsi v2024_r0 c8_i32_979_r0
  let v2037_r0 : Index := Scalar.indexCast v2027_r0
  let c256_983_r0 : Index := 256#32
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_982_r0 : BitVec 32 := 256#32
  let v2035_r0 : BitVec 32 := Scalar.muli v2026_r0 c256_i32_982_r0
  let v2036_r0 : BitVec 32 := v2035_r0
  let v2038_r0 : Index := Scalar.indexCast v2036_r0
  ![v2037_r0.toNat, 256, v2038_r0.toNat]
def k0_mult704 (i : grid0.Coords) (k0_t13 : Fin (k0_t13_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c1_i32_199_r0 : BitVec 32 := 1#32
  let arg20_r0 : BitVec 32 := Scf.iv c0_i32_197_r0 c1_i32_199_r0 k0_t13
  let c1_i32_196_r0 : BitVec 32 := 1#32
  let v1201_r0 : BitVec 32 := Scalar.muli arg20_r0 c1_i32_196_r0
  let v1202_r0 : BitVec 32 := Scalar.addi v335_r0 v1201_r0
  let c1_i32_984_r0 : BitVec 32 := 1#32
  let v2042_r0 : BitVec 32 := Scalar.subi v1202_r0 c1_i32_984_r0
  let c8_i32_985_r0 : BitVec 32 := 8#32
  let v2043_r0 : BitVec 32 := Scalar.muli v2042_r0 c8_i32_985_r0
  let c7_i32_986_r0 : BitVec 32 := 7#32
  let v2044_r0 : BitVec 32 := Scalar.addi v2043_r0 c7_i32_986_r0
  let c8_i32_990_r0 : BitVec 32 := 8#32
  let v2047_r0 : BitVec 32 := Scalar.muli v2044_r0 c8_i32_990_r0
  v2047_r0
def k0_mult705 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c0_i32_999_r0 : BitVec 32 := 0#32
  let v2066_r0 : BitVec 32 := Scalar.addi v2046_r0 c0_i32_999_r0
  let c128_i32_1000_r0 : BitVec 32 := 128#32
  let v2067_r0 : BitVec 32 := Scalar.muli v2066_r0 c128_i32_1000_r0
  v2067_r0
def k0_mult706 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c1_i32_1008_r0 : BitVec 32 := 1#32
  let v2087_r0 : BitVec 32 := Scalar.addi v2046_r0 c1_i32_1008_r0
  let c128_i32_1009_r0 : BitVec 32 := 128#32
  let v2088_r0 : BitVec 32 := Scalar.muli v2087_r0 c128_i32_1009_r0
  v2088_r0
def k0_mult707 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c2_i32_1017_r0 : BitVec 32 := 2#32
  let v2108_r0 : BitVec 32 := Scalar.addi v2046_r0 c2_i32_1017_r0
  let c128_i32_1018_r0 : BitVec 32 := 128#32
  let v2109_r0 : BitVec 32 := Scalar.muli v2108_r0 c128_i32_1018_r0
  v2109_r0
def k0_mult708 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c3_i32_1026_r0 : BitVec 32 := 3#32
  let v2129_r0 : BitVec 32 := Scalar.addi v2046_r0 c3_i32_1026_r0
  let c128_i32_1027_r0 : BitVec 32 := 128#32
  let v2130_r0 : BitVec 32 := Scalar.muli v2129_r0 c128_i32_1027_r0
  v2130_r0
@[reducible] def k0_t14_loop (i : grid0.Coords) : Scf.Loop 32 :=
  let c0_i32_197_r0 : BitVec 32 := 0#32
  let c3_i32_192_r0 : BitVec 32 := 3#32
  let arg0 : BitVec 32 := BitVec.ofNat 32 (i 0).val
  let c1_i32_191_r0 : BitVec 32 := 1#32
  let v335_r0 : BitVec 32 := Scalar.addi arg0 c1_i32_191_r0
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let v341_r0 : BitVec 32 := Scalar.addi c0_i32_197_r0 v340_r0
  let c1_i32_200_r0 : BitVec 32 := 1#32
  ⟨v344_r0, v341_r0, c1_i32_200_r0⟩
def k0_mult709 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c256_i32_587_r0 : BitVec 32 := 256#32
  let v1205_r0 : BitVec 32 := Scalar.muli v1204_r0 c256_i32_587_r0
  v1205_r0
def k0_off298 (i : grid0.Coords) (k0_t14 : Fin (k0_t14_loop i).trips) (c0_i32_586_r0 : BitVec 32) : Fin 2 → Nat :=
  let c0_588_r0 : Index := 0#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c256_i32_587_r0 : BitVec 32 := 256#32
  let v1205_r0 : BitVec 32 := Scalar.muli v1204_r0 c256_i32_587_r0
  let v1206_r0 : BitVec 32 := v1205_r0
  let v1207_r0 : Index := Scalar.indexCast v1206_r0
  ![0, v1207_r0.toNat]
def k0_mult710 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c1_i32_589_r0 : BitVec 32 := 1#32
  let v1210_r0 : BitVec 32 := Scalar.addi v1204_r0 c1_i32_589_r0
  let c256_i32_592_r0 : BitVec 32 := 256#32
  let v1212_r0 : BitVec 32 := Scalar.muli v1210_r0 c256_i32_592_r0
  v1212_r0
def k0_off299 (i : grid0.Coords) (k0_t14 : Fin (k0_t14_loop i).trips) (c0_i32_586_r0 : BitVec 32) : Fin 3 → Nat :=
  let c36_i32_590_r0 : BitVec 32 := 36#32
  let c8_i32_591_r0 : BitVec 32 := 8#32
  let v1211_r0 : BitVec 32 := Scalar.remsi c36_i32_590_r0 c8_i32_591_r0
  let v1214_r0 : Index := Scalar.indexCast v1211_r0
  let c0_593_r0 : Index := 0#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c1_i32_589_r0 : BitVec 32 := 1#32
  let v1210_r0 : BitVec 32 := Scalar.addi v1204_r0 c1_i32_589_r0
  let c256_i32_592_r0 : BitVec 32 := 256#32
  let v1212_r0 : BitVec 32 := Scalar.muli v1210_r0 c256_i32_592_r0
  let v1213_r0 : BitVec 32 := v1212_r0
  let v1215_r0 : Index := Scalar.indexCast v1213_r0
  ![v1214_r0.toNat, 0, v1215_r0.toNat]
def k0_mult711 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c1_i32_589_r0 : BitVec 32 := 1#32
  let v1210_r0 : BitVec 32 := Scalar.addi v1204_r0 c1_i32_589_r0
  let c256_i32_594_r0 : BitVec 32 := 256#32
  let v1219_r0 : BitVec 32 := Scalar.muli v1210_r0 c256_i32_594_r0
  v1219_r0
def k0_off300 (i : grid0.Coords) (k0_t14 : Fin (k0_t14_loop i).trips) (c0_i32_586_r0 : BitVec 32) : Fin 3 → Nat :=
  let c36_i32_590_r0 : BitVec 32 := 36#32
  let c8_i32_591_r0 : BitVec 32 := 8#32
  let v1211_r0 : BitVec 32 := Scalar.remsi c36_i32_590_r0 c8_i32_591_r0
  let v1221_r0 : Index := Scalar.indexCast v1211_r0
  let c256_595_r0 : Index := 256#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c1_i32_589_r0 : BitVec 32 := 1#32
  let v1210_r0 : BitVec 32 := Scalar.addi v1204_r0 c1_i32_589_r0
  let c256_i32_594_r0 : BitVec 32 := 256#32
  let v1219_r0 : BitVec 32 := Scalar.muli v1210_r0 c256_i32_594_r0
  let v1220_r0 : BitVec 32 := v1219_r0
  let v1222_r0 : Index := Scalar.indexCast v1220_r0
  ![v1221_r0.toNat, 256, v1222_r0.toNat]
def k0_mult712 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let c0_i32_598_r0 : BitVec 32 := 0#32
  let v1228_r0 : BitVec 32 := Scalar.addi v1227_r0 c0_i32_598_r0
  let c8_i32_602_r0 : BitVec 32 := 8#32
  let v1231_r0 : BitVec 32 := Scalar.muli v1228_r0 c8_i32_602_r0
  v1231_r0
def k0_off301 (i : grid0.Coords) (k0_t14 : Fin (k0_t14_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1233_r0 : Index := Scalar.indexCast v1232_r0
  let c0_603_r0 : Index := 0#32
  ![v1233_r0.toNat, 0]
def k0_off302 (c0_i32_604_r0 : BitVec 32) : Fin 2 → Nat :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let v1235_r0 : BitVec 32 := Scalar.addi v1230_r0 c0_i32_604_r0
  let v1236_r0 : Index := Scalar.indexCast v1235_r0
  let c0_605_r0 : Index := 0#32
  ![v1236_r0.toNat, 0]
def k0_off303 (i : grid0.Coords) (k0_t14 : Fin (k0_t14_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1243_r0 : Index := Scalar.indexCast v1232_r0
  let c0_610_r0 : Index := 0#32
  ![v1243_r0.toNat, 0]
def k0_mult713 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c0_i32_611_r0 : BitVec 32 := 0#32
  let v1250_r0 : BitVec 32 := Scalar.addi v1230_r0 c0_i32_611_r0
  let c128_i32_612_r0 : BitVec 32 := 128#32
  let v1251_r0 : BitVec 32 := Scalar.muli v1250_r0 c128_i32_612_r0
  v1251_r0
def k0_off304 (i : grid0.Coords) (k0_t14 : Fin (k0_t14_loop i).trips) (c0_i32_598_r0 : BitVec 32) (c0_i32_611_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1253_r0 : Index := Scalar.indexCast v1232_r0
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let v1250_r0 : BitVec 32 := Scalar.addi v1230_r0 c0_i32_611_r0
  let c128_i32_612_r0 : BitVec 32 := 128#32
  let v1251_r0 : BitVec 32 := Scalar.muli v1250_r0 c128_i32_612_r0
  let v1252_r0 : BitVec 32 := v1251_r0
  let v1254_r0 : Index := Scalar.indexCast v1252_r0
  ![v1253_r0.toNat, v1254_r0.toNat]
def k0_off305 (i : grid0.Coords) (k0_t14 : Fin (k0_t14_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1264_r0 : Index := Scalar.indexCast v1232_r0
  let c128_619_r0 : Index := 128#32
  ![v1264_r0.toNat, 128]
def k0_mult714 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c1_i32_620_r0 : BitVec 32 := 1#32
  let v1271_r0 : BitVec 32 := Scalar.addi v1230_r0 c1_i32_620_r0
  let c128_i32_621_r0 : BitVec 32 := 128#32
  let v1272_r0 : BitVec 32 := Scalar.muli v1271_r0 c128_i32_621_r0
  v1272_r0
def k0_off306 (i : grid0.Coords) (k0_t14 : Fin (k0_t14_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1285_r0 : Index := Scalar.indexCast v1232_r0
  let c256_628_r0 : Index := 256#32
  ![v1285_r0.toNat, 256]
def k0_mult715 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c2_i32_629_r0 : BitVec 32 := 2#32
  let v1292_r0 : BitVec 32 := Scalar.addi v1230_r0 c2_i32_629_r0
  let c128_i32_630_r0 : BitVec 32 := 128#32
  let v1293_r0 : BitVec 32 := Scalar.muli v1292_r0 c128_i32_630_r0
  v1293_r0
def k0_off307 (i : grid0.Coords) (k0_t14 : Fin (k0_t14_loop i).trips) (c0_i32_598_r0 : BitVec 32) : Fin 2 → Nat :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_596_r0 : BitVec 32 := 1#32
  let v1226_r0 : BitVec 32 := Scalar.subi v1202_r0 c1_i32_596_r0
  let c8_i32_597_r0 : BitVec 32 := 8#32
  let v1227_r0 : BitVec 32 := Scalar.muli v1226_r0 c8_i32_597_r0
  let v1228_r0 : BitVec 32 := Scalar.addi v1227_r0 c0_i32_598_r0
  let c8_i32_602_r0 : BitVec 32 := 8#32
  let v1231_r0 : BitVec 32 := Scalar.muli v1228_r0 c8_i32_602_r0
  let v1232_r0 : BitVec 32 := v1231_r0
  let v1306_r0 : Index := Scalar.indexCast v1232_r0
  let c384_637_r0 : Index := 384#32
  ![v1306_r0.toNat, 384]
def k0_mult716 : BitVec 32 :=
  let c35_i32_599_r0 : BitVec 32 := 35#32
  let c0_i32_600_r0 : BitVec 32 := 0#32
  let v1229_r0 : BitVec 32 := Scalar.maxsi c35_i32_599_r0 c0_i32_600_r0
  let c4_i32_601_r0 : BitVec 32 := 4#32
  let v1230_r0 : BitVec 32 := Scalar.muli v1229_r0 c4_i32_601_r0
  let c3_i32_638_r0 : BitVec 32 := 3#32
  let v1313_r0 : BitVec 32 := Scalar.addi v1230_r0 c3_i32_638_r0
  let c128_i32_639_r0 : BitVec 32 := 128#32
  let v1314_r0 : BitVec 32 := Scalar.muli v1313_r0 c128_i32_639_r0
  v1314_r0
def k0_mult717 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_640_r0 : BitVec 32 := 8#32
  let v1319_r0 : BitVec 32 := Scalar.muli v1202_r0 c8_i32_640_r0
  let c1_i32_641_r0 : BitVec 32 := 1#32
  let v1320_r0 : BitVec 32 := Scalar.addi v1319_r0 c1_i32_641_r0
  let c256_i32_642_r0 : BitVec 32 := 256#32
  let v1321_r0 : BitVec 32 := Scalar.muli v1320_r0 c256_i32_642_r0
  v1321_r0
def k0_mult718 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_640_r0 : BitVec 32 := 8#32
  let v1319_r0 : BitVec 32 := Scalar.muli v1202_r0 c8_i32_640_r0
  let c1_i32_641_r0 : BitVec 32 := 1#32
  let v1320_r0 : BitVec 32 := Scalar.addi v1319_r0 c1_i32_641_r0
  let c1_i32_644_r0 : BitVec 32 := 1#32
  let v1326_r0 : BitVec 32 := Scalar.addi v1320_r0 c1_i32_644_r0
  let c256_i32_647_r0 : BitVec 32 := 256#32
  let v1328_r0 : BitVec 32 := Scalar.muli v1326_r0 c256_i32_647_r0
  v1328_r0
def k0_mult719 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_640_r0 : BitVec 32 := 8#32
  let v1319_r0 : BitVec 32 := Scalar.muli v1202_r0 c8_i32_640_r0
  let c1_i32_641_r0 : BitVec 32 := 1#32
  let v1320_r0 : BitVec 32 := Scalar.addi v1319_r0 c1_i32_641_r0
  let c1_i32_644_r0 : BitVec 32 := 1#32
  let v1326_r0 : BitVec 32 := Scalar.addi v1320_r0 c1_i32_644_r0
  let c256_i32_649_r0 : BitVec 32 := 256#32
  let v1335_r0 : BitVec 32 := Scalar.muli v1326_r0 c256_i32_649_r0
  v1335_r0
def k0_mult720 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_651_r0 : BitVec 32 := 1#32
  let v1342_r0 : BitVec 32 := Scalar.subi v1202_r0 c1_i32_651_r0
  let c8_i32_652_r0 : BitVec 32 := 8#32
  let v1343_r0 : BitVec 32 := Scalar.muli v1342_r0 c8_i32_652_r0
  let c1_i32_653_r0 : BitVec 32 := 1#32
  let v1344_r0 : BitVec 32 := Scalar.addi v1343_r0 c1_i32_653_r0
  let c8_i32_657_r0 : BitVec 32 := 8#32
  let v1347_r0 : BitVec 32 := Scalar.muli v1344_r0 c8_i32_657_r0
  v1347_r0
def k0_mult721 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c0_i32_666_r0 : BitVec 32 := 0#32
  let v1366_r0 : BitVec 32 := Scalar.addi v1346_r0 c0_i32_666_r0
  let c128_i32_667_r0 : BitVec 32 := 128#32
  let v1367_r0 : BitVec 32 := Scalar.muli v1366_r0 c128_i32_667_r0
  v1367_r0
def k0_mult722 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c1_i32_675_r0 : BitVec 32 := 1#32
  let v1387_r0 : BitVec 32 := Scalar.addi v1346_r0 c1_i32_675_r0
  let c128_i32_676_r0 : BitVec 32 := 128#32
  let v1388_r0 : BitVec 32 := Scalar.muli v1387_r0 c128_i32_676_r0
  v1388_r0
def k0_mult723 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c2_i32_684_r0 : BitVec 32 := 2#32
  let v1408_r0 : BitVec 32 := Scalar.addi v1346_r0 c2_i32_684_r0
  let c128_i32_685_r0 : BitVec 32 := 128#32
  let v1409_r0 : BitVec 32 := Scalar.muli v1408_r0 c128_i32_685_r0
  v1409_r0
def k0_mult724 : BitVec 32 :=
  let c35_i32_654_r0 : BitVec 32 := 35#32
  let c0_i32_655_r0 : BitVec 32 := 0#32
  let v1345_r0 : BitVec 32 := Scalar.maxsi c35_i32_654_r0 c0_i32_655_r0
  let c4_i32_656_r0 : BitVec 32 := 4#32
  let v1346_r0 : BitVec 32 := Scalar.muli v1345_r0 c4_i32_656_r0
  let c3_i32_693_r0 : BitVec 32 := 3#32
  let v1429_r0 : BitVec 32 := Scalar.addi v1346_r0 c3_i32_693_r0
  let c128_i32_694_r0 : BitVec 32 := 128#32
  let v1430_r0 : BitVec 32 := Scalar.muli v1429_r0 c128_i32_694_r0
  v1430_r0
def k0_mult725 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_695_r0 : BitVec 32 := 8#32
  let v1435_r0 : BitVec 32 := Scalar.muli v1202_r0 c8_i32_695_r0
  let c2_i32_696_r0 : BitVec 32 := 2#32
  let v1436_r0 : BitVec 32 := Scalar.addi v1435_r0 c2_i32_696_r0
  let c256_i32_697_r0 : BitVec 32 := 256#32
  let v1437_r0 : BitVec 32 := Scalar.muli v1436_r0 c256_i32_697_r0
  v1437_r0
def k0_mult726 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_695_r0 : BitVec 32 := 8#32
  let v1435_r0 : BitVec 32 := Scalar.muli v1202_r0 c8_i32_695_r0
  let c2_i32_696_r0 : BitVec 32 := 2#32
  let v1436_r0 : BitVec 32 := Scalar.addi v1435_r0 c2_i32_696_r0
  let c1_i32_699_r0 : BitVec 32 := 1#32
  let v1442_r0 : BitVec 32 := Scalar.addi v1436_r0 c1_i32_699_r0
  let c256_i32_702_r0 : BitVec 32 := 256#32
  let v1444_r0 : BitVec 32 := Scalar.muli v1442_r0 c256_i32_702_r0
  v1444_r0
def k0_mult727 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_695_r0 : BitVec 32 := 8#32
  let v1435_r0 : BitVec 32 := Scalar.muli v1202_r0 c8_i32_695_r0
  let c2_i32_696_r0 : BitVec 32 := 2#32
  let v1436_r0 : BitVec 32 := Scalar.addi v1435_r0 c2_i32_696_r0
  let c1_i32_699_r0 : BitVec 32 := 1#32
  let v1442_r0 : BitVec 32 := Scalar.addi v1436_r0 c1_i32_699_r0
  let c256_i32_704_r0 : BitVec 32 := 256#32
  let v1451_r0 : BitVec 32 := Scalar.muli v1442_r0 c256_i32_704_r0
  v1451_r0
def k0_mult728 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_706_r0 : BitVec 32 := 1#32
  let v1458_r0 : BitVec 32 := Scalar.subi v1202_r0 c1_i32_706_r0
  let c8_i32_707_r0 : BitVec 32 := 8#32
  let v1459_r0 : BitVec 32 := Scalar.muli v1458_r0 c8_i32_707_r0
  let c2_i32_708_r0 : BitVec 32 := 2#32
  let v1460_r0 : BitVec 32 := Scalar.addi v1459_r0 c2_i32_708_r0
  let c8_i32_712_r0 : BitVec 32 := 8#32
  let v1463_r0 : BitVec 32 := Scalar.muli v1460_r0 c8_i32_712_r0
  v1463_r0
def k0_mult729 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c0_i32_721_r0 : BitVec 32 := 0#32
  let v1482_r0 : BitVec 32 := Scalar.addi v1462_r0 c0_i32_721_r0
  let c128_i32_722_r0 : BitVec 32 := 128#32
  let v1483_r0 : BitVec 32 := Scalar.muli v1482_r0 c128_i32_722_r0
  v1483_r0
def k0_mult730 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c1_i32_730_r0 : BitVec 32 := 1#32
  let v1503_r0 : BitVec 32 := Scalar.addi v1462_r0 c1_i32_730_r0
  let c128_i32_731_r0 : BitVec 32 := 128#32
  let v1504_r0 : BitVec 32 := Scalar.muli v1503_r0 c128_i32_731_r0
  v1504_r0
def k0_mult731 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c2_i32_739_r0 : BitVec 32 := 2#32
  let v1524_r0 : BitVec 32 := Scalar.addi v1462_r0 c2_i32_739_r0
  let c128_i32_740_r0 : BitVec 32 := 128#32
  let v1525_r0 : BitVec 32 := Scalar.muli v1524_r0 c128_i32_740_r0
  v1525_r0
def k0_mult732 : BitVec 32 :=
  let c35_i32_709_r0 : BitVec 32 := 35#32
  let c0_i32_710_r0 : BitVec 32 := 0#32
  let v1461_r0 : BitVec 32 := Scalar.maxsi c35_i32_709_r0 c0_i32_710_r0
  let c4_i32_711_r0 : BitVec 32 := 4#32
  let v1462_r0 : BitVec 32 := Scalar.muli v1461_r0 c4_i32_711_r0
  let c3_i32_748_r0 : BitVec 32 := 3#32
  let v1545_r0 : BitVec 32 := Scalar.addi v1462_r0 c3_i32_748_r0
  let c128_i32_749_r0 : BitVec 32 := 128#32
  let v1546_r0 : BitVec 32 := Scalar.muli v1545_r0 c128_i32_749_r0
  v1546_r0
def k0_mult733 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_750_r0 : BitVec 32 := 8#32
  let v1551_r0 : BitVec 32 := Scalar.muli v1202_r0 c8_i32_750_r0
  let c3_i32_751_r0 : BitVec 32 := 3#32
  let v1552_r0 : BitVec 32 := Scalar.addi v1551_r0 c3_i32_751_r0
  let c256_i32_752_r0 : BitVec 32 := 256#32
  let v1553_r0 : BitVec 32 := Scalar.muli v1552_r0 c256_i32_752_r0
  v1553_r0
def k0_mult734 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_750_r0 : BitVec 32 := 8#32
  let v1551_r0 : BitVec 32 := Scalar.muli v1202_r0 c8_i32_750_r0
  let c3_i32_751_r0 : BitVec 32 := 3#32
  let v1552_r0 : BitVec 32 := Scalar.addi v1551_r0 c3_i32_751_r0
  let c1_i32_754_r0 : BitVec 32 := 1#32
  let v1558_r0 : BitVec 32 := Scalar.addi v1552_r0 c1_i32_754_r0
  let c256_i32_757_r0 : BitVec 32 := 256#32
  let v1560_r0 : BitVec 32 := Scalar.muli v1558_r0 c256_i32_757_r0
  v1560_r0
def k0_mult735 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_750_r0 : BitVec 32 := 8#32
  let v1551_r0 : BitVec 32 := Scalar.muli v1202_r0 c8_i32_750_r0
  let c3_i32_751_r0 : BitVec 32 := 3#32
  let v1552_r0 : BitVec 32 := Scalar.addi v1551_r0 c3_i32_751_r0
  let c1_i32_754_r0 : BitVec 32 := 1#32
  let v1558_r0 : BitVec 32 := Scalar.addi v1552_r0 c1_i32_754_r0
  let c256_i32_759_r0 : BitVec 32 := 256#32
  let v1567_r0 : BitVec 32 := Scalar.muli v1558_r0 c256_i32_759_r0
  v1567_r0
def k0_mult736 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_761_r0 : BitVec 32 := 1#32
  let v1574_r0 : BitVec 32 := Scalar.subi v1202_r0 c1_i32_761_r0
  let c8_i32_762_r0 : BitVec 32 := 8#32
  let v1575_r0 : BitVec 32 := Scalar.muli v1574_r0 c8_i32_762_r0
  let c3_i32_763_r0 : BitVec 32 := 3#32
  let v1576_r0 : BitVec 32 := Scalar.addi v1575_r0 c3_i32_763_r0
  let c8_i32_767_r0 : BitVec 32 := 8#32
  let v1579_r0 : BitVec 32 := Scalar.muli v1576_r0 c8_i32_767_r0
  v1579_r0
def k0_mult737 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c0_i32_776_r0 : BitVec 32 := 0#32
  let v1598_r0 : BitVec 32 := Scalar.addi v1578_r0 c0_i32_776_r0
  let c128_i32_777_r0 : BitVec 32 := 128#32
  let v1599_r0 : BitVec 32 := Scalar.muli v1598_r0 c128_i32_777_r0
  v1599_r0
def k0_mult738 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c1_i32_785_r0 : BitVec 32 := 1#32
  let v1619_r0 : BitVec 32 := Scalar.addi v1578_r0 c1_i32_785_r0
  let c128_i32_786_r0 : BitVec 32 := 128#32
  let v1620_r0 : BitVec 32 := Scalar.muli v1619_r0 c128_i32_786_r0
  v1620_r0
def k0_mult739 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c2_i32_794_r0 : BitVec 32 := 2#32
  let v1640_r0 : BitVec 32 := Scalar.addi v1578_r0 c2_i32_794_r0
  let c128_i32_795_r0 : BitVec 32 := 128#32
  let v1641_r0 : BitVec 32 := Scalar.muli v1640_r0 c128_i32_795_r0
  v1641_r0
def k0_mult740 : BitVec 32 :=
  let c35_i32_764_r0 : BitVec 32 := 35#32
  let c0_i32_765_r0 : BitVec 32 := 0#32
  let v1577_r0 : BitVec 32 := Scalar.maxsi c35_i32_764_r0 c0_i32_765_r0
  let c4_i32_766_r0 : BitVec 32 := 4#32
  let v1578_r0 : BitVec 32 := Scalar.muli v1577_r0 c4_i32_766_r0
  let c3_i32_803_r0 : BitVec 32 := 3#32
  let v1661_r0 : BitVec 32 := Scalar.addi v1578_r0 c3_i32_803_r0
  let c128_i32_804_r0 : BitVec 32 := 128#32
  let v1662_r0 : BitVec 32 := Scalar.muli v1661_r0 c128_i32_804_r0
  v1662_r0
def k0_mult741 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_805_r0 : BitVec 32 := 8#32
  let v1667_r0 : BitVec 32 := Scalar.muli v1202_r0 c8_i32_805_r0
  let c4_i32_806_r0 : BitVec 32 := 4#32
  let v1668_r0 : BitVec 32 := Scalar.addi v1667_r0 c4_i32_806_r0
  let c256_i32_807_r0 : BitVec 32 := 256#32
  let v1669_r0 : BitVec 32 := Scalar.muli v1668_r0 c256_i32_807_r0
  v1669_r0
def k0_mult742 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_805_r0 : BitVec 32 := 8#32
  let v1667_r0 : BitVec 32 := Scalar.muli v1202_r0 c8_i32_805_r0
  let c4_i32_806_r0 : BitVec 32 := 4#32
  let v1668_r0 : BitVec 32 := Scalar.addi v1667_r0 c4_i32_806_r0
  let c1_i32_809_r0 : BitVec 32 := 1#32
  let v1674_r0 : BitVec 32 := Scalar.addi v1668_r0 c1_i32_809_r0
  let c256_i32_812_r0 : BitVec 32 := 256#32
  let v1676_r0 : BitVec 32 := Scalar.muli v1674_r0 c256_i32_812_r0
  v1676_r0
def k0_mult743 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_805_r0 : BitVec 32 := 8#32
  let v1667_r0 : BitVec 32 := Scalar.muli v1202_r0 c8_i32_805_r0
  let c4_i32_806_r0 : BitVec 32 := 4#32
  let v1668_r0 : BitVec 32 := Scalar.addi v1667_r0 c4_i32_806_r0
  let c1_i32_809_r0 : BitVec 32 := 1#32
  let v1674_r0 : BitVec 32 := Scalar.addi v1668_r0 c1_i32_809_r0
  let c256_i32_814_r0 : BitVec 32 := 256#32
  let v1683_r0 : BitVec 32 := Scalar.muli v1674_r0 c256_i32_814_r0
  v1683_r0
def k0_mult744 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_816_r0 : BitVec 32 := 1#32
  let v1690_r0 : BitVec 32 := Scalar.subi v1202_r0 c1_i32_816_r0
  let c8_i32_817_r0 : BitVec 32 := 8#32
  let v1691_r0 : BitVec 32 := Scalar.muli v1690_r0 c8_i32_817_r0
  let c4_i32_818_r0 : BitVec 32 := 4#32
  let v1692_r0 : BitVec 32 := Scalar.addi v1691_r0 c4_i32_818_r0
  let c8_i32_822_r0 : BitVec 32 := 8#32
  let v1695_r0 : BitVec 32 := Scalar.muli v1692_r0 c8_i32_822_r0
  v1695_r0
def k0_mult745 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c0_i32_831_r0 : BitVec 32 := 0#32
  let v1714_r0 : BitVec 32 := Scalar.addi v1694_r0 c0_i32_831_r0
  let c128_i32_832_r0 : BitVec 32 := 128#32
  let v1715_r0 : BitVec 32 := Scalar.muli v1714_r0 c128_i32_832_r0
  v1715_r0
def k0_mult746 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c1_i32_840_r0 : BitVec 32 := 1#32
  let v1735_r0 : BitVec 32 := Scalar.addi v1694_r0 c1_i32_840_r0
  let c128_i32_841_r0 : BitVec 32 := 128#32
  let v1736_r0 : BitVec 32 := Scalar.muli v1735_r0 c128_i32_841_r0
  v1736_r0
def k0_mult747 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c2_i32_849_r0 : BitVec 32 := 2#32
  let v1756_r0 : BitVec 32 := Scalar.addi v1694_r0 c2_i32_849_r0
  let c128_i32_850_r0 : BitVec 32 := 128#32
  let v1757_r0 : BitVec 32 := Scalar.muli v1756_r0 c128_i32_850_r0
  v1757_r0
def k0_mult748 : BitVec 32 :=
  let c35_i32_819_r0 : BitVec 32 := 35#32
  let c0_i32_820_r0 : BitVec 32 := 0#32
  let v1693_r0 : BitVec 32 := Scalar.maxsi c35_i32_819_r0 c0_i32_820_r0
  let c4_i32_821_r0 : BitVec 32 := 4#32
  let v1694_r0 : BitVec 32 := Scalar.muli v1693_r0 c4_i32_821_r0
  let c3_i32_858_r0 : BitVec 32 := 3#32
  let v1777_r0 : BitVec 32 := Scalar.addi v1694_r0 c3_i32_858_r0
  let c128_i32_859_r0 : BitVec 32 := 128#32
  let v1778_r0 : BitVec 32 := Scalar.muli v1777_r0 c128_i32_859_r0
  v1778_r0
def k0_mult749 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_860_r0 : BitVec 32 := 8#32
  let v1783_r0 : BitVec 32 := Scalar.muli v1202_r0 c8_i32_860_r0
  let c5_i32_861_r0 : BitVec 32 := 5#32
  let v1784_r0 : BitVec 32 := Scalar.addi v1783_r0 c5_i32_861_r0
  let c256_i32_862_r0 : BitVec 32 := 256#32
  let v1785_r0 : BitVec 32 := Scalar.muli v1784_r0 c256_i32_862_r0
  v1785_r0
def k0_mult750 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_860_r0 : BitVec 32 := 8#32
  let v1783_r0 : BitVec 32 := Scalar.muli v1202_r0 c8_i32_860_r0
  let c5_i32_861_r0 : BitVec 32 := 5#32
  let v1784_r0 : BitVec 32 := Scalar.addi v1783_r0 c5_i32_861_r0
  let c1_i32_864_r0 : BitVec 32 := 1#32
  let v1790_r0 : BitVec 32 := Scalar.addi v1784_r0 c1_i32_864_r0
  let c256_i32_867_r0 : BitVec 32 := 256#32
  let v1792_r0 : BitVec 32 := Scalar.muli v1790_r0 c256_i32_867_r0
  v1792_r0
def k0_mult751 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_860_r0 : BitVec 32 := 8#32
  let v1783_r0 : BitVec 32 := Scalar.muli v1202_r0 c8_i32_860_r0
  let c5_i32_861_r0 : BitVec 32 := 5#32
  let v1784_r0 : BitVec 32 := Scalar.addi v1783_r0 c5_i32_861_r0
  let c1_i32_864_r0 : BitVec 32 := 1#32
  let v1790_r0 : BitVec 32 := Scalar.addi v1784_r0 c1_i32_864_r0
  let c256_i32_869_r0 : BitVec 32 := 256#32
  let v1799_r0 : BitVec 32 := Scalar.muli v1790_r0 c256_i32_869_r0
  v1799_r0
def k0_mult752 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_871_r0 : BitVec 32 := 1#32
  let v1806_r0 : BitVec 32 := Scalar.subi v1202_r0 c1_i32_871_r0
  let c8_i32_872_r0 : BitVec 32 := 8#32
  let v1807_r0 : BitVec 32 := Scalar.muli v1806_r0 c8_i32_872_r0
  let c5_i32_873_r0 : BitVec 32 := 5#32
  let v1808_r0 : BitVec 32 := Scalar.addi v1807_r0 c5_i32_873_r0
  let c8_i32_877_r0 : BitVec 32 := 8#32
  let v1811_r0 : BitVec 32 := Scalar.muli v1808_r0 c8_i32_877_r0
  v1811_r0
def k0_mult753 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c0_i32_886_r0 : BitVec 32 := 0#32
  let v1830_r0 : BitVec 32 := Scalar.addi v1810_r0 c0_i32_886_r0
  let c128_i32_887_r0 : BitVec 32 := 128#32
  let v1831_r0 : BitVec 32 := Scalar.muli v1830_r0 c128_i32_887_r0
  v1831_r0
def k0_mult754 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c1_i32_895_r0 : BitVec 32 := 1#32
  let v1851_r0 : BitVec 32 := Scalar.addi v1810_r0 c1_i32_895_r0
  let c128_i32_896_r0 : BitVec 32 := 128#32
  let v1852_r0 : BitVec 32 := Scalar.muli v1851_r0 c128_i32_896_r0
  v1852_r0
def k0_mult755 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c2_i32_904_r0 : BitVec 32 := 2#32
  let v1872_r0 : BitVec 32 := Scalar.addi v1810_r0 c2_i32_904_r0
  let c128_i32_905_r0 : BitVec 32 := 128#32
  let v1873_r0 : BitVec 32 := Scalar.muli v1872_r0 c128_i32_905_r0
  v1873_r0
def k0_mult756 : BitVec 32 :=
  let c35_i32_874_r0 : BitVec 32 := 35#32
  let c0_i32_875_r0 : BitVec 32 := 0#32
  let v1809_r0 : BitVec 32 := Scalar.maxsi c35_i32_874_r0 c0_i32_875_r0
  let c4_i32_876_r0 : BitVec 32 := 4#32
  let v1810_r0 : BitVec 32 := Scalar.muli v1809_r0 c4_i32_876_r0
  let c3_i32_913_r0 : BitVec 32 := 3#32
  let v1893_r0 : BitVec 32 := Scalar.addi v1810_r0 c3_i32_913_r0
  let c128_i32_914_r0 : BitVec 32 := 128#32
  let v1894_r0 : BitVec 32 := Scalar.muli v1893_r0 c128_i32_914_r0
  v1894_r0
def k0_mult757 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_915_r0 : BitVec 32 := 8#32
  let v1899_r0 : BitVec 32 := Scalar.muli v1202_r0 c8_i32_915_r0
  let c6_i32_916_r0 : BitVec 32 := 6#32
  let v1900_r0 : BitVec 32 := Scalar.addi v1899_r0 c6_i32_916_r0
  let c256_i32_917_r0 : BitVec 32 := 256#32
  let v1901_r0 : BitVec 32 := Scalar.muli v1900_r0 c256_i32_917_r0
  v1901_r0
def k0_mult758 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_915_r0 : BitVec 32 := 8#32
  let v1899_r0 : BitVec 32 := Scalar.muli v1202_r0 c8_i32_915_r0
  let c6_i32_916_r0 : BitVec 32 := 6#32
  let v1900_r0 : BitVec 32 := Scalar.addi v1899_r0 c6_i32_916_r0
  let c1_i32_919_r0 : BitVec 32 := 1#32
  let v1906_r0 : BitVec 32 := Scalar.addi v1900_r0 c1_i32_919_r0
  let c256_i32_922_r0 : BitVec 32 := 256#32
  let v1908_r0 : BitVec 32 := Scalar.muli v1906_r0 c256_i32_922_r0
  v1908_r0
def k0_mult759 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_915_r0 : BitVec 32 := 8#32
  let v1899_r0 : BitVec 32 := Scalar.muli v1202_r0 c8_i32_915_r0
  let c6_i32_916_r0 : BitVec 32 := 6#32
  let v1900_r0 : BitVec 32 := Scalar.addi v1899_r0 c6_i32_916_r0
  let c1_i32_919_r0 : BitVec 32 := 1#32
  let v1906_r0 : BitVec 32 := Scalar.addi v1900_r0 c1_i32_919_r0
  let c256_i32_924_r0 : BitVec 32 := 256#32
  let v1915_r0 : BitVec 32 := Scalar.muli v1906_r0 c256_i32_924_r0
  v1915_r0
def k0_mult760 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_926_r0 : BitVec 32 := 1#32
  let v1922_r0 : BitVec 32 := Scalar.subi v1202_r0 c1_i32_926_r0
  let c8_i32_927_r0 : BitVec 32 := 8#32
  let v1923_r0 : BitVec 32 := Scalar.muli v1922_r0 c8_i32_927_r0
  let c6_i32_928_r0 : BitVec 32 := 6#32
  let v1924_r0 : BitVec 32 := Scalar.addi v1923_r0 c6_i32_928_r0
  let c8_i32_932_r0 : BitVec 32 := 8#32
  let v1927_r0 : BitVec 32 := Scalar.muli v1924_r0 c8_i32_932_r0
  v1927_r0
def k0_mult761 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c0_i32_941_r0 : BitVec 32 := 0#32
  let v1946_r0 : BitVec 32 := Scalar.addi v1926_r0 c0_i32_941_r0
  let c128_i32_942_r0 : BitVec 32 := 128#32
  let v1947_r0 : BitVec 32 := Scalar.muli v1946_r0 c128_i32_942_r0
  v1947_r0
def k0_mult762 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c1_i32_950_r0 : BitVec 32 := 1#32
  let v1967_r0 : BitVec 32 := Scalar.addi v1926_r0 c1_i32_950_r0
  let c128_i32_951_r0 : BitVec 32 := 128#32
  let v1968_r0 : BitVec 32 := Scalar.muli v1967_r0 c128_i32_951_r0
  v1968_r0
def k0_mult763 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c2_i32_959_r0 : BitVec 32 := 2#32
  let v1988_r0 : BitVec 32 := Scalar.addi v1926_r0 c2_i32_959_r0
  let c128_i32_960_r0 : BitVec 32 := 128#32
  let v1989_r0 : BitVec 32 := Scalar.muli v1988_r0 c128_i32_960_r0
  v1989_r0
def k0_mult764 : BitVec 32 :=
  let c35_i32_929_r0 : BitVec 32 := 35#32
  let c0_i32_930_r0 : BitVec 32 := 0#32
  let v1925_r0 : BitVec 32 := Scalar.maxsi c35_i32_929_r0 c0_i32_930_r0
  let c4_i32_931_r0 : BitVec 32 := 4#32
  let v1926_r0 : BitVec 32 := Scalar.muli v1925_r0 c4_i32_931_r0
  let c3_i32_968_r0 : BitVec 32 := 3#32
  let v2009_r0 : BitVec 32 := Scalar.addi v1926_r0 c3_i32_968_r0
  let c128_i32_969_r0 : BitVec 32 := 128#32
  let v2010_r0 : BitVec 32 := Scalar.muli v2009_r0 c128_i32_969_r0
  v2010_r0
def k0_mult765 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c256_i32_972_r0 : BitVec 32 := 256#32
  let v2017_r0 : BitVec 32 := Scalar.muli v2016_r0 c256_i32_972_r0
  v2017_r0
def k0_mult766 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_980_r0 : BitVec 32 := 256#32
  let v2028_r0 : BitVec 32 := Scalar.muli v2026_r0 c256_i32_980_r0
  v2028_r0
def k0_off308 (i : grid0.Coords) (k0_t14 : Fin (k0_t14_loop i).trips) : Fin 3 → Nat :=
  let c36_i32_976_r0 : BitVec 32 := 36#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_974_r0 : BitVec 32 := 1#32
  let v2022_r0 : BitVec 32 := Scalar.addi v2016_r0 c1_i32_974_r0
  let c32_i32_975_r0 : BitVec 32 := 32#32
  let v2023_r0 : BitVec 32 := Scalar.divsi v2022_r0 c32_i32_975_r0
  let v2024_r0 : BitVec 32 := Scalar.addi c36_i32_976_r0 v2023_r0
  let c8_i32_979_r0 : BitVec 32 := 8#32
  let v2027_r0 : BitVec 32 := Scalar.remsi v2024_r0 c8_i32_979_r0
  let v2030_r0 : Index := Scalar.indexCast v2027_r0
  let c0_981_r0 : Index := 0#32
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_980_r0 : BitVec 32 := 256#32
  let v2028_r0 : BitVec 32 := Scalar.muli v2026_r0 c256_i32_980_r0
  let v2029_r0 : BitVec 32 := v2028_r0
  let v2031_r0 : Index := Scalar.indexCast v2029_r0
  ![v2030_r0.toNat, 0, v2031_r0.toNat]
def k0_mult767 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_982_r0 : BitVec 32 := 256#32
  let v2035_r0 : BitVec 32 := Scalar.muli v2026_r0 c256_i32_982_r0
  v2035_r0
def k0_off309 (i : grid0.Coords) (k0_t14 : Fin (k0_t14_loop i).trips) : Fin 3 → Nat :=
  let c36_i32_976_r0 : BitVec 32 := 36#32
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c8_i32_970_r0 : BitVec 32 := 8#32
  let v2015_r0 : BitVec 32 := Scalar.muli v1202_r0 c8_i32_970_r0
  let c7_i32_971_r0 : BitVec 32 := 7#32
  let v2016_r0 : BitVec 32 := Scalar.addi v2015_r0 c7_i32_971_r0
  let c1_i32_974_r0 : BitVec 32 := 1#32
  let v2022_r0 : BitVec 32 := Scalar.addi v2016_r0 c1_i32_974_r0
  let c32_i32_975_r0 : BitVec 32 := 32#32
  let v2023_r0 : BitVec 32 := Scalar.divsi v2022_r0 c32_i32_975_r0
  let v2024_r0 : BitVec 32 := Scalar.addi c36_i32_976_r0 v2023_r0
  let c8_i32_979_r0 : BitVec 32 := 8#32
  let v2027_r0 : BitVec 32 := Scalar.remsi v2024_r0 c8_i32_979_r0
  let v2037_r0 : Index := Scalar.indexCast v2027_r0
  let c256_983_r0 : Index := 256#32
  let c1_i32_977_r0 : BitVec 32 := 1#32
  let v2025_r0 : BitVec 32 := Scalar.addi v2016_r0 c1_i32_977_r0
  let c32_i32_978_r0 : BitVec 32 := 32#32
  let v2026_r0 : BitVec 32 := Scalar.remsi v2025_r0 c32_i32_978_r0
  let c256_i32_982_r0 : BitVec 32 := 256#32
  let v2035_r0 : BitVec 32 := Scalar.muli v2026_r0 c256_i32_982_r0
  let v2036_r0 : BitVec 32 := v2035_r0
  let v2038_r0 : Index := Scalar.indexCast v2036_r0
  ![v2037_r0.toNat, 256, v2038_r0.toNat]
def k0_mult768 (i : grid0.Coords) (k0_t14 : Fin (k0_t14_loop i).trips) : BitVec 32 :=
  let arg0 : BitVec 32 := BitVec.ofNat 32 (i 0).val
  let c1_i32_191_r0 : BitVec 32 := 1#32
  let v335_r0 : BitVec 32 := Scalar.addi arg0 c1_i32_191_r0
  let c0_i32_197_r0 : BitVec 32 := 0#32
  let c3_i32_192_r0 : BitVec 32 := 3#32
  let v336_r0 : BitVec 32 := Scalar.subi c3_i32_192_r0 v335_r0
  let c1_i32_193_r0 : BitVec 32 := 1#32
  let c1_i32_194_r0 : BitVec 32 := 1#32
  let v337_r0 : BitVec 32 := Scalar.subi c1_i32_193_r0 c1_i32_194_r0
  let v338_r0 : BitVec 32 := Scalar.addi v336_r0 v337_r0
  let c1_i32_195_r0 : BitVec 32 := 1#32
  let v339_r0 : BitVec 32 := Scalar.divsi v338_r0 c1_i32_195_r0
  let v340_r0 : BitVec 32 := Scalar.subi v339_r0 c0_i32_197_r0
  let c1_i32_198_r0 : BitVec 32 := 1#32
  let v342_r0 : BitVec 32 := Scalar.divsi v340_r0 c1_i32_198_r0
  let v343_r0 : BitVec 32 := Scalar.muli v342_r0 c1_i32_198_r0
  let v344_r0 : BitVec 32 := Scalar.addi c0_i32_197_r0 v343_r0
  let c1_i32_200_r0 : BitVec 32 := 1#32
  let arg20_r0 : BitVec 32 := Scf.iv v344_r0 c1_i32_200_r0 k0_t14
  let c1_i32_196_r0 : BitVec 32 := 1#32
  let v1201_r0 : BitVec 32 := Scalar.muli arg20_r0 c1_i32_196_r0
  let v1202_r0 : BitVec 32 := Scalar.addi v335_r0 v1201_r0
  let c1_i32_984_r0 : BitVec 32 := 1#32
  let v2042_r0 : BitVec 32 := Scalar.subi v1202_r0 c1_i32_984_r0
  let c8_i32_985_r0 : BitVec 32 := 8#32
  let v2043_r0 : BitVec 32 := Scalar.muli v2042_r0 c8_i32_985_r0
  let c7_i32_986_r0 : BitVec 32 := 7#32
  let v2044_r0 : BitVec 32 := Scalar.addi v2043_r0 c7_i32_986_r0
  let c8_i32_990_r0 : BitVec 32 := 8#32
  let v2047_r0 : BitVec 32 := Scalar.muli v2044_r0 c8_i32_990_r0
  v2047_r0
def k0_mult769 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c0_i32_999_r0 : BitVec 32 := 0#32
  let v2066_r0 : BitVec 32 := Scalar.addi v2046_r0 c0_i32_999_r0
  let c128_i32_1000_r0 : BitVec 32 := 128#32
  let v2067_r0 : BitVec 32 := Scalar.muli v2066_r0 c128_i32_1000_r0
  v2067_r0
def k0_mult770 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c1_i32_1008_r0 : BitVec 32 := 1#32
  let v2087_r0 : BitVec 32 := Scalar.addi v2046_r0 c1_i32_1008_r0
  let c128_i32_1009_r0 : BitVec 32 := 128#32
  let v2088_r0 : BitVec 32 := Scalar.muli v2087_r0 c128_i32_1009_r0
  v2088_r0
def k0_mult771 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c2_i32_1017_r0 : BitVec 32 := 2#32
  let v2108_r0 : BitVec 32 := Scalar.addi v2046_r0 c2_i32_1017_r0
  let c128_i32_1018_r0 : BitVec 32 := 128#32
  let v2109_r0 : BitVec 32 := Scalar.muli v2108_r0 c128_i32_1018_r0
  v2109_r0
def k0_mult772 : BitVec 32 :=
  let c35_i32_987_r0 : BitVec 32 := 35#32
  let c0_i32_988_r0 : BitVec 32 := 0#32
  let v2045_r0 : BitVec 32 := Scalar.maxsi c35_i32_987_r0 c0_i32_988_r0
  let c4_i32_989_r0 : BitVec 32 := 4#32
  let v2046_r0 : BitVec 32 := Scalar.muli v2045_r0 c4_i32_989_r0
  let c3_i32_1026_r0 : BitVec 32 := 3#32
  let v2129_r0 : BitVec 32 := Scalar.addi v2046_r0 c3_i32_1026_r0
  let c128_i32_1027_r0 : BitVec 32 := 128#32
  let v2130_r0 : BitVec 32 := Scalar.muli v2129_r0 c128_i32_1027_r0
  v2130_r0
def k0_mult773 : BitVec 32 :=
  let c6144_i32_r0 : BitVec 32 := 6144#32
  c6144_i32_r0
def k0_mult774 : BitVec 32 :=
  let c6400_i32_r0 : BitVec 32 := 6400#32
  c6400_i32_r0
def k0_off310 : Fin 3 → Nat :=
  let c36_i32_202_r0 : BitVec 32 := 36#32
  let c8_i32_203_r0 : BitVec 32 := 8#32
  let v349_r0 : BitVec 32 := Scalar.remsi c36_i32_202_r0 c8_i32_203_r0
  let v351_r0 : Index := Scalar.indexCast v349_r0
  let c0_204_r0 : Index := 0#32
  let c6400_i32_r0 : BitVec 32 := 6400#32
  let v350_r0 : BitVec 32 := c6400_i32_r0
  let v352_r0 : Index := Scalar.indexCast v350_r0
  ![v351_r0.toNat, 0, 6400]
def k0_mult775 : BitVec 32 :=
  let c6400_i32_205_r0 : BitVec 32 := 6400#32
  c6400_i32_205_r0
def k0_off311 : Fin 3 → Nat :=
  let c36_i32_202_r0 : BitVec 32 := 36#32
  let c8_i32_203_r0 : BitVec 32 := 8#32
  let v349_r0 : BitVec 32 := Scalar.remsi c36_i32_202_r0 c8_i32_203_r0
  let v357_r0 : Index := Scalar.indexCast v349_r0
  let c256_206_r0 : Index := 256#32
  let c6400_i32_205_r0 : BitVec 32 := 6400#32
  let v356_r0 : BitVec 32 := c6400_i32_205_r0
  let v358_r0 : Index := Scalar.indexCast v356_r0
  ![v357_r0.toNat, 256, 6400]
def k0_mult776 : BitVec 32 :=
  let c128_i32_209_r0 : BitVec 32 := 128#32
  c128_i32_209_r0
def k0_off312 (c0_i32_211_r0 : BitVec 32) : Fin 2 → Nat :=
  let c35_i32_r0 : BitVec 32 := 35#32
  let c0_i32_207_r0 : BitVec 32 := 0#32
  let v362_r0 : BitVec 32 := Scalar.maxsi c35_i32_r0 c0_i32_207_r0
  let c4_i32_208_r0 : BitVec 32 := 4#32
  let v363_r0 : BitVec 32 := Scalar.muli v362_r0 c4_i32_208_r0
  let v367_r0 : BitVec 32 := Scalar.addi v363_r0 c0_i32_211_r0
  let v368_r0 : Index := Scalar.indexCast v367_r0
  let c0_212_r0 : Index := 0#32
  ![v368_r0.toNat, 0]
def k0_mult777 : BitVec 32 :=
  let c35_i32_r0 : BitVec 32 := 35#32
  let c0_i32_207_r0 : BitVec 32 := 0#32
  let v362_r0 : BitVec 32 := Scalar.maxsi c35_i32_r0 c0_i32_207_r0
  let c4_i32_208_r0 : BitVec 32 := 4#32
  let v363_r0 : BitVec 32 := Scalar.muli v362_r0 c4_i32_208_r0
  let c0_i32_216_r0 : BitVec 32 := 0#32
  let v382_r0 : BitVec 32 := Scalar.addi v363_r0 c0_i32_216_r0
  let c128_i32_217_r0 : BitVec 32 := 128#32
  let v383_r0 : BitVec 32 := Scalar.muli v382_r0 c128_i32_217_r0
  v383_r0
def k0_off313 (c0_i32_216_r0 : BitVec 32) : Fin 2 → Nat :=
  let c128_i32_209_r0 : BitVec 32 := 128#32
  let v364_r0 : BitVec 32 := c128_i32_209_r0
  let v385_r0 : Index := Scalar.indexCast v364_r0
  let c35_i32_r0 : BitVec 32 := 35#32
  let c0_i32_207_r0 : BitVec 32 := 0#32
  let v362_r0 : BitVec 32 := Scalar.maxsi c35_i32_r0 c0_i32_207_r0
  let c4_i32_208_r0 : BitVec 32 := 4#32
  let v363_r0 : BitVec 32 := Scalar.muli v362_r0 c4_i32_208_r0
  let v382_r0 : BitVec 32 := Scalar.addi v363_r0 c0_i32_216_r0
  let c128_i32_217_r0 : BitVec 32 := 128#32
  let v383_r0 : BitVec 32 := Scalar.muli v382_r0 c128_i32_217_r0
  let v384_r0 : BitVec 32 := v383_r0
  let v386_r0 : Index := Scalar.indexCast v384_r0
  ![128, v386_r0.toNat]
def k0_mult778 : BitVec 32 :=
  let c35_i32_r0 : BitVec 32 := 35#32
  let c0_i32_207_r0 : BitVec 32 := 0#32
  let v362_r0 : BitVec 32 := Scalar.maxsi c35_i32_r0 c0_i32_207_r0
  let c4_i32_208_r0 : BitVec 32 := 4#32
  let v363_r0 : BitVec 32 := Scalar.muli v362_r0 c4_i32_208_r0
  let c1_i32_224_r0 : BitVec 32 := 1#32
  let v403_r0 : BitVec 32 := Scalar.addi v363_r0 c1_i32_224_r0
  let c128_i32_225_r0 : BitVec 32 := 128#32
  let v404_r0 : BitVec 32 := Scalar.muli v403_r0 c128_i32_225_r0
  v404_r0
def k0_mult779 : BitVec 32 :=
  let c35_i32_r0 : BitVec 32 := 35#32
  let c0_i32_207_r0 : BitVec 32 := 0#32
  let v362_r0 : BitVec 32 := Scalar.maxsi c35_i32_r0 c0_i32_207_r0
  let c4_i32_208_r0 : BitVec 32 := 4#32
  let v363_r0 : BitVec 32 := Scalar.muli v362_r0 c4_i32_208_r0
  let c2_i32_233_r0 : BitVec 32 := 2#32
  let v424_r0 : BitVec 32 := Scalar.addi v363_r0 c2_i32_233_r0
  let c128_i32_234_r0 : BitVec 32 := 128#32
  let v425_r0 : BitVec 32 := Scalar.muli v424_r0 c128_i32_234_r0
  v425_r0
def k0_mult780 : BitVec 32 :=
  let c35_i32_r0 : BitVec 32 := 35#32
  let c0_i32_207_r0 : BitVec 32 := 0#32
  let v362_r0 : BitVec 32 := Scalar.maxsi c35_i32_r0 c0_i32_207_r0
  let c4_i32_208_r0 : BitVec 32 := 4#32
  let v363_r0 : BitVec 32 := Scalar.muli v362_r0 c4_i32_208_r0
  let c3_i32_241_r0 : BitVec 32 := 3#32
  let v445_r0 : BitVec 32 := Scalar.addi v363_r0 c3_i32_241_r0
  let c128_i32_242_r0 : BitVec 32 := 128#32
  let v446_r0 : BitVec 32 := Scalar.muli v445_r0 c128_i32_242_r0
  v446_r0
def k0_mult781 : BitVec 32 :=
  let c6400_i32_243_r0 : BitVec 32 := 6400#32
  c6400_i32_243_r0
def k0_mult782 : BitVec 32 :=
  let c6656_i32_r0 : BitVec 32 := 6656#32
  c6656_i32_r0
def k0_off314 : Fin 3 → Nat :=
  let c36_i32_245_r0 : BitVec 32 := 36#32
  let c8_i32_246_r0 : BitVec 32 := 8#32
  let v455_r0 : BitVec 32 := Scalar.remsi c36_i32_245_r0 c8_i32_246_r0
  let v457_r0 : Index := Scalar.indexCast v455_r0
  let c0_247_r0 : Index := 0#32
  let c6656_i32_r0 : BitVec 32 := 6656#32
  let v456_r0 : BitVec 32 := c6656_i32_r0
  let v458_r0 : Index := Scalar.indexCast v456_r0
  ![v457_r0.toNat, 0, 6656]
def k0_mult783 : BitVec 32 :=
  let c6656_i32_248_r0 : BitVec 32 := 6656#32
  c6656_i32_248_r0
def k0_off315 : Fin 3 → Nat :=
  let c36_i32_245_r0 : BitVec 32 := 36#32
  let c8_i32_246_r0 : BitVec 32 := 8#32
  let v455_r0 : BitVec 32 := Scalar.remsi c36_i32_245_r0 c8_i32_246_r0
  let v463_r0 : Index := Scalar.indexCast v455_r0
  let c256_249_r0 : Index := 256#32
  let c6656_i32_248_r0 : BitVec 32 := 6656#32
  let v462_r0 : BitVec 32 := c6656_i32_248_r0
  let v464_r0 : Index := Scalar.indexCast v462_r0
  ![v463_r0.toNat, 256, 6656]
def k0_mult784 : BitVec 32 :=
  let c136_i32_r0 : BitVec 32 := 136#32
  c136_i32_r0
def k0_mult785 : BitVec 32 :=
  let c35_i32_250_r0 : BitVec 32 := 35#32
  let c0_i32_251_r0 : BitVec 32 := 0#32
  let v468_r0 : BitVec 32 := Scalar.maxsi c35_i32_250_r0 c0_i32_251_r0
  let c4_i32_252_r0 : BitVec 32 := 4#32
  let v469_r0 : BitVec 32 := Scalar.muli v468_r0 c4_i32_252_r0
  let c0_i32_261_r0 : BitVec 32 := 0#32
  let v488_r0 : BitVec 32 := Scalar.addi v469_r0 c0_i32_261_r0
  let c128_i32_262_r0 : BitVec 32 := 128#32
  let v489_r0 : BitVec 32 := Scalar.muli v488_r0 c128_i32_262_r0
  v489_r0
def k0_off316 (c0_i32_261_r0 : BitVec 32) : Fin 2 → Nat :=
  let c136_i32_r0 : BitVec 32 := 136#32
  let v470_r0 : BitVec 32 := c136_i32_r0
  let v491_r0 : Index := Scalar.indexCast v470_r0
  let c35_i32_250_r0 : BitVec 32 := 35#32
  let c0_i32_251_r0 : BitVec 32 := 0#32
  let v468_r0 : BitVec 32 := Scalar.maxsi c35_i32_250_r0 c0_i32_251_r0
  let c4_i32_252_r0 : BitVec 32 := 4#32
  let v469_r0 : BitVec 32 := Scalar.muli v468_r0 c4_i32_252_r0
  let v488_r0 : BitVec 32 := Scalar.addi v469_r0 c0_i32_261_r0
  let c128_i32_262_r0 : BitVec 32 := 128#32
  let v489_r0 : BitVec 32 := Scalar.muli v488_r0 c128_i32_262_r0
  let v490_r0 : BitVec 32 := v489_r0
  let v492_r0 : Index := Scalar.indexCast v490_r0
  ![136, v492_r0.toNat]
def k0_mult786 : BitVec 32 :=
  let c35_i32_250_r0 : BitVec 32 := 35#32
  let c0_i32_251_r0 : BitVec 32 := 0#32
  let v468_r0 : BitVec 32 := Scalar.maxsi c35_i32_250_r0 c0_i32_251_r0
  let c4_i32_252_r0 : BitVec 32 := 4#32
  let v469_r0 : BitVec 32 := Scalar.muli v468_r0 c4_i32_252_r0
  let c1_i32_270_r0 : BitVec 32 := 1#32
  let v509_r0 : BitVec 32 := Scalar.addi v469_r0 c1_i32_270_r0
  let c128_i32_271_r0 : BitVec 32 := 128#32
  let v510_r0 : BitVec 32 := Scalar.muli v509_r0 c128_i32_271_r0
  v510_r0
def k0_mult787 : BitVec 32 :=
  let c35_i32_250_r0 : BitVec 32 := 35#32
  let c0_i32_251_r0 : BitVec 32 := 0#32
  let v468_r0 : BitVec 32 := Scalar.maxsi c35_i32_250_r0 c0_i32_251_r0
  let c4_i32_252_r0 : BitVec 32 := 4#32
  let v469_r0 : BitVec 32 := Scalar.muli v468_r0 c4_i32_252_r0
  let c2_i32_279_r0 : BitVec 32 := 2#32
  let v530_r0 : BitVec 32 := Scalar.addi v469_r0 c2_i32_279_r0
  let c128_i32_280_r0 : BitVec 32 := 128#32
  let v531_r0 : BitVec 32 := Scalar.muli v530_r0 c128_i32_280_r0
  v531_r0
def k0_mult788 : BitVec 32 :=
  let c35_i32_250_r0 : BitVec 32 := 35#32
  let c0_i32_251_r0 : BitVec 32 := 0#32
  let v468_r0 : BitVec 32 := Scalar.maxsi c35_i32_250_r0 c0_i32_251_r0
  let c4_i32_252_r0 : BitVec 32 := 4#32
  let v469_r0 : BitVec 32 := Scalar.muli v468_r0 c4_i32_252_r0
  let c3_i32_288_r0 : BitVec 32 := 3#32
  let v551_r0 : BitVec 32 := Scalar.addi v469_r0 c3_i32_288_r0
  let c128_i32_289_r0 : BitVec 32 := 128#32
  let v552_r0 : BitVec 32 := Scalar.muli v551_r0 c128_i32_289_r0
  v552_r0
def k0_mult789 : BitVec 32 :=
  let c6656_i32_290_r0 : BitVec 32 := 6656#32
  c6656_i32_290_r0
def k0_mult790 : BitVec 32 :=
  let c6912_i32_r0 : BitVec 32 := 6912#32
  c6912_i32_r0
def k0_off317 : Fin 3 → Nat :=
  let c36_i32_292_r0 : BitVec 32 := 36#32
  let c8_i32_293_r0 : BitVec 32 := 8#32
  let v561_r0 : BitVec 32 := Scalar.remsi c36_i32_292_r0 c8_i32_293_r0
  let v563_r0 : Index := Scalar.indexCast v561_r0
  let c0_294_r0 : Index := 0#32
  let c6912_i32_r0 : BitVec 32 := 6912#32
  let v562_r0 : BitVec 32 := c6912_i32_r0
  let v564_r0 : Index := Scalar.indexCast v562_r0
  ![v563_r0.toNat, 0, 6912]
def k0_mult791 : BitVec 32 :=
  let c6912_i32_295_r0 : BitVec 32 := 6912#32
  c6912_i32_295_r0
def k0_off318 : Fin 3 → Nat :=
  let c36_i32_292_r0 : BitVec 32 := 36#32
  let c8_i32_293_r0 : BitVec 32 := 8#32
  let v561_r0 : BitVec 32 := Scalar.remsi c36_i32_292_r0 c8_i32_293_r0
  let v569_r0 : Index := Scalar.indexCast v561_r0
  let c256_296_r0 : Index := 256#32
  let c6912_i32_295_r0 : BitVec 32 := 6912#32
  let v568_r0 : BitVec 32 := c6912_i32_295_r0
  let v570_r0 : Index := Scalar.indexCast v568_r0
  ![v569_r0.toNat, 256, 6912]
def k0_mult792 : BitVec 32 :=
  let c144_i32_r0 : BitVec 32 := 144#32
  c144_i32_r0
def k0_mult793 : BitVec 32 :=
  let c35_i32_297_r0 : BitVec 32 := 35#32
  let c0_i32_298_r0 : BitVec 32 := 0#32
  let v574_r0 : BitVec 32 := Scalar.maxsi c35_i32_297_r0 c0_i32_298_r0
  let c4_i32_299_r0 : BitVec 32 := 4#32
  let v575_r0 : BitVec 32 := Scalar.muli v574_r0 c4_i32_299_r0
  let c0_i32_308_r0 : BitVec 32 := 0#32
  let v594_r0 : BitVec 32 := Scalar.addi v575_r0 c0_i32_308_r0
  let c128_i32_309_r0 : BitVec 32 := 128#32
  let v595_r0 : BitVec 32 := Scalar.muli v594_r0 c128_i32_309_r0
  v595_r0
def k0_off319 (c0_i32_308_r0 : BitVec 32) : Fin 2 → Nat :=
  let c144_i32_r0 : BitVec 32 := 144#32
  let v576_r0 : BitVec 32 := c144_i32_r0
  let v597_r0 : Index := Scalar.indexCast v576_r0
  let c35_i32_297_r0 : BitVec 32 := 35#32
  let c0_i32_298_r0 : BitVec 32 := 0#32
  let v574_r0 : BitVec 32 := Scalar.maxsi c35_i32_297_r0 c0_i32_298_r0
  let c4_i32_299_r0 : BitVec 32 := 4#32
  let v575_r0 : BitVec 32 := Scalar.muli v574_r0 c4_i32_299_r0
  let v594_r0 : BitVec 32 := Scalar.addi v575_r0 c0_i32_308_r0
  let c128_i32_309_r0 : BitVec 32 := 128#32
  let v595_r0 : BitVec 32 := Scalar.muli v594_r0 c128_i32_309_r0
  let v596_r0 : BitVec 32 := v595_r0
  let v598_r0 : Index := Scalar.indexCast v596_r0
  ![144, v598_r0.toNat]
def k0_mult794 : BitVec 32 :=
  let c35_i32_297_r0 : BitVec 32 := 35#32
  let c0_i32_298_r0 : BitVec 32 := 0#32
  let v574_r0 : BitVec 32 := Scalar.maxsi c35_i32_297_r0 c0_i32_298_r0
  let c4_i32_299_r0 : BitVec 32 := 4#32
  let v575_r0 : BitVec 32 := Scalar.muli v574_r0 c4_i32_299_r0
  let c1_i32_317_r0 : BitVec 32 := 1#32
  let v615_r0 : BitVec 32 := Scalar.addi v575_r0 c1_i32_317_r0
  let c128_i32_318_r0 : BitVec 32 := 128#32
  let v616_r0 : BitVec 32 := Scalar.muli v615_r0 c128_i32_318_r0
  v616_r0
def k0_mult795 : BitVec 32 :=
  let c35_i32_297_r0 : BitVec 32 := 35#32
  let c0_i32_298_r0 : BitVec 32 := 0#32
  let v574_r0 : BitVec 32 := Scalar.maxsi c35_i32_297_r0 c0_i32_298_r0
  let c4_i32_299_r0 : BitVec 32 := 4#32
  let v575_r0 : BitVec 32 := Scalar.muli v574_r0 c4_i32_299_r0
  let c2_i32_326_r0 : BitVec 32 := 2#32
  let v636_r0 : BitVec 32 := Scalar.addi v575_r0 c2_i32_326_r0
  let c128_i32_327_r0 : BitVec 32 := 128#32
  let v637_r0 : BitVec 32 := Scalar.muli v636_r0 c128_i32_327_r0
  v637_r0
def k0_mult796 : BitVec 32 :=
  let c35_i32_297_r0 : BitVec 32 := 35#32
  let c0_i32_298_r0 : BitVec 32 := 0#32
  let v574_r0 : BitVec 32 := Scalar.maxsi c35_i32_297_r0 c0_i32_298_r0
  let c4_i32_299_r0 : BitVec 32 := 4#32
  let v575_r0 : BitVec 32 := Scalar.muli v574_r0 c4_i32_299_r0
  let c3_i32_335_r0 : BitVec 32 := 3#32
  let v657_r0 : BitVec 32 := Scalar.addi v575_r0 c3_i32_335_r0
  let c128_i32_336_r0 : BitVec 32 := 128#32
  let v658_r0 : BitVec 32 := Scalar.muli v657_r0 c128_i32_336_r0
  v658_r0
def k0_mult797 : BitVec 32 :=
  let c6912_i32_337_r0 : BitVec 32 := 6912#32
  c6912_i32_337_r0
def k0_mult798 : BitVec 32 :=
  let c7168_i32_r0 : BitVec 32 := 7168#32
  c7168_i32_r0
def k0_off320 : Fin 3 → Nat :=
  let c36_i32_339_r0 : BitVec 32 := 36#32
  let c8_i32_340_r0 : BitVec 32 := 8#32
  let v667_r0 : BitVec 32 := Scalar.remsi c36_i32_339_r0 c8_i32_340_r0
  let v669_r0 : Index := Scalar.indexCast v667_r0
  let c0_341_r0 : Index := 0#32
  let c7168_i32_r0 : BitVec 32 := 7168#32
  let v668_r0 : BitVec 32 := c7168_i32_r0
  let v670_r0 : Index := Scalar.indexCast v668_r0
  ![v669_r0.toNat, 0, 7168]
def k0_mult799 : BitVec 32 :=
  let c7168_i32_342_r0 : BitVec 32 := 7168#32
  c7168_i32_342_r0
def k0_off321 : Fin 3 → Nat :=
  let c36_i32_339_r0 : BitVec 32 := 36#32
  let c8_i32_340_r0 : BitVec 32 := 8#32
  let v667_r0 : BitVec 32 := Scalar.remsi c36_i32_339_r0 c8_i32_340_r0
  let v675_r0 : Index := Scalar.indexCast v667_r0
  let c256_343_r0 : Index := 256#32
  let c7168_i32_342_r0 : BitVec 32 := 7168#32
  let v674_r0 : BitVec 32 := c7168_i32_342_r0
  let v676_r0 : Index := Scalar.indexCast v674_r0
  ![v675_r0.toNat, 256, 7168]
def k0_mult800 : BitVec 32 :=
  let c152_i32_r0 : BitVec 32 := 152#32
  c152_i32_r0
def k0_mult801 : BitVec 32 :=
  let c35_i32_344_r0 : BitVec 32 := 35#32
  let c0_i32_345_r0 : BitVec 32 := 0#32
  let v680_r0 : BitVec 32 := Scalar.maxsi c35_i32_344_r0 c0_i32_345_r0
  let c4_i32_346_r0 : BitVec 32 := 4#32
  let v681_r0 : BitVec 32 := Scalar.muli v680_r0 c4_i32_346_r0
  let c0_i32_355_r0 : BitVec 32 := 0#32
  let v700_r0 : BitVec 32 := Scalar.addi v681_r0 c0_i32_355_r0
  let c128_i32_356_r0 : BitVec 32 := 128#32
  let v701_r0 : BitVec 32 := Scalar.muli v700_r0 c128_i32_356_r0
  v701_r0
def k0_off322 (c0_i32_355_r0 : BitVec 32) : Fin 2 → Nat :=
  let c152_i32_r0 : BitVec 32 := 152#32
  let v682_r0 : BitVec 32 := c152_i32_r0
  let v703_r0 : Index := Scalar.indexCast v682_r0
  let c35_i32_344_r0 : BitVec 32 := 35#32
  let c0_i32_345_r0 : BitVec 32 := 0#32
  let v680_r0 : BitVec 32 := Scalar.maxsi c35_i32_344_r0 c0_i32_345_r0
  let c4_i32_346_r0 : BitVec 32 := 4#32
  let v681_r0 : BitVec 32 := Scalar.muli v680_r0 c4_i32_346_r0
  let v700_r0 : BitVec 32 := Scalar.addi v681_r0 c0_i32_355_r0
  let c128_i32_356_r0 : BitVec 32 := 128#32
  let v701_r0 : BitVec 32 := Scalar.muli v700_r0 c128_i32_356_r0
  let v702_r0 : BitVec 32 := v701_r0
  let v704_r0 : Index := Scalar.indexCast v702_r0
  ![152, v704_r0.toNat]
def k0_mult802 : BitVec 32 :=
  let c35_i32_344_r0 : BitVec 32 := 35#32
  let c0_i32_345_r0 : BitVec 32 := 0#32
  let v680_r0 : BitVec 32 := Scalar.maxsi c35_i32_344_r0 c0_i32_345_r0
  let c4_i32_346_r0 : BitVec 32 := 4#32
  let v681_r0 : BitVec 32 := Scalar.muli v680_r0 c4_i32_346_r0
  let c1_i32_364_r0 : BitVec 32 := 1#32
  let v721_r0 : BitVec 32 := Scalar.addi v681_r0 c1_i32_364_r0
  let c128_i32_365_r0 : BitVec 32 := 128#32
  let v722_r0 : BitVec 32 := Scalar.muli v721_r0 c128_i32_365_r0
  v722_r0
def k0_mult803 : BitVec 32 :=
  let c35_i32_344_r0 : BitVec 32 := 35#32
  let c0_i32_345_r0 : BitVec 32 := 0#32
  let v680_r0 : BitVec 32 := Scalar.maxsi c35_i32_344_r0 c0_i32_345_r0
  let c4_i32_346_r0 : BitVec 32 := 4#32
  let v681_r0 : BitVec 32 := Scalar.muli v680_r0 c4_i32_346_r0
  let c2_i32_373_r0 : BitVec 32 := 2#32
  let v742_r0 : BitVec 32 := Scalar.addi v681_r0 c2_i32_373_r0
  let c128_i32_374_r0 : BitVec 32 := 128#32
  let v743_r0 : BitVec 32 := Scalar.muli v742_r0 c128_i32_374_r0
  v743_r0
def k0_mult804 : BitVec 32 :=
  let c35_i32_344_r0 : BitVec 32 := 35#32
  let c0_i32_345_r0 : BitVec 32 := 0#32
  let v680_r0 : BitVec 32 := Scalar.maxsi c35_i32_344_r0 c0_i32_345_r0
  let c4_i32_346_r0 : BitVec 32 := 4#32
  let v681_r0 : BitVec 32 := Scalar.muli v680_r0 c4_i32_346_r0
  let c3_i32_382_r0 : BitVec 32 := 3#32
  let v763_r0 : BitVec 32 := Scalar.addi v681_r0 c3_i32_382_r0
  let c128_i32_383_r0 : BitVec 32 := 128#32
  let v764_r0 : BitVec 32 := Scalar.muli v763_r0 c128_i32_383_r0
  v764_r0
def k0_mult805 : BitVec 32 :=
  let c7168_i32_384_r0 : BitVec 32 := 7168#32
  c7168_i32_384_r0
def k0_mult806 : BitVec 32 :=
  let c7424_i32_r0 : BitVec 32 := 7424#32
  c7424_i32_r0
def k0_off323 : Fin 3 → Nat :=
  let c36_i32_386_r0 : BitVec 32 := 36#32
  let c8_i32_387_r0 : BitVec 32 := 8#32
  let v773_r0 : BitVec 32 := Scalar.remsi c36_i32_386_r0 c8_i32_387_r0
  let v775_r0 : Index := Scalar.indexCast v773_r0
  let c0_388_r0 : Index := 0#32
  let c7424_i32_r0 : BitVec 32 := 7424#32
  let v774_r0 : BitVec 32 := c7424_i32_r0
  let v776_r0 : Index := Scalar.indexCast v774_r0
  ![v775_r0.toNat, 0, 7424]
def k0_mult807 : BitVec 32 :=
  let c7424_i32_389_r0 : BitVec 32 := 7424#32
  c7424_i32_389_r0
def k0_off324 : Fin 3 → Nat :=
  let c36_i32_386_r0 : BitVec 32 := 36#32
  let c8_i32_387_r0 : BitVec 32 := 8#32
  let v773_r0 : BitVec 32 := Scalar.remsi c36_i32_386_r0 c8_i32_387_r0
  let v781_r0 : Index := Scalar.indexCast v773_r0
  let c256_390_r0 : Index := 256#32
  let c7424_i32_389_r0 : BitVec 32 := 7424#32
  let v780_r0 : BitVec 32 := c7424_i32_389_r0
  let v782_r0 : Index := Scalar.indexCast v780_r0
  ![v781_r0.toNat, 256, 7424]
def k0_mult808 : BitVec 32 :=
  let c160_i32_394_r0 : BitVec 32 := 160#32
  c160_i32_394_r0
def k0_mult809 : BitVec 32 :=
  let c35_i32_391_r0 : BitVec 32 := 35#32
  let c0_i32_392_r0 : BitVec 32 := 0#32
  let v786_r0 : BitVec 32 := Scalar.maxsi c35_i32_391_r0 c0_i32_392_r0
  let c4_i32_393_r0 : BitVec 32 := 4#32
  let v787_r0 : BitVec 32 := Scalar.muli v786_r0 c4_i32_393_r0
  let c0_i32_403_r0 : BitVec 32 := 0#32
  let v806_r0 : BitVec 32 := Scalar.addi v787_r0 c0_i32_403_r0
  let c128_i32_404_r0 : BitVec 32 := 128#32
  let v807_r0 : BitVec 32 := Scalar.muli v806_r0 c128_i32_404_r0
  v807_r0
def k0_off325 (c0_i32_403_r0 : BitVec 32) : Fin 2 → Nat :=
  let c160_i32_394_r0 : BitVec 32 := 160#32
  let v788_r0 : BitVec 32 := c160_i32_394_r0
  let v809_r0 : Index := Scalar.indexCast v788_r0
  let c35_i32_391_r0 : BitVec 32 := 35#32
  let c0_i32_392_r0 : BitVec 32 := 0#32
  let v786_r0 : BitVec 32 := Scalar.maxsi c35_i32_391_r0 c0_i32_392_r0
  let c4_i32_393_r0 : BitVec 32 := 4#32
  let v787_r0 : BitVec 32 := Scalar.muli v786_r0 c4_i32_393_r0
  let v806_r0 : BitVec 32 := Scalar.addi v787_r0 c0_i32_403_r0
  let c128_i32_404_r0 : BitVec 32 := 128#32
  let v807_r0 : BitVec 32 := Scalar.muli v806_r0 c128_i32_404_r0
  let v808_r0 : BitVec 32 := v807_r0
  let v810_r0 : Index := Scalar.indexCast v808_r0
  ![160, v810_r0.toNat]
def k0_mult810 : BitVec 32 :=
  let c35_i32_391_r0 : BitVec 32 := 35#32
  let c0_i32_392_r0 : BitVec 32 := 0#32
  let v786_r0 : BitVec 32 := Scalar.maxsi c35_i32_391_r0 c0_i32_392_r0
  let c4_i32_393_r0 : BitVec 32 := 4#32
  let v787_r0 : BitVec 32 := Scalar.muli v786_r0 c4_i32_393_r0
  let c1_i32_412_r0 : BitVec 32 := 1#32
  let v827_r0 : BitVec 32 := Scalar.addi v787_r0 c1_i32_412_r0
  let c128_i32_413_r0 : BitVec 32 := 128#32
  let v828_r0 : BitVec 32 := Scalar.muli v827_r0 c128_i32_413_r0
  v828_r0
def k0_mult811 : BitVec 32 :=
  let c35_i32_391_r0 : BitVec 32 := 35#32
  let c0_i32_392_r0 : BitVec 32 := 0#32
  let v786_r0 : BitVec 32 := Scalar.maxsi c35_i32_391_r0 c0_i32_392_r0
  let c4_i32_393_r0 : BitVec 32 := 4#32
  let v787_r0 : BitVec 32 := Scalar.muli v786_r0 c4_i32_393_r0
  let c2_i32_421_r0 : BitVec 32 := 2#32
  let v848_r0 : BitVec 32 := Scalar.addi v787_r0 c2_i32_421_r0
  let c128_i32_422_r0 : BitVec 32 := 128#32
  let v849_r0 : BitVec 32 := Scalar.muli v848_r0 c128_i32_422_r0
  v849_r0
def k0_mult812 : BitVec 32 :=
  let c35_i32_391_r0 : BitVec 32 := 35#32
  let c0_i32_392_r0 : BitVec 32 := 0#32
  let v786_r0 : BitVec 32 := Scalar.maxsi c35_i32_391_r0 c0_i32_392_r0
  let c4_i32_393_r0 : BitVec 32 := 4#32
  let v787_r0 : BitVec 32 := Scalar.muli v786_r0 c4_i32_393_r0
  let c3_i32_430_r0 : BitVec 32 := 3#32
  let v869_r0 : BitVec 32 := Scalar.addi v787_r0 c3_i32_430_r0
  let c128_i32_431_r0 : BitVec 32 := 128#32
  let v870_r0 : BitVec 32 := Scalar.muli v869_r0 c128_i32_431_r0
  v870_r0
def k0_mult813 : BitVec 32 :=
  let c7424_i32_432_r0 : BitVec 32 := 7424#32
  c7424_i32_432_r0
def k0_mult814 : BitVec 32 :=
  let c7680_i32_r0 : BitVec 32 := 7680#32
  c7680_i32_r0
def k0_off326 : Fin 3 → Nat :=
  let c36_i32_434_r0 : BitVec 32 := 36#32
  let c8_i32_435_r0 : BitVec 32 := 8#32
  let v879_r0 : BitVec 32 := Scalar.remsi c36_i32_434_r0 c8_i32_435_r0
  let v881_r0 : Index := Scalar.indexCast v879_r0
  let c0_436_r0 : Index := 0#32
  let c7680_i32_r0 : BitVec 32 := 7680#32
  let v880_r0 : BitVec 32 := c7680_i32_r0
  let v882_r0 : Index := Scalar.indexCast v880_r0
  ![v881_r0.toNat, 0, 7680]
def k0_mult815 : BitVec 32 :=
  let c7680_i32_437_r0 : BitVec 32 := 7680#32
  c7680_i32_437_r0
def k0_off327 : Fin 3 → Nat :=
  let c36_i32_434_r0 : BitVec 32 := 36#32
  let c8_i32_435_r0 : BitVec 32 := 8#32
  let v879_r0 : BitVec 32 := Scalar.remsi c36_i32_434_r0 c8_i32_435_r0
  let v887_r0 : Index := Scalar.indexCast v879_r0
  let c256_438_r0 : Index := 256#32
  let c7680_i32_437_r0 : BitVec 32 := 7680#32
  let v886_r0 : BitVec 32 := c7680_i32_437_r0
  let v888_r0 : Index := Scalar.indexCast v886_r0
  ![v887_r0.toNat, 256, 7680]
def k0_mult816 : BitVec 32 :=
  let c168_i32_r0 : BitVec 32 := 168#32
  c168_i32_r0
def k0_mult817 : BitVec 32 :=
  let c35_i32_439_r0 : BitVec 32 := 35#32
  let c0_i32_440_r0 : BitVec 32 := 0#32
  let v892_r0 : BitVec 32 := Scalar.maxsi c35_i32_439_r0 c0_i32_440_r0
  let c4_i32_441_r0 : BitVec 32 := 4#32
  let v893_r0 : BitVec 32 := Scalar.muli v892_r0 c4_i32_441_r0
  let c0_i32_450_r0 : BitVec 32 := 0#32
  let v912_r0 : BitVec 32 := Scalar.addi v893_r0 c0_i32_450_r0
  let c128_i32_451_r0 : BitVec 32 := 128#32
  let v913_r0 : BitVec 32 := Scalar.muli v912_r0 c128_i32_451_r0
  v913_r0
def k0_off328 (c0_i32_450_r0 : BitVec 32) : Fin 2 → Nat :=
  let c168_i32_r0 : BitVec 32 := 168#32
  let v894_r0 : BitVec 32 := c168_i32_r0
  let v915_r0 : Index := Scalar.indexCast v894_r0
  let c35_i32_439_r0 : BitVec 32 := 35#32
  let c0_i32_440_r0 : BitVec 32 := 0#32
  let v892_r0 : BitVec 32 := Scalar.maxsi c35_i32_439_r0 c0_i32_440_r0
  let c4_i32_441_r0 : BitVec 32 := 4#32
  let v893_r0 : BitVec 32 := Scalar.muli v892_r0 c4_i32_441_r0
  let v912_r0 : BitVec 32 := Scalar.addi v893_r0 c0_i32_450_r0
  let c128_i32_451_r0 : BitVec 32 := 128#32
  let v913_r0 : BitVec 32 := Scalar.muli v912_r0 c128_i32_451_r0
  let v914_r0 : BitVec 32 := v913_r0
  let v916_r0 : Index := Scalar.indexCast v914_r0
  ![168, v916_r0.toNat]
def k0_mult818 : BitVec 32 :=
  let c35_i32_439_r0 : BitVec 32 := 35#32
  let c0_i32_440_r0 : BitVec 32 := 0#32
  let v892_r0 : BitVec 32 := Scalar.maxsi c35_i32_439_r0 c0_i32_440_r0
  let c4_i32_441_r0 : BitVec 32 := 4#32
  let v893_r0 : BitVec 32 := Scalar.muli v892_r0 c4_i32_441_r0
  let c1_i32_459_r0 : BitVec 32 := 1#32
  let v933_r0 : BitVec 32 := Scalar.addi v893_r0 c1_i32_459_r0
  let c128_i32_460_r0 : BitVec 32 := 128#32
  let v934_r0 : BitVec 32 := Scalar.muli v933_r0 c128_i32_460_r0
  v934_r0
def k0_mult819 : BitVec 32 :=
  let c35_i32_439_r0 : BitVec 32 := 35#32
  let c0_i32_440_r0 : BitVec 32 := 0#32
  let v892_r0 : BitVec 32 := Scalar.maxsi c35_i32_439_r0 c0_i32_440_r0
  let c4_i32_441_r0 : BitVec 32 := 4#32
  let v893_r0 : BitVec 32 := Scalar.muli v892_r0 c4_i32_441_r0
  let c2_i32_468_r0 : BitVec 32 := 2#32
  let v954_r0 : BitVec 32 := Scalar.addi v893_r0 c2_i32_468_r0
  let c128_i32_469_r0 : BitVec 32 := 128#32
  let v955_r0 : BitVec 32 := Scalar.muli v954_r0 c128_i32_469_r0
  v955_r0
def k0_mult820 : BitVec 32 :=
  let c35_i32_439_r0 : BitVec 32 := 35#32
  let c0_i32_440_r0 : BitVec 32 := 0#32
  let v892_r0 : BitVec 32 := Scalar.maxsi c35_i32_439_r0 c0_i32_440_r0
  let c4_i32_441_r0 : BitVec 32 := 4#32
  let v893_r0 : BitVec 32 := Scalar.muli v892_r0 c4_i32_441_r0
  let c3_i32_477_r0 : BitVec 32 := 3#32
  let v975_r0 : BitVec 32 := Scalar.addi v893_r0 c3_i32_477_r0
  let c128_i32_478_r0 : BitVec 32 := 128#32
  let v976_r0 : BitVec 32 := Scalar.muli v975_r0 c128_i32_478_r0
  v976_r0
def k0_mult821 : BitVec 32 :=
  let c7680_i32_479_r0 : BitVec 32 := 7680#32
  c7680_i32_479_r0
def k0_mult822 : BitVec 32 :=
  let c7936_i32_r0 : BitVec 32 := 7936#32
  c7936_i32_r0
def k0_off329 : Fin 3 → Nat :=
  let c36_i32_481_r0 : BitVec 32 := 36#32
  let c8_i32_482_r0 : BitVec 32 := 8#32
  let v985_r0 : BitVec 32 := Scalar.remsi c36_i32_481_r0 c8_i32_482_r0
  let v987_r0 : Index := Scalar.indexCast v985_r0
  let c0_483_r0 : Index := 0#32
  let c7936_i32_r0 : BitVec 32 := 7936#32
  let v986_r0 : BitVec 32 := c7936_i32_r0
  let v988_r0 : Index := Scalar.indexCast v986_r0
  ![v987_r0.toNat, 0, 7936]
def k0_mult823 : BitVec 32 :=
  let c7936_i32_484_r0 : BitVec 32 := 7936#32
  c7936_i32_484_r0
def k0_off330 : Fin 3 → Nat :=
  let c36_i32_481_r0 : BitVec 32 := 36#32
  let c8_i32_482_r0 : BitVec 32 := 8#32
  let v985_r0 : BitVec 32 := Scalar.remsi c36_i32_481_r0 c8_i32_482_r0
  let v993_r0 : Index := Scalar.indexCast v985_r0
  let c256_485_r0 : Index := 256#32
  let c7936_i32_484_r0 : BitVec 32 := 7936#32
  let v992_r0 : BitVec 32 := c7936_i32_484_r0
  let v994_r0 : Index := Scalar.indexCast v992_r0
  ![v993_r0.toNat, 256, 7936]
def k0_mult824 : BitVec 32 :=
  let c176_i32_r0 : BitVec 32 := 176#32
  c176_i32_r0
def k0_mult825 : BitVec 32 :=
  let c35_i32_486_r0 : BitVec 32 := 35#32
  let c0_i32_487_r0 : BitVec 32 := 0#32
  let v998_r0 : BitVec 32 := Scalar.maxsi c35_i32_486_r0 c0_i32_487_r0
  let c4_i32_488_r0 : BitVec 32 := 4#32
  let v999_r0 : BitVec 32 := Scalar.muli v998_r0 c4_i32_488_r0
  let c0_i32_497_r0 : BitVec 32 := 0#32
  let v1018_r0 : BitVec 32 := Scalar.addi v999_r0 c0_i32_497_r0
  let c128_i32_498_r0 : BitVec 32 := 128#32
  let v1019_r0 : BitVec 32 := Scalar.muli v1018_r0 c128_i32_498_r0
  v1019_r0
def k0_off331 (c0_i32_497_r0 : BitVec 32) : Fin 2 → Nat :=
  let c176_i32_r0 : BitVec 32 := 176#32
  let v1000_r0 : BitVec 32 := c176_i32_r0
  let v1021_r0 : Index := Scalar.indexCast v1000_r0
  let c35_i32_486_r0 : BitVec 32 := 35#32
  let c0_i32_487_r0 : BitVec 32 := 0#32
  let v998_r0 : BitVec 32 := Scalar.maxsi c35_i32_486_r0 c0_i32_487_r0
  let c4_i32_488_r0 : BitVec 32 := 4#32
  let v999_r0 : BitVec 32 := Scalar.muli v998_r0 c4_i32_488_r0
  let v1018_r0 : BitVec 32 := Scalar.addi v999_r0 c0_i32_497_r0
  let c128_i32_498_r0 : BitVec 32 := 128#32
  let v1019_r0 : BitVec 32 := Scalar.muli v1018_r0 c128_i32_498_r0
  let v1020_r0 : BitVec 32 := v1019_r0
  let v1022_r0 : Index := Scalar.indexCast v1020_r0
  ![176, v1022_r0.toNat]
def k0_mult826 : BitVec 32 :=
  let c35_i32_486_r0 : BitVec 32 := 35#32
  let c0_i32_487_r0 : BitVec 32 := 0#32
  let v998_r0 : BitVec 32 := Scalar.maxsi c35_i32_486_r0 c0_i32_487_r0
  let c4_i32_488_r0 : BitVec 32 := 4#32
  let v999_r0 : BitVec 32 := Scalar.muli v998_r0 c4_i32_488_r0
  let c1_i32_506_r0 : BitVec 32 := 1#32
  let v1039_r0 : BitVec 32 := Scalar.addi v999_r0 c1_i32_506_r0
  let c128_i32_507_r0 : BitVec 32 := 128#32
  let v1040_r0 : BitVec 32 := Scalar.muli v1039_r0 c128_i32_507_r0
  v1040_r0
def k0_mult827 : BitVec 32 :=
  let c35_i32_486_r0 : BitVec 32 := 35#32
  let c0_i32_487_r0 : BitVec 32 := 0#32
  let v998_r0 : BitVec 32 := Scalar.maxsi c35_i32_486_r0 c0_i32_487_r0
  let c4_i32_488_r0 : BitVec 32 := 4#32
  let v999_r0 : BitVec 32 := Scalar.muli v998_r0 c4_i32_488_r0
  let c2_i32_515_r0 : BitVec 32 := 2#32
  let v1060_r0 : BitVec 32 := Scalar.addi v999_r0 c2_i32_515_r0
  let c128_i32_516_r0 : BitVec 32 := 128#32
  let v1061_r0 : BitVec 32 := Scalar.muli v1060_r0 c128_i32_516_r0
  v1061_r0
def k0_mult828 : BitVec 32 :=
  let c35_i32_486_r0 : BitVec 32 := 35#32
  let c0_i32_487_r0 : BitVec 32 := 0#32
  let v998_r0 : BitVec 32 := Scalar.maxsi c35_i32_486_r0 c0_i32_487_r0
  let c4_i32_488_r0 : BitVec 32 := 4#32
  let v999_r0 : BitVec 32 := Scalar.muli v998_r0 c4_i32_488_r0
  let c3_i32_524_r0 : BitVec 32 := 3#32
  let v1081_r0 : BitVec 32 := Scalar.addi v999_r0 c3_i32_524_r0
  let c128_i32_525_r0 : BitVec 32 := 128#32
  let v1082_r0 : BitVec 32 := Scalar.muli v1081_r0 c128_i32_525_r0
  v1082_r0
def k0_mult829 : BitVec 32 :=
  let c7936_i32_526_r0 : BitVec 32 := 7936#32
  c7936_i32_526_r0
def k0_mult830 : BitVec 32 :=
  let c184_i32_r0 : BitVec 32 := 184#32
  c184_i32_r0
def k0_mult831 : BitVec 32 :=
  let c35_i32_528_r0 : BitVec 32 := 35#32
  let c0_i32_529_r0 : BitVec 32 := 0#32
  let v1091_r0 : BitVec 32 := Scalar.maxsi c35_i32_528_r0 c0_i32_529_r0
  let c4_i32_530_r0 : BitVec 32 := 4#32
  let v1092_r0 : BitVec 32 := Scalar.muli v1091_r0 c4_i32_530_r0
  let c0_i32_539_r0 : BitVec 32 := 0#32
  let v1111_r0 : BitVec 32 := Scalar.addi v1092_r0 c0_i32_539_r0
  let c128_i32_540_r0 : BitVec 32 := 128#32
  let v1112_r0 : BitVec 32 := Scalar.muli v1111_r0 c128_i32_540_r0
  v1112_r0
def k0_off332 (c0_i32_539_r0 : BitVec 32) : Fin 2 → Nat :=
  let c184_i32_r0 : BitVec 32 := 184#32
  let v1093_r0 : BitVec 32 := c184_i32_r0
  let v1114_r0 : Index := Scalar.indexCast v1093_r0
  let c35_i32_528_r0 : BitVec 32 := 35#32
  let c0_i32_529_r0 : BitVec 32 := 0#32
  let v1091_r0 : BitVec 32 := Scalar.maxsi c35_i32_528_r0 c0_i32_529_r0
  let c4_i32_530_r0 : BitVec 32 := 4#32
  let v1092_r0 : BitVec 32 := Scalar.muli v1091_r0 c4_i32_530_r0
  let v1111_r0 : BitVec 32 := Scalar.addi v1092_r0 c0_i32_539_r0
  let c128_i32_540_r0 : BitVec 32 := 128#32
  let v1112_r0 : BitVec 32 := Scalar.muli v1111_r0 c128_i32_540_r0
  let v1113_r0 : BitVec 32 := v1112_r0
  let v1115_r0 : Index := Scalar.indexCast v1113_r0
  ![184, v1115_r0.toNat]
def k0_mult832 : BitVec 32 :=
  let c35_i32_528_r0 : BitVec 32 := 35#32
  let c0_i32_529_r0 : BitVec 32 := 0#32
  let v1091_r0 : BitVec 32 := Scalar.maxsi c35_i32_528_r0 c0_i32_529_r0
  let c4_i32_530_r0 : BitVec 32 := 4#32
  let v1092_r0 : BitVec 32 := Scalar.muli v1091_r0 c4_i32_530_r0
  let c1_i32_548_r0 : BitVec 32 := 1#32
  let v1132_r0 : BitVec 32 := Scalar.addi v1092_r0 c1_i32_548_r0
  let c128_i32_549_r0 : BitVec 32 := 128#32
  let v1133_r0 : BitVec 32 := Scalar.muli v1132_r0 c128_i32_549_r0
  v1133_r0
def k0_mult833 : BitVec 32 :=
  let c35_i32_528_r0 : BitVec 32 := 35#32
  let c0_i32_529_r0 : BitVec 32 := 0#32
  let v1091_r0 : BitVec 32 := Scalar.maxsi c35_i32_528_r0 c0_i32_529_r0
  let c4_i32_530_r0 : BitVec 32 := 4#32
  let v1092_r0 : BitVec 32 := Scalar.muli v1091_r0 c4_i32_530_r0
  let c2_i32_557_r0 : BitVec 32 := 2#32
  let v1153_r0 : BitVec 32 := Scalar.addi v1092_r0 c2_i32_557_r0
  let c128_i32_558_r0 : BitVec 32 := 128#32
  let v1154_r0 : BitVec 32 := Scalar.muli v1153_r0 c128_i32_558_r0
  v1154_r0
def k0_mult834 : BitVec 32 :=
  let c35_i32_528_r0 : BitVec 32 := 35#32
  let c0_i32_529_r0 : BitVec 32 := 0#32
  let v1091_r0 : BitVec 32 := Scalar.maxsi c35_i32_528_r0 c0_i32_529_r0
  let c4_i32_530_r0 : BitVec 32 := 4#32
  let v1092_r0 : BitVec 32 := Scalar.muli v1091_r0 c4_i32_530_r0
  let c3_i32_566_r0 : BitVec 32 := 3#32
  let v1174_r0 : BitVec 32 := Scalar.addi v1092_r0 c3_i32_566_r0
  let c128_i32_567_r0 : BitVec 32 := 128#32
  let v1175_r0 : BitVec 32 := Scalar.muli v1174_r0 c128_i32_567_r0
  v1175_r0
@[reducible] def k0_t15_loop (i : grid0.Coords) : Scf.Loop 32 :=
  let c0_i32_577_r0 : BitVec 32 := 0#32
  let c3_i32_572_r0 : BitVec 32 := 3#32
  let arg0 : BitVec 32 := BitVec.ofNat 32 (i 0).val
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_579_r0 : BitVec 32 := 1#32
  ⟨c0_i32_577_r0, v1196_r0, c1_i32_579_r0⟩
def k0_mult835 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c8_i32_590_r0 : BitVec 32 := 8#32
  let v1207_r0 : BitVec 32 := Scalar.muli v1204_r0 c8_i32_590_r0
  v1207_r0
def k0_off333 (i : grid0.Coords) (k0_t15 : Fin (k0_t15_loop i).trips) (c0_i32_586_r0 : BitVec 32) : Fin 2 → Nat :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1209_r0 : Index := Scalar.indexCast v1208_r0
  let c0_591_r0 : Index := 0#32
  ![v1209_r0.toNat, 0]
def k0_off334 (c0_i32_592_r0 : BitVec 32) : Fin 2 → Nat :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let v1211_r0 : BitVec 32 := Scalar.addi v1206_r0 c0_i32_592_r0
  let v1212_r0 : Index := Scalar.indexCast v1211_r0
  let c0_593_r0 : Index := 0#32
  ![v1212_r0.toNat, 0]
def k0_off335 (i : grid0.Coords) (k0_t15 : Fin (k0_t15_loop i).trips) (c0_i32_586_r0 : BitVec 32) : Fin 2 → Nat :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1219_r0 : Index := Scalar.indexCast v1208_r0
  let c0_598_r0 : Index := 0#32
  ![v1219_r0.toNat, 0]
def k0_mult836 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c0_i32_599_r0 : BitVec 32 := 0#32
  let v1226_r0 : BitVec 32 := Scalar.addi v1206_r0 c0_i32_599_r0
  let c128_i32_600_r0 : BitVec 32 := 128#32
  let v1227_r0 : BitVec 32 := Scalar.muli v1226_r0 c128_i32_600_r0
  v1227_r0
def k0_off336 (i : grid0.Coords) (k0_t15 : Fin (k0_t15_loop i).trips) (c0_i32_586_r0 : BitVec 32) (c0_i32_599_r0 : BitVec 32) : Fin 2 → Nat :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1229_r0 : Index := Scalar.indexCast v1208_r0
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let v1226_r0 : BitVec 32 := Scalar.addi v1206_r0 c0_i32_599_r0
  let c128_i32_600_r0 : BitVec 32 := 128#32
  let v1227_r0 : BitVec 32 := Scalar.muli v1226_r0 c128_i32_600_r0
  let v1228_r0 : BitVec 32 := v1227_r0
  let v1230_r0 : Index := Scalar.indexCast v1228_r0
  ![v1229_r0.toNat, v1230_r0.toNat]
def k0_off337 (i : grid0.Coords) (k0_t15 : Fin (k0_t15_loop i).trips) (c0_i32_586_r0 : BitVec 32) : Fin 2 → Nat :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1240_r0 : Index := Scalar.indexCast v1208_r0
  let c128_607_r0 : Index := 128#32
  ![v1240_r0.toNat, 128]
def k0_mult837 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c1_i32_608_r0 : BitVec 32 := 1#32
  let v1247_r0 : BitVec 32 := Scalar.addi v1206_r0 c1_i32_608_r0
  let c128_i32_609_r0 : BitVec 32 := 128#32
  let v1248_r0 : BitVec 32 := Scalar.muli v1247_r0 c128_i32_609_r0
  v1248_r0
def k0_off338 (i : grid0.Coords) (k0_t15 : Fin (k0_t15_loop i).trips) (c0_i32_586_r0 : BitVec 32) : Fin 2 → Nat :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1261_r0 : Index := Scalar.indexCast v1208_r0
  let c256_616_r0 : Index := 256#32
  ![v1261_r0.toNat, 256]
def k0_mult838 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c2_i32_617_r0 : BitVec 32 := 2#32
  let v1268_r0 : BitVec 32 := Scalar.addi v1206_r0 c2_i32_617_r0
  let c128_i32_618_r0 : BitVec 32 := 128#32
  let v1269_r0 : BitVec 32 := Scalar.muli v1268_r0 c128_i32_618_r0
  v1269_r0
def k0_off339 (i : grid0.Coords) (k0_t15 : Fin (k0_t15_loop i).trips) (c0_i32_586_r0 : BitVec 32) : Fin 2 → Nat :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1282_r0 : Index := Scalar.indexCast v1208_r0
  let c384_625_r0 : Index := 384#32
  ![v1282_r0.toNat, 384]
def k0_mult839 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c3_i32_626_r0 : BitVec 32 := 3#32
  let v1289_r0 : BitVec 32 := Scalar.addi v1206_r0 c3_i32_626_r0
  let c128_i32_627_r0 : BitVec 32 := 128#32
  let v1290_r0 : BitVec 32 := Scalar.muli v1289_r0 c128_i32_627_r0
  v1290_r0
def k0_mult840 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_628_r0 : BitVec 32 := 8#32
  let v1295_r0 : BitVec 32 := Scalar.muli v1202_r0 c8_i32_628_r0
  let c1_i32_629_r0 : BitVec 32 := 1#32
  let v1296_r0 : BitVec 32 := Scalar.addi v1295_r0 c1_i32_629_r0
  let c8_i32_633_r0 : BitVec 32 := 8#32
  let v1299_r0 : BitVec 32 := Scalar.muli v1296_r0 c8_i32_633_r0
  v1299_r0
def k0_mult841 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c0_i32_642_r0 : BitVec 32 := 0#32
  let v1318_r0 : BitVec 32 := Scalar.addi v1298_r0 c0_i32_642_r0
  let c128_i32_643_r0 : BitVec 32 := 128#32
  let v1319_r0 : BitVec 32 := Scalar.muli v1318_r0 c128_i32_643_r0
  v1319_r0
def k0_mult842 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c1_i32_651_r0 : BitVec 32 := 1#32
  let v1339_r0 : BitVec 32 := Scalar.addi v1298_r0 c1_i32_651_r0
  let c128_i32_652_r0 : BitVec 32 := 128#32
  let v1340_r0 : BitVec 32 := Scalar.muli v1339_r0 c128_i32_652_r0
  v1340_r0
def k0_mult843 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c2_i32_660_r0 : BitVec 32 := 2#32
  let v1360_r0 : BitVec 32 := Scalar.addi v1298_r0 c2_i32_660_r0
  let c128_i32_661_r0 : BitVec 32 := 128#32
  let v1361_r0 : BitVec 32 := Scalar.muli v1360_r0 c128_i32_661_r0
  v1361_r0
def k0_mult844 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c3_i32_669_r0 : BitVec 32 := 3#32
  let v1381_r0 : BitVec 32 := Scalar.addi v1298_r0 c3_i32_669_r0
  let c128_i32_670_r0 : BitVec 32 := 128#32
  let v1382_r0 : BitVec 32 := Scalar.muli v1381_r0 c128_i32_670_r0
  v1382_r0
def k0_mult845 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_671_r0 : BitVec 32 := 8#32
  let v1387_r0 : BitVec 32 := Scalar.muli v1202_r0 c8_i32_671_r0
  let c2_i32_672_r0 : BitVec 32 := 2#32
  let v1388_r0 : BitVec 32 := Scalar.addi v1387_r0 c2_i32_672_r0
  let c8_i32_676_r0 : BitVec 32 := 8#32
  let v1391_r0 : BitVec 32 := Scalar.muli v1388_r0 c8_i32_676_r0
  v1391_r0
def k0_mult846 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c0_i32_685_r0 : BitVec 32 := 0#32
  let v1410_r0 : BitVec 32 := Scalar.addi v1390_r0 c0_i32_685_r0
  let c128_i32_686_r0 : BitVec 32 := 128#32
  let v1411_r0 : BitVec 32 := Scalar.muli v1410_r0 c128_i32_686_r0
  v1411_r0
def k0_mult847 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c1_i32_694_r0 : BitVec 32 := 1#32
  let v1431_r0 : BitVec 32 := Scalar.addi v1390_r0 c1_i32_694_r0
  let c128_i32_695_r0 : BitVec 32 := 128#32
  let v1432_r0 : BitVec 32 := Scalar.muli v1431_r0 c128_i32_695_r0
  v1432_r0
def k0_mult848 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c2_i32_703_r0 : BitVec 32 := 2#32
  let v1452_r0 : BitVec 32 := Scalar.addi v1390_r0 c2_i32_703_r0
  let c128_i32_704_r0 : BitVec 32 := 128#32
  let v1453_r0 : BitVec 32 := Scalar.muli v1452_r0 c128_i32_704_r0
  v1453_r0
def k0_mult849 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c3_i32_712_r0 : BitVec 32 := 3#32
  let v1473_r0 : BitVec 32 := Scalar.addi v1390_r0 c3_i32_712_r0
  let c128_i32_713_r0 : BitVec 32 := 128#32
  let v1474_r0 : BitVec 32 := Scalar.muli v1473_r0 c128_i32_713_r0
  v1474_r0
def k0_mult850 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_714_r0 : BitVec 32 := 8#32
  let v1479_r0 : BitVec 32 := Scalar.muli v1202_r0 c8_i32_714_r0
  let c3_i32_715_r0 : BitVec 32 := 3#32
  let v1480_r0 : BitVec 32 := Scalar.addi v1479_r0 c3_i32_715_r0
  let c8_i32_719_r0 : BitVec 32 := 8#32
  let v1483_r0 : BitVec 32 := Scalar.muli v1480_r0 c8_i32_719_r0
  v1483_r0
def k0_mult851 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c0_i32_728_r0 : BitVec 32 := 0#32
  let v1502_r0 : BitVec 32 := Scalar.addi v1482_r0 c0_i32_728_r0
  let c128_i32_729_r0 : BitVec 32 := 128#32
  let v1503_r0 : BitVec 32 := Scalar.muli v1502_r0 c128_i32_729_r0
  v1503_r0
def k0_mult852 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c1_i32_737_r0 : BitVec 32 := 1#32
  let v1523_r0 : BitVec 32 := Scalar.addi v1482_r0 c1_i32_737_r0
  let c128_i32_738_r0 : BitVec 32 := 128#32
  let v1524_r0 : BitVec 32 := Scalar.muli v1523_r0 c128_i32_738_r0
  v1524_r0
def k0_mult853 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c2_i32_746_r0 : BitVec 32 := 2#32
  let v1544_r0 : BitVec 32 := Scalar.addi v1482_r0 c2_i32_746_r0
  let c128_i32_747_r0 : BitVec 32 := 128#32
  let v1545_r0 : BitVec 32 := Scalar.muli v1544_r0 c128_i32_747_r0
  v1545_r0
def k0_mult854 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c3_i32_755_r0 : BitVec 32 := 3#32
  let v1565_r0 : BitVec 32 := Scalar.addi v1482_r0 c3_i32_755_r0
  let c128_i32_756_r0 : BitVec 32 := 128#32
  let v1566_r0 : BitVec 32 := Scalar.muli v1565_r0 c128_i32_756_r0
  v1566_r0
def k0_mult855 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_757_r0 : BitVec 32 := 8#32
  let v1571_r0 : BitVec 32 := Scalar.muli v1202_r0 c8_i32_757_r0
  let c4_i32_758_r0 : BitVec 32 := 4#32
  let v1572_r0 : BitVec 32 := Scalar.addi v1571_r0 c4_i32_758_r0
  let c8_i32_762_r0 : BitVec 32 := 8#32
  let v1575_r0 : BitVec 32 := Scalar.muli v1572_r0 c8_i32_762_r0
  v1575_r0
def k0_mult856 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c0_i32_771_r0 : BitVec 32 := 0#32
  let v1594_r0 : BitVec 32 := Scalar.addi v1574_r0 c0_i32_771_r0
  let c128_i32_772_r0 : BitVec 32 := 128#32
  let v1595_r0 : BitVec 32 := Scalar.muli v1594_r0 c128_i32_772_r0
  v1595_r0
def k0_mult857 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c1_i32_780_r0 : BitVec 32 := 1#32
  let v1615_r0 : BitVec 32 := Scalar.addi v1574_r0 c1_i32_780_r0
  let c128_i32_781_r0 : BitVec 32 := 128#32
  let v1616_r0 : BitVec 32 := Scalar.muli v1615_r0 c128_i32_781_r0
  v1616_r0
def k0_mult858 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c2_i32_789_r0 : BitVec 32 := 2#32
  let v1636_r0 : BitVec 32 := Scalar.addi v1574_r0 c2_i32_789_r0
  let c128_i32_790_r0 : BitVec 32 := 128#32
  let v1637_r0 : BitVec 32 := Scalar.muli v1636_r0 c128_i32_790_r0
  v1637_r0
def k0_mult859 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c3_i32_798_r0 : BitVec 32 := 3#32
  let v1657_r0 : BitVec 32 := Scalar.addi v1574_r0 c3_i32_798_r0
  let c128_i32_799_r0 : BitVec 32 := 128#32
  let v1658_r0 : BitVec 32 := Scalar.muli v1657_r0 c128_i32_799_r0
  v1658_r0
def k0_mult860 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_800_r0 : BitVec 32 := 8#32
  let v1663_r0 : BitVec 32 := Scalar.muli v1202_r0 c8_i32_800_r0
  let c5_i32_801_r0 : BitVec 32 := 5#32
  let v1664_r0 : BitVec 32 := Scalar.addi v1663_r0 c5_i32_801_r0
  let c8_i32_805_r0 : BitVec 32 := 8#32
  let v1667_r0 : BitVec 32 := Scalar.muli v1664_r0 c8_i32_805_r0
  v1667_r0
def k0_mult861 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c0_i32_814_r0 : BitVec 32 := 0#32
  let v1686_r0 : BitVec 32 := Scalar.addi v1666_r0 c0_i32_814_r0
  let c128_i32_815_r0 : BitVec 32 := 128#32
  let v1687_r0 : BitVec 32 := Scalar.muli v1686_r0 c128_i32_815_r0
  v1687_r0
def k0_mult862 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c1_i32_823_r0 : BitVec 32 := 1#32
  let v1707_r0 : BitVec 32 := Scalar.addi v1666_r0 c1_i32_823_r0
  let c128_i32_824_r0 : BitVec 32 := 128#32
  let v1708_r0 : BitVec 32 := Scalar.muli v1707_r0 c128_i32_824_r0
  v1708_r0
def k0_mult863 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c2_i32_832_r0 : BitVec 32 := 2#32
  let v1728_r0 : BitVec 32 := Scalar.addi v1666_r0 c2_i32_832_r0
  let c128_i32_833_r0 : BitVec 32 := 128#32
  let v1729_r0 : BitVec 32 := Scalar.muli v1728_r0 c128_i32_833_r0
  v1729_r0
def k0_mult864 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c3_i32_841_r0 : BitVec 32 := 3#32
  let v1749_r0 : BitVec 32 := Scalar.addi v1666_r0 c3_i32_841_r0
  let c128_i32_842_r0 : BitVec 32 := 128#32
  let v1750_r0 : BitVec 32 := Scalar.muli v1749_r0 c128_i32_842_r0
  v1750_r0
def k0_mult865 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_843_r0 : BitVec 32 := 8#32
  let v1755_r0 : BitVec 32 := Scalar.muli v1202_r0 c8_i32_843_r0
  let c6_i32_844_r0 : BitVec 32 := 6#32
  let v1756_r0 : BitVec 32 := Scalar.addi v1755_r0 c6_i32_844_r0
  let c8_i32_848_r0 : BitVec 32 := 8#32
  let v1759_r0 : BitVec 32 := Scalar.muli v1756_r0 c8_i32_848_r0
  v1759_r0
def k0_mult866 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c0_i32_857_r0 : BitVec 32 := 0#32
  let v1778_r0 : BitVec 32 := Scalar.addi v1758_r0 c0_i32_857_r0
  let c128_i32_858_r0 : BitVec 32 := 128#32
  let v1779_r0 : BitVec 32 := Scalar.muli v1778_r0 c128_i32_858_r0
  v1779_r0
def k0_mult867 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c1_i32_866_r0 : BitVec 32 := 1#32
  let v1799_r0 : BitVec 32 := Scalar.addi v1758_r0 c1_i32_866_r0
  let c128_i32_867_r0 : BitVec 32 := 128#32
  let v1800_r0 : BitVec 32 := Scalar.muli v1799_r0 c128_i32_867_r0
  v1800_r0
def k0_mult868 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c2_i32_875_r0 : BitVec 32 := 2#32
  let v1820_r0 : BitVec 32 := Scalar.addi v1758_r0 c2_i32_875_r0
  let c128_i32_876_r0 : BitVec 32 := 128#32
  let v1821_r0 : BitVec 32 := Scalar.muli v1820_r0 c128_i32_876_r0
  v1821_r0
def k0_mult869 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c3_i32_884_r0 : BitVec 32 := 3#32
  let v1841_r0 : BitVec 32 := Scalar.addi v1758_r0 c3_i32_884_r0
  let c128_i32_885_r0 : BitVec 32 := 128#32
  let v1842_r0 : BitVec 32 := Scalar.muli v1841_r0 c128_i32_885_r0
  v1842_r0
def k0_mult870 (i : grid0.Coords) (k0_t15 : Fin (k0_t15_loop i).trips) : BitVec 32 :=
  let arg0 : BitVec 32 := BitVec.ofNat 32 (i 0).val
  let c0_i32_577_r0 : BitVec 32 := 0#32
  let c1_i32_579_r0 : BitVec 32 := 1#32
  let arg20_r0 : BitVec 32 := Scf.iv c0_i32_577_r0 c1_i32_579_r0 k0_t15
  let c1_i32_576_r0 : BitVec 32 := 1#32
  let v1201_r0 : BitVec 32 := Scalar.muli arg20_r0 c1_i32_576_r0
  let v1202_r0 : BitVec 32 := Scalar.addi arg0 v1201_r0
  let c8_i32_886_r0 : BitVec 32 := 8#32
  let v1847_r0 : BitVec 32 := Scalar.muli v1202_r0 c8_i32_886_r0
  let c7_i32_887_r0 : BitVec 32 := 7#32
  let v1848_r0 : BitVec 32 := Scalar.addi v1847_r0 c7_i32_887_r0
  let c8_i32_891_r0 : BitVec 32 := 8#32
  let v1851_r0 : BitVec 32 := Scalar.muli v1848_r0 c8_i32_891_r0
  v1851_r0
def k0_mult871 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c0_i32_900_r0 : BitVec 32 := 0#32
  let v1870_r0 : BitVec 32 := Scalar.addi v1850_r0 c0_i32_900_r0
  let c128_i32_901_r0 : BitVec 32 := 128#32
  let v1871_r0 : BitVec 32 := Scalar.muli v1870_r0 c128_i32_901_r0
  v1871_r0
def k0_mult872 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c1_i32_909_r0 : BitVec 32 := 1#32
  let v1891_r0 : BitVec 32 := Scalar.addi v1850_r0 c1_i32_909_r0
  let c128_i32_910_r0 : BitVec 32 := 128#32
  let v1892_r0 : BitVec 32 := Scalar.muli v1891_r0 c128_i32_910_r0
  v1892_r0
def k0_mult873 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c2_i32_918_r0 : BitVec 32 := 2#32
  let v1912_r0 : BitVec 32 := Scalar.addi v1850_r0 c2_i32_918_r0
  let c128_i32_919_r0 : BitVec 32 := 128#32
  let v1913_r0 : BitVec 32 := Scalar.muli v1912_r0 c128_i32_919_r0
  v1913_r0
def k0_mult874 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c3_i32_927_r0 : BitVec 32 := 3#32
  let v1933_r0 : BitVec 32 := Scalar.addi v1850_r0 c3_i32_927_r0
  let c128_i32_928_r0 : BitVec 32 := 128#32
  let v1934_r0 : BitVec 32 := Scalar.muli v1933_r0 c128_i32_928_r0
  v1934_r0
@[reducible] def k0_t16_loop (i : grid0.Coords) : Scf.Loop 32 :=
  let c0_i32_577_r0 : BitVec 32 := 0#32
  let c3_i32_572_r0 : BitVec 32 := 3#32
  let arg0 : BitVec 32 := BitVec.ofNat 32 (i 0).val
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let v1193_r0 : BitVec 32 := Scalar.addi c0_i32_577_r0 v1192_r0
  let c1_i32_580_r0 : BitVec 32 := 1#32
  ⟨v1196_r0, v1193_r0, c1_i32_580_r0⟩
def k0_mult875 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let c0_i32_586_r0 : BitVec 32 := 0#32
  let v1204_r0 : BitVec 32 := Scalar.addi v1203_r0 c0_i32_586_r0
  let c8_i32_590_r0 : BitVec 32 := 8#32
  let v1207_r0 : BitVec 32 := Scalar.muli v1204_r0 c8_i32_590_r0
  v1207_r0
def k0_off340 (i : grid0.Coords) (k0_t16 : Fin (k0_t16_loop i).trips) (c0_i32_586_r0 : BitVec 32) : Fin 2 → Nat :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1209_r0 : Index := Scalar.indexCast v1208_r0
  let c0_591_r0 : Index := 0#32
  ![v1209_r0.toNat, 0]
def k0_off341 (c0_i32_592_r0 : BitVec 32) : Fin 2 → Nat :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let v1211_r0 : BitVec 32 := Scalar.addi v1206_r0 c0_i32_592_r0
  let v1212_r0 : Index := Scalar.indexCast v1211_r0
  let c0_593_r0 : Index := 0#32
  ![v1212_r0.toNat, 0]
def k0_off342 (i : grid0.Coords) (k0_t16 : Fin (k0_t16_loop i).trips) (c0_i32_586_r0 : BitVec 32) : Fin 2 → Nat :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1219_r0 : Index := Scalar.indexCast v1208_r0
  let c0_598_r0 : Index := 0#32
  ![v1219_r0.toNat, 0]
def k0_mult876 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c0_i32_599_r0 : BitVec 32 := 0#32
  let v1226_r0 : BitVec 32 := Scalar.addi v1206_r0 c0_i32_599_r0
  let c128_i32_600_r0 : BitVec 32 := 128#32
  let v1227_r0 : BitVec 32 := Scalar.muli v1226_r0 c128_i32_600_r0
  v1227_r0
def k0_off343 (i : grid0.Coords) (k0_t16 : Fin (k0_t16_loop i).trips) (c0_i32_586_r0 : BitVec 32) (c0_i32_599_r0 : BitVec 32) : Fin 2 → Nat :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1229_r0 : Index := Scalar.indexCast v1208_r0
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let v1226_r0 : BitVec 32 := Scalar.addi v1206_r0 c0_i32_599_r0
  let c128_i32_600_r0 : BitVec 32 := 128#32
  let v1227_r0 : BitVec 32 := Scalar.muli v1226_r0 c128_i32_600_r0
  let v1228_r0 : BitVec 32 := v1227_r0
  let v1230_r0 : Index := Scalar.indexCast v1228_r0
  ![v1229_r0.toNat, v1230_r0.toNat]
def k0_off344 (i : grid0.Coords) (k0_t16 : Fin (k0_t16_loop i).trips) (c0_i32_586_r0 : BitVec 32) : Fin 2 → Nat :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1240_r0 : Index := Scalar.indexCast v1208_r0
  let c128_607_r0 : Index := 128#32
  ![v1240_r0.toNat, 128]
def k0_mult877 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c1_i32_608_r0 : BitVec 32 := 1#32
  let v1247_r0 : BitVec 32 := Scalar.addi v1206_r0 c1_i32_608_r0
  let c128_i32_609_r0 : BitVec 32 := 128#32
  let v1248_r0 : BitVec 32 := Scalar.muli v1247_r0 c128_i32_609_r0
  v1248_r0
def k0_off345 (i : grid0.Coords) (k0_t16 : Fin (k0_t16_loop i).trips) (c0_i32_586_r0 : BitVec 32) : Fin 2 → Nat :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1261_r0 : Index := Scalar.indexCast v1208_r0
  let c256_616_r0 : Index := 256#32
  ![v1261_r0.toNat, 256]
def k0_mult878 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c2_i32_617_r0 : BitVec 32 := 2#32
  let v1268_r0 : BitVec 32 := Scalar.addi v1206_r0 c2_i32_617_r0
  let c128_i32_618_r0 : BitVec 32 := 128#32
  let v1269_r0 : BitVec 32 := Scalar.muli v1268_r0 c128_i32_618_r0
  v1269_r0
def k0_off346 (i : grid0.Coords) (k0_t16 : Fin (k0_t16_loop i).trips) (c0_i32_586_r0 : BitVec 32) : Fin 2 → Nat :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_585_r0 : BitVec 32 := 8#32
  let v1203_r0 : BitVec 32 := Scalar.muli v1202_r0 c8_i32_585_r0
  let v1204_r0 : BitVec 32 := Scalar.addi v1203_r0 c0_i32_586_r0
  let c8_i32_590_r0 : BitVec 32 := 8#32
  let v1207_r0 : BitVec 32 := Scalar.muli v1204_r0 c8_i32_590_r0
  let v1208_r0 : BitVec 32 := v1207_r0
  let v1282_r0 : Index := Scalar.indexCast v1208_r0
  let c384_625_r0 : Index := 384#32
  ![v1282_r0.toNat, 384]
def k0_mult879 : BitVec 32 :=
  let c36_i32_587_r0 : BitVec 32 := 36#32
  let c0_i32_588_r0 : BitVec 32 := 0#32
  let v1205_r0 : BitVec 32 := Scalar.maxsi c36_i32_587_r0 c0_i32_588_r0
  let c4_i32_589_r0 : BitVec 32 := 4#32
  let v1206_r0 : BitVec 32 := Scalar.muli v1205_r0 c4_i32_589_r0
  let c3_i32_626_r0 : BitVec 32 := 3#32
  let v1289_r0 : BitVec 32 := Scalar.addi v1206_r0 c3_i32_626_r0
  let c128_i32_627_r0 : BitVec 32 := 128#32
  let v1290_r0 : BitVec 32 := Scalar.muli v1289_r0 c128_i32_627_r0
  v1290_r0
def k0_mult880 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_628_r0 : BitVec 32 := 8#32
  let v1295_r0 : BitVec 32 := Scalar.muli v1202_r0 c8_i32_628_r0
  let c1_i32_629_r0 : BitVec 32 := 1#32
  let v1296_r0 : BitVec 32 := Scalar.addi v1295_r0 c1_i32_629_r0
  let c8_i32_633_r0 : BitVec 32 := 8#32
  let v1299_r0 : BitVec 32 := Scalar.muli v1296_r0 c8_i32_633_r0
  v1299_r0
def k0_mult881 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c0_i32_642_r0 : BitVec 32 := 0#32
  let v1318_r0 : BitVec 32 := Scalar.addi v1298_r0 c0_i32_642_r0
  let c128_i32_643_r0 : BitVec 32 := 128#32
  let v1319_r0 : BitVec 32 := Scalar.muli v1318_r0 c128_i32_643_r0
  v1319_r0
def k0_mult882 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c1_i32_651_r0 : BitVec 32 := 1#32
  let v1339_r0 : BitVec 32 := Scalar.addi v1298_r0 c1_i32_651_r0
  let c128_i32_652_r0 : BitVec 32 := 128#32
  let v1340_r0 : BitVec 32 := Scalar.muli v1339_r0 c128_i32_652_r0
  v1340_r0
def k0_mult883 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c2_i32_660_r0 : BitVec 32 := 2#32
  let v1360_r0 : BitVec 32 := Scalar.addi v1298_r0 c2_i32_660_r0
  let c128_i32_661_r0 : BitVec 32 := 128#32
  let v1361_r0 : BitVec 32 := Scalar.muli v1360_r0 c128_i32_661_r0
  v1361_r0
def k0_mult884 : BitVec 32 :=
  let c36_i32_630_r0 : BitVec 32 := 36#32
  let c0_i32_631_r0 : BitVec 32 := 0#32
  let v1297_r0 : BitVec 32 := Scalar.maxsi c36_i32_630_r0 c0_i32_631_r0
  let c4_i32_632_r0 : BitVec 32 := 4#32
  let v1298_r0 : BitVec 32 := Scalar.muli v1297_r0 c4_i32_632_r0
  let c3_i32_669_r0 : BitVec 32 := 3#32
  let v1381_r0 : BitVec 32 := Scalar.addi v1298_r0 c3_i32_669_r0
  let c128_i32_670_r0 : BitVec 32 := 128#32
  let v1382_r0 : BitVec 32 := Scalar.muli v1381_r0 c128_i32_670_r0
  v1382_r0
def k0_mult885 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_671_r0 : BitVec 32 := 8#32
  let v1387_r0 : BitVec 32 := Scalar.muli v1202_r0 c8_i32_671_r0
  let c2_i32_672_r0 : BitVec 32 := 2#32
  let v1388_r0 : BitVec 32 := Scalar.addi v1387_r0 c2_i32_672_r0
  let c8_i32_676_r0 : BitVec 32 := 8#32
  let v1391_r0 : BitVec 32 := Scalar.muli v1388_r0 c8_i32_676_r0
  v1391_r0
def k0_mult886 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c0_i32_685_r0 : BitVec 32 := 0#32
  let v1410_r0 : BitVec 32 := Scalar.addi v1390_r0 c0_i32_685_r0
  let c128_i32_686_r0 : BitVec 32 := 128#32
  let v1411_r0 : BitVec 32 := Scalar.muli v1410_r0 c128_i32_686_r0
  v1411_r0
def k0_mult887 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c1_i32_694_r0 : BitVec 32 := 1#32
  let v1431_r0 : BitVec 32 := Scalar.addi v1390_r0 c1_i32_694_r0
  let c128_i32_695_r0 : BitVec 32 := 128#32
  let v1432_r0 : BitVec 32 := Scalar.muli v1431_r0 c128_i32_695_r0
  v1432_r0
def k0_mult888 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c2_i32_703_r0 : BitVec 32 := 2#32
  let v1452_r0 : BitVec 32 := Scalar.addi v1390_r0 c2_i32_703_r0
  let c128_i32_704_r0 : BitVec 32 := 128#32
  let v1453_r0 : BitVec 32 := Scalar.muli v1452_r0 c128_i32_704_r0
  v1453_r0
def k0_mult889 : BitVec 32 :=
  let c36_i32_673_r0 : BitVec 32 := 36#32
  let c0_i32_674_r0 : BitVec 32 := 0#32
  let v1389_r0 : BitVec 32 := Scalar.maxsi c36_i32_673_r0 c0_i32_674_r0
  let c4_i32_675_r0 : BitVec 32 := 4#32
  let v1390_r0 : BitVec 32 := Scalar.muli v1389_r0 c4_i32_675_r0
  let c3_i32_712_r0 : BitVec 32 := 3#32
  let v1473_r0 : BitVec 32 := Scalar.addi v1390_r0 c3_i32_712_r0
  let c128_i32_713_r0 : BitVec 32 := 128#32
  let v1474_r0 : BitVec 32 := Scalar.muli v1473_r0 c128_i32_713_r0
  v1474_r0
def k0_mult890 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_714_r0 : BitVec 32 := 8#32
  let v1479_r0 : BitVec 32 := Scalar.muli v1202_r0 c8_i32_714_r0
  let c3_i32_715_r0 : BitVec 32 := 3#32
  let v1480_r0 : BitVec 32 := Scalar.addi v1479_r0 c3_i32_715_r0
  let c8_i32_719_r0 : BitVec 32 := 8#32
  let v1483_r0 : BitVec 32 := Scalar.muli v1480_r0 c8_i32_719_r0
  v1483_r0
def k0_mult891 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c0_i32_728_r0 : BitVec 32 := 0#32
  let v1502_r0 : BitVec 32 := Scalar.addi v1482_r0 c0_i32_728_r0
  let c128_i32_729_r0 : BitVec 32 := 128#32
  let v1503_r0 : BitVec 32 := Scalar.muli v1502_r0 c128_i32_729_r0
  v1503_r0
def k0_mult892 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c1_i32_737_r0 : BitVec 32 := 1#32
  let v1523_r0 : BitVec 32 := Scalar.addi v1482_r0 c1_i32_737_r0
  let c128_i32_738_r0 : BitVec 32 := 128#32
  let v1524_r0 : BitVec 32 := Scalar.muli v1523_r0 c128_i32_738_r0
  v1524_r0
def k0_mult893 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c2_i32_746_r0 : BitVec 32 := 2#32
  let v1544_r0 : BitVec 32 := Scalar.addi v1482_r0 c2_i32_746_r0
  let c128_i32_747_r0 : BitVec 32 := 128#32
  let v1545_r0 : BitVec 32 := Scalar.muli v1544_r0 c128_i32_747_r0
  v1545_r0
def k0_mult894 : BitVec 32 :=
  let c36_i32_716_r0 : BitVec 32 := 36#32
  let c0_i32_717_r0 : BitVec 32 := 0#32
  let v1481_r0 : BitVec 32 := Scalar.maxsi c36_i32_716_r0 c0_i32_717_r0
  let c4_i32_718_r0 : BitVec 32 := 4#32
  let v1482_r0 : BitVec 32 := Scalar.muli v1481_r0 c4_i32_718_r0
  let c3_i32_755_r0 : BitVec 32 := 3#32
  let v1565_r0 : BitVec 32 := Scalar.addi v1482_r0 c3_i32_755_r0
  let c128_i32_756_r0 : BitVec 32 := 128#32
  let v1566_r0 : BitVec 32 := Scalar.muli v1565_r0 c128_i32_756_r0
  v1566_r0
def k0_mult895 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_757_r0 : BitVec 32 := 8#32
  let v1571_r0 : BitVec 32 := Scalar.muli v1202_r0 c8_i32_757_r0
  let c4_i32_758_r0 : BitVec 32 := 4#32
  let v1572_r0 : BitVec 32 := Scalar.addi v1571_r0 c4_i32_758_r0
  let c8_i32_762_r0 : BitVec 32 := 8#32
  let v1575_r0 : BitVec 32 := Scalar.muli v1572_r0 c8_i32_762_r0
  v1575_r0
def k0_mult896 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c0_i32_771_r0 : BitVec 32 := 0#32
  let v1594_r0 : BitVec 32 := Scalar.addi v1574_r0 c0_i32_771_r0
  let c128_i32_772_r0 : BitVec 32 := 128#32
  let v1595_r0 : BitVec 32 := Scalar.muli v1594_r0 c128_i32_772_r0
  v1595_r0
def k0_mult897 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c1_i32_780_r0 : BitVec 32 := 1#32
  let v1615_r0 : BitVec 32 := Scalar.addi v1574_r0 c1_i32_780_r0
  let c128_i32_781_r0 : BitVec 32 := 128#32
  let v1616_r0 : BitVec 32 := Scalar.muli v1615_r0 c128_i32_781_r0
  v1616_r0
def k0_mult898 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c2_i32_789_r0 : BitVec 32 := 2#32
  let v1636_r0 : BitVec 32 := Scalar.addi v1574_r0 c2_i32_789_r0
  let c128_i32_790_r0 : BitVec 32 := 128#32
  let v1637_r0 : BitVec 32 := Scalar.muli v1636_r0 c128_i32_790_r0
  v1637_r0
def k0_mult899 : BitVec 32 :=
  let c36_i32_759_r0 : BitVec 32 := 36#32
  let c0_i32_760_r0 : BitVec 32 := 0#32
  let v1573_r0 : BitVec 32 := Scalar.maxsi c36_i32_759_r0 c0_i32_760_r0
  let c4_i32_761_r0 : BitVec 32 := 4#32
  let v1574_r0 : BitVec 32 := Scalar.muli v1573_r0 c4_i32_761_r0
  let c3_i32_798_r0 : BitVec 32 := 3#32
  let v1657_r0 : BitVec 32 := Scalar.addi v1574_r0 c3_i32_798_r0
  let c128_i32_799_r0 : BitVec 32 := 128#32
  let v1658_r0 : BitVec 32 := Scalar.muli v1657_r0 c128_i32_799_r0
  v1658_r0
def k0_mult900 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_800_r0 : BitVec 32 := 8#32
  let v1663_r0 : BitVec 32 := Scalar.muli v1202_r0 c8_i32_800_r0
  let c5_i32_801_r0 : BitVec 32 := 5#32
  let v1664_r0 : BitVec 32 := Scalar.addi v1663_r0 c5_i32_801_r0
  let c8_i32_805_r0 : BitVec 32 := 8#32
  let v1667_r0 : BitVec 32 := Scalar.muli v1664_r0 c8_i32_805_r0
  v1667_r0
def k0_mult901 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c0_i32_814_r0 : BitVec 32 := 0#32
  let v1686_r0 : BitVec 32 := Scalar.addi v1666_r0 c0_i32_814_r0
  let c128_i32_815_r0 : BitVec 32 := 128#32
  let v1687_r0 : BitVec 32 := Scalar.muli v1686_r0 c128_i32_815_r0
  v1687_r0
def k0_mult902 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c1_i32_823_r0 : BitVec 32 := 1#32
  let v1707_r0 : BitVec 32 := Scalar.addi v1666_r0 c1_i32_823_r0
  let c128_i32_824_r0 : BitVec 32 := 128#32
  let v1708_r0 : BitVec 32 := Scalar.muli v1707_r0 c128_i32_824_r0
  v1708_r0
def k0_mult903 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c2_i32_832_r0 : BitVec 32 := 2#32
  let v1728_r0 : BitVec 32 := Scalar.addi v1666_r0 c2_i32_832_r0
  let c128_i32_833_r0 : BitVec 32 := 128#32
  let v1729_r0 : BitVec 32 := Scalar.muli v1728_r0 c128_i32_833_r0
  v1729_r0
def k0_mult904 : BitVec 32 :=
  let c36_i32_802_r0 : BitVec 32 := 36#32
  let c0_i32_803_r0 : BitVec 32 := 0#32
  let v1665_r0 : BitVec 32 := Scalar.maxsi c36_i32_802_r0 c0_i32_803_r0
  let c4_i32_804_r0 : BitVec 32 := 4#32
  let v1666_r0 : BitVec 32 := Scalar.muli v1665_r0 c4_i32_804_r0
  let c3_i32_841_r0 : BitVec 32 := 3#32
  let v1749_r0 : BitVec 32 := Scalar.addi v1666_r0 c3_i32_841_r0
  let c128_i32_842_r0 : BitVec 32 := 128#32
  let v1750_r0 : BitVec 32 := Scalar.muli v1749_r0 c128_i32_842_r0
  v1750_r0
def k0_mult905 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_843_r0 : BitVec 32 := 8#32
  let v1755_r0 : BitVec 32 := Scalar.muli v1202_r0 c8_i32_843_r0
  let c6_i32_844_r0 : BitVec 32 := 6#32
  let v1756_r0 : BitVec 32 := Scalar.addi v1755_r0 c6_i32_844_r0
  let c8_i32_848_r0 : BitVec 32 := 8#32
  let v1759_r0 : BitVec 32 := Scalar.muli v1756_r0 c8_i32_848_r0
  v1759_r0
def k0_mult906 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c0_i32_857_r0 : BitVec 32 := 0#32
  let v1778_r0 : BitVec 32 := Scalar.addi v1758_r0 c0_i32_857_r0
  let c128_i32_858_r0 : BitVec 32 := 128#32
  let v1779_r0 : BitVec 32 := Scalar.muli v1778_r0 c128_i32_858_r0
  v1779_r0
def k0_mult907 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c1_i32_866_r0 : BitVec 32 := 1#32
  let v1799_r0 : BitVec 32 := Scalar.addi v1758_r0 c1_i32_866_r0
  let c128_i32_867_r0 : BitVec 32 := 128#32
  let v1800_r0 : BitVec 32 := Scalar.muli v1799_r0 c128_i32_867_r0
  v1800_r0
def k0_mult908 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c2_i32_875_r0 : BitVec 32 := 2#32
  let v1820_r0 : BitVec 32 := Scalar.addi v1758_r0 c2_i32_875_r0
  let c128_i32_876_r0 : BitVec 32 := 128#32
  let v1821_r0 : BitVec 32 := Scalar.muli v1820_r0 c128_i32_876_r0
  v1821_r0
def k0_mult909 : BitVec 32 :=
  let c36_i32_845_r0 : BitVec 32 := 36#32
  let c0_i32_846_r0 : BitVec 32 := 0#32
  let v1757_r0 : BitVec 32 := Scalar.maxsi c36_i32_845_r0 c0_i32_846_r0
  let c4_i32_847_r0 : BitVec 32 := 4#32
  let v1758_r0 : BitVec 32 := Scalar.muli v1757_r0 c4_i32_847_r0
  let c3_i32_884_r0 : BitVec 32 := 3#32
  let v1841_r0 : BitVec 32 := Scalar.addi v1758_r0 c3_i32_884_r0
  let c128_i32_885_r0 : BitVec 32 := 128#32
  let v1842_r0 : BitVec 32 := Scalar.muli v1841_r0 c128_i32_885_r0
  v1842_r0
def k0_mult910 (i : grid0.Coords) (k0_t16 : Fin (k0_t16_loop i).trips) : BitVec 32 :=
  let arg0 : BitVec 32 := BitVec.ofNat 32 (i 0).val
  let c0_i32_577_r0 : BitVec 32 := 0#32
  let c3_i32_572_r0 : BitVec 32 := 3#32
  let v1188_r0 : BitVec 32 := Scalar.subi c3_i32_572_r0 arg0
  let c1_i32_573_r0 : BitVec 32 := 1#32
  let c1_i32_574_r0 : BitVec 32 := 1#32
  let v1189_r0 : BitVec 32 := Scalar.subi c1_i32_573_r0 c1_i32_574_r0
  let v1190_r0 : BitVec 32 := Scalar.addi v1188_r0 v1189_r0
  let c1_i32_575_r0 : BitVec 32 := 1#32
  let v1191_r0 : BitVec 32 := Scalar.divsi v1190_r0 c1_i32_575_r0
  let v1192_r0 : BitVec 32 := Scalar.subi v1191_r0 c0_i32_577_r0
  let c1_i32_578_r0 : BitVec 32 := 1#32
  let v1194_r0 : BitVec 32 := Scalar.divsi v1192_r0 c1_i32_578_r0
  let v1195_r0 : BitVec 32 := Scalar.muli v1194_r0 c1_i32_578_r0
  let v1196_r0 : BitVec 32 := Scalar.addi c0_i32_577_r0 v1195_r0
  let c1_i32_580_r0 : BitVec 32 := 1#32
  let arg20_r0 : BitVec 32 := Scf.iv v1196_r0 c1_i32_580_r0 k0_t16
  let c1_i32_576_r0 : BitVec 32 := 1#32
  let v1201_r0 : BitVec 32 := Scalar.muli arg20_r0 c1_i32_576_r0
  let v1202_r0 : BitVec 32 := Scalar.addi arg0 v1201_r0
  let c8_i32_886_r0 : BitVec 32 := 8#32
  let v1847_r0 : BitVec 32 := Scalar.muli v1202_r0 c8_i32_886_r0
  let c7_i32_887_r0 : BitVec 32 := 7#32
  let v1848_r0 : BitVec 32 := Scalar.addi v1847_r0 c7_i32_887_r0
  let c8_i32_891_r0 : BitVec 32 := 8#32
  let v1851_r0 : BitVec 32 := Scalar.muli v1848_r0 c8_i32_891_r0
  v1851_r0
def k0_mult911 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c0_i32_900_r0 : BitVec 32 := 0#32
  let v1870_r0 : BitVec 32 := Scalar.addi v1850_r0 c0_i32_900_r0
  let c128_i32_901_r0 : BitVec 32 := 128#32
  let v1871_r0 : BitVec 32 := Scalar.muli v1870_r0 c128_i32_901_r0
  v1871_r0
def k0_mult912 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c1_i32_909_r0 : BitVec 32 := 1#32
  let v1891_r0 : BitVec 32 := Scalar.addi v1850_r0 c1_i32_909_r0
  let c128_i32_910_r0 : BitVec 32 := 128#32
  let v1892_r0 : BitVec 32 := Scalar.muli v1891_r0 c128_i32_910_r0
  v1892_r0
def k0_mult913 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c2_i32_918_r0 : BitVec 32 := 2#32
  let v1912_r0 : BitVec 32 := Scalar.addi v1850_r0 c2_i32_918_r0
  let c128_i32_919_r0 : BitVec 32 := 128#32
  let v1913_r0 : BitVec 32 := Scalar.muli v1912_r0 c128_i32_919_r0
  v1913_r0
def k0_mult914 : BitVec 32 :=
  let c36_i32_888_r0 : BitVec 32 := 36#32
  let c0_i32_889_r0 : BitVec 32 := 0#32
  let v1849_r0 : BitVec 32 := Scalar.maxsi c36_i32_888_r0 c0_i32_889_r0
  let c4_i32_890_r0 : BitVec 32 := 4#32
  let v1850_r0 : BitVec 32 := Scalar.muli v1849_r0 c4_i32_890_r0
  let c3_i32_927_r0 : BitVec 32 := 3#32
  let v1933_r0 : BitVec 32 := Scalar.addi v1850_r0 c3_i32_927_r0
  let c128_i32_928_r0 : BitVec 32 := 128#32
  let v1934_r0 : BitVec 32 := Scalar.muli v1933_r0 c128_i32_928_r0
  v1934_r0
def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S192x1x8192 : Shape := ⟨3, ![192, 1, 8192]⟩
abbrev S18944x8192 : Shape := ⟨2, ![18944, 8192]⟩
abbrev S18944 : Shape := ⟨1, ![18944]⟩
abbrev S192x8192 : Shape := ⟨2, ![192, 8192]⟩
abbrev S1x18944 : Shape := ⟨2, ![1, 18944]⟩
abbrev S192x18944 : Shape := ⟨2, ![192, 18944]⟩
abbrev S1x192 : Shape := ⟨2, ![1, 192]⟩
abbrev S192 : Shape := ⟨1, ![192]⟩
abbrev S192x1 : Shape := ⟨2, ![192, 1]⟩
abbrev S1x256 : Shape := ⟨2, ![1, 256]⟩
abbrev S192x256 : Shape := ⟨2, ![192, 256]⟩

abbrev nBuf : Space → Nat
  | .hbm => 10
  | .vmem => 7
  | .smem => 0
  | _ => 0

abbrev bufTy : (tb : Table) → Fin (tcTables nBuf tb) → BufTy
  | .hbm, ⟨0, _⟩ => ⟨S192x1x8192, .bf16⟩
  | .hbm, ⟨1, _⟩ => ⟨S18944x8192, .fp8e4m3⟩
  | .hbm, ⟨2, _⟩ => ⟨S18944, .f32⟩
  | .hbm, ⟨3, _⟩ => ⟨S18944, .f32⟩
  | .hbm, ⟨4, _⟩ => ⟨S192x8192, .bf16⟩
  | .hbm, ⟨5, _⟩ => ⟨S1x18944, .f32⟩
  | .hbm, ⟨6, _⟩ => ⟨S1x18944, .f32⟩
  | .hbm, ⟨7, _⟩ => ⟨S192x18944, .f32⟩
  | .hbm, ⟨8, _⟩ => ⟨S192x8192, .fp8e4m3⟩
  | .hbm, ⟨9, _⟩ => ⟨S1x192, .f32⟩
  | .local _ .vmem, ⟨0, _⟩ => ⟨S192x8192, .bf16⟩
  | .local _ .vmem, ⟨1, _⟩ => ⟨S18944x8192, .fp8e4m3⟩
  | .local _ .vmem, ⟨2, _⟩ => ⟨S1x18944, .f32⟩
  | .local _ .vmem, ⟨3, _⟩ => ⟨S1x18944, .f32⟩
  | .local _ .vmem, ⟨4, _⟩ => ⟨S192x18944, .f32⟩
  | .local _ .vmem, ⟨5, _⟩ => ⟨S192x8192, .fp8e4m3⟩
  | .local _ .vmem, ⟨6, _⟩ => ⟨S1x192, .f32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Base.lean ====
/- Names the proof of the kernel uses throughout: the resource algebra, the ring's slots, the blocks of the
   weights, the semaphore of each slot, and the closed forms of the offsets the loops compute. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.KitQuiescent
public import Idealize.ShloMosaic.Lib.Ring
public import Idealize.ShloMosaic.Lib.Affine
public import Idealize.ShloMosaic.Lib.LoopRemainder
public import Idealize.ShloMosaic.Lib.Mxu.Walk
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The arrays -/

abbrev xM : Memref sig .tc .hbm S192x8192 .bf16 := Memref.whole main_v0
abbrev wM : Memref sig .tc .hbm S18944x8192 .fp8e4m3 := Memref.whole main_arg1
abbrev wsM : Memref sig .tc .hbm S148x128 .f32 := Memref.whole main_v1
abbrev bsM : Memref sig .tc .hbm S148x128 .f32 := Memref.whole main_v2
abbrev coM : Memref sig .tc .hbm S192x8192 .fp8e4m3 := Memref.whole main_v3_1
abbrev xbM : Memref sig .tc .vmem S192x8192 .bf16 := Memref.whole cc0_scratch0
abbrev cdM : Memref sig .tc .vmem S192x8192 .fp8e4m3 := Memref.whole cc0_scratch1
abbrev rgM : Memref sig .tc .vmem S8x512x8192 .fp8e4m3 := Memref.whole cc0_scratch2
abbrev wvM : Memref sig .tc .vmem S148x128 .f32 := Memref.whole cc0_scratch3
abbrev bvM : Memref sig .tc .vmem S148x128 .f32 := Memref.whole cc0_scratch4
abbrev scM : Memref sig .tc .vmem S192x128 .f32 := Memref.whole cc0_scratch5
abbrev s0M : Memref sig .tc .vmem S192x512 .f32 := Memref.whole cc0_scratch6
abbrev s1M : Memref sig .tc .vmem S192x512 .f32 := Memref.whole cc0_scratch7

/-! ## The ring: block `b` of the weights goes to slot `b % 8`, on that slot's semaphore -/

abbrev slotOff (b : ℕ) : Fin 3 → Nat := ![b % 8, 0, 0]
theorem slotOff_inb (b : ℕ) : ∀ a, slotOff b a + S1x512x8192.size a ≤ S8x512x8192.size a := by
  intro a; fin_cases a
  · show b % 8 + 1 ≤ 8; omega
  · show 0 + 512 ≤ 512; omega
  · show 0 + 8192 ≤ 8192; omega
abbrev semOff (b : ℕ) : Fin 1 → Nat := ![b % 8]
theorem semOff_inb (b : ℕ) : ∀ a, semOff b a + S1.size a ≤ S8.size a := by
  intro a; fin_cases a; show b % 8 + 1 ≤ 8; omega
abbrev blkOff (b : ℕ) : Fin 2 → Nat := ![512 * (b % 37), 0]
theorem blkOff_inb (b : ℕ) : ∀ a, blkOff b a + S512x8192.size a ≤ S18944x8192.size a := by
  intro a; fin_cases a
  · show 512 * (b % 37) + 512 ≤ 18944; omega
  · show 0 + 8192 ≤ 8192; omega

/-- Block `b`'s slot of the ring, as the body slices and squeezes it. -/
def rslot (b : ℕ) : Memref sig .tc .vmem S512x8192 .fp8e4m3 :=
  (rgM.slice (Rect.unit (s := S8x512x8192) (slotOff b) S1x512x8192.size (slotOff_inb b)) (fun _ => rfl)).squeeze S512x8192 squeezes_S1x512x8192_S512x8192
/-- Block `b`'s semaphore. -/
def csm (b : ℕ) : DmaSems sig S_ := (cc0_scratch9.slice (Rect.unit (s := S8) (semOff b) S1.size (semOff_inb b))).squeeze S_ squeezes_S1_S_
/-- Block `b` of the weights. -/
def wblk (b : ℕ) : Memref sig .tc .hbm S512x8192 .fp8e4m3 :=
  wM.slice (Rect.unit (s := S18944x8192) (blkOff b) S512x8192.size (blkOff_inb b)) (fun _ => rfl)

instance (b : ℕ) : ClosedOff (slotOff b) := ⟨slotOff b, rfl⟩
instance (b : ℕ) : ClosedOff (blkOff b) := ⟨blkOff b, rfl⟩

theorem i0 (i : grid0.Coords) : (i 0).val = 0 := by have h : (i 0).val < 1 := (i 0).isLt; omega

/-- A slice of the slots' semaphores at an offset equal to `semOff b` is `csm b`. -/
theorem csm_congr {off : Fin 1 → Nat} (b : ℕ) (e : off = semOff b) (hh) :
    (cc0_scratch9.slice (Rect.unit (s := S8) off S1.size hh)).squeeze S_ squeezes_S1_S_ = csm b :=
  congrArg (fun A : DmaSems sig S1 => A.squeeze S_ squeezes_S1_S_) (SemArray.slice_unit_congr _ e _ _)
theorem rslot_congr {off : Fin 3 → Nat} (b : ℕ) (e : off = slotOff b) (hh hs) :
    (rgM.slice (Rect.unit (s := S8x512x8192) off S1x512x8192.size hh) hs).squeeze S512x8192 squeezes_S1x512x8192_S512x8192 = rslot b :=
  congrArg (fun M : Memref sig .tc .vmem S1x512x8192 .fp8e4m3 => M.squeeze S512x8192 squeezes_S1x512x8192_S512x8192) (Memref.slice_unit_congr _ e _ _ _ _)
theorem wblk_congr {off : Fin 2 → Nat} (b : ℕ) (e : off = blkOff b) (hh hs) :
    wM.slice (Rect.unit (s := S18944x8192) off S512x8192.size hh) hs = wblk b :=
  Memref.slice_unit_congr _ e _ _ _ (fun _ => rfl)

theorem trips3 (i : grid0.Coords) : (k0_t3_loop i).trips = 18 := by
  have h : ∀ i : grid0.Coords, (k0_t3_loop i).trips = 18 := by decide +kernel
  exact h i
theorem trips4 (i : grid0.Coords) : (k0_t4_loop i).trips = 3 := by
  have h : ∀ i : grid0.Coords, (k0_t4_loop i).trips = 3 := by decide +kernel
  exact h i

/-- An equality of short vectors of numbers, entry by entry. -/
theorem vec1 {a b : ℕ} (h : a = b) : (![a] : Fin 1 → ℕ) = ![b] := by rw [h]
theorem vec2 {a b c : ℕ} (h : a = b) : (![a, c] : Fin 2 → ℕ) = ![b, c] := by rw [h]
theorem vec3 {a b c d : ℕ} (h : a = b) : (![a, c, d] : Fin 3 → ℕ) = ![b, c, d] := by rw [h]

section T3
variable (i : grid0.Coords) (k : Fin (k0_t3_loop i).trips)

/-! The first of the two blocks of trip `k`: block `2 k + 7` is started, block `2 k + 1` is waited for. -/

@[sl_canon] theorem sem139 (hh) : (cc0_scratch9.slice (Rect.unit (s := S8) (k0_off139 i k) S1.size hh)).squeeze S_ squeezes_S1_S_ = csm (2 * k.val + 7) :=
  csm_congr _ ((k0_off139_eq i k).trans (vec1 (by rw [i0 i]; omega))) hh
@[sl_canon] theorem slot140 (hh hs) : (rgM.slice (Rect.unit (s := S8x512x8192) (k0_off140 i k) S1x512x8192.size hh) hs).squeeze S512x8192 squeezes_S1x512x8192_S512x8192 = rslot (2 * k.val + 7) :=
  rslot_congr _ ((k0_off140_eq i k).trans (vec3 (by rw [i0 i]; omega))) hh hs
@[sl_canon] theorem blk141 (hk : 2 * k.val + 7 < 37) (hh hs) : wM.slice (Rect.unit (s := S18944x8192) (k0_off141 i k) S512x8192.size hh) hs = wblk (2 * k.val + 7) :=
  wblk_congr _ ((k0_off141_eq i k).trans (vec2 (by rw [i0 i]; omega))) hh hs
@[sl_canon] theorem sem147 (hh) : (cc0_scratch9.slice (Rect.unit (s := S8) (k0_off147 i k) S1.size hh)).squeeze S_ squeezes_S1_S_ = csm (2 * k.val + 1) :=
  csm_congr _ ((k0_off147_eq i k).trans (vec1 (by rw [i0 i]; omega))) hh
@[sl_canon] theorem slot148 (hh hs) : (rgM.slice (Rect.unit (s := S8x512x8192) (k0_off148 i k) S1x512x8192.size hh) hs).squeeze S512x8192 squeezes_S1x512x8192_S512x8192 = rslot (2 * k.val + 1) :=
  rslot_congr _ ((k0_off148_eq i k).trans (vec3 (by rw [i0 i]; omega))) hh hs
@[sl_canon] theorem blk149 (hh hs) : wM.slice (Rect.unit (s := S18944x8192) (k0_off149 i k) S512x8192.size hh) hs = wblk (2 * k.val + 1) :=
  wblk_congr _ ((k0_off149_eq i k).trans (vec2 (by rw [i0 i]; have := lt_of_lt_of_eq k.isLt (trips3 i); omega))) hh hs

/-! The second block: block `2 k + 8` is started, block `2 k + 2` is waited for. -/

@[sl_canon] theorem sem177 (hh) : (cc0_scratch9.slice (Rect.unit (s := S8) (k0_off177 i k) S1.size hh)).squeeze S_ squeezes_S1_S_ = csm (2 * k.val + 8) :=
  csm_congr _ ((k0_off177_eq i k).trans (vec1 (by rw [i0 i]; omega))) hh
@[sl_canon] theorem slot178 (hh hs) : (rgM.slice (Rect.unit (s := S8x512x8192) (k0_off178 i k) S1x512x8192.size hh) hs).squeeze S512x8192 squeezes_S1x512x8192_S512x8192 = rslot (2 * k.val + 8) :=
  rslot_congr _ ((k0_off178_eq i k).trans (vec3 (by rw [i0 i]; omega))) hh hs
@[sl_canon] theorem blk179 (hk : 2 * k.val + 8 < 37) (hh hs) : wM.slice (Rect.unit (s := S18944x8192) (k0_off179 i k) S512x8192.size hh) hs = wblk (2 * k.val + 8) :=
  wblk_congr _ ((k0_off179_eq i k).trans (vec2 (by rw [i0 i]; have := lt_of_lt_of_eq k.isLt (trips3 i); omega))) hh hs

@[sl_canon] theorem sem180 (hh) : (cc0_scratch9.slice (Rect.unit (s := S8) (k0_off180 i k) S1.size hh)).squeeze S_ squeezes_S1_S_ = csm (2 * k.val + 2) :=
  csm_congr _ ((k0_off180_eq i k).trans (vec1 (by rw [i0 i]; omega))) hh
@[sl_canon] theorem slot181 (hh hs) : (rgM.slice (Rect.unit (s := S8x512x8192) (k0_off181 i k) S1x512x8192.size hh) hs).squeeze S512x8192 squeezes_S1x512x8192_S512x8192 = rslot (2 * k.val + 2) :=
  rslot_congr _ ((k0_off181_eq i k).trans (vec3 (by rw [i0 i]; omega))) hh hs
@[sl_canon] theorem blk182 (hh hs) : wM.slice (Rect.unit (s := S18944x8192) (k0_off182 i k) S512x8192.size hh) hs = wblk (2 * k.val + 2) :=
  wblk_congr _ ((k0_off182_eq i k).trans (vec2 (by rw [i0 i]; have := lt_of_lt_of_eq k.isLt (trips3 i); omega))) hh hs

end T3

/-! ## The select of the block before: its rows of scales and biases, its tiles of logits -/

theorem off154_eq : ∀ (i : grid0.Coords) (k0_t3 : Fin (k0_t3_loop i).trips) (r : Fin 4),
    k0_off154 i k0_t3 (BitVec.ofNat 32 r.val) = ![4 * (2 * k0_t3.val - 1) + r.val, 0] := by decide +kernel
theorem off156_eq : ∀ (i : grid0.Coords) (k0_t3 : Fin (k0_t3_loop i).trips) (k0_t4 : Fin (k0_t4_loop i).trips) (r₁ : Fin 8) (r₂ : Fin 4),
    k0_off156 i k0_t3 k0_t4 (BitVec.ofNat 32 r₁.val) (BitVec.ofNat 32 r₂.val) = ![64 * k0_t4.val + 8 * r₁.val, 128 * (4 * (2 * k0_t3.val - 1) + r₂.val)] := by decide +kernel

instance lt4_0 : Fact (0 < 4) := ⟨by decide⟩
instance lt4_1 : Fact (1 < 4) := ⟨by decide⟩
instance lt4_2 : Fact (2 < 4) := ⟨by decide⟩
instance lt4_3 : Fact (3 < 4) := ⟨by decide⟩
instance lt8_0 : Fact (0 < 8) := ⟨by decide⟩
instance lt8_1 : Fact (1 < 8) := ⟨by decide⟩
instance lt8_2 : Fact (2 < 8) := ⟨by decide⟩
instance lt8_3 : Fact (3 < 8) := ⟨by decide⟩
instance lt8_4 : Fact (4 < 8) := ⟨by decide⟩
instance lt8_5 : Fact (5 < 8) := ⟨by decide⟩
instance lt8_6 : Fact (6 < 8) := ⟨by decide⟩
instance lt8_7 : Fact (7 < 8) := ⟨by decide⟩

instance (i : grid0.Coords) (t : Fin (k0_t3_loop i).trips) (r : ℕ) [h : Fact (r < 4)] : ClosedOff (k0_off154 i t (BitVec.ofNat 32 r)) :=
  ⟨![4 * (2 * t.val - 1) + r, 0], off154_eq i t ⟨r, h.out⟩⟩
instance (i : grid0.Coords) (t : Fin (k0_t3_loop i).trips) (u : Fin (k0_t4_loop i).trips) (r₁ r₂ : ℕ) [h₁ : Fact (r₁ < 8)] [h₂ : Fact (r₂ < 4)] :
    ClosedOff (k0_off156 i t u (BitVec.ofNat 32 r₁) (BitVec.ofNat 32 r₂)) :=
  ⟨![64 * u.val + 8 * r₁, 128 * (4 * (2 * t.val - 1) + r₂)], off156_eq i t u ⟨r₁, h₁.out⟩ ⟨r₂, h₂.out⟩⟩

/-! ## Resources -/

section Res
variable (c : Dev nD) (XW : Buf (Elt F) (wM.view.loc (c : Thread nD τ)))

abbrev cellP (b : ℕ) : sProp 𝕄 := semVal ((c : Thread nD τ), SemLoc.dma (csm b).sem) 0
abbrev slotP (b : ℕ) (f : Buf (Elt F) (rgM.view.loc (c : Thread nD τ))) : sProp 𝕄 := (rslot b).view.loc (c : Thread nD τ) ↦[(rslot b).view.set]{fullShare} f
abbrev homeP (b : ℕ) : sProp 𝕄 := (wblk b).view.loc (c : Thread nD τ) ↦[(wblk b).view.set]{fullShare} XW
/-- The ring's slot as block `b`'s transfer over contents `f` leaves it. -/
abbrev landed (b : ℕ) (f : Buf (Elt F) (rgM.view.loc (c : Thread nD τ))) : Buf (Elt F) (rgM.view.loc (c : Thread nD τ)) :=
  (rslot b).view.writes (Elt F) f [⟨Rect.whole S512x8192, ReadAs.same.apply ((wblk b).view.read (Elt F) XW)⟩]
abbrev flightP (b : ℕ) (f : Buf (Elt F) (rgM.view.loc (c : Thread nD τ))) : sProp 𝕄 :=
  Transfers.Flight countersEmb (c : Thread nD τ) (SemLoc.dma (csm b).sem) () (rslot b).view.dmaCredit iprop(slotP c b (landed c XW b f) ∗ homeP c XW b)

/-- The buffers a trip's steps and select use: the logits' staging buffer, the codes (a share of them), the columns' scales and biases,
    the rows' scales, the block of products selected from. -/
def tripRes (arg5 : Memref sig .tc .vmem S192x18944 .f32) (sM : Memref sig .tc .vmem S192x512 .f32) (q : PosShare TreeShare)
    (fO : Buf (Elt F) (arg5.view.loc (c : Thread nD τ))) (C : Buf (Elt F) (cdM.view.loc (c : Thread nD τ)))
    (fwv : Buf (Elt F) (wvM.view.loc (c : Thread nD τ))) (fbv : Buf (Elt F) (bvM.view.loc (c : Thread nD τ)))
    (fsc : Buf (Elt F) (scM.view.loc (c : Thread nD τ))) (fs : Buf (Elt F) (sM.view.loc (c : Thread nD τ))) : sProp 𝕄 :=
  iprop((arg5.view.loc (c : Thread nD τ) ↦[arg5.view.set]{fullShare} fO)
    ∗ (cdM.view.loc (c : Thread nD τ) ↦[cdM.view.set]{q} C)
    ∗ (wvM.view.loc (c : Thread nD τ) ↦[wvM.view.set]{fullShare} fwv)
    ∗ (bvM.view.loc (c : Thread nD τ) ↦[bvM.view.set]{fullShare} fbv)
    ∗ (scM.view.loc (c : Thread nD τ) ↦[scM.view.set]{fullShare} fsc)
    ∗ (sM.view.loc (c : Thread nD τ) ↦[sM.view.set]{fullShare} fs)
    ∗ (∃ W, owes (c : Thread nD τ) 0 W))

end Res

end Cert.Proof.Kernel
-- ==== Proof.Unit.lean ====
/- The two matrix units as this kernel drives them: one step accumulates a tile of codes against the tile each unit
   has staged and stages the next one; a pop reads an accumulator and empties it. -/
module

public import Idealize.ShloMosaic.Lib.Mxu.Walk
public import Idealize.ShloMosaic.Lib.Tactic

@[expose] public section

noncomputable section

namespace Cert.Proof.Unit

open Idealize.ShloMosaic Idealize.ShloMosaic.Mxu

variable {F : FTy → Type} [FloatOps F]

/-- A tile to multiply by, and the rows of an accumulator. -/
abbrev Tile (F : FTy → Type) := FVec F (STile 256) .bf16
abbrev Rows (F : FTy → Type) := FVec F (STile 192) .f32
abbrev Lhs (F : FTy → Type) := FVec F (STile 192) .bf16

/-- What both units hold at one accumulator's rows: nothing, or these. -/
def Held (s : Mxu F) (A : ℕ) (h : Fits A 192) : Option (Fin 2 → Rows F) → Prop
  | none => ∀ q R, 4 * A ≤ R.val → R.val < 4 * A + 192 → s.live q R = false
  | some a => ∀ q, (∀ r : Fin 192, s.live q (row h r) = true) ∧ s.read q A h = a q

/-- The state: register `r` of each unit holds a tile, `r'` is empty, the accumulators at `A` and `B` hold `d` and `e`,
    nothing else is live. -/
structure MS (s : Mxu F) (r r' : Fin 2) (T : Fin 2 → Option (Tile F)) (A : ℕ) (hA : Fits A 192) (d : Option (Fin 2 → Rows F))
    (B : ℕ) (hB : Fits B 192) (e : Option (Fin 2 → Rows F)) : Prop where
  reg : ∀ q, s.reg q r = (T q).map fun v => ⟨.bf16, true, v⟩
  emp : ∀ q, s.reg q r' = none
  cur : Held s A hA d
  oth : Held s B hB e
  out : ∀ q R, (R.val < 4 * A ∨ 4 * A + 192 ≤ R.val) → (R.val < 4 * B ∨ 4 * B + 192 ≤ R.val) → s.live q R = false

/-- The product of a tile of codes with a staged tile. -/
abbrev prod (x : Lhs F) (v : Tile F) : Rows F := FloatOps.mxuPass (DotDims.transposedRhs 192 256 256) x v

/-- An accumulator after one more product. -/
def dep (d : Option (Fin 2 → Rows F)) (x : Lhs F) (T : Fin 2 → Tile F) : Fin 2 → Rows F := fun q =>
  match d with
  | none => prod x (T q)
  | some a => addf (a q) (prod x (T q))

/-- Both units accumulate `x` against register `r`'s tile. -/
abbrev accs (s : Mxu F) (r : Fin 2) (A : ℕ) (h : Fits A 192) (x : Lhs F) : Mxu F := (s.accLhs 0 r A x h).accLhs 1 r A x h
/-- One step: the accumulation, and the next tile of each unit staged in the other register. -/
abbrev step (s : Mxu F) (r r' : Fin 2) (A : ℕ) (h : Fits A 192) (x : Lhs F) (t0 t1 : Tile F) : Mxu F :=
  ((accs s r A h x).pushed 0 r' true t0).pushed 1 r' true t1
abbrev pops (s : Mxu F) (A : ℕ) (h : Fits A 192) : Mxu F := (s.pop 0 A 192 h).pop 1 A 192 h

variable {s : Mxu F} {r r' : Fin 2} {T : Fin 2 → Option (Tile F)} {A B : ℕ} {hA : Fits A 192} {hB : Fits B 192} {d e : Option (Fin 2 → Rows F)}

theorem two (q : Fin 2) : q = 0 ∨ q = 1 := by omega

theorem live_accs (x : Lhs F) (q : Fin 2) (R : Fin 1024) :
    (accs s r A hA x).live q R = if 4 * A ≤ R.val ∧ R.val < 4 * A + 192 then true else s.live q R := by
  unfold accs; rw [live_accLhs, live_accLhs]; rcases two q with rfl | rfl <;> simp

theorem reg_accs (x : Lhs F) (q : Fin 2) : (accs s r A hA x).reg q r = none := by
  unfold accs
  rcases two q with rfl | rfl
  · rw [reg_accLhs_ne _ _ _ _ _ _ _ _ (by simp), reg_accLhs]
  · rw [reg_accLhs]
theorem reg_accs_ne (x : Lhs F) (q : Fin 2) (hr : r' ≠ r) : (accs s r A hA x).reg q r' = s.reg q r' := by
  unfold accs
  rw [reg_accLhs_ne _ _ _ _ _ _ _ _ (by simp [hr]), reg_accLhs_ne _ _ _ _ _ _ _ _ (by simp [hr])]

theorem read_accs (x : Lhs F) (q : Fin 2) :
    (accs s r A hA x).read q A hA = fun i => deposit (s.live q (row hA (i 0))) (s.read q A hA i) ((s.staged q r).pass x i) := by
  unfold accs
  rcases two q with rfl | rfl
  · rw [read_accLhs_ne _ _ _ _ _ _ _ _ _ (.inl (by decide)), read_accLhs]
  · rw [read_accLhs, read_accLhs_ne _ _ _ _ _ _ _ _ _ (.inl (by decide))]
    funext i
    have h1 : (s.accLhs 0 r A x hA).live 1 (row hA (i 0)) = s.live 1 (row hA (i 0)) := (live_accLhs _ _ _ _ _ _ _ _).trans (if_neg (by simp))
    have h2 : (s.accLhs 0 r A x hA).staged 1 r = s.staged 1 r := by rw [staged_eq, staged_eq, reg_accLhs_ne _ _ _ _ _ _ _ _ (by simp)]
    exact congrArg₂ (fun l p => deposit l (s.read 1 A hA i) (Staged.pass p x i)) h1 h2

theorem MS.accs (H : MS s r r' T A hA d B hB e) (hr : r' ≠ r) (hAB : 4 * A + 192 ≤ 4 * B ∨ 4 * B + 192 ≤ 4 * A) (x : Lhs F)
    {v : Fin 2 → Tile F} (hT : ∀ q, T q = some (v q)) :
    MS (accs s r A hA x) r' r (fun _ => none) A hA (some (dep d x v)) B hB e where
  reg q := by rw [reg_accs_ne x q hr, H.emp]; rfl
  emp q := reg_accs x q
  cur := by
    intro q
    refine ⟨fun R => ?_, ?_⟩
    · rw [live_accs, if_pos]; have := R.isLt; constructor <;> simp only [row] <;> omega
    · rw [read_accs]
      have hs : s.staged q r = ⟨.bf16, true, v q⟩ := by rw [staged_eq, H.reg, hT]; rfl
      have hc := H.cur
      funext i
      rw [hs]
      cases d with
      | none =>
        have hl : s.live q (row hA (i 0)) = false := by
          have h0 : (i 0).val < 192 := (i 0).isLt
          exact hc q _ (by simp only [row]; omega) (by simp only [row]; omega)
        rw [hl]; rfl
      | some a =>
        rw [(hc q).1 (i 0), (hc q).2]; rfl
  oth := by
    have ho := H.oth
    cases e with
    | none => intro q R h1 h2; rw [live_accs, if_neg (by omega)]; exact ho q R h1 h2
    | some a =>
      intro q
      refine ⟨fun R => ?_, ?_⟩
      · rw [live_accs, if_neg (by have := R.isLt; simp only [row]; omega)]; exact (ho q).1 R
      · unfold Unit.accs
        rw [read_accLhs_ne _ _ _ _ _ _ _ _ _ (.inr (by omega)), read_accLhs_ne _ _ _ _ _ _ _ _ _ (.inr (by omega))]
        exact (ho q).2
  out q R h1 h2 := by rw [live_accs, if_neg (by omega)]; exact H.out q R h1 h2

theorem MS.push (H : MS s r r' (fun _ => none) A hA d B hB e) (hr : r' ≠ r) (t : Fin 2 → Tile F) :
    MS ((s.pushed 0 r true (t 0)).pushed 1 r true (t 1)) r r' (fun q => some (t q)) A hA d B hB e where
  reg q := by
    have e0 : s.reg 0 r = none := H.reg 0
    have e1 : s.reg 1 r = none := H.reg 1
    rcases two q with rfl | rfl
    · rw [reg_pushed_ne _ _ _ _ _ _ _ (by simp), reg_pushed_of_none _ _ _ _ _ e0]; rfl
    · rw [reg_pushed_of_none _ _ _ _ _ (by rw [reg_pushed_ne _ _ _ _ _ _ _ (by simp)]; exact e1)]; rfl
  emp q := by
    rw [reg_pushed_ne _ _ _ _ _ _ _ (by simp [hr]), reg_pushed_ne _ _ _ _ _ _ _ (by simp [hr])]; exact H.emp q
  cur := by
    have hc := H.cur
    cases d with
    | none => intro q R h1 h2; rw [live_pushed, live_pushed]; exact hc q R h1 h2
    | some a => intro q; rw [live_pushed, live_pushed, read_pushed, read_pushed]; exact hc q
  oth := by
    have hc := H.oth
    cases e with
    | none => intro q R h1 h2; rw [live_pushed, live_pushed]; exact hc q R h1 h2
    | some a => intro q; rw [live_pushed, live_pushed, read_pushed, read_pushed]; exact hc q
  out q R h1 h2 := by rw [live_pushed, live_pushed]; exact H.out q R h1 h2

/-- One step of the state. -/
theorem MS.step {v : Fin 2 → Tile F} (H : MS s r r' (fun q => some (v q)) A hA d B hB e) (hr : r' ≠ r) (hAB : 4 * A + 192 ≤ 4 * B ∨ 4 * B + 192 ≤ 4 * A) (x : Lhs F)
    (t : Fin 2 → Tile F) : MS (step s r r' A hA x (t 0) (t 1)) r' r (fun q => some (t q)) A hA (some (dep d x v)) B hB e :=
  (H.accs hr hAB x (fun _ => rfl)).push hr.symm t

theorem live_pops (q : Fin 2) (R : Fin 1024) :
    (pops s B hB).live q R = if 4 * B ≤ R.val ∧ R.val < 4 * B + 192 then false else s.live q R := by
  unfold pops; rw [live_pop, live_pop]; rcases two q with rfl | rfl <;> simp

/-- Popping the other accumulator empties it. -/
theorem MS.pops (H : MS s r r' T A hA d B hB e) (hAB : 4 * A + 192 ≤ 4 * B ∨ 4 * B + 192 ≤ 4 * A) :
    MS (pops s B hB) r r' T A hA d B hB none where
  reg q := by unfold Unit.pops; rw [reg_pop, reg_pop]; exact H.reg q
  emp q := by unfold Unit.pops; rw [reg_pop, reg_pop]; exact H.emp q
  cur := by
    have hc := H.cur
    cases d with
    | none => intro q R h1 h2; rw [live_pops, if_neg (by omega)]; exact hc q R h1 h2
    | some a =>
      intro q
      refine ⟨fun R => ?_, ?_⟩
      · rw [live_pops, if_neg (by have := R.isLt; simp only [row]; omega)]; exact (hc q).1 R
      · unfold Unit.pops
        rw [read_pop_ne _ _ _ _ _ _ _ (.inr (by omega)), read_pop_ne _ _ _ _ _ _ _ (.inr (by omega))]
        exact (hc q).2
  oth := by intro q R h1 h2; rw [live_pops, if_pos ⟨h1, h2⟩]
  out q R h1 h2 := by
    rw [live_pops]; split
    · rfl
    · exact H.out q R h1 h2

/-- What the pop of unit 0 reads, and then that of unit 1. -/
theorem MS.read0 {b : Fin 2 → Rows F} (H : MS s r r' T A hA d B hB (some b)) : s.read 0 B hB = b 0 := (H.oth 0).2
theorem MS.read1 {b : Fin 2 → Rows F} (H : MS s r r' T A hA d B hB (some b)) : (s.pop 0 B 192 hB).read 1 B hB = b 1 := by
  rw [read_pop_ne _ _ _ _ _ _ _ (.inl (by decide))]; exact (H.oth 1).2

/-- The accumulators change roles. -/
theorem MS.swap (H : MS s r r' T A hA d B hB e) : MS s r r' T B hB e A hA d :=
  ⟨H.reg, H.emp, H.oth, H.cur, fun q R h1 h2 => H.out q R h2 h1⟩

theorem MS.init (hB : Fits B 192) (hA : Fits A 192) : MS (Mxu.init : Mxu F) r r' (fun _ => none) A hA none B hB none where
  reg q := by simp
  emp q := by simp
  cur q R _ _ := by simp
  oth q R _ _ := by simp
  out q R _ _ := by simp

/-- With nothing staged and nothing live, the unit is drained. -/
theorem MS.drained (H : MS s r r' (fun _ => none) A hA none B hB none) (hr : r' ≠ r) : s.Drained := by
  refine ⟨fun q r₀ => ?_, fun q R => ?_⟩
  · have h : r₀ = r ∨ r₀ = r' := by omega
    rcases h with rfl | rfl
    · rw [H.reg]; rfl
    · rw [H.emp]; rfl
  · by_cases h1 : R.val < 4 * A ∨ 4 * A + 192 ≤ R.val
    · by_cases h2 : R.val < 4 * B ∨ 4 * B + 192 ≤ R.val
      · exact H.out q R h1 h2
      · exact H.oth q R (by omega) (by omega)
    · exact H.cur q R (by omega) (by omega)

end Cert.Proof.Unit
-- ==== Proof.Spec.lean ====
/- What the kernel computes, block by block: the tiles of codes and of weights the units multiply, the accumulator of a
   block after a number of steps, the logits of a block, and what a trip's stores of logits leave. -/
module

public import proofs.«01_k».proof.Proof.Base
public import proofs.«01_k».proof.Proof.Unit
public import Idealize.ShloMosaic.Lib.Pointwise.Index
public import Idealize.ShloMosaic.Lib.ValueLayout
public import Idealize.ShloMosaic.Lib.ViewIndex

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-! ## The blocks' products -/

abbrev CodesB (F : FTy → Type) [FloatOps F] := S192x8192.Idx → Elt F .fp8e4m3
abbrev WB (F : FTy → Type) [FloatOps F] := S18944x8192.Idx → Elt F .fp8e4m3
abbrev RingB (F : FTy → Type) [FloatOps F] := S8x512x8192.Idx → Elt F .fp8e4m3
abbrev SB (F : FTy → Type) [FloatOps F] := S192x512.Idx → Elt F .f32

/-- Depth slice `n` of the codes. -/
def lhsC (C : CodesB F) (n : ℕ) : Lhs F :=
  k0_pay190 (F := F) fun x : S192x256.Idx => C (ix2 (x 0) ⟨256 * (n % 32) + (x 1).val, by have : (x 1).val < 256 := (x 1).isLt; omega⟩)
/-- Unit `q`'s tile of depth slice `n` of block `b` of the weights (slice 32 is slice 0 of the block after). -/
def tileW (XW : WB F) (b n : ℕ) (q : Fin 2) : Tile F :=
  k0_pay191 (F := F) fun x : S1x256x256.Idx => XW (ix2 ⟨512 * ((b + n / 32) % 37) + (256 * q.val + (x 1).val), by have : (x 1).val < 256 := (x 1).isLt; omega⟩
    ⟨256 * (n % 32) + (x 2).val, by have : (x 2).val < 256 := (x 2).isLt; omega⟩)
/-- The accumulators of block `b` after `n` steps. -/
def accN (XW : WB F) (C : CodesB F) (b : ℕ) : ℕ → Option (Fin 2 → Rows F)
  | 0 => none
  | n + 1 => some (dep (accN XW C b n) (lhsC C n) (tileW XW b n))

/-- The accumulators of block `b` at its end. -/
def accE (XW : WB F) (C : CodesB F) (b : ℕ) : Fin 2 → Rows F := dep (accN XW C b 31) (lhsC C 31) (tileW XW b 31)
theorem accN_32 (XW : WB F) (C : CodesB F) (b : ℕ) : accN XW C b 32 = some (accE XW C b) := rfl

/-- The ring as it holds block `b` in its slot. -/
def ringT (XW : WB F) (b : ℕ) : RingB F := fun y =>
  XW (ix2 ⟨512 * (b % 37) + (y 1).val, by have : (y 1).val < 512 := (y 1).isLt; omega⟩ (y 2))

/-- The block of products as popped. -/
def sT (XW : WB F) (C : CodesB F) (b : ℕ) : SB F := fun y =>
  accE XW C b ⟨(y 1).val / 256, by have : (y 1).val < 512 := (y 1).isLt; omega⟩ (ix2 (y 0) ⟨(y 1).val % 256, by omega⟩)

/-! ## The logits -/

/-- One logit from the products of its block, the rows' scales, the columns' scales and biases. -/
def lval (s : SB F) (sc : S192x128.Idx → Elt F .f32) (wv bv : S148x128.Idx → Elt F .f32) (y : S192x18944.Idx) : Elt F .f32 :=
  have h1 : (y 1).val < 18944 := (y 1).isLt
  FloatOps.addf (FloatOps.mulf (FloatOps.mulf (s (ix2 (y 0) ⟨(y 1).val % 512, by omega⟩)) (sc (ix2 (y 0) ⟨(y 1).val % 128, by omega⟩)))
    (wv (ix2 ⟨(y 1).val / 128, by omega⟩ ⟨(y 1).val % 128, by omega⟩))) (bv (ix2 ⟨(y 1).val / 128, by omega⟩ ⟨(y 1).val % 128, by omega⟩))

/-- The payload of one tile of logits. -/
abbrev selP (live : BitVec 1) (xs : Vec F S8x128 .f32) (ws bs : Vec F S1x128 .f32) (s : Vec F S8x128 .f32) : FVec F S8x128 .f32 :=
  k0_pay193 live xs ws bs s

/-- A payload at an element, the row live. -/
theorem selP_apply (xs : Vec F S8x128 .f32) (ws bs : Vec F S1x128 .f32) (s : Vec F S8x128 .f32) (x : S8x128.Idx) :
    selP 1#1 xs ws bs s x = FloatOps.addf (FloatOps.mulf (FloatOps.mulf (s x) (xs x)) (ws (ix2 0 (x 1)))) (bs (ix2 0 (x 1))) := by
  unfold selP k0_pay193
  show FloatOps.addf (FloatOps.mulf (FloatOps.mulf (s x) (xs x)) (ws _)) ((Scalar.select 1#1 bs _) _) = _
  have e1 : Scalar.select (1#1) bs (broadcast S1x128 (Scalar.ofBits (F := F) .f32 0xFF800000#32)) = bs := rfl
  rw [e1]
  congr 2
  · congr 1; congr 1; funext a; fin_cases a <;> rfl
  · congr 1; funext a; fin_cases a <;> rfl

/-- The 32 tiles of a trip, the last stored first: rows `8 r₁`, tile `r₂`. -/
def tileL {sp : Space} (off : ℕ → ℕ → Fin 2 → ℕ) (inb : ∀ (r₁ : Fin 8) (r₂ : Fin 4) a, off r₁ r₂ a + S8x128.size a ≤ S192x18944.size a)
    (pay : Fin 8 → Fin 4 → FVec F S8x128 .f32) : List (View.Piece (Elt F) S192x18944 .f32) :=
  List.ofFn fun n : Fin 32 => ⟨Rect.unit (s := S192x18944) (off (7 - n.val / 4) (3 - n.val % 4)) S8x128.size
    (inb ⟨7 - n.val / 4, by omega⟩ ⟨3 - n.val % 4, by omega⟩), pay ⟨7 - n.val / 4, by omega⟩ ⟨3 - n.val % 4, by omega⟩⟩

section Tiles
variable {κ : Kind} {sp : Space} (v : View sig κ sp S192x18944 .f32) (f : v.ty.Contents (Elt F))
  {off : ℕ → ℕ → Fin 2 → ℕ} {inb : ∀ (r₁ : Fin 8) (r₂ : Fin 4) a, off r₁ r₂ a + S8x128.size a ≤ S192x18944.size a}
  {pay : Fin 8 → Fin 4 → FVec F S8x128 .f32} {R C : ℕ} (ho : ∀ (r₁ : Fin 8) (r₂ : Fin 4), off r₁ r₂ = ![R + 8 * r₁.val, 128 * (C + r₂.val)])
include ho

/-- Outside the trip's 64 rows and 512 columns nothing changes. -/
theorem tileL_out (y : S192x18944.Idx) (hy : (y 0).val < R ∨ R + 64 ≤ (y 0).val ∨ (y 1).val < 128 * C ∨ 128 * C + 512 ≤ (y 1).val) :
    v.read (Elt F) (v.writes (Elt F) f (tileL (sp := sp) off inb pay)) y = v.read (Elt F) f y := by
  refine View.read_writes_apply_of_forall_not_mem _ _ _ _ fun p hp => ?_
  obtain ⟨n, rfl⟩ := List.mem_ofFn.mp hp
  have hn := n.isLt
  intro hm
  have h := (Rect.mem_set_unit (inb := inb ⟨7 - n.val / 4, by omega⟩ ⟨3 - n.val % 4, by omega⟩)).mp hm
  have h0 := h 0; have h1 := h 1
  have e := ho ⟨7 - n.val / 4, by omega⟩ ⟨3 - n.val % 4, by omega⟩
  simp only at e
  rw [e] at h0 h1
  have e0 : R + 8 * (7 - n.val / 4) ≤ (y 0).val ∧ (y 0).val < R + 8 * (7 - n.val / 4) + 8 := h0
  have e1 : 128 * (C + (3 - n.val % 4)) ≤ (y 1).val ∧ (y 1).val < 128 * (C + (3 - n.val % 4)) + 128 := h1
  omega

/-- Within them each element is its tile's. -/
theorem tileL_in (G : S192x18944.Idx → Elt F .f32)
    (hG : ∀ (r₁ : Fin 8) (r₂ : Fin 4) (x : S8x128.Idx), pay r₁ r₂ x = G ((Rect.unit (s := S192x18944) (off r₁ r₂) S8x128.size (inb r₁ r₂)).emb x))
    (y : S192x18944.Idx) (h0 : R ≤ (y 0).val) (h0' : (y 0).val < R + 64) (h1 : 128 * C ≤ (y 1).val) (h1' : (y 1).val < 128 * C + 512) :
    v.read (Elt F) (v.writes (Elt F) f (tileL (sp := sp) off inb pay)) y = G y := by
  refine View.read_writes_apply_of_pieces _ _ G _ (fun p hp x => ?_) y ?_
  · obtain ⟨n, rfl⟩ := List.mem_ofFn.mp hp
    exact hG ⟨7 - n.val / 4, by omega⟩ ⟨3 - n.val % 4, by omega⟩ x
  · refine ⟨_, List.mem_ofFn.mpr ⟨⟨4 * (7 - ((y 0).val - R) / 8) + (3 - ((y 1).val / 128 - C)), by omega⟩, rfl⟩, ?_⟩
    rw [Rect.mem_set_unit]
    intro a
    have ea : 7 - (4 * (7 - ((y 0).val - R) / 8) + (3 - ((y 1).val / 128 - C))) / 4 = ((y 0).val - R) / 8 := by omega
    have eb : 3 - (4 * (7 - ((y 0).val - R) / 8) + (3 - ((y 1).val / 128 - C))) % 4 = (y 1).val / 128 - C := by omega
    have e := ho ⟨((y 0).val - R) / 8, by omega⟩ ⟨(y 1).val / 128 - C, by omega⟩
    simp only at e
    simp only [ea, eb, e]
    fin_cases a
    · show R + 8 * (((y 0).val - R) / 8) ≤ (y 0).val ∧ (y 0).val < R + 8 * (((y 0).val - R) / 8) + 8; omega
    · show 128 * (C + ((y 1).val / 128 - C)) ≤ (y 1).val ∧ (y 1).val < 128 * (C + ((y 1).val / 128 - C)) + 128; omega
end Tiles

/-! ## Loads in terms of these -/

section Loads
variable (XW : WB F) (C : CodesB F)

theorem load_lhs {off : Fin 2 → ℕ} (inb : ∀ a, off a + S192x256.size a ≤ S192x8192.size a) (n : ℕ) (hn : n < 32) (ho : off = ![0, 256 * n]) :
    k0_pay190 (F := F) (cdM.view.readAt (Elt F) (Rect.unit (s := S192x8192) off S192x256.size inb).toLoadRect C) = lhsC C n := by
  subst ho
  unfold lhsC; congr 1; funext x
  rw [View.readAt_apply]
  show C _ = C _
  congr 1; funext a
  fin_cases a
  · apply Fin.ext; show 0 + 1 * (x 0).val = (x 0).val; omega
  · apply Fin.ext; show 256 * n + 1 * (x 1).val = 256 * (n % 32) + (x 1).val; omega

theorem load_tile_of {off : Fin 3 → ℕ} (inb : ∀ a, off a + S1x256x256.size a ≤ S8x512x8192.size a) (b n : ℕ) (q : Fin 2)
    (ho : off = ![(b + n / 32) % 8, 256 * q.val, 256 * (n % 32)]) (g : RingB F) (hg : ∀ y, (y 0).val = (b + n / 32) % 8 → g y = ringT XW (b + n / 32) y) :
    k0_pay191 (F := F) (rgM.view.readAt (Elt F) (Rect.unit (s := S8x512x8192) off S1x256x256.size inb).toLoadRect g) = tileW XW b n q := by
  subst ho
  unfold tileW; congr 1; funext x
  rw [View.readAt_apply]
  have hx : (x 0).val < 1 := (x 0).isLt
  refine (hg _ (by show (b + n / 32) % 8 + 1 * (x 0).val = _; omega)).trans ?_
  unfold ringT
  congr 1; funext a
  fin_cases a
  · apply Fin.ext; show 512 * ((b + n / 32) % 37) + (256 * q.val + 1 * (x 1).val) = 512 * ((b + n / 32) % 37) + (256 * q.val + (x 1).val); omega
  · apply Fin.ext; show 256 * (n % 32) + 1 * (x 2).val = 256 * (n % 32) + (x 2).val; omega

theorem load_tile {off : Fin 3 → ℕ} (inb : ∀ a, off a + S1x256x256.size a ≤ S8x512x8192.size a) (b n : ℕ) (q : Fin 2)
    (ho : off = ![(b + n / 32) % 8, 256 * q.val, 256 * (n % 32)]) :
    k0_pay191 (F := F) (rgM.view.readAt (Elt F) (Rect.unit (s := S8x512x8192) off S1x256x256.size inb).toLoadRect (ringT XW (b + n / 32))) = tileW XW b n q :=
  load_tile_of XW inb b n q ho _ fun _ _ => rfl
end Loads

/-- Element `x` of a block's slot, in the ring. -/
theorem rslot_emb (b : ℕ) (x : S512x8192.Idx) : (rslot b).view.emb x = ix3 (⟨b % 8, by omega⟩ : Fin 8) (x 0) (x 1) := by
  refine (congrArg (fun z => (rslot b).view.emb z) (eq_ix2 x)).trans ?_
  refine (congrArg (rgM.view.slice (Rect.unit (s := S8x512x8192) (slotOff b) S1x512x8192.size (slotOff_inb b))).emb
      (ValueIdx.reshapeEquiv_ix2_1ab _ (x 0) (x 1))).trans ?_
  funext k
  fin_cases k
  · apply Fin.ext; show b % 8 + 1 * 0 = b % 8; omega
  · apply Fin.ext; show 0 + 1 * (x 0).val = (x 0).val; omega
  · apply Fin.ext; show 0 + 1 * (x 1).val = (x 1).val; omega

theorem wblk_emb (b : ℕ) (x : S512x8192.Idx) :
    (wblk b).view.emb x = ix2 (⟨512 * (b % 37) + (x 0).val, by have : (x 0).val < 512 := (x 0).isLt; omega⟩ : Fin 18944) (x 1) := by
  funext k
  fin_cases k
  · apply Fin.ext; show 512 * (b % 37) + 1 * (x 0).val = 512 * (b % 37) + (x 0).val; omega
  · apply Fin.ext; show 0 + 1 * (x 1).val = (x 1).val; omega

/-- What a transfer of block `b` leaves in its slot is `ringT`. -/
theorem landed_eq (c : Dev nD) (XW : Buf (Elt F) (wM.view.loc (c : Thread nD τ))) (b : ℕ) (f : Buf (Elt F) (rgM.view.loc (c : Thread nD τ))) :
    ∀ y ∈ (rslot b).view.set, landed c XW b f y = ringT (F := F) XW b y := by
  intro y hy
  obtain ⟨x, -, rfl⟩ := Finset.mem_map.mp hy
  have h : (rslot b).view.read (Elt F) (landed c XW b f) = (wblk b).view.read (Elt F) XW := View.read_writes_whole _ _ _
  refine View.eq_of_read_eq (v := (rslot b).view) ((congrFun h x).trans ?_)
  have e1 : (wblk b).view.read (Elt F) XW x = XW ((wblk b).view.emb x) := rfl
  have e2 : (rslot b).view.read (Elt F) (ringT (F := F) XW b) x = ringT (F := F) XW b ((rslot b).view.emb x) := rfl
  rw [e1, e2, rslot_emb, wblk_emb]
  rfl

theorem landed_at (c : Dev nD) (XW : Buf (Elt F) (wM.view.loc (c : Thread nD τ))) (b : ℕ) (f : Buf (Elt F) (rgM.view.loc (c : Thread nD τ)))
    (y : S8x512x8192.Idx) (hy : (y 0).val = b % 8) : landed c XW b f y = ringT (F := F) XW b y := by
  refine landed_eq c XW b f y (Finset.mem_map.mpr ⟨ix2 (y 1) (y 2), Finset.mem_univ _, ?_⟩)
  rw [rslot_emb]
  funext k
  fin_cases k
  · exact Fin.ext hy.symm
  · rfl
  · rfl

theorem slot_ring (c : Dev nD) (XW : Buf (Elt F) (wM.view.loc (c : Thread nD τ))) (b : ℕ) (f : Buf (Elt F) (rgM.view.loc (c : Thread nD τ))) :
    slotP c b (landed c XW b f) ⊢ slotP c b (ringT (F := F) XW b) := entails_of_eq (pointsTo_congr (landed_eq c XW b f))

/-! ## A trip's select -/

/-- What 32 tiles leave: rows `R … R + 63` of the columns of tiles `T … T + 3` hold their logits, if the block is a live one,
    and nothing else changes. -/
def SelPost (arg5 : Memref sig .tc .vmem S192x18944 .f32) (f f' : arg5.view.ty.Contents (Elt F)) (live : Prop)
    (s : SB F) (sc : S192x128.Idx → Elt F .f32) (wv bv : S148x128.Idx → Elt F .f32) (R T : ℕ) : Prop :=
  (live → ∀ y : S192x18944.Idx, R ≤ (y 0).val → (y 0).val < R + 64 → 128 * T ≤ (y 1).val → (y 1).val < 128 * T + 512 →
    arg5.view.read (Elt F) f' y = lval s sc wv bv y)
  ∧ ∀ y : S192x18944.Idx, ((y 0).val < R ∨ R + 64 ≤ (y 0).val ∨ (y 1).val < 128 * T ∨ 128 * T + 512 ≤ (y 1).val) →
    arg5.view.read (Elt F) f' y = arg5.view.read (Elt F) f y

section Select
variable {sp : Space} (arg5 : Memref sig .tc .vmem S192x18944 .f32) (fO : arg5.view.ty.Contents (Elt F)) (lv : BitVec 1)
  (vs : View sig .tc .vmem S192x512 .f32) (fs : vs.ty.Contents (Elt F))
  (fsc : scM.view.ty.Contents (Elt F)) (fwv : wvM.view.ty.Contents (Elt F)) (fbv : bvM.view.ty.Contents (Elt F))
  (R T : ℕ) (offo : ℕ → ℕ → Fin 2 → ℕ) (offx offw : ℕ → Fin 2 → ℕ) (offs : ℕ → ℕ → Fin 2 → ℕ)
  (io : ∀ (r₁ : Fin 8) (r₂ : Fin 4) a, offo r₁ r₂ a + S8x128.size a ≤ S192x18944.size a)
  (ix : ∀ (r₁ : Fin 8) a, offx r₁ a + S8x128.size a ≤ S192x128.size a)
  (iw : ∀ (r₂ : Fin 4) a, offw r₂ a + S1x128.size a ≤ S148x128.size a)
  (is : ∀ (r₁ : Fin 8) (r₂ : Fin 4) a, offs r₁ r₂ a + S8x128.size a ≤ S192x512.size a)

/-- The 32 tiles a trip stores. -/
def selL : List (View.Piece (Elt F) S192x18944 .f32) :=
  tileL (sp := .vmem) offo io fun r₁ r₂ => selP lv
    (scM.view.readAt (Elt F) (Rect.unit (s := S192x128) (offx r₁) S8x128.size (ix r₁)).toLoadRect fsc)
    (wvM.view.readAt (Elt F) (Rect.unit (s := S148x128) (offw r₂) S1x128.size (iw r₂)).toLoadRect fwv)
    (bvM.view.readAt (Elt F) (Rect.unit (s := S148x128) (offw r₂) S1x128.size (iw r₂)).toLoadRect fbv)
    (vs.readAt (Elt F) (Rect.unit (s := S192x512) (offs r₁ r₂) S8x128.size (is r₁ r₂)).toLoadRect fs)

theorem selL_post (live : Prop) (hl : live → lv = 1#1) (hT : T % 4 = 0)
    (ho : ∀ (r₁ : Fin 8) (r₂ : Fin 4), offo r₁ r₂ = ![R + 8 * r₁.val, 128 * (T + r₂.val)])
    (hx : ∀ r₁ : Fin 8, offx r₁ = ![R + 8 * r₁.val, 0]) (hw : ∀ r₂ : Fin 4, offw r₂ = ![T + r₂.val, 0])
    (hs : ∀ (r₁ : Fin 8) (r₂ : Fin 4), offs r₁ r₂ = ![R + 8 * r₁.val, 128 * r₂.val]) :
    SelPost arg5 fO (arg5.view.writes (Elt F) fO (selL lv vs fs fsc fwv fbv offo offx offw offs io ix iw is)) live
      (vs.read (Elt F) fs) fsc fwv fbv R T := by
  constructor
  · intro h y h0 h0' h1 h1'
    obtain rfl := hl h
    refine tileL_in (sp := .vmem) arg5.view fO ho _ (fun r₁ r₂ x => ?_) y h0 h0' h1 h1'
    have hx0 : (x 0).val < 8 := (x 0).isLt
    have hx1 : (x 1).val < 128 := (x 1).isLt
    have e0 : ((Rect.unit (s := S192x18944) (offo r₁ r₂) S8x128.size (io r₁ r₂)).emb x 0).val = R + 8 * r₁.val + (x 0).val := by
      show offo r₁ r₂ 0 + 1 * (x 0).val = _
      rw [ho]; show R + 8 * r₁.val + 1 * (x 0).val = _; omega
    have e1 : ((Rect.unit (s := S192x18944) (offo r₁ r₂) S8x128.size (io r₁ r₂)).emb x 1).val = 128 * (T + r₂.val) + (x 1).val := by
      show offo r₁ r₂ 1 + 1 * (x 1).val = _
      rw [ho]; show 128 * (T + r₂.val) + 1 * (x 1).val = _; omega
    rw [selP_apply]
    unfold lval
    congr 1
    · congr 1
      · congr 1
        · rw [View.readAt_apply]
          congr 1; funext a
          fin_cases a
          · apply Fin.ext; show offs r₁ r₂ 0 + 1 * (x 0).val = _
            rw [hs]; show R + 8 * r₁.val + 1 * (x 0).val = ((Rect.unit (s := S192x18944) (offo r₁ r₂) S8x128.size (io r₁ r₂)).emb x 0).val; omega
          · apply Fin.ext; show offs r₁ r₂ 1 + 1 * (x 1).val = _
            rw [hs]; show 128 * r₂.val + 1 * (x 1).val = ((Rect.unit (s := S192x18944) (offo r₁ r₂) S8x128.size (io r₁ r₂)).emb x 1).val % 512
            have := r₂.isLt; omega
        · rw [View.readAt_apply]
          show fsc _ = fsc _
          congr 1; funext a
          fin_cases a
          · apply Fin.ext; show offx r₁ 0 + 1 * (x 0).val = _
            rw [hx]; show R + 8 * r₁.val + 1 * (x 0).val = ((Rect.unit (s := S192x18944) (offo r₁ r₂) S8x128.size (io r₁ r₂)).emb x 0).val; omega
          · apply Fin.ext; show offx r₁ 1 + 1 * (x 1).val = _
            rw [hx]; show 0 + 1 * (x 1).val = ((Rect.unit (s := S192x18944) (offo r₁ r₂) S8x128.size (io r₁ r₂)).emb x 1).val % 128; omega
      · rw [View.readAt_apply]
        show fwv _ = fwv _
        congr 1; funext a
        fin_cases a
        · apply Fin.ext; show offw r₂ 0 + 1 * 0 = _
          rw [hw]; show T + r₂.val + 1 * 0 = ((Rect.unit (s := S192x18944) (offo r₁ r₂) S8x128.size (io r₁ r₂)).emb x 1).val / 128; omega
        · apply Fin.ext; show offw r₂ 1 + 1 * (x 1).val = _
          rw [hw]; show 0 + 1 * (x 1).val = ((Rect.unit (s := S192x18944) (offo r₁ r₂) S8x128.size (io r₁ r₂)).emb x 1).val % 128; omega
    · rw [View.readAt_apply]
      show fbv _ = fbv _
      congr 1; funext a
      fin_cases a
      · apply Fin.ext; show offw r₂ 0 + 1 * 0 = _
        rw [hw]; show T + r₂.val + 1 * 0 = ((Rect.unit (s := S192x18944) (offo r₁ r₂) S8x128.size (io r₁ r₂)).emb x 1).val / 128; omega
      · apply Fin.ext; show offw r₂ 1 + 1 * (x 1).val = _
        rw [hw]; show 0 + 1 * (x 1).val = ((Rect.unit (s := S192x18944) (offo r₁ r₂) S8x128.size (io r₁ r₂)).emb x 1).val % 128; omega
  · intro y hy
    exact tileL_out (sp := .vmem) arg5.view fO ho y hy
end Select

section InBounds
variable {R T : ℕ} (hR : R + 64 ≤ 192) (hT : T + 4 ≤ 148)
include hR hT
theorem inb_o {off : ℕ → ℕ → Fin 2 → ℕ} (ho : ∀ (r₁ : Fin 8) (r₂ : Fin 4), off r₁ r₂ = ![R + 8 * r₁.val, 128 * (T + r₂.val)]) :
    ∀ (r₁ : Fin 8) (r₂ : Fin 4) a, off r₁ r₂ a + S8x128.size a ≤ S192x18944.size a := by
  intro r₁ r₂ a; rw [ho]; fin_cases a
  · show R + 8 * r₁.val + 8 ≤ 192; omega
  · show 128 * (T + r₂.val) + 128 ≤ 18944; omega
omit hT in
theorem inb_x {off : ℕ → Fin 2 → ℕ} (ho : ∀ (r₁ : Fin 8), off r₁ = ![R + 8 * r₁.val, 0]) :
    ∀ (r₁ : Fin 8) a, off r₁ a + S8x128.size a ≤ S192x128.size a := by
  intro r₁ a; rw [ho]; fin_cases a
  · show R + 8 * r₁.val + 8 ≤ 192; omega
  · show 0 + 128 ≤ 128; omega
omit hR in
theorem inb_w {off : ℕ → Fin 2 → ℕ} (ho : ∀ (r₂ : Fin 4), off r₂ = ![T + r₂.val, 0]) :
    ∀ (r₂ : Fin 4) a, off r₂ a + S1x128.size a ≤ S148x128.size a := by
  intro r₂ a; rw [ho]; fin_cases a
  · show T + r₂.val + 1 ≤ 148; omega
  · show 0 + 128 ≤ 128; omega
omit hT in
theorem inb_s {off : ℕ → ℕ → Fin 2 → ℕ} (ho : ∀ (r₁ : Fin 8) (r₂ : Fin 4), off r₁ r₂ = ![R + 8 * r₁.val, 128 * r₂.val]) :
    ∀ (r₁ : Fin 8) (r₂ : Fin 4) a, off r₁ r₂ a + S8x128.size a ≤ S192x512.size a := by
  intro r₁ r₂ a; rw [ho]; fin_cases a
  · show R + 8 * r₁.val + 8 ≤ 192; omega
  · show 128 * r₂.val + 128 ≤ 512; omega
end InBounds

/-! ## Eight steps of a block -/

section Eight
variable {s : Mxu F} {A B : ℕ} {hA : Mxu.Fits A 192} {hB : Mxu.Fits B 192} {e : Option (Fin 2 → Rows F)}

theorem step_MS (XW : WB F) (C : CodesB F) (b : ℕ) (hAB : 4 * A + 192 ≤ 4 * B ∨ 4 * B + 192 ≤ 4 * A) {r r' : Fin 2} (m : ℕ) (hr : r' ≠ r)
    (H : MS s r r' (fun q => some (tileW XW b m q)) A hA (accN XW C b m) B hB e) {x : Lhs F} {t0 t1 : Tile F}
    (hx : x = lhsC C m) (h0 : t0 = tileW XW b (m + 1) 0) (h1 : t1 = tileW XW b (m + 1) 1) :
    MS (step s r r' A hA x t0 t1) r' r (fun q => some (tileW XW b (m + 1) q)) A hA (accN XW C b (m + 1)) B hB e := by
  subst hx h0 h1
  exact H.step hr hAB (lhsC C m) (tileW XW b (m + 1))

/-- Eight steps from register 0, from step `n` of block `b`. -/
theorem st8_MS (XW : WB F) (C : CodesB F) (b n : ℕ) (hAB : 4 * A + 192 ≤ 4 * B ∨ 4 * B + 192 ≤ 4 * A)
    (H : MS s 0 1 (fun q => some (tileW XW b n q)) A hA (accN XW C b n) B hB e)
    {x0 x1 x2 x3 x4 x5 x6 x7 : Lhs F} {a0 a1 a2 a3 a4 a5 a6 a7 b0 b1 b2 b3 b4 b5 b6 b7 : Tile F}
    (hx0 : x0 = lhsC C n) (hx1 : x1 = lhsC C (n + 1)) (hx2 : x2 = lhsC C (n + 2)) (hx3 : x3 = lhsC C (n + 3))
    (hx4 : x4 = lhsC C (n + 4)) (hx5 : x5 = lhsC C (n + 5)) (hx6 : x6 = lhsC C (n + 6)) (hx7 : x7 = lhsC C (n + 7))
    (ha0 : a0 = tileW XW b (n + 1) 0) (hb0 : b0 = tileW XW b (n + 1) 1) (ha1 : a1 = tileW XW b (n + 2) 0) (hb1 : b1 = tileW XW b (n + 2) 1)
    (ha2 : a2 = tileW XW b (n + 3) 0) (hb2 : b2 = tileW XW b (n + 3) 1) (ha3 : a3 = tileW XW b (n + 4) 0) (hb3 : b3 = tileW XW b (n + 4) 1)
    (ha4 : a4 = tileW XW b (n + 5) 0) (hb4 : b4 = tileW XW b (n + 5) 1) (ha5 : a5 = tileW XW b (n + 6) 0) (hb5 : b5 = tileW XW b (n + 6) 1)
    (ha6 : a6 = tileW XW b (n + 7) 0) (hb6 : b6 = tileW XW b (n + 7) 1) (ha7 : a7 = tileW XW b (n + 8) 0) (hb7 : b7 = tileW XW b (n + 8) 1) :
    MS (step (step (step (step (step (step (step (step s 0 1 A hA x0 a0 b0) 1 0 A hA x1 a1 b1) 0 1 A hA x2 a2 b2) 1 0 A hA x3 a3 b3)
      0 1 A hA x4 a4 b4) 1 0 A hA x5 a5 b5) 0 1 A hA x6 a6 b6) 1 0 A hA x7 a7 b7)
      0 1 (fun q => some (tileW XW b (n + 8) q)) A hA (accN XW C b (n + 8)) B hB e :=
  step_MS XW C b hAB (n + 7) (by decide) (step_MS XW C b hAB (n + 6) (by decide) (step_MS XW C b hAB (n + 5) (by decide)
    (step_MS XW C b hAB (n + 4) (by decide) (step_MS XW C b hAB (n + 3) (by decide) (step_MS XW C b hAB (n + 2) (by decide)
    (step_MS XW C b hAB (n + 1) (by decide) (step_MS XW C b hAB n (by decide) H hx0 ha0 hb0) hx1 ha1 hb1) hx2 ha2 hb2) hx3 ha3 hb3)
    hx4 ha4 hb4) hx5 ha5 hb5) hx6 ha6 hb6) hx7 ha7 hb7
end Eight

end Cert.Proof.Kernel
-- ==== Proof.T4.lean ====
/- One trip of the loop over a block's chunks. -/
module

public import proofs.«01_k».proof.Proof.Spec

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-- Block `2 k - 1` is a live one. -/
theorem live4 (k : ℕ) (hk : k < 18) (h1 : 1 ≤ k) : Scalar.cmpi .sge (Scalar.subi (BitVec.ofNat 32 (2 * k)) 1#32) 0#32 = 1#1 := by
  have h : ∀ k < 18, 1 ≤ k → Scalar.cmpi .sge (Scalar.subi (BitVec.ofNat 32 (2 * k)) 1#32) 0#32 = 1#1 := by decide
  exact h k hk h1

section Loads
variable (XW : WB F) (C : CodesB F) (i : grid0.Coords) (k : Fin (k0_t3_loop i).trips) (t : Fin (k0_t4_loop i).trips)

theorem lhs4 (r : Fin 8) (inb) :
    k0_pay190 (F := F) (cdM.view.readAt (Elt F) (Rect.unit (s := S192x8192) (k0_off150 i t (BitVec.ofNat 32 r.val)) S192x256.size inb).toLoadRect C)
      = lhsC C (8 * (t.val + 1) + r.val) := by
  have hi := i0 i; have ht := lt_of_lt_of_eq t.isLt (trips4 i)
  exact load_lhs C inb _ (by omega) ((k0_off150_eq i t r).trans (congrArg (fun z => ![0, z]) (by omega)))

theorem tile40 (r : Fin 7) (inb) :
    k0_pay191 (F := F) (rgM.view.readAt (Elt F) (Rect.unit (s := S8x512x8192) (k0_off151 i k t (BitVec.ofNat 32 r.val)) S1x256x256.size inb).toLoadRect (ringT (F := F) XW (2 * k.val)))
      = tileW XW (2 * k.val) (8 * (t.val + 1) + r.val + 1) 0 := by
  have hi := i0 i; have ht := lt_of_lt_of_eq t.isLt (trips4 i)
  have hz : (8 * (t.val + 1) + r.val + 1) / 32 = 0 := by omega
  have h := load_tile XW inb (2 * k.val) (8 * (t.val + 1) + r.val + 1) 0 ((k0_off151_eq i k t r).trans (by
    rw [hz]; exact congrArg₂ (fun y z => ![y, 0, z]) (by omega) (by omega)))
  rw [hz] at h; exact h

theorem tile41 (r : Fin 7) (inb) :
    k0_pay191 (F := F) (rgM.view.readAt (Elt F) (Rect.unit (s := S8x512x8192) (k0_off152 i k t (BitVec.ofNat 32 r.val)) S1x256x256.size inb).toLoadRect (ringT (F := F) XW (2 * k.val)))
      = tileW XW (2 * k.val) (8 * (t.val + 1) + r.val + 1) 1 := by
  have hi := i0 i; have ht := lt_of_lt_of_eq t.isLt (trips4 i)
  have hz : (8 * (t.val + 1) + r.val + 1) / 32 = 0 := by omega
  have h := load_tile XW inb (2 * k.val) (8 * (t.val + 1) + r.val + 1) 1 ((k0_off152_eq i k t r).trans (by
    rw [hz]; exact congrArg₂ (fun y z => ![y, 256, z]) (by omega) (by omega)))
  rw [hz] at h; exact h

theorem tile4x0 (g : RingB F) (hg : ∀ y, (y 0).val = (2 * k.val + (8 * (t.val + 1) + 8) / 32) % 8 → g y = ringT XW (2 * k.val + (8 * (t.val + 1) + 8) / 32) y) (inb) :
    k0_pay191 (F := F) (rgM.view.readAt (Elt F) (Rect.unit (s := S8x512x8192) (k0_off160 i k t) S1x256x256.size inb).toLoadRect g)
      = tileW XW (2 * k.val) (8 * (t.val + 1) + 8) 0 := by
  have hi := i0 i; have ht := lt_of_lt_of_eq t.isLt (trips4 i)
  exact load_tile_of XW inb (2 * k.val) (8 * (t.val + 1) + 8) 0 ((k0_off160_eq i k t).trans
    (congrArg₂ (fun y z => ![y, 0, z]) (by omega) (by omega))) g hg

theorem tile4x1 (g : RingB F) (hg : ∀ y, (y 0).val = (2 * k.val + (8 * (t.val + 1) + 8) / 32) % 8 → g y = ringT XW (2 * k.val + (8 * (t.val + 1) + 8) / 32) y) (inb) :
    k0_pay191 (F := F) (rgM.view.readAt (Elt F) (Rect.unit (s := S8x512x8192) (k0_off161 i k t) S1x256x256.size inb).toLoadRect g)
      = tileW XW (2 * k.val) (8 * (t.val + 1) + 8) 1 := by
  have hi := i0 i; have ht := lt_of_lt_of_eq t.isLt (trips4 i)
  exact load_tile_of XW inb (2 * k.val) (8 * (t.val + 1) + 8) 1 ((k0_off161_eq i k t).trans
    (congrArg₂ (fun y z => ![y, 256, z]) (by omega) (by omega))) g hg

/-- The rows of products a tile of the select reads. -/
def offs4 (r₁ r₂ : ℕ) : Fin 2 → ℕ := match r₂ with
  | 0 => k0_off155 i t (BitVec.ofNat 32 r₁)
  | 1 => k0_off157 i t (BitVec.ofNat 32 r₁)
  | 2 => k0_off158 i t (BitVec.ofNat 32 r₁)
  | _ => k0_off159 i t (BitVec.ofNat 32 r₁)
theorem offs4_eq (r₁ : Fin 8) (r₂ : Fin 4) : offs4 i t r₁ r₂ = ![64 * t.val + 8 * r₁.val, 128 * r₂.val] := by
  have hi := i0 i
  fin_cases r₂
  · exact (k0_off155_eq i t r₁).trans (vec2 (by omega))
  · exact (k0_off157_eq i t r₁).trans (vec2 (by omega))
  · exact (k0_off158_eq i t r₁).trans (vec2 (by omega))
  · exact (k0_off159_eq i t r₁).trans (vec2 (by omega))
theorem off153_eq (r₁ : Fin 8) : k0_off153 i t (BitVec.ofNat 32 r₁) = ![64 * t.val + 8 * r₁.val, 0] :=
  (k0_off153_eq i t r₁).trans (vec2 (by have := i0 i; omega))
end Loads

section T4
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

theorem sel4 (k : Fin (k0_t3_loop i).trips) (t : Fin (k0_t4_loop i).trips) (lv : BitVec 1) (fO fs fsc fwv fbv) :
    ∃ (io : _) (ix : _) (iw : _) (is : _), ((1 ≤ k.val → lv = 1#1) →
    SelPost (F := F) arg5 fO (arg5.view.writes (Elt F) fO (selL lv s1M.view fs fsc fwv fbv
        (fun r₁ r₂ => k0_off156 i k t (BitVec.ofNat 32 r₁) (BitVec.ofNat 32 r₂)) (fun r => k0_off153 i t (BitVec.ofNat 32 r))
        (fun r => k0_off154 i k (BitVec.ofNat 32 r)) (offs4 i t) io ix iw is)) (1 ≤ k.val) fs fsc fwv fbv (64 * t.val) (4 * (2 * k.val - 1))) := by
  have hk := lt_of_lt_of_eq k.isLt (trips3 i); have ht := lt_of_lt_of_eq t.isLt (trips4 i)
  exact ⟨inb_o (off := fun r₁ r₂ => k0_off156 i k t (BitVec.ofNat 32 r₁) (BitVec.ofNat 32 r₂)) (R := 64 * t.val) (T := 4 * (2 * k.val - 1)) (by omega) (by omega) (off156_eq i k t), inb_x (off := fun r => k0_off153 i t (BitVec.ofNat 32 r)) (R := 64 * t.val) (by omega) (off153_eq i t), inb_w (off := fun r => k0_off154 i k (BitVec.ofNat 32 r)) (T := 4 * (2 * k.val - 1)) (by omega) (off154_eq i k), inb_s (off := offs4 i t) (R := 64 * t.val) (by omega) (offs4_eq i t),
    fun hl => selL_post arg5 fO lv s1M.view fs fsc fwv fbv _ _ _ _ _ _ _ _ _ _ (1 ≤ k.val) hl (by omega) (off156_eq i k t) (off153_eq i t) (off154_eq i k) (offs4_eq i t)⟩

/-- What a trip leaves. -/
def post4 (k : Fin (k0_t3_loop i).trips) (t : Fin (k0_t4_loop i).trips) (q : PosShare TreeShare)
    (fO : Buf (Elt F) (arg5.view.loc (c : Thread nD τ))) (fwv : Buf (Elt F) (wvM.view.loc (c : Thread nD τ))) (fbv : Buf (Elt F) (bvM.view.loc (c : Thread nD τ)))
    (fsc : Buf (Elt F) (scM.view.loc (c : Thread nD τ))) (fs : Buf (Elt F) (s1M.view.loc (c : Thread nD τ))) (s' : Mxu F) : sProp 𝕄 :=
  iprop(∃ fO', ⌜MS s' 0 1 (fun q => some (tileW XW (2 * k.val) (8 * (t.val + 1) + 8) q)) 0 fits_0_192 (accN XW C (2 * k.val) (8 * (t.val + 1) + 8)) 48 fits_48_192 none
      ∧ SelPost arg5 fO fO' (1 ≤ k.val) fs fsc fwv fbv (64 * t.val) (4 * (2 * k.val - 1))⌝
    ∗ tripRes c arg5 s1M q fO' C fwv fbv fsc fs ∗ slotP c (2 * k.val) (ringT (F := F) XW (2 * k.val)))

set_option maxHeartbeats 1000000 in
theorem t4trip (k : Fin (k0_t3_loop i).trips) (v1202 : BitVec 32) (s0 : Mxu F) (v1408 c1 c0 v1413 : BitVec 32)
    (t : Fin (k0_t4_loop i).trips) (ht : t.val < 2) (h2 : ¬ (k0_cond2 i t = 1#1)) (s : Mxu F) (q : PosShare TreeShare) (fO fwv fbv fsc fs)
    (H : MS s 0 1 (fun q => some (tileW XW (2 * k.val) (8 * (t.val + 1)) q)) 0 fits_0_192 (accN XW C (2 * k.val) (8 * (t.val + 1))) 48 fits_48_192 none) :
    iprop(tripRes c arg5 s1M q fO C fwv fbv fsc fs ∗ slotP c (2 * k.val) (ringT (F := F) XW (2 * k.val)))
      ⊢ wp frame (wpE (defs₀ (F := F)) 𝒱₀ (c : Thread nD τ) none) Set.univ
        (k0_t4_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 k v1202 (BitVec.ofNat 32 (2 * k.val)) s0 v1408 c1 c0 v1413 t s)
        (post4 c XW C i arg5 k t q fO fwv fbv fsc fs) := by
  have hi := i0 i
  have hk := lt_of_lt_of_eq k.isLt (trips3 i)
  have hs := H.emp
  unfold post4 tripRes
  iintro ⟨⟨HO, Hcd, Hwv, Hbv, Hsc, Hs1, ⟨%W, HW⟩⟩, HR⟩
  sl_unfold [k0_t4_body]
  sl_exec_parts (disch := first | assumption | (mxu_pushok_peel; done) | (mxu_pushok_peel; exact Mxu.pushOk_of_none _ _ _ _ (hs _)))
  sl_step
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs1]; · iexact Hs1
      iexists W; iexact HW
    · iexact HR
  · ipureintro
    refine ⟨?_, ?_⟩
    · have e7 : tileW XW (2 * k.val) (8 * (t.val + 1) + 8) = tileW XW (2 * k.val) (8 * (t.val + 1) + 8) := rfl
      have hz : 2 * k.val + (8 * (t.val + 1) + 8) / 32 = 2 * k.val := by omega
      refine st8_MS XW C (2 * k.val) (8 * (t.val + 1)) (by decide) H
        (lhs4 C i t 0 _) (lhs4 C i t 1 _) (lhs4 C i t 2 _) (lhs4 C i t 3 _) (lhs4 C i t 4 _) (lhs4 C i t 5 _) (lhs4 C i t 6 _) (lhs4 C i t 7 _)
        (tile40 XW i k t 0 _) (tile41 XW i k t 0 _) (tile40 XW i k t 1 _) (tile41 XW i k t 1 _) (tile40 XW i k t 2 _) (tile41 XW i k t 2 _)
        (tile40 XW i k t 3 _) (tile41 XW i k t 3 _) (tile40 XW i k t 4 _) (tile41 XW i k t 4 _) (tile40 XW i k t 5 _) (tile41 XW i k t 5 _)
        (tile40 XW i k t 6 _) (tile41 XW i k t 6 _) ?_ ?_
      · exact tile4x0 XW i k t _ (fun _ _ => by rw [hz]) _
      · exact tile4x1 XW i k t _ (fun _ _ => by rw [hz]) _
    · obtain ⟨io, ix, iw, is, h⟩ := sel4 (F := F) i arg5 k t (Scalar.cmpi .sge (Scalar.subi (BitVec.ofNat 32 (2 * k.val)) 1#32) 0#32) fO fs fsc fwv fbv
      exact h (live4 k.val hk)
end T4

end Cert.Proof.Kernel
-- ==== Proof.T4Last.lean ====
/- One trip of the loop over a block's chunks. -/
module

public import proofs.«01_k».proof.Proof.T4

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section T4
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

set_option maxHeartbeats 1000000 in
/-- The last trip waits for the block after. -/
theorem t4last (k : Fin (k0_t3_loop i).trips) (v1202 : BitVec 32) (s0 : Mxu F) (v1408 c1 c0 v1413 : BitVec 32)
    (t : Fin (k0_t4_loop i).trips) (ht : t.val = 2) (h2 : k0_cond2 i t = 1#1) (s : Mxu F) (q : PosShare TreeShare) (fR fO fwv fbv fsc fs)
    (H : MS s 0 1 (fun q => some (tileW XW (2 * k.val) (8 * (t.val + 1)) q)) 0 fits_0_192 (accN XW C (2 * k.val) (8 * (t.val + 1))) 48 fits_48_192 none) :
    iprop(tripRes c arg5 s1M q fO C fwv fbv fsc fs ∗ slotP c (2 * k.val) (ringT (F := F) XW (2 * k.val)) ∗ flightP c XW (2 * k.val + 1) fR)
      ⊢ wp frame (wpE (defs₀ (F := F)) 𝒱₀ (c : Thread nD τ) none) Set.univ
        (k0_t4_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 k v1202 (BitVec.ofNat 32 (2 * k.val)) s0 v1408 c1 c0 v1413 t s)
        fun s' => iprop(post4 c XW C i arg5 k t q fO fwv fbv fsc fs s' ∗ slotP c (2 * k.val + 1) (ringT (F := F) XW (2 * k.val + 1)) ∗ homeP c XW (2 * k.val + 1) ∗ cellP c (2 * k.val + 1)) := by
  have hi := i0 i
  have hk := lt_of_lt_of_eq k.isLt (trips3 i)
  have hs := H.emp
  unfold post4 tripRes
  iintro ⟨⟨HO, Hcd, Hwv, Hbv, Hsc, Hs1, ⟨%W, HW⟩⟩, HR, HF⟩
  sl_unfold [k0_t4_body]
  sl_exec_parts (disch := first | assumption | (mxu_pushok_peel; done) | (mxu_pushok_peel; exact Mxu.pushOk_of_none _ _ _ _ (hs _)))
  sl_step
  isplitr [HF HF_src HF_dst]
  rotate_left
  · isplitl [HF_dst]; · iapply (slot_ring c XW (2 * k.val + 1) _); iexact HF_dst
    isplitl [HF_src]; · iexact HF_src
    iexact HF
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs1]; · iexact Hs1
      iexists _; iexact HW
    · iexact HR
  · ipureintro
    refine ⟨?_, ?_⟩
    · have e7 : tileW XW (2 * k.val) (8 * (t.val + 1) + 8) = tileW XW (2 * k.val) (8 * (t.val + 1) + 8) := rfl
      have hz : 2 * k.val + (8 * (t.val + 1) + 8) / 32 = 2 * k.val + 1 := by omega
      refine st8_MS XW C (2 * k.val) (8 * (t.val + 1)) (by decide) H
        (lhs4 C i t 0 _) (lhs4 C i t 1 _) (lhs4 C i t 2 _) (lhs4 C i t 3 _) (lhs4 C i t 4 _) (lhs4 C i t 5 _) (lhs4 C i t 6 _) (lhs4 C i t 7 _)
        (tile40 XW i k t 0 _) (tile41 XW i k t 0 _) (tile40 XW i k t 1 _) (tile41 XW i k t 1 _) (tile40 XW i k t 2 _) (tile41 XW i k t 2 _)
        (tile40 XW i k t 3 _) (tile41 XW i k t 3 _) (tile40 XW i k t 4 _) (tile41 XW i k t 4 _) (tile40 XW i k t 5 _) (tile41 XW i k t 5 _)
        (tile40 XW i k t 6 _) (tile41 XW i k t 6 _) ?_ ?_
      · exact tile4x0 XW i k t _ (fun y hy => by rw [hz] at hy ⊢; exact landed_at c XW _ _ y hy) _
      · exact tile4x1 XW i k t _ (fun y hy => by rw [hz] at hy ⊢; exact landed_at c XW _ _ y hy) _
    · obtain ⟨io, ix, iw, is, h⟩ := sel4 (F := F) i arg5 k t (Scalar.cmpi .sge (Scalar.subi (BitVec.ofNat 32 (2 * k.val)) 1#32) 0#32) fO fs fsc fwv fbv
      exact h (live4 k.val hk)
end T4

end Cert.Proof.Kernel
-- ==== Proof.T6.lean ====
/- One trip of the loop over a block's chunks. -/
module

public import proofs.«01_k».proof.Proof.Spec

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

theorem trips6 (i : grid0.Coords) : (k0_t6_loop i).trips = 3 := by
  have h : ∀ i : grid0.Coords, (k0_t6_loop i).trips = 3 := by decide +kernel
  exact h i

/-- Block `2 k` is a live one. -/
theorem live6 (k : ℕ) (hk : k < 18) : Scalar.cmpi .sge (Scalar.subi (BitVec.ofNat 32 (2 * k + 1)) 1#32) 0#32 = 1#1 := by
  have h : ∀ k < 18, Scalar.cmpi .sge (Scalar.subi (BitVec.ofNat 32 (2 * k + 1)) 1#32) 0#32 = 1#1 := by decide
  exact h k hk

section Loads
variable (XW : WB F) (C : CodesB F) (i : grid0.Coords) (k : Fin (k0_t3_loop i).trips) (t : Fin (k0_t6_loop i).trips)

theorem lhs6 (r : Fin 8) (inb) :
    k0_pay190 (F := F) (cdM.view.readAt (Elt F) (Rect.unit (s := S192x8192) (k0_off183 i t (BitVec.ofNat 32 r.val)) S192x256.size inb).toLoadRect C)
      = lhsC C (8 * (t.val + 1) + r.val) := by
  have hi := i0 i; have ht := lt_of_lt_of_eq t.isLt (trips6 i)
  exact load_lhs C inb _ (by omega) ((k0_off183_eq i t r).trans (congrArg (fun z => ![0, z]) (by omega)))

theorem tile60 (r : Fin 7) (inb) :
    k0_pay191 (F := F) (rgM.view.readAt (Elt F) (Rect.unit (s := S8x512x8192) (k0_off184 i k t (BitVec.ofNat 32 r.val)) S1x256x256.size inb).toLoadRect (ringT (F := F) XW (2 * k.val + 1)))
      = tileW XW (2 * k.val + 1) (8 * (t.val + 1) + r.val + 1) 0 := by
  have hi := i0 i; have ht := lt_of_lt_of_eq t.isLt (trips6 i)
  have hz : (8 * (t.val + 1) + r.val + 1) / 32 = 0 := by omega
  have h := load_tile XW inb (2 * k.val + 1) (8 * (t.val + 1) + r.val + 1) 0 ((k0_off184_eq i k t r).trans (by
    rw [hz]; exact congrArg₂ (fun y z => ![y, 0, z]) (by omega) (by omega)))
  rw [hz] at h; exact h

theorem tile61 (r : Fin 7) (inb) :
    k0_pay191 (F := F) (rgM.view.readAt (Elt F) (Rect.unit (s := S8x512x8192) (k0_off185 i k t (BitVec.ofNat 32 r.val)) S1x256x256.size inb).toLoadRect (ringT (F := F) XW (2 * k.val + 1)))
      = tileW XW (2 * k.val + 1) (8 * (t.val + 1) + r.val + 1) 1 := by
  have hi := i0 i; have ht := lt_of_lt_of_eq t.isLt (trips6 i)
  have hz : (8 * (t.val + 1) + r.val + 1) / 32 = 0 := by omega
  have h := load_tile XW inb (2 * k.val + 1) (8 * (t.val + 1) + r.val + 1) 1 ((k0_off185_eq i k t r).trans (by
    rw [hz]; exact congrArg₂ (fun y z => ![y, 256, z]) (by omega) (by omega)))
  rw [hz] at h; exact h

theorem tile6x0 (g : RingB F) (hg : ∀ y, (y 0).val = (2 * k.val + 1 + (8 * (t.val + 1) + 8) / 32) % 8 → g y = ringT XW (2 * k.val + 1 + (8 * (t.val + 1) + 8) / 32) y) (inb) :
    k0_pay191 (F := F) (rgM.view.readAt (Elt F) (Rect.unit (s := S8x512x8192) (k0_off193 i k t) S1x256x256.size inb).toLoadRect g)
      = tileW XW (2 * k.val + 1) (8 * (t.val + 1) + 8) 0 := by
  have hi := i0 i; have ht := lt_of_lt_of_eq t.isLt (trips6 i)
  exact load_tile_of XW inb (2 * k.val + 1) (8 * (t.val + 1) + 8) 0 ((k0_off193_eq i k t).trans
    (congrArg₂ (fun y z => ![y, 0, z]) (by omega) (by omega))) g hg

theorem tile6x1 (g : RingB F) (hg : ∀ y, (y 0).val = (2 * k.val + 1 + (8 * (t.val + 1) + 8) / 32) % 8 → g y = ringT XW (2 * k.val + 1 + (8 * (t.val + 1) + 8) / 32) y) (inb) :
    k0_pay191 (F := F) (rgM.view.readAt (Elt F) (Rect.unit (s := S8x512x8192) (k0_off194 i k t) S1x256x256.size inb).toLoadRect g)
      = tileW XW (2 * k.val + 1) (8 * (t.val + 1) + 8) 1 := by
  have hi := i0 i; have ht := lt_of_lt_of_eq t.isLt (trips6 i)
  exact load_tile_of XW inb (2 * k.val + 1) (8 * (t.val + 1) + 8) 1 ((k0_off194_eq i k t).trans
    (congrArg₂ (fun y z => ![y, 256, z]) (by omega) (by omega))) g hg

/-- The rows of products a tile of the select reads. -/
def offs6 (r₁ r₂ : ℕ) : Fin 2 → ℕ := match r₂ with
  | 0 => k0_off188 i t (BitVec.ofNat 32 r₁)
  | 1 => k0_off190 i t (BitVec.ofNat 32 r₁)
  | 2 => k0_off191 i t (BitVec.ofNat 32 r₁)
  | _ => k0_off192 i t (BitVec.ofNat 32 r₁)
theorem offs6_eq (r₁ : Fin 8) (r₂ : Fin 4) : offs6 i t r₁ r₂ = ![64 * t.val + 8 * r₁.val, 128 * r₂.val] := by
  have hi := i0 i
  fin_cases r₂
  · exact (k0_off188_eq i t r₁).trans (vec2 (by omega))
  · exact (k0_off190_eq i t r₁).trans (vec2 (by omega))
  · exact (k0_off191_eq i t r₁).trans (vec2 (by omega))
  · exact (k0_off192_eq i t r₁).trans (vec2 (by omega))
theorem off186_eq (r₁ : Fin 8) : k0_off186 i t (BitVec.ofNat 32 r₁) = ![64 * t.val + 8 * r₁.val, 0] :=
  (k0_off186_eq i t r₁).trans (vec2 (by have := i0 i; omega))
theorem off187_eq (k : Fin (k0_t3_loop i).trips) (r : Fin 4) : k0_off187 i k (BitVec.ofNat 32 r) = ![4 * (2 * k.val) + r.val, 0] :=
  (k0_off187_eq i k r).trans (vec2 (by have := i0 i; omega))
theorem off189_eq (k : Fin (k0_t3_loop i).trips) (t : Fin (k0_t6_loop i).trips) (r₁ : Fin 8) (r₂ : Fin 4) :
    k0_off189 i k t (BitVec.ofNat 32 r₁) (BitVec.ofNat 32 r₂) = ![64 * t.val + 8 * r₁.val, 128 * (4 * (2 * k.val) + r₂.val)] :=
  (k0_off189_eq i k t r₁ r₂).trans (congrArg₂ (fun y z => ![y, z]) (by have := i0 i; omega) (by have := i0 i; omega))
end Loads

section T6
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

theorem sel6 (k : Fin (k0_t3_loop i).trips) (t : Fin (k0_t6_loop i).trips) (lv : BitVec 1) (fO fs fsc fwv fbv) :
    ∃ (io : _) (ix : _) (iw : _) (is : _), ((True → lv = 1#1) →
    SelPost (F := F) arg5 fO (arg5.view.writes (Elt F) fO (selL lv s0M.view fs fsc fwv fbv
        (fun r₁ r₂ => k0_off189 i k t (BitVec.ofNat 32 r₁) (BitVec.ofNat 32 r₂)) (fun r => k0_off186 i t (BitVec.ofNat 32 r))
        (fun r => k0_off187 i k (BitVec.ofNat 32 r)) (offs6 i t) io ix iw is)) (True) fs fsc fwv fbv (64 * t.val) (4 * (2 * k.val))) := by
  have hk := lt_of_lt_of_eq k.isLt (trips3 i); have ht := lt_of_lt_of_eq t.isLt (trips6 i)
  exact ⟨inb_o (off := fun r₁ r₂ => k0_off189 i k t (BitVec.ofNat 32 r₁) (BitVec.ofNat 32 r₂)) (R := 64 * t.val) (T := 4 * (2 * k.val)) (by omega) (by omega) (off189_eq i k t), inb_x (off := fun r => k0_off186 i t (BitVec.ofNat 32 r)) (R := 64 * t.val) (by omega) (off186_eq i t), inb_w (off := fun r => k0_off187 i k (BitVec.ofNat 32 r)) (T := 4 * (2 * k.val)) (by omega) (off187_eq i k), inb_s (off := offs6 i t) (R := 64 * t.val) (by omega) (offs6_eq i t),
    fun hl => selL_post arg5 fO lv s0M.view fs fsc fwv fbv _ _ _ _ _ _ _ _ _ _ (True) hl (by omega) (off189_eq i k t) (off186_eq i t) (off187_eq i k) (offs6_eq i t)⟩

/-- What a trip leaves. -/
def post6 (k : Fin (k0_t3_loop i).trips) (t : Fin (k0_t6_loop i).trips) (q : PosShare TreeShare)
    (fO : Buf (Elt F) (arg5.view.loc (c : Thread nD τ))) (fwv : Buf (Elt F) (wvM.view.loc (c : Thread nD τ))) (fbv : Buf (Elt F) (bvM.view.loc (c : Thread nD τ)))
    (fsc : Buf (Elt F) (scM.view.loc (c : Thread nD τ))) (fs : Buf (Elt F) (s0M.view.loc (c : Thread nD τ))) (s' : Mxu F) : sProp 𝕄 :=
  iprop(∃ fO', ⌜MS s' 0 1 (fun q => some (tileW XW (2 * k.val + 1) (8 * (t.val + 1) + 8) q)) 48 fits_48_192 (accN XW C (2 * k.val + 1) (8 * (t.val + 1) + 8)) 0 fits_0_192 none
      ∧ SelPost arg5 fO fO' (True) fs fsc fwv fbv (64 * t.val) (4 * (2 * k.val))⌝
    ∗ tripRes c arg5 s0M q fO' C fwv fbv fsc fs ∗ slotP c (2 * k.val + 1) (ringT (F := F) XW (2 * k.val + 1)))

set_option maxHeartbeats 1000000 in
theorem t6trip (k : Fin (k0_t3_loop i).trips) (arg0 : BitVec 32) (m5 : Mxu F) (v1623 : BitVec 32)
    (t : Fin (k0_t6_loop i).trips) (ht : t.val < 2) (h2 : ¬ (k0_cond5 i t = 1#1)) (s : Mxu F) (q : PosShare TreeShare) (fO fwv fbv fsc fs)
    (H : MS s 0 1 (fun q => some (tileW XW (2 * k.val + 1) (8 * (t.val + 1)) q)) 48 fits_48_192 (accN XW C (2 * k.val + 1) (8 * (t.val + 1))) 0 fits_0_192 none) :
    iprop(tripRes c arg5 s0M q fO C fwv fbv fsc fs ∗ slotP c (2 * k.val + 1) (ringT (F := F) XW (2 * k.val + 1)))
      ⊢ wp frame (wpE (defs₀ (F := F)) 𝒱₀ (c : Thread nD τ) none) Set.univ
        (k0_t6_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k (BitVec.ofNat 32 (2 * k.val + 1)) v1623 t s)
        (post6 c XW C i arg5 k t q fO fwv fbv fsc fs) := by
  have hi := i0 i
  have hk := lt_of_lt_of_eq k.isLt (trips3 i)
  have hs := H.emp
  unfold post6 tripRes
  iintro ⟨⟨HO, Hcd, Hwv, Hbv, Hsc, Hs0, ⟨%W, HW⟩⟩, HR⟩
  sl_unfold [k0_t6_body]
  sl_exec_parts (disch := first | assumption | (mxu_pushok_peel; done) | (mxu_pushok_peel; exact Mxu.pushOk_of_none _ _ _ _ (hs _)))
  sl_step
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists W; iexact HW
    · iexact HR
  · ipureintro
    refine ⟨?_, ?_⟩
    · have e7 : tileW XW (2 * k.val + 1) (8 * (t.val + 1) + 8) = tileW XW (2 * k.val + 1) (8 * (t.val + 1) + 8) := rfl
      have hz : 2 * k.val + 1 + (8 * (t.val + 1) + 8) / 32 = 2 * k.val + 1 := by omega
      refine st8_MS XW C (2 * k.val + 1) (8 * (t.val + 1)) (by decide) H
        (lhs6 C i t 0 _) (lhs6 C i t 1 _) (lhs6 C i t 2 _) (lhs6 C i t 3 _) (lhs6 C i t 4 _) (lhs6 C i t 5 _) (lhs6 C i t 6 _) (lhs6 C i t 7 _)
        (tile60 XW i k t 0 _) (tile61 XW i k t 0 _) (tile60 XW i k t 1 _) (tile61 XW i k t 1 _) (tile60 XW i k t 2 _) (tile61 XW i k t 2 _)
        (tile60 XW i k t 3 _) (tile61 XW i k t 3 _) (tile60 XW i k t 4 _) (tile61 XW i k t 4 _) (tile60 XW i k t 5 _) (tile61 XW i k t 5 _)
        (tile60 XW i k t 6 _) (tile61 XW i k t 6 _) ?_ ?_
      · exact tile6x0 XW i k t _ (fun _ _ => by rw [hz]) _
      · exact tile6x1 XW i k t _ (fun _ _ => by rw [hz]) _
    · obtain ⟨io, ix, iw, is, h⟩ := sel6 (F := F) i arg5 k t (Scalar.cmpi .sge (Scalar.subi (BitVec.ofNat 32 (2 * k.val + 1)) 1#32) 0#32) fO fs fsc fwv fbv
      exact h (fun _ => live6 k.val hk)
end T6

end Cert.Proof.Kernel
-- ==== Proof.T6Last.lean ====
/- One trip of the loop over a block's chunks. -/
module

public import proofs.«01_k».proof.Proof.T6

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section T6
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

set_option maxHeartbeats 1000000 in
/-- The last trip waits for the block after. -/
theorem t6last (k : Fin (k0_t3_loop i).trips) (arg0 : BitVec 32) (m5 : Mxu F) (v1623 : BitVec 32)
    (t : Fin (k0_t6_loop i).trips) (ht : t.val = 2) (h2 : k0_cond5 i t = 1#1) (s : Mxu F) (q : PosShare TreeShare) (fR fO fwv fbv fsc fs)
    (H : MS s 0 1 (fun q => some (tileW XW (2 * k.val + 1) (8 * (t.val + 1)) q)) 48 fits_48_192 (accN XW C (2 * k.val + 1) (8 * (t.val + 1))) 0 fits_0_192 none) :
    iprop(tripRes c arg5 s0M q fO C fwv fbv fsc fs ∗ slotP c (2 * k.val + 1) (ringT (F := F) XW (2 * k.val + 1)) ∗ flightP c XW (2 * k.val + 2) fR)
      ⊢ wp frame (wpE (defs₀ (F := F)) 𝒱₀ (c : Thread nD τ) none) Set.univ
        (k0_t6_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k (BitVec.ofNat 32 (2 * k.val + 1)) v1623 t s)
        fun s' => iprop(post6 c XW C i arg5 k t q fO fwv fbv fsc fs s' ∗ slotP c (2 * k.val + 2) (ringT (F := F) XW (2 * k.val + 2)) ∗ homeP c XW (2 * k.val + 2) ∗ cellP c (2 * k.val + 2)) := by
  have hi := i0 i
  have hk := lt_of_lt_of_eq k.isLt (trips3 i)
  have hs := H.emp
  unfold post6 tripRes
  iintro ⟨⟨HO, Hcd, Hwv, Hbv, Hsc, Hs0, ⟨%W, HW⟩⟩, HR, HF⟩
  sl_unfold [k0_t6_body]
  sl_exec_parts (disch := first | assumption | (mxu_pushok_peel; done) | (mxu_pushok_peel; exact Mxu.pushOk_of_none _ _ _ _ (hs _)))
  sl_step
  isplitr [HF HF_src HF_dst]
  rotate_left
  · isplitl [HF_dst]; · iapply (slot_ring c XW (2 * k.val + 2) _); iexact HF_dst
    isplitl [HF_src]; · iexact HF_src
    iexact HF
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists _; iexact HW
    · iexact HR
  · ipureintro
    refine ⟨?_, ?_⟩
    · have e7 : tileW XW (2 * k.val + 1) (8 * (t.val + 1) + 8) = tileW XW (2 * k.val + 1) (8 * (t.val + 1) + 8) := rfl
      have hz : 2 * k.val + 1 + (8 * (t.val + 1) + 8) / 32 = 2 * k.val + 2 := by omega
      refine st8_MS XW C (2 * k.val + 1) (8 * (t.val + 1)) (by decide) H
        (lhs6 C i t 0 _) (lhs6 C i t 1 _) (lhs6 C i t 2 _) (lhs6 C i t 3 _) (lhs6 C i t 4 _) (lhs6 C i t 5 _) (lhs6 C i t 6 _) (lhs6 C i t 7 _)
        (tile60 XW i k t 0 _) (tile61 XW i k t 0 _) (tile60 XW i k t 1 _) (tile61 XW i k t 1 _) (tile60 XW i k t 2 _) (tile61 XW i k t 2 _)
        (tile60 XW i k t 3 _) (tile61 XW i k t 3 _) (tile60 XW i k t 4 _) (tile61 XW i k t 4 _) (tile60 XW i k t 5 _) (tile61 XW i k t 5 _)
        (tile60 XW i k t 6 _) (tile61 XW i k t 6 _) ?_ ?_
      · exact tile6x0 XW i k t _ (fun y hy => by rw [hz] at hy ⊢; exact landed_at c XW _ _ y hy) _
      · exact tile6x1 XW i k t _ (fun y hy => by rw [hz] at hy ⊢; exact landed_at c XW _ _ y hy) _
    · obtain ⟨io, ix, iw, is, h⟩ := sel6 (F := F) i arg5 k t (Scalar.cmpi .sge (Scalar.subi (BitVec.ofNat 32 (2 * k.val + 1)) 1#32) 0#32) fO fs fsc fwv fbv
      exact h (fun _ => live6 k.val hk)
end T6

end Cert.Proof.Kernel
-- ==== Proof.Ring.lean ====
/- The ring between blocks: which blocks of the weights are in flight, which slots are free, which blocks are at home; and
   the logits written so far. -/
module

public import proofs.«01_k».proof.Proof.T4Last
public import proofs.«01_k».proof.Proof.T6Last

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section Ring
variable (c : Dev nD) (XW : Buf (Elt F) (wM.view.loc (c : Thread nD τ)))

/-- Block `b` in flight to its slot. -/
def flyP (b : ℕ) : sProp 𝕄 := iprop(∃ f, flightP c XW b f)
/-- Block `b`'s slot and semaphore, free. -/
def freeP (b : ℕ) : sProp 𝕄 := iprop(cellP (F := F) c b ∗ ∃ f, slotP c b f)

/-- The ring at block `b`, whose slot is held apart: blocks `b + 1 … h - 1` are in flight, the slots of `h … b + 7` are free. -/
def ringS (b h : ℕ) : sProp 𝕄 :=
  iprop(cellP (F := F) c b ∗ bigSep (Finset.range (b + 1)) (homeP c XW) ∗ bigSep (Finset.Ico (b + 1) h) (flyP c XW)
    ∗ bigSep (Finset.Ico h (b + 8)) (freeP (F := F) c) ∗ bigSep (Finset.Ico h 37) (homeP c XW))
/-- The ring less block `h`, which is about to be started. -/
def ringO (b h : ℕ) : sProp 𝕄 :=
  iprop(cellP (F := F) c b ∗ bigSep (Finset.range (b + 1)) (homeP c XW) ∗ bigSep (Finset.Ico (b + 1) h) (flyP c XW)
    ∗ bigSep (Finset.Ico (h + 1) (b + 8)) (freeP (F := F) c) ∗ bigSep (Finset.Ico (h + 1) 37) (homeP c XW))
/-- The ring less block `b + 1`, which is about to be waited for. -/
def ringW (b h : ℕ) : sProp 𝕄 :=
  iprop(cellP (F := F) c b ∗ bigSep (Finset.range (b + 1)) (homeP c XW) ∗ bigSep (Finset.Ico (b + 2) h) (flyP c XW)
    ∗ bigSep (Finset.Ico h (b + 8)) (freeP (F := F) c) ∗ bigSep (Finset.Ico h 37) (homeP c XW))

theorem Ico_left (P : ℕ → sProp 𝕄) {a b : ℕ} (h : a < b) : bigSep (Finset.Ico a b) P = iprop(P a ∗ bigSep (Finset.Ico (a + 1) b) P) := by
  have e : Finset.Ico a b = insert a (Finset.Ico (a + 1) b) := by ext x; simp only [Finset.mem_Ico, Finset.mem_insert]; omega
  rw [e, bigSep_insert (by simp)]; rfl
theorem Ico_right (P : ℕ → sProp 𝕄) {a b : ℕ} (h : a ≤ b) : bigSep (Finset.Ico a (b + 1)) P = iprop(P b ∗ bigSep (Finset.Ico a b) P) := by
  have e : Finset.Ico a (b + 1) = insert b (Finset.Ico a b) := by ext x; simp only [Finset.mem_Ico, Finset.mem_insert]; omega
  rw [e, bigSep_insert (by simp)]; rfl
theorem range_succ (P : ℕ → sProp 𝕄) (b : ℕ) : bigSep (Finset.range (b + 1)) P = iprop(P b ∗ bigSep (Finset.range b) P) := by
  rw [Finset.range_add_one, bigSep_insert (by simp)]; rfl

theorem ring_open {b h : ℕ} (h1 : h < 37) (h2 : h < b + 8) :
    ringS c XW b h ⊢ iprop(cellP (F := F) c h ∗ (∃ f, slotP c h f) ∗ homeP c XW h ∗ ringO c XW b h) := by
  unfold ringS ringO
  rw [Ico_left (freeP (F := F) c) h2, Ico_left (homeP c XW) h1]
  unfold freeP
  iintro ⟨A, B, C, ⟨⟨D, E⟩, G⟩, ⟨H, I⟩⟩
  isplitl [D]; · iexact D
  isplitl [E]; · iexact E
  isplitl [H]; · iexact H
  isplitl [A]; · iexact A
  isplitl [B]; · iexact B
  isplitl [C]; · iexact C
  isplitl [G]; · iexact G
  iexact I

theorem ring_close {b h : ℕ} (h1 : b + 1 ≤ h) (f) : iprop(flightP c XW h f ∗ ringO c XW b h) ⊢ ringS c XW b (h + 1) := by
  unfold ringS ringO
  rw [Ico_right (flyP c XW) h1]
  iintro ⟨K, A, B, C, D, E⟩
  isplitl [A]; · iexact A
  isplitl [B]; · iexact B
  isplitl [C K]
  · isplitl [K]
    · unfold flyP; iexists f; iexact K
    · iexact C
  isplitl [D]; · iexact D
  iexact E

theorem ring_take {b h : ℕ} (h1 : b + 1 < h) : ringS c XW b h ⊢ iprop((∃ f, flightP c XW (b + 1) f) ∗ ringW c XW b h) := by
  unfold ringS ringW
  rw [Ico_left (flyP c XW) h1]
  unfold flyP
  iintro ⟨A, B, ⟨C, C'⟩, D, E⟩
  isplitl [C]; · iexact C
  isplitl [A]; · iexact A
  isplitl [B]; · iexact B
  isplitl [C']; · iexact C'
  isplitl [D]; · iexact D
  iexact E

theorem csm_congr' (b : ℕ) : csm (b + 8) = csm b := csm_congr b (vec1 (by omega)) _
theorem rslot_congr' (b : ℕ) : rslot (b + 8) = rslot b := rslot_congr b (vec3 (by omega)) _ _
theorem cell_8 (b : ℕ) : cellP (F := F) c (b + 8) = cellP c b :=
  congrArg (fun d : DmaSems sig S_ => (semVal ((c : Thread nD τ), SemLoc.dma d.sem) 0 : sProp 𝕄)) (csm_congr' b)
theorem slot_of {r r' : Memref sig .tc .vmem S512x8192 .fp8e4m3} (e : r = r') (f : Buf (Elt F) (r.view.loc (c : Thread nD τ)))
    (f' : Buf (Elt F) (r'.view.loc (c : Thread nD τ))) (h : HEq f f') :
    (r.view.loc (c : Thread nD τ) ↦[r.view.set]{fullShare} f : sProp 𝕄) = (r'.view.loc (c : Thread nD τ) ↦[r'.view.set]{fullShare} f') := by
  subst e; cases h; rfl
theorem slot_8 (b : ℕ) (f) : slotP (F := F) c (b + 8) f = slotP c b f := slot_of c (rslot_congr' b) f f HEq.rfl

theorem ring_put {b h : ℕ} (h1 : h ≤ b + 8) (f) :
    iprop(homeP c XW (b + 1) ∗ cellP (F := F) c (b + 1) ∗ slotP c b f ∗ ringW c XW b h) ⊢ ringS c XW (b + 1) h := by
  unfold ringS ringW
  rw [range_succ (homeP c XW) (b + 1), show b + 1 + 8 = (b + 8) + 1 from rfl, Ico_right (freeP (F := F) c) h1]
  unfold freeP
  rw [cell_8]
  iintro ⟨H, K, S, A, B, C, D, E⟩
  isplitl [K]; · iexact K
  isplitl [H B]
  · isplitl [H]; · iexact H
    iexact B
  isplitl [C]; · iexact C
  isplitl [A S D]
  · isplitl [A S]
    · isplitl [A]; · iexact A
      iexists f; irw [slot_8 c b f]; iexact S
    · iexact D
  iexact E
end Ring

/-! ## The logits written so far -/

section Written
variable (arg5 : Memref sig .tc .vmem S192x18944 .f32) (XW : WB F) (C : CodesB F) (fsc : S192x128.Idx → Elt F .f32) (fwv fbv : S148x128.Idx → Elt F .f32)

/-- A logit. -/
def lgt (y : S192x18944.Idx) : Elt F .f32 := lval (sT XW C ((y 1).val / 512)) fsc fwv fbv y

/-- The blocks before `m` are written, and of block `m`, if it is a live one, the first `rows` rows. -/
def LP (f : arg5.view.ty.Contents (Elt F)) (live : Prop) (m rows : ℕ) : Prop :=
  (∀ y : S192x18944.Idx, (y 1).val < 512 * m → arg5.view.read (Elt F) f y = lgt XW C fsc fwv fbv y)
  ∧ (live → ∀ y : S192x18944.Idx, 512 * m ≤ (y 1).val → (y 1).val < 512 * m + 512 → (y 0).val < rows → arg5.view.read (Elt F) f y = lgt XW C fsc fwv fbv y)

variable {arg5 XW C fsc fwv fbv}
theorem LP.sel {f f'} {live : Prop} {m R : ℕ} {s : SB F} (H : LP arg5 XW C fsc fwv fbv f live m R) (hs : live → s = sT XW C m)
    (K : SelPost arg5 f f' live s fsc fwv fbv R (4 * m)) : LP arg5 XW C fsc fwv fbv f' live m (R + 64) := by
  refine ⟨fun y hy => (K.2 y (by omega)).trans (H.1 y hy), fun hl y h1 h2 h3 => ?_⟩
  by_cases hr : (y 0).val < R
  · exact (K.2 y (.inl hr)).trans (H.2 hl y h1 h2 hr)
  · refine (K.1 hl y (by omega) (by omega) (by omega) (by omega)).trans ?_
    unfold lgt
    rw [hs hl, show (y 1).val / 512 = m by omega]

theorem LP.next {f} {live live' : Prop} {m : ℕ} (H : LP arg5 XW C fsc fwv fbv f live m 192) (hl : live) : LP arg5 XW C fsc fwv fbv f live' (m + 1) 0 := by
  refine ⟨fun y hy => ?_, fun _ y _ _ h => absurd h (by omega)⟩
  by_cases h : (y 1).val < 512 * m
  · exact H.1 y h
  · exact H.2 hl y (by omega) (by omega) (y 0).isLt

theorem LP.zero {f} {live : Prop} : LP arg5 XW C fsc fwv fbv f live 0 0 :=
  ⟨fun y hy => absurd hy (by omega), fun _ y _ _ h => absurd h (by omega)⟩

theorem LP.next4 {f} (k : ℕ) (H : LP arg5 XW C fsc fwv fbv f (1 ≤ k) (2 * k - 1) 192) : LP arg5 XW C fsc fwv fbv f True (2 * k) 0 := by
  rcases Nat.eq_zero_or_pos k with rfl | hk
  · exact LP.zero
  · have e := H.next (live' := True) hk
    rwa [show 2 * k - 1 + 1 = 2 * k by omega] at e

theorem LP.next6 {f} (k : ℕ) (H : LP arg5 XW C fsc fwv fbv f True (2 * k) 192) : LP arg5 XW C fsc fwv fbv f (1 ≤ k + 1) (2 * (k + 1) - 1) 0 :=
  H.next trivial
end Written

/-- Slice 32 of a block is slice 0 of the block after. -/
theorem tileW_next (XW : WB F) (b : ℕ) : tileW XW b 32 = tileW XW (b + 1) 0 := by
  unfold tileW; simp

/-! ## Eight steps of a block, the accumulators of the block before popped after five of them -/

section Chunk0
variable {s : Mxu F} {A B : ℕ} {hA : Mxu.Fits A 192} {hB : Mxu.Fits B 192} {e : Option (Fin 2 → Rows F)}

theorem five_MS (XW : WB F) (C : CodesB F) (b : ℕ) (hAB : 4 * A + 192 ≤ 4 * B ∨ 4 * B + 192 ≤ 4 * A)
    (H : MS s 0 1 (fun q => some (tileW XW b 0 q)) A hA none B hB e)
    {x0 x1 x2 x3 x4 : Lhs F} {a0 a1 a2 a3 a4 b0 b1 b2 b3 b4 : Tile F}
    (hx0 : x0 = lhsC C 0) (hx1 : x1 = lhsC C 1) (hx2 : x2 = lhsC C 2) (hx3 : x3 = lhsC C 3) (hx4 : x4 = lhsC C 4)
    (ha0 : a0 = tileW XW b 1 0) (hb0 : b0 = tileW XW b 1 1) (ha1 : a1 = tileW XW b 2 0) (hb1 : b1 = tileW XW b 2 1)
    (ha2 : a2 = tileW XW b 3 0) (hb2 : b2 = tileW XW b 3 1) (ha3 : a3 = tileW XW b 4 0) (hb3 : b3 = tileW XW b 4 1)
    (ha4 : a4 = tileW XW b 5 0) (hb4 : b4 = tileW XW b 5 1) :
    MS (step (step (step (step (step s 0 1 A hA x0 a0 b0) 1 0 A hA x1 a1 b1) 0 1 A hA x2 a2 b2) 1 0 A hA x3 a3 b3) 0 1 A hA x4 a4 b4)
      1 0 (fun q => some (tileW XW b 5 q)) A hA (accN XW C b 5) B hB e :=
  step_MS XW C b hAB 4 (by decide) (step_MS XW C b hAB 3 (by decide) (step_MS XW C b hAB 2 (by decide)
    (step_MS XW C b hAB 1 (by decide) (step_MS XW C b hAB 0 (by decide) H hx0 ha0 hb0) hx1 ha1 hb1) hx2 ha2 hb2) hx3 ha3 hb3) hx4 ha4 hb4

theorem three_MS (XW : WB F) (C : CodesB F) (b : ℕ) (hAB : 4 * A + 192 ≤ 4 * B ∨ 4 * B + 192 ≤ 4 * A)
    (H : MS s 1 0 (fun q => some (tileW XW b 5 q)) A hA (accN XW C b 5) B hB e)
    {x5 x6 x7 : Lhs F} {a5 a6 a7 b5 b6 b7 : Tile F}
    (hx5 : x5 = lhsC C 5) (hx6 : x6 = lhsC C 6) (hx7 : x7 = lhsC C 7)
    (ha5 : a5 = tileW XW b 6 0) (hb5 : b5 = tileW XW b 6 1) (ha6 : a6 = tileW XW b 7 0) (hb6 : b6 = tileW XW b 7 1)
    (ha7 : a7 = tileW XW b 8 0) (hb7 : b7 = tileW XW b 8 1) :
    MS (step (step (step (pops s B hB) 1 0 A hA x5 a5 b5) 0 1 A hA x6 a6 b6) 1 0 A hA x7 a7 b7)
      0 1 (fun q => some (tileW XW b 8 q)) A hA (accN XW C b 8) B hB none :=
  step_MS XW C b hAB 7 (by decide) (step_MS XW C b hAB 6 (by decide) (step_MS XW C b hAB 5 (by decide) (H.pops hAB) hx5 ha5 hb5) hx6 ha6 hb6) hx7 ha7 hb7
end Chunk0

end Cert.Proof.Kernel
-- ==== Proof.T1.lean ====
module

public import proofs.«01_k».proof.Proof.Ring

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-! ## The rows' strips -/

abbrev strOff (u : ℕ) : Fin 2 → Nat := ![32 * (u % 6), 0]
theorem strOff_inb (u : ℕ) : ∀ a, strOff u a + S32x8192.size a ≤ S192x8192.size a := by
  intro a; fin_cases a
  · show 32 * (u % 6) + 32 ≤ 192; omega
  · show 0 + 8192 ≤ 8192; omega
abbrev xsOff (u : ℕ) : Fin 1 → Nat := ![u % 6]
theorem xsOff_inb (u : ℕ) : ∀ a, xsOff u a + S1.size a ≤ S6.size a := by
  intro a; fin_cases a; show u % 6 + 1 ≤ 6; omega
/-- Strip `u` of the rows in vector memory. -/
def xstrp (u : ℕ) : Memref sig .tc .vmem S32x8192 .bf16 := xbM.slice (Rect.unit (s := S192x8192) (strOff u) S32x8192.size (strOff_inb u)) (fun _ => rfl)
/-- Strip `u` of the rows in the argument. -/
def xblk (u : ℕ) : Memref sig .tc .hbm S32x8192 .bf16 := xM.slice (Rect.unit (s := S192x8192) (strOff u) S32x8192.size (strOff_inb u)) (fun _ => rfl)
/-- Strip `u`'s semaphore. -/
def xsm (u : ℕ) : DmaSems sig S_ := (cc0_scratch8.slice (Rect.unit (s := S6) (xsOff u) S1.size (xsOff_inb u))).squeeze S_ squeezes_S1_S_
instance (u : ℕ) : ClosedOff (strOff u) := ⟨strOff u, rfl⟩
theorem xsm_congr {off : Fin 1 → Nat} (u : ℕ) (e : off = xsOff u) (hh) :
    (cc0_scratch8.slice (Rect.unit (s := S6) off S1.size hh)).squeeze S_ squeezes_S1_S_ = xsm u :=
  congrArg (fun A : DmaSems sig S1 => A.squeeze S_ squeezes_S1_S_) (SemArray.slice_unit_congr _ e _ _)
theorem xstrp_congr {off : Fin 2 → Nat} (u : ℕ) (e : off = strOff u) (hh hs) :
    xbM.slice (Rect.unit (s := S192x8192) off S32x8192.size hh) hs = xstrp u := Memref.slice_unit_congr _ e _ _ _ (fun _ => rfl)
theorem xblk_congr {off : Fin 2 → Nat} (u : ℕ) (e : off = strOff u) (hh hs) :
    xM.slice (Rect.unit (s := S192x8192) off S32x8192.size hh) hs = xblk u := Memref.slice_unit_congr _ e _ _ _ (fun _ => rfl)
theorem trips1 (i : grid0.Coords) : (k0_t1_loop i).trips = 6 := by
  have h : ∀ i : grid0.Coords, (k0_t1_loop i).trips = 6 := by decide +kernel
  exact h i

section C1
variable (i : grid0.Coords) (k : Fin (k0_t1_loop i).trips)
@[sl_canon] theorem sem3 (hh) : (cc0_scratch8.slice (Rect.unit (s := S6) (k0_off3 i k) S1.size hh)).squeeze S_ squeezes_S1_S_ = xsm k.val :=
  xsm_congr _ ((k0_off3_eq i k).trans (vec1 (by rw [i0 i]; have := lt_of_lt_of_eq k.isLt (trips1 i); omega))) hh
@[sl_canon] theorem str4 (hh hs) : xbM.slice (Rect.unit (s := S192x8192) (k0_off4 i k) S32x8192.size hh) hs = xstrp k.val :=
  xstrp_congr _ ((k0_off4_eq i k).trans (vec2 (by rw [i0 i]; have := lt_of_lt_of_eq k.isLt (trips1 i); omega))) hh hs
@[sl_canon] theorem xbl4 (hh hs) : xM.slice (Rect.unit (s := S192x8192) (k0_off4 i k) S32x8192.size hh) hs = xblk k.val :=
  xblk_congr _ ((k0_off4_eq i k).trans (vec2 (by rw [i0 i]; have := lt_of_lt_of_eq k.isLt (trips1 i); omega))) hh hs
end C1

/-! ## What the rows' codes and scales are -/

abbrev XB (F : FTy → Type) [FloatOps F] := S192x8192.Idx → Elt F .bf16
/-- Tile `n` of strip `u`. -/
def xtile (X : XB F) (u n : ℕ) : Vec F S32x128 .bf16 := fun x =>
  X (ix2 ⟨32 * (u % 6) + (x 0).val, by have : (x 0).val < 32 := (x 0).isLt; omega⟩ ⟨128 * (n % 64) + (x 1).val, by have : (x 1).val < 128 := (x 1).isLt; omega⟩)
/-- The largest absolute value over tiles `0 … n`. -/
def mN (g : ℕ → Vec F S32x128 .bf16) : ℕ → FVec F S32x128 .bf16
  | 0 => absf (g 0)
  | n + 1 => maximumf (mN g n) (absf (g (n + 1)))
/-- The exponent field of the rows' largest value over 448. -/
def fieldG (g : ℕ → Vec F S32x128 .bf16) : IVec S32x128 32 :=
  k0_pay13 (F := F) (k0_pay9 (mN g 56) (g 57) (g 58) (g 59) (g 60) (g 61) (g 62) (g 63)) (k0_pay10 (mN g 56) (g 57) (g 58) (g 59) (g 60) (g 61) (g 62) (g 63))
    (k0_pay11 (mN g 56) (g 57) (g 58) (g 59) (g 60) (g 61) (g 62) (g 63)) k0_pay12
def codeT (g : ℕ → Vec F S32x128 .bf16) (n : ℕ) : FVec F S32x128 .fp8e4m3 := k0_pay21 (k0_pay17 (F := F) (fieldG g) k0_pay14) (g n)
def scaleT (g : ℕ → Vec F S32x128 .bf16) : FVec F S32x128 .f32 := k0_pay16 (F := F) (fieldG g) k0_pay14
/-- The codes. -/
def Cspec (X : XB F) : CodesB F := fun y =>
  codeT (xtile X ((y 0).val / 32)) ((y 1).val / 128) (ix2 ⟨(y 0).val % 32, by omega⟩ ⟨(y 1).val % 128, by omega⟩)
/-- The rows' scales, each in every column. -/
def Sspec (X : XB F) : S192x128.Idx → Elt F .f32 := fun y =>
  scaleT (xtile X ((y 0).val / 32)) (ix2 ⟨(y 0).val % 32, by omega⟩ (y 1))

section Chain
variable {g : ℕ → Vec F S32x128 .bf16}
theorem pay4_run {t0 t1 t2 t3 t4 t5 t6 t7 t8 : Vec F S32x128 .bf16} (h0 : t0 = g 0) (h1 : t1 = g 1) (h2 : t2 = g 2) (h3 : t3 = g 3) (h4 : t4 = g 4) (h5 : t5 = g 5) (h6 : t6 = g 6) (h7 : t7 = g 7) (h8 : t8 = g 8) : k0_pay4 t0 t1 t2 t3 t4 t5 t6 t7 t8 = mN g 8 := by
  subst h0 h1 h2 h3 h4 h5 h6 h7 h8; rfl
theorem pay5_run {M : FVec F S32x128 .bf16} (n : ℕ) (hM : M = mN g n) {t1 t2 t3 t4 t5 t6 t7 t8 t9 t10 t11 t12 : Vec F S32x128 .bf16} (h1 : t1 = g (n + 1)) (h2 : t2 = g (n + 2)) (h3 : t3 = g (n + 3)) (h4 : t4 = g (n + 4)) (h5 : t5 = g (n + 5)) (h6 : t6 = g (n + 6)) (h7 : t7 = g (n + 7)) (h8 : t8 = g (n + 8)) (h9 : t9 = g (n + 9)) (h10 : t10 = g (n + 10)) (h11 : t11 = g (n + 11)) (h12 : t12 = g (n + 12)) : k0_pay5 M t1 t2 t3 t4 t5 t6 t7 t8 t9 t10 t11 t12 = mN g (n + 12) := by
  subst hM h1 h2 h3 h4 h5 h6 h7 h8 h9 h10 h11 h12; rfl
theorem pay6_eq : @k0_pay6 F _ = k0_pay5 := rfl
theorem pay7_eq : @k0_pay7 F _ = k0_pay5 := rfl
theorem pay8_eq : @k0_pay8 F _ = k0_pay5 := rfl
theorem field_run {M : FVec F S32x128 .bf16} (hM : M = mN g 56) {t57 t58 t59 t60 t61 t62 t63 : Vec F S32x128 .bf16} (h57 : t57 = g 57) (h58 : t58 = g 58) (h59 : t59 = g 59) (h60 : t60 = g 60) (h61 : t61 = g 61) (h62 : t62 = g 62) (h63 : t63 = g 63) :
    k0_pay13 (F := F) (k0_pay9 M t57 t58 t59 t60 t61 t62 t63) (k0_pay10 M t57 t58 t59 t60 t61 t62 t63) (k0_pay11 M t57 t58 t59 t60 t61 t62 t63) k0_pay12 = fieldG g := by
  subst hM h57 h58 h59 h60 h61 h62 h63; rfl
end Chain

theorem rd_cd (G : cdM.view.ty.Contents (Elt F)) (y : S192x8192.Idx) : cdM.view.read (Elt F) G y = G y := rfl
theorem rd_sc (G : scM.view.ty.Contents (Elt F)) (y : S192x128.Idx) : scM.view.read (Elt F) G y = G y := rfl
section Pieces
variable (i : grid0.Coords) (k : Fin (k0_t1_loop i).trips)
/-- Where tile `n` of the trip's strip begins. -/
def qoff (n : ℕ) : Fin 2 → ℕ := ![k0_off5 i k 0, 128 * (n % 64)]
theorem qoff_eq (n : ℕ) : qoff i k n = ![32 * k.val, 128 * (n % 64)] := by
  unfold qoff; rw [k0_off5_eq]; exact vec2 (by show 32 * (i 0).val + 32 * k.val = _; rw [i0 i]; omega)
theorem inbq (n : ℕ) : ∀ a, qoff i k n a + S32x128.size a ≤ S192x8192.size a := by
  have := lt_of_lt_of_eq k.isLt (trips1 i)
  intro a; rw [qoff_eq]; fin_cases a
  · show 32 * k.val + 32 ≤ 192; omega
  · show 128 * (n % 64) + 128 ≤ 8192; omega
theorem off69_eq : k0_off69 i k = ![32 * k.val, 0] := (k0_off69_eq i k).trans (vec2 (by rw [i0 i]; omega))
theorem inb69 : ∀ a, k0_off69 i k a + S32x128.size a ≤ S192x128.size a := by
  have := lt_of_lt_of_eq k.isLt (trips1 i)
  intro a; rw [off69_eq]; fin_cases a
  · show 32 * k.val + 32 ≤ 192; omega
  · show 0 + 128 ≤ 128; omega
/-- The tiles as the trip loads them. -/
def xg (f : xbM.view.ty.Contents (Elt F)) (n : ℕ) : Vec F S32x128 .bf16 :=
  xbM.view.readAt (Elt F) (Rect.unit (s := S192x8192) (qoff i k n) S32x128.size (inbq i k n)).toLoadRect f
/-- The tiles of codes a trip stores, the last first. -/
def codeL (V : FVec F S32x128 .bf16) (g : ℕ → Vec F S32x128 .bf16) : List (View.Piece (Elt F) S192x8192 .fp8e4m3) :=
  List.ofFn fun n : Fin 64 => ⟨Rect.unit (s := S192x8192) (qoff i k (63 - n.val)) S32x128.size (inbq i k (63 - n.val)), k0_pay21 V (g (63 - n.val))⟩

theorem emb_q (n : ℕ) (hn : n < 64) (x : S32x128.Idx) :
    (((Rect.unit (s := S192x8192) (qoff i k n) S32x128.size (inbq i k n)).emb x) 0).val = 32 * k.val + (x 0).val
    ∧ (((Rect.unit (s := S192x8192) (qoff i k n) S32x128.size (inbq i k n)).emb x) 1).val = 128 * n + (x 1).val := by
  constructor
  · show qoff i k n 0 + 1 * (x 0).val = _; rw [qoff_eq]; show 32 * k.val + 1 * (x 0).val = _; omega
  · show qoff i k n 1 + 1 * (x 1).val = _; rw [qoff_eq]; show 128 * (n % 64) + 1 * (x 1).val = _; omega

theorem emb_q' (n : ℕ) (x : S32x128.Idx) :
    (((Rect.unit (s := S192x8192) (qoff i k n) S32x128.size (inbq i k n)).toLoadRect.idx x) 0).val = 32 * k.val + (x 0).val
    ∧ (((Rect.unit (s := S192x8192) (qoff i k n) S32x128.size (inbq i k n)).toLoadRect.idx x) 1).val = 128 * (n % 64) + (x 1).val := by
  constructor
  · show qoff i k n 0 + 1 * (x 0).val = _; rw [qoff_eq]; show 32 * k.val + 1 * (x 0).val = _; omega
  · show qoff i k n 1 + 1 * (x 1).val = _; rw [qoff_eq]; show 128 * (n % 64) + 1 * (x 1).val = _; omega

theorem codeL_post (X : XB F) (g : ℕ → Vec F S32x128 .bf16) (hg : g = xtile X k.val) {V : FVec F S32x128 .bf16} (hV : V = k0_pay17 (F := F) (fieldG (xtile X k.val)) k0_pay14) (f : cdM.view.ty.Contents (Elt F))
    (h : ∀ y : S192x8192.Idx, (y 0).val < 32 * k.val → f y = Cspec X y) :
    ∀ y : S192x8192.Idx, (y 0).val < 32 * (k.val + 1) → cdM.view.writes (Elt F) f (codeL i k V g) y = Cspec X y := by
  subst hg hV
  intro y hy
  have hy1 : (y 1).val < 8192 := (y 1).isLt
  by_cases h0 : (y 0).val < 32 * k.val
  · refine Eq.trans (b := f y) ?_ (h y h0)
    refine ((rd_cd _ y).symm.trans (View.read_writes_apply_of_forall_not_mem cdM.view f y _ fun p hp => ?_)).trans (rd_cd f y)
    obtain ⟨n, rfl⟩ := List.mem_ofFn.mp hp
    intro hm
    have h := (Rect.mem_set_unit (inb := inbq i k (63 - n.val))).mp hm 0
    rw [qoff_eq] at h
    have : 32 * k.val ≤ (y 0).val := h.1
    omega
  · refine (rd_cd _ y).symm.trans (View.read_writes_apply_of_pieces cdM.view f (Cspec X) _ (fun p hp x => ?_) y ?_)
    · obtain ⟨n, rfl⟩ := List.mem_ofFn.mp hp
      obtain ⟨e0, e1⟩ := emb_q i k (63 - n.val) (by omega) x
      have hx0 : (x 0).val < 32 := (x 0).isLt
      have hx1 : (x 1).val < 128 := (x 1).isLt
      show codeT (xtile X k.val) (63 - n.val) x = Cspec X ((Rect.unit (s := S192x8192) (qoff i k (63 - n.val)) S32x128.size (inbq i k (63 - n.val))).emb x)
      unfold Cspec
      rw [show (((Rect.unit (s := S192x8192) (qoff i k (63 - n.val)) S32x128.size (inbq i k (63 - n.val))).emb x) 0).val / 32 = k.val by omega,
        show (((Rect.unit (s := S192x8192) (qoff i k (63 - n.val)) S32x128.size (inbq i k (63 - n.val))).emb x) 1).val / 128 = 63 - n.val by omega]
      congr 1
      funext a
      fin_cases a
      · apply Fin.ext; show (x 0).val = (((Rect.unit (s := S192x8192) (qoff i k (63 - n.val)) S32x128.size (inbq i k (63 - n.val))).emb x) 0).val % 32; omega
      · apply Fin.ext; show (x 1).val = (((Rect.unit (s := S192x8192) (qoff i k (63 - n.val)) S32x128.size (inbq i k (63 - n.val))).emb x) 1).val % 128; omega
    · refine ⟨_, List.mem_ofFn.mpr ⟨⟨63 - (y 1).val / 128, by omega⟩, rfl⟩, ?_⟩
      rw [Rect.mem_set_unit]
      intro a
      rw [qoff_eq]
      fin_cases a
      · show 32 * k.val ≤ (y 0).val ∧ (y 0).val < 32 * k.val + 32; omega
      · show 128 * ((63 - (63 - (y 1).val / 128)) % 64) ≤ (y 1).val ∧ (y 1).val < 128 * ((63 - (63 - (y 1).val / 128)) % 64) + 128; omega

theorem scale_post (X : XB F) {Fl : IVec S32x128 32} (hF : Fl = fieldG (xtile X k.val)) (f : scM.view.ty.Contents (Elt F))
    (h : ∀ y : S192x128.Idx, (y 0).val < 32 * k.val → f y = Sspec X y) :
    ∀ y : S192x128.Idx, (y 0).val < 32 * (k.val + 1) →
      scM.view.writes (Elt F) f [⟨Rect.unit (s := S192x128) (k0_off69 i k) S32x128.size (inb69 i k), k0_pay16 (F := F) Fl k0_pay14⟩] y = Sspec X y := by
  subst hF
  intro y hy
  have hy1 : (y 1).val < 128 := (y 1).isLt
  by_cases h0 : (y 0).val < 32 * k.val
  · refine Eq.trans (b := f y) ?_ (h y h0)
    refine ((rd_sc _ y).symm.trans (View.read_writes_apply_of_forall_not_mem scM.view f y _ fun p hp => ?_)).trans (rd_sc f y)
    obtain rfl := List.mem_singleton.mp hp
    intro hm
    have h := (Rect.mem_set_unit (inb := inb69 i k)).mp hm 0
    rw [off69_eq] at h
    have : 32 * k.val ≤ (y 0).val := h.1
    omega
  · refine (rd_sc _ y).symm.trans (View.read_writes_apply_of_pieces scM.view f (Sspec X) _ (fun p hp x => ?_) y ?_)
    · obtain rfl := List.mem_singleton.mp hp
      have hx0 : (x 0).val < 32 := (x 0).isLt
      have e0 : (((Rect.unit (s := S192x128) (k0_off69 i k) S32x128.size (inb69 i k)).emb x) 0).val = 32 * k.val + (x 0).val := by
        show k0_off69 i k 0 + 1 * (x 0).val = _; refine (congrArg (fun z : Fin 2 → ℕ => z 0 + 1 * (x 0).val) (off69_eq i k)).trans ?_; show 32 * k.val + 1 * (x 0).val = _; omega
      have e1 : (((Rect.unit (s := S192x128) (k0_off69 i k) S32x128.size (inb69 i k)).emb x) 1).val = (x 1).val := by
        show k0_off69 i k 1 + 1 * (x 1).val = _; refine (congrArg (fun z : Fin 2 → ℕ => z 1 + 1 * (x 1).val) (off69_eq i k)).trans ?_; show 0 + 1 * (x 1).val = _; omega
      show scaleT (xtile X k.val) x = Sspec X ((Rect.unit (s := S192x128) (k0_off69 i k) S32x128.size (inb69 i k)).emb x)
      unfold Sspec
      rw [show (((Rect.unit (s := S192x128) (k0_off69 i k) S32x128.size (inb69 i k)).emb x) 0).val / 32 = k.val by omega]
      congr 1
      funext a
      fin_cases a
      · apply Fin.ext; show (x 0).val = (((Rect.unit (s := S192x128) (k0_off69 i k) S32x128.size (inb69 i k)).emb x) 0).val % 32; omega
      · apply Fin.ext; exact e1.symm
    · refine ⟨_, List.mem_singleton.mpr rfl, ?_⟩
      rw [Rect.mem_set_unit]
      intro a
      rw [off69_eq]
      fin_cases a
      · show 32 * k.val ≤ (y 0).val ∧ (y 0).val < 32 * k.val + 32; omega
      · show 0 ≤ (y 1).val ∧ (y 1).val < 0 + 128; omega
end Pieces

section Res1
variable (c : Dev nD) (X : Buf (Elt F) (xM.view.loc (c : Thread nD τ)))
abbrev xcellP (u : ℕ) : sProp 𝕄 := semVal ((c : Thread nD τ), SemLoc.dma (xsm u).sem) 0
abbrev xstrP (u : ℕ) (f : Buf (Elt F) (xbM.view.loc (c : Thread nD τ))) : sProp 𝕄 := (xstrp u).view.loc (c : Thread nD τ) ↦[(xstrp u).view.set]{fullShare} f
abbrev xhomeP (u : ℕ) : sProp 𝕄 := (xblk u).view.loc (c : Thread nD τ) ↦[(xblk u).view.set]{fullShare} X
/-- The rows' buffer as strip `u`'s transfer over contents `f` leaves it. -/
abbrev xlanded (u : ℕ) (f : Buf (Elt F) (xbM.view.loc (c : Thread nD τ))) : Buf (Elt F) (xbM.view.loc (c : Thread nD τ)) :=
  (xstrp u).view.writes (Elt F) f [⟨Rect.whole S32x8192, ReadAs.same.apply ((xblk u).view.read (Elt F) X)⟩]
abbrev xflightP (u : ℕ) (f : Buf (Elt F) (xbM.view.loc (c : Thread nD τ))) : sProp 𝕄 :=
  Transfers.Flight countersEmb (c : Thread nD τ) (SemLoc.dma (xsm u).sem) () (xstrp u).view.dmaCredit iprop(xstrP c u (xlanded c X u f) ∗ xhomeP c X u)
abbrev xflyP (u : ℕ) : sProp 𝕄 := iprop(∃ f, xflightP c X u f)
abbrev xdoneP (u : ℕ) : sProp 𝕄 := iprop(xcellP c u ∗ (∃ f, xstrP c u f) ∗ xhomeP c X u)

theorem xstrp_emb (u : ℕ) (x : S32x8192.Idx) : (xstrp u).view.emb x = ix2 (⟨32 * (u % 6) + (x 0).val, by have : (x 0).val < 32 := (x 0).isLt; omega⟩ : Fin 192) (x 1) := by
  funext k
  fin_cases k
  · apply Fin.ext; show 32 * (u % 6) + 1 * (x 0).val = 32 * (u % 6) + (x 0).val; omega
  · apply Fin.ext; show 0 + 1 * (x 1).val = (x 1).val; omega
theorem xblk_emb (u : ℕ) (x : S32x8192.Idx) : (xblk u).view.emb x = ix2 (⟨32 * (u % 6) + (x 0).val, by have : (x 0).val < 32 := (x 0).isLt; omega⟩ : Fin 192) (x 1) := by
  funext k
  fin_cases k
  · apply Fin.ext; show 32 * (u % 6) + 1 * (x 0).val = 32 * (u % 6) + (x 0).val; omega
  · apply Fin.ext; show 0 + 1 * (x 1).val = (x 1).val; omega

/-- What a transfer of strip `u` leaves in the strip. -/
theorem xlanded_at (u : ℕ) (f : Buf (Elt F) (xbM.view.loc (c : Thread nD τ))) (x : S32x8192.Idx) :
    xlanded c X u f ((xstrp u).view.emb x) = (X : XB F) (ix2 (⟨32 * (u % 6) + (x 0).val, by have : (x 0).val < 32 := (x 0).isLt; omega⟩ : Fin 192) (x 1)) := by
  have h : (xstrp u).view.read (Elt F) (xlanded c X u f) = (xblk u).view.read (Elt F) X := View.read_writes_whole (xstrp u).view f _
  have e1 : (xblk u).view.read (Elt F) X x = X ((xblk u).view.emb x) := rfl
  rw [xblk_emb] at e1
  have e2 : ∀ G : Buf (Elt F) (xbM.view.loc (c : Thread nD τ)), (xstrp u).view.read (Elt F) G x = G ((xstrp u).view.emb x) := fun _ => rfl
  exact (e2 _).symm.trans ((congrFun h x).trans e1)

theorem xg_eq (i : grid0.Coords) (k : Fin (k0_t1_loop i).trips) (f : Buf (Elt F) (xbM.view.loc (c : Thread nD τ))) :
    xg i k (xlanded c X k.val f) = xtile (F := F) X k.val := by
  have hk := lt_of_lt_of_eq k.isLt (trips1 i)
  funext n x
  have hx0 : (x 0).val < 32 := (x 0).isLt
  have hx1 : (x 1).val < 128 := (x 1).isLt
  have h2 := xlanded_at c X k.val f (ix2 ⟨(x 0).val, hx0⟩ ⟨128 * (n % 64) + (x 1).val, by omega⟩)
  unfold xtile
  refine Eq.trans ?_ h2
  unfold xg
  rw [View.readAt_apply]
  generalize xlanded c X k.val f = G
  have e : (Rect.unit (s := S192x8192) (qoff i k n) S32x128.size (inbq i k n)).toLoadRect.idx x = (xstrp k.val).view.emb (ix2 ⟨(x 0).val, hx0⟩ ⟨128 * (n % 64) + (x 1).val, by omega⟩) := by
    rw [xstrp_emb]
    obtain ⟨e0, e1⟩ := emb_q' i k n x
    funext a
    fin_cases a
    · apply Fin.ext; refine e0.trans ?_; show 32 * k.val + (x 0).val = 32 * (k.val % 6) + (x 0).val; omega
    · apply Fin.ext; exact e1
  exact congrArg G e

/-- Before trip `k`. -/
def inv1 (k : ℕ) (_ : Unit) : sProp 𝕄 :=
  iprop(∃ (fC : Buf (Elt F) (cdM.view.loc (c : Thread nD τ))) (fS : Buf (Elt F) (scM.view.loc (c : Thread nD τ))),
    ⌜(∀ y : S192x8192.Idx, (y 0).val < 32 * k → fC y = Cspec (F := F) X y) ∧ (∀ y : S192x128.Idx, (y 0).val < 32 * k → fS y = Sspec (F := F) X y)⌝
    ∗ (cdM.view.loc (c : Thread nD τ) ↦[cdM.view.set]{fullShare} fC) ∗ (scM.view.loc (c : Thread nD τ) ↦[scM.view.set]{fullShare} fS)
    ∗ (∃ W, owes (c : Thread nD τ) 0 W)
    ∗ bigSep (Finset.Ico k 6) (xflyP c X) ∗ bigSep (Finset.range k) (xdoneP c X))

variable (i : grid0.Coords) (arg5 : Memref sig .tc .vmem S192x18944 .f32) (harg5 : arg5.IsWhole) (arg7 : Memref sig .tc .vmem S1x192 .f32) (harg7 : arg7.IsWhole)

theorem x_open {k : ℕ} (hk : k < 6) : bigSep (Finset.Ico k 6) (xflyP c X) ⊢ iprop((∃ f, xflightP c X k f) ∗ bigSep (Finset.Ico (k + 1) 6) (xflyP c X)) := by
  rw [Ico_left (xflyP c X) hk]
theorem x_close {k : ℕ} : iprop(xdoneP c X k ∗ bigSep (Finset.range k) (xdoneP c X)) ⊢ bigSep (Finset.range (k + 1)) (xdoneP c X) := by
  rw [range_succ]

set_option maxHeartbeats 4000000 in
theorem step1 (arg0 : BitVec 32) (v82 : FVec F S192x256 .f32) (m2 : Mxu F) (k : Fin (k0_t1_loop i).trips) (s : Unit) :
    inv1 c X k.val s
      ⊢ wp frame (wpE (defs₀ (F := F)) 𝒱₀ (c : Thread nD τ) none) Set.univ
        (k0_t1_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 v82 m2 k s)
        (fun s' => inv1 c X (k.val + 1) s') := by
  have hi := i0 i
  have hk := lt_of_lt_of_eq k.isLt (trips1 i)
  unfold inv1
  iintro ⟨%fC, %fS, %HH, Hcd, Hsc, ⟨%W, HW⟩, HF, HD⟩
  obtain ⟨hC, hS⟩ := HH
  ihave HF := (x_open c X hk) $$ HF
  icases HF with ⟨⟨%f, Hf⟩, HF⟩
  sl_unfold [k0_t1_body]
  sl_exec_parts
  sl_step
  iexists _, _
  isplitr
  rotate_left
  · isplitl [Hcd]; · iexact Hcd
    isplitl [Hsc]; · iexact Hsc
    isplitl [HW]; · iexists _; iexact HW
    isplitl [HF]; · iexact HF
    iapply (x_close c X)
    isplitr [HD]
    · isplitl [Hf]; · iexact Hf
      isplitl [Hf_dst]; · iexists _; iexact Hf_dst
      iexact Hf_src
    · iexact HD
  · ipureintro
    have tq : ∀ n, xg i k (xlanded c X k.val (xstrp k.val).view.junk) n = xtile (F := F) X k.val n := congrFun (xg_eq c X i k _)
    have hf := field_run (pay5_run 44 (pay5_run 32 (pay5_run 20 (pay5_run 8 (pay4_run (tq 0) (tq 1) (tq 2) (tq 3) (tq 4) (tq 5) (tq 6) (tq 7) (tq 8)) (tq 9) (tq 10) (tq 11) (tq 12) (tq 13) (tq 14) (tq 15) (tq 16) (tq 17) (tq 18) (tq 19) (tq 20)) (tq 21) (tq 22) (tq 23) (tq 24) (tq 25) (tq 26) (tq 27) (tq 28) (tq 29) (tq 30) (tq 31) (tq 32)) (tq 33) (tq 34) (tq 35) (tq 36) (tq 37) (tq 38) (tq 39) (tq 40) (tq 41) (tq 42) (tq 43) (tq 44)) (tq 45) (tq 46) (tq 47) (tq 48) (tq 49) (tq 50) (tq 51) (tq 52) (tq 53) (tq 54) (tq 55) (tq 56)) (tq 57) (tq 58) (tq 59) (tq 60) (tq 61) (tq 62) (tq 63)
    exact ⟨codeL_post i k (F := F) X _ (xg_eq c X i k (xstrp k.val).view.junk) (congrArg (fun z => k0_pay17 (F := F) z k0_pay14) hf) fC hC, scale_post i k (F := F) X hf fS hS⟩
end Res1

end Cert.Proof.Kernel
-- ==== Proof.Inner.lean ====
/- The loops over a block's last three chunks: what holds before each trip, and that a trip keeps it. -/
module

public import proofs.«01_k».proof.Proof.Ring

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-- The block after, in flight until the last trip, which waits for it. -/
def nextP (c : Dev nD) (XW : Buf (Elt F) (wM.view.loc (c : Thread nD τ))) (b u : ℕ) : sProp 𝕄 :=
  if u < 3 then iprop(∃ f, flightP c XW b f) else iprop(slotP c b (ringT (F := F) XW b) ∗ homeP c XW b ∗ cellP c b)
theorem nextP_lt (c : Dev nD) (XW : Buf (Elt F) (wM.view.loc (c : Thread nD τ))) (b : ℕ) {u : ℕ} (h : u < 3) :
    nextP c XW b u = iprop(∃ f, flightP c XW b f) := if_pos h
theorem nextP_ge (c : Dev nD) (XW : Buf (Elt F) (wM.view.loc (c : Thread nD τ))) (b : ℕ) {u : ℕ} (h : ¬ u < 3) :
    nextP c XW b u = iprop(slotP c b (ringT (F := F) XW b) ∗ homeP c XW b ∗ cellP c b) := if_neg h

section Inner
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

/-- Before trip `u` of the loop over block `2 * k.val`'s chunks. -/
def inv4 (k : Fin (k0_t3_loop i).trips) (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (s : Mxu F) : sProp 𝕄 :=
  iprop(∃ fO fs, ⌜MS s 0 1 (fun q => some (tileW XW (2 * k.val) (8 * (u + 1)) q)) 0 fits_0_192 (accN XW C (2 * k.val) (8 * (u + 1))) 48 fits_48_192 none
      ∧ LP arg5 XW C fsc fwv fbv fO (1 ≤ k.val) (2 * k.val - 1) (64 * u) ∧ ((1 ≤ k.val) → fs = sT XW C (2 * k.val - 1))⌝
    ∗ tripRes c arg5 s1M q fO C fwv fbv fsc fs ∗ slotP c (2 * k.val) (ringT (F := F) XW (2 * k.val)) ∗ nextP c XW (2 * k.val + 1) u)

theorem cond4 : ∀ (i : grid0.Coords) (t : Fin (k0_t4_loop i).trips), k0_cond2 i t = 1#1 ↔ t.val = 2 := by decide +kernel

theorem step4 (k : Fin (k0_t3_loop i).trips) (v1202 : BitVec 32) (s0 : Mxu F) (v1408 c1 c0 v1413 : BitVec 32) (w : BitVec 32) (hw : w = BitVec.ofNat 32 (2 * k.val))
    (t : Fin (k0_t4_loop i).trips) (s : Mxu F) (q : PosShare TreeShare) (fwv fbv fsc) :
    inv4 c XW C i arg5 k q fwv fbv fsc t.val s
      ⊢ wp frame (wpE (defs₀ (F := F)) 𝒱₀ (c : Thread nD τ) none) Set.univ
        (k0_t4_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 k v1202 w s0 v1408 c1 c0 v1413 t s)
        (fun s' => inv4 c XW C i arg5 k q fwv fbv fsc (t.val + 1) s') := by
  subst hw
  have ht := lt_of_lt_of_eq t.isLt (trips4 i)
  unfold inv4
  iintro ⟨%fO, %fs, %H, HT, HS, HN⟩
  obtain ⟨H, L, hfs⟩ := H
  by_cases h2 : t.val = 2
  · ihave HN := (entails_of_eq (nextP_lt c XW (2 * k.val + 1) (show t.val < 3 by omega))) $$ HN
    icases HN with ⟨%fR, HN⟩
    iapply (wp_mono frame _ _ (fun s' => ?_)) $$ [HT HS HN]
    rotate_left
    · iapply (t4last c XW C i arg5 harg5 arg7 harg7 k v1202 s0 v1408 c1 c0 v1413 t h2 ((cond4 i t).mpr h2) s q fR fO fwv fbv fsc fs H)
      isplitl [HT]; · iexact HT
      isplitl [HS]; · iexact HS
      iexact HN
    · unfold post4
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_ge c XW (2 * k.val + 1) (show ¬ t.val + 1 < 3 by omega)).symm)
      iexact HN
  · ihave HN := (entails_of_eq (nextP_lt c XW (2 * k.val + 1) (show t.val < 3 by omega))) $$ HN
    iapply (wp_mono frame _ _ (fun s' => ?_)) $$ [HT HS HN]
    rotate_left
    · iapply (wp_frame_r frame _ _)
      isplitl [HT HS]
      · iapply (t4trip c XW C i arg5 harg5 arg7 harg7 k v1202 s0 v1408 c1 c0 v1413 t (by omega) (fun h => h2 ((cond4 i t).mp h)) s q fO fwv fbv fsc fs H)
        isplitl [HT]; · iexact HT
        iexact HS
      · iexact HN
    · unfold post4
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_lt c XW (2 * k.val + 1) (show t.val + 1 < 3 by omega)).symm)
      iexact HN

/-- Before trip `u` of the loop over block `2 * k.val + 1`'s chunks. -/
def inv6 (k : Fin (k0_t3_loop i).trips) (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (s : Mxu F) : sProp 𝕄 :=
  iprop(∃ fO fs, ⌜MS s 0 1 (fun q => some (tileW XW (2 * k.val + 1) (8 * (u + 1)) q)) 48 fits_48_192 (accN XW C (2 * k.val + 1) (8 * (u + 1))) 0 fits_0_192 none
      ∧ LP arg5 XW C fsc fwv fbv fO True (2 * k.val) (64 * u) ∧ (True → fs = sT XW C (2 * k.val))⌝
    ∗ tripRes c arg5 s0M q fO C fwv fbv fsc fs ∗ slotP c (2 * k.val + 1) (ringT (F := F) XW (2 * k.val + 1)) ∗ nextP c XW (2 * k.val + 2) u)

theorem cond6 : ∀ (i : grid0.Coords) (t : Fin (k0_t6_loop i).trips), k0_cond5 i t = 1#1 ↔ t.val = 2 := by decide +kernel

theorem step6 (k : Fin (k0_t3_loop i).trips) (arg0 : BitVec 32) (m5 : Mxu F) (v1623 : BitVec 32) (w : BitVec 32) (hw : w = BitVec.ofNat 32 (2 * k.val + 1))
    (t : Fin (k0_t6_loop i).trips) (s : Mxu F) (q : PosShare TreeShare) (fwv fbv fsc) :
    inv6 c XW C i arg5 k q fwv fbv fsc t.val s
      ⊢ wp frame (wpE (defs₀ (F := F)) 𝒱₀ (c : Thread nD τ) none) Set.univ
        (k0_t6_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k w v1623 t s)
        (fun s' => inv6 c XW C i arg5 k q fwv fbv fsc (t.val + 1) s') := by
  subst hw
  have ht := lt_of_lt_of_eq t.isLt (trips6 i)
  unfold inv6
  iintro ⟨%fO, %fs, %H, HT, HS, HN⟩
  obtain ⟨H, L, hfs⟩ := H
  by_cases h2 : t.val = 2
  · ihave HN := (entails_of_eq (nextP_lt c XW (2 * k.val + 2) (show t.val < 3 by omega))) $$ HN
    icases HN with ⟨%fR, HN⟩
    iapply (wp_mono frame _ _ (fun s' => ?_)) $$ [HT HS HN]
    rotate_left
    · iapply (t6last c XW C i arg5 harg5 arg7 harg7 k arg0 m5 v1623 t h2 ((cond6 i t).mpr h2) s q fR fO fwv fbv fsc fs H)
      isplitl [HT]; · iexact HT
      isplitl [HS]; · iexact HS
      iexact HN
    · unfold post6
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_ge c XW (2 * k.val + 2) (show ¬ t.val + 1 < 3 by omega)).symm)
      iexact HN
  · ihave HN := (entails_of_eq (nextP_lt c XW (2 * k.val + 2) (show t.val < 3 by omega))) $$ HN
    iapply (wp_mono frame _ _ (fun s' => ?_)) $$ [HT HS HN]
    rotate_left
    · iapply (wp_frame_r frame _ _)
      isplitl [HT HS]
      · iapply (t6trip c XW C i arg5 harg5 arg7 harg7 k arg0 m5 v1623 t (by omega) (fun h => h2 ((cond6 i t).mp h)) s q fO fwv fbv fsc fs H)
        isplitl [HT]; · iexact HT
        iexact HS
      · iexact HN
    · unfold post6
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_lt c XW (2 * k.val + 2) (show t.val + 1 < 3 by omega)).symm)
      iexact HN

end Inner

end Cert.Proof.Kernel
-- ==== Proof.T3.lean ====
/- One trip of the loop over the blocks, two blocks to a trip. -/
module

public import proofs.«01_k».proof.Proof.Inner

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-- Two halves stored side by side are the block of products. -/
theorem s_block {κ : Kind} {sp : Space} (v : View sig κ sp S192x512 .f32) (f : v.ty.Contents (Elt F)) (XW : WB F) (C : CodesB F) (b : ℕ)
    {i0 : ∀ a, (![0, 0] : Fin 2 → ℕ) a + S192x256.size a ≤ S192x512.size a} {i1 : ∀ a, (![0, 256] : Fin 2 → ℕ) a + S192x256.size a ≤ S192x512.size a}
    {x0 x1 : FVec F S192x256 .f32} (h0 : x0 = accE XW C b 0) (h1 : x1 = accE XW C b 1) :
    v.read (Elt F) (v.writes (Elt F) f [⟨Rect.unit (s := S192x512) ![0, 256] S192x256.size i1, k0_pay438 x1⟩, ⟨Rect.unit (s := S192x512) ![0, 0] S192x256.size i0, k0_pay437 x0⟩])
      = sT XW C b := by
  have e0 : k0_pay437 (F := F) x0 = accE XW C b 0 := (shapeCast_self _ _).trans h0
  have e1 : k0_pay438 (F := F) x1 = accE XW C b 1 := (shapeCast_self _ _).trans h1
  rw [e0, e1]
  funext y
  have hy0 : (y 0).val < 192 := (y 0).isLt
  have hy1 : (y 1).val < 512 := (y 1).isLt
  refine View.read_writes_apply_of_pieces _ _ (sT XW C b) _ (fun p hp x => ?_) y ?_
  · have hx : (x 1).val < 256 := by
      rcases List.mem_cons.mp hp with rfl | hp
      · exact (x 1).isLt
      · obtain rfl := List.mem_singleton.mp hp; exact (x 1).isLt
    rcases List.mem_cons.mp hp with rfl | hp
    · unfold sT
      have q : (⟨(((Rect.unit (s := S192x512) ![0, 256] S192x256.size i1).emb x) 1).val / 256, by have : (((Rect.unit (s := S192x512) ![0, 256] S192x256.size i1).emb x) 1).val < 512 := Fin.isLt _; omega⟩ : Fin 2) = 1 := by
        apply Fin.ext; show (256 + 1 * (x 1).val) / 256 = 1; omega
      rw [q]
      refine congrArg (accE XW C b 1) ?_
      funext a
      fin_cases a
      · apply Fin.ext; show (x 0).val = 0 + 1 * (x 0).val; omega
      · apply Fin.ext; show (x 1).val = (256 + 1 * (x 1).val) % 256; omega
    · obtain rfl := List.mem_singleton.mp hp
      unfold sT
      have q : (⟨(((Rect.unit (s := S192x512) ![0, 0] S192x256.size i0).emb x) 1).val / 256, by have : (((Rect.unit (s := S192x512) ![0, 0] S192x256.size i0).emb x) 1).val < 512 := Fin.isLt _; omega⟩ : Fin 2) = 0 := by
        apply Fin.ext; show (0 + 1 * (x 1).val) / 256 = 0; omega
      rw [q]
      refine congrArg (accE XW C b 0) ?_
      funext a
      fin_cases a
      · apply Fin.ext; show (x 0).val = 0 + 1 * (x 0).val; omega
      · apply Fin.ext; show (x 1).val = (0 + 1 * (x 1).val) % 256; omega
  · by_cases h : (y 1).val < 256
    · refine ⟨_, List.mem_cons_of_mem _ (List.mem_singleton.mpr rfl), ?_⟩
      rw [Rect.mem_set_unit]
      intro a
      fin_cases a
      · show 0 ≤ (y 0).val ∧ (y 0).val < 0 + 192; omega
      · show 0 ≤ (y 1).val ∧ (y 1).val < 0 + 256; omega
    · refine ⟨_, List.mem_cons_self, ?_⟩
      rw [Rect.mem_set_unit]
      intro a
      fin_cases a
      · show 0 ≤ (y 0).val ∧ (y 0).val < 0 + 192; omega
      · show 256 ≤ (y 1).val ∧ (y 1).val < 256 + 256; omega

/-! ## The first chunk's loads -/
section Loads3
variable (XW : WB F) (C : CodesB F) (i : grid0.Coords) (k : Fin (k0_t3_loop i).trips)

theorem inb142 (r : Fin 8) : ∀ a, k0_off142 (BitVec.ofNat 32 r.val) a + S192x256.size a ≤ S192x8192.size a := by
  intro a; rw [k0_off142_eq]; fin_cases a
  · show 0 + 192 ≤ 192; omega
  · show 256 * r.val + 256 ≤ 8192; omega
theorem inb143 (p : Fin 2) (r : Fin 7) : ∀ a, k0_off143 i k (BitVec.ofNat 32 p.val) (BitVec.ofNat 32 r.val) a + S1x256x256.size a ≤ S8x512x8192.size a := by
  intro a; rw [k0_off143_eq]; fin_cases a
  · show (2 * (i 0).val + 2 * k.val + p.val) % 8 + 1 ≤ 8; omega
  · show 0 + 256 ≤ 512; omega
  · show 256 * r.val + 256 + 256 ≤ 8192; omega
theorem inb144 (p : Fin 2) (r : Fin 7) : ∀ a, k0_off144 i k (BitVec.ofNat 32 p.val) (BitVec.ofNat 32 r.val) a + S1x256x256.size a ≤ S8x512x8192.size a := by
  intro a; rw [k0_off144_eq]; fin_cases a
  · show (2 * (i 0).val + 2 * k.val + p.val) % 8 + 1 ≤ 8; omega
  · show 256 + 256 ≤ 512; omega
  · show 256 * r.val + 256 + 256 ≤ 8192; omega
theorem inb145 (p : Fin 2) : ∀ a, k0_off145 i k (BitVec.ofNat 32 p.val) a + S1x256x256.size a ≤ S8x512x8192.size a := by
  intro a; rw [k0_off145_eq]; fin_cases a
  · show (2 * (i 0).val + 2 * k.val + p.val) % 8 + 1 ≤ 8; omega
  · show 0 + 256 ≤ 512; omega
  · show 2048 + 256 ≤ 8192; omega
theorem inb146 (p : Fin 2) : ∀ a, k0_off146 i k (BitVec.ofNat 32 p.val) a + S1x256x256.size a ≤ S8x512x8192.size a := by
  intro a; rw [k0_off146_eq]; fin_cases a
  · show (2 * (i 0).val + 2 * k.val + p.val) % 8 + 1 ≤ 8; omega
  · show 256 + 256 ≤ 512; omega
  · show 2048 + 256 ≤ 8192; omega

theorem lhs3 (r : Fin 8) : k0_pay190 (F := F) (cdM.view.readAt (Elt F) (Rect.unit (s := S192x8192) (k0_off142 (BitVec.ofNat 32 r.val)) S192x256.size (inb142 r)).toLoadRect C) = lhsC C r.val :=
  load_lhs C _ r.val (by omega) (k0_off142_eq r)

theorem til30 (p : Fin 2) (r : Fin 7) : k0_pay191 (F := F) (rgM.view.readAt (Elt F) (Rect.unit (s := S8x512x8192)
    (k0_off143 i k (BitVec.ofNat 32 p.val) (BitVec.ofNat 32 r.val)) S1x256x256.size (inb143 i k p r)).toLoadRect (ringT XW (2 * k.val + p.val))) = tileW XW (2 * k.val + p.val) (r.val + 1) 0 := by
  refine load_tile_of XW _ (2 * k.val + p.val) (r.val + 1) 0 ((k0_off143_eq i k p r).trans ?_) _ fun y _ => ?_
  · have := i0 i
    rw [show (2 * (i 0).val + 2 * k.val + p.val) % 8 = (2 * k.val + p.val + (r.val + 1) / 32) % 8 by omega, show 256 * r.val + 256 = 256 * ((r.val + 1) % 32) by omega]; rfl
  · rw [show 2 * k.val + p.val + (r.val + 1) / 32 = 2 * k.val + p.val by omega]
theorem til31 (p : Fin 2) (r : Fin 7) : k0_pay191 (F := F) (rgM.view.readAt (Elt F) (Rect.unit (s := S8x512x8192)
    (k0_off144 i k (BitVec.ofNat 32 p.val) (BitVec.ofNat 32 r.val)) S1x256x256.size (inb144 i k p r)).toLoadRect (ringT XW (2 * k.val + p.val))) = tileW XW (2 * k.val + p.val) (r.val + 1) 1 := by
  refine load_tile_of XW _ (2 * k.val + p.val) (r.val + 1) 1 ((k0_off144_eq i k p r).trans ?_) _ fun y _ => ?_
  · have := i0 i
    rw [show (2 * (i 0).val + 2 * k.val + p.val) % 8 = (2 * k.val + p.val + (r.val + 1) / 32) % 8 by omega, show 256 * r.val + 256 = 256 * ((r.val + 1) % 32) by omega]; rfl
  · rw [show 2 * k.val + p.val + (r.val + 1) / 32 = 2 * k.val + p.val by omega]
theorem til3x0 (p : Fin 2) : k0_pay191 (F := F) (rgM.view.readAt (Elt F) (Rect.unit (s := S8x512x8192)
    (k0_off145 i k (BitVec.ofNat 32 p.val)) S1x256x256.size (inb145 i k p)).toLoadRect (ringT XW (2 * k.val + p.val))) = tileW XW (2 * k.val + p.val) 8 0 := by
  refine load_tile_of XW _ (2 * k.val + p.val) 8 0 ((k0_off145_eq i k p).trans ?_) _ fun y _ => rfl
  have := i0 i
  rw [show (2 * (i 0).val + 2 * k.val + p.val) % 8 = (2 * k.val + p.val + 8 / 32) % 8 by omega]; rfl
theorem til3x1 (p : Fin 2) : k0_pay191 (F := F) (rgM.view.readAt (Elt F) (Rect.unit (s := S8x512x8192)
    (k0_off146 i k (BitVec.ofNat 32 p.val)) S1x256x256.size (inb146 i k p)).toLoadRect (ringT XW (2 * k.val + p.val))) = tileW XW (2 * k.val + p.val) 8 1 := by
  refine load_tile_of XW _ (2 * k.val + p.val) 8 1 ((k0_off146_eq i k p).trans ?_) _ fun y _ => rfl
  have := i0 i
  rw [show (2 * (i 0).val + 2 * k.val + p.val) % 8 = (2 * k.val + p.val + 8 / 32) % 8 by omega]; rfl
end Loads3

section T3
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

/-- The ring's first block not started, as block `b` begins. -/
def hiA (b : ℕ) : ℕ := if b = 0 then 8 else min 37 (b + 7)

/-- Before trip `k`. -/
def inv3 (q : PosShare TreeShare) (fwv : Buf (Elt F) (wvM.view.loc (c : Thread nD τ))) (fbv : Buf (Elt F) (bvM.view.loc (c : Thread nD τ)))
    (fsc : Buf (Elt F) (scM.view.loc (c : Thread nD τ))) (k : ℕ) (s : Mxu F) : sProp 𝕄 :=
  iprop(∃ fO fs0 fs1, ⌜MS s 0 1 (fun q => some (tileW XW (2 * k) 0 q)) 0 fits_0_192 none 48 fits_48_192 (if k = 0 then none else some (accE XW C (2 * k - 1)))
      ∧ LP arg5 XW C fsc fwv fbv fO (1 ≤ k) (2 * k - 1) 0⌝
    ∗ tripRes c arg5 s0M q fO C fwv fbv fsc fs0 ∗ (s1M.view.loc (c : Thread nD τ) ↦[s1M.view.set]{fullShare} fs1)
    ∗ slotP c (2 * k) (ringT (F := F) XW (2 * k)) ∗ ringS c XW (2 * k) (hiA (2 * k)))

def hiB (b : ℕ) : ℕ := min 37 (b + 8)

theorem word4 : ∀ (i : grid0.Coords) (k : Fin (k0_t3_loop i).trips), Scalar.addi (Scalar.muli 2#32 (Scalar.addi 0#32 (Scalar.muli (Scf.iv 0#32 1#32 k) 1#32))) 0#32 = BitVec.ofNat 32 (2 * k.val) := by decide +kernel

theorem word6 : ∀ (i : grid0.Coords) (k : Fin (k0_t3_loop i).trips), Scalar.addi (Scalar.muli 2#32 (Scalar.addi 0#32 (Scalar.muli (Scf.iv 0#32 1#32 k) 1#32))) 1#32 = BitVec.ofNat 32 (2 * k.val + 1) := by decide +kernel

theorem cond1 : ∀ (i : grid0.Coords) (k : Fin (k0_t3_loop i).trips), k0_cond1 i k = 1#1 ↔ 1 ≤ k.val ∧ k.val ≤ 14 := by decide +kernel
theorem cond4' : ∀ (i : grid0.Coords) (k : Fin (k0_t3_loop i).trips), k0_cond4 i k = 1#1 ↔ k.val ≤ 14 := by decide +kernel

set_option maxHeartbeats 4000000 in
theorem t3trip (arg0 : BitVec 32) (ha : arg0 = 0#32) (m5 : Mxu F) (k : Fin (k0_t3_loop i).trips) (s : Mxu F) (q : PosShare TreeShare) (fwv fbv fsc) :
    inv3 c XW C arg5 q fwv fbv fsc k.val s
      ⊢ wp frame (wpE (defs₀ (F := F)) 𝒱₀ (c : Thread nD τ) none) Set.univ
        (k0_t3_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k s)
        (fun s' => inv3 c XW C arg5 q fwv fbv fsc (k.val + 1) s') := by
  have hi := i0 i
  have hk := lt_of_lt_of_eq k.isLt (trips3 i)
  subst ha
  unfold inv3 tripRes
  iintro ⟨%fO, %fs0, %fs1, %HH, ⟨HO, Hcd, Hwv, Hbv, Hsc, Hs0, ⟨%W, HW⟩⟩, Hs1, HR, HG⟩
  obtain ⟨H, L⟩ := HH
  have hs := H.emp
  sl_unfold [k0_t3_body]
  rcases (show k.val = 0 ∨ (1 ≤ k.val ∧ k.val ≤ 14) ∨ 15 ≤ k.val by omega) with h0 | h0 | h0
  case' inl =>
    have h1 : ¬ k0_cond1 i k = 1#1 := fun h => absurd ((cond1 i k).mp h) (by omega)
    have hh : hiA (2 * k.val) = hiB (2 * k.val) := by unfold hiA hiB; rw [if_pos (by omega)]; omega
    ihave HG := (entails_of_eq (congrArg (ringS c XW (2 * k.val)) hh)) $$ HG
    sl_exec_parts (disch := first | assumption | (mxu_pushok_peel; done) | (mxu_pushok_peel; exact Mxu.pushOk_of_none _ _ _ _ (hs _)))
  case' inr.inl =>
    have h1 : k0_cond1 i k = 1#1 := (cond1 i k).mpr h0
    have hb : 2 * k.val + 7 < 37 := by omega
    have hh : hiA (2 * k.val) = 2 * k.val + 7 := by unfold hiA; rw [if_neg (by omega)]; omega
    have hh' : 2 * k.val + 7 + 1 = hiB (2 * k.val) := by unfold hiB; omega
    ihave HG := ((entails_of_eq (congrArg (ringS c XW (2 * k.val)) hh)).trans (ring_open c XW hb (by omega))) $$ HG
    icases HG with ⟨Hc, ⟨%fr, Hr⟩, Hh, HG⟩
    sl_exec_parts (disch := first | assumption | (mxu_pushok_peel; done) | (mxu_pushok_peel; exact Mxu.pushOk_of_none _ _ _ _ (hs _)))
    ihave HG := ((ring_close c XW (b := 2 * k.val) (h := 2 * k.val + 7) (by omega) fr).trans (entails_of_eq (congrArg (ringS c XW (2 * k.val)) hh'))) $$ [Hc HG]
    · isplitl [Hc]; · iexact Hc
      iexact HG
  case' inr.inr =>
    have h1 : ¬ k0_cond1 i k = 1#1 := fun h => absurd ((cond1 i k).mp h) (by omega)
    have hh : hiA (2 * k.val) = hiB (2 * k.val) := by unfold hiA hiB; rw [if_neg (by omega)]; omega
    ihave HG := (entails_of_eq (congrArg (ringS c XW (2 * k.val)) hh)) $$ HG
    sl_exec_parts (disch := first | assumption | (mxu_pushok_peel; done) | (mxu_pushok_peel; exact Mxu.pushOk_of_none _ _ _ _ (hs _)))
  all_goals
    ihave HG := (ring_take c XW (b := 2 * k.val) (h := hiB (2 * k.val)) (by unfold hiB; omega)) $$ HG
    icases HG with ⟨HF, HG⟩
    sl_for (inv4 c XW C i arg5 k q fwv fbv fsc) $$ [HO Hcd Hwv Hbv Hsc HW Hs1 HR HF]
    case region =>
      intro t s'
      exact step4 c XW C i arg5 harg5 arg7 harg7 k _ _ _ _ _ _ _ (word4 i k) t s' q fwv fbv fsc
    · unfold inv4 tripRes
      iexists fO, _
      isplitr [HO Hcd Hwv Hbv Hsc HW Hs1 HR HF]
      rotate_left
      · isplitr [HR HF]
        · isplitl [HO]; · iexact HO
          isplitl [Hcd]; · iexact Hcd
          isplitl [Hwv]; · iexact Hwv
          isplitl [Hbv]; · iexact Hbv
          isplitl [Hsc]; · iexact Hsc
          isplitl [Hs1]; · iexact Hs1
          iexists W; iexact HW
        · isplitl [HR]; · iexact HR
          iapply (entails_of_eq (nextP_lt c XW (2 * k.val + 1) (show 0 < 3 by omega)).symm)
          iexact HF
      · ipureintro
        have H5 := five_MS XW C (2 * k.val) (by decide) H (lhs3 C 0) (lhs3 C 1) (lhs3 C 2)
          (lhs3 C 3) (lhs3 C 4)
          (til30 XW i k 0 0) (til31 XW i k 0 0) (til30 XW i k 0 1) (til31 XW i k 0 1) (til30 XW i k 0 2) (til31 XW i k 0 2)
          (til30 XW i k 0 3) (til31 XW i k 0 3) (til30 XW i k 0 4) (til31 XW i k 0 4)
        refine ⟨three_MS XW C (2 * k.val) (by decide) H5 (lhs3 C 5) (lhs3 C 6) (lhs3 C 7)
          (til30 XW i k 0 5) (til31 XW i k 0 5) (til30 XW i k 0 6) (til31 XW i k 0 6) (til3x0 XW i k 0) (til3x1 XW i k 0), L, fun hl => ?_⟩
        rw [if_neg (by omega)] at H5
        exact s_block s1M.view _ XW C (2 * k.val - 1) H5.read0 H5.read1
    irw [show Scf.trips (k0_t4_loop i).lb (k0_t4_loop i).ub (k0_t4_loop i).st = 3 from trips4 i]
    unfold inv4 tripRes
    iintro %s1 ⟨%fO1, %fs1a, %HH1, ⟨HO, Hcd, Hwv, Hbv, Hsc, Hs1, ⟨%W1, HW⟩⟩, HR, HN⟩
    obtain ⟨H1, L1, -⟩ := HH1
    ihave HN := (entails_of_eq (nextP_ge c XW (2 * k.val + 1) (show ¬ 3 < 3 by omega))) $$ HN
    icases HN with ⟨HR1, Hh1, Hc1⟩
    ihave HG := (ring_put c XW (b := 2 * k.val) (h := hiB (2 * k.val)) (by unfold hiB; omega) (ringT (F := F) XW (2 * k.val))) $$ [Hh1 Hc1 HR HG]
    · isplitl [Hh1]; · iexact Hh1
      isplitl [Hc1]; · iexact Hc1
      isplitl [HR]; · iexact HR
      iexact HG
    have H2 := H1.swap
    simp only [show 8 * (3 + 1) = 32 from rfl, tileW_next, accN_32] at H2
    have L2 := L1.next4
    have hs1 := H2.emp
    rcases Nat.lt_or_ge 14 k.val with hl | hr
  any_goals (exfalso; omega)
  all_goals first
  | (
      have h4 : ¬ k0_cond4 i k = 1#1 := fun h => absurd ((cond4' i k).mp h) (by omega)
      have hh : hiB (2 * k.val) = hiB (2 * k.val + 1) := by unfold hiB; omega
      ihave HG := (entails_of_eq (congrArg (ringS c XW (2 * k.val + 1)) hh)) $$ HG
      sl_exec_parts (disch := first | assumption | (mxu_pushok_peel; done) | (mxu_pushok_peel; exact Mxu.pushOk_of_none _ _ _ _ (hs1 _))))
  | (
      have h4 : k0_cond4 i k = 1#1 := (cond4' i k).mpr hr
      have hb : 2 * k.val + 8 < 37 := by omega
      have hh : hiB (2 * k.val) = 2 * k.val + 8 := by unfold hiB; omega
      have hh' : 2 * k.val + 8 + 1 = hiB (2 * k.val + 1) := by unfold hiB; omega
      ihave HG := ((entails_of_eq (congrArg (ringS c XW (2 * k.val + 1)) hh)).trans (ring_open c XW hb (by omega))) $$ HG
      icases HG with ⟨Hc, ⟨%fr, Hr⟩, Hh, HG⟩
      sl_exec_parts (disch := first | assumption | (mxu_pushok_peel; done) | (mxu_pushok_peel; exact Mxu.pushOk_of_none _ _ _ _ (hs1 _)))
      ihave HG := ((ring_close c XW (b := 2 * k.val + 1) (h := 2 * k.val + 8) (by omega) fr).trans (entails_of_eq (congrArg (ringS c XW (2 * k.val + 1)) hh'))) $$ [Hc HG]
      · isplitl [Hc]; · iexact Hc
        iexact HG)
  all_goals
    ihave HG := (ring_take c XW (b := 2 * k.val + 1) (h := hiB (2 * k.val + 1)) (by unfold hiB; omega)) $$ HG
    icases HG with ⟨HF, HG⟩
    sl_for (inv6 c XW C i arg5 k q fwv fbv fsc) $$ [HO Hcd Hwv Hbv Hsc HW Hs0 HR1 HF]
    case region =>
      intro t s'
      exact step6 c XW C i arg5 harg5 arg7 harg7 k _ _ _ _ (word6 i k) t s' q fwv fbv fsc
    · unfold inv6 tripRes
      iexists fO1, _
      isplitr [HO Hcd Hwv Hbv Hsc HW Hs0 HR1 HF]
      rotate_left
      · isplitr [HR1 HF]
        · isplitl [HO]; · iexact HO
          isplitl [Hcd]; · iexact Hcd
          isplitl [Hwv]; · iexact Hwv
          isplitl [Hbv]; · iexact Hbv
          isplitl [Hsc]; · iexact Hsc
          isplitl [Hs0]; · iexact Hs0
          iexists W1; iexact HW
        · isplitl [HR1]; · iexact HR1
          iapply (entails_of_eq (nextP_lt c XW (2 * k.val + 2) (show 0 < 3 by omega)).symm)
          iexact HF
      · ipureintro
        have H5 := five_MS XW C (2 * k.val + 1) (by decide) H2 (lhs3 C 0) (lhs3 C 1) (lhs3 C 2) (lhs3 C 3) (lhs3 C 4)
          (til30 XW i k 1 0) (til31 XW i k 1 0) (til30 XW i k 1 1) (til31 XW i k 1 1) (til30 XW i k 1 2) (til31 XW i k 1 2)
          (til30 XW i k 1 3) (til31 XW i k 1 3) (til30 XW i k 1 4) (til31 XW i k 1 4)
        refine ⟨three_MS XW C (2 * k.val + 1) (by decide) H5 (lhs3 C 5) (lhs3 C 6) (lhs3 C 7)
          (til30 XW i k 1 5) (til31 XW i k 1 5) (til30 XW i k 1 6) (til31 XW i k 1 6) (til3x0 XW i k 1) (til3x1 XW i k 1), L2, fun hl => ?_⟩
        exact s_block s0M.view _ XW C (2 * k.val) H5.read0 H5.read1
    irw [show Scf.trips (k0_t6_loop i).lb (k0_t6_loop i).ub (k0_t6_loop i).st = 3 from trips6 i]
    unfold inv6 tripRes
    iintro %s2 ⟨%fO2, %fs0a, %HH2, ⟨HO, Hcd, Hwv, Hbv, Hsc, Hs0, ⟨%W2, HW⟩⟩, HR1, HN⟩
    obtain ⟨H3, L3, -⟩ := HH2
    ihave HN := (entails_of_eq (nextP_ge c XW (2 * k.val + 2) (show ¬ 3 < 3 by omega))) $$ HN
    icases HN with ⟨HR2, Hh2, Hc2⟩
    ihave HG := (ring_put c XW (b := 2 * k.val + 1) (h := hiB (2 * k.val + 1)) (by unfold hiB; omega) (ringT (F := F) XW (2 * k.val + 1))) $$ [Hh2 Hc2 HR1 HG]
    · isplitl [Hh2]; · iexact Hh2
      isplitl [Hc2]; · iexact Hc2
      isplitl [HR1]; · iexact HR1
      iexact HG
    sl_exec_parts (disch := first | assumption | (mxu_pushok_peel; done) | (mxu_pushok_peel; exact Mxu.pushOk_of_none _ _ _ _ (hs1 _)))
    have H4 := H3.swap
    simp only [show 8 * (3 + 1) = 32 from rfl, tileW_next, accN_32] at H4
    iexists fO2, fs0a, fs1a
    isplitr [HO Hcd Hwv Hbv Hsc HW Hs0 Hs1 HR2 HG]
    · ipureintro
      rw [if_neg (by omega)]
      exact ⟨H4, L3.next6⟩
    isplitr [Hs1 HR2 HG]
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists W2; iexact HW
    isplitl [Hs1]; · iexact Hs1
    isplitl [HR2]; · iexact HR2
    iapply (entails_of_eq (congrArg (ringS c XW (2 * k.val + 1 + 1)) (show hiB (2 * k.val + 1) = hiA (2 * k.val + 1 + 1) by unfold hiA hiB; rw [if_neg (by omega)])))
    iexact HG

end T3

end Cert.Proof.Kernel
-- ==== Proof.T13.lean ====
/- The loop over the last block's chunks, and the loop of the last select. -/
module

public import proofs.«01_k».proof.Proof.T3

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

theorem trips13 (i : grid0.Coords) : (k0_t13_loop i).trips = 2 := by
  have h : ∀ i : grid0.Coords, (k0_t13_loop i).trips = 2 := by decide +kernel
  exact h i
theorem trips15 (i : grid0.Coords) : (k0_t15_loop i).trips = 3 := by
  have h : ∀ i : grid0.Coords, (k0_t15_loop i).trips = 3 := by decide +kernel
  exact h i

section Loads
variable (XW : WB F) (C : CodesB F) (i : grid0.Coords) (t : Fin (k0_t13_loop i).trips)

theorem lhs13 (r : Fin 8) (inb) :
    k0_pay190 (F := F) (cdM.view.readAt (Elt F) (Rect.unit (s := S192x8192) (k0_off286 i t (BitVec.ofNat 32 r.val)) S192x256.size inb).toLoadRect C)
      = lhsC C (8 * (t.val + 1) + r.val) := by
  have hi := i0 i; have ht := lt_of_lt_of_eq t.isLt (trips13 i)
  exact load_lhs C inb _ (by omega) ((k0_off286_eq i t r).trans (congrArg (fun z => ![0, z]) (by omega)))

theorem tile130 (r : Fin 7) (inb) :
    k0_pay191 (F := F) (rgM.view.readAt (Elt F) (Rect.unit (s := S8x512x8192) (k0_off287 i t (BitVec.ofNat 32 r.val)) S1x256x256.size inb).toLoadRect (ringT (F := F) XW 36))
      = tileW XW 36 (8 * (t.val + 1) + r.val + 1) 0 := by
  have hi := i0 i; have ht := lt_of_lt_of_eq t.isLt (trips13 i)
  have hz : (8 * (t.val + 1) + r.val + 1) / 32 = 0 := by omega
  have h := load_tile XW inb 36 (8 * (t.val + 1) + r.val + 1) 0 ((k0_off287_eq i t r).trans (by
    rw [hz]; exact congrArg (fun z => ![4, 0, z]) (by omega)))
  rw [hz] at h; exact h

theorem tile131 (r : Fin 7) (inb) :
    k0_pay191 (F := F) (rgM.view.readAt (Elt F) (Rect.unit (s := S8x512x8192) (k0_off288 i t (BitVec.ofNat 32 r.val)) S1x256x256.size inb).toLoadRect (ringT (F := F) XW 36))
      = tileW XW 36 (8 * (t.val + 1) + r.val + 1) 1 := by
  have hi := i0 i; have ht := lt_of_lt_of_eq t.isLt (trips13 i)
  have hz : (8 * (t.val + 1) + r.val + 1) / 32 = 0 := by omega
  have h := load_tile XW inb 36 (8 * (t.val + 1) + r.val + 1) 1 ((k0_off288_eq i t r).trans (by
    rw [hz]; exact congrArg (fun z => ![4, 256, z]) (by omega)))
  rw [hz] at h; exact h

theorem tile13x0 (inb) :
    k0_pay191 (F := F) (rgM.view.readAt (Elt F) (Rect.unit (s := S8x512x8192) (k0_off296 i t) S1x256x256.size inb).toLoadRect (ringT (F := F) XW 36))
      = tileW XW 36 (8 * (t.val + 1) + 8) 0 := by
  have hi := i0 i; have ht := lt_of_lt_of_eq t.isLt (trips13 i)
  have hz : (8 * (t.val + 1) + 8) / 32 = 0 := by omega
  have h := load_tile XW inb 36 (8 * (t.val + 1) + 8) 0 ((k0_off296_eq i t).trans
    (congrArg₂ (fun y z => ![y, 0, z]) (by omega) (by omega)))
  rw [hz] at h; exact h

theorem tile13x1 (inb) :
    k0_pay191 (F := F) (rgM.view.readAt (Elt F) (Rect.unit (s := S8x512x8192) (k0_off297 i t) S1x256x256.size inb).toLoadRect (ringT (F := F) XW 36))
      = tileW XW 36 (8 * (t.val + 1) + 8) 1 := by
  have hi := i0 i; have ht := lt_of_lt_of_eq t.isLt (trips13 i)
  have hz : (8 * (t.val + 1) + 8) / 32 = 0 := by omega
  have h := load_tile XW inb 36 (8 * (t.val + 1) + 8) 1 ((k0_off297_eq i t).trans
    (congrArg₂ (fun y z => ![y, 256, z]) (by omega) (by omega)))
  rw [hz] at h; exact h

/-- The rows of products a tile of the select reads. -/
def offs13 (r₁ r₂ : ℕ) : Fin 2 → ℕ := match r₂ with
  | 0 => k0_off291 i t (BitVec.ofNat 32 r₁)
  | 1 => k0_off293 i t (BitVec.ofNat 32 r₁)
  | 2 => k0_off294 i t (BitVec.ofNat 32 r₁)
  | _ => k0_off295 i t (BitVec.ofNat 32 r₁)
theorem offs13_eq (r₁ : Fin 8) (r₂ : Fin 4) : offs13 i t r₁ r₂ = ![64 * t.val + 8 * r₁.val, 128 * r₂.val] := by
  have hi := i0 i
  fin_cases r₂
  · exact (k0_off291_eq i t r₁).trans (vec2 (by omega))
  · exact (k0_off293_eq i t r₁).trans (vec2 (by omega))
  · exact (k0_off294_eq i t r₁).trans (vec2 (by omega))
  · exact (k0_off295_eq i t r₁).trans (vec2 (by omega))
theorem off289_eq (r₁ : Fin 8) : k0_off289 i t (BitVec.ofNat 32 r₁) = ![64 * t.val + 8 * r₁.val, 0] :=
  (k0_off289_eq i t r₁).trans (vec2 (by have := i0 i; omega))
theorem off290_eq (r₂ : Fin 4) : k0_off290 (BitVec.ofNat 32 r₂) = ![140 + r₂.val, 0] :=
  (k0_off290_eq r₂).trans (vec2 (by omega))
theorem off292_eq (r₁ : Fin 8) (r₂ : Fin 4) : k0_off292 i t (BitVec.ofNat 32 r₁) (BitVec.ofNat 32 r₂) = ![64 * t.val + 8 * r₁.val, 128 * (140 + r₂.val)] := by
  have hi := i0 i
  exact (k0_off292_eq i t r₁ r₂).trans (congrArg₂ (fun y z => ![y, z]) (by omega) (by omega))
variable (u : Fin (k0_t15_loop i).trips)
/-- The rows of products a tile of the last select reads. -/
def offs15 (r₁ r₂ : ℕ) : Fin 2 → ℕ := match r₂ with
  | 0 => k0_off335 i u (BitVec.ofNat 32 r₁)
  | 1 => k0_off337 i u (BitVec.ofNat 32 r₁)
  | 2 => k0_off338 i u (BitVec.ofNat 32 r₁)
  | _ => k0_off339 i u (BitVec.ofNat 32 r₁)
theorem offs15_eq (r₁ : Fin 8) (r₂ : Fin 4) : offs15 i u r₁ r₂ = ![64 * u.val + 8 * r₁.val, 128 * r₂.val] := by
  have hi := i0 i
  fin_cases r₂
  · exact (k0_off335_eq i u r₁).trans (vec2 (by omega))
  · exact (k0_off337_eq i u r₁).trans (vec2 (by omega))
  · exact (k0_off338_eq i u r₁).trans (vec2 (by omega))
  · exact (k0_off339_eq i u r₁).trans (vec2 (by omega))
theorem off333_eq (r₁ : Fin 8) : k0_off333 i u (BitVec.ofNat 32 r₁) = ![64 * u.val + 8 * r₁.val, 0] :=
  (k0_off333_eq i u r₁).trans (vec2 (by have := i0 i; omega))
theorem off334_eq (r₂ : Fin 4) : k0_off334 (BitVec.ofNat 32 r₂) = ![144 + r₂.val, 0] :=
  (k0_off334_eq r₂).trans (vec2 (by omega))
theorem off336_eq (r₁ : Fin 8) (r₂ : Fin 4) : k0_off336 i u (BitVec.ofNat 32 r₁) (BitVec.ofNat 32 r₂) = ![64 * u.val + 8 * r₁.val, 128 * (144 + r₂.val)] := by
  have hi := i0 i
  exact (k0_off336_eq i u r₁ r₂).trans (congrArg₂ (fun y z => ![y, z]) (by omega) (by omega))
end Loads

section T13
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

theorem sel13 (t : Fin (k0_t13_loop i).trips) (fO fs fsc fwv fbv) :
    ∃ (io : _) (ix : _) (iw : _) (is : _),
    SelPost (F := F) arg5 fO (arg5.view.writes (Elt F) fO (selL 1#1 s1M.view fs fsc fwv fbv
        (fun r₁ r₂ => k0_off292 i t (BitVec.ofNat 32 r₁) (BitVec.ofNat 32 r₂)) (fun r => k0_off289 i t (BitVec.ofNat 32 r))
        (fun r => k0_off290 (BitVec.ofNat 32 r)) (offs13 i t) io ix iw is)) True fs fsc fwv fbv (64 * t.val) 140 := by
  have ht := lt_of_lt_of_eq t.isLt (trips13 i)
  exact ⟨inb_o (off := fun r₁ r₂ => k0_off292 i t (BitVec.ofNat 32 r₁) (BitVec.ofNat 32 r₂)) (R := 64 * t.val) (T := 140) (by omega) (by omega) (off292_eq i t), inb_x (off := fun r => k0_off289 i t (BitVec.ofNat 32 r)) (R := 64 * t.val) (by omega) (off289_eq i t), inb_w (off := fun r => k0_off290 (BitVec.ofNat 32 r)) (T := 140) (by omega) off290_eq, inb_s (off := offs13 i t) (R := 64 * t.val) (by omega) (offs13_eq i t),
    selL_post arg5 fO 1#1 s1M.view fs fsc fwv fbv _ _ _ _ _ _ _ _ _ _ True (fun _ => rfl) (by omega) (off292_eq i t) (off289_eq i t) off290_eq (offs13_eq i t)⟩

theorem sel15 (t : Fin (k0_t15_loop i).trips) (fO fs fsc fwv fbv) :
    ∃ (io : _) (ix : _) (iw : _) (is : _),
    SelPost (F := F) arg5 fO (arg5.view.writes (Elt F) fO (selL 1#1 s0M.view fs fsc fwv fbv
        (fun r₁ r₂ => k0_off336 i t (BitVec.ofNat 32 r₁) (BitVec.ofNat 32 r₂)) (fun r => k0_off333 i t (BitVec.ofNat 32 r))
        (fun r => k0_off334 (BitVec.ofNat 32 r)) (offs15 i t) io ix iw is)) True fs fsc fwv fbv (64 * t.val) 144 := by
  have ht := lt_of_lt_of_eq t.isLt (trips15 i)
  exact ⟨inb_o (off := fun r₁ r₂ => k0_off336 i t (BitVec.ofNat 32 r₁) (BitVec.ofNat 32 r₂)) (R := 64 * t.val) (T := 144) (by omega) (by omega) (off336_eq i t), inb_x (off := fun r => k0_off333 i t (BitVec.ofNat 32 r)) (R := 64 * t.val) (by omega) (off333_eq i t), inb_w (off := fun r => k0_off334 (BitVec.ofNat 32 r)) (T := 144) (by omega) off334_eq, inb_s (off := offs15 i t) (R := 64 * t.val) (by omega) (offs15_eq i t),
    selL_post arg5 fO 1#1 s0M.view fs fsc fwv fbv _ _ _ _ _ _ _ _ _ _ True (fun _ => rfl) (by omega) (off336_eq i t) (off333_eq i t) off334_eq (offs15_eq i t)⟩

/-- Before trip `u` of the loop over the last block's chunks. -/
def inv13 (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (s : Mxu F) : sProp 𝕄 :=
  iprop(∃ fO fs, ⌜MS s 0 1 (fun q => some (tileW XW 36 (8 * (u + 1)) q)) 0 fits_0_192 (accN XW C 36 (8 * (u + 1))) 48 fits_48_192 none
      ∧ LP arg5 XW C fsc fwv fbv fO True 35 (64 * u) ∧ (True → fs = sT XW C 35)⌝
    ∗ tripRes c arg5 s1M q fO C fwv fbv fsc fs ∗ slotP c 36 (ringT (F := F) XW 36))

set_option maxHeartbeats 1000000 in
theorem step13 (arg0 : BitVec 32) (m : Mxu F) (a b d : BitVec 32)
    (t : Fin (k0_t13_loop i).trips) (s : Mxu F) (q : PosShare TreeShare) (fwv fbv fsc) :
    inv13 c XW C arg5 q fwv fbv fsc t.val s
      ⊢ wp frame (wpE (defs₀ (F := F)) 𝒱₀ (c : Thread nD τ) none) Set.univ
        (k0_t13_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m a b d t s)
        (fun s' => inv13 c XW C arg5 q fwv fbv fsc (t.val + 1) s') := by
  have hi := i0 i
  have ht := lt_of_lt_of_eq t.isLt (trips13 i)
  unfold inv13 tripRes
  iintro ⟨%fO, %fs, %HH, ⟨HO, Hcd, Hwv, Hbv, Hsc, Hs1, ⟨%W, HW⟩⟩, HR⟩
  obtain ⟨H, L, hfs⟩ := HH
  have hs := H.emp
  sl_unfold [k0_t13_body]
  sl_exec_parts (disch := first | assumption | (mxu_pushok_peel; done) | (mxu_pushok_peel; exact Mxu.pushOk_of_none _ _ _ _ (hs _)))
  sl_step
  iexists _, fs
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs1]; · iexact Hs1
      iexists W; iexact HW
    · iexact HR
  · ipureintro
    refine ⟨?_, ?_, hfs⟩
    · exact st8_MS XW C 36 (8 * (t.val + 1)) (by decide) H
        (lhs13 C i t 0 _) (lhs13 C i t 1 _) (lhs13 C i t 2 _) (lhs13 C i t 3 _) (lhs13 C i t 4 _) (lhs13 C i t 5 _) (lhs13 C i t 6 _) (lhs13 C i t 7 _)
        (tile130 XW i t 0 _) (tile131 XW i t 0 _) (tile130 XW i t 1 _) (tile131 XW i t 1 _) (tile130 XW i t 2 _) (tile131 XW i t 2 _)
        (tile130 XW i t 3 _) (tile131 XW i t 3 _) (tile130 XW i t 4 _) (tile131 XW i t 4 _) (tile130 XW i t 5 _) (tile131 XW i t 5 _)
        (tile130 XW i t 6 _) (tile131 XW i t 6 _) (tile13x0 XW i t _) (tile13x1 XW i t _)
    · obtain ⟨io, ix, iw, is, h⟩ := sel13 (F := F) i arg5 t fO fs fsc fwv fbv
      exact L.sel hfs h

/-- Before trip `u` of the loop of the last select. -/
def inv15 (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (_ : Unit) : sProp 𝕄 :=
  iprop(∃ fO fs, ⌜LP arg5 XW C fsc fwv fbv fO True 36 (64 * u) ∧ (True → fs = sT XW C 36)⌝
    ∗ tripRes c arg5 s0M q fO C fwv fbv fsc fs)

set_option maxHeartbeats 1000000 in
theorem step15 (arg0 : BitVec 32)
    (t : Fin (k0_t15_loop i).trips) (s : Unit) (q : PosShare TreeShare) (fwv fbv fsc) :
    inv15 c XW C arg5 q fwv fbv fsc t.val s
      ⊢ wp frame (wpE (defs₀ (F := F)) 𝒱₀ (c : Thread nD τ) none) Set.univ
        (k0_t15_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 t s)
        (fun s' => inv15 c XW C arg5 q fwv fbv fsc (t.val + 1) s') := by
  have hi := i0 i
  have ht := lt_of_lt_of_eq t.isLt (trips15 i)
  unfold inv15 tripRes
  iintro ⟨%fO, %fs, %HH, ⟨HO, Hcd, Hwv, Hbv, Hsc, Hs0, ⟨%W, HW⟩⟩⟩
  obtain ⟨L, hfs⟩ := HH
  sl_unfold [k0_t15_body]
  sl_exec_parts
  sl_step
  iexists _, fs
  isplitr
  rotate_left
  · isplitl [HO]; · iexact HO
    isplitl [Hcd]; · iexact Hcd
    isplitl [Hwv]; · iexact Hwv
    isplitl [Hbv]; · iexact Hbv
    isplitl [Hsc]; · iexact Hsc
    isplitl [Hs0]; · iexact Hs0
    iexists W; iexact HW
  · ipureintro
    refine ⟨?_, hfs⟩
    obtain ⟨io, ix, iw, is, h⟩ := sel15 (F := F) i arg5 t fO fs fsc fwv fbv
    exact L.sel hfs h
end T13

end Cert.Proof.Kernel
-- ==== Proof.Pro.lean ====
/- What the body starts from and what it leaves, and the first copies\' slices. -/
module

public import proofs.«01_k».proof.Proof.T1
public import proofs.«01_k».proof.Proof.T13

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-! ## The slices of the copies the body starts with -/

@[sl_canon] theorem semX0 (hh) : (cc0_scratch8.slice (Rect.unit (s := S6) ![0] S1.size hh)).squeeze S_ squeezes_S1_S_ = xsm 0 := xsm_congr 0 rfl hh
@[sl_canon] theorem strX0 (hh hs) : xbM.slice (Rect.unit (s := S192x8192) ![0, 0] S32x8192.size hh) hs = xstrp 0 := xstrp_congr 0 rfl hh hs
@[sl_canon] theorem blkX0 (hh hs) : xM.slice (Rect.unit (s := S192x8192) ![0, 0] S32x8192.size hh) hs = xblk 0 := xblk_congr 0 rfl hh hs
@[sl_canon] theorem semX1 (hh) : (cc0_scratch8.slice (Rect.unit (s := S6) ![1] S1.size hh)).squeeze S_ squeezes_S1_S_ = xsm 1 := xsm_congr 1 rfl hh
@[sl_canon] theorem strX1 (hh hs) : xbM.slice (Rect.unit (s := S192x8192) ![32, 0] S32x8192.size hh) hs = xstrp 1 := xstrp_congr 1 rfl hh hs
@[sl_canon] theorem blkX1 (hh hs) : xM.slice (Rect.unit (s := S192x8192) ![32, 0] S32x8192.size hh) hs = xblk 1 := xblk_congr 1 rfl hh hs
@[sl_canon] theorem semX2 (hh) : (cc0_scratch8.slice (Rect.unit (s := S6) ![2] S1.size hh)).squeeze S_ squeezes_S1_S_ = xsm 2 := xsm_congr 2 rfl hh
@[sl_canon] theorem strX2 (hh hs) : xbM.slice (Rect.unit (s := S192x8192) ![64, 0] S32x8192.size hh) hs = xstrp 2 := xstrp_congr 2 rfl hh hs
@[sl_canon] theorem blkX2 (hh hs) : xM.slice (Rect.unit (s := S192x8192) ![64, 0] S32x8192.size hh) hs = xblk 2 := xblk_congr 2 rfl hh hs
@[sl_canon] theorem semX3 (hh) : (cc0_scratch8.slice (Rect.unit (s := S6) ![3] S1.size hh)).squeeze S_ squeezes_S1_S_ = xsm 3 := xsm_congr 3 rfl hh
@[sl_canon] theorem strX3 (hh hs) : xbM.slice (Rect.unit (s := S192x8192) ![96, 0] S32x8192.size hh) hs = xstrp 3 := xstrp_congr 3 rfl hh hs
@[sl_canon] theorem blkX3 (hh hs) : xM.slice (Rect.unit (s := S192x8192) ![96, 0] S32x8192.size hh) hs = xblk 3 := xblk_congr 3 rfl hh hs
@[sl_canon] theorem semX4 (hh) : (cc0_scratch8.slice (Rect.unit (s := S6) ![4] S1.size hh)).squeeze S_ squeezes_S1_S_ = xsm 4 := xsm_congr 4 rfl hh
@[sl_canon] theorem strX4 (hh hs) : xbM.slice (Rect.unit (s := S192x8192) ![128, 0] S32x8192.size hh) hs = xstrp 4 := xstrp_congr 4 rfl hh hs
@[sl_canon] theorem blkX4 (hh hs) : xM.slice (Rect.unit (s := S192x8192) ![128, 0] S32x8192.size hh) hs = xblk 4 := xblk_congr 4 rfl hh hs
@[sl_canon] theorem semX5 (hh) : (cc0_scratch8.slice (Rect.unit (s := S6) ![5] S1.size hh)).squeeze S_ squeezes_S1_S_ = xsm 5 := xsm_congr 5 rfl hh
@[sl_canon] theorem strX5 (hh hs) : xbM.slice (Rect.unit (s := S192x8192) ![160, 0] S32x8192.size hh) hs = xstrp 5 := xstrp_congr 5 rfl hh hs
@[sl_canon] theorem blkX5 (hh hs) : xM.slice (Rect.unit (s := S192x8192) ![160, 0] S32x8192.size hh) hs = xblk 5 := xblk_congr 5 rfl hh hs
@[sl_canon] theorem semW0 (hh) : (cc0_scratch9.slice (Rect.unit (s := S8) (k0_off1 0#32) S1.size hh)).squeeze S_ squeezes_S1_S_ = csm 0 := csm_congr 0 (k0_off1_eq 0) hh
@[sl_canon] theorem slotW0 (hh hs) : (rgM.slice (Rect.unit (s := S8x512x8192) (k0_off2 0#32) S1x512x8192.size hh) hs).squeeze S512x8192 squeezes_S1x512x8192_S512x8192 = rslot 0 := rslot_congr 0 (k0_off2_eq 0) hh hs
@[sl_canon] theorem blkW0 (hh hs) : wM.slice (Rect.unit (s := S18944x8192) ![0, 0] S512x8192.size hh) hs = wblk 0 := wblk_congr 0 rfl hh hs
@[sl_canon] theorem semW1 (hh) : (cc0_scratch9.slice (Rect.unit (s := S8) (k0_off1 1#32) S1.size hh)).squeeze S_ squeezes_S1_S_ = csm 1 := csm_congr 1 (k0_off1_eq 1) hh
@[sl_canon] theorem slotW1 (hh hs) : (rgM.slice (Rect.unit (s := S8x512x8192) (k0_off2 1#32) S1x512x8192.size hh) hs).squeeze S512x8192 squeezes_S1x512x8192_S512x8192 = rslot 1 := rslot_congr 1 (k0_off2_eq 1) hh hs
@[sl_canon] theorem blkW1 (hh hs) : wM.slice (Rect.unit (s := S18944x8192) ![512, 0] S512x8192.size hh) hs = wblk 1 := wblk_congr 1 rfl hh hs
@[sl_canon] theorem semW2 (hh) : (cc0_scratch9.slice (Rect.unit (s := S8) (k0_off1 2#32) S1.size hh)).squeeze S_ squeezes_S1_S_ = csm 2 := csm_congr 2 (k0_off1_eq 2) hh
@[sl_canon] theorem slotW2 (hh hs) : (rgM.slice (Rect.unit (s := S8x512x8192) (k0_off2 2#32) S1x512x8192.size hh) hs).squeeze S512x8192 squeezes_S1x512x8192_S512x8192 = rslot 2 := rslot_congr 2 (k0_off2_eq 2) hh hs
@[sl_canon] theorem blkW2 (hh hs) : wM.slice (Rect.unit (s := S18944x8192) ![1024, 0] S512x8192.size hh) hs = wblk 2 := wblk_congr 2 rfl hh hs
@[sl_canon] theorem semW3 (hh) : (cc0_scratch9.slice (Rect.unit (s := S8) (k0_off1 3#32) S1.size hh)).squeeze S_ squeezes_S1_S_ = csm 3 := csm_congr 3 (k0_off1_eq 3) hh
@[sl_canon] theorem slotW3 (hh hs) : (rgM.slice (Rect.unit (s := S8x512x8192) (k0_off2 3#32) S1x512x8192.size hh) hs).squeeze S512x8192 squeezes_S1x512x8192_S512x8192 = rslot 3 := rslot_congr 3 (k0_off2_eq 3) hh hs
@[sl_canon] theorem blkW3 (hh hs) : wM.slice (Rect.unit (s := S18944x8192) ![1536, 0] S512x8192.size hh) hs = wblk 3 := wblk_congr 3 rfl hh hs
@[sl_canon] theorem semW4 (hh) : (cc0_scratch9.slice (Rect.unit (s := S8) (k0_off1 4#32) S1.size hh)).squeeze S_ squeezes_S1_S_ = csm 4 := csm_congr 4 (k0_off1_eq 4) hh
@[sl_canon] theorem slotW4 (hh hs) : (rgM.slice (Rect.unit (s := S8x512x8192) (k0_off2 4#32) S1x512x8192.size hh) hs).squeeze S512x8192 squeezes_S1x512x8192_S512x8192 = rslot 4 := rslot_congr 4 (k0_off2_eq 4) hh hs
@[sl_canon] theorem blkW4 (hh hs) : wM.slice (Rect.unit (s := S18944x8192) ![2048, 0] S512x8192.size hh) hs = wblk 4 := wblk_congr 4 rfl hh hs
@[sl_canon] theorem semW5 (hh) : (cc0_scratch9.slice (Rect.unit (s := S8) (k0_off1 5#32) S1.size hh)).squeeze S_ squeezes_S1_S_ = csm 5 := csm_congr 5 (k0_off1_eq 5) hh
@[sl_canon] theorem slotW5 (hh hs) : (rgM.slice (Rect.unit (s := S8x512x8192) (k0_off2 5#32) S1x512x8192.size hh) hs).squeeze S512x8192 squeezes_S1x512x8192_S512x8192 = rslot 5 := rslot_congr 5 (k0_off2_eq 5) hh hs
@[sl_canon] theorem blkW5 (hh hs) : wM.slice (Rect.unit (s := S18944x8192) ![2560, 0] S512x8192.size hh) hs = wblk 5 := wblk_congr 5 rfl hh hs
@[sl_canon] theorem semW6 (hh) : (cc0_scratch9.slice (Rect.unit (s := S8) (k0_off1 6#32) S1.size hh)).squeeze S_ squeezes_S1_S_ = csm 6 := csm_congr 6 (k0_off1_eq 6) hh
@[sl_canon] theorem slotW6 (hh hs) : (rgM.slice (Rect.unit (s := S8x512x8192) (k0_off2 6#32) S1x512x8192.size hh) hs).squeeze S512x8192 squeezes_S1x512x8192_S512x8192 = rslot 6 := rslot_congr 6 (k0_off2_eq 6) hh hs
@[sl_canon] theorem blkW6 (hh hs) : wM.slice (Rect.unit (s := S18944x8192) ![3072, 0] S512x8192.size hh) hs = wblk 6 := wblk_congr 6 rfl hh hs
@[sl_canon] theorem semW7 (hh) : (cc0_scratch9.slice (Rect.unit (s := S8) (k0_off1 7#32) S1.size hh)).squeeze S_ squeezes_S1_S_ = csm 7 := csm_congr 7 (k0_off1_eq 7) hh
@[sl_canon] theorem slotW7 (hh hs) : (rgM.slice (Rect.unit (s := S8x512x8192) (k0_off2 7#32) S1x512x8192.size hh) hs).squeeze S512x8192 squeezes_S1x512x8192_S512x8192 = rslot 7 := rslot_congr 7 (k0_off2_eq 7) hh hs
@[sl_canon] theorem blkW7 (hh hs) : wM.slice (Rect.unit (s := S18944x8192) ![3584, 0] S512x8192.size hh) hs = wblk 7 := wblk_congr 7 rfl hh hs

/-- The semaphores of the two small copies. -/
def ssm (u : ℕ) : DmaSems sig S_ := (cc0_scratch10.slice (Rect.unit (s := S2) ![u % 2] S1.size (by intro a; fin_cases a; show u % 2 + 1 ≤ 2; omega))).squeeze S_ squeezes_S1_S_
@[sl_canon] theorem semS0 (hh) : (cc0_scratch10.slice (Rect.unit (s := S2) ![0] S1.size hh)).squeeze S_ squeezes_S1_S_ = ssm 0 := rfl
@[sl_canon] theorem semS1 (hh) : (cc0_scratch10.slice (Rect.unit (s := S2) ![1] S1.size hh)).squeeze S_ squeezes_S1_S_ = ssm 1 := rfl

section Pre
variable (c : Dev nD) (X : Buf (Elt F) (xM.view.loc (c : Thread nD τ))) (XW : Buf (Elt F) (wM.view.loc (c : Thread nD τ)))
  (VS : Buf (Elt F) (wsM.view.loc (c : Thread nD τ))) (VB : Buf (Elt F) (bsM.view.loc (c : Thread nD τ)))
  (arg5 : Memref sig .tc .vmem S192x18944 .f32) (arg7 : Memref sig .tc .vmem S1x192 .f32)

/-- A whole array of the tensor core at full share. -/
abbrev holdsP {sp : Space} {s : Shape} {e : EltTy} (m : Memref sig .tc sp s e) (f : Buf (Elt F) (m.view.loc (c : Thread nD τ))) : sProp 𝕄 :=
  m.view.loc (c : Thread nD τ) ↦[m.view.set]{fullShare} f
abbrev scellP (u : ℕ) : sProp 𝕄 := semVal ((c : Thread nD τ), SemLoc.dma (ssm u).sem) 0
abbrev ocellP : sProp 𝕄 := semVal ((c : Thread nD τ), SemLoc.dma cc0_scratch11.sem) 0

/-- The scratch the body writes before it reads. -/
def scrP : sProp 𝕄 :=
  iprop((∃ f, holdsP c cdM f) ∗ (∃ f, holdsP c wvM f) ∗ (∃ f, holdsP c bvM f) ∗ (∃ f, holdsP c scM f) ∗ (∃ f, holdsP c s0M f) ∗ (∃ f, holdsP c s1M f))
/-- The copies' semaphores and the arrays they read. -/
def argsP : sProp 𝕄 :=
  iprop(bigSep (Finset.range 6) (xdoneP c X) ∗ bigSep (Finset.range 8) (freeP (F := F) c) ∗ bigSep (Finset.range 37) (homeP c XW)
    ∗ holdsP c wsM VS ∗ holdsP c bsM VB ∗ scellP (F := F) c 0 ∗ scellP (F := F) c 1 ∗ ocellP (F := F) c)

/-- A row's scale, in the row the kernel returns them in. -/
def scaleO (X : XB F) : S1x192.Idx → Elt F .f32 := k0_pay3 (F := F) (Sspec X)

/-- Before the body. -/
def preP : sProp 𝕄 :=
  iprop(argsP c X XW VS VB ∗ scrP (F := F) c ∗ (∃ f, holdsP c coM f) ∗ (∃ f, holdsP c arg5 f) ∗ (∃ f, holdsP c arg7 f) ∗ (∃ W, owes (c : Thread nD τ) 0 W))
/-- After it. -/
def postP : sProp 𝕄 :=
  iprop(∃ f5 f7, ⌜(∀ y, arg5.view.read (Elt F) f5 y = lgt XW (Cspec (F := F) X) (Sspec (F := F) X) VS VB y) ∧ arg7.view.read (Elt F) f7 = scaleO (F := F) X⌝
    ∗ argsP c X XW VS VB ∗ scrP (F := F) c ∗ holdsP c coM (Cspec (F := F) X) ∗ holdsP c arg5 f5 ∗ holdsP c arg7 f7 ∗ (∃ W, owes (c : Thread nD τ) 0 W))

omit [FloatOps F] in
theorem takeP (P : ℕ → sProp 𝕄) (a n : ℕ) (h : a < n) : bigSep (Finset.Ico a n) P ⊢ iprop(P a ∗ bigSep (Finset.Ico (a + 1) n) P) := by
  have e : Finset.Ico a n = insert a (Finset.Ico (a + 1) n) := by ext x; simp only [Finset.mem_Ico, Finset.mem_insert]; omega
  rw [e, bigSep_insert (by simp)]; exact .rfl
theorem takeFree (a n : ℕ) (h : a < n) : bigSep (Finset.Ico a n) (freeP (F := F) c) ⊢ iprop((cellP (F := F) c a ∗ ∃ f, slotP (F := F) c a f) ∗ bigSep (Finset.Ico (a + 1) n) (freeP (F := F) c)) :=
  takeP (freeP (F := F) c) a n h
theorem ico_0_6 (P : ℕ → sProp 𝕄) : iprop(P 0 ∗ P 1 ∗ P 2 ∗ P 3 ∗ P 4 ∗ P 5) ⊢ bigSep (Finset.Ico 0 6) P := by
  rw [Ico_left P (show 0 < 6 by omega), Ico_left P (show 0 + 1 < 6 by omega), Ico_left P (show 0 + 1 + 1 < 6 by omega), Ico_left P (show 0 + 1 + 1 + 1 < 6 by omega),
    Ico_left P (show 0 + 1 + 1 + 1 + 1 < 6 by omega), Ico_left P (show 0 + 1 + 1 + 1 + 1 + 1 < 6 by omega), Finset.Ico_self, bigSep_empty]
  iintro ⟨A, B, C, D, E, G⟩
  isplitl [A]; · iexact A
  isplitl [B]; · iexact B
  isplitl [C]; · iexact C
  isplitl [D]; · iexact D
  isplitl [E]; · iexact E
  isplitl [G]; · iexact G
  iempintro
theorem ico_1_8 (P : ℕ → sProp 𝕄) : iprop(P 1 ∗ P 2 ∗ P 3 ∗ P 4 ∗ P 5 ∗ P 6 ∗ P 7) ⊢ bigSep (Finset.Ico 1 8) P := by
  rw [Ico_left P (show 1 < 8 by omega), Ico_left P (show 1 + 1 < 8 by omega), Ico_left P (show 1 + 1 + 1 < 8 by omega), Ico_left P (show 1 + 1 + 1 + 1 < 8 by omega),
    Ico_left P (show 1 + 1 + 1 + 1 + 1 < 8 by omega), Ico_left P (show 1 + 1 + 1 + 1 + 1 + 1 < 8 by omega), Ico_left P (show 1 + 1 + 1 + 1 + 1 + 1 + 1 < 8 by omega), Finset.Ico_self, bigSep_empty]
  iintro ⟨A, B, C, D, E, G, H⟩
  isplitl [A]; · iexact A
  isplitl [B]; · iexact B
  isplitl [C]; · iexact C
  isplitl [D]; · iexact D
  isplitl [E]; · iexact E
  isplitl [G]; · iexact G
  isplitl [H]; · iexact H
  iempintro

/-- The ring as the first waits leave it. -/
theorem ring_init : iprop(cellP (F := F) c 0 ∗ homeP c XW 0 ∗ bigSep (Finset.Ico 1 8) (flyP c XW) ∗ bigSep (Finset.Ico 8 37) (homeP c XW)) ⊢ ringS c XW 0 8 := by
  unfold ringS
  rw [range_succ (homeP c XW) 0, show Finset.range 0 = ∅ from rfl, bigSep_empty, show (0 + 8 : ℕ) = 8 from rfl, show (0 + 1 : ℕ) = 1 from rfl, Finset.Ico_self, bigSep_empty]
  iintro ⟨A, B, C, D⟩
  isplitl [A]; · iexact A
  isplitl [B]
  · isplitl [B]; · iexact B
    iempintro
  isplitl [C]; · iexact C
  isplitr [D]; · iempintro
  iexact D

theorem wv_landed (f : Buf (Elt F) (wvM.view.loc (c : Thread nD τ))) (p : Buf (Elt F) (wsM.view.loc (c : Thread nD τ))) : wvM.view.writes (Elt F) f [⟨Rect.whole S148x128, ReadAs.same.apply (wsM.view.read (Elt F) p)⟩] = p :=
  View.read_writes_whole wvM.view f _
theorem bv_landed (f : Buf (Elt F) (bvM.view.loc (c : Thread nD τ))) (p : Buf (Elt F) (bsM.view.loc (c : Thread nD τ))) : bvM.view.writes (Elt F) f [⟨Rect.whole S148x128, ReadAs.same.apply (bsM.view.read (Elt F) p)⟩] = p :=
  View.read_writes_whole bvM.view f _
end Pre

end Cert.Proof.Kernel
-- ==== Proof.Tail.lean ====
/- The values the body computes outside its loops. -/
module

public import proofs.«01_k».proof.Proof.Pro

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section Tail
variable (XW : WB F) (C : CodesB F)

/-- The unit before the first block. -/
theorem init_MS (c : Dev nD) (f : Buf (Elt F) (rgM.view.loc (c : Thread nD τ))) (h0 h1) :
    MS (((pops (pops (Mxu.init : Mxu F) 0 fits_0_192) 48 fits_48_192).pushed 0 0 true
      (k0_pay191 (F := F) (rgM.view.readAt (Elt F) (Rect.unit (s := S8x512x8192) k0_off137 S1x256x256.size h0).toLoadRect (landed c XW 0 f)))).pushed 1 0 true
      (k0_pay191 (F := F) (rgM.view.readAt (Elt F) (Rect.unit (s := S8x512x8192) k0_off138 S1x256x256.size h1).toLoadRect (landed c XW 0 f))))
      0 1 (fun q => some (tileW XW 0 0 q)) 0 fits_0_192 none 48 fits_48_192 none := by
  rw [load_tile_of XW h0 0 0 0 (k0_off137_eq.trans rfl) _ (fun y hy => landed_at c XW 0 f y hy),
    load_tile_of XW h1 0 0 1 (k0_off138_eq.trans rfl) _ (fun y hy => landed_at c XW 0 f y hy)]
  exact ((((MS.init (r := 0) (r' := 1) fits_0_192 fits_48_192).pops (by decide)).swap.pops (by decide))).push (by decide) (tileW XW 0 0)

/-! ## The last block's first and last chunks -/

theorem lhs36 (r : Fin 8) (inb) :
    k0_pay190 (F := F) (cdM.view.readAt (Elt F) (Rect.unit (s := S192x8192) (k0_off281 (BitVec.ofNat 32 r.val)) S192x256.size inb).toLoadRect C) = lhsC C r.val :=
  load_lhs C inb r.val (by omega) (k0_off281_eq r)
theorem tile36 (off : Fin 3 → ℕ) (inb : ∀ a, off a + S1x256x256.size a ≤ S8x512x8192.size a) (n : ℕ) (hn : n < 32) (q : Fin 2) (ho : off = ![4, 256 * q.val, 256 * n]) :
    k0_pay191 (F := F) (rgM.view.readAt (Elt F) (Rect.unit (s := S8x512x8192) off S1x256x256.size inb).toLoadRect (ringT (F := F) XW 36)) = tileW XW 36 n q := by
  have hz : n / 32 = 0 := by omega
  have hm : n % 32 = n := by omega
  have h := load_tile XW inb 36 n q (by rw [hz, hm]; exact ho)
  rw [hz] at h; exact h
theorem tile360 (r : Fin 7) (inb) :
    k0_pay191 (F := F) (rgM.view.readAt (Elt F) (Rect.unit (s := S8x512x8192) (k0_off282 (BitVec.ofNat 32 r.val)) S1x256x256.size inb).toLoadRect (ringT (F := F) XW 36)) = tileW XW 36 (r.val + 1) 0 :=
  tile36 XW _ inb _ (by omega) 0 ((k0_off282_eq r).trans (congrArg (fun z => ![4, 0, z]) (by omega)))
theorem tile361 (r : Fin 7) (inb) :
    k0_pay191 (F := F) (rgM.view.readAt (Elt F) (Rect.unit (s := S8x512x8192) (k0_off283 (BitVec.ofNat 32 r.val)) S1x256x256.size inb).toLoadRect (ringT (F := F) XW 36)) = tileW XW 36 (r.val + 1) 1 :=
  tile36 XW _ inb _ (by omega) 1 ((k0_off283_eq r).trans (congrArg (fun z => ![4, 256, z]) (by omega)))
theorem tile368 (inb) :
    k0_pay191 (F := F) (rgM.view.readAt (Elt F) (Rect.unit (s := S8x512x8192) k0_off284 S1x256x256.size inb).toLoadRect (ringT (F := F) XW 36)) = tileW XW 36 8 0 :=
  tile36 XW _ inb 8 (by omega) 0 k0_off284_eq
theorem tile369 (inb) :
    k0_pay191 (F := F) (rgM.view.readAt (Elt F) (Rect.unit (s := S8x512x8192) k0_off285 S1x256x256.size inb).toLoadRect (ringT (F := F) XW 36)) = tileW XW 36 8 1 :=
  tile36 XW _ inb 8 (by omega) 1 k0_off285_eq

theorem selE (arg5 : Memref sig .tc .vmem S192x18944 .f32) (fO fs fsc fwv fbv) :
    ∃ (io : _) (ix : _) (iw : _) (is : _),
    SelPost (F := F) arg5 fO (arg5.view.writes (Elt F) fO (selL 1#1 s1M.view fs fsc fwv fbv
        (fun r₁ r₂ => ![128 + 8 * r₁, 128 * r₂ + 17920]) (fun r => ![128 + 8 * r, 0]) (fun r => ![140 + r, 0]) (fun r₁ r₂ => ![128 + 8 * r₁, 128 * r₂]) io ix iw is)) True fs fsc fwv fbv 128 140 :=
  ⟨inb_o (off := fun r₁ r₂ => ![128 + 8 * r₁, 128 * r₂ + 17920]) (R := 128) (T := 140) (by omega) (by omega) (fun r₁ r₂ => congrArg₂ (fun y z => ![y, z]) rfl (by omega)), inb_x (off := fun r => ![128 + 8 * r, 0]) (R := 128) (by omega) (fun _ => rfl),
    inb_w (off := fun r => ![140 + r, 0]) (T := 140) (by omega) (fun _ => rfl), inb_s (off := fun r₁ r₂ => ![128 + 8 * r₁, 128 * r₂]) (R := 128) (by omega) (fun _ _ => rfl),
    selL_post arg5 fO 1#1 s1M.view fs fsc fwv fbv _ _ _ _ _ _ _ _ _ _ True (fun _ => rfl) (by omega) (fun r₁ r₂ => congrArg₂ (fun y z => ![y, z]) rfl (by omega)) (fun _ => rfl) (fun _ => rfl) (fun _ _ => rfl)⟩
/-- The last chunk of the last block. -/
theorem last_MS {s : Mxu F} (H : MS s 0 1 (fun q => some (tileW XW 36 24 q)) 0 fits_0_192 (accN XW C 36 24) 48 fits_48_192 none)
    {x0 x1 x2 x3 x4 x5 x6 x7 : Lhs F} {a0 a1 a2 a3 a4 a5 a6 b0 b1 b2 b3 b4 b5 b6 : Tile F}
    (hx0 : x0 = lhsC C 24) (ha0 : a0 = tileW XW 36 25 0) (hb0 : b0 = tileW XW 36 25 1)
    (hx1 : x1 = lhsC C 25) (ha1 : a1 = tileW XW 36 26 0) (hb1 : b1 = tileW XW 36 26 1)
    (hx2 : x2 = lhsC C 26) (ha2 : a2 = tileW XW 36 27 0) (hb2 : b2 = tileW XW 36 27 1)
    (hx3 : x3 = lhsC C 27) (ha3 : a3 = tileW XW 36 28 0) (hb3 : b3 = tileW XW 36 28 1)
    (hx4 : x4 = lhsC C 28) (ha4 : a4 = tileW XW 36 29 0) (hb4 : b4 = tileW XW 36 29 1)
    (hx5 : x5 = lhsC C 29) (ha5 : a5 = tileW XW 36 30 0) (hb5 : b5 = tileW XW 36 30 1)
    (hx6 : x6 = lhsC C 30) (ha6 : a6 = tileW XW 36 31 0) (hb6 : b6 = tileW XW 36 31 1) (hx7 : x7 = lhsC C 31) :
    MS (accs (step (step (step (step (step (step (step s 0 1 0 fits_0_192 x0 a0 b0) 1 0 0 fits_0_192 x1 a1 b1) 0 1 0 fits_0_192 x2 a2 b2) 1 0 0 fits_0_192 x3 a3 b3) 0 1 0 fits_0_192 x4 a4 b4) 1 0 0 fits_0_192 x5 a5 b5) 0 1 0 fits_0_192 x6 a6 b6) 1 0 fits_0_192 x7) 0 1 (fun _ => none) 0 fits_0_192 (some (accE XW C 36)) 48 fits_48_192 none := by
  subst hx7
  exact MS.accs (step_MS XW C 36 (by decide) 30 (by decide) (step_MS XW C 36 (by decide) 29 (by decide) (step_MS XW C 36 (by decide) 28 (by decide) (step_MS XW C 36 (by decide) 27 (by decide) (step_MS XW C 36 (by decide) 26 (by decide) (step_MS XW C 36 (by decide) 25 (by decide) (step_MS XW C 36 (by decide) 24 (by decide) H hx0 ha0 hb0) hx1 ha1 hb1) hx2 ha2 hb2) hx3 ha3 hb3) hx4 ha4 hb4) hx5 ha5 hb5) hx6 ha6 hb6) (by decide) (by decide) (lhsC C 31) (fun _ => rfl)

/-- The ring after the last block. -/
theorem ring_end (c : Dev nD) : iprop(slotP (F := F) c 36 (ringT (F := F) XW 36) ∗ ringS c XW 36 37) ⊢ iprop(bigSep (Finset.range 8) (freeP (F := F) c) ∗ bigSep (Finset.range 37) (homeP c XW)) := by
  unfold ringS
  have e : ∀ b, freeP (F := F) c (b + 8) = freeP c b := fun b => by
    unfold freeP
    rw [cell_8]
    exact congrArg (fun P : Buf (Elt F) (rgM.view.loc (c : Thread nD τ)) → sProp 𝕄 => iprop(cellP c b ∗ ∃ f, P f)) (funext fun f => slot_8 c b f)
  have e5 : ∀ b, freeP (F := F) c (b + 40) = freeP c b := fun b => by
    rw [show b + 40 = b + 8 + 8 + 8 + 8 + 8 by omega, e, e, e, e, e]
  have e4 : ∀ b, freeP (F := F) c (b + 32) = freeP c b := fun b => by
    rw [show b + 32 = b + 8 + 8 + 8 + 8 by omega, e, e, e, e]
  have hA : bigSep (Finset.Ico 37 44) (freeP (F := F) c) = iprop(freeP c 5 ∗ freeP c 6 ∗ freeP c 7 ∗ freeP c 0 ∗ freeP c 1 ∗ freeP c 2 ∗ freeP c 3 ∗ emp) := by
    rw [Ico_left _ (show 37 < 44 by omega), Ico_left _ (show 37 + 1 < 44 by omega), Ico_left _ (show 37 + 1 + 1 < 44 by omega), Ico_left _ (show 37 + 1 + 1 + 1 < 44 by omega),
      Ico_left _ (show 37 + 1 + 1 + 1 + 1 < 44 by omega), Ico_left _ (show 37 + 1 + 1 + 1 + 1 + 1 < 44 by omega), Ico_left _ (show 37 + 1 + 1 + 1 + 1 + 1 + 1 < 44 by omega), Finset.Ico_self, bigSep_empty,
      show freeP (F := F) c 37 = freeP c 5 from e4 5, show freeP (F := F) c (37 + 1) = freeP c 6 from e4 6, show freeP (F := F) c (37 + 1 + 1) = freeP c 7 from e4 7, show freeP (F := F) c (37 + 1 + 1 + 1) = freeP c 0 from e5 0,
      show freeP (F := F) c (37 + 1 + 1 + 1 + 1) = freeP c 1 from e5 1, show freeP (F := F) c (37 + 1 + 1 + 1 + 1 + 1) = freeP c 2 from e5 2, show freeP (F := F) c (37 + 1 + 1 + 1 + 1 + 1 + 1) = freeP c 3 from e5 3]
    rfl
  have hB : iprop(freeP (F := F) c 0 ∗ freeP c 1 ∗ freeP c 2 ∗ freeP c 3 ∗ freeP c 4 ∗ freeP c 5 ∗ freeP c 6 ∗ freeP c 7) ⊢ bigSep (Finset.range 8) (freeP (F := F) c) := by
    rw [Finset.range_eq_Ico, Ico_left _ (show 0 < 8 by omega)]
    iintro ⟨A, B⟩
    isplitl [A]; · iexact A
    iapply (ico_1_8 (freeP (F := F) c)); iexact B
  rw [show (36 + 1 : ℕ) = 37 from rfl, show (36 + 8 : ℕ) = 44 from rfl, hA]
  iintro ⟨S, K, HH, -, ⟨F5, F6, F7, F0, F1, F2, F3, -⟩, -⟩
  isplitr [HH]
  · iapply hB
    isplitl [F0]; · iexact F0
    isplitl [F1]; · iexact F1
    isplitl [F2]; · iexact F2
    isplitl [F3]; · iexact F3
    isplitl [S K]
    · iapply (entails_of_eq (e4 4))
      unfold freeP
      isplitl [K]; · iexact K
      iexists _; iexact S
    isplitl [F5]; · iexact F5
    isplitl [F6]; · iexact F6
    iexact F7
  · iexact HH

theorem rd_co (G : coM.view.ty.Contents (Elt F)) (y : S192x8192.Idx) : coM.view.read (Elt F) G y = G y := rfl
theorem co_landed (f : coM.view.ty.Contents (Elt F)) (p : S192x8192.Idx → Elt F .fp8e4m3) : coM.view.writes (Elt F) f [⟨Rect.whole S192x8192, p⟩] = p :=
  funext fun y => (rd_co _ y).symm.trans (congrFun (View.read_writes_whole coM.view f p) y)

theorem idx_sc (inb) (x : S192x128.Idx) : (Rect.unit (s := S192x128) ![0, 0] S192x128.size inb).emb x = x := by
  funext a; apply Fin.ext; fin_cases a
  · show 0 + 1 * (x 0).val = (x 0).val; omega
  · show 0 + 1 * (x 1).val = (x 1).val; omega
theorem idx_so (inb) (x : S1x192.Idx) : (Rect.unit (s := S1x192) ![0, 0] S1x192.size inb).emb x = x := by
  funext a; apply Fin.ext; fin_cases a
  · show 0 + 1 * (x 0).val = (x 0).val; omega
  · show 0 + 1 * (x 1).val = (x 1).val; omega
/-- The row of scales, as the body stores it. -/
theorem scale_row (arg7 : Memref sig .tc .vmem S1x192 .f32) (f7 : arg7.view.ty.Contents (Elt F)) (X : XB F) (i0 i1) :
    arg7.view.read (Elt F) (arg7.view.writes (Elt F) f7 [⟨Rect.unit (s := S1x192) ![0, 0] S1x192.size i1,
      k0_pay3 (F := F) (scM.view.readAt (Elt F) (Rect.unit (s := S192x128) ![0, 0] S192x128.size i0).toLoadRect (Sspec (F := F) X))⟩]) = scaleO (F := F) X := by
  have e : scM.view.readAt (Elt F) (Rect.unit (s := S192x128) ![0, 0] S192x128.size i0).toLoadRect (Sspec (F := F) X) = Sspec (F := F) X := by
    funext x
    rw [View.readAt_apply]
    exact congrArg (Sspec (F := F) X) (idx_sc i0 x)
  rw [e]
  funext y
  have h := View.read_writes_cons_emb arg7.view f7 (Rect.unit (s := S1x192) ![0, 0] S1x192.size i1) (k0_pay3 (F := F) (Sspec (F := F) X)) [] y
  rwa [idx_so] at h
end Tail

end Cert.Proof.Kernel
-- ==== Proof.Body.lean ====
/- The body. -/
module

public import proofs.«01_k».proof.Proof.Tail

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section Body
variable (c : Dev nD) (X : Buf (Elt F) (xM.view.loc (c : Thread nD τ))) (XW : Buf (Elt F) (wM.view.loc (c : Thread nD τ)))
  (VS : Buf (Elt F) (wsM.view.loc (c : Thread nD τ))) (VB : Buf (Elt F) (bsM.view.loc (c : Thread nD τ))) (i : grid0.Coords)
  (arg5 : Memref sig .tc .vmem S192x18944 .f32) (harg5 : arg5.IsWhole) (arg7 : Memref sig .tc .vmem S1x192 .f32) (harg7 : arg7.IsWhole)

set_option maxHeartbeats 8000000 in
theorem bodyRun :
    preP c X XW VS VB arg5 arg7
      ⊢ wp frame (wpE (defs₀ (F := F)) 𝒱₀ (c : Thread nD τ) none) Set.univ
        (cc0_fp8_head_topk (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11)
        (fun _ => postP c X XW VS VB arg5 arg7) := by
  have hi := i0 i
  unfold preP argsP scrP
  iintro ⟨⟨HX, HR, HH, HS, HB, Hsc0, Hsc1, Hoc⟩, ⟨⟨%fcd, Hcd⟩, ⟨%fwv, Hwv⟩, ⟨%fbv, Hbv⟩, ⟨%fsc, Hsc⟩, ⟨%fs0, Hs0⟩, ⟨%fs1, Hs1⟩⟩, ⟨%fco, Hco⟩, ⟨%fO, HO⟩, ⟨%f7, H7⟩, ⟨%W, HW⟩⟩
  ihave HX := (entails_of_eq (show bigSep (Finset.range 6) (xdoneP c X) = bigSep (Finset.Ico 0 6) (xdoneP c X) by rw [Finset.range_eq_Ico])) $$ HX
  ihave HR := (entails_of_eq (show bigSep (Finset.range 8) (freeP (F := F) c) = bigSep (Finset.Ico 0 8) (freeP (F := F) c) by rw [Finset.range_eq_Ico])) $$ HR
  ihave HH := (entails_of_eq (show bigSep (Finset.range 37) (homeP c XW) = bigSep (Finset.Ico 0 37) (homeP c XW) by rw [Finset.range_eq_Ico])) $$ HH
  ihave HX := (takeP (xdoneP c X) 0 6 (by omega)) $$ HX
  icases HX with ⟨⟨Hxc0, ⟨%fx0, Hxd0⟩, Hxs0⟩, HX⟩
  ihave HX := (takeP (xdoneP c X) 1 6 (by omega)) $$ HX
  icases HX with ⟨⟨Hxc1, ⟨%fx1, Hxd1⟩, Hxs1⟩, HX⟩
  ihave HX := (takeP (xdoneP c X) 2 6 (by omega)) $$ HX
  icases HX with ⟨⟨Hxc2, ⟨%fx2, Hxd2⟩, Hxs2⟩, HX⟩
  ihave HX := (takeP (xdoneP c X) 3 6 (by omega)) $$ HX
  icases HX with ⟨⟨Hxc3, ⟨%fx3, Hxd3⟩, Hxs3⟩, HX⟩
  ihave HX := (takeP (xdoneP c X) 4 6 (by omega)) $$ HX
  icases HX with ⟨⟨Hxc4, ⟨%fx4, Hxd4⟩, Hxs4⟩, HX⟩
  ihave HX := (takeP (xdoneP c X) 5 6 (by omega)) $$ HX
  icases HX with ⟨⟨Hxc5, ⟨%fx5, Hxd5⟩, Hxs5⟩, HX⟩
  ihave HR := (takeFree (F := F) c 0 8 (by omega)) $$ HR
  icases HR with ⟨⟨Hwc0, ⟨%fw0, Hwd0⟩⟩, HR⟩
  ihave HH := (takeP (homeP c XW) 0 37 (by omega)) $$ HH
  icases HH with ⟨Hws0, HH⟩
  ihave HR := (takeFree (F := F) c 1 8 (by omega)) $$ HR
  icases HR with ⟨⟨Hwc1, ⟨%fw1, Hwd1⟩⟩, HR⟩
  ihave HH := (takeP (homeP c XW) 1 37 (by omega)) $$ HH
  icases HH with ⟨Hws1, HH⟩
  ihave HR := (takeFree (F := F) c 2 8 (by omega)) $$ HR
  icases HR with ⟨⟨Hwc2, ⟨%fw2, Hwd2⟩⟩, HR⟩
  ihave HH := (takeP (homeP c XW) 2 37 (by omega)) $$ HH
  icases HH with ⟨Hws2, HH⟩
  ihave HR := (takeFree (F := F) c 3 8 (by omega)) $$ HR
  icases HR with ⟨⟨Hwc3, ⟨%fw3, Hwd3⟩⟩, HR⟩
  ihave HH := (takeP (homeP c XW) 3 37 (by omega)) $$ HH
  icases HH with ⟨Hws3, HH⟩
  ihave HR := (takeFree (F := F) c 4 8 (by omega)) $$ HR
  icases HR with ⟨⟨Hwc4, ⟨%fw4, Hwd4⟩⟩, HR⟩
  ihave HH := (takeP (homeP c XW) 4 37 (by omega)) $$ HH
  icases HH with ⟨Hws4, HH⟩
  ihave HR := (takeFree (F := F) c 5 8 (by omega)) $$ HR
  icases HR with ⟨⟨Hwc5, ⟨%fw5, Hwd5⟩⟩, HR⟩
  ihave HH := (takeP (homeP c XW) 5 37 (by omega)) $$ HH
  icases HH with ⟨Hws5, HH⟩
  ihave HR := (takeFree (F := F) c 6 8 (by omega)) $$ HR
  icases HR with ⟨⟨Hwc6, ⟨%fw6, Hwd6⟩⟩, HR⟩
  ihave HH := (takeP (homeP c XW) 6 37 (by omega)) $$ HH
  icases HH with ⟨Hws6, HH⟩
  ihave HR := (takeFree (F := F) c 7 8 (by omega)) $$ HR
  icases HR with ⟨⟨Hwc7, ⟨%fw7, Hwd7⟩⟩, HR⟩
  ihave HH := (takeP (homeP c XW) 7 37 (by omega)) $$ HH
  icases HH with ⟨Hws7, HH⟩
  have hs0 : ∀ q, (Mxu.init : Mxu F).reg q 0 = none := fun q => by simp
  sl_unfold [cc0_fp8_head_topk]
  sl_exec_parts
  iclear HX HR
  sl_for (inv1 c X) $$ [Hcd Hsc HW Hxc0 Hxc1 Hxc2 Hxc3 Hxc4 Hxc5]
  case region =>
    intro t s'
    exact step1 c X i arg5 harg5 arg7 harg7 _ _ _ t s'
  · unfold inv1
    iexists fcd, fsc
    isplitr [Hcd Hsc HW Hxc0 Hxc1 Hxc2 Hxc3 Hxc4 Hxc5]
    · ipureintro
      exact ⟨fun y hy => absurd hy (by omega), fun y hy => absurd hy (by omega)⟩
    isplitl [Hcd]; · iexact Hcd
    isplitl [Hsc]; · iexact Hsc
    isplitl [HW]; · iexists W; iexact HW
    isplitl [Hxc0 Hxc1 Hxc2 Hxc3 Hxc4 Hxc5]
    · iapply (ico_0_6 (xflyP c X))
      isplitl [Hxc0]; · iexists fx0; iexact Hxc0
      isplitl [Hxc1]; · iexists fx1; iexact Hxc1
      isplitl [Hxc2]; · iexists fx2; iexact Hxc2
      isplitl [Hxc3]; · iexists fx3; iexact Hxc3
      isplitl [Hxc4]; · iexists fx4; iexact Hxc4
      iexists fx5; iexact Hxc5
    · rw [show Finset.range 0 = ∅ from rfl, bigSep_empty]
      iempintro
  irw [show Scf.trips (k0_t1_loop i).lb (k0_t1_loop i).ub (k0_t1_loop i).st = 6 from trips1 i]
  unfold inv1
  iintro %u1 ⟨%fC, %fS, %HCS, Hcd, Hsc, ⟨%W1, HW⟩, HXe, HX⟩
  obtain ⟨hC, hS⟩ := HCS
  have eC : fC = Cspec (F := F) X := funext fun y => hC y (y 0).isLt
  have eS : fS = Sspec (F := F) X := funext fun y => hS y (y 0).isLt
  clear hC hS
  subst eC eS
  iclear HXe
  ihave Hcd := (pointsTo_share (PosShare.mem_left_op_right fullShare)).1 $$ Hcd
  icases Hcd with ⟨HK, Hcd⟩
  sl_exec_parts
  ihave Hwv := (entails_of_eq (congrArg (fun g => (wvM.view.loc (c : Thread nD τ) ↦[wvM.view.set]{fullShare} g : sProp 𝕄)) (show wvM.view.writes (Elt F) wvM.view.junk [⟨Rect.whole S148x128, bodyRun.sl.dma0_6 c VS⟩] = VS from wv_landed c _ VS))) $$ Hwv
  ihave Hbv := (entails_of_eq (congrArg (fun g => (bvM.view.loc (c : Thread nD τ) ↦[bvM.view.set]{fullShare} g : sProp 𝕄)) (show bvM.view.writes (Elt F) bvM.view.junk [⟨Rect.whole S148x128, bodyRun.sl.dma0_7 c VB⟩] = VB from bv_landed c _ VB))) $$ Hbv
  ihave HR := (show slotP c 0 ((rslot 0).view.writes (Elt F) (rslot 0).view.junk [⟨Rect.whole S512x8192, bodyRun.sl.dma0_8 c XW⟩]) ⊢ slotP c 0 (ringT (F := F) XW 0) from slot_ring c XW 0 (rslot 0).view.junk) $$ Hwd0
  ihave HG := (ring_init c XW) $$ [Hwc0 Hws0 Hwc1 Hwc2 Hwc3 Hwc4 Hwc5 Hwc6 Hwc7 HH]
  · isplitl [Hwc0]; · iexact Hwc0
    isplitl [Hws0]; · iexact Hws0
    isplitr [HH]
    · iapply (ico_1_8 (flyP c XW))
      unfold flyP
      isplitl [Hwc1]; · iexists fw1; iexact Hwc1
      isplitl [Hwc2]; · iexists fw2; iexact Hwc2
      isplitl [Hwc3]; · iexists fw3; iexact Hwc3
      isplitl [Hwc4]; · iexists fw4; iexact Hwc4
      isplitl [Hwc5]; · iexists fw5; iexact Hwc5
      isplitl [Hwc6]; · iexists fw6; iexact Hwc6
      iexists fw7; iexact Hwc7
    · iexact HH
  sl_for (inv3 c XW (Cspec (F := F) X) arg5 fullShare.right VS VB (Sspec (F := F) X)) $$ [HO Hcd Hwv Hbv Hsc Hs0 HW Hs1 HR HG]
  case region =>
    intro t s'
    exact t3trip c XW (Cspec (F := F) X) i arg5 harg5 arg7 harg7 _ (congrArg (BitVec.ofNat 32) hi) _ t s' fullShare.right VS VB (Sspec (F := F) X)
  · unfold inv3 tripRes
    iexists fO, _, _
    isplitr [HO Hcd Hwv Hbv Hsc Hs0 HW Hs1 HR HG]
    rotate_left
    · isplitr [Hs1 HR HG]
      · isplitl [HO]; · iexact HO
        isplitl [Hcd]; · iexact Hcd
        isplitl [Hwv]; · iexact Hwv
        isplitl [Hbv]; · iexact Hbv
        isplitl [Hsc]; · iexact Hsc
        isplitl [Hs0]; · iexact Hs0
        iexists _; iexact HW
      isplitl [Hs1]; · iexact Hs1
      isplitl [HR]; · iexact HR
      iexact HG
    · ipureintro
      exact ⟨init_MS XW c (rslot 0).view.junk _ _, fun y hy => absurd hy (by omega), fun h => absurd h (by omega)⟩
  irw [show Scf.trips (k0_t3_loop i).lb (k0_t3_loop i).ub (k0_t3_loop i).st = 18 from trips3 i]
  unfold inv3 tripRes
  iintro %s3 ⟨%fO3, %fa3, %fb3, %H3, ⟨HO, Hcd, Hwv, Hbv, Hsc, Hs0, ⟨%W3, HW⟩⟩, Hs1, HR, HG⟩
  have M3 : MS s3 0 1 (fun q => some (tileW XW 36 0 q)) 0 fits_0_192 none 48 fits_48_192 (some (accE XW (Cspec (F := F) X) 35)) := H3.1
  have L3 : LP arg5 XW (Cspec (F := F) X) (Sspec (F := F) X) VS VB fO3 True 35 0 := ⟨H3.2.1, fun _ => H3.2.2 (by omega)⟩
  clear H3
  have hs3 := M3.emp
  ihave HG := (entails_of_eq (congrArg (ringS c XW (2 * 18)) (show hiA (2 * 18) = 37 by decide))) $$ HG
  sl_exec_parts (disch := first | assumption | (mxu_pushok_peel; done) | (mxu_pushok_peel; exact Mxu.pushOk_of_none _ _ _ _ (hs3 _)))
  sl_for (inv13 c XW (Cspec (F := F) X) arg5 fullShare.right VS VB (Sspec (F := F) X)) $$ [HO Hcd Hwv Hbv Hsc Hs1 HW HR]
  case region =>
    intro t s'
    exact step13 c XW (Cspec (F := F) X) i arg5 harg5 arg7 harg7 _ _ _ _ _ t s' fullShare.right VS VB (Sspec (F := F) X)
  · unfold inv13 tripRes
    iexists fO3, _
    isplitr [HO Hcd Hwv Hbv Hsc Hs1 HW HR]
    rotate_left
    · isplitr [HR]
      · isplitl [HO]; · iexact HO
        isplitl [Hcd]; · iexact Hcd
        isplitl [Hwv]; · iexact Hwv
        isplitl [Hbv]; · iexact Hbv
        isplitl [Hsc]; · iexact Hsc
        isplitl [Hs1]; · iexact Hs1
        iexists W3; iexact HW
      · iexact HR
    · ipureintro
      have H5 := five_MS XW (Cspec (F := F) X) 36 (by decide) M3 (lhs36 (Cspec (F := F) X) 0 (k0_off281_inb 0)) (lhs36 (Cspec (F := F) X) 1 (k0_off281_inb 1)) (lhs36 (Cspec (F := F) X) 2 (k0_off281_inb 2)) (lhs36 (Cspec (F := F) X) 3 (k0_off281_inb 3)) (lhs36 (Cspec (F := F) X) 4 (k0_off281_inb 4))
        (tile360 XW 0 (k0_off282_inb 0)) (tile361 XW 0 (k0_off283_inb 0)) (tile360 XW 1 (k0_off282_inb 1)) (tile361 XW 1 (k0_off283_inb 1)) (tile360 XW 2 (k0_off282_inb 2)) (tile361 XW 2 (k0_off283_inb 2)) (tile360 XW 3 (k0_off282_inb 3)) (tile361 XW 3 (k0_off283_inb 3)) (tile360 XW 4 (k0_off282_inb 4)) (tile361 XW 4 (k0_off283_inb 4))
      refine ⟨three_MS XW (Cspec (F := F) X) 36 (by decide) H5 (lhs36 (Cspec (F := F) X) 5 (k0_off281_inb 5)) (lhs36 (Cspec (F := F) X) 6 (k0_off281_inb 6)) (lhs36 (Cspec (F := F) X) 7 (k0_off281_inb 7))
        (tile360 XW 5 (k0_off282_inb 5)) (tile361 XW 5 (k0_off283_inb 5)) (tile360 XW 6 (k0_off282_inb 6)) (tile361 XW 6 (k0_off283_inb 6)) (tile368 XW k0_off284_inb) (tile369 XW k0_off285_inb), L3, fun hl => ?_⟩
      exact s_block s1M.view _ XW (Cspec (F := F) X) 35 H5.read0 H5.read1
  irw [show Scf.trips (k0_t13_loop i).lb (k0_t13_loop i).ub (k0_t13_loop i).st = 2 from trips13 i]
  unfold inv13 tripRes
  iintro %s13 ⟨%fO13, %fb13, %H13, ⟨HO, Hcd, Hwv, Hbv, Hsc, Hs1, ⟨%W13, HW⟩⟩, HR⟩
  obtain ⟨M13, L13, E13⟩ := H13
  have hs13 := M13.emp
  sl_exec_parts (disch := first | assumption | (mxu_pushok_peel; done) | (mxu_pushok_peel; exact Mxu.pushOk_of_none _ _ _ _ (hs13 _)))
  have ML := last_MS XW (Cspec (F := F) X) M13
    (load_lhs (Cspec (F := F) X) inb_S192x8192_S192x256_0_6144 24 (by omega) rfl) (tile36 XW ![4, 0, 6400] (by decide) 25 (by omega) 0 rfl) (tile36 XW ![4, 256, 6400] (by decide) 25 (by omega) 1 rfl)
    (load_lhs (Cspec (F := F) X) inb_S192x8192_S192x256_0_6400 25 (by omega) rfl) (tile36 XW ![4, 0, 6656] (by decide) 26 (by omega) 0 rfl) (tile36 XW ![4, 256, 6656] (by decide) 26 (by omega) 1 rfl)
    (load_lhs (Cspec (F := F) X) inb_S192x8192_S192x256_0_6656 26 (by omega) rfl) (tile36 XW ![4, 0, 6912] (by decide) 27 (by omega) 0 rfl) (tile36 XW ![4, 256, 6912] (by decide) 27 (by omega) 1 rfl)
    (load_lhs (Cspec (F := F) X) inb_S192x8192_S192x256_0_6912 27 (by omega) rfl) (tile36 XW ![4, 0, 7168] (by decide) 28 (by omega) 0 rfl) (tile36 XW ![4, 256, 7168] (by decide) 28 (by omega) 1 rfl)
    (load_lhs (Cspec (F := F) X) inb_S192x8192_S192x256_0_7168 28 (by omega) rfl) (tile36 XW ![4, 0, 7424] (by decide) 29 (by omega) 0 rfl) (tile36 XW ![4, 256, 7424] (by decide) 29 (by omega) 1 rfl)
    (load_lhs (Cspec (F := F) X) inb_S192x8192_S192x256_0_7424 29 (by omega) rfl) (tile36 XW ![4, 0, 7680] (by decide) 30 (by omega) 0 rfl) (tile36 XW ![4, 256, 7680] (by decide) 30 (by omega) 1 rfl)
    (load_lhs (Cspec (F := F) X) inb_S192x8192_S192x256_0_7680 30 (by omega) rfl) (tile36 XW ![4, 0, 7936] (by decide) 31 (by omega) 0 rfl) (tile36 XW ![4, 256, 7936] (by decide) 31 (by omega) 1 rfl)
    (load_lhs (Cspec (F := F) X) inb_S192x8192_S192x256_0_7936 31 (by omega) rfl)
  have hd : (bodyRun.sl.k0_mxu553 c X XW s13).Drained := (ML.swap.pops (by decide)).drained (by decide)
  sl_for (inv15 c XW (Cspec (F := F) X) arg5 fullShare.right VS VB (Sspec (F := F) X)) $$ [HO Hcd Hwv Hbv Hsc Hs0 HW]
  case region =>
    intro t s'
    exact step15 c XW (Cspec (F := F) X) i arg5 harg5 arg7 harg7 _ t s' fullShare.right VS VB (Sspec (F := F) X)
  · unfold inv15 tripRes
    iexists _, _
    isplitr [HO Hcd Hwv Hbv Hsc Hs0 HW]
    rotate_left
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists W13; iexact HW
    · ipureintro
      refine ⟨?_, fun _ => s_block s0M.view _ XW (Cspec (F := F) X) 36 ML.swap.read0 ML.swap.read1⟩
      obtain ⟨io, ix, iw, is, h⟩ := selE (F := F) arg5 fO13 fb13 (Sspec (F := F) X) VS VB
      exact LP.next (LP.sel L13 E13 h) trivial
  irw [show Scf.trips (k0_t15_loop i).lb (k0_t15_loop i).ub (k0_t15_loop i).st = 3 from trips15 i]
  unfold inv15 tripRes
  iintro %s15 ⟨%fO15, %fa15, %H15, ⟨HO, Hcd, Hwv, Hbv, Hsc, Hs0, ⟨%W15, HW⟩⟩⟩
  have L15 := H15.1
  clear H15
  sl_exec_parts (disch := assumption)
  sl_step
  unfold postP argsP scrP
  iexists fO15, _
  isplitr
  rotate_left
  · ihave HG := (ring_end XW c) $$ [HR HG]
    · isplitl [HR]; · iexact HR
      iexact HG
    icases HG with ⟨HR, HH⟩
    ihave Hcd := (pointsTo_share (PosShare.mem_left_op_right fullShare)).2 $$ [HK Hcd]
    · isplitl [HK]; · iexact HK
      iexact Hcd
    isplitl [HX HR HH HS HB Hsc0 Hsc1 Hoc]
    · isplitl [HX]; · iexact HX
      isplitl [HR]; · iexact HR
      isplitl [HH]; · iexact HH
      isplitl [HS]; · iexact HS
      isplitl [HB]; · iexact HB
      isplitl [Hsc0]; · iexact Hsc0
      isplitl [Hsc1]; · iexact Hsc1
      iexact Hoc
    isplitl [Hcd Hwv Hbv Hsc Hs0 Hs1]
    · isplitl [Hcd]; · iexists _; iexact Hcd
      isplitl [Hwv]; · iexists _; iexact Hwv
      isplitl [Hbv]; · iexists _; iexact Hbv
      isplitl [Hsc]; · iexists _; iexact Hsc
      isplitl [Hs0]; · iexists _; iexact Hs0
      iexists _; iexact Hs1
    isplitl [Hco]
    · ihave Hco := (entails_of_eq (congrArg (fun g => (coM.view.loc (c : Thread nD τ) ↦[coM.view.set]{fullShare} g : sProp 𝕄)) (show coM.view.writes (Elt F) fco [⟨Rect.whole S192x8192, bodyRun.sl.dma0_16 c X⟩] = Cspec (F := F) X from co_landed fco (Cspec (F := F) X)))) $$ Hco
      iexact Hco
    isplitl [HO]; · iexact HO
    isplitl [H7]; · iexact H7
    iexists _; iexact HW
  · ipureintro
    exact ⟨fun y => (L15.next trivial : LP arg5 XW (Cspec (F := F) X) (Sspec (F := F) X) VS VB fO15 True 37 0).1 y (by have : (y 1).val < 18944 := (y 1).isLt; omega), scale_row arg7 f7 X _ _⟩

end Body

end Cert.Proof.Kernel
-- ==== Proof.Run.lean ====
/- The run of the program: what each array holds at the end. -/
module

public import proofs.«01_k».proof.Proof.Body
public import proofs.«01_k».proof.Proof.Gen.Kernel.Frame

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ
/-! ## Arrays and their blocks -/

omit [FloatOps F] in
theorem range_fin (n : ℕ) (P : ℕ → sProp 𝕄) : bigSep (Finset.range n) P = bigSep Finset.univ (fun b : Fin n => P b.val) := by
  rw [show Finset.range n = (Finset.univ : Finset (Fin n)).map Fin.valEmbedding from by
    ext x; simp only [Finset.mem_range, Finset.mem_map, Finset.mem_univ, true_and, Fin.valEmbedding_apply]
    exact ⟨fun h => ⟨⟨x, h⟩, rfl⟩, fun ⟨a, h⟩ => h ▸ a.isLt⟩, bigSep_map]
  rfl

abbrev GX (b : Fin 6) : Finset S192x8192.Idx := (Rect.unit (s := S192x8192) (strOff b.val) S32x8192.size (strOff_inb b.val)).set
abbrev GW (b : Fin 37) : Finset S18944x8192.Idx := (Rect.unit (s := S18944x8192) (blkOff b.val) S512x8192.size (blkOff_inb b.val)).set
abbrev GR (b : Fin 8) : Finset S8x512x8192.Idx := (Rect.unit (s := S8x512x8192) (slotOff b.val) S1x512x8192.size (slotOff_inb b.val)).set

theorem xstrp_set (b : Fin 6) : (xstrp b.val).view.set = GX b := View.set_slice_whole _ _
theorem xblk_set (b : Fin 6) : (xblk b.val).view.set = GX b := View.set_slice_whole _ _
theorem wblk_set (b : Fin 37) : (wblk b.val).view.set = GW b := View.set_slice_whole _ _
theorem rslot_set (b : Fin 8) : (rslot b.val).view.set = GR b := (View.set_reshape _ _).trans (View.set_slice_whole _ _)

theorem mem_GX (b : Fin 6) (y : S192x8192.Idx) : y ∈ GX b ↔ (y 0).val / 32 = b.val := by
  rw [Rect.mem_set_unit]
  have h1 : (y 1).val < 8192 := (y 1).isLt
  have hb := b.isLt
  constructor
  · intro H; have a0 : 32 * (b.val % 6) ≤ (y 0).val ∧ (y 0).val < 32 * (b.val % 6) + 32 := H 0; omega
  · intro H i; fin_cases i
    · show 32 * (b.val % 6) ≤ (y 0).val ∧ (y 0).val < 32 * (b.val % 6) + 32; omega
    · show 0 ≤ (y 1).val ∧ (y 1).val < 0 + 8192; omega
theorem mem_GW (b : Fin 37) (y : S18944x8192.Idx) : y ∈ GW b ↔ (y 0).val / 512 = b.val := by
  rw [Rect.mem_set_unit]
  have h1 : (y 1).val < 8192 := (y 1).isLt
  have hb := b.isLt
  constructor
  · intro H; have a0 : 512 * (b.val % 37) ≤ (y 0).val ∧ (y 0).val < 512 * (b.val % 37) + 512 := H 0; omega
  · intro H i; fin_cases i
    · show 512 * (b.val % 37) ≤ (y 0).val ∧ (y 0).val < 512 * (b.val % 37) + 512; omega
    · show 0 ≤ (y 1).val ∧ (y 1).val < 0 + 8192; omega
theorem mem_GR (b : Fin 8) (y : S8x512x8192.Idx) : y ∈ GR b ↔ (y 0).val = b.val := by
  rw [Rect.mem_set_unit]
  have h1 : (y 1).val < 512 := (y 1).isLt
  have h2 : (y 2).val < 8192 := (y 2).isLt
  have hb := b.isLt
  constructor
  · intro H; have a0 : b.val % 8 ≤ (y 0).val ∧ (y 0).val < b.val % 8 + 1 := H 0; omega
  · intro H i; fin_cases i
    · show b.val % 8 ≤ (y 0).val ∧ (y 0).val < b.val % 8 + 1; omega
    · show 0 ≤ (y 1).val ∧ (y 1).val < 0 + 512; omega
    · show 0 ≤ (y 2).val ∧ (y 2).val < 0 + 8192; omega

theorem GX_disjoint : ∀ b b' : Fin 6, b ≠ b' → Disjoint (GX b) (GX b') := by
  intro b b' hne; rw [Finset.disjoint_left]; intro y hy hy'; rw [mem_GX] at hy hy'; exact hne (Fin.ext (hy.symm.trans hy'))
theorem GX_cover : (Finset.univ : Finset (Fin 6)).biUnion GX = Finset.univ := by
  ext y; simp only [Finset.mem_biUnion, Finset.mem_univ, true_and, iff_true]
  have h : (y 0).val < 192 := (y 0).isLt
  exact ⟨⟨(y 0).val / 32, by omega⟩, by rw [mem_GX]⟩
theorem GW_disjoint : ∀ b b' : Fin 37, b ≠ b' → Disjoint (GW b) (GW b') := by
  intro b b' hne; rw [Finset.disjoint_left]; intro y hy hy'; rw [mem_GW] at hy hy'; exact hne (Fin.ext (hy.symm.trans hy'))
theorem GW_cover : (Finset.univ : Finset (Fin 37)).biUnion GW = Finset.univ := by
  ext y; simp only [Finset.mem_biUnion, Finset.mem_univ, true_and, iff_true]
  have h : (y 0).val < 18944 := (y 0).isLt
  exact ⟨⟨(y 0).val / 512, by omega⟩, by rw [mem_GW]⟩
theorem GR_disjoint : ∀ b b' : Fin 8, b ≠ b' → Disjoint (GR b) (GR b') := by
  intro b b' hne; rw [Finset.disjoint_left]; intro y hy hy'; rw [mem_GR] at hy hy'; exact hne (Fin.ext (hy.symm.trans hy'))
theorem GR_cover : (Finset.univ : Finset (Fin 8)).biUnion GR = Finset.univ := by
  ext y; simp only [Finset.mem_biUnion, Finset.mem_univ, true_and, iff_true]
  have h : (y 0).val < 8 := (y 0).isLt
  exact ⟨⟨(y 0).val, h⟩, by rw [mem_GR]⟩

/-- The rows are their strips. -/
theorem x_eq (c : Dev nD) (X : Buf (Elt F) (xM.view.loc (c : Thread nD τ))) :
    (((c : Thread nD τ).loc main_v0) ↦{fullShare} X : sProp 𝕄) = bigSep (Finset.range 6) (xhomeP c X) := by
  rw [range_fin, Ring.pointsTo_blocks (ℓ := (c : Thread nD τ).loc main_v0) GX GX_disjoint GX_cover]
  exact bigSep_congr fun b _ => by rw [← xblk_set]; rfl
/-- The weights are their blocks. -/
theorem w_eq (c : Dev nD) (XW : Buf (Elt F) (wM.view.loc (c : Thread nD τ))) :
    (((c : Thread nD τ).loc main_arg1) ↦{fullShare} XW : sProp 𝕄) = bigSep (Finset.range 37) (homeP c XW) := by
  rw [range_fin, Ring.pointsTo_blocks (ℓ := (c : Thread nD τ).loc main_arg1) GW GW_disjoint GW_cover]
  exact bigSep_congr fun b _ => by rw [← wblk_set]; rfl

omit [FloatOps F] in
theorem xstrP_eq (c : Dev nD) (s : Fin 6) (f) : xstrP c s.val f = (((c : Thread nD τ).loc cc0_scratch0) ↦[GX s]{fullShare} f : sProp 𝕄) :=
  congrArg (fun S => (_ ↦[S]{fullShare} f : sProp 𝕄)) (xstrp_set s)
omit [FloatOps F] in
theorem slotP_eq (c : Dev nD) (s : Fin 8) (f) : slotP c s.val f = (((c : Thread nD τ).loc cc0_scratch2) ↦[GR s]{fullShare} f : sProp 𝕄) :=
  congrArg (fun S => (_ ↦[S]{fullShare} f : sProp 𝕄)) (rslot_set s)

omit [FloatOps F] in
theorem mono_each {n : ℕ} {Φ Ψ : Fin n → sProp 𝕄} (h : ∀ b, Φ b ⊢ Ψ b) : bigSep Finset.univ Φ ⊢ bigSep Finset.univ Ψ := bigSep_mono fun b _ => h b

theorem xb_split (c : Dev nD) : iprop(∃ f : Buf (Elt F) ((c : Thread nD τ).loc cc0_scratch0), ((c : Thread nD τ).loc cc0_scratch0) ↦{fullShare} f)
    ⊢ (bigSep (Finset.range 6) (fun u => iprop(∃ f, xstrP c u f)) : sProp 𝕄) := by
  rw [range_fin]
  iintro ⟨%f, H⟩
  ihave H2 := (entails_of_eq (Ring.pointsTo_blocks (Ix := Unit) (Name := ℕ) (U := UU nD τ) (Lvl := ℕ) (q := fullShare) (ℓ := (c : Thread nD τ).loc cc0_scratch0) GX GX_disjoint GX_cover f)) $$ H
  iapply (mono_each (Φ := fun b => (((c : Thread nD τ).loc cc0_scratch0) ↦[GX b]{fullShare} f : sProp 𝕄)) fun b => by
    iintro H; iexists f; iapply (entails_of_eq (xstrP_eq c b f).symm); iexact H)
  iexact H2
theorem xb_join (c : Dev nD) (f0 : Buf (Elt F) ((c : Thread nD τ).loc cc0_scratch0)) : (bigSep (Finset.range 6) (fun u => iprop(∃ f, xstrP c u f)) : sProp 𝕄)
    ⊢ iprop(∃ f : Buf (Elt F) ((c : Thread nD τ).loc cc0_scratch0), ((c : Thread nD τ).loc cc0_scratch0) ↦{fullShare} f) := by
  rw [range_fin]
  refine BIBase.Entails.trans ?_ (Ring.pointsTo_blocks_join_exists (ℓ := (c : Thread nD τ).loc cc0_scratch0) GX GX_disjoint GX_cover f0)
  exact mono_each fun b => by
    iintro ⟨%f, H⟩; iexists f; iapply (entails_of_eq (xstrP_eq c b f)); iexact H
theorem rg_split (c : Dev nD) : iprop(∃ f : Buf (Elt F) ((c : Thread nD τ).loc cc0_scratch2), ((c : Thread nD τ).loc cc0_scratch2) ↦{fullShare} f)
    ⊢ (bigSep (Finset.range 8) (fun u => iprop(∃ f, slotP c u f)) : sProp 𝕄) := by
  rw [range_fin]
  iintro ⟨%f, H⟩
  ihave H2 := (entails_of_eq (Ring.pointsTo_blocks (Ix := Unit) (Name := ℕ) (U := UU nD τ) (Lvl := ℕ) (q := fullShare) (ℓ := (c : Thread nD τ).loc cc0_scratch2) GR GR_disjoint GR_cover f)) $$ H
  iapply (mono_each (Φ := fun b => (((c : Thread nD τ).loc cc0_scratch2) ↦[GR b]{fullShare} f : sProp 𝕄)) fun b => by
    iintro H; iexists f; iapply (entails_of_eq (slotP_eq c b f).symm); iexact H)
  iexact H2
theorem rg_join (c : Dev nD) (f0 : Buf (Elt F) ((c : Thread nD τ).loc cc0_scratch2)) : (bigSep (Finset.range 8) (fun u => iprop(∃ f, slotP c u f)) : sProp 𝕄)
    ⊢ iprop(∃ f : Buf (Elt F) ((c : Thread nD τ).loc cc0_scratch2), ((c : Thread nD τ).loc cc0_scratch2) ↦{fullShare} f) := by
  rw [range_fin]
  refine BIBase.Entails.trans ?_ (Ring.pointsTo_blocks_join_exists (ℓ := (c : Thread nD τ).loc cc0_scratch2) GR GR_disjoint GR_cover f0)
  exact mono_each fun b => by
    iintro ⟨%f, H⟩; iexists f; iapply (entails_of_eq (slotP_eq c b f)); iexact H

/-! ## The kernel's own semaphores -/

abbrev osem : Fin 17 → SemLoc sig :=
  ![.dma (xsm 0).sem, .dma (xsm 1).sem, .dma (xsm 2).sem, .dma (xsm 3).sem, .dma (xsm 4).sem, .dma (xsm 5).sem,
    .dma (csm 0).sem, .dma (csm 1).sem, .dma (csm 2).sem, .dma (csm 3).sem, .dma (csm 4).sem, .dma (csm 5).sem, .dma (csm 6).sem, .dma (csm 7).sem,
    .dma (ssm 0).sem, .dma (ssm 1).sem, .dma cc0_scratch11.sem]
theorem ownSemFacts : Pipeline.OwnSemFacts spec0 osem := by decide

open Idealize.ShloMosaic.Pipeline (Dat BodyObligation)

omit [FloatOps F] in
theorem assocSep (P Q R : sProp 𝕄) : iprop((P ∗ Q) ∗ R) = iprop(P ∗ Q ∗ R) :=
  equiv_iff.mp ⟨BI.sep_assoc, BI.sep_assoc'⟩
omit [FloatOps F] in
theorem range6 (P : ℕ → sProp 𝕄) : bigSep (Finset.range 6) P = iprop(P 0 ∗ P 1 ∗ P 2 ∗ P 3 ∗ P 4 ∗ P 5) := by
  rw [range_fin, bigSep_univ_eq_bigSepL [(0 : Fin 6), 1, 2, 3, 4, 5] (by decide) (by decide)]; rfl
omit [FloatOps F] in
theorem range8 (P : ℕ → sProp 𝕄) : bigSep (Finset.range 8) P = iprop(P 0 ∗ P 1 ∗ P 2 ∗ P 3 ∗ P 4 ∗ P 5 ∗ P 6 ∗ P 7) := by
  rw [range_fin, bigSep_univ_eq_bigSepL [(0 : Fin 8), 1, 2, 3, 4, 5, 6, 7] (by decide) (by decide)]; rfl

omit [FloatOps F] in
/-- The kernel's own cells at zero, array by array. -/
theorem ownSems0_eq (c : Dev nD) : (Pipeline.ownSems0 (Ix := Unit) (Name := ℕ) (U := UU nD τ) (Lvl := ℕ) (Val := Elt F) (τ := τ) osem c : sProp 𝕄)
    = iprop(bigSep (Finset.range 6) (xcellP (F := F) c) ∗ bigSep (Finset.range 8) (cellP (F := F) c) ∗ scellP (F := F) c 0 ∗ scellP (F := F) c 1 ∗ ocellP (F := F) c) := by
  rw [Pipeline.ownSems0_eq_of_list c osem [0, 1, 2, 3, 4, 5, 6, 7, 8, 9, 10, 11, 12, 13, 14, 15, 16] (by decide) (by decide), range6, range8]
  simp only [assocSep]
  rfl

omit [FloatOps F] in
/-- A memref of a whole buffer is held as the buffer is. -/
theorem holds_whole (c : Dev nD) (b : Ref sig .tc) (f : Buf (Elt F) ((c : Thread nD τ).loc b)) :
    ((View.whole b).loc (c : Thread nD τ) ↦[(View.whole b).set]{fullShare} f : sProp 𝕄) = (((c : Thread nD τ).loc b) ↦{fullShare} f) := by
  rw [View.set_whole]

/-! ## The pipeline's proof data -/

variable (m : (ℓ : Loc nD τ sig) → Buf (Elt F) ℓ) (ρ : Dev nD → PrngReg)

/-- The rows, the weights, the columns' scales and biases as the region finds them. -/
abbrev rows (c : Dev nD) : Buf (Elt F) (xM.view.loc (c : Thread nD τ)) := V m c main_v0
abbrev wts (c : Dev nD) : Buf (Elt F) (wM.view.loc (c : Thread nD τ)) := V m c main_arg1
abbrev wsc (c : Dev nD) : Buf (Elt F) (wsM.view.loc (c : Thread nD τ)) := V m c main_v1
abbrev bia (c : Dev nD) : Buf (Elt F) (bsM.view.loc (c : Thread nD τ)) := V m c main_v2
/-- The logits the run leaves. -/
def logits (c : Dev nD) : S192x18944.Idx → Elt F .f32 :=
  fun y => lgt (wts m c) (Cspec (F := F) (rows m c)) (Sspec (F := F) (rows m c)) (wsc m c) (bia m c) y

/-- The region invariant: the arguments home, the scratch at anything; after the point the codes are at the specification's. -/
def Φ (c : Dev nD) (t : Fin (cfg0.N + 1)) : sProp 𝕄 :=
  iprop(argsP c (rows m c) (wts m c) (wsc m c) (bia m c) ∗ scrP (F := F) c ∗ ∃ f, ⌜t ≠ 0 → f = Cspec (F := F) (rows m c)⌝ ∗ holdsP c coM f)

def dats (_ : Fin 1) (c : Dev nD) : Dat τ (Elt F) Unit ℕ (UU nD τ) ℕ cfg0 c where
  A w := V m c (Pipeline.arrRef spec0 w)
  after w t := match w with
    | ⟨0, _⟩ => logits m c
    | ⟨1, _⟩ => scaleO (F := F) (rows m c)
  Φ t := Φ m c t
  q _ := fullShare
  owed _ := 0

theorem after_w0 (c : Dev nD) (t : Fin cfg0.N) : (dats m 0 c).after 0 t = logits m c := by dsimp only [dats]
theorem after_w1 (c : Dev nD) (t : Fin cfg0.N) : (dats m 0 c).after 1 t = scaleO (F := F) (rows m c) := by dsimp only [dats]

/-! ## The body obligation -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)

theorem defs_tc : (defs₀ (F := F)) .tc cfg0.body
    = fun a => cc0_fp8_head_topk (F := F) (grid0.coords a.1) xM (Memref.isWhole_whole _) wM (Memref.isWhole_whole _) wsM (Memref.isWhole_whole _) bsM (Memref.isWhole_whole _) (win0_0.stage (a.2 0)) (hstage0_0 ((a.2 0).cast nbuf0_0)) coM (Memref.isWhole_whole _) (win0_1.stage (a.2 1)) (hstage0_1 ((a.2 1).cast nbuf0_1)) xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 := rfl
theorem prog_eq (t : Fin cfg0.N) : (defs₀ (F := F)) .tc cfg0.body (cfg0.bodyArgs t (cfg0.slots t))
    = cc0_fp8_head_topk (F := F) (grid0.coords t) xM (Memref.isWhole_whole _) wM (Memref.isWhole_whole _) wsM (Memref.isWhole_whole _) bsM (Memref.isWhole_whole _) (st0_0 t) (hst0 t) coM (Memref.isWhole_whole _) (st0_1 t) (hst1 t) xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0, after_w1]
  rw [show (dats m 0 c).Φ t.castSucc = Φ m c t.castSucc from rfl, show (dats m 0 c).Φ t.succ = Φ m c t.succ from rfl]
  unfold Dat.owesAt Pipeline.owesWithin
  rw [show (dats m 0 c).owed t.castSucc = 0 from rfl, show (dats m 0 c).owed t.succ = 0 from rfl]
  unfold owns Φ
  iintro ⟨⟨HA, HS, ⟨%fc, -, HC⟩⟩, ⟨%W, -, HW⟩, ⟨%d0, %g0, %hg0, H5⟩, ⟨%d1, %g1, -, H7⟩⟩
  sl_rw [prog_eq t]
  iapply (wp_wand_r Idealize.ShloMosaic.frame (wpE (defs₀ (F := F)) 𝒱₀ (c : Thread nD τ) none) Set.univ (Q := fun _ => postP c (rows m c) (wts m c) (wsc m c) (bia m c) (st0_0 t) (st0_1 t)))
  isplitl [HA HS HC HW H5 H7]
  · iapply (bodyRun c (rows m c) (wts m c) (wsc m c) (bia m c) (grid0.coords t) (st0_0 t) (hst0 t) (st0_1 t) (hst1 t))
    unfold preP
    isplitl [HA]; · iexact HA
    isplitl [HS]; · iexact HS
    isplitl [HC]; · iexists fc; iexact HC
    isplitl [H5]; · iexists g0; iexact H5
    isplitl [H7]; · iexists g1; iexact H7
    iexists W; iexact HW
  iintro %u HP
  unfold postP
  icases HP with ⟨%f5, %f7, %h57, HA, HS, HC, H5, H7, ⟨%W', HW⟩⟩
  isplitl [HA HS HC]
  · isplitl [HA]; · iexact HA
    isplitl [HS]; · iexact HS
    iexists _; isplitr; · ipureintro; exact fun _ => rfl
    iexact HC
  isplitl [HW]
  · iexists W'; isplitr; · ipureintro; exact fun _ _ => Or.inl trivial
    iexact HW
  isplitl [H5]
  · iexists _; isplitr; · ipureintro; exact funext h57.1
    iexact H5
  iexists _; isplitr; · ipureintro; exact h57.2
  iexact H7

/-! ## The run -/

/-- What the body never holds: the other arguments. -/
def restP (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3))
/-- What the body takes beside its scratch and semaphores. -/
def inP (c : Dev nD) : sProp 𝕄 :=
  iprop(bigSep (Finset.range 6) (xhomeP c (rows m c)) ∗ bigSep (Finset.range 37) (homeP c (wts m c)) ∗ holdsP c wsM (wsc m c) ∗ holdsP c bsM (bia m c)
    ∗ (∃ f, holdsP c coM f) ∗ Pipeline.ownSems0 osem c)
/-- What of it is read off at the end. -/
def outP (c : Dev nD) : sProp 𝕄 :=
  iprop((((c : Thread nD τ).loc main_arg1) ↦{fullShare} V m c main_arg1) ∗ (((c : Thread nD τ).loc main_v3_1) ↦{fullShare} Cspec (F := F) (rows m c)))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_v3_1) = Cspec (F := F) (rows m c)
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem xdone_eq (c : Dev nD) (X : Buf (Elt F) (xM.view.loc (c : Thread nD τ))) : bigSep (Finset.range 6) (xdoneP c X)
    = (iprop(bigSep (Finset.range 6) (xcellP (F := F) c) ∗ bigSep (Finset.range 6) (fun u => iprop(∃ f, xstrP c u f)) ∗ bigSep (Finset.range 6) (xhomeP c X)) : sProp 𝕄) :=
  (bigSep_sep _ _ _).trans (congrArg (fun R : sProp 𝕄 => iprop(bigSep (Finset.range 6) (xcellP (F := F) c) ∗ R)) (bigSep_sep _ _ _))
theorem free_eq (c : Dev nD) : bigSep (Finset.range 8) (freeP (F := F) c)
    = (iprop(bigSep (Finset.range 8) (cellP (F := F) c) ∗ bigSep (Finset.range 8) (fun u => iprop(∃ f, slotP c u f))) : sProp 𝕄) := bigSep_sep _ _ _

theorem args_in (c : Dev nD) : iprop(inP m c ∗ Pipeline.scopedRest (Ix := Unit) (Name := ℕ) (U := UU nD τ) (Lvl := ℕ) (Val := Elt F) spec0 c) ⊢ Φ m c 0 := by
  unfold inP Φ argsP scrP
  rw [scopedRest0_eq, ownSems0_eq]
  rw [xdone_eq, free_eq]
  iintro ⟨⟨HX, HH, HS, HB, ⟨%fc, HC⟩, HxC, HcC, H0, H1, Ho⟩, K0, ⟨%f1, K1⟩, K2, ⟨%f3, K3⟩, ⟨%f4, K4⟩, ⟨%f5, K5⟩, ⟨%f6, K6⟩, ⟨%f7, K7⟩⟩
  ihave K0 := (xb_split c) $$ K0
  ihave K2 := (rg_split c) $$ K2
  isplitl [HX HxC K0 HcC K2 HH HS HB H0 H1 Ho]
  · isplitl [HX HxC K0]
    · isplitl [HxC]; · iexact HxC
      isplitl [K0]; · iexact K0
      iexact HX
    isplitl [HcC K2]
    · isplitl [HcC]; · iexact HcC
      iexact K2
    isplitl [HH]; · iexact HH
    isplitl [HS]; · iexact HS
    isplitl [HB]; · iexact HB
    isplitl [H0]; · iexact H0
    isplitl [H1]; · iexact H1
    iexact Ho
  isplitl [K1 K3 K4 K5 K6 K7]
  · isplitl [K1]; · iexists f1; iapply (entails_of_eq (holds_whole c cc0_scratch1 f1).symm); iexact K1
    isplitl [K3]; · iexists f3; iapply (entails_of_eq (holds_whole c cc0_scratch3 f3).symm); iexact K3
    isplitl [K4]; · iexists f4; iapply (entails_of_eq (holds_whole c cc0_scratch4 f4).symm); iexact K4
    isplitl [K5]; · iexists f5; iapply (entails_of_eq (holds_whole c cc0_scratch5 f5).symm); iexact K5
    isplitl [K6]; · iexists f6; iapply (entails_of_eq (holds_whole c cc0_scratch6 f6).symm); iexact K6
    iexists f7; iapply (entails_of_eq (holds_whole c cc0_scratch7 f7).symm); iexact K7
  iexists fc; isplitr; · ipureintro; exact fun h => absurd rfl h
  iexact HC

theorem args_out (c : Dev nD) : Φ m c (Fin.last cfg0.N) ⊢ iprop(outP m c ∗ Pipeline.ownSems0 osem c ∗ Pipeline.scopedRest (Ix := Unit) (Name := ℕ) (U := UU nD τ) (Lvl := ℕ) (Val := Elt F) spec0 c) := by
  unfold outP Φ argsP scrP
  rw [scopedRest0_eq, ownSems0_eq, w_eq c (wts m c)]
  rw [xdone_eq, free_eq]
  iintro ⟨⟨⟨HxC, K0, HX⟩, ⟨HcC, K2⟩, HH, HS, HB, H0, H1, Ho⟩, ⟨⟨%f1, K1⟩, ⟨%f3, K3⟩, ⟨%f4, K4⟩, ⟨%f5, K5⟩, ⟨%f6, K6⟩, ⟨%f7, K7⟩⟩, ⟨%fc, %hfc, HC⟩⟩
  rw [hfc (by decide)]
  ihave HC := (entails_of_eq (holds_whole c main_v3_1 _)) $$ HC
  ihave K0 := (xb_join c (fun _ => default)) $$ K0
  ihave K2 := (rg_join c (fun _ => default)) $$ K2
  isplitl [HH HC]
  · isplitl [HH]; · iexact HH
    iexact HC
  isplitl [HxC HcC H0 H1 Ho]
  · isplitl [HxC]; · iexact HxC
    isplitl [HcC]; · iexact HcC
    isplitl [H0]; · iexact H0
    isplitl [H1]; · iexact H1
    iexact Ho
  isplitl [K0]; · iexact K0
  isplitl [K1]; · iexists f1; iapply (entails_of_eq (holds_whole c cc0_scratch1 f1)); iexact K1
  isplitl [K2]; · iexact K2
  isplitl [K3]; · iexists f3; iapply (entails_of_eq (holds_whole c cc0_scratch3 f3)); iexact K3
  isplitl [K4]; · iexists f4; iapply (entails_of_eq (holds_whole c cc0_scratch4 f4)); iexact K4
  isplitl [K5]; · iexists f5; iapply (entails_of_eq (holds_whole c cc0_scratch5 f5)); iexact K5
  isplitl [K6]; · iexists f6; iapply (entails_of_eq (holds_whole c cc0_scratch6 f6)); iexact K6
  iexists f7; iapply (entails_of_eq (holds_whole c cc0_scratch7 f7)); iexact K7

set_option backward.isDefEq.respectTransparency.types false in
/-- From any memory with zero counters: every weakly fair execution terminates, and every final state has the logits and
    the scales at what the pipeline leaves, the codes at the specification's, the arguments unchanged, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := inP m) (Y := outP m) (Z := restP m)
    (hX := fun c => by
      rw [unscopedRest0_eq, x_eq c (V m c main_v0), w_eq c (V m c main_arg1)]
      unfold inP restP
      iintro ⟨⟨H0, H1, H2, H3, K0, K1, K2, K3⟩, HO, -⟩
      imodintro
      isplitl [H1 K0 K1 K2 K3 HO]
      · isplitl [K0]; · iexact K0
        isplitl [H1]; · iexact H1
        isplitl [K1]; · iapply (entails_of_eq (holds_whole c main_v1 _).symm); iexact K1
        isplitl [K2]; · iapply (entails_of_eq (holds_whole c main_v2 _).symm); iexact K2
        isplitl [K3]; · iexists _; iapply (entails_of_eq (holds_whole c main_v3_1 _).symm); iexact K3
        iexact HO
      isplitl [H0]; · iexact H0
      isplitl [H2]; · iexact H2
      iexact H3)
    (hin := fun c => args_in m c)
    (hout := fun c => args_out m c)
    (QY := QY m)
    (hY := fun c s' => by
      unfold outP restP
      iintro ⟨⟨H1, HC⟩, ⟨H0, H2, H3⟩, HSI⟩
      icombine HSI H0 gives %h0
      icombine HSI H1 gives %h1
      icombine HSI H2 gives %h2
      icombine HSI H3 gives %h3
      icombine HSI HC gives %hC
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ hC⟩
      iexact HSI)
    (hQ := fun _ hh hz => ⟨hh, hz⟩)

/-- The frame: the arguments end unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2.1.trans (V_main_arg0 m c), (h.1 c).2.2.1.trans (V_main_arg1 m c),
    (h.1 c).2.2.2.1.trans (V_main_arg2 m c), (h.1 c).2.2.2.2.1.trans (V_main_arg3 m c)⟩, h.2⟩) (run_main m ρ)
end Cert.Proof.Kernel
-- ==== Proof.IdealBase.lean ====
/- Names the proof of the kernel uses throughout: the resource algebra, the ring's slots, the blocks of the
   weights, the semaphore of each slot, and the closed forms of the offsets the loops compute. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.KitQuiescent
public import Idealize.ShloMosaic.Lib.Ring
public import Idealize.ShloMosaic.Lib.Affine
public import Idealize.ShloMosaic.Lib.LoopRemainder
public import Idealize.ShloMosaic.Lib.Mxu.Walk
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The arrays -/

abbrev xM : Memref sig .tc .hbm S192x8192 .bf16 := Memref.whole main_v0
abbrev wM : Memref sig .tc .hbm S18944x8192 .fp8e4m3 := Memref.whole main_arg1
abbrev wsM : Memref sig .tc .hbm S148x128 .f32 := Memref.whole main_v1
abbrev bsM : Memref sig .tc .hbm S148x128 .f32 := Memref.whole main_v2
abbrev coM : Memref sig .tc .hbm S192x8192 .fp8e4m3 := Memref.whole main_v3_1
abbrev xbM : Memref sig .tc .vmem S192x8192 .bf16 := Memref.whole cc0_scratch0
abbrev cdM : Memref sig .tc .vmem S192x8192 .fp8e4m3 := Memref.whole cc0_scratch1
abbrev rgM : Memref sig .tc .vmem S8x512x8192 .fp8e4m3 := Memref.whole cc0_scratch2
abbrev wvM : Memref sig .tc .vmem S148x128 .f32 := Memref.whole cc0_scratch3
abbrev bvM : Memref sig .tc .vmem S148x128 .f32 := Memref.whole cc0_scratch4
abbrev scM : Memref sig .tc .vmem S192x128 .f32 := Memref.whole cc0_scratch5
abbrev s0M : Memref sig .tc .vmem S192x512 .f32 := Memref.whole cc0_scratch6
abbrev s1M : Memref sig .tc .vmem S192x512 .f32 := Memref.whole cc0_scratch7

/-! ## The ring: block `b` of the weights goes to slot `b % 8`, on that slot's semaphore -/

abbrev slotOff (b : ℕ) : Fin 3 → Nat := ![b % 8, 0, 0]
theorem slotOff_inb (b : ℕ) : ∀ a, slotOff b a + S1x512x8192.size a ≤ S8x512x8192.size a := by
  intro a; fin_cases a
  · show b % 8 + 1 ≤ 8; omega
  · show 0 + 512 ≤ 512; omega
  · show 0 + 8192 ≤ 8192; omega
abbrev semOff (b : ℕ) : Fin 1 → Nat := ![b % 8]
theorem semOff_inb (b : ℕ) : ∀ a, semOff b a + S1.size a ≤ S8.size a := by
  intro a; fin_cases a; show b % 8 + 1 ≤ 8; omega
abbrev blkOff (b : ℕ) : Fin 2 → Nat := ![512 * (b % 37), 0]
theorem blkOff_inb (b : ℕ) : ∀ a, blkOff b a + S512x8192.size a ≤ S18944x8192.size a := by
  intro a; fin_cases a
  · show 512 * (b % 37) + 512 ≤ 18944; omega
  · show 0 + 8192 ≤ 8192; omega

/-- Block `b`'s slot of the ring, as the body slices and squeezes it. -/
def rslot (b : ℕ) : Memref sig .tc .vmem S512x8192 .fp8e4m3 :=
  (rgM.slice (Rect.unit (s := S8x512x8192) (slotOff b) S1x512x8192.size (slotOff_inb b)) (fun _ => rfl)).squeeze S512x8192 squeezes_S1x512x8192_S512x8192
/-- Block `b`'s semaphore. -/
def csm (b : ℕ) : DmaSems sig S_ := (cc0_scratch9.slice (Rect.unit (s := S8) (semOff b) S1.size (semOff_inb b))).squeeze S_ squeezes_S1_S_
/-- Block `b` of the weights. -/
def wblk (b : ℕ) : Memref sig .tc .hbm S512x8192 .fp8e4m3 :=
  wM.slice (Rect.unit (s := S18944x8192) (blkOff b) S512x8192.size (blkOff_inb b)) (fun _ => rfl)

instance (b : ℕ) : ClosedOff (slotOff b) := ⟨slotOff b, rfl⟩
instance (b : ℕ) : ClosedOff (blkOff b) := ⟨blkOff b, rfl⟩

theorem i0 (i : grid0.Coords) : (i 0).val = 0 := by have h : (i 0).val < 1 := (i 0).isLt; omega

/-- A slice of the slots' semaphores at an offset equal to `semOff b` is `csm b`. -/
theorem csm_congr {off : Fin 1 → Nat} (b : ℕ) (e : off = semOff b) (hh) :
    (cc0_scratch9.slice (Rect.unit (s := S8) off S1.size hh)).squeeze S_ squeezes_S1_S_ = csm b :=
  congrArg (fun A : DmaSems sig S1 => A.squeeze S_ squeezes_S1_S_) (SemArray.slice_unit_congr _ e _ _)
theorem rslot_congr {off : Fin 3 → Nat} (b : ℕ) (e : off = slotOff b) (hh hs) :
    (rgM.slice (Rect.unit (s := S8x512x8192) off S1x512x8192.size hh) hs).squeeze S512x8192 squeezes_S1x512x8192_S512x8192 = rslot b :=
  congrArg (fun M : Memref sig .tc .vmem S1x512x8192 .fp8e4m3 => M.squeeze S512x8192 squeezes_S1x512x8192_S512x8192) (Memref.slice_unit_congr _ e _ _ _ _)
theorem wblk_congr {off : Fin 2 → Nat} (b : ℕ) (e : off = blkOff b) (hh hs) :
    wM.slice (Rect.unit (s := S18944x8192) off S512x8192.size hh) hs = wblk b :=
  Memref.slice_unit_congr _ e _ _ _ (fun _ => rfl)

theorem trips3 (i : grid0.Coords) : (k0_t3_loop i).trips = 18 := by
  have h : ∀ i : grid0.Coords, (k0_t3_loop i).trips = 18 := by decide +kernel
  exact h i
theorem trips4 (i : grid0.Coords) : (k0_t4_loop i).trips = 3 := by
  have h : ∀ i : grid0.Coords, (k0_t4_loop i).trips = 3 := by decide +kernel
  exact h i

/-- An equality of short vectors of numbers, entry by entry. -/
theorem vec1 {a b : ℕ} (h : a = b) : (![a] : Fin 1 → ℕ) = ![b] := by rw [h]
theorem vec2 {a b c : ℕ} (h : a = b) : (![a, c] : Fin 2 → ℕ) = ![b, c] := by rw [h]
theorem vec3 {a b c d : ℕ} (h : a = b) : (![a, c, d] : Fin 3 → ℕ) = ![b, c, d] := by rw [h]

section T3
variable (i : grid0.Coords) (k : Fin (k0_t3_loop i).trips)

/-! The first of the two blocks of trip `k`: block `2 k + 7` is started, block `2 k + 1` is waited for. -/

@[sl_canon] theorem sem139 (hh) : (cc0_scratch9.slice (Rect.unit (s := S8) (k0_off139 i k) S1.size hh)).squeeze S_ squeezes_S1_S_ = csm (2 * k.val + 7) :=
  csm_congr _ ((k0_off139_eq i k).trans (vec1 (by rw [i0 i]; omega))) hh
@[sl_canon] theorem slot140 (hh hs) : (rgM.slice (Rect.unit (s := S8x512x8192) (k0_off140 i k) S1x512x8192.size hh) hs).squeeze S512x8192 squeezes_S1x512x8192_S512x8192 = rslot (2 * k.val + 7) :=
  rslot_congr _ ((k0_off140_eq i k).trans (vec3 (by rw [i0 i]; omega))) hh hs
@[sl_canon] theorem blk141 (hk : 2 * k.val + 7 < 37) (hh hs) : wM.slice (Rect.unit (s := S18944x8192) (k0_off141 i k) S512x8192.size hh) hs = wblk (2 * k.val + 7) :=
  wblk_congr _ ((k0_off141_eq i k).trans (vec2 (by rw [i0 i]; omega))) hh hs
@[sl_canon] theorem sem147 (hh) : (cc0_scratch9.slice (Rect.unit (s := S8) (k0_off147 i k) S1.size hh)).squeeze S_ squeezes_S1_S_ = csm (2 * k.val + 1) :=
  csm_congr _ ((k0_off147_eq i k).trans (vec1 (by rw [i0 i]; omega))) hh
@[sl_canon] theorem slot148 (hh hs) : (rgM.slice (Rect.unit (s := S8x512x8192) (k0_off148 i k) S1x512x8192.size hh) hs).squeeze S512x8192 squeezes_S1x512x8192_S512x8192 = rslot (2 * k.val + 1) :=
  rslot_congr _ ((k0_off148_eq i k).trans (vec3 (by rw [i0 i]; omega))) hh hs
@[sl_canon] theorem blk149 (hh hs) : wM.slice (Rect.unit (s := S18944x8192) (k0_off149 i k) S512x8192.size hh) hs = wblk (2 * k.val + 1) :=
  wblk_congr _ ((k0_off149_eq i k).trans (vec2 (by rw [i0 i]; have := lt_of_lt_of_eq k.isLt (trips3 i); omega))) hh hs

/-! The second block: block `2 k + 8` is started, block `2 k + 2` is waited for. -/

@[sl_canon] theorem sem177 (hh) : (cc0_scratch9.slice (Rect.unit (s := S8) (k0_off177 i k) S1.size hh)).squeeze S_ squeezes_S1_S_ = csm (2 * k.val + 8) :=
  csm_congr _ ((k0_off177_eq i k).trans (vec1 (by rw [i0 i]; omega))) hh
@[sl_canon] theorem slot178 (hh hs) : (rgM.slice (Rect.unit (s := S8x512x8192) (k0_off178 i k) S1x512x8192.size hh) hs).squeeze S512x8192 squeezes_S1x512x8192_S512x8192 = rslot (2 * k.val + 8) :=
  rslot_congr _ ((k0_off178_eq i k).trans (vec3 (by rw [i0 i]; omega))) hh hs
@[sl_canon] theorem blk179 (hk : 2 * k.val + 8 < 37) (hh hs) : wM.slice (Rect.unit (s := S18944x8192) (k0_off179 i k) S512x8192.size hh) hs = wblk (2 * k.val + 8) :=
  wblk_congr _ ((k0_off179_eq i k).trans (vec2 (by rw [i0 i]; have := lt_of_lt_of_eq k.isLt (trips3 i); omega))) hh hs

@[sl_canon] theorem sem180 (hh) : (cc0_scratch9.slice (Rect.unit (s := S8) (k0_off180 i k) S1.size hh)).squeeze S_ squeezes_S1_S_ = csm (2 * k.val + 2) :=
  csm_congr _ ((k0_off180_eq i k).trans (vec1 (by rw [i0 i]; omega))) hh
@[sl_canon] theorem slot181 (hh hs) : (rgM.slice (Rect.unit (s := S8x512x8192) (k0_off181 i k) S1x512x8192.size hh) hs).squeeze S512x8192 squeezes_S1x512x8192_S512x8192 = rslot (2 * k.val + 2) :=
  rslot_congr _ ((k0_off181_eq i k).trans (vec3 (by rw [i0 i]; omega))) hh hs
@[sl_canon] theorem blk182 (hh hs) : wM.slice (Rect.unit (s := S18944x8192) (k0_off182 i k) S512x8192.size hh) hs = wblk (2 * k.val + 2) :=
  wblk_congr _ ((k0_off182_eq i k).trans (vec2 (by rw [i0 i]; have := lt_of_lt_of_eq k.isLt (trips3 i); omega))) hh hs

end T3

/-! ## The select of the block before: its rows of scales and biases, its tiles of logits -/

theorem off154_eq : ∀ (i : grid0.Coords) (k0_t3 : Fin (k0_t3_loop i).trips) (r : Fin 4),
    k0_off154 i k0_t3 (BitVec.ofNat 32 r.val) = ![4 * (2 * k0_t3.val - 1) + r.val, 0] := by decide +kernel
theorem off156_eq : ∀ (i : grid0.Coords) (k0_t3 : Fin (k0_t3_loop i).trips) (k0_t4 : Fin (k0_t4_loop i).trips) (r₁ : Fin 8) (r₂ : Fin 4),
    k0_off156 i k0_t3 k0_t4 (BitVec.ofNat 32 r₁.val) (BitVec.ofNat 32 r₂.val) = ![64 * k0_t4.val + 8 * r₁.val, 128 * (4 * (2 * k0_t3.val - 1) + r₂.val)] := by decide +kernel

instance lt4_0 : Fact (0 < 4) := ⟨by decide⟩
instance lt4_1 : Fact (1 < 4) := ⟨by decide⟩
instance lt4_2 : Fact (2 < 4) := ⟨by decide⟩
instance lt4_3 : Fact (3 < 4) := ⟨by decide⟩
instance lt8_0 : Fact (0 < 8) := ⟨by decide⟩
instance lt8_1 : Fact (1 < 8) := ⟨by decide⟩
instance lt8_2 : Fact (2 < 8) := ⟨by decide⟩
instance lt8_3 : Fact (3 < 8) := ⟨by decide⟩
instance lt8_4 : Fact (4 < 8) := ⟨by decide⟩
instance lt8_5 : Fact (5 < 8) := ⟨by decide⟩
instance lt8_6 : Fact (6 < 8) := ⟨by decide⟩
instance lt8_7 : Fact (7 < 8) := ⟨by decide⟩

instance (i : grid0.Coords) (t : Fin (k0_t3_loop i).trips) (r : ℕ) [h : Fact (r < 4)] : ClosedOff (k0_off154 i t (BitVec.ofNat 32 r)) :=
  ⟨![4 * (2 * t.val - 1) + r, 0], off154_eq i t ⟨r, h.out⟩⟩
instance (i : grid0.Coords) (t : Fin (k0_t3_loop i).trips) (u : Fin (k0_t4_loop i).trips) (r₁ r₂ : ℕ) [h₁ : Fact (r₁ < 8)] [h₂ : Fact (r₂ < 4)] :
    ClosedOff (k0_off156 i t u (BitVec.ofNat 32 r₁) (BitVec.ofNat 32 r₂)) :=
  ⟨![64 * u.val + 8 * r₁, 128 * (4 * (2 * t.val - 1) + r₂)], off156_eq i t u ⟨r₁, h₁.out⟩ ⟨r₂, h₂.out⟩⟩

/-! ## Resources -/

section Res
variable (c : Dev nD) (XW : Buf (Elt F) (wM.view.loc (c : Thread nD τ)))

abbrev cellP (b : ℕ) : sProp 𝕄 := semVal ((c : Thread nD τ), SemLoc.dma (csm b).sem) 0
abbrev slotP (b : ℕ) (f : Buf (Elt F) (rgM.view.loc (c : Thread nD τ))) : sProp 𝕄 := (rslot b).view.loc (c : Thread nD τ) ↦[(rslot b).view.set]{fullShare} f
abbrev homeP (b : ℕ) : sProp 𝕄 := (wblk b).view.loc (c : Thread nD τ) ↦[(wblk b).view.set]{fullShare} XW
/-- The ring's slot as block `b`'s transfer over contents `f` leaves it. -/
abbrev landed (b : ℕ) (f : Buf (Elt F) (rgM.view.loc (c : Thread nD τ))) : Buf (Elt F) (rgM.view.loc (c : Thread nD τ)) :=
  (rslot b).view.writes (Elt F) f [⟨Rect.whole S512x8192, ReadAs.same.apply ((wblk b).view.read (Elt F) XW)⟩]
abbrev flightP (b : ℕ) (f : Buf (Elt F) (rgM.view.loc (c : Thread nD τ))) : sProp 𝕄 :=
  Transfers.Flight countersEmb (c : Thread nD τ) (SemLoc.dma (csm b).sem) () (rslot b).view.dmaCredit iprop(slotP c b (landed c XW b f) ∗ homeP c XW b)

/-- The buffers a trip's steps and select use: the logits' staging buffer, the codes (a share of them), the columns' scales and biases,
    the rows' scales, the block of products selected from. -/
def tripRes (arg5 : Memref sig .tc .vmem S192x18944 .f32) (sM : Memref sig .tc .vmem S192x512 .f32) (q : PosShare TreeShare)
    (fO : Buf (Elt F) (arg5.view.loc (c : Thread nD τ))) (C : Buf (Elt F) (cdM.view.loc (c : Thread nD τ)))
    (fwv : Buf (Elt F) (wvM.view.loc (c : Thread nD τ))) (fbv : Buf (Elt F) (bvM.view.loc (c : Thread nD τ)))
    (fsc : Buf (Elt F) (scM.view.loc (c : Thread nD τ))) (fs : Buf (Elt F) (sM.view.loc (c : Thread nD τ))) : sProp 𝕄 :=
  iprop((arg5.view.loc (c : Thread nD τ) ↦[arg5.view.set]{fullShare} fO)
    ∗ (cdM.view.loc (c : Thread nD τ) ↦[cdM.view.set]{q} C)
    ∗ (wvM.view.loc (c : Thread nD τ) ↦[wvM.view.set]{fullShare} fwv)
    ∗ (bvM.view.loc (c : Thread nD τ) ↦[bvM.view.set]{fullShare} fbv)
    ∗ (scM.view.loc (c : Thread nD τ) ↦[scM.view.set]{fullShare} fsc)
    ∗ (sM.view.loc (c : Thread nD τ) ↦[sM.view.set]{fullShare} fs)
    ∗ (∃ W, owes (c : Thread nD τ) 0 W))

end Res

end Cert.Proof.KernelIdeal
-- ==== Proof.IdealSpec.lean ====
/- What the kernel computes, block by block: the tiles of codes and of weights the units multiply, the accumulator of a
   block after a number of steps, the logits of a block, and what a trip's stores of logits leave. -/
module

public import proofs.«01_k».proof.Proof.IdealBase
public import proofs.«01_k».proof.Proof.Unit
public import Idealize.ShloMosaic.Lib.Pointwise.Index
public import Idealize.ShloMosaic.Lib.ValueLayout
public import Idealize.ShloMosaic.Lib.ViewIndex

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-! ## The blocks' products -/

abbrev CodesB (F : FTy → Type) [FloatOps F] := S192x8192.Idx → Elt F .fp8e4m3
abbrev WB (F : FTy → Type) [FloatOps F] := S18944x8192.Idx → Elt F .fp8e4m3
abbrev RingB (F : FTy → Type) [FloatOps F] := S8x512x8192.Idx → Elt F .fp8e4m3
abbrev SB (F : FTy → Type) [FloatOps F] := S192x512.Idx → Elt F .f32

/-- Depth slice `n` of the codes. -/
def lhsC (C : CodesB F) (n : ℕ) : Lhs F :=
  k0_pay190 (F := F) fun x : S192x256.Idx => C (ix2 (x 0) ⟨256 * (n % 32) + (x 1).val, by have : (x 1).val < 256 := (x 1).isLt; omega⟩)
/-- Unit `q`'s tile of depth slice `n` of block `b` of the weights (slice 32 is slice 0 of the block after). -/
def tileW (XW : WB F) (b n : ℕ) (q : Fin 2) : Tile F :=
  k0_pay191 (F := F) fun x : S1x256x256.Idx => XW (ix2 ⟨512 * ((b + n / 32) % 37) + (256 * q.val + (x 1).val), by have : (x 1).val < 256 := (x 1).isLt; omega⟩
    ⟨256 * (n % 32) + (x 2).val, by have : (x 2).val < 256 := (x 2).isLt; omega⟩)
/-- The accumulators of block `b` after `n` steps. -/
def accN (XW : WB F) (C : CodesB F) (b : ℕ) : ℕ → Option (Fin 2 → Rows F)
  | 0 => none
  | n + 1 => some (dep (accN XW C b n) (lhsC C n) (tileW XW b n))

/-- The accumulators of block `b` at its end. -/
def accE (XW : WB F) (C : CodesB F) (b : ℕ) : Fin 2 → Rows F := dep (accN XW C b 31) (lhsC C 31) (tileW XW b 31)
theorem accN_32 (XW : WB F) (C : CodesB F) (b : ℕ) : accN XW C b 32 = some (accE XW C b) := rfl

/-- The ring as it holds block `b` in its slot. -/
def ringT (XW : WB F) (b : ℕ) : RingB F := fun y =>
  XW (ix2 ⟨512 * (b % 37) + (y 1).val, by have : (y 1).val < 512 := (y 1).isLt; omega⟩ (y 2))

/-- The block of products as popped. -/
def sT (XW : WB F) (C : CodesB F) (b : ℕ) : SB F := fun y =>
  accE XW C b ⟨(y 1).val / 256, by have : (y 1).val < 512 := (y 1).isLt; omega⟩ (ix2 (y 0) ⟨(y 1).val % 256, by omega⟩)

/-! ## The logits -/

/-- One logit from the products of its block, the rows' scales, the columns' scales and biases. -/
def lval (s : SB F) (sc : S192x128.Idx → Elt F .f32) (wv bv : S148x128.Idx → Elt F .f32) (y : S192x18944.Idx) : Elt F .f32 :=
  have h1 : (y 1).val < 18944 := (y 1).isLt
  FloatOps.addf (FloatOps.mulf (FloatOps.mulf (s (ix2 (y 0) ⟨(y 1).val % 512, by omega⟩)) (sc (ix2 (y 0) ⟨(y 1).val % 128, by omega⟩)))
    (wv (ix2 ⟨(y 1).val / 128, by omega⟩ ⟨(y 1).val % 128, by omega⟩))) (bv (ix2 ⟨(y 1).val / 128, by omega⟩ ⟨(y 1).val % 128, by omega⟩))

/-- The payload of one tile of logits. -/
abbrev selP (live : BitVec 1) (xs : Vec F S8x128 .f32) (ws bs : Vec F S1x128 .f32) (s : Vec F S8x128 .f32) : FVec F S8x128 .f32 :=
  k0_pay193 live xs ws bs s

/-- A payload at an element, the row live. -/
theorem selP_apply (xs : Vec F S8x128 .f32) (ws bs : Vec F S1x128 .f32) (s : Vec F S8x128 .f32) (x : S8x128.Idx) :
    selP 1#1 xs ws bs s x = FloatOps.addf (FloatOps.mulf (FloatOps.mulf (s x) (xs x)) (ws (ix2 0 (x 1)))) (bs (ix2 0 (x 1))) := by
  unfold selP k0_pay193
  show FloatOps.addf (FloatOps.mulf (FloatOps.mulf (s x) (xs x)) (ws _)) ((Scalar.select 1#1 bs _) _) = _
  have e1 : Scalar.select (1#1) bs (broadcast S1x128 (Scalar.ofBits (F := F) .f32 0xFF800000#32)) = bs := rfl
  rw [e1]
  congr 2
  · congr 1; congr 1; funext a; fin_cases a <;> rfl
  · congr 1; funext a; fin_cases a <;> rfl

/-- The 32 tiles of a trip, the last stored first: rows `8 r₁`, tile `r₂`. -/
def tileL {sp : Space} (off : ℕ → ℕ → Fin 2 → ℕ) (inb : ∀ (r₁ : Fin 8) (r₂ : Fin 4) a, off r₁ r₂ a + S8x128.size a ≤ S192x18944.size a)
    (pay : Fin 8 → Fin 4 → FVec F S8x128 .f32) : List (View.Piece (Elt F) S192x18944 .f32) :=
  List.ofFn fun n : Fin 32 => ⟨Rect.unit (s := S192x18944) (off (7 - n.val / 4) (3 - n.val % 4)) S8x128.size
    (inb ⟨7 - n.val / 4, by omega⟩ ⟨3 - n.val % 4, by omega⟩), pay ⟨7 - n.val / 4, by omega⟩ ⟨3 - n.val % 4, by omega⟩⟩

section Tiles
variable {κ : Kind} {sp : Space} (v : View sig κ sp S192x18944 .f32) (f : v.ty.Contents (Elt F))
  {off : ℕ → ℕ → Fin 2 → ℕ} {inb : ∀ (r₁ : Fin 8) (r₂ : Fin 4) a, off r₁ r₂ a + S8x128.size a ≤ S192x18944.size a}
  {pay : Fin 8 → Fin 4 → FVec F S8x128 .f32} {R C : ℕ} (ho : ∀ (r₁ : Fin 8) (r₂ : Fin 4), off r₁ r₂ = ![R + 8 * r₁.val, 128 * (C + r₂.val)])
include ho

/-- Outside the trip's 64 rows and 512 columns nothing changes. -/
theorem tileL_out (y : S192x18944.Idx) (hy : (y 0).val < R ∨ R + 64 ≤ (y 0).val ∨ (y 1).val < 128 * C ∨ 128 * C + 512 ≤ (y 1).val) :
    v.read (Elt F) (v.writes (Elt F) f (tileL (sp := sp) off inb pay)) y = v.read (Elt F) f y := by
  refine View.read_writes_apply_of_forall_not_mem _ _ _ _ fun p hp => ?_
  obtain ⟨n, rfl⟩ := List.mem_ofFn.mp hp
  have hn := n.isLt
  intro hm
  have h := (Rect.mem_set_unit (inb := inb ⟨7 - n.val / 4, by omega⟩ ⟨3 - n.val % 4, by omega⟩)).mp hm
  have h0 := h 0; have h1 := h 1
  have e := ho ⟨7 - n.val / 4, by omega⟩ ⟨3 - n.val % 4, by omega⟩
  simp only at e
  rw [e] at h0 h1
  have e0 : R + 8 * (7 - n.val / 4) ≤ (y 0).val ∧ (y 0).val < R + 8 * (7 - n.val / 4) + 8 := h0
  have e1 : 128 * (C + (3 - n.val % 4)) ≤ (y 1).val ∧ (y 1).val < 128 * (C + (3 - n.val % 4)) + 128 := h1
  omega

/-- Within them each element is its tile's. -/
theorem tileL_in (G : S192x18944.Idx → Elt F .f32)
    (hG : ∀ (r₁ : Fin 8) (r₂ : Fin 4) (x : S8x128.Idx), pay r₁ r₂ x = G ((Rect.unit (s := S192x18944) (off r₁ r₂) S8x128.size (inb r₁ r₂)).emb x))
    (y : S192x18944.Idx) (h0 : R ≤ (y 0).val) (h0' : (y 0).val < R + 64) (h1 : 128 * C ≤ (y 1).val) (h1' : (y 1).val < 128 * C + 512) :
    v.read (Elt F) (v.writes (Elt F) f (tileL (sp := sp) off inb pay)) y = G y := by
  refine View.read_writes_apply_of_pieces _ _ G _ (fun p hp x => ?_) y ?_
  · obtain ⟨n, rfl⟩ := List.mem_ofFn.mp hp
    exact hG ⟨7 - n.val / 4, by omega⟩ ⟨3 - n.val % 4, by omega⟩ x
  · refine ⟨_, List.mem_ofFn.mpr ⟨⟨4 * (7 - ((y 0).val - R) / 8) + (3 - ((y 1).val / 128 - C)), by omega⟩, rfl⟩, ?_⟩
    rw [Rect.mem_set_unit]
    intro a
    have ea : 7 - (4 * (7 - ((y 0).val - R) / 8) + (3 - ((y 1).val / 128 - C))) / 4 = ((y 0).val - R) / 8 := by omega
    have eb : 3 - (4 * (7 - ((y 0).val - R) / 8) + (3 - ((y 1).val / 128 - C))) % 4 = (y 1).val / 128 - C := by omega
    have e := ho ⟨((y 0).val - R) / 8, by omega⟩ ⟨(y 1).val / 128 - C, by omega⟩
    simp only at e
    simp only [ea, eb, e]
    fin_cases a
    · show R + 8 * (((y 0).val - R) / 8) ≤ (y 0).val ∧ (y 0).val < R + 8 * (((y 0).val - R) / 8) + 8; omega
    · show 128 * (C + ((y 1).val / 128 - C)) ≤ (y 1).val ∧ (y 1).val < 128 * (C + ((y 1).val / 128 - C)) + 128; omega
end Tiles

/-! ## Loads in terms of these -/

section Loads
variable (XW : WB F) (C : CodesB F)

theorem load_lhs {off : Fin 2 → ℕ} (inb : ∀ a, off a + S192x256.size a ≤ S192x8192.size a) (n : ℕ) (hn : n < 32) (ho : off = ![0, 256 * n]) :
    k0_pay190 (F := F) (cdM.view.readAt (Elt F) (Rect.unit (s := S192x8192) off S192x256.size inb).toLoadRect C) = lhsC C n := by
  subst ho
  unfold lhsC; congr 1; funext x
  rw [View.readAt_apply]
  show C _ = C _
  congr 1; funext a
  fin_cases a
  · apply Fin.ext; show 0 + 1 * (x 0).val = (x 0).val; omega
  · apply Fin.ext; show 256 * n + 1 * (x 1).val = 256 * (n % 32) + (x 1).val; omega

theorem load_tile_of {off : Fin 3 → ℕ} (inb : ∀ a, off a + S1x256x256.size a ≤ S8x512x8192.size a) (b n : ℕ) (q : Fin 2)
    (ho : off = ![(b + n / 32) % 8, 256 * q.val, 256 * (n % 32)]) (g : RingB F) (hg : ∀ y, (y 0).val = (b + n / 32) % 8 → g y = ringT XW (b + n / 32) y) :
    k0_pay191 (F := F) (rgM.view.readAt (Elt F) (Rect.unit (s := S8x512x8192) off S1x256x256.size inb).toLoadRect g) = tileW XW b n q := by
  subst ho
  unfold tileW; congr 1; funext x
  rw [View.readAt_apply]
  have hx : (x 0).val < 1 := (x 0).isLt
  refine (hg _ (by show (b + n / 32) % 8 + 1 * (x 0).val = _; omega)).trans ?_
  unfold ringT
  congr 1; funext a
  fin_cases a
  · apply Fin.ext; show 512 * ((b + n / 32) % 37) + (256 * q.val + 1 * (x 1).val) = 512 * ((b + n / 32) % 37) + (256 * q.val + (x 1).val); omega
  · apply Fin.ext; show 256 * (n % 32) + 1 * (x 2).val = 256 * (n % 32) + (x 2).val; omega

theorem load_tile {off : Fin 3 → ℕ} (inb : ∀ a, off a + S1x256x256.size a ≤ S8x512x8192.size a) (b n : ℕ) (q : Fin 2)
    (ho : off = ![(b + n / 32) % 8, 256 * q.val, 256 * (n % 32)]) :
    k0_pay191 (F := F) (rgM.view.readAt (Elt F) (Rect.unit (s := S8x512x8192) off S1x256x256.size inb).toLoadRect (ringT XW (b + n / 32))) = tileW XW b n q :=
  load_tile_of XW inb b n q ho _ fun _ _ => rfl
end Loads

/-- Element `x` of a block's slot, in the ring. -/
theorem rslot_emb (b : ℕ) (x : S512x8192.Idx) : (rslot b).view.emb x = ix3 (⟨b % 8, by omega⟩ : Fin 8) (x 0) (x 1) := by
  refine (congrArg (fun z => (rslot b).view.emb z) (eq_ix2 x)).trans ?_
  refine (congrArg (rgM.view.slice (Rect.unit (s := S8x512x8192) (slotOff b) S1x512x8192.size (slotOff_inb b))).emb
      (ValueIdx.reshapeEquiv_ix2_1ab _ (x 0) (x 1))).trans ?_
  funext k
  fin_cases k
  · apply Fin.ext; show b % 8 + 1 * 0 = b % 8; omega
  · apply Fin.ext; show 0 + 1 * (x 0).val = (x 0).val; omega
  · apply Fin.ext; show 0 + 1 * (x 1).val = (x 1).val; omega

theorem wblk_emb (b : ℕ) (x : S512x8192.Idx) :
    (wblk b).view.emb x = ix2 (⟨512 * (b % 37) + (x 0).val, by have : (x 0).val < 512 := (x 0).isLt; omega⟩ : Fin 18944) (x 1) := by
  funext k
  fin_cases k
  · apply Fin.ext; show 512 * (b % 37) + 1 * (x 0).val = 512 * (b % 37) + (x 0).val; omega
  · apply Fin.ext; show 0 + 1 * (x 1).val = (x 1).val; omega

/-- What a transfer of block `b` leaves in its slot is `ringT`. -/
theorem landed_eq (c : Dev nD) (XW : Buf (Elt F) (wM.view.loc (c : Thread nD τ))) (b : ℕ) (f : Buf (Elt F) (rgM.view.loc (c : Thread nD τ))) :
    ∀ y ∈ (rslot b).view.set, landed c XW b f y = ringT (F := F) XW b y := by
  intro y hy
  obtain ⟨x, -, rfl⟩ := Finset.mem_map.mp hy
  have h : (rslot b).view.read (Elt F) (landed c XW b f) = (wblk b).view.read (Elt F) XW := View.read_writes_whole _ _ _
  refine View.eq_of_read_eq (v := (rslot b).view) ((congrFun h x).trans ?_)
  have e1 : (wblk b).view.read (Elt F) XW x = XW ((wblk b).view.emb x) := rfl
  have e2 : (rslot b).view.read (Elt F) (ringT (F := F) XW b) x = ringT (F := F) XW b ((rslot b).view.emb x) := rfl
  rw [e1, e2, rslot_emb, wblk_emb]
  rfl

theorem landed_at (c : Dev nD) (XW : Buf (Elt F) (wM.view.loc (c : Thread nD τ))) (b : ℕ) (f : Buf (Elt F) (rgM.view.loc (c : Thread nD τ)))
    (y : S8x512x8192.Idx) (hy : (y 0).val = b % 8) : landed c XW b f y = ringT (F := F) XW b y := by
  refine landed_eq c XW b f y (Finset.mem_map.mpr ⟨ix2 (y 1) (y 2), Finset.mem_univ _, ?_⟩)
  rw [rslot_emb]
  funext k
  fin_cases k
  · exact Fin.ext hy.symm
  · rfl
  · rfl

theorem slot_ring (c : Dev nD) (XW : Buf (Elt F) (wM.view.loc (c : Thread nD τ))) (b : ℕ) (f : Buf (Elt F) (rgM.view.loc (c : Thread nD τ))) :
    slotP c b (landed c XW b f) ⊢ slotP c b (ringT (F := F) XW b) := entails_of_eq (pointsTo_congr (landed_eq c XW b f))

/-! ## A trip's select -/

/-- What 32 tiles leave: rows `R … R + 63` of the columns of tiles `T … T + 3` hold their logits, if the block is a live one,
    and nothing else changes. -/
def SelPost (arg5 : Memref sig .tc .vmem S192x18944 .f32) (f f' : arg5.view.ty.Contents (Elt F)) (live : Prop)
    (s : SB F) (sc : S192x128.Idx → Elt F .f32) (wv bv : S148x128.Idx → Elt F .f32) (R T : ℕ) : Prop :=
  (live → ∀ y : S192x18944.Idx, R ≤ (y 0).val → (y 0).val < R + 64 → 128 * T ≤ (y 1).val → (y 1).val < 128 * T + 512 →
    arg5.view.read (Elt F) f' y = lval s sc wv bv y)
  ∧ ∀ y : S192x18944.Idx, ((y 0).val < R ∨ R + 64 ≤ (y 0).val ∨ (y 1).val < 128 * T ∨ 128 * T + 512 ≤ (y 1).val) →
    arg5.view.read (Elt F) f' y = arg5.view.read (Elt F) f y

section Select
variable {sp : Space} (arg5 : Memref sig .tc .vmem S192x18944 .f32) (fO : arg5.view.ty.Contents (Elt F)) (lv : BitVec 1)
  (vs : View sig .tc .vmem S192x512 .f32) (fs : vs.ty.Contents (Elt F))
  (fsc : scM.view.ty.Contents (Elt F)) (fwv : wvM.view.ty.Contents (Elt F)) (fbv : bvM.view.ty.Contents (Elt F))
  (R T : ℕ) (offo : ℕ → ℕ → Fin 2 → ℕ) (offx offw : ℕ → Fin 2 → ℕ) (offs : ℕ → ℕ → Fin 2 → ℕ)
  (io : ∀ (r₁ : Fin 8) (r₂ : Fin 4) a, offo r₁ r₂ a + S8x128.size a ≤ S192x18944.size a)
  (ix : ∀ (r₁ : Fin 8) a, offx r₁ a + S8x128.size a ≤ S192x128.size a)
  (iw : ∀ (r₂ : Fin 4) a, offw r₂ a + S1x128.size a ≤ S148x128.size a)
  (is : ∀ (r₁ : Fin 8) (r₂ : Fin 4) a, offs r₁ r₂ a + S8x128.size a ≤ S192x512.size a)

/-- The 32 tiles a trip stores. -/
def selL : List (View.Piece (Elt F) S192x18944 .f32) :=
  tileL (sp := .vmem) offo io fun r₁ r₂ => selP lv
    (scM.view.readAt (Elt F) (Rect.unit (s := S192x128) (offx r₁) S8x128.size (ix r₁)).toLoadRect fsc)
    (wvM.view.readAt (Elt F) (Rect.unit (s := S148x128) (offw r₂) S1x128.size (iw r₂)).toLoadRect fwv)
    (bvM.view.readAt (Elt F) (Rect.unit (s := S148x128) (offw r₂) S1x128.size (iw r₂)).toLoadRect fbv)
    (vs.readAt (Elt F) (Rect.unit (s := S192x512) (offs r₁ r₂) S8x128.size (is r₁ r₂)).toLoadRect fs)

theorem selL_post (live : Prop) (hl : live → lv = 1#1) (hT : T % 4 = 0)
    (ho : ∀ (r₁ : Fin 8) (r₂ : Fin 4), offo r₁ r₂ = ![R + 8 * r₁.val, 128 * (T + r₂.val)])
    (hx : ∀ r₁ : Fin 8, offx r₁ = ![R + 8 * r₁.val, 0]) (hw : ∀ r₂ : Fin 4, offw r₂ = ![T + r₂.val, 0])
    (hs : ∀ (r₁ : Fin 8) (r₂ : Fin 4), offs r₁ r₂ = ![R + 8 * r₁.val, 128 * r₂.val]) :
    SelPost arg5 fO (arg5.view.writes (Elt F) fO (selL lv vs fs fsc fwv fbv offo offx offw offs io ix iw is)) live
      (vs.read (Elt F) fs) fsc fwv fbv R T := by
  constructor
  · intro h y h0 h0' h1 h1'
    obtain rfl := hl h
    refine tileL_in (sp := .vmem) arg5.view fO ho _ (fun r₁ r₂ x => ?_) y h0 h0' h1 h1'
    have hx0 : (x 0).val < 8 := (x 0).isLt
    have hx1 : (x 1).val < 128 := (x 1).isLt
    have e0 : ((Rect.unit (s := S192x18944) (offo r₁ r₂) S8x128.size (io r₁ r₂)).emb x 0).val = R + 8 * r₁.val + (x 0).val := by
      show offo r₁ r₂ 0 + 1 * (x 0).val = _
      rw [ho]; show R + 8 * r₁.val + 1 * (x 0).val = _; omega
    have e1 : ((Rect.unit (s := S192x18944) (offo r₁ r₂) S8x128.size (io r₁ r₂)).emb x 1).val = 128 * (T + r₂.val) + (x 1).val := by
      show offo r₁ r₂ 1 + 1 * (x 1).val = _
      rw [ho]; show 128 * (T + r₂.val) + 1 * (x 1).val = _; omega
    rw [selP_apply]
    unfold lval
    congr 1
    · congr 1
      · congr 1
        · rw [View.readAt_apply]
          congr 1; funext a
          fin_cases a
          · apply Fin.ext; show offs r₁ r₂ 0 + 1 * (x 0).val = _
            rw [hs]; show R + 8 * r₁.val + 1 * (x 0).val = ((Rect.unit (s := S192x18944) (offo r₁ r₂) S8x128.size (io r₁ r₂)).emb x 0).val; omega
          · apply Fin.ext; show offs r₁ r₂ 1 + 1 * (x 1).val = _
            rw [hs]; show 128 * r₂.val + 1 * (x 1).val = ((Rect.unit (s := S192x18944) (offo r₁ r₂) S8x128.size (io r₁ r₂)).emb x 1).val % 512
            have := r₂.isLt; omega
        · rw [View.readAt_apply]
          show fsc _ = fsc _
          congr 1; funext a
          fin_cases a
          · apply Fin.ext; show offx r₁ 0 + 1 * (x 0).val = _
            rw [hx]; show R + 8 * r₁.val + 1 * (x 0).val = ((Rect.unit (s := S192x18944) (offo r₁ r₂) S8x128.size (io r₁ r₂)).emb x 0).val; omega
          · apply Fin.ext; show offx r₁ 1 + 1 * (x 1).val = _
            rw [hx]; show 0 + 1 * (x 1).val = ((Rect.unit (s := S192x18944) (offo r₁ r₂) S8x128.size (io r₁ r₂)).emb x 1).val % 128; omega
      · rw [View.readAt_apply]
        show fwv _ = fwv _
        congr 1; funext a
        fin_cases a
        · apply Fin.ext; show offw r₂ 0 + 1 * 0 = _
          rw [hw]; show T + r₂.val + 1 * 0 = ((Rect.unit (s := S192x18944) (offo r₁ r₂) S8x128.size (io r₁ r₂)).emb x 1).val / 128; omega
        · apply Fin.ext; show offw r₂ 1 + 1 * (x 1).val = _
          rw [hw]; show 0 + 1 * (x 1).val = ((Rect.unit (s := S192x18944) (offo r₁ r₂) S8x128.size (io r₁ r₂)).emb x 1).val % 128; omega
    · rw [View.readAt_apply]
      show fbv _ = fbv _
      congr 1; funext a
      fin_cases a
      · apply Fin.ext; show offw r₂ 0 + 1 * 0 = _
        rw [hw]; show T + r₂.val + 1 * 0 = ((Rect.unit (s := S192x18944) (offo r₁ r₂) S8x128.size (io r₁ r₂)).emb x 1).val / 128; omega
      · apply Fin.ext; show offw r₂ 1 + 1 * (x 1).val = _
        rw [hw]; show 0 + 1 * (x 1).val = ((Rect.unit (s := S192x18944) (offo r₁ r₂) S8x128.size (io r₁ r₂)).emb x 1).val % 128; omega
  · intro y hy
    exact tileL_out (sp := .vmem) arg5.view fO ho y hy
end Select

section InBounds
variable {R T : ℕ} (hR : R + 64 ≤ 192) (hT : T + 4 ≤ 148)
include hR hT
theorem inb_o {off : ℕ → ℕ → Fin 2 → ℕ} (ho : ∀ (r₁ : Fin 8) (r₂ : Fin 4), off r₁ r₂ = ![R + 8 * r₁.val, 128 * (T + r₂.val)]) :
    ∀ (r₁ : Fin 8) (r₂ : Fin 4) a, off r₁ r₂ a + S8x128.size a ≤ S192x18944.size a := by
  intro r₁ r₂ a; rw [ho]; fin_cases a
  · show R + 8 * r₁.val + 8 ≤ 192; omega
  · show 128 * (T + r₂.val) + 128 ≤ 18944; omega
omit hT in
theorem inb_x {off : ℕ → Fin 2 → ℕ} (ho : ∀ (r₁ : Fin 8), off r₁ = ![R + 8 * r₁.val, 0]) :
    ∀ (r₁ : Fin 8) a, off r₁ a + S8x128.size a ≤ S192x128.size a := by
  intro r₁ a; rw [ho]; fin_cases a
  · show R + 8 * r₁.val + 8 ≤ 192; omega
  · show 0 + 128 ≤ 128; omega
omit hR in
theorem inb_w {off : ℕ → Fin 2 → ℕ} (ho : ∀ (r₂ : Fin 4), off r₂ = ![T + r₂.val, 0]) :
    ∀ (r₂ : Fin 4) a, off r₂ a + S1x128.size a ≤ S148x128.size a := by
  intro r₂ a; rw [ho]; fin_cases a
  · show T + r₂.val + 1 ≤ 148; omega
  · show 0 + 128 ≤ 128; omega
omit hT in
theorem inb_s {off : ℕ → ℕ → Fin 2 → ℕ} (ho : ∀ (r₁ : Fin 8) (r₂ : Fin 4), off r₁ r₂ = ![R + 8 * r₁.val, 128 * r₂.val]) :
    ∀ (r₁ : Fin 8) (r₂ : Fin 4) a, off r₁ r₂ a + S8x128.size a ≤ S192x512.size a := by
  intro r₁ r₂ a; rw [ho]; fin_cases a
  · show R + 8 * r₁.val + 8 ≤ 192; omega
  · show 128 * r₂.val + 128 ≤ 512; omega
end InBounds

/-! ## Eight steps of a block -/

section Eight
variable {s : Mxu F} {A B : ℕ} {hA : Mxu.Fits A 192} {hB : Mxu.Fits B 192} {e : Option (Fin 2 → Rows F)}

theorem step_MS (XW : WB F) (C : CodesB F) (b : ℕ) (hAB : 4 * A + 192 ≤ 4 * B ∨ 4 * B + 192 ≤ 4 * A) {r r' : Fin 2} (m : ℕ) (hr : r' ≠ r)
    (H : MS s r r' (fun q => some (tileW XW b m q)) A hA (accN XW C b m) B hB e) {x : Lhs F} {t0 t1 : Tile F}
    (hx : x = lhsC C m) (h0 : t0 = tileW XW b (m + 1) 0) (h1 : t1 = tileW XW b (m + 1) 1) :
    MS (step s r r' A hA x t0 t1) r' r (fun q => some (tileW XW b (m + 1) q)) A hA (accN XW C b (m + 1)) B hB e := by
  subst hx h0 h1
  exact H.step hr hAB (lhsC C m) (tileW XW b (m + 1))

/-- Eight steps from register 0, from step `n` of block `b`. -/
theorem st8_MS (XW : WB F) (C : CodesB F) (b n : ℕ) (hAB : 4 * A + 192 ≤ 4 * B ∨ 4 * B + 192 ≤ 4 * A)
    (H : MS s 0 1 (fun q => some (tileW XW b n q)) A hA (accN XW C b n) B hB e)
    {x0 x1 x2 x3 x4 x5 x6 x7 : Lhs F} {a0 a1 a2 a3 a4 a5 a6 a7 b0 b1 b2 b3 b4 b5 b6 b7 : Tile F}
    (hx0 : x0 = lhsC C n) (hx1 : x1 = lhsC C (n + 1)) (hx2 : x2 = lhsC C (n + 2)) (hx3 : x3 = lhsC C (n + 3))
    (hx4 : x4 = lhsC C (n + 4)) (hx5 : x5 = lhsC C (n + 5)) (hx6 : x6 = lhsC C (n + 6)) (hx7 : x7 = lhsC C (n + 7))
    (ha0 : a0 = tileW XW b (n + 1) 0) (hb0 : b0 = tileW XW b (n + 1) 1) (ha1 : a1 = tileW XW b (n + 2) 0) (hb1 : b1 = tileW XW b (n + 2) 1)
    (ha2 : a2 = tileW XW b (n + 3) 0) (hb2 : b2 = tileW XW b (n + 3) 1) (ha3 : a3 = tileW XW b (n + 4) 0) (hb3 : b3 = tileW XW b (n + 4) 1)
    (ha4 : a4 = tileW XW b (n + 5) 0) (hb4 : b4 = tileW XW b (n + 5) 1) (ha5 : a5 = tileW XW b (n + 6) 0) (hb5 : b5 = tileW XW b (n + 6) 1)
    (ha6 : a6 = tileW XW b (n + 7) 0) (hb6 : b6 = tileW XW b (n + 7) 1) (ha7 : a7 = tileW XW b (n + 8) 0) (hb7 : b7 = tileW XW b (n + 8) 1) :
    MS (step (step (step (step (step (step (step (step s 0 1 A hA x0 a0 b0) 1 0 A hA x1 a1 b1) 0 1 A hA x2 a2 b2) 1 0 A hA x3 a3 b3)
      0 1 A hA x4 a4 b4) 1 0 A hA x5 a5 b5) 0 1 A hA x6 a6 b6) 1 0 A hA x7 a7 b7)
      0 1 (fun q => some (tileW XW b (n + 8) q)) A hA (accN XW C b (n + 8)) B hB e :=
  step_MS XW C b hAB (n + 7) (by decide) (step_MS XW C b hAB (n + 6) (by decide) (step_MS XW C b hAB (n + 5) (by decide)
    (step_MS XW C b hAB (n + 4) (by decide) (step_MS XW C b hAB (n + 3) (by decide) (step_MS XW C b hAB (n + 2) (by decide)
    (step_MS XW C b hAB (n + 1) (by decide) (step_MS XW C b hAB n (by decide) H hx0 ha0 hb0) hx1 ha1 hb1) hx2 ha2 hb2) hx3 ha3 hb3)
    hx4 ha4 hb4) hx5 ha5 hb5) hx6 ha6 hb6) hx7 ha7 hb7
end Eight

end Cert.Proof.KernelIdeal
-- ==== Proof.IdealT4.lean ====
/- One trip of the loop over a block's chunks. -/
module

public import proofs.«01_k».proof.Proof.IdealSpec

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-- Block `2 k - 1` is a live one. -/
theorem live4 (k : ℕ) (hk : k < 18) (h1 : 1 ≤ k) : Scalar.cmpi .sge (Scalar.subi (BitVec.ofNat 32 (2 * k)) 1#32) 0#32 = 1#1 := by
  have h : ∀ k < 18, 1 ≤ k → Scalar.cmpi .sge (Scalar.subi (BitVec.ofNat 32 (2 * k)) 1#32) 0#32 = 1#1 := by decide
  exact h k hk h1

section Loads
variable (XW : WB F) (C : CodesB F) (i : grid0.Coords) (k : Fin (k0_t3_loop i).trips) (t : Fin (k0_t4_loop i).trips)

theorem lhs4 (r : Fin 8) (inb) :
    k0_pay190 (F := F) (cdM.view.readAt (Elt F) (Rect.unit (s := S192x8192) (k0_off150 i t (BitVec.ofNat 32 r.val)) S192x256.size inb).toLoadRect C)
      = lhsC C (8 * (t.val + 1) + r.val) := by
  have hi := i0 i; have ht := lt_of_lt_of_eq t.isLt (trips4 i)
  exact load_lhs C inb _ (by omega) ((k0_off150_eq i t r).trans (congrArg (fun z => ![0, z]) (by omega)))

theorem tile40 (r : Fin 7) (inb) :
    k0_pay191 (F := F) (rgM.view.readAt (Elt F) (Rect.unit (s := S8x512x8192) (k0_off151 i k t (BitVec.ofNat 32 r.val)) S1x256x256.size inb).toLoadRect (ringT (F := F) XW (2 * k.val)))
      = tileW XW (2 * k.val) (8 * (t.val + 1) + r.val + 1) 0 := by
  have hi := i0 i; have ht := lt_of_lt_of_eq t.isLt (trips4 i)
  have hz : (8 * (t.val + 1) + r.val + 1) / 32 = 0 := by omega
  have h := load_tile XW inb (2 * k.val) (8 * (t.val + 1) + r.val + 1) 0 ((k0_off151_eq i k t r).trans (by
    rw [hz]; exact congrArg₂ (fun y z => ![y, 0, z]) (by omega) (by omega)))
  rw [hz] at h; exact h

theorem tile41 (r : Fin 7) (inb) :
    k0_pay191 (F := F) (rgM.view.readAt (Elt F) (Rect.unit (s := S8x512x8192) (k0_off152 i k t (BitVec.ofNat 32 r.val)) S1x256x256.size inb).toLoadRect (ringT (F := F) XW (2 * k.val)))
      = tileW XW (2 * k.val) (8 * (t.val + 1) + r.val + 1) 1 := by
  have hi := i0 i; have ht := lt_of_lt_of_eq t.isLt (trips4 i)
  have hz : (8 * (t.val + 1) + r.val + 1) / 32 = 0 := by omega
  have h := load_tile XW inb (2 * k.val) (8 * (t.val + 1) + r.val + 1) 1 ((k0_off152_eq i k t r).trans (by
    rw [hz]; exact congrArg₂ (fun y z => ![y, 256, z]) (by omega) (by omega)))
  rw [hz] at h; exact h

theorem tile4x0 (g : RingB F) (hg : ∀ y, (y 0).val = (2 * k.val + (8 * (t.val + 1) + 8) / 32) % 8 → g y = ringT XW (2 * k.val + (8 * (t.val + 1) + 8) / 32) y) (inb) :
    k0_pay191 (F := F) (rgM.view.readAt (Elt F) (Rect.unit (s := S8x512x8192) (k0_off160 i k t) S1x256x256.size inb).toLoadRect g)
      = tileW XW (2 * k.val) (8 * (t.val + 1) + 8) 0 := by
  have hi := i0 i; have ht := lt_of_lt_of_eq t.isLt (trips4 i)
  exact load_tile_of XW inb (2 * k.val) (8 * (t.val + 1) + 8) 0 ((k0_off160_eq i k t).trans
    (congrArg₂ (fun y z => ![y, 0, z]) (by omega) (by omega))) g hg

theorem tile4x1 (g : RingB F) (hg : ∀ y, (y 0).val = (2 * k.val + (8 * (t.val + 1) + 8) / 32) % 8 → g y = ringT XW (2 * k.val + (8 * (t.val + 1) + 8) / 32) y) (inb) :
    k0_pay191 (F := F) (rgM.view.readAt (Elt F) (Rect.unit (s := S8x512x8192) (k0_off161 i k t) S1x256x256.size inb).toLoadRect g)
      = tileW XW (2 * k.val) (8 * (t.val + 1) + 8) 1 := by
  have hi := i0 i; have ht := lt_of_lt_of_eq t.isLt (trips4 i)
  exact load_tile_of XW inb (2 * k.val) (8 * (t.val + 1) + 8) 1 ((k0_off161_eq i k t).trans
    (congrArg₂ (fun y z => ![y, 256, z]) (by omega) (by omega))) g hg

/-- The rows of products a tile of the select reads. -/
def offs4 (r₁ r₂ : ℕ) : Fin 2 → ℕ := match r₂ with
  | 0 => k0_off155 i t (BitVec.ofNat 32 r₁)
  | 1 => k0_off157 i t (BitVec.ofNat 32 r₁)
  | 2 => k0_off158 i t (BitVec.ofNat 32 r₁)
  | _ => k0_off159 i t (BitVec.ofNat 32 r₁)
theorem offs4_eq (r₁ : Fin 8) (r₂ : Fin 4) : offs4 i t r₁ r₂ = ![64 * t.val + 8 * r₁.val, 128 * r₂.val] := by
  have hi := i0 i
  fin_cases r₂
  · exact (k0_off155_eq i t r₁).trans (vec2 (by omega))
  · exact (k0_off157_eq i t r₁).trans (vec2 (by omega))
  · exact (k0_off158_eq i t r₁).trans (vec2 (by omega))
  · exact (k0_off159_eq i t r₁).trans (vec2 (by omega))
theorem off153_eq (r₁ : Fin 8) : k0_off153 i t (BitVec.ofNat 32 r₁) = ![64 * t.val + 8 * r₁.val, 0] :=
  (k0_off153_eq i t r₁).trans (vec2 (by have := i0 i; omega))
end Loads

section T4
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

theorem sel4 (k : Fin (k0_t3_loop i).trips) (t : Fin (k0_t4_loop i).trips) (lv : BitVec 1) (fO fs fsc fwv fbv) :
    ∃ (io : _) (ix : _) (iw : _) (is : _), ((1 ≤ k.val → lv = 1#1) →
    SelPost (F := F) arg5 fO (arg5.view.writes (Elt F) fO (selL lv s1M.view fs fsc fwv fbv
        (fun r₁ r₂ => k0_off156 i k t (BitVec.ofNat 32 r₁) (BitVec.ofNat 32 r₂)) (fun r => k0_off153 i t (BitVec.ofNat 32 r))
        (fun r => k0_off154 i k (BitVec.ofNat 32 r)) (offs4 i t) io ix iw is)) (1 ≤ k.val) fs fsc fwv fbv (64 * t.val) (4 * (2 * k.val - 1))) := by
  have hk := lt_of_lt_of_eq k.isLt (trips3 i); have ht := lt_of_lt_of_eq t.isLt (trips4 i)
  exact ⟨inb_o (off := fun r₁ r₂ => k0_off156 i k t (BitVec.ofNat 32 r₁) (BitVec.ofNat 32 r₂)) (R := 64 * t.val) (T := 4 * (2 * k.val - 1)) (by omega) (by omega) (off156_eq i k t), inb_x (off := fun r => k0_off153 i t (BitVec.ofNat 32 r)) (R := 64 * t.val) (by omega) (off153_eq i t), inb_w (off := fun r => k0_off154 i k (BitVec.ofNat 32 r)) (T := 4 * (2 * k.val - 1)) (by omega) (off154_eq i k), inb_s (off := offs4 i t) (R := 64 * t.val) (by omega) (offs4_eq i t),
    fun hl => selL_post arg5 fO lv s1M.view fs fsc fwv fbv _ _ _ _ _ _ _ _ _ _ (1 ≤ k.val) hl (by omega) (off156_eq i k t) (off153_eq i t) (off154_eq i k) (offs4_eq i t)⟩

/-- What a trip leaves. -/
def post4 (k : Fin (k0_t3_loop i).trips) (t : Fin (k0_t4_loop i).trips) (q : PosShare TreeShare)
    (fO : Buf (Elt F) (arg5.view.loc (c : Thread nD τ))) (fwv : Buf (Elt F) (wvM.view.loc (c : Thread nD τ))) (fbv : Buf (Elt F) (bvM.view.loc (c : Thread nD τ)))
    (fsc : Buf (Elt F) (scM.view.loc (c : Thread nD τ))) (fs : Buf (Elt F) (s1M.view.loc (c : Thread nD τ))) (s' : Mxu F) : sProp 𝕄 :=
  iprop(∃ fO', ⌜MS s' 0 1 (fun q => some (tileW XW (2 * k.val) (8 * (t.val + 1) + 8) q)) 0 fits_0_192 (accN XW C (2 * k.val) (8 * (t.val + 1) + 8)) 48 fits_48_192 none
      ∧ SelPost arg5 fO fO' (1 ≤ k.val) fs fsc fwv fbv (64 * t.val) (4 * (2 * k.val - 1))⌝
    ∗ tripRes c arg5 s1M q fO' C fwv fbv fsc fs ∗ slotP c (2 * k.val) (ringT (F := F) XW (2 * k.val)))

set_option maxHeartbeats 1000000 in
theorem t4trip (k : Fin (k0_t3_loop i).trips) (v1202 : BitVec 32) (s0 : Mxu F) (v1408 c1 c0 v1413 : BitVec 32)
    (t : Fin (k0_t4_loop i).trips) (ht : t.val < 2) (h2 : ¬ (k0_cond2 i t = 1#1)) (s : Mxu F) (q : PosShare TreeShare) (fO fwv fbv fsc fs)
    (H : MS s 0 1 (fun q => some (tileW XW (2 * k.val) (8 * (t.val + 1)) q)) 0 fits_0_192 (accN XW C (2 * k.val) (8 * (t.val + 1))) 48 fits_48_192 none) :
    iprop(tripRes c arg5 s1M q fO C fwv fbv fsc fs ∗ slotP c (2 * k.val) (ringT (F := F) XW (2 * k.val)))
      ⊢ wp frame (wpE (defs₀ (F := F)) 𝒱₀ (c : Thread nD τ) none) Set.univ
        (k0_t4_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 k v1202 (BitVec.ofNat 32 (2 * k.val)) s0 v1408 c1 c0 v1413 t s)
        (post4 c XW C i arg5 k t q fO fwv fbv fsc fs) := by
  have hi := i0 i
  have hk := lt_of_lt_of_eq k.isLt (trips3 i)
  have hs := H.emp
  unfold post4 tripRes
  iintro ⟨⟨HO, Hcd, Hwv, Hbv, Hsc, Hs1, ⟨%W, HW⟩⟩, HR⟩
  sl_unfold [k0_t4_body]
  sl_exec_parts (disch := first | assumption | (mxu_pushok_peel; done) | (mxu_pushok_peel; exact Mxu.pushOk_of_none _ _ _ _ (hs _)))
  sl_step
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs1]; · iexact Hs1
      iexists W; iexact HW
    · iexact HR
  · ipureintro
    refine ⟨?_, ?_⟩
    · have e7 : tileW XW (2 * k.val) (8 * (t.val + 1) + 8) = tileW XW (2 * k.val) (8 * (t.val + 1) + 8) := rfl
      have hz : 2 * k.val + (8 * (t.val + 1) + 8) / 32 = 2 * k.val := by omega
      refine st8_MS XW C (2 * k.val) (8 * (t.val + 1)) (by decide) H
        (lhs4 C i t 0 _) (lhs4 C i t 1 _) (lhs4 C i t 2 _) (lhs4 C i t 3 _) (lhs4 C i t 4 _) (lhs4 C i t 5 _) (lhs4 C i t 6 _) (lhs4 C i t 7 _)
        (tile40 XW i k t 0 _) (tile41 XW i k t 0 _) (tile40 XW i k t 1 _) (tile41 XW i k t 1 _) (tile40 XW i k t 2 _) (tile41 XW i k t 2 _)
        (tile40 XW i k t 3 _) (tile41 XW i k t 3 _) (tile40 XW i k t 4 _) (tile41 XW i k t 4 _) (tile40 XW i k t 5 _) (tile41 XW i k t 5 _)
        (tile40 XW i k t 6 _) (tile41 XW i k t 6 _) ?_ ?_
      · exact tile4x0 XW i k t _ (fun _ _ => by rw [hz]) _
      · exact tile4x1 XW i k t _ (fun _ _ => by rw [hz]) _
    · obtain ⟨io, ix, iw, is, h⟩ := sel4 (F := F) i arg5 k t (Scalar.cmpi .sge (Scalar.subi (BitVec.ofNat 32 (2 * k.val)) 1#32) 0#32) fO fs fsc fwv fbv
      exact h (live4 k.val hk)
end T4

end Cert.Proof.KernelIdeal
-- ==== Proof.IdealT4Last.lean ====
/- One trip of the loop over a block's chunks. -/
module

public import proofs.«01_k».proof.Proof.IdealT4

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section T4
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

set_option maxHeartbeats 1000000 in
/-- The last trip waits for the block after. -/
theorem t4last (k : Fin (k0_t3_loop i).trips) (v1202 : BitVec 32) (s0 : Mxu F) (v1408 c1 c0 v1413 : BitVec 32)
    (t : Fin (k0_t4_loop i).trips) (ht : t.val = 2) (h2 : k0_cond2 i t = 1#1) (s : Mxu F) (q : PosShare TreeShare) (fR fO fwv fbv fsc fs)
    (H : MS s 0 1 (fun q => some (tileW XW (2 * k.val) (8 * (t.val + 1)) q)) 0 fits_0_192 (accN XW C (2 * k.val) (8 * (t.val + 1))) 48 fits_48_192 none) :
    iprop(tripRes c arg5 s1M q fO C fwv fbv fsc fs ∗ slotP c (2 * k.val) (ringT (F := F) XW (2 * k.val)) ∗ flightP c XW (2 * k.val + 1) fR)
      ⊢ wp frame (wpE (defs₀ (F := F)) 𝒱₀ (c : Thread nD τ) none) Set.univ
        (k0_t4_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 k v1202 (BitVec.ofNat 32 (2 * k.val)) s0 v1408 c1 c0 v1413 t s)
        fun s' => iprop(post4 c XW C i arg5 k t q fO fwv fbv fsc fs s' ∗ slotP c (2 * k.val + 1) (ringT (F := F) XW (2 * k.val + 1)) ∗ homeP c XW (2 * k.val + 1) ∗ cellP c (2 * k.val + 1)) := by
  have hi := i0 i
  have hk := lt_of_lt_of_eq k.isLt (trips3 i)
  have hs := H.emp
  unfold post4 tripRes
  iintro ⟨⟨HO, Hcd, Hwv, Hbv, Hsc, Hs1, ⟨%W, HW⟩⟩, HR, HF⟩
  sl_unfold [k0_t4_body]
  sl_exec_parts (disch := first | assumption | (mxu_pushok_peel; done) | (mxu_pushok_peel; exact Mxu.pushOk_of_none _ _ _ _ (hs _)))
  sl_step
  isplitr [HF HF_src HF_dst]
  rotate_left
  · isplitl [HF_dst]; · iapply (slot_ring c XW (2 * k.val + 1) _); iexact HF_dst
    isplitl [HF_src]; · iexact HF_src
    iexact HF
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs1]; · iexact Hs1
      iexists _; iexact HW
    · iexact HR
  · ipureintro
    refine ⟨?_, ?_⟩
    · have e7 : tileW XW (2 * k.val) (8 * (t.val + 1) + 8) = tileW XW (2 * k.val) (8 * (t.val + 1) + 8) := rfl
      have hz : 2 * k.val + (8 * (t.val + 1) + 8) / 32 = 2 * k.val + 1 := by omega
      refine st8_MS XW C (2 * k.val) (8 * (t.val + 1)) (by decide) H
        (lhs4 C i t 0 _) (lhs4 C i t 1 _) (lhs4 C i t 2 _) (lhs4 C i t 3 _) (lhs4 C i t 4 _) (lhs4 C i t 5 _) (lhs4 C i t 6 _) (lhs4 C i t 7 _)
        (tile40 XW i k t 0 _) (tile41 XW i k t 0 _) (tile40 XW i k t 1 _) (tile41 XW i k t 1 _) (tile40 XW i k t 2 _) (tile41 XW i k t 2 _)
        (tile40 XW i k t 3 _) (tile41 XW i k t 3 _) (tile40 XW i k t 4 _) (tile41 XW i k t 4 _) (tile40 XW i k t 5 _) (tile41 XW i k t 5 _)
        (tile40 XW i k t 6 _) (tile41 XW i k t 6 _) ?_ ?_
      · exact tile4x0 XW i k t _ (fun y hy => by rw [hz] at hy ⊢; exact landed_at c XW _ _ y hy) _
      · exact tile4x1 XW i k t _ (fun y hy => by rw [hz] at hy ⊢; exact landed_at c XW _ _ y hy) _
    · obtain ⟨io, ix, iw, is, h⟩ := sel4 (F := F) i arg5 k t (Scalar.cmpi .sge (Scalar.subi (BitVec.ofNat 32 (2 * k.val)) 1#32) 0#32) fO fs fsc fwv fbv
      exact h (live4 k.val hk)
end T4

end Cert.Proof.KernelIdeal
-- ==== Proof.IdealT6.lean ====
/- One trip of the loop over a block's chunks. -/
module

public import proofs.«01_k».proof.Proof.IdealSpec

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

theorem trips6 (i : grid0.Coords) : (k0_t6_loop i).trips = 3 := by
  have h : ∀ i : grid0.Coords, (k0_t6_loop i).trips = 3 := by decide +kernel
  exact h i

/-- Block `2 k` is a live one. -/
theorem live6 (k : ℕ) (hk : k < 18) : Scalar.cmpi .sge (Scalar.subi (BitVec.ofNat 32 (2 * k + 1)) 1#32) 0#32 = 1#1 := by
  have h : ∀ k < 18, Scalar.cmpi .sge (Scalar.subi (BitVec.ofNat 32 (2 * k + 1)) 1#32) 0#32 = 1#1 := by decide
  exact h k hk

section Loads
variable (XW : WB F) (C : CodesB F) (i : grid0.Coords) (k : Fin (k0_t3_loop i).trips) (t : Fin (k0_t6_loop i).trips)

theorem lhs6 (r : Fin 8) (inb) :
    k0_pay190 (F := F) (cdM.view.readAt (Elt F) (Rect.unit (s := S192x8192) (k0_off183 i t (BitVec.ofNat 32 r.val)) S192x256.size inb).toLoadRect C)
      = lhsC C (8 * (t.val + 1) + r.val) := by
  have hi := i0 i; have ht := lt_of_lt_of_eq t.isLt (trips6 i)
  exact load_lhs C inb _ (by omega) ((k0_off183_eq i t r).trans (congrArg (fun z => ![0, z]) (by omega)))

theorem tile60 (r : Fin 7) (inb) :
    k0_pay191 (F := F) (rgM.view.readAt (Elt F) (Rect.unit (s := S8x512x8192) (k0_off184 i k t (BitVec.ofNat 32 r.val)) S1x256x256.size inb).toLoadRect (ringT (F := F) XW (2 * k.val + 1)))
      = tileW XW (2 * k.val + 1) (8 * (t.val + 1) + r.val + 1) 0 := by
  have hi := i0 i; have ht := lt_of_lt_of_eq t.isLt (trips6 i)
  have hz : (8 * (t.val + 1) + r.val + 1) / 32 = 0 := by omega
  have h := load_tile XW inb (2 * k.val + 1) (8 * (t.val + 1) + r.val + 1) 0 ((k0_off184_eq i k t r).trans (by
    rw [hz]; exact congrArg₂ (fun y z => ![y, 0, z]) (by omega) (by omega)))
  rw [hz] at h; exact h

theorem tile61 (r : Fin 7) (inb) :
    k0_pay191 (F := F) (rgM.view.readAt (Elt F) (Rect.unit (s := S8x512x8192) (k0_off185 i k t (BitVec.ofNat 32 r.val)) S1x256x256.size inb).toLoadRect (ringT (F := F) XW (2 * k.val + 1)))
      = tileW XW (2 * k.val + 1) (8 * (t.val + 1) + r.val + 1) 1 := by
  have hi := i0 i; have ht := lt_of_lt_of_eq t.isLt (trips6 i)
  have hz : (8 * (t.val + 1) + r.val + 1) / 32 = 0 := by omega
  have h := load_tile XW inb (2 * k.val + 1) (8 * (t.val + 1) + r.val + 1) 1 ((k0_off185_eq i k t r).trans (by
    rw [hz]; exact congrArg₂ (fun y z => ![y, 256, z]) (by omega) (by omega)))
  rw [hz] at h; exact h

theorem tile6x0 (g : RingB F) (hg : ∀ y, (y 0).val = (2 * k.val + 1 + (8 * (t.val + 1) + 8) / 32) % 8 → g y = ringT XW (2 * k.val + 1 + (8 * (t.val + 1) + 8) / 32) y) (inb) :
    k0_pay191 (F := F) (rgM.view.readAt (Elt F) (Rect.unit (s := S8x512x8192) (k0_off193 i k t) S1x256x256.size inb).toLoadRect g)
      = tileW XW (2 * k.val + 1) (8 * (t.val + 1) + 8) 0 := by
  have hi := i0 i; have ht := lt_of_lt_of_eq t.isLt (trips6 i)
  exact load_tile_of XW inb (2 * k.val + 1) (8 * (t.val + 1) + 8) 0 ((k0_off193_eq i k t).trans
    (congrArg₂ (fun y z => ![y, 0, z]) (by omega) (by omega))) g hg

theorem tile6x1 (g : RingB F) (hg : ∀ y, (y 0).val = (2 * k.val + 1 + (8 * (t.val + 1) + 8) / 32) % 8 → g y = ringT XW (2 * k.val + 1 + (8 * (t.val + 1) + 8) / 32) y) (inb) :
    k0_pay191 (F := F) (rgM.view.readAt (Elt F) (Rect.unit (s := S8x512x8192) (k0_off194 i k t) S1x256x256.size inb).toLoadRect g)
      = tileW XW (2 * k.val + 1) (8 * (t.val + 1) + 8) 1 := by
  have hi := i0 i; have ht := lt_of_lt_of_eq t.isLt (trips6 i)
  exact load_tile_of XW inb (2 * k.val + 1) (8 * (t.val + 1) + 8) 1 ((k0_off194_eq i k t).trans
    (congrArg₂ (fun y z => ![y, 256, z]) (by omega) (by omega))) g hg

/-- The rows of products a tile of the select reads. -/
def offs6 (r₁ r₂ : ℕ) : Fin 2 → ℕ := match r₂ with
  | 0 => k0_off188 i t (BitVec.ofNat 32 r₁)
  | 1 => k0_off190 i t (BitVec.ofNat 32 r₁)
  | 2 => k0_off191 i t (BitVec.ofNat 32 r₁)
  | _ => k0_off192 i t (BitVec.ofNat 32 r₁)
theorem offs6_eq (r₁ : Fin 8) (r₂ : Fin 4) : offs6 i t r₁ r₂ = ![64 * t.val + 8 * r₁.val, 128 * r₂.val] := by
  have hi := i0 i
  fin_cases r₂
  · exact (k0_off188_eq i t r₁).trans (vec2 (by omega))
  · exact (k0_off190_eq i t r₁).trans (vec2 (by omega))
  · exact (k0_off191_eq i t r₁).trans (vec2 (by omega))
  · exact (k0_off192_eq i t r₁).trans (vec2 (by omega))
theorem off186_eq (r₁ : Fin 8) : k0_off186 i t (BitVec.ofNat 32 r₁) = ![64 * t.val + 8 * r₁.val, 0] :=
  (k0_off186_eq i t r₁).trans (vec2 (by have := i0 i; omega))
theorem off187_eq (k : Fin (k0_t3_loop i).trips) (r : Fin 4) : k0_off187 i k (BitVec.ofNat 32 r) = ![4 * (2 * k.val) + r.val, 0] :=
  (k0_off187_eq i k r).trans (vec2 (by have := i0 i; omega))
theorem off189_eq (k : Fin (k0_t3_loop i).trips) (t : Fin (k0_t6_loop i).trips) (r₁ : Fin 8) (r₂ : Fin 4) :
    k0_off189 i k t (BitVec.ofNat 32 r₁) (BitVec.ofNat 32 r₂) = ![64 * t.val + 8 * r₁.val, 128 * (4 * (2 * k.val) + r₂.val)] :=
  (k0_off189_eq i k t r₁ r₂).trans (congrArg₂ (fun y z => ![y, z]) (by have := i0 i; omega) (by have := i0 i; omega))
end Loads

section T6
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

theorem sel6 (k : Fin (k0_t3_loop i).trips) (t : Fin (k0_t6_loop i).trips) (lv : BitVec 1) (fO fs fsc fwv fbv) :
    ∃ (io : _) (ix : _) (iw : _) (is : _), ((True → lv = 1#1) →
    SelPost (F := F) arg5 fO (arg5.view.writes (Elt F) fO (selL lv s0M.view fs fsc fwv fbv
        (fun r₁ r₂ => k0_off189 i k t (BitVec.ofNat 32 r₁) (BitVec.ofNat 32 r₂)) (fun r => k0_off186 i t (BitVec.ofNat 32 r))
        (fun r => k0_off187 i k (BitVec.ofNat 32 r)) (offs6 i t) io ix iw is)) (True) fs fsc fwv fbv (64 * t.val) (4 * (2 * k.val))) := by
  have hk := lt_of_lt_of_eq k.isLt (trips3 i); have ht := lt_of_lt_of_eq t.isLt (trips6 i)
  exact ⟨inb_o (off := fun r₁ r₂ => k0_off189 i k t (BitVec.ofNat 32 r₁) (BitVec.ofNat 32 r₂)) (R := 64 * t.val) (T := 4 * (2 * k.val)) (by omega) (by omega) (off189_eq i k t), inb_x (off := fun r => k0_off186 i t (BitVec.ofNat 32 r)) (R := 64 * t.val) (by omega) (off186_eq i t), inb_w (off := fun r => k0_off187 i k (BitVec.ofNat 32 r)) (T := 4 * (2 * k.val)) (by omega) (off187_eq i k), inb_s (off := offs6 i t) (R := 64 * t.val) (by omega) (offs6_eq i t),
    fun hl => selL_post arg5 fO lv s0M.view fs fsc fwv fbv _ _ _ _ _ _ _ _ _ _ (True) hl (by omega) (off189_eq i k t) (off186_eq i t) (off187_eq i k) (offs6_eq i t)⟩

/-- What a trip leaves. -/
def post6 (k : Fin (k0_t3_loop i).trips) (t : Fin (k0_t6_loop i).trips) (q : PosShare TreeShare)
    (fO : Buf (Elt F) (arg5.view.loc (c : Thread nD τ))) (fwv : Buf (Elt F) (wvM.view.loc (c : Thread nD τ))) (fbv : Buf (Elt F) (bvM.view.loc (c : Thread nD τ)))
    (fsc : Buf (Elt F) (scM.view.loc (c : Thread nD τ))) (fs : Buf (Elt F) (s0M.view.loc (c : Thread nD τ))) (s' : Mxu F) : sProp 𝕄 :=
  iprop(∃ fO', ⌜MS s' 0 1 (fun q => some (tileW XW (2 * k.val + 1) (8 * (t.val + 1) + 8) q)) 48 fits_48_192 (accN XW C (2 * k.val + 1) (8 * (t.val + 1) + 8)) 0 fits_0_192 none
      ∧ SelPost arg5 fO fO' (True) fs fsc fwv fbv (64 * t.val) (4 * (2 * k.val))⌝
    ∗ tripRes c arg5 s0M q fO' C fwv fbv fsc fs ∗ slotP c (2 * k.val + 1) (ringT (F := F) XW (2 * k.val + 1)))

set_option maxHeartbeats 1000000 in
theorem t6trip (k : Fin (k0_t3_loop i).trips) (arg0 : BitVec 32) (m5 : Mxu F) (v1623 : BitVec 32)
    (t : Fin (k0_t6_loop i).trips) (ht : t.val < 2) (h2 : ¬ (k0_cond5 i t = 1#1)) (s : Mxu F) (q : PosShare TreeShare) (fO fwv fbv fsc fs)
    (H : MS s 0 1 (fun q => some (tileW XW (2 * k.val + 1) (8 * (t.val + 1)) q)) 48 fits_48_192 (accN XW C (2 * k.val + 1) (8 * (t.val + 1))) 0 fits_0_192 none) :
    iprop(tripRes c arg5 s0M q fO C fwv fbv fsc fs ∗ slotP c (2 * k.val + 1) (ringT (F := F) XW (2 * k.val + 1)))
      ⊢ wp frame (wpE (defs₀ (F := F)) 𝒱₀ (c : Thread nD τ) none) Set.univ
        (k0_t6_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k (BitVec.ofNat 32 (2 * k.val + 1)) v1623 t s)
        (post6 c XW C i arg5 k t q fO fwv fbv fsc fs) := by
  have hi := i0 i
  have hk := lt_of_lt_of_eq k.isLt (trips3 i)
  have hs := H.emp
  unfold post6 tripRes
  iintro ⟨⟨HO, Hcd, Hwv, Hbv, Hsc, Hs0, ⟨%W, HW⟩⟩, HR⟩
  sl_unfold [k0_t6_body]
  sl_exec_parts (disch := first | assumption | (mxu_pushok_peel; done) | (mxu_pushok_peel; exact Mxu.pushOk_of_none _ _ _ _ (hs _)))
  sl_step
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists W; iexact HW
    · iexact HR
  · ipureintro
    refine ⟨?_, ?_⟩
    · have e7 : tileW XW (2 * k.val + 1) (8 * (t.val + 1) + 8) = tileW XW (2 * k.val + 1) (8 * (t.val + 1) + 8) := rfl
      have hz : 2 * k.val + 1 + (8 * (t.val + 1) + 8) / 32 = 2 * k.val + 1 := by omega
      refine st8_MS XW C (2 * k.val + 1) (8 * (t.val + 1)) (by decide) H
        (lhs6 C i t 0 _) (lhs6 C i t 1 _) (lhs6 C i t 2 _) (lhs6 C i t 3 _) (lhs6 C i t 4 _) (lhs6 C i t 5 _) (lhs6 C i t 6 _) (lhs6 C i t 7 _)
        (tile60 XW i k t 0 _) (tile61 XW i k t 0 _) (tile60 XW i k t 1 _) (tile61 XW i k t 1 _) (tile60 XW i k t 2 _) (tile61 XW i k t 2 _)
        (tile60 XW i k t 3 _) (tile61 XW i k t 3 _) (tile60 XW i k t 4 _) (tile61 XW i k t 4 _) (tile60 XW i k t 5 _) (tile61 XW i k t 5 _)
        (tile60 XW i k t 6 _) (tile61 XW i k t 6 _) ?_ ?_
      · exact tile6x0 XW i k t _ (fun _ _ => by rw [hz]) _
      · exact tile6x1 XW i k t _ (fun _ _ => by rw [hz]) _
    · obtain ⟨io, ix, iw, is, h⟩ := sel6 (F := F) i arg5 k t (Scalar.cmpi .sge (Scalar.subi (BitVec.ofNat 32 (2 * k.val + 1)) 1#32) 0#32) fO fs fsc fwv fbv
      exact h (fun _ => live6 k.val hk)
end T6

end Cert.Proof.KernelIdeal
-- ==== Proof.IdealT6Last.lean ====
/- One trip of the loop over a block's chunks. -/
module

public import proofs.«01_k».proof.Proof.IdealT6

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section T6
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

set_option maxHeartbeats 1000000 in
/-- The last trip waits for the block after. -/
theorem t6last (k : Fin (k0_t3_loop i).trips) (arg0 : BitVec 32) (m5 : Mxu F) (v1623 : BitVec 32)
    (t : Fin (k0_t6_loop i).trips) (ht : t.val = 2) (h2 : k0_cond5 i t = 1#1) (s : Mxu F) (q : PosShare TreeShare) (fR fO fwv fbv fsc fs)
    (H : MS s 0 1 (fun q => some (tileW XW (2 * k.val + 1) (8 * (t.val + 1)) q)) 48 fits_48_192 (accN XW C (2 * k.val + 1) (8 * (t.val + 1))) 0 fits_0_192 none) :
    iprop(tripRes c arg5 s0M q fO C fwv fbv fsc fs ∗ slotP c (2 * k.val + 1) (ringT (F := F) XW (2 * k.val + 1)) ∗ flightP c XW (2 * k.val + 2) fR)
      ⊢ wp frame (wpE (defs₀ (F := F)) 𝒱₀ (c : Thread nD τ) none) Set.univ
        (k0_t6_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k (BitVec.ofNat 32 (2 * k.val + 1)) v1623 t s)
        fun s' => iprop(post6 c XW C i arg5 k t q fO fwv fbv fsc fs s' ∗ slotP c (2 * k.val + 2) (ringT (F := F) XW (2 * k.val + 2)) ∗ homeP c XW (2 * k.val + 2) ∗ cellP c (2 * k.val + 2)) := by
  have hi := i0 i
  have hk := lt_of_lt_of_eq k.isLt (trips3 i)
  have hs := H.emp
  unfold post6 tripRes
  iintro ⟨⟨HO, Hcd, Hwv, Hbv, Hsc, Hs0, ⟨%W, HW⟩⟩, HR, HF⟩
  sl_unfold [k0_t6_body]
  sl_exec_parts (disch := first | assumption | (mxu_pushok_peel; done) | (mxu_pushok_peel; exact Mxu.pushOk_of_none _ _ _ _ (hs _)))
  sl_step
  isplitr [HF HF_src HF_dst]
  rotate_left
  · isplitl [HF_dst]; · iapply (slot_ring c XW (2 * k.val + 2) _); iexact HF_dst
    isplitl [HF_src]; · iexact HF_src
    iexact HF
  iexists _
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists _; iexact HW
    · iexact HR
  · ipureintro
    refine ⟨?_, ?_⟩
    · have e7 : tileW XW (2 * k.val + 1) (8 * (t.val + 1) + 8) = tileW XW (2 * k.val + 1) (8 * (t.val + 1) + 8) := rfl
      have hz : 2 * k.val + 1 + (8 * (t.val + 1) + 8) / 32 = 2 * k.val + 2 := by omega
      refine st8_MS XW C (2 * k.val + 1) (8 * (t.val + 1)) (by decide) H
        (lhs6 C i t 0 _) (lhs6 C i t 1 _) (lhs6 C i t 2 _) (lhs6 C i t 3 _) (lhs6 C i t 4 _) (lhs6 C i t 5 _) (lhs6 C i t 6 _) (lhs6 C i t 7 _)
        (tile60 XW i k t 0 _) (tile61 XW i k t 0 _) (tile60 XW i k t 1 _) (tile61 XW i k t 1 _) (tile60 XW i k t 2 _) (tile61 XW i k t 2 _)
        (tile60 XW i k t 3 _) (tile61 XW i k t 3 _) (tile60 XW i k t 4 _) (tile61 XW i k t 4 _) (tile60 XW i k t 5 _) (tile61 XW i k t 5 _)
        (tile60 XW i k t 6 _) (tile61 XW i k t 6 _) ?_ ?_
      · exact tile6x0 XW i k t _ (fun y hy => by rw [hz] at hy ⊢; exact landed_at c XW _ _ y hy) _
      · exact tile6x1 XW i k t _ (fun y hy => by rw [hz] at hy ⊢; exact landed_at c XW _ _ y hy) _
    · obtain ⟨io, ix, iw, is, h⟩ := sel6 (F := F) i arg5 k t (Scalar.cmpi .sge (Scalar.subi (BitVec.ofNat 32 (2 * k.val + 1)) 1#32) 0#32) fO fs fsc fwv fbv
      exact h (fun _ => live6 k.val hk)
end T6

end Cert.Proof.KernelIdeal
-- ==== Proof.IdealRing.lean ====
/- The ring between blocks: which blocks of the weights are in flight, which slots are free, which blocks are at home; and
   the logits written so far. -/
module

public import proofs.«01_k».proof.Proof.IdealT4Last
public import proofs.«01_k».proof.Proof.IdealT6Last

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section Ring
variable (c : Dev nD) (XW : Buf (Elt F) (wM.view.loc (c : Thread nD τ)))

/-- Block `b` in flight to its slot. -/
def flyP (b : ℕ) : sProp 𝕄 := iprop(∃ f, flightP c XW b f)
/-- Block `b`'s slot and semaphore, free. -/
def freeP (b : ℕ) : sProp 𝕄 := iprop(cellP (F := F) c b ∗ ∃ f, slotP c b f)

/-- The ring at block `b`, whose slot is held apart: blocks `b + 1 … h - 1` are in flight, the slots of `h … b + 7` are free. -/
def ringS (b h : ℕ) : sProp 𝕄 :=
  iprop(cellP (F := F) c b ∗ bigSep (Finset.range (b + 1)) (homeP c XW) ∗ bigSep (Finset.Ico (b + 1) h) (flyP c XW)
    ∗ bigSep (Finset.Ico h (b + 8)) (freeP (F := F) c) ∗ bigSep (Finset.Ico h 37) (homeP c XW))
/-- The ring less block `h`, which is about to be started. -/
def ringO (b h : ℕ) : sProp 𝕄 :=
  iprop(cellP (F := F) c b ∗ bigSep (Finset.range (b + 1)) (homeP c XW) ∗ bigSep (Finset.Ico (b + 1) h) (flyP c XW)
    ∗ bigSep (Finset.Ico (h + 1) (b + 8)) (freeP (F := F) c) ∗ bigSep (Finset.Ico (h + 1) 37) (homeP c XW))
/-- The ring less block `b + 1`, which is about to be waited for. -/
def ringW (b h : ℕ) : sProp 𝕄 :=
  iprop(cellP (F := F) c b ∗ bigSep (Finset.range (b + 1)) (homeP c XW) ∗ bigSep (Finset.Ico (b + 2) h) (flyP c XW)
    ∗ bigSep (Finset.Ico h (b + 8)) (freeP (F := F) c) ∗ bigSep (Finset.Ico h 37) (homeP c XW))

theorem Ico_left (P : ℕ → sProp 𝕄) {a b : ℕ} (h : a < b) : bigSep (Finset.Ico a b) P = iprop(P a ∗ bigSep (Finset.Ico (a + 1) b) P) := by
  have e : Finset.Ico a b = insert a (Finset.Ico (a + 1) b) := by ext x; simp only [Finset.mem_Ico, Finset.mem_insert]; omega
  rw [e, bigSep_insert (by simp)]; rfl
theorem Ico_right (P : ℕ → sProp 𝕄) {a b : ℕ} (h : a ≤ b) : bigSep (Finset.Ico a (b + 1)) P = iprop(P b ∗ bigSep (Finset.Ico a b) P) := by
  have e : Finset.Ico a (b + 1) = insert b (Finset.Ico a b) := by ext x; simp only [Finset.mem_Ico, Finset.mem_insert]; omega
  rw [e, bigSep_insert (by simp)]; rfl
theorem range_succ (P : ℕ → sProp 𝕄) (b : ℕ) : bigSep (Finset.range (b + 1)) P = iprop(P b ∗ bigSep (Finset.range b) P) := by
  rw [Finset.range_add_one, bigSep_insert (by simp)]; rfl

theorem ring_open {b h : ℕ} (h1 : h < 37) (h2 : h < b + 8) :
    ringS c XW b h ⊢ iprop(cellP (F := F) c h ∗ (∃ f, slotP c h f) ∗ homeP c XW h ∗ ringO c XW b h) := by
  unfold ringS ringO
  rw [Ico_left (freeP (F := F) c) h2, Ico_left (homeP c XW) h1]
  unfold freeP
  iintro ⟨A, B, C, ⟨⟨D, E⟩, G⟩, ⟨H, I⟩⟩
  isplitl [D]; · iexact D
  isplitl [E]; · iexact E
  isplitl [H]; · iexact H
  isplitl [A]; · iexact A
  isplitl [B]; · iexact B
  isplitl [C]; · iexact C
  isplitl [G]; · iexact G
  iexact I

theorem ring_close {b h : ℕ} (h1 : b + 1 ≤ h) (f) : iprop(flightP c XW h f ∗ ringO c XW b h) ⊢ ringS c XW b (h + 1) := by
  unfold ringS ringO
  rw [Ico_right (flyP c XW) h1]
  iintro ⟨K, A, B, C, D, E⟩
  isplitl [A]; · iexact A
  isplitl [B]; · iexact B
  isplitl [C K]
  · isplitl [K]
    · unfold flyP; iexists f; iexact K
    · iexact C
  isplitl [D]; · iexact D
  iexact E

theorem ring_take {b h : ℕ} (h1 : b + 1 < h) : ringS c XW b h ⊢ iprop((∃ f, flightP c XW (b + 1) f) ∗ ringW c XW b h) := by
  unfold ringS ringW
  rw [Ico_left (flyP c XW) h1]
  unfold flyP
  iintro ⟨A, B, ⟨C, C'⟩, D, E⟩
  isplitl [C]; · iexact C
  isplitl [A]; · iexact A
  isplitl [B]; · iexact B
  isplitl [C']; · iexact C'
  isplitl [D]; · iexact D
  iexact E

theorem csm_congr' (b : ℕ) : csm (b + 8) = csm b := csm_congr b (vec1 (by omega)) _
theorem rslot_congr' (b : ℕ) : rslot (b + 8) = rslot b := rslot_congr b (vec3 (by omega)) _ _
theorem cell_8 (b : ℕ) : cellP (F := F) c (b + 8) = cellP c b :=
  congrArg (fun d : DmaSems sig S_ => (semVal ((c : Thread nD τ), SemLoc.dma d.sem) 0 : sProp 𝕄)) (csm_congr' b)
theorem slot_of {r r' : Memref sig .tc .vmem S512x8192 .fp8e4m3} (e : r = r') (f : Buf (Elt F) (r.view.loc (c : Thread nD τ)))
    (f' : Buf (Elt F) (r'.view.loc (c : Thread nD τ))) (h : HEq f f') :
    (r.view.loc (c : Thread nD τ) ↦[r.view.set]{fullShare} f : sProp 𝕄) = (r'.view.loc (c : Thread nD τ) ↦[r'.view.set]{fullShare} f') := by
  subst e; cases h; rfl
theorem slot_8 (b : ℕ) (f) : slotP (F := F) c (b + 8) f = slotP c b f := slot_of c (rslot_congr' b) f f HEq.rfl

theorem ring_put {b h : ℕ} (h1 : h ≤ b + 8) (f) :
    iprop(homeP c XW (b + 1) ∗ cellP (F := F) c (b + 1) ∗ slotP c b f ∗ ringW c XW b h) ⊢ ringS c XW (b + 1) h := by
  unfold ringS ringW
  rw [range_succ (homeP c XW) (b + 1), show b + 1 + 8 = (b + 8) + 1 from rfl, Ico_right (freeP (F := F) c) h1]
  unfold freeP
  rw [cell_8]
  iintro ⟨H, K, S, A, B, C, D, E⟩
  isplitl [K]; · iexact K
  isplitl [H B]
  · isplitl [H]; · iexact H
    iexact B
  isplitl [C]; · iexact C
  isplitl [A S D]
  · isplitl [A S]
    · isplitl [A]; · iexact A
      iexists f; irw [slot_8 c b f]; iexact S
    · iexact D
  iexact E
end Ring

/-! ## The logits written so far -/

section Written
variable (arg5 : Memref sig .tc .vmem S192x18944 .f32) (XW : WB F) (C : CodesB F) (fsc : S192x128.Idx → Elt F .f32) (fwv fbv : S148x128.Idx → Elt F .f32)

/-- A logit. -/
def lgt (y : S192x18944.Idx) : Elt F .f32 := lval (sT XW C ((y 1).val / 512)) fsc fwv fbv y

/-- The blocks before `m` are written, and of block `m`, if it is a live one, the first `rows` rows. -/
def LP (f : arg5.view.ty.Contents (Elt F)) (live : Prop) (m rows : ℕ) : Prop :=
  (∀ y : S192x18944.Idx, (y 1).val < 512 * m → arg5.view.read (Elt F) f y = lgt XW C fsc fwv fbv y)
  ∧ (live → ∀ y : S192x18944.Idx, 512 * m ≤ (y 1).val → (y 1).val < 512 * m + 512 → (y 0).val < rows → arg5.view.read (Elt F) f y = lgt XW C fsc fwv fbv y)

variable {arg5 XW C fsc fwv fbv}
theorem LP.sel {f f'} {live : Prop} {m R : ℕ} {s : SB F} (H : LP arg5 XW C fsc fwv fbv f live m R) (hs : live → s = sT XW C m)
    (K : SelPost arg5 f f' live s fsc fwv fbv R (4 * m)) : LP arg5 XW C fsc fwv fbv f' live m (R + 64) := by
  refine ⟨fun y hy => (K.2 y (by omega)).trans (H.1 y hy), fun hl y h1 h2 h3 => ?_⟩
  by_cases hr : (y 0).val < R
  · exact (K.2 y (.inl hr)).trans (H.2 hl y h1 h2 hr)
  · refine (K.1 hl y (by omega) (by omega) (by omega) (by omega)).trans ?_
    unfold lgt
    rw [hs hl, show (y 1).val / 512 = m by omega]

theorem LP.next {f} {live live' : Prop} {m : ℕ} (H : LP arg5 XW C fsc fwv fbv f live m 192) (hl : live) : LP arg5 XW C fsc fwv fbv f live' (m + 1) 0 := by
  refine ⟨fun y hy => ?_, fun _ y _ _ h => absurd h (by omega)⟩
  by_cases h : (y 1).val < 512 * m
  · exact H.1 y h
  · exact H.2 hl y (by omega) (by omega) (y 0).isLt

theorem LP.zero {f} {live : Prop} : LP arg5 XW C fsc fwv fbv f live 0 0 :=
  ⟨fun y hy => absurd hy (by omega), fun _ y _ _ h => absurd h (by omega)⟩

theorem LP.next4 {f} (k : ℕ) (H : LP arg5 XW C fsc fwv fbv f (1 ≤ k) (2 * k - 1) 192) : LP arg5 XW C fsc fwv fbv f True (2 * k) 0 := by
  rcases Nat.eq_zero_or_pos k with rfl | hk
  · exact LP.zero
  · have e := H.next (live' := True) hk
    rwa [show 2 * k - 1 + 1 = 2 * k by omega] at e

theorem LP.next6 {f} (k : ℕ) (H : LP arg5 XW C fsc fwv fbv f True (2 * k) 192) : LP arg5 XW C fsc fwv fbv f (1 ≤ k + 1) (2 * (k + 1) - 1) 0 :=
  H.next trivial
end Written

/-- Slice 32 of a block is slice 0 of the block after. -/
theorem tileW_next (XW : WB F) (b : ℕ) : tileW XW b 32 = tileW XW (b + 1) 0 := by
  unfold tileW; simp

/-! ## Eight steps of a block, the accumulators of the block before popped after five of them -/

section Chunk0
variable {s : Mxu F} {A B : ℕ} {hA : Mxu.Fits A 192} {hB : Mxu.Fits B 192} {e : Option (Fin 2 → Rows F)}

theorem five_MS (XW : WB F) (C : CodesB F) (b : ℕ) (hAB : 4 * A + 192 ≤ 4 * B ∨ 4 * B + 192 ≤ 4 * A)
    (H : MS s 0 1 (fun q => some (tileW XW b 0 q)) A hA none B hB e)
    {x0 x1 x2 x3 x4 : Lhs F} {a0 a1 a2 a3 a4 b0 b1 b2 b3 b4 : Tile F}
    (hx0 : x0 = lhsC C 0) (hx1 : x1 = lhsC C 1) (hx2 : x2 = lhsC C 2) (hx3 : x3 = lhsC C 3) (hx4 : x4 = lhsC C 4)
    (ha0 : a0 = tileW XW b 1 0) (hb0 : b0 = tileW XW b 1 1) (ha1 : a1 = tileW XW b 2 0) (hb1 : b1 = tileW XW b 2 1)
    (ha2 : a2 = tileW XW b 3 0) (hb2 : b2 = tileW XW b 3 1) (ha3 : a3 = tileW XW b 4 0) (hb3 : b3 = tileW XW b 4 1)
    (ha4 : a4 = tileW XW b 5 0) (hb4 : b4 = tileW XW b 5 1) :
    MS (step (step (step (step (step s 0 1 A hA x0 a0 b0) 1 0 A hA x1 a1 b1) 0 1 A hA x2 a2 b2) 1 0 A hA x3 a3 b3) 0 1 A hA x4 a4 b4)
      1 0 (fun q => some (tileW XW b 5 q)) A hA (accN XW C b 5) B hB e :=
  step_MS XW C b hAB 4 (by decide) (step_MS XW C b hAB 3 (by decide) (step_MS XW C b hAB 2 (by decide)
    (step_MS XW C b hAB 1 (by decide) (step_MS XW C b hAB 0 (by decide) H hx0 ha0 hb0) hx1 ha1 hb1) hx2 ha2 hb2) hx3 ha3 hb3) hx4 ha4 hb4

theorem three_MS (XW : WB F) (C : CodesB F) (b : ℕ) (hAB : 4 * A + 192 ≤ 4 * B ∨ 4 * B + 192 ≤ 4 * A)
    (H : MS s 1 0 (fun q => some (tileW XW b 5 q)) A hA (accN XW C b 5) B hB e)
    {x5 x6 x7 : Lhs F} {a5 a6 a7 b5 b6 b7 : Tile F}
    (hx5 : x5 = lhsC C 5) (hx6 : x6 = lhsC C 6) (hx7 : x7 = lhsC C 7)
    (ha5 : a5 = tileW XW b 6 0) (hb5 : b5 = tileW XW b 6 1) (ha6 : a6 = tileW XW b 7 0) (hb6 : b6 = tileW XW b 7 1)
    (ha7 : a7 = tileW XW b 8 0) (hb7 : b7 = tileW XW b 8 1) :
    MS (step (step (step (pops s B hB) 1 0 A hA x5 a5 b5) 0 1 A hA x6 a6 b6) 1 0 A hA x7 a7 b7)
      0 1 (fun q => some (tileW XW b 8 q)) A hA (accN XW C b 8) B hB none :=
  step_MS XW C b hAB 7 (by decide) (step_MS XW C b hAB 6 (by decide) (step_MS XW C b hAB 5 (by decide) (H.pops hAB) hx5 ha5 hb5) hx6 ha6 hb6) hx7 ha7 hb7
end Chunk0

end Cert.Proof.KernelIdeal
-- ==== Proof.IdealT1.lean ====
module

public import proofs.«01_k».proof.Proof.IdealRing

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-! ## The rows' strips -/

abbrev strOff (u : ℕ) : Fin 2 → Nat := ![32 * (u % 6), 0]
theorem strOff_inb (u : ℕ) : ∀ a, strOff u a + S32x8192.size a ≤ S192x8192.size a := by
  intro a; fin_cases a
  · show 32 * (u % 6) + 32 ≤ 192; omega
  · show 0 + 8192 ≤ 8192; omega
abbrev xsOff (u : ℕ) : Fin 1 → Nat := ![u % 6]
theorem xsOff_inb (u : ℕ) : ∀ a, xsOff u a + S1.size a ≤ S6.size a := by
  intro a; fin_cases a; show u % 6 + 1 ≤ 6; omega
/-- Strip `u` of the rows in vector memory. -/
def xstrp (u : ℕ) : Memref sig .tc .vmem S32x8192 .bf16 := xbM.slice (Rect.unit (s := S192x8192) (strOff u) S32x8192.size (strOff_inb u)) (fun _ => rfl)
/-- Strip `u` of the rows in the argument. -/
def xblk (u : ℕ) : Memref sig .tc .hbm S32x8192 .bf16 := xM.slice (Rect.unit (s := S192x8192) (strOff u) S32x8192.size (strOff_inb u)) (fun _ => rfl)
/-- Strip `u`'s semaphore. -/
def xsm (u : ℕ) : DmaSems sig S_ := (cc0_scratch8.slice (Rect.unit (s := S6) (xsOff u) S1.size (xsOff_inb u))).squeeze S_ squeezes_S1_S_
instance (u : ℕ) : ClosedOff (strOff u) := ⟨strOff u, rfl⟩
theorem xsm_congr {off : Fin 1 → Nat} (u : ℕ) (e : off = xsOff u) (hh) :
    (cc0_scratch8.slice (Rect.unit (s := S6) off S1.size hh)).squeeze S_ squeezes_S1_S_ = xsm u :=
  congrArg (fun A : DmaSems sig S1 => A.squeeze S_ squeezes_S1_S_) (SemArray.slice_unit_congr _ e _ _)
theorem xstrp_congr {off : Fin 2 → Nat} (u : ℕ) (e : off = strOff u) (hh hs) :
    xbM.slice (Rect.unit (s := S192x8192) off S32x8192.size hh) hs = xstrp u := Memref.slice_unit_congr _ e _ _ _ (fun _ => rfl)
theorem xblk_congr {off : Fin 2 → Nat} (u : ℕ) (e : off = strOff u) (hh hs) :
    xM.slice (Rect.unit (s := S192x8192) off S32x8192.size hh) hs = xblk u := Memref.slice_unit_congr _ e _ _ _ (fun _ => rfl)
theorem trips1 (i : grid0.Coords) : (k0_t1_loop i).trips = 6 := by
  have h : ∀ i : grid0.Coords, (k0_t1_loop i).trips = 6 := by decide +kernel
  exact h i

section C1
variable (i : grid0.Coords) (k : Fin (k0_t1_loop i).trips)
@[sl_canon] theorem sem3 (hh) : (cc0_scratch8.slice (Rect.unit (s := S6) (k0_off3 i k) S1.size hh)).squeeze S_ squeezes_S1_S_ = xsm k.val :=
  xsm_congr _ ((k0_off3_eq i k).trans (vec1 (by rw [i0 i]; have := lt_of_lt_of_eq k.isLt (trips1 i); omega))) hh
@[sl_canon] theorem str4 (hh hs) : xbM.slice (Rect.unit (s := S192x8192) (k0_off4 i k) S32x8192.size hh) hs = xstrp k.val :=
  xstrp_congr _ ((k0_off4_eq i k).trans (vec2 (by rw [i0 i]; have := lt_of_lt_of_eq k.isLt (trips1 i); omega))) hh hs
@[sl_canon] theorem xbl4 (hh hs) : xM.slice (Rect.unit (s := S192x8192) (k0_off4 i k) S32x8192.size hh) hs = xblk k.val :=
  xblk_congr _ ((k0_off4_eq i k).trans (vec2 (by rw [i0 i]; have := lt_of_lt_of_eq k.isLt (trips1 i); omega))) hh hs
end C1

/-! ## What the rows' codes and scales are -/

abbrev XB (F : FTy → Type) [FloatOps F] := S192x8192.Idx → Elt F .bf16
/-- Tile `n` of strip `u`. -/
def xtile (X : XB F) (u n : ℕ) : Vec F S32x128 .bf16 := fun x =>
  X (ix2 ⟨32 * (u % 6) + (x 0).val, by have : (x 0).val < 32 := (x 0).isLt; omega⟩ ⟨128 * (n % 64) + (x 1).val, by have : (x 1).val < 128 := (x 1).isLt; omega⟩)
/-- The largest absolute value over tiles `0 … n`. -/
def mN (g : ℕ → Vec F S32x128 .bf16) : ℕ → FVec F S32x128 .bf16
  | 0 => absf (g 0)
  | n + 1 => maximumf (mN g n) (absf (g (n + 1)))
/-- The exponent field of the rows' largest value over 448. -/
def fieldG (g : ℕ → Vec F S32x128 .bf16) : IVec S32x128 32 :=
  k0_pay13 (F := F) (k0_pay9 (mN g 56) (g 57) (g 58) (g 59) (g 60) (g 61) (g 62) (g 63)) (k0_pay10 (mN g 56) (g 57) (g 58) (g 59) (g 60) (g 61) (g 62) (g 63))
    (k0_pay11 (mN g 56) (g 57) (g 58) (g 59) (g 60) (g 61) (g 62) (g 63)) k0_pay12
def codeT (g : ℕ → Vec F S32x128 .bf16) (n : ℕ) : FVec F S32x128 .fp8e4m3 := k0_pay21 (k0_pay17 (F := F) (fieldG g) k0_pay14) (g n)
def scaleT (g : ℕ → Vec F S32x128 .bf16) : FVec F S32x128 .f32 := k0_pay16 (F := F) (fieldG g) k0_pay14
/-- The codes. -/
def Cspec (X : XB F) : CodesB F := fun y =>
  codeT (xtile X ((y 0).val / 32)) ((y 1).val / 128) (ix2 ⟨(y 0).val % 32, by omega⟩ ⟨(y 1).val % 128, by omega⟩)
/-- The rows' scales, each in every column. -/
def Sspec (X : XB F) : S192x128.Idx → Elt F .f32 := fun y =>
  scaleT (xtile X ((y 0).val / 32)) (ix2 ⟨(y 0).val % 32, by omega⟩ (y 1))

section Chain
variable {g : ℕ → Vec F S32x128 .bf16}
theorem pay4_run {t0 t1 t2 t3 t4 t5 t6 t7 t8 : Vec F S32x128 .bf16} (h0 : t0 = g 0) (h1 : t1 = g 1) (h2 : t2 = g 2) (h3 : t3 = g 3) (h4 : t4 = g 4) (h5 : t5 = g 5) (h6 : t6 = g 6) (h7 : t7 = g 7) (h8 : t8 = g 8) : k0_pay4 t0 t1 t2 t3 t4 t5 t6 t7 t8 = mN g 8 := by
  subst h0 h1 h2 h3 h4 h5 h6 h7 h8; rfl
theorem pay5_run {M : FVec F S32x128 .bf16} (n : ℕ) (hM : M = mN g n) {t1 t2 t3 t4 t5 t6 t7 t8 t9 t10 t11 t12 : Vec F S32x128 .bf16} (h1 : t1 = g (n + 1)) (h2 : t2 = g (n + 2)) (h3 : t3 = g (n + 3)) (h4 : t4 = g (n + 4)) (h5 : t5 = g (n + 5)) (h6 : t6 = g (n + 6)) (h7 : t7 = g (n + 7)) (h8 : t8 = g (n + 8)) (h9 : t9 = g (n + 9)) (h10 : t10 = g (n + 10)) (h11 : t11 = g (n + 11)) (h12 : t12 = g (n + 12)) : k0_pay5 M t1 t2 t3 t4 t5 t6 t7 t8 t9 t10 t11 t12 = mN g (n + 12) := by
  subst hM h1 h2 h3 h4 h5 h6 h7 h8 h9 h10 h11 h12; rfl
theorem pay6_eq : @k0_pay6 F _ = k0_pay5 := rfl
theorem pay7_eq : @k0_pay7 F _ = k0_pay5 := rfl
theorem pay8_eq : @k0_pay8 F _ = k0_pay5 := rfl
theorem field_run {M : FVec F S32x128 .bf16} (hM : M = mN g 56) {t57 t58 t59 t60 t61 t62 t63 : Vec F S32x128 .bf16} (h57 : t57 = g 57) (h58 : t58 = g 58) (h59 : t59 = g 59) (h60 : t60 = g 60) (h61 : t61 = g 61) (h62 : t62 = g 62) (h63 : t63 = g 63) :
    k0_pay13 (F := F) (k0_pay9 M t57 t58 t59 t60 t61 t62 t63) (k0_pay10 M t57 t58 t59 t60 t61 t62 t63) (k0_pay11 M t57 t58 t59 t60 t61 t62 t63) k0_pay12 = fieldG g := by
  subst hM h57 h58 h59 h60 h61 h62 h63; rfl
end Chain

theorem rd_cd (G : cdM.view.ty.Contents (Elt F)) (y : S192x8192.Idx) : cdM.view.read (Elt F) G y = G y := rfl
theorem rd_sc (G : scM.view.ty.Contents (Elt F)) (y : S192x128.Idx) : scM.view.read (Elt F) G y = G y := rfl
section Pieces
variable (i : grid0.Coords) (k : Fin (k0_t1_loop i).trips)
/-- Where tile `n` of the trip's strip begins. -/
def qoff (n : ℕ) : Fin 2 → ℕ := ![k0_off5 i k 0, 128 * (n % 64)]
theorem qoff_eq (n : ℕ) : qoff i k n = ![32 * k.val, 128 * (n % 64)] := by
  unfold qoff; rw [k0_off5_eq]; exact vec2 (by show 32 * (i 0).val + 32 * k.val = _; rw [i0 i]; omega)
theorem inbq (n : ℕ) : ∀ a, qoff i k n a + S32x128.size a ≤ S192x8192.size a := by
  have := lt_of_lt_of_eq k.isLt (trips1 i)
  intro a; rw [qoff_eq]; fin_cases a
  · show 32 * k.val + 32 ≤ 192; omega
  · show 128 * (n % 64) + 128 ≤ 8192; omega
theorem off69_eq : k0_off69 i k = ![32 * k.val, 0] := (k0_off69_eq i k).trans (vec2 (by rw [i0 i]; omega))
theorem inb69 : ∀ a, k0_off69 i k a + S32x128.size a ≤ S192x128.size a := by
  have := lt_of_lt_of_eq k.isLt (trips1 i)
  intro a; rw [off69_eq]; fin_cases a
  · show 32 * k.val + 32 ≤ 192; omega
  · show 0 + 128 ≤ 128; omega
/-- The tiles as the trip loads them. -/
def xg (f : xbM.view.ty.Contents (Elt F)) (n : ℕ) : Vec F S32x128 .bf16 :=
  xbM.view.readAt (Elt F) (Rect.unit (s := S192x8192) (qoff i k n) S32x128.size (inbq i k n)).toLoadRect f
/-- The tiles of codes a trip stores, the last first. -/
def codeL (V : FVec F S32x128 .bf16) (g : ℕ → Vec F S32x128 .bf16) : List (View.Piece (Elt F) S192x8192 .fp8e4m3) :=
  List.ofFn fun n : Fin 64 => ⟨Rect.unit (s := S192x8192) (qoff i k (63 - n.val)) S32x128.size (inbq i k (63 - n.val)), k0_pay21 V (g (63 - n.val))⟩

theorem emb_q (n : ℕ) (hn : n < 64) (x : S32x128.Idx) :
    (((Rect.unit (s := S192x8192) (qoff i k n) S32x128.size (inbq i k n)).emb x) 0).val = 32 * k.val + (x 0).val
    ∧ (((Rect.unit (s := S192x8192) (qoff i k n) S32x128.size (inbq i k n)).emb x) 1).val = 128 * n + (x 1).val := by
  constructor
  · show qoff i k n 0 + 1 * (x 0).val = _; rw [qoff_eq]; show 32 * k.val + 1 * (x 0).val = _; omega
  · show qoff i k n 1 + 1 * (x 1).val = _; rw [qoff_eq]; show 128 * (n % 64) + 1 * (x 1).val = _; omega

theorem emb_q' (n : ℕ) (x : S32x128.Idx) :
    (((Rect.unit (s := S192x8192) (qoff i k n) S32x128.size (inbq i k n)).toLoadRect.idx x) 0).val = 32 * k.val + (x 0).val
    ∧ (((Rect.unit (s := S192x8192) (qoff i k n) S32x128.size (inbq i k n)).toLoadRect.idx x) 1).val = 128 * (n % 64) + (x 1).val := by
  constructor
  · show qoff i k n 0 + 1 * (x 0).val = _; rw [qoff_eq]; show 32 * k.val + 1 * (x 0).val = _; omega
  · show qoff i k n 1 + 1 * (x 1).val = _; rw [qoff_eq]; show 128 * (n % 64) + 1 * (x 1).val = _; omega

theorem codeL_post (X : XB F) (g : ℕ → Vec F S32x128 .bf16) (hg : g = xtile X k.val) {V : FVec F S32x128 .bf16} (hV : V = k0_pay17 (F := F) (fieldG (xtile X k.val)) k0_pay14) (f : cdM.view.ty.Contents (Elt F))
    (h : ∀ y : S192x8192.Idx, (y 0).val < 32 * k.val → f y = Cspec X y) :
    ∀ y : S192x8192.Idx, (y 0).val < 32 * (k.val + 1) → cdM.view.writes (Elt F) f (codeL i k V g) y = Cspec X y := by
  subst hg hV
  intro y hy
  have hy1 : (y 1).val < 8192 := (y 1).isLt
  by_cases h0 : (y 0).val < 32 * k.val
  · refine Eq.trans (b := f y) ?_ (h y h0)
    refine ((rd_cd _ y).symm.trans (View.read_writes_apply_of_forall_not_mem cdM.view f y _ fun p hp => ?_)).trans (rd_cd f y)
    obtain ⟨n, rfl⟩ := List.mem_ofFn.mp hp
    intro hm
    have h := (Rect.mem_set_unit (inb := inbq i k (63 - n.val))).mp hm 0
    rw [qoff_eq] at h
    have : 32 * k.val ≤ (y 0).val := h.1
    omega
  · refine (rd_cd _ y).symm.trans (View.read_writes_apply_of_pieces cdM.view f (Cspec X) _ (fun p hp x => ?_) y ?_)
    · obtain ⟨n, rfl⟩ := List.mem_ofFn.mp hp
      obtain ⟨e0, e1⟩ := emb_q i k (63 - n.val) (by omega) x
      have hx0 : (x 0).val < 32 := (x 0).isLt
      have hx1 : (x 1).val < 128 := (x 1).isLt
      show codeT (xtile X k.val) (63 - n.val) x = Cspec X ((Rect.unit (s := S192x8192) (qoff i k (63 - n.val)) S32x128.size (inbq i k (63 - n.val))).emb x)
      unfold Cspec
      rw [show (((Rect.unit (s := S192x8192) (qoff i k (63 - n.val)) S32x128.size (inbq i k (63 - n.val))).emb x) 0).val / 32 = k.val by omega,
        show (((Rect.unit (s := S192x8192) (qoff i k (63 - n.val)) S32x128.size (inbq i k (63 - n.val))).emb x) 1).val / 128 = 63 - n.val by omega]
      congr 1
      funext a
      fin_cases a
      · apply Fin.ext; show (x 0).val = (((Rect.unit (s := S192x8192) (qoff i k (63 - n.val)) S32x128.size (inbq i k (63 - n.val))).emb x) 0).val % 32; omega
      · apply Fin.ext; show (x 1).val = (((Rect.unit (s := S192x8192) (qoff i k (63 - n.val)) S32x128.size (inbq i k (63 - n.val))).emb x) 1).val % 128; omega
    · refine ⟨_, List.mem_ofFn.mpr ⟨⟨63 - (y 1).val / 128, by omega⟩, rfl⟩, ?_⟩
      rw [Rect.mem_set_unit]
      intro a
      rw [qoff_eq]
      fin_cases a
      · show 32 * k.val ≤ (y 0).val ∧ (y 0).val < 32 * k.val + 32; omega
      · show 128 * ((63 - (63 - (y 1).val / 128)) % 64) ≤ (y 1).val ∧ (y 1).val < 128 * ((63 - (63 - (y 1).val / 128)) % 64) + 128; omega

theorem scale_post (X : XB F) {Fl : IVec S32x128 32} (hF : Fl = fieldG (xtile X k.val)) (f : scM.view.ty.Contents (Elt F))
    (h : ∀ y : S192x128.Idx, (y 0).val < 32 * k.val → f y = Sspec X y) :
    ∀ y : S192x128.Idx, (y 0).val < 32 * (k.val + 1) →
      scM.view.writes (Elt F) f [⟨Rect.unit (s := S192x128) (k0_off69 i k) S32x128.size (inb69 i k), k0_pay16 (F := F) Fl k0_pay14⟩] y = Sspec X y := by
  subst hF
  intro y hy
  have hy1 : (y 1).val < 128 := (y 1).isLt
  by_cases h0 : (y 0).val < 32 * k.val
  · refine Eq.trans (b := f y) ?_ (h y h0)
    refine ((rd_sc _ y).symm.trans (View.read_writes_apply_of_forall_not_mem scM.view f y _ fun p hp => ?_)).trans (rd_sc f y)
    obtain rfl := List.mem_singleton.mp hp
    intro hm
    have h := (Rect.mem_set_unit (inb := inb69 i k)).mp hm 0
    rw [off69_eq] at h
    have : 32 * k.val ≤ (y 0).val := h.1
    omega
  · refine (rd_sc _ y).symm.trans (View.read_writes_apply_of_pieces scM.view f (Sspec X) _ (fun p hp x => ?_) y ?_)
    · obtain rfl := List.mem_singleton.mp hp
      have hx0 : (x 0).val < 32 := (x 0).isLt
      have e0 : (((Rect.unit (s := S192x128) (k0_off69 i k) S32x128.size (inb69 i k)).emb x) 0).val = 32 * k.val + (x 0).val := by
        show k0_off69 i k 0 + 1 * (x 0).val = _; refine (congrArg (fun z : Fin 2 → ℕ => z 0 + 1 * (x 0).val) (off69_eq i k)).trans ?_; show 32 * k.val + 1 * (x 0).val = _; omega
      have e1 : (((Rect.unit (s := S192x128) (k0_off69 i k) S32x128.size (inb69 i k)).emb x) 1).val = (x 1).val := by
        show k0_off69 i k 1 + 1 * (x 1).val = _; refine (congrArg (fun z : Fin 2 → ℕ => z 1 + 1 * (x 1).val) (off69_eq i k)).trans ?_; show 0 + 1 * (x 1).val = _; omega
      show scaleT (xtile X k.val) x = Sspec X ((Rect.unit (s := S192x128) (k0_off69 i k) S32x128.size (inb69 i k)).emb x)
      unfold Sspec
      rw [show (((Rect.unit (s := S192x128) (k0_off69 i k) S32x128.size (inb69 i k)).emb x) 0).val / 32 = k.val by omega]
      congr 1
      funext a
      fin_cases a
      · apply Fin.ext; show (x 0).val = (((Rect.unit (s := S192x128) (k0_off69 i k) S32x128.size (inb69 i k)).emb x) 0).val % 32; omega
      · apply Fin.ext; exact e1.symm
    · refine ⟨_, List.mem_singleton.mpr rfl, ?_⟩
      rw [Rect.mem_set_unit]
      intro a
      rw [off69_eq]
      fin_cases a
      · show 32 * k.val ≤ (y 0).val ∧ (y 0).val < 32 * k.val + 32; omega
      · show 0 ≤ (y 1).val ∧ (y 1).val < 0 + 128; omega
end Pieces

section Res1
variable (c : Dev nD) (X : Buf (Elt F) (xM.view.loc (c : Thread nD τ)))
abbrev xcellP (u : ℕ) : sProp 𝕄 := semVal ((c : Thread nD τ), SemLoc.dma (xsm u).sem) 0
abbrev xstrP (u : ℕ) (f : Buf (Elt F) (xbM.view.loc (c : Thread nD τ))) : sProp 𝕄 := (xstrp u).view.loc (c : Thread nD τ) ↦[(xstrp u).view.set]{fullShare} f
abbrev xhomeP (u : ℕ) : sProp 𝕄 := (xblk u).view.loc (c : Thread nD τ) ↦[(xblk u).view.set]{fullShare} X
/-- The rows' buffer as strip `u`'s transfer over contents `f` leaves it. -/
abbrev xlanded (u : ℕ) (f : Buf (Elt F) (xbM.view.loc (c : Thread nD τ))) : Buf (Elt F) (xbM.view.loc (c : Thread nD τ)) :=
  (xstrp u).view.writes (Elt F) f [⟨Rect.whole S32x8192, ReadAs.same.apply ((xblk u).view.read (Elt F) X)⟩]
abbrev xflightP (u : ℕ) (f : Buf (Elt F) (xbM.view.loc (c : Thread nD τ))) : sProp 𝕄 :=
  Transfers.Flight countersEmb (c : Thread nD τ) (SemLoc.dma (xsm u).sem) () (xstrp u).view.dmaCredit iprop(xstrP c u (xlanded c X u f) ∗ xhomeP c X u)
abbrev xflyP (u : ℕ) : sProp 𝕄 := iprop(∃ f, xflightP c X u f)
abbrev xdoneP (u : ℕ) : sProp 𝕄 := iprop(xcellP c u ∗ (∃ f, xstrP c u f) ∗ xhomeP c X u)

theorem xstrp_emb (u : ℕ) (x : S32x8192.Idx) : (xstrp u).view.emb x = ix2 (⟨32 * (u % 6) + (x 0).val, by have : (x 0).val < 32 := (x 0).isLt; omega⟩ : Fin 192) (x 1) := by
  funext k
  fin_cases k
  · apply Fin.ext; show 32 * (u % 6) + 1 * (x 0).val = 32 * (u % 6) + (x 0).val; omega
  · apply Fin.ext; show 0 + 1 * (x 1).val = (x 1).val; omega
theorem xblk_emb (u : ℕ) (x : S32x8192.Idx) : (xblk u).view.emb x = ix2 (⟨32 * (u % 6) + (x 0).val, by have : (x 0).val < 32 := (x 0).isLt; omega⟩ : Fin 192) (x 1) := by
  funext k
  fin_cases k
  · apply Fin.ext; show 32 * (u % 6) + 1 * (x 0).val = 32 * (u % 6) + (x 0).val; omega
  · apply Fin.ext; show 0 + 1 * (x 1).val = (x 1).val; omega

/-- What a transfer of strip `u` leaves in the strip. -/
theorem xlanded_at (u : ℕ) (f : Buf (Elt F) (xbM.view.loc (c : Thread nD τ))) (x : S32x8192.Idx) :
    xlanded c X u f ((xstrp u).view.emb x) = (X : XB F) (ix2 (⟨32 * (u % 6) + (x 0).val, by have : (x 0).val < 32 := (x 0).isLt; omega⟩ : Fin 192) (x 1)) := by
  have h : (xstrp u).view.read (Elt F) (xlanded c X u f) = (xblk u).view.read (Elt F) X := View.read_writes_whole (xstrp u).view f _
  have e1 : (xblk u).view.read (Elt F) X x = X ((xblk u).view.emb x) := rfl
  rw [xblk_emb] at e1
  have e2 : ∀ G : Buf (Elt F) (xbM.view.loc (c : Thread nD τ)), (xstrp u).view.read (Elt F) G x = G ((xstrp u).view.emb x) := fun _ => rfl
  exact (e2 _).symm.trans ((congrFun h x).trans e1)

theorem xg_eq (i : grid0.Coords) (k : Fin (k0_t1_loop i).trips) (f : Buf (Elt F) (xbM.view.loc (c : Thread nD τ))) :
    xg i k (xlanded c X k.val f) = xtile (F := F) X k.val := by
  have hk := lt_of_lt_of_eq k.isLt (trips1 i)
  funext n x
  have hx0 : (x 0).val < 32 := (x 0).isLt
  have hx1 : (x 1).val < 128 := (x 1).isLt
  have h2 := xlanded_at c X k.val f (ix2 ⟨(x 0).val, hx0⟩ ⟨128 * (n % 64) + (x 1).val, by omega⟩)
  unfold xtile
  refine Eq.trans ?_ h2
  unfold xg
  rw [View.readAt_apply]
  generalize xlanded c X k.val f = G
  have e : (Rect.unit (s := S192x8192) (qoff i k n) S32x128.size (inbq i k n)).toLoadRect.idx x = (xstrp k.val).view.emb (ix2 ⟨(x 0).val, hx0⟩ ⟨128 * (n % 64) + (x 1).val, by omega⟩) := by
    rw [xstrp_emb]
    obtain ⟨e0, e1⟩ := emb_q' i k n x
    funext a
    fin_cases a
    · apply Fin.ext; refine e0.trans ?_; show 32 * k.val + (x 0).val = 32 * (k.val % 6) + (x 0).val; omega
    · apply Fin.ext; exact e1
  exact congrArg G e

/-- Before trip `k`. -/
def inv1 (k : ℕ) (_ : Unit) : sProp 𝕄 :=
  iprop(∃ (fC : Buf (Elt F) (cdM.view.loc (c : Thread nD τ))) (fS : Buf (Elt F) (scM.view.loc (c : Thread nD τ))),
    ⌜(∀ y : S192x8192.Idx, (y 0).val < 32 * k → fC y = Cspec (F := F) X y) ∧ (∀ y : S192x128.Idx, (y 0).val < 32 * k → fS y = Sspec (F := F) X y)⌝
    ∗ (cdM.view.loc (c : Thread nD τ) ↦[cdM.view.set]{fullShare} fC) ∗ (scM.view.loc (c : Thread nD τ) ↦[scM.view.set]{fullShare} fS)
    ∗ (∃ W, owes (c : Thread nD τ) 0 W)
    ∗ bigSep (Finset.Ico k 6) (xflyP c X) ∗ bigSep (Finset.range k) (xdoneP c X))

variable (i : grid0.Coords) (arg5 : Memref sig .tc .vmem S192x18944 .f32) (harg5 : arg5.IsWhole) (arg7 : Memref sig .tc .vmem S1x192 .f32) (harg7 : arg7.IsWhole)

theorem x_open {k : ℕ} (hk : k < 6) : bigSep (Finset.Ico k 6) (xflyP c X) ⊢ iprop((∃ f, xflightP c X k f) ∗ bigSep (Finset.Ico (k + 1) 6) (xflyP c X)) := by
  rw [Ico_left (xflyP c X) hk]
theorem x_close {k : ℕ} : iprop(xdoneP c X k ∗ bigSep (Finset.range k) (xdoneP c X)) ⊢ bigSep (Finset.range (k + 1)) (xdoneP c X) := by
  rw [range_succ]

set_option maxHeartbeats 4000000 in
theorem step1 (arg0 : BitVec 32) (v82 : FVec F S192x256 .f32) (m2 : Mxu F) (k : Fin (k0_t1_loop i).trips) (s : Unit) :
    inv1 c X k.val s
      ⊢ wp frame (wpE (defs₀ (F := F)) 𝒱₀ (c : Thread nD τ) none) Set.univ
        (k0_t1_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 v82 m2 k s)
        (fun s' => inv1 c X (k.val + 1) s') := by
  have hi := i0 i
  have hk := lt_of_lt_of_eq k.isLt (trips1 i)
  unfold inv1
  iintro ⟨%fC, %fS, %HH, Hcd, Hsc, ⟨%W, HW⟩, HF, HD⟩
  obtain ⟨hC, hS⟩ := HH
  ihave HF := (x_open c X hk) $$ HF
  icases HF with ⟨⟨%f, Hf⟩, HF⟩
  sl_unfold [k0_t1_body]
  sl_exec_parts
  sl_step
  iexists _, _
  isplitr
  rotate_left
  · isplitl [Hcd]; · iexact Hcd
    isplitl [Hsc]; · iexact Hsc
    isplitl [HW]; · iexists _; iexact HW
    isplitl [HF]; · iexact HF
    iapply (x_close c X)
    isplitr [HD]
    · isplitl [Hf]; · iexact Hf
      isplitl [Hf_dst]; · iexists _; iexact Hf_dst
      iexact Hf_src
    · iexact HD
  · ipureintro
    have tq : ∀ n, xg i k (xlanded c X k.val (xstrp k.val).view.junk) n = xtile (F := F) X k.val n := congrFun (xg_eq c X i k _)
    have hf := field_run (pay5_run 44 (pay5_run 32 (pay5_run 20 (pay5_run 8 (pay4_run (tq 0) (tq 1) (tq 2) (tq 3) (tq 4) (tq 5) (tq 6) (tq 7) (tq 8)) (tq 9) (tq 10) (tq 11) (tq 12) (tq 13) (tq 14) (tq 15) (tq 16) (tq 17) (tq 18) (tq 19) (tq 20)) (tq 21) (tq 22) (tq 23) (tq 24) (tq 25) (tq 26) (tq 27) (tq 28) (tq 29) (tq 30) (tq 31) (tq 32)) (tq 33) (tq 34) (tq 35) (tq 36) (tq 37) (tq 38) (tq 39) (tq 40) (tq 41) (tq 42) (tq 43) (tq 44)) (tq 45) (tq 46) (tq 47) (tq 48) (tq 49) (tq 50) (tq 51) (tq 52) (tq 53) (tq 54) (tq 55) (tq 56)) (tq 57) (tq 58) (tq 59) (tq 60) (tq 61) (tq 62) (tq 63)
    exact ⟨codeL_post i k (F := F) X _ (xg_eq c X i k (xstrp k.val).view.junk) (congrArg (fun z => k0_pay17 (F := F) z k0_pay14) hf) fC hC, scale_post i k (F := F) X hf fS hS⟩
end Res1

end Cert.Proof.KernelIdeal
-- ==== Proof.IdealInner.lean ====
/- The loops over a block's last three chunks: what holds before each trip, and that a trip keeps it. -/
module

public import proofs.«01_k».proof.Proof.IdealRing

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-- The block after, in flight until the last trip, which waits for it. -/
def nextP (c : Dev nD) (XW : Buf (Elt F) (wM.view.loc (c : Thread nD τ))) (b u : ℕ) : sProp 𝕄 :=
  if u < 3 then iprop(∃ f, flightP c XW b f) else iprop(slotP c b (ringT (F := F) XW b) ∗ homeP c XW b ∗ cellP c b)
theorem nextP_lt (c : Dev nD) (XW : Buf (Elt F) (wM.view.loc (c : Thread nD τ))) (b : ℕ) {u : ℕ} (h : u < 3) :
    nextP c XW b u = iprop(∃ f, flightP c XW b f) := if_pos h
theorem nextP_ge (c : Dev nD) (XW : Buf (Elt F) (wM.view.loc (c : Thread nD τ))) (b : ℕ) {u : ℕ} (h : ¬ u < 3) :
    nextP c XW b u = iprop(slotP c b (ringT (F := F) XW b) ∗ homeP c XW b ∗ cellP c b) := if_neg h

section Inner
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

/-- Before trip `u` of the loop over block `2 * k.val`'s chunks. -/
def inv4 (k : Fin (k0_t3_loop i).trips) (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (s : Mxu F) : sProp 𝕄 :=
  iprop(∃ fO fs, ⌜MS s 0 1 (fun q => some (tileW XW (2 * k.val) (8 * (u + 1)) q)) 0 fits_0_192 (accN XW C (2 * k.val) (8 * (u + 1))) 48 fits_48_192 none
      ∧ LP arg5 XW C fsc fwv fbv fO (1 ≤ k.val) (2 * k.val - 1) (64 * u) ∧ ((1 ≤ k.val) → fs = sT XW C (2 * k.val - 1))⌝
    ∗ tripRes c arg5 s1M q fO C fwv fbv fsc fs ∗ slotP c (2 * k.val) (ringT (F := F) XW (2 * k.val)) ∗ nextP c XW (2 * k.val + 1) u)

theorem cond4 : ∀ (i : grid0.Coords) (t : Fin (k0_t4_loop i).trips), k0_cond2 i t = 1#1 ↔ t.val = 2 := by decide +kernel

theorem step4 (k : Fin (k0_t3_loop i).trips) (v1202 : BitVec 32) (s0 : Mxu F) (v1408 c1 c0 v1413 : BitVec 32) (w : BitVec 32) (hw : w = BitVec.ofNat 32 (2 * k.val))
    (t : Fin (k0_t4_loop i).trips) (s : Mxu F) (q : PosShare TreeShare) (fwv fbv fsc) :
    inv4 c XW C i arg5 k q fwv fbv fsc t.val s
      ⊢ wp frame (wpE (defs₀ (F := F)) 𝒱₀ (c : Thread nD τ) none) Set.univ
        (k0_t4_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 k v1202 w s0 v1408 c1 c0 v1413 t s)
        (fun s' => inv4 c XW C i arg5 k q fwv fbv fsc (t.val + 1) s') := by
  subst hw
  have ht := lt_of_lt_of_eq t.isLt (trips4 i)
  unfold inv4
  iintro ⟨%fO, %fs, %H, HT, HS, HN⟩
  obtain ⟨H, L, hfs⟩ := H
  by_cases h2 : t.val = 2
  · ihave HN := (entails_of_eq (nextP_lt c XW (2 * k.val + 1) (show t.val < 3 by omega))) $$ HN
    icases HN with ⟨%fR, HN⟩
    iapply (wp_mono frame _ _ (fun s' => ?_)) $$ [HT HS HN]
    rotate_left
    · iapply (t4last c XW C i arg5 harg5 arg7 harg7 k v1202 s0 v1408 c1 c0 v1413 t h2 ((cond4 i t).mpr h2) s q fR fO fwv fbv fsc fs H)
      isplitl [HT]; · iexact HT
      isplitl [HS]; · iexact HS
      iexact HN
    · unfold post4
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_ge c XW (2 * k.val + 1) (show ¬ t.val + 1 < 3 by omega)).symm)
      iexact HN
  · ihave HN := (entails_of_eq (nextP_lt c XW (2 * k.val + 1) (show t.val < 3 by omega))) $$ HN
    iapply (wp_mono frame _ _ (fun s' => ?_)) $$ [HT HS HN]
    rotate_left
    · iapply (wp_frame_r frame _ _)
      isplitl [HT HS]
      · iapply (t4trip c XW C i arg5 harg5 arg7 harg7 k v1202 s0 v1408 c1 c0 v1413 t (by omega) (fun h => h2 ((cond4 i t).mp h)) s q fO fwv fbv fsc fs H)
        isplitl [HT]; · iexact HT
        iexact HS
      · iexact HN
    · unfold post4
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_lt c XW (2 * k.val + 1) (show t.val + 1 < 3 by omega)).symm)
      iexact HN

/-- Before trip `u` of the loop over block `2 * k.val + 1`'s chunks. -/
def inv6 (k : Fin (k0_t3_loop i).trips) (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (s : Mxu F) : sProp 𝕄 :=
  iprop(∃ fO fs, ⌜MS s 0 1 (fun q => some (tileW XW (2 * k.val + 1) (8 * (u + 1)) q)) 48 fits_48_192 (accN XW C (2 * k.val + 1) (8 * (u + 1))) 0 fits_0_192 none
      ∧ LP arg5 XW C fsc fwv fbv fO True (2 * k.val) (64 * u) ∧ (True → fs = sT XW C (2 * k.val))⌝
    ∗ tripRes c arg5 s0M q fO C fwv fbv fsc fs ∗ slotP c (2 * k.val + 1) (ringT (F := F) XW (2 * k.val + 1)) ∗ nextP c XW (2 * k.val + 2) u)

theorem cond6 : ∀ (i : grid0.Coords) (t : Fin (k0_t6_loop i).trips), k0_cond5 i t = 1#1 ↔ t.val = 2 := by decide +kernel

theorem step6 (k : Fin (k0_t3_loop i).trips) (arg0 : BitVec 32) (m5 : Mxu F) (v1623 : BitVec 32) (w : BitVec 32) (hw : w = BitVec.ofNat 32 (2 * k.val + 1))
    (t : Fin (k0_t6_loop i).trips) (s : Mxu F) (q : PosShare TreeShare) (fwv fbv fsc) :
    inv6 c XW C i arg5 k q fwv fbv fsc t.val s
      ⊢ wp frame (wpE (defs₀ (F := F)) 𝒱₀ (c : Thread nD τ) none) Set.univ
        (k0_t6_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k w v1623 t s)
        (fun s' => inv6 c XW C i arg5 k q fwv fbv fsc (t.val + 1) s') := by
  subst hw
  have ht := lt_of_lt_of_eq t.isLt (trips6 i)
  unfold inv6
  iintro ⟨%fO, %fs, %H, HT, HS, HN⟩
  obtain ⟨H, L, hfs⟩ := H
  by_cases h2 : t.val = 2
  · ihave HN := (entails_of_eq (nextP_lt c XW (2 * k.val + 2) (show t.val < 3 by omega))) $$ HN
    icases HN with ⟨%fR, HN⟩
    iapply (wp_mono frame _ _ (fun s' => ?_)) $$ [HT HS HN]
    rotate_left
    · iapply (t6last c XW C i arg5 harg5 arg7 harg7 k arg0 m5 v1623 t h2 ((cond6 i t).mpr h2) s q fR fO fwv fbv fsc fs H)
      isplitl [HT]; · iexact HT
      isplitl [HS]; · iexact HS
      iexact HN
    · unfold post6
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_ge c XW (2 * k.val + 2) (show ¬ t.val + 1 < 3 by omega)).symm)
      iexact HN
  · ihave HN := (entails_of_eq (nextP_lt c XW (2 * k.val + 2) (show t.val < 3 by omega))) $$ HN
    iapply (wp_mono frame _ _ (fun s' => ?_)) $$ [HT HS HN]
    rotate_left
    · iapply (wp_frame_r frame _ _)
      isplitl [HT HS]
      · iapply (t6trip c XW C i arg5 harg5 arg7 harg7 k arg0 m5 v1623 t (by omega) (fun h => h2 ((cond6 i t).mp h)) s q fO fwv fbv fsc fs H)
        isplitl [HT]; · iexact HT
        iexact HS
      · iexact HN
    · unfold post6
      iintro ⟨⟨%fO', %K, HT, HS⟩, HN⟩
      iexists fO', fs
      isplitr; · ipureintro; exact ⟨K.1, L.sel hfs K.2, hfs⟩
      isplitl [HT]; · iexact HT
      isplitl [HS]; · iexact HS
      iapply (entails_of_eq (nextP_lt c XW (2 * k.val + 2) (show t.val + 1 < 3 by omega)).symm)
      iexact HN

end Inner

end Cert.Proof.KernelIdeal
-- ==== Proof.IdealT3.lean ====
/- One trip of the loop over the blocks, two blocks to a trip. -/
module

public import proofs.«01_k».proof.Proof.IdealInner

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-- Two halves stored side by side are the block of products. -/
theorem s_block {κ : Kind} {sp : Space} (v : View sig κ sp S192x512 .f32) (f : v.ty.Contents (Elt F)) (XW : WB F) (C : CodesB F) (b : ℕ)
    {i0 : ∀ a, (![0, 0] : Fin 2 → ℕ) a + S192x256.size a ≤ S192x512.size a} {i1 : ∀ a, (![0, 256] : Fin 2 → ℕ) a + S192x256.size a ≤ S192x512.size a}
    {x0 x1 : FVec F S192x256 .f32} (h0 : x0 = accE XW C b 0) (h1 : x1 = accE XW C b 1) :
    v.read (Elt F) (v.writes (Elt F) f [⟨Rect.unit (s := S192x512) ![0, 256] S192x256.size i1, k0_pay438 x1⟩, ⟨Rect.unit (s := S192x512) ![0, 0] S192x256.size i0, k0_pay437 x0⟩])
      = sT XW C b := by
  have e0 : k0_pay437 (F := F) x0 = accE XW C b 0 := (shapeCast_self _ _).trans h0
  have e1 : k0_pay438 (F := F) x1 = accE XW C b 1 := (shapeCast_self _ _).trans h1
  rw [e0, e1]
  funext y
  have hy0 : (y 0).val < 192 := (y 0).isLt
  have hy1 : (y 1).val < 512 := (y 1).isLt
  refine View.read_writes_apply_of_pieces _ _ (sT XW C b) _ (fun p hp x => ?_) y ?_
  · have hx : (x 1).val < 256 := by
      rcases List.mem_cons.mp hp with rfl | hp
      · exact (x 1).isLt
      · obtain rfl := List.mem_singleton.mp hp; exact (x 1).isLt
    rcases List.mem_cons.mp hp with rfl | hp
    · unfold sT
      have q : (⟨(((Rect.unit (s := S192x512) ![0, 256] S192x256.size i1).emb x) 1).val / 256, by have : (((Rect.unit (s := S192x512) ![0, 256] S192x256.size i1).emb x) 1).val < 512 := Fin.isLt _; omega⟩ : Fin 2) = 1 := by
        apply Fin.ext; show (256 + 1 * (x 1).val) / 256 = 1; omega
      rw [q]
      refine congrArg (accE XW C b 1) ?_
      funext a
      fin_cases a
      · apply Fin.ext; show (x 0).val = 0 + 1 * (x 0).val; omega
      · apply Fin.ext; show (x 1).val = (256 + 1 * (x 1).val) % 256; omega
    · obtain rfl := List.mem_singleton.mp hp
      unfold sT
      have q : (⟨(((Rect.unit (s := S192x512) ![0, 0] S192x256.size i0).emb x) 1).val / 256, by have : (((Rect.unit (s := S192x512) ![0, 0] S192x256.size i0).emb x) 1).val < 512 := Fin.isLt _; omega⟩ : Fin 2) = 0 := by
        apply Fin.ext; show (0 + 1 * (x 1).val) / 256 = 0; omega
      rw [q]
      refine congrArg (accE XW C b 0) ?_
      funext a
      fin_cases a
      · apply Fin.ext; show (x 0).val = 0 + 1 * (x 0).val; omega
      · apply Fin.ext; show (x 1).val = (0 + 1 * (x 1).val) % 256; omega
  · by_cases h : (y 1).val < 256
    · refine ⟨_, List.mem_cons_of_mem _ (List.mem_singleton.mpr rfl), ?_⟩
      rw [Rect.mem_set_unit]
      intro a
      fin_cases a
      · show 0 ≤ (y 0).val ∧ (y 0).val < 0 + 192; omega
      · show 0 ≤ (y 1).val ∧ (y 1).val < 0 + 256; omega
    · refine ⟨_, List.mem_cons_self, ?_⟩
      rw [Rect.mem_set_unit]
      intro a
      fin_cases a
      · show 0 ≤ (y 0).val ∧ (y 0).val < 0 + 192; omega
      · show 256 ≤ (y 1).val ∧ (y 1).val < 256 + 256; omega

/-! ## The first chunk's loads -/
section Loads3
variable (XW : WB F) (C : CodesB F) (i : grid0.Coords) (k : Fin (k0_t3_loop i).trips)

theorem inb142 (r : Fin 8) : ∀ a, k0_off142 (BitVec.ofNat 32 r.val) a + S192x256.size a ≤ S192x8192.size a := by
  intro a; rw [k0_off142_eq]; fin_cases a
  · show 0 + 192 ≤ 192; omega
  · show 256 * r.val + 256 ≤ 8192; omega
theorem inb143 (p : Fin 2) (r : Fin 7) : ∀ a, k0_off143 i k (BitVec.ofNat 32 p.val) (BitVec.ofNat 32 r.val) a + S1x256x256.size a ≤ S8x512x8192.size a := by
  intro a; rw [k0_off143_eq]; fin_cases a
  · show (2 * (i 0).val + 2 * k.val + p.val) % 8 + 1 ≤ 8; omega
  · show 0 + 256 ≤ 512; omega
  · show 256 * r.val + 256 + 256 ≤ 8192; omega
theorem inb144 (p : Fin 2) (r : Fin 7) : ∀ a, k0_off144 i k (BitVec.ofNat 32 p.val) (BitVec.ofNat 32 r.val) a + S1x256x256.size a ≤ S8x512x8192.size a := by
  intro a; rw [k0_off144_eq]; fin_cases a
  · show (2 * (i 0).val + 2 * k.val + p.val) % 8 + 1 ≤ 8; omega
  · show 256 + 256 ≤ 512; omega
  · show 256 * r.val + 256 + 256 ≤ 8192; omega
theorem inb145 (p : Fin 2) : ∀ a, k0_off145 i k (BitVec.ofNat 32 p.val) a + S1x256x256.size a ≤ S8x512x8192.size a := by
  intro a; rw [k0_off145_eq]; fin_cases a
  · show (2 * (i 0).val + 2 * k.val + p.val) % 8 + 1 ≤ 8; omega
  · show 0 + 256 ≤ 512; omega
  · show 2048 + 256 ≤ 8192; omega
theorem inb146 (p : Fin 2) : ∀ a, k0_off146 i k (BitVec.ofNat 32 p.val) a + S1x256x256.size a ≤ S8x512x8192.size a := by
  intro a; rw [k0_off146_eq]; fin_cases a
  · show (2 * (i 0).val + 2 * k.val + p.val) % 8 + 1 ≤ 8; omega
  · show 256 + 256 ≤ 512; omega
  · show 2048 + 256 ≤ 8192; omega

theorem lhs3 (r : Fin 8) : k0_pay190 (F := F) (cdM.view.readAt (Elt F) (Rect.unit (s := S192x8192) (k0_off142 (BitVec.ofNat 32 r.val)) S192x256.size (inb142 r)).toLoadRect C) = lhsC C r.val :=
  load_lhs C _ r.val (by omega) (k0_off142_eq r)

theorem til30 (p : Fin 2) (r : Fin 7) : k0_pay191 (F := F) (rgM.view.readAt (Elt F) (Rect.unit (s := S8x512x8192)
    (k0_off143 i k (BitVec.ofNat 32 p.val) (BitVec.ofNat 32 r.val)) S1x256x256.size (inb143 i k p r)).toLoadRect (ringT XW (2 * k.val + p.val))) = tileW XW (2 * k.val + p.val) (r.val + 1) 0 := by
  refine load_tile_of XW _ (2 * k.val + p.val) (r.val + 1) 0 ((k0_off143_eq i k p r).trans ?_) _ fun y _ => ?_
  · have := i0 i
    rw [show (2 * (i 0).val + 2 * k.val + p.val) % 8 = (2 * k.val + p.val + (r.val + 1) / 32) % 8 by omega, show 256 * r.val + 256 = 256 * ((r.val + 1) % 32) by omega]; rfl
  · rw [show 2 * k.val + p.val + (r.val + 1) / 32 = 2 * k.val + p.val by omega]
theorem til31 (p : Fin 2) (r : Fin 7) : k0_pay191 (F := F) (rgM.view.readAt (Elt F) (Rect.unit (s := S8x512x8192)
    (k0_off144 i k (BitVec.ofNat 32 p.val) (BitVec.ofNat 32 r.val)) S1x256x256.size (inb144 i k p r)).toLoadRect (ringT XW (2 * k.val + p.val))) = tileW XW (2 * k.val + p.val) (r.val + 1) 1 := by
  refine load_tile_of XW _ (2 * k.val + p.val) (r.val + 1) 1 ((k0_off144_eq i k p r).trans ?_) _ fun y _ => ?_
  · have := i0 i
    rw [show (2 * (i 0).val + 2 * k.val + p.val) % 8 = (2 * k.val + p.val + (r.val + 1) / 32) % 8 by omega, show 256 * r.val + 256 = 256 * ((r.val + 1) % 32) by omega]; rfl
  · rw [show 2 * k.val + p.val + (r.val + 1) / 32 = 2 * k.val + p.val by omega]
theorem til3x0 (p : Fin 2) : k0_pay191 (F := F) (rgM.view.readAt (Elt F) (Rect.unit (s := S8x512x8192)
    (k0_off145 i k (BitVec.ofNat 32 p.val)) S1x256x256.size (inb145 i k p)).toLoadRect (ringT XW (2 * k.val + p.val))) = tileW XW (2 * k.val + p.val) 8 0 := by
  refine load_tile_of XW _ (2 * k.val + p.val) 8 0 ((k0_off145_eq i k p).trans ?_) _ fun y _ => rfl
  have := i0 i
  rw [show (2 * (i 0).val + 2 * k.val + p.val) % 8 = (2 * k.val + p.val + 8 / 32) % 8 by omega]; rfl
theorem til3x1 (p : Fin 2) : k0_pay191 (F := F) (rgM.view.readAt (Elt F) (Rect.unit (s := S8x512x8192)
    (k0_off146 i k (BitVec.ofNat 32 p.val)) S1x256x256.size (inb146 i k p)).toLoadRect (ringT XW (2 * k.val + p.val))) = tileW XW (2 * k.val + p.val) 8 1 := by
  refine load_tile_of XW _ (2 * k.val + p.val) 8 1 ((k0_off146_eq i k p).trans ?_) _ fun y _ => rfl
  have := i0 i
  rw [show (2 * (i 0).val + 2 * k.val + p.val) % 8 = (2 * k.val + p.val + 8 / 32) % 8 by omega]; rfl
end Loads3

section T3
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

/-- The ring's first block not started, as block `b` begins. -/
def hiA (b : ℕ) : ℕ := if b = 0 then 8 else min 37 (b + 7)

/-- Before trip `k`. -/
def inv3 (q : PosShare TreeShare) (fwv : Buf (Elt F) (wvM.view.loc (c : Thread nD τ))) (fbv : Buf (Elt F) (bvM.view.loc (c : Thread nD τ)))
    (fsc : Buf (Elt F) (scM.view.loc (c : Thread nD τ))) (k : ℕ) (s : Mxu F) : sProp 𝕄 :=
  iprop(∃ fO fs0 fs1, ⌜MS s 0 1 (fun q => some (tileW XW (2 * k) 0 q)) 0 fits_0_192 none 48 fits_48_192 (if k = 0 then none else some (accE XW C (2 * k - 1)))
      ∧ LP arg5 XW C fsc fwv fbv fO (1 ≤ k) (2 * k - 1) 0⌝
    ∗ tripRes c arg5 s0M q fO C fwv fbv fsc fs0 ∗ (s1M.view.loc (c : Thread nD τ) ↦[s1M.view.set]{fullShare} fs1)
    ∗ slotP c (2 * k) (ringT (F := F) XW (2 * k)) ∗ ringS c XW (2 * k) (hiA (2 * k)))

def hiB (b : ℕ) : ℕ := min 37 (b + 8)

theorem word4 : ∀ (i : grid0.Coords) (k : Fin (k0_t3_loop i).trips), Scalar.addi (Scalar.muli 2#32 (Scalar.addi 0#32 (Scalar.muli (Scf.iv 0#32 1#32 k) 1#32))) 0#32 = BitVec.ofNat 32 (2 * k.val) := by decide +kernel

theorem word6 : ∀ (i : grid0.Coords) (k : Fin (k0_t3_loop i).trips), Scalar.addi (Scalar.muli 2#32 (Scalar.addi 0#32 (Scalar.muli (Scf.iv 0#32 1#32 k) 1#32))) 1#32 = BitVec.ofNat 32 (2 * k.val + 1) := by decide +kernel

theorem cond1 : ∀ (i : grid0.Coords) (k : Fin (k0_t3_loop i).trips), k0_cond1 i k = 1#1 ↔ 1 ≤ k.val ∧ k.val ≤ 14 := by decide +kernel
theorem cond4' : ∀ (i : grid0.Coords) (k : Fin (k0_t3_loop i).trips), k0_cond4 i k = 1#1 ↔ k.val ≤ 14 := by decide +kernel

set_option maxHeartbeats 4000000 in
theorem t3trip (arg0 : BitVec 32) (ha : arg0 = 0#32) (m5 : Mxu F) (k : Fin (k0_t3_loop i).trips) (s : Mxu F) (q : PosShare TreeShare) (fwv fbv fsc) :
    inv3 c XW C arg5 q fwv fbv fsc k.val s
      ⊢ wp frame (wpE (defs₀ (F := F)) 𝒱₀ (c : Thread nD τ) none) Set.univ
        (k0_t3_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m5 k s)
        (fun s' => inv3 c XW C arg5 q fwv fbv fsc (k.val + 1) s') := by
  have hi := i0 i
  have hk := lt_of_lt_of_eq k.isLt (trips3 i)
  subst ha
  unfold inv3 tripRes
  iintro ⟨%fO, %fs0, %fs1, %HH, ⟨HO, Hcd, Hwv, Hbv, Hsc, Hs0, ⟨%W, HW⟩⟩, Hs1, HR, HG⟩
  obtain ⟨H, L⟩ := HH
  have hs := H.emp
  sl_unfold [k0_t3_body]
  rcases (show k.val = 0 ∨ (1 ≤ k.val ∧ k.val ≤ 14) ∨ 15 ≤ k.val by omega) with h0 | h0 | h0
  case' inl =>
    have h1 : ¬ k0_cond1 i k = 1#1 := fun h => absurd ((cond1 i k).mp h) (by omega)
    have hh : hiA (2 * k.val) = hiB (2 * k.val) := by unfold hiA hiB; rw [if_pos (by omega)]; omega
    ihave HG := (entails_of_eq (congrArg (ringS c XW (2 * k.val)) hh)) $$ HG
    sl_exec_parts (disch := first | assumption | (mxu_pushok_peel; done) | (mxu_pushok_peel; exact Mxu.pushOk_of_none _ _ _ _ (hs _)))
  case' inr.inl =>
    have h1 : k0_cond1 i k = 1#1 := (cond1 i k).mpr h0
    have hb : 2 * k.val + 7 < 37 := by omega
    have hh : hiA (2 * k.val) = 2 * k.val + 7 := by unfold hiA; rw [if_neg (by omega)]; omega
    have hh' : 2 * k.val + 7 + 1 = hiB (2 * k.val) := by unfold hiB; omega
    ihave HG := ((entails_of_eq (congrArg (ringS c XW (2 * k.val)) hh)).trans (ring_open c XW hb (by omega))) $$ HG
    icases HG with ⟨Hc, ⟨%fr, Hr⟩, Hh, HG⟩
    sl_exec_parts (disch := first | assumption | (mxu_pushok_peel; done) | (mxu_pushok_peel; exact Mxu.pushOk_of_none _ _ _ _ (hs _)))
    ihave HG := ((ring_close c XW (b := 2 * k.val) (h := 2 * k.val + 7) (by omega) fr).trans (entails_of_eq (congrArg (ringS c XW (2 * k.val)) hh'))) $$ [Hc HG]
    · isplitl [Hc]; · iexact Hc
      iexact HG
  case' inr.inr =>
    have h1 : ¬ k0_cond1 i k = 1#1 := fun h => absurd ((cond1 i k).mp h) (by omega)
    have hh : hiA (2 * k.val) = hiB (2 * k.val) := by unfold hiA hiB; rw [if_neg (by omega)]; omega
    ihave HG := (entails_of_eq (congrArg (ringS c XW (2 * k.val)) hh)) $$ HG
    sl_exec_parts (disch := first | assumption | (mxu_pushok_peel; done) | (mxu_pushok_peel; exact Mxu.pushOk_of_none _ _ _ _ (hs _)))
  all_goals
    ihave HG := (ring_take c XW (b := 2 * k.val) (h := hiB (2 * k.val)) (by unfold hiB; omega)) $$ HG
    icases HG with ⟨HF, HG⟩
    sl_for (inv4 c XW C i arg5 k q fwv fbv fsc) $$ [HO Hcd Hwv Hbv Hsc HW Hs1 HR HF]
    case region =>
      intro t s'
      exact step4 c XW C i arg5 harg5 arg7 harg7 k _ _ _ _ _ _ _ (word4 i k) t s' q fwv fbv fsc
    · unfold inv4 tripRes
      iexists fO, _
      isplitr [HO Hcd Hwv Hbv Hsc HW Hs1 HR HF]
      rotate_left
      · isplitr [HR HF]
        · isplitl [HO]; · iexact HO
          isplitl [Hcd]; · iexact Hcd
          isplitl [Hwv]; · iexact Hwv
          isplitl [Hbv]; · iexact Hbv
          isplitl [Hsc]; · iexact Hsc
          isplitl [Hs1]; · iexact Hs1
          iexists W; iexact HW
        · isplitl [HR]; · iexact HR
          iapply (entails_of_eq (nextP_lt c XW (2 * k.val + 1) (show 0 < 3 by omega)).symm)
          iexact HF
      · ipureintro
        have H5 := five_MS XW C (2 * k.val) (by decide) H (lhs3 C 0) (lhs3 C 1) (lhs3 C 2)
          (lhs3 C 3) (lhs3 C 4)
          (til30 XW i k 0 0) (til31 XW i k 0 0) (til30 XW i k 0 1) (til31 XW i k 0 1) (til30 XW i k 0 2) (til31 XW i k 0 2)
          (til30 XW i k 0 3) (til31 XW i k 0 3) (til30 XW i k 0 4) (til31 XW i k 0 4)
        refine ⟨three_MS XW C (2 * k.val) (by decide) H5 (lhs3 C 5) (lhs3 C 6) (lhs3 C 7)
          (til30 XW i k 0 5) (til31 XW i k 0 5) (til30 XW i k 0 6) (til31 XW i k 0 6) (til3x0 XW i k 0) (til3x1 XW i k 0), L, fun hl => ?_⟩
        rw [if_neg (by omega)] at H5
        exact s_block s1M.view _ XW C (2 * k.val - 1) H5.read0 H5.read1
    irw [show Scf.trips (k0_t4_loop i).lb (k0_t4_loop i).ub (k0_t4_loop i).st = 3 from trips4 i]
    unfold inv4 tripRes
    iintro %s1 ⟨%fO1, %fs1a, %HH1, ⟨HO, Hcd, Hwv, Hbv, Hsc, Hs1, ⟨%W1, HW⟩⟩, HR, HN⟩
    obtain ⟨H1, L1, -⟩ := HH1
    ihave HN := (entails_of_eq (nextP_ge c XW (2 * k.val + 1) (show ¬ 3 < 3 by omega))) $$ HN
    icases HN with ⟨HR1, Hh1, Hc1⟩
    ihave HG := (ring_put c XW (b := 2 * k.val) (h := hiB (2 * k.val)) (by unfold hiB; omega) (ringT (F := F) XW (2 * k.val))) $$ [Hh1 Hc1 HR HG]
    · isplitl [Hh1]; · iexact Hh1
      isplitl [Hc1]; · iexact Hc1
      isplitl [HR]; · iexact HR
      iexact HG
    have H2 := H1.swap
    simp only [show 8 * (3 + 1) = 32 from rfl, tileW_next, accN_32] at H2
    have L2 := L1.next4
    have hs1 := H2.emp
    rcases Nat.lt_or_ge 14 k.val with hl | hr
  any_goals (exfalso; omega)
  all_goals first
  | (
      have h4 : ¬ k0_cond4 i k = 1#1 := fun h => absurd ((cond4' i k).mp h) (by omega)
      have hh : hiB (2 * k.val) = hiB (2 * k.val + 1) := by unfold hiB; omega
      ihave HG := (entails_of_eq (congrArg (ringS c XW (2 * k.val + 1)) hh)) $$ HG
      sl_exec_parts (disch := first | assumption | (mxu_pushok_peel; done) | (mxu_pushok_peel; exact Mxu.pushOk_of_none _ _ _ _ (hs1 _))))
  | (
      have h4 : k0_cond4 i k = 1#1 := (cond4' i k).mpr hr
      have hb : 2 * k.val + 8 < 37 := by omega
      have hh : hiB (2 * k.val) = 2 * k.val + 8 := by unfold hiB; omega
      have hh' : 2 * k.val + 8 + 1 = hiB (2 * k.val + 1) := by unfold hiB; omega
      ihave HG := ((entails_of_eq (congrArg (ringS c XW (2 * k.val + 1)) hh)).trans (ring_open c XW hb (by omega))) $$ HG
      icases HG with ⟨Hc, ⟨%fr, Hr⟩, Hh, HG⟩
      sl_exec_parts (disch := first | assumption | (mxu_pushok_peel; done) | (mxu_pushok_peel; exact Mxu.pushOk_of_none _ _ _ _ (hs1 _)))
      ihave HG := ((ring_close c XW (b := 2 * k.val + 1) (h := 2 * k.val + 8) (by omega) fr).trans (entails_of_eq (congrArg (ringS c XW (2 * k.val + 1)) hh'))) $$ [Hc HG]
      · isplitl [Hc]; · iexact Hc
        iexact HG)
  all_goals
    ihave HG := (ring_take c XW (b := 2 * k.val + 1) (h := hiB (2 * k.val + 1)) (by unfold hiB; omega)) $$ HG
    icases HG with ⟨HF, HG⟩
    sl_for (inv6 c XW C i arg5 k q fwv fbv fsc) $$ [HO Hcd Hwv Hbv Hsc HW Hs0 HR1 HF]
    case region =>
      intro t s'
      exact step6 c XW C i arg5 harg5 arg7 harg7 k _ _ _ _ (word6 i k) t s' q fwv fbv fsc
    · unfold inv6 tripRes
      iexists fO1, _
      isplitr [HO Hcd Hwv Hbv Hsc HW Hs0 HR1 HF]
      rotate_left
      · isplitr [HR1 HF]
        · isplitl [HO]; · iexact HO
          isplitl [Hcd]; · iexact Hcd
          isplitl [Hwv]; · iexact Hwv
          isplitl [Hbv]; · iexact Hbv
          isplitl [Hsc]; · iexact Hsc
          isplitl [Hs0]; · iexact Hs0
          iexists W1; iexact HW
        · isplitl [HR1]; · iexact HR1
          iapply (entails_of_eq (nextP_lt c XW (2 * k.val + 2) (show 0 < 3 by omega)).symm)
          iexact HF
      · ipureintro
        have H5 := five_MS XW C (2 * k.val + 1) (by decide) H2 (lhs3 C 0) (lhs3 C 1) (lhs3 C 2) (lhs3 C 3) (lhs3 C 4)
          (til30 XW i k 1 0) (til31 XW i k 1 0) (til30 XW i k 1 1) (til31 XW i k 1 1) (til30 XW i k 1 2) (til31 XW i k 1 2)
          (til30 XW i k 1 3) (til31 XW i k 1 3) (til30 XW i k 1 4) (til31 XW i k 1 4)
        refine ⟨three_MS XW C (2 * k.val + 1) (by decide) H5 (lhs3 C 5) (lhs3 C 6) (lhs3 C 7)
          (til30 XW i k 1 5) (til31 XW i k 1 5) (til30 XW i k 1 6) (til31 XW i k 1 6) (til3x0 XW i k 1) (til3x1 XW i k 1), L2, fun hl => ?_⟩
        exact s_block s0M.view _ XW C (2 * k.val) H5.read0 H5.read1
    irw [show Scf.trips (k0_t6_loop i).lb (k0_t6_loop i).ub (k0_t6_loop i).st = 3 from trips6 i]
    unfold inv6 tripRes
    iintro %s2 ⟨%fO2, %fs0a, %HH2, ⟨HO, Hcd, Hwv, Hbv, Hsc, Hs0, ⟨%W2, HW⟩⟩, HR1, HN⟩
    obtain ⟨H3, L3, -⟩ := HH2
    ihave HN := (entails_of_eq (nextP_ge c XW (2 * k.val + 2) (show ¬ 3 < 3 by omega))) $$ HN
    icases HN with ⟨HR2, Hh2, Hc2⟩
    ihave HG := (ring_put c XW (b := 2 * k.val + 1) (h := hiB (2 * k.val + 1)) (by unfold hiB; omega) (ringT (F := F) XW (2 * k.val + 1))) $$ [Hh2 Hc2 HR1 HG]
    · isplitl [Hh2]; · iexact Hh2
      isplitl [Hc2]; · iexact Hc2
      isplitl [HR1]; · iexact HR1
      iexact HG
    sl_exec_parts (disch := first | assumption | (mxu_pushok_peel; done) | (mxu_pushok_peel; exact Mxu.pushOk_of_none _ _ _ _ (hs1 _)))
    have H4 := H3.swap
    simp only [show 8 * (3 + 1) = 32 from rfl, tileW_next, accN_32] at H4
    iexists fO2, fs0a, fs1a
    isplitr [HO Hcd Hwv Hbv Hsc HW Hs0 Hs1 HR2 HG]
    · ipureintro
      rw [if_neg (by omega)]
      exact ⟨H4, L3.next6⟩
    isplitr [Hs1 HR2 HG]
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists W2; iexact HW
    isplitl [Hs1]; · iexact Hs1
    isplitl [HR2]; · iexact HR2
    iapply (entails_of_eq (congrArg (ringS c XW (2 * k.val + 1 + 1)) (show hiB (2 * k.val + 1) = hiA (2 * k.val + 1 + 1) by unfold hiA hiB; rw [if_neg (by omega)])))
    iexact HG

end T3

end Cert.Proof.KernelIdeal
-- ==== Proof.IdealT13.lean ====
/- The loop over the last block's chunks, and the loop of the last select. -/
module

public import proofs.«01_k».proof.Proof.IdealT3

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

theorem trips13 (i : grid0.Coords) : (k0_t13_loop i).trips = 2 := by
  have h : ∀ i : grid0.Coords, (k0_t13_loop i).trips = 2 := by decide +kernel
  exact h i
theorem trips15 (i : grid0.Coords) : (k0_t15_loop i).trips = 3 := by
  have h : ∀ i : grid0.Coords, (k0_t15_loop i).trips = 3 := by decide +kernel
  exact h i

section Loads
variable (XW : WB F) (C : CodesB F) (i : grid0.Coords) (t : Fin (k0_t13_loop i).trips)

theorem lhs13 (r : Fin 8) (inb) :
    k0_pay190 (F := F) (cdM.view.readAt (Elt F) (Rect.unit (s := S192x8192) (k0_off286 i t (BitVec.ofNat 32 r.val)) S192x256.size inb).toLoadRect C)
      = lhsC C (8 * (t.val + 1) + r.val) := by
  have hi := i0 i; have ht := lt_of_lt_of_eq t.isLt (trips13 i)
  exact load_lhs C inb _ (by omega) ((k0_off286_eq i t r).trans (congrArg (fun z => ![0, z]) (by omega)))

theorem tile130 (r : Fin 7) (inb) :
    k0_pay191 (F := F) (rgM.view.readAt (Elt F) (Rect.unit (s := S8x512x8192) (k0_off287 i t (BitVec.ofNat 32 r.val)) S1x256x256.size inb).toLoadRect (ringT (F := F) XW 36))
      = tileW XW 36 (8 * (t.val + 1) + r.val + 1) 0 := by
  have hi := i0 i; have ht := lt_of_lt_of_eq t.isLt (trips13 i)
  have hz : (8 * (t.val + 1) + r.val + 1) / 32 = 0 := by omega
  have h := load_tile XW inb 36 (8 * (t.val + 1) + r.val + 1) 0 ((k0_off287_eq i t r).trans (by
    rw [hz]; exact congrArg (fun z => ![4, 0, z]) (by omega)))
  rw [hz] at h; exact h

theorem tile131 (r : Fin 7) (inb) :
    k0_pay191 (F := F) (rgM.view.readAt (Elt F) (Rect.unit (s := S8x512x8192) (k0_off288 i t (BitVec.ofNat 32 r.val)) S1x256x256.size inb).toLoadRect (ringT (F := F) XW 36))
      = tileW XW 36 (8 * (t.val + 1) + r.val + 1) 1 := by
  have hi := i0 i; have ht := lt_of_lt_of_eq t.isLt (trips13 i)
  have hz : (8 * (t.val + 1) + r.val + 1) / 32 = 0 := by omega
  have h := load_tile XW inb 36 (8 * (t.val + 1) + r.val + 1) 1 ((k0_off288_eq i t r).trans (by
    rw [hz]; exact congrArg (fun z => ![4, 256, z]) (by omega)))
  rw [hz] at h; exact h

theorem tile13x0 (inb) :
    k0_pay191 (F := F) (rgM.view.readAt (Elt F) (Rect.unit (s := S8x512x8192) (k0_off296 i t) S1x256x256.size inb).toLoadRect (ringT (F := F) XW 36))
      = tileW XW 36 (8 * (t.val + 1) + 8) 0 := by
  have hi := i0 i; have ht := lt_of_lt_of_eq t.isLt (trips13 i)
  have hz : (8 * (t.val + 1) + 8) / 32 = 0 := by omega
  have h := load_tile XW inb 36 (8 * (t.val + 1) + 8) 0 ((k0_off296_eq i t).trans
    (congrArg₂ (fun y z => ![y, 0, z]) (by omega) (by omega)))
  rw [hz] at h; exact h

theorem tile13x1 (inb) :
    k0_pay191 (F := F) (rgM.view.readAt (Elt F) (Rect.unit (s := S8x512x8192) (k0_off297 i t) S1x256x256.size inb).toLoadRect (ringT (F := F) XW 36))
      = tileW XW 36 (8 * (t.val + 1) + 8) 1 := by
  have hi := i0 i; have ht := lt_of_lt_of_eq t.isLt (trips13 i)
  have hz : (8 * (t.val + 1) + 8) / 32 = 0 := by omega
  have h := load_tile XW inb 36 (8 * (t.val + 1) + 8) 1 ((k0_off297_eq i t).trans
    (congrArg₂ (fun y z => ![y, 256, z]) (by omega) (by omega)))
  rw [hz] at h; exact h

/-- The rows of products a tile of the select reads. -/
def offs13 (r₁ r₂ : ℕ) : Fin 2 → ℕ := match r₂ with
  | 0 => k0_off291 i t (BitVec.ofNat 32 r₁)
  | 1 => k0_off293 i t (BitVec.ofNat 32 r₁)
  | 2 => k0_off294 i t (BitVec.ofNat 32 r₁)
  | _ => k0_off295 i t (BitVec.ofNat 32 r₁)
theorem offs13_eq (r₁ : Fin 8) (r₂ : Fin 4) : offs13 i t r₁ r₂ = ![64 * t.val + 8 * r₁.val, 128 * r₂.val] := by
  have hi := i0 i
  fin_cases r₂
  · exact (k0_off291_eq i t r₁).trans (vec2 (by omega))
  · exact (k0_off293_eq i t r₁).trans (vec2 (by omega))
  · exact (k0_off294_eq i t r₁).trans (vec2 (by omega))
  · exact (k0_off295_eq i t r₁).trans (vec2 (by omega))
theorem off289_eq (r₁ : Fin 8) : k0_off289 i t (BitVec.ofNat 32 r₁) = ![64 * t.val + 8 * r₁.val, 0] :=
  (k0_off289_eq i t r₁).trans (vec2 (by have := i0 i; omega))
theorem off290_eq (r₂ : Fin 4) : k0_off290 (BitVec.ofNat 32 r₂) = ![140 + r₂.val, 0] :=
  (k0_off290_eq r₂).trans (vec2 (by omega))
theorem off292_eq (r₁ : Fin 8) (r₂ : Fin 4) : k0_off292 i t (BitVec.ofNat 32 r₁) (BitVec.ofNat 32 r₂) = ![64 * t.val + 8 * r₁.val, 128 * (140 + r₂.val)] := by
  have hi := i0 i
  exact (k0_off292_eq i t r₁ r₂).trans (congrArg₂ (fun y z => ![y, z]) (by omega) (by omega))
variable (u : Fin (k0_t15_loop i).trips)
/-- The rows of products a tile of the last select reads. -/
def offs15 (r₁ r₂ : ℕ) : Fin 2 → ℕ := match r₂ with
  | 0 => k0_off335 i u (BitVec.ofNat 32 r₁)
  | 1 => k0_off337 i u (BitVec.ofNat 32 r₁)
  | 2 => k0_off338 i u (BitVec.ofNat 32 r₁)
  | _ => k0_off339 i u (BitVec.ofNat 32 r₁)
theorem offs15_eq (r₁ : Fin 8) (r₂ : Fin 4) : offs15 i u r₁ r₂ = ![64 * u.val + 8 * r₁.val, 128 * r₂.val] := by
  have hi := i0 i
  fin_cases r₂
  · exact (k0_off335_eq i u r₁).trans (vec2 (by omega))
  · exact (k0_off337_eq i u r₁).trans (vec2 (by omega))
  · exact (k0_off338_eq i u r₁).trans (vec2 (by omega))
  · exact (k0_off339_eq i u r₁).trans (vec2 (by omega))
theorem off333_eq (r₁ : Fin 8) : k0_off333 i u (BitVec.ofNat 32 r₁) = ![64 * u.val + 8 * r₁.val, 0] :=
  (k0_off333_eq i u r₁).trans (vec2 (by have := i0 i; omega))
theorem off334_eq (r₂ : Fin 4) : k0_off334 (BitVec.ofNat 32 r₂) = ![144 + r₂.val, 0] :=
  (k0_off334_eq r₂).trans (vec2 (by omega))
theorem off336_eq (r₁ : Fin 8) (r₂ : Fin 4) : k0_off336 i u (BitVec.ofNat 32 r₁) (BitVec.ofNat 32 r₂) = ![64 * u.val + 8 * r₁.val, 128 * (144 + r₂.val)] := by
  have hi := i0 i
  exact (k0_off336_eq i u r₁ r₂).trans (congrArg₂ (fun y z => ![y, z]) (by omega) (by omega))
end Loads

section T13
variable (c : Dev nD) (XW : Buf (Elt F) (wM.view.loc (c : Thread nD τ))) (C : Buf (Elt F) (cdM.view.loc (c : Thread nD τ))) (i : grid0.Coords)
  (arg5 : Memref sig .tc .vmem S192x18944 .f32) (harg5 : arg5.IsWhole) (arg7 : Memref sig .tc .vmem S1x192 .f32) (harg7 : arg7.IsWhole)

theorem sel13 (t : Fin (k0_t13_loop i).trips) (fO fs fsc fwv fbv) :
    ∃ (io : _) (ix : _) (iw : _) (is : _),
    SelPost (F := F) arg5 fO (arg5.view.writes (Elt F) fO (selL 1#1 s1M.view fs fsc fwv fbv
        (fun r₁ r₂ => k0_off292 i t (BitVec.ofNat 32 r₁) (BitVec.ofNat 32 r₂)) (fun r => k0_off289 i t (BitVec.ofNat 32 r))
        (fun r => k0_off290 (BitVec.ofNat 32 r)) (offs13 i t) io ix iw is)) True fs fsc fwv fbv (64 * t.val) 140 := by
  have ht := lt_of_lt_of_eq t.isLt (trips13 i)
  exact ⟨inb_o (off := fun r₁ r₂ => k0_off292 i t (BitVec.ofNat 32 r₁) (BitVec.ofNat 32 r₂)) (R := 64 * t.val) (T := 140) (by omega) (by omega) (off292_eq i t), inb_x (off := fun r => k0_off289 i t (BitVec.ofNat 32 r)) (R := 64 * t.val) (by omega) (off289_eq i t), inb_w (off := fun r => k0_off290 (BitVec.ofNat 32 r)) (T := 140) (by omega) off290_eq, inb_s (off := offs13 i t) (R := 64 * t.val) (by omega) (offs13_eq i t),
    selL_post arg5 fO 1#1 s1M.view fs fsc fwv fbv _ _ _ _ _ _ _ _ _ _ True (fun _ => rfl) (by omega) (off292_eq i t) (off289_eq i t) off290_eq (offs13_eq i t)⟩

theorem sel15 (t : Fin (k0_t15_loop i).trips) (fO fs fsc fwv fbv) :
    ∃ (io : _) (ix : _) (iw : _) (is : _),
    SelPost (F := F) arg5 fO (arg5.view.writes (Elt F) fO (selL 1#1 s0M.view fs fsc fwv fbv
        (fun r₁ r₂ => k0_off336 i t (BitVec.ofNat 32 r₁) (BitVec.ofNat 32 r₂)) (fun r => k0_off333 i t (BitVec.ofNat 32 r))
        (fun r => k0_off334 (BitVec.ofNat 32 r)) (offs15 i t) io ix iw is)) True fs fsc fwv fbv (64 * t.val) 144 := by
  have ht := lt_of_lt_of_eq t.isLt (trips15 i)
  exact ⟨inb_o (off := fun r₁ r₂ => k0_off336 i t (BitVec.ofNat 32 r₁) (BitVec.ofNat 32 r₂)) (R := 64 * t.val) (T := 144) (by omega) (by omega) (off336_eq i t), inb_x (off := fun r => k0_off333 i t (BitVec.ofNat 32 r)) (R := 64 * t.val) (by omega) (off333_eq i t), inb_w (off := fun r => k0_off334 (BitVec.ofNat 32 r)) (T := 144) (by omega) off334_eq, inb_s (off := offs15 i t) (R := 64 * t.val) (by omega) (offs15_eq i t),
    selL_post arg5 fO 1#1 s0M.view fs fsc fwv fbv _ _ _ _ _ _ _ _ _ _ True (fun _ => rfl) (by omega) (off336_eq i t) (off333_eq i t) off334_eq (offs15_eq i t)⟩

/-- Before trip `u` of the loop over the last block's chunks. -/
def inv13 (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (s : Mxu F) : sProp 𝕄 :=
  iprop(∃ fO fs, ⌜MS s 0 1 (fun q => some (tileW XW 36 (8 * (u + 1)) q)) 0 fits_0_192 (accN XW C 36 (8 * (u + 1))) 48 fits_48_192 none
      ∧ LP arg5 XW C fsc fwv fbv fO True 35 (64 * u) ∧ (True → fs = sT XW C 35)⌝
    ∗ tripRes c arg5 s1M q fO C fwv fbv fsc fs ∗ slotP c 36 (ringT (F := F) XW 36))

set_option maxHeartbeats 1000000 in
theorem step13 (arg0 : BitVec 32) (m : Mxu F) (a b d : BitVec 32)
    (t : Fin (k0_t13_loop i).trips) (s : Mxu F) (q : PosShare TreeShare) (fwv fbv fsc) :
    inv13 c XW C arg5 q fwv fbv fsc t.val s
      ⊢ wp frame (wpE (defs₀ (F := F)) 𝒱₀ (c : Thread nD τ) none) Set.univ
        (k0_t13_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 m a b d t s)
        (fun s' => inv13 c XW C arg5 q fwv fbv fsc (t.val + 1) s') := by
  have hi := i0 i
  have ht := lt_of_lt_of_eq t.isLt (trips13 i)
  unfold inv13 tripRes
  iintro ⟨%fO, %fs, %HH, ⟨HO, Hcd, Hwv, Hbv, Hsc, Hs1, ⟨%W, HW⟩⟩, HR⟩
  obtain ⟨H, L, hfs⟩ := HH
  have hs := H.emp
  sl_unfold [k0_t13_body]
  sl_exec_parts (disch := first | assumption | (mxu_pushok_peel; done) | (mxu_pushok_peel; exact Mxu.pushOk_of_none _ _ _ _ (hs _)))
  sl_step
  iexists _, fs
  isplitr
  rotate_left
  · isplitr [HR]
    · isplitl [HO]; · iexact HO
      isplitl [Hcd]; · iexact Hcd
      isplitl [Hwv]; · iexact Hwv
      isplitl [Hbv]; · iexact Hbv
      isplitl [Hsc]; · iexact Hsc
      isplitl [Hs1]; · iexact Hs1
      iexists W; iexact HW
    · iexact HR
  · ipureintro
    refine ⟨?_, ?_, hfs⟩
    · exact st8_MS XW C 36 (8 * (t.val + 1)) (by decide) H
        (lhs13 C i t 0 _) (lhs13 C i t 1 _) (lhs13 C i t 2 _) (lhs13 C i t 3 _) (lhs13 C i t 4 _) (lhs13 C i t 5 _) (lhs13 C i t 6 _) (lhs13 C i t 7 _)
        (tile130 XW i t 0 _) (tile131 XW i t 0 _) (tile130 XW i t 1 _) (tile131 XW i t 1 _) (tile130 XW i t 2 _) (tile131 XW i t 2 _)
        (tile130 XW i t 3 _) (tile131 XW i t 3 _) (tile130 XW i t 4 _) (tile131 XW i t 4 _) (tile130 XW i t 5 _) (tile131 XW i t 5 _)
        (tile130 XW i t 6 _) (tile131 XW i t 6 _) (tile13x0 XW i t _) (tile13x1 XW i t _)
    · obtain ⟨io, ix, iw, is, h⟩ := sel13 (F := F) i arg5 t fO fs fsc fwv fbv
      exact L.sel hfs h

/-- Before trip `u` of the loop of the last select. -/
def inv15 (q : PosShare TreeShare) (fwv : Buf (Elt F) (wvM.view.loc (c : Thread nD τ))) (fbv : Buf (Elt F) (bvM.view.loc (c : Thread nD τ)))
    (fsc : Buf (Elt F) (scM.view.loc (c : Thread nD τ))) (u : ℕ) (_ : Unit) : sProp 𝕄 :=
  iprop(∃ fO fs, ⌜LP arg5 XW C fsc fwv fbv fO True 36 (64 * u) ∧ (True → fs = sT XW C 36)⌝
    ∗ tripRes c arg5 s0M q fO C fwv fbv fsc fs)

set_option maxHeartbeats 1000000 in
theorem step15 (arg0 : BitVec 32)
    (t : Fin (k0_t15_loop i).trips) (s : Unit) (q : PosShare TreeShare) (fwv fbv fsc) :
    inv15 c XW C arg5 q fwv fbv fsc t.val s
      ⊢ wp frame (wpE (defs₀ (F := F)) 𝒱₀ (c : Thread nD τ) none) Set.univ
        (k0_t15_body (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 arg0 t s)
        (fun s' => inv15 c XW C arg5 q fwv fbv fsc (t.val + 1) s') := by
  have hi := i0 i
  have ht := lt_of_lt_of_eq t.isLt (trips15 i)
  unfold inv15 tripRes
  iintro ⟨%fO, %fs, %HH, ⟨HO, Hcd, Hwv, Hbv, Hsc, Hs0, ⟨%W, HW⟩⟩⟩
  obtain ⟨L, hfs⟩ := HH
  sl_unfold [k0_t15_body]
  sl_exec_parts
  sl_step
  iexists _, fs
  isplitr
  rotate_left
  · isplitl [HO]; · iexact HO
    isplitl [Hcd]; · iexact Hcd
    isplitl [Hwv]; · iexact Hwv
    isplitl [Hbv]; · iexact Hbv
    isplitl [Hsc]; · iexact Hsc
    isplitl [Hs0]; · iexact Hs0
    iexists W; iexact HW
  · ipureintro
    refine ⟨?_, hfs⟩
    obtain ⟨io, ix, iw, is, h⟩ := sel15 (F := F) i arg5 t fO fs fsc fwv fbv
    exact L.sel hfs h
end T13

end Cert.Proof.KernelIdeal
-- ==== Proof.IdealPro.lean ====
/- What the body starts from and what it leaves, and the first copies\' slices. -/
module

public import proofs.«01_k».proof.Proof.IdealT1
public import proofs.«01_k».proof.Proof.IdealT13

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

/-! ## The slices of the copies the body starts with -/

@[sl_canon] theorem semX0 (hh) : (cc0_scratch8.slice (Rect.unit (s := S6) ![0] S1.size hh)).squeeze S_ squeezes_S1_S_ = xsm 0 := xsm_congr 0 rfl hh
@[sl_canon] theorem strX0 (hh hs) : xbM.slice (Rect.unit (s := S192x8192) ![0, 0] S32x8192.size hh) hs = xstrp 0 := xstrp_congr 0 rfl hh hs
@[sl_canon] theorem blkX0 (hh hs) : xM.slice (Rect.unit (s := S192x8192) ![0, 0] S32x8192.size hh) hs = xblk 0 := xblk_congr 0 rfl hh hs
@[sl_canon] theorem semX1 (hh) : (cc0_scratch8.slice (Rect.unit (s := S6) ![1] S1.size hh)).squeeze S_ squeezes_S1_S_ = xsm 1 := xsm_congr 1 rfl hh
@[sl_canon] theorem strX1 (hh hs) : xbM.slice (Rect.unit (s := S192x8192) ![32, 0] S32x8192.size hh) hs = xstrp 1 := xstrp_congr 1 rfl hh hs
@[sl_canon] theorem blkX1 (hh hs) : xM.slice (Rect.unit (s := S192x8192) ![32, 0] S32x8192.size hh) hs = xblk 1 := xblk_congr 1 rfl hh hs
@[sl_canon] theorem semX2 (hh) : (cc0_scratch8.slice (Rect.unit (s := S6) ![2] S1.size hh)).squeeze S_ squeezes_S1_S_ = xsm 2 := xsm_congr 2 rfl hh
@[sl_canon] theorem strX2 (hh hs) : xbM.slice (Rect.unit (s := S192x8192) ![64, 0] S32x8192.size hh) hs = xstrp 2 := xstrp_congr 2 rfl hh hs
@[sl_canon] theorem blkX2 (hh hs) : xM.slice (Rect.unit (s := S192x8192) ![64, 0] S32x8192.size hh) hs = xblk 2 := xblk_congr 2 rfl hh hs
@[sl_canon] theorem semX3 (hh) : (cc0_scratch8.slice (Rect.unit (s := S6) ![3] S1.size hh)).squeeze S_ squeezes_S1_S_ = xsm 3 := xsm_congr 3 rfl hh
@[sl_canon] theorem strX3 (hh hs) : xbM.slice (Rect.unit (s := S192x8192) ![96, 0] S32x8192.size hh) hs = xstrp 3 := xstrp_congr 3 rfl hh hs
@[sl_canon] theorem blkX3 (hh hs) : xM.slice (Rect.unit (s := S192x8192) ![96, 0] S32x8192.size hh) hs = xblk 3 := xblk_congr 3 rfl hh hs
@[sl_canon] theorem semX4 (hh) : (cc0_scratch8.slice (Rect.unit (s := S6) ![4] S1.size hh)).squeeze S_ squeezes_S1_S_ = xsm 4 := xsm_congr 4 rfl hh
@[sl_canon] theorem strX4 (hh hs) : xbM.slice (Rect.unit (s := S192x8192) ![128, 0] S32x8192.size hh) hs = xstrp 4 := xstrp_congr 4 rfl hh hs
@[sl_canon] theorem blkX4 (hh hs) : xM.slice (Rect.unit (s := S192x8192) ![128, 0] S32x8192.size hh) hs = xblk 4 := xblk_congr 4 rfl hh hs
@[sl_canon] theorem semX5 (hh) : (cc0_scratch8.slice (Rect.unit (s := S6) ![5] S1.size hh)).squeeze S_ squeezes_S1_S_ = xsm 5 := xsm_congr 5 rfl hh
@[sl_canon] theorem strX5 (hh hs) : xbM.slice (Rect.unit (s := S192x8192) ![160, 0] S32x8192.size hh) hs = xstrp 5 := xstrp_congr 5 rfl hh hs
@[sl_canon] theorem blkX5 (hh hs) : xM.slice (Rect.unit (s := S192x8192) ![160, 0] S32x8192.size hh) hs = xblk 5 := xblk_congr 5 rfl hh hs
@[sl_canon] theorem semW0 (hh) : (cc0_scratch9.slice (Rect.unit (s := S8) (k0_off1 0#32) S1.size hh)).squeeze S_ squeezes_S1_S_ = csm 0 := csm_congr 0 (k0_off1_eq 0) hh
@[sl_canon] theorem slotW0 (hh hs) : (rgM.slice (Rect.unit (s := S8x512x8192) (k0_off2 0#32) S1x512x8192.size hh) hs).squeeze S512x8192 squeezes_S1x512x8192_S512x8192 = rslot 0 := rslot_congr 0 (k0_off2_eq 0) hh hs
@[sl_canon] theorem blkW0 (hh hs) : wM.slice (Rect.unit (s := S18944x8192) ![0, 0] S512x8192.size hh) hs = wblk 0 := wblk_congr 0 rfl hh hs
@[sl_canon] theorem semW1 (hh) : (cc0_scratch9.slice (Rect.unit (s := S8) (k0_off1 1#32) S1.size hh)).squeeze S_ squeezes_S1_S_ = csm 1 := csm_congr 1 (k0_off1_eq 1) hh
@[sl_canon] theorem slotW1 (hh hs) : (rgM.slice (Rect.unit (s := S8x512x8192) (k0_off2 1#32) S1x512x8192.size hh) hs).squeeze S512x8192 squeezes_S1x512x8192_S512x8192 = rslot 1 := rslot_congr 1 (k0_off2_eq 1) hh hs
@[sl_canon] theorem blkW1 (hh hs) : wM.slice (Rect.unit (s := S18944x8192) ![512, 0] S512x8192.size hh) hs = wblk 1 := wblk_congr 1 rfl hh hs
@[sl_canon] theorem semW2 (hh) : (cc0_scratch9.slice (Rect.unit (s := S8) (k0_off1 2#32) S1.size hh)).squeeze S_ squeezes_S1_S_ = csm 2 := csm_congr 2 (k0_off1_eq 2) hh
@[sl_canon] theorem slotW2 (hh hs) : (rgM.slice (Rect.unit (s := S8x512x8192) (k0_off2 2#32) S1x512x8192.size hh) hs).squeeze S512x8192 squeezes_S1x512x8192_S512x8192 = rslot 2 := rslot_congr 2 (k0_off2_eq 2) hh hs
@[sl_canon] theorem blkW2 (hh hs) : wM.slice (Rect.unit (s := S18944x8192) ![1024, 0] S512x8192.size hh) hs = wblk 2 := wblk_congr 2 rfl hh hs
@[sl_canon] theorem semW3 (hh) : (cc0_scratch9.slice (Rect.unit (s := S8) (k0_off1 3#32) S1.size hh)).squeeze S_ squeezes_S1_S_ = csm 3 := csm_congr 3 (k0_off1_eq 3) hh
@[sl_canon] theorem slotW3 (hh hs) : (rgM.slice (Rect.unit (s := S8x512x8192) (k0_off2 3#32) S1x512x8192.size hh) hs).squeeze S512x8192 squeezes_S1x512x8192_S512x8192 = rslot 3 := rslot_congr 3 (k0_off2_eq 3) hh hs
@[sl_canon] theorem blkW3 (hh hs) : wM.slice (Rect.unit (s := S18944x8192) ![1536, 0] S512x8192.size hh) hs = wblk 3 := wblk_congr 3 rfl hh hs
@[sl_canon] theorem semW4 (hh) : (cc0_scratch9.slice (Rect.unit (s := S8) (k0_off1 4#32) S1.size hh)).squeeze S_ squeezes_S1_S_ = csm 4 := csm_congr 4 (k0_off1_eq 4) hh
@[sl_canon] theorem slotW4 (hh hs) : (rgM.slice (Rect.unit (s := S8x512x8192) (k0_off2 4#32) S1x512x8192.size hh) hs).squeeze S512x8192 squeezes_S1x512x8192_S512x8192 = rslot 4 := rslot_congr 4 (k0_off2_eq 4) hh hs
@[sl_canon] theorem blkW4 (hh hs) : wM.slice (Rect.unit (s := S18944x8192) ![2048, 0] S512x8192.size hh) hs = wblk 4 := wblk_congr 4 rfl hh hs
@[sl_canon] theorem semW5 (hh) : (cc0_scratch9.slice (Rect.unit (s := S8) (k0_off1 5#32) S1.size hh)).squeeze S_ squeezes_S1_S_ = csm 5 := csm_congr 5 (k0_off1_eq 5) hh
@[sl_canon] theorem slotW5 (hh hs) : (rgM.slice (Rect.unit (s := S8x512x8192) (k0_off2 5#32) S1x512x8192.size hh) hs).squeeze S512x8192 squeezes_S1x512x8192_S512x8192 = rslot 5 := rslot_congr 5 (k0_off2_eq 5) hh hs
@[sl_canon] theorem blkW5 (hh hs) : wM.slice (Rect.unit (s := S18944x8192) ![2560, 0] S512x8192.size hh) hs = wblk 5 := wblk_congr 5 rfl hh hs
@[sl_canon] theorem semW6 (hh) : (cc0_scratch9.slice (Rect.unit (s := S8) (k0_off1 6#32) S1.size hh)).squeeze S_ squeezes_S1_S_ = csm 6 := csm_congr 6 (k0_off1_eq 6) hh
@[sl_canon] theorem slotW6 (hh hs) : (rgM.slice (Rect.unit (s := S8x512x8192) (k0_off2 6#32) S1x512x8192.size hh) hs).squeeze S512x8192 squeezes_S1x512x8192_S512x8192 = rslot 6 := rslot_congr 6 (k0_off2_eq 6) hh hs
@[sl_canon] theorem blkW6 (hh hs) : wM.slice (Rect.unit (s := S18944x8192) ![3072, 0] S512x8192.size hh) hs = wblk 6 := wblk_congr 6 rfl hh hs
@[sl_canon] theorem semW7 (hh) : (cc0_scratch9.slice (Rect.unit (s := S8) (k0_off1 7#32) S1.size hh)).squeeze S_ squeezes_S1_S_ = csm 7 := csm_congr 7 (k0_off1_eq 7) hh
@[sl_canon] theorem slotW7 (hh hs) : (rgM.slice (Rect.unit (s := S8x512x8192) (k0_off2 7#32) S1x512x8192.size hh) hs).squeeze S512x8192 squeezes_S1x512x8192_S512x8192 = rslot 7 := rslot_congr 7 (k0_off2_eq 7) hh hs
@[sl_canon] theorem blkW7 (hh hs) : wM.slice (Rect.unit (s := S18944x8192) ![3584, 0] S512x8192.size hh) hs = wblk 7 := wblk_congr 7 rfl hh hs

/-- The semaphores of the two small copies. -/
def ssm (u : ℕ) : DmaSems sig S_ := (cc0_scratch10.slice (Rect.unit (s := S2) ![u % 2] S1.size (by intro a; fin_cases a; show u % 2 + 1 ≤ 2; omega))).squeeze S_ squeezes_S1_S_
@[sl_canon] theorem semS0 (hh) : (cc0_scratch10.slice (Rect.unit (s := S2) ![0] S1.size hh)).squeeze S_ squeezes_S1_S_ = ssm 0 := rfl
@[sl_canon] theorem semS1 (hh) : (cc0_scratch10.slice (Rect.unit (s := S2) ![1] S1.size hh)).squeeze S_ squeezes_S1_S_ = ssm 1 := rfl

section Pre
variable (c : Dev nD) (X : Buf (Elt F) (xM.view.loc (c : Thread nD τ))) (XW : Buf (Elt F) (wM.view.loc (c : Thread nD τ)))
  (VS : Buf (Elt F) (wsM.view.loc (c : Thread nD τ))) (VB : Buf (Elt F) (bsM.view.loc (c : Thread nD τ)))
  (arg5 : Memref sig .tc .vmem S192x18944 .f32) (arg7 : Memref sig .tc .vmem S1x192 .f32)

/-- A whole array of the tensor core at full share. -/
abbrev holdsP {sp : Space} {s : Shape} {e : EltTy} (m : Memref sig .tc sp s e) (f : Buf (Elt F) (m.view.loc (c : Thread nD τ))) : sProp 𝕄 :=
  m.view.loc (c : Thread nD τ) ↦[m.view.set]{fullShare} f
abbrev scellP (u : ℕ) : sProp 𝕄 := semVal ((c : Thread nD τ), SemLoc.dma (ssm u).sem) 0
abbrev ocellP : sProp 𝕄 := semVal ((c : Thread nD τ), SemLoc.dma cc0_scratch11.sem) 0

/-- The scratch the body writes before it reads. -/
def scrP : sProp 𝕄 :=
  iprop((∃ f, holdsP c cdM f) ∗ (∃ f, holdsP c wvM f) ∗ (∃ f, holdsP c bvM f) ∗ (∃ f, holdsP c scM f) ∗ (∃ f, holdsP c s0M f) ∗ (∃ f, holdsP c s1M f))
/-- The copies' semaphores and the arrays they read. -/
def argsP : sProp 𝕄 :=
  iprop(bigSep (Finset.range 6) (xdoneP c X) ∗ bigSep (Finset.range 8) (freeP (F := F) c) ∗ bigSep (Finset.range 37) (homeP c XW)
    ∗ holdsP c wsM VS ∗ holdsP c bsM VB ∗ scellP (F := F) c 0 ∗ scellP (F := F) c 1 ∗ ocellP (F := F) c)

/-- A row's scale, in the row the kernel returns them in. -/
def scaleO (X : XB F) : S1x192.Idx → Elt F .f32 := k0_pay3 (F := F) (Sspec X)

/-- Before the body. -/
def preP : sProp 𝕄 :=
  iprop(argsP c X XW VS VB ∗ scrP (F := F) c ∗ (∃ f, holdsP c coM f) ∗ (∃ f, holdsP c arg5 f) ∗ (∃ f, holdsP c arg7 f) ∗ (∃ W, owes (c : Thread nD τ) 0 W))
/-- After it. -/
def postP : sProp 𝕄 :=
  iprop(∃ f5 f7, ⌜(∀ y, arg5.view.read (Elt F) f5 y = lgt XW (Cspec (F := F) X) (Sspec (F := F) X) VS VB y) ∧ arg7.view.read (Elt F) f7 = scaleO (F := F) X⌝
    ∗ argsP c X XW VS VB ∗ scrP (F := F) c ∗ holdsP c coM (Cspec (F := F) X) ∗ holdsP c arg5 f5 ∗ holdsP c arg7 f7 ∗ (∃ W, owes (c : Thread nD τ) 0 W))

omit [FloatOps F] in
theorem takeP (P : ℕ → sProp 𝕄) (a n : ℕ) (h : a < n) : bigSep (Finset.Ico a n) P ⊢ iprop(P a ∗ bigSep (Finset.Ico (a + 1) n) P) := by
  have e : Finset.Ico a n = insert a (Finset.Ico (a + 1) n) := by ext x; simp only [Finset.mem_Ico, Finset.mem_insert]; omega
  rw [e, bigSep_insert (by simp)]; exact .rfl
theorem takeFree (a n : ℕ) (h : a < n) : bigSep (Finset.Ico a n) (freeP (F := F) c) ⊢ iprop((cellP (F := F) c a ∗ ∃ f, slotP (F := F) c a f) ∗ bigSep (Finset.Ico (a + 1) n) (freeP (F := F) c)) :=
  takeP (freeP (F := F) c) a n h
theorem ico_0_6 (P : ℕ → sProp 𝕄) : iprop(P 0 ∗ P 1 ∗ P 2 ∗ P 3 ∗ P 4 ∗ P 5) ⊢ bigSep (Finset.Ico 0 6) P := by
  rw [Ico_left P (show 0 < 6 by omega), Ico_left P (show 0 + 1 < 6 by omega), Ico_left P (show 0 + 1 + 1 < 6 by omega), Ico_left P (show 0 + 1 + 1 + 1 < 6 by omega),
    Ico_left P (show 0 + 1 + 1 + 1 + 1 < 6 by omega), Ico_left P (show 0 + 1 + 1 + 1 + 1 + 1 < 6 by omega), Finset.Ico_self, bigSep_empty]
  iintro ⟨A, B, C, D, E, G⟩
  isplitl [A]; · iexact A
  isplitl [B]; · iexact B
  isplitl [C]; · iexact C
  isplitl [D]; · iexact D
  isplitl [E]; · iexact E
  isplitl [G]; · iexact G
  iempintro
theorem ico_1_8 (P : ℕ → sProp 𝕄) : iprop(P 1 ∗ P 2 ∗ P 3 ∗ P 4 ∗ P 5 ∗ P 6 ∗ P 7) ⊢ bigSep (Finset.Ico 1 8) P := by
  rw [Ico_left P (show 1 < 8 by omega), Ico_left P (show 1 + 1 < 8 by omega), Ico_left P (show 1 + 1 + 1 < 8 by omega), Ico_left P (show 1 + 1 + 1 + 1 < 8 by omega),
    Ico_left P (show 1 + 1 + 1 + 1 + 1 < 8 by omega), Ico_left P (show 1 + 1 + 1 + 1 + 1 + 1 < 8 by omega), Ico_left P (show 1 + 1 + 1 + 1 + 1 + 1 + 1 < 8 by omega), Finset.Ico_self, bigSep_empty]
  iintro ⟨A, B, C, D, E, G, H⟩
  isplitl [A]; · iexact A
  isplitl [B]; · iexact B
  isplitl [C]; · iexact C
  isplitl [D]; · iexact D
  isplitl [E]; · iexact E
  isplitl [G]; · iexact G
  isplitl [H]; · iexact H
  iempintro

/-- The ring as the first waits leave it. -/
theorem ring_init : iprop(cellP (F := F) c 0 ∗ homeP c XW 0 ∗ bigSep (Finset.Ico 1 8) (flyP c XW) ∗ bigSep (Finset.Ico 8 37) (homeP c XW)) ⊢ ringS c XW 0 8 := by
  unfold ringS
  rw [range_succ (homeP c XW) 0, show Finset.range 0 = ∅ from rfl, bigSep_empty, show (0 + 8 : ℕ) = 8 from rfl, show (0 + 1 : ℕ) = 1 from rfl, Finset.Ico_self, bigSep_empty]
  iintro ⟨A, B, C, D⟩
  isplitl [A]; · iexact A
  isplitl [B]
  · isplitl [B]; · iexact B
    iempintro
  isplitl [C]; · iexact C
  isplitr [D]; · iempintro
  iexact D

theorem wv_landed (f : Buf (Elt F) (wvM.view.loc (c : Thread nD τ))) (p : Buf (Elt F) (wsM.view.loc (c : Thread nD τ))) : wvM.view.writes (Elt F) f [⟨Rect.whole S148x128, ReadAs.same.apply (wsM.view.read (Elt F) p)⟩] = p :=
  View.read_writes_whole wvM.view f _
theorem bv_landed (f : Buf (Elt F) (bvM.view.loc (c : Thread nD τ))) (p : Buf (Elt F) (bsM.view.loc (c : Thread nD τ))) : bvM.view.writes (Elt F) f [⟨Rect.whole S148x128, ReadAs.same.apply (bsM.view.read (Elt F) p)⟩] = p :=
  View.read_writes_whole bvM.view f _
end Pre

end Cert.Proof.KernelIdeal
-- ==== Proof.IdealTail.lean ====
/- The values the body computes outside its loops. -/
module

public import proofs.«01_k».proof.Proof.IdealPro

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section Tail
variable (XW : WB F) (C : CodesB F)

/-- The unit before the first block. -/
theorem init_MS (c : Dev nD) (f : Buf (Elt F) (rgM.view.loc (c : Thread nD τ))) (h0 h1) :
    MS (((pops (pops (Mxu.init : Mxu F) 0 fits_0_192) 48 fits_48_192).pushed 0 0 true
      (k0_pay191 (F := F) (rgM.view.readAt (Elt F) (Rect.unit (s := S8x512x8192) k0_off137 S1x256x256.size h0).toLoadRect (landed c XW 0 f)))).pushed 1 0 true
      (k0_pay191 (F := F) (rgM.view.readAt (Elt F) (Rect.unit (s := S8x512x8192) k0_off138 S1x256x256.size h1).toLoadRect (landed c XW 0 f))))
      0 1 (fun q => some (tileW XW 0 0 q)) 0 fits_0_192 none 48 fits_48_192 none := by
  rw [load_tile_of XW h0 0 0 0 (k0_off137_eq.trans rfl) _ (fun y hy => landed_at c XW 0 f y hy),
    load_tile_of XW h1 0 0 1 (k0_off138_eq.trans rfl) _ (fun y hy => landed_at c XW 0 f y hy)]
  exact ((((MS.init (r := 0) (r' := 1) fits_0_192 fits_48_192).pops (by decide)).swap.pops (by decide))).push (by decide) (tileW XW 0 0)

/-! ## The last block's first and last chunks -/

theorem lhs36 (r : Fin 8) (inb) :
    k0_pay190 (F := F) (cdM.view.readAt (Elt F) (Rect.unit (s := S192x8192) (k0_off281 (BitVec.ofNat 32 r.val)) S192x256.size inb).toLoadRect C) = lhsC C r.val :=
  load_lhs C inb r.val (by omega) (k0_off281_eq r)
theorem tile36 (off : Fin 3 → ℕ) (inb : ∀ a, off a + S1x256x256.size a ≤ S8x512x8192.size a) (n : ℕ) (hn : n < 32) (q : Fin 2) (ho : off = ![4, 256 * q.val, 256 * n]) :
    k0_pay191 (F := F) (rgM.view.readAt (Elt F) (Rect.unit (s := S8x512x8192) off S1x256x256.size inb).toLoadRect (ringT (F := F) XW 36)) = tileW XW 36 n q := by
  have hz : n / 32 = 0 := by omega
  have hm : n % 32 = n := by omega
  have h := load_tile XW inb 36 n q (by rw [hz, hm]; exact ho)
  rw [hz] at h; exact h
theorem tile360 (r : Fin 7) (inb) :
    k0_pay191 (F := F) (rgM.view.readAt (Elt F) (Rect.unit (s := S8x512x8192) (k0_off282 (BitVec.ofNat 32 r.val)) S1x256x256.size inb).toLoadRect (ringT (F := F) XW 36)) = tileW XW 36 (r.val + 1) 0 :=
  tile36 XW _ inb _ (by omega) 0 ((k0_off282_eq r).trans (congrArg (fun z => ![4, 0, z]) (by omega)))
theorem tile361 (r : Fin 7) (inb) :
    k0_pay191 (F := F) (rgM.view.readAt (Elt F) (Rect.unit (s := S8x512x8192) (k0_off283 (BitVec.ofNat 32 r.val)) S1x256x256.size inb).toLoadRect (ringT (F := F) XW 36)) = tileW XW 36 (r.val + 1) 1 :=
  tile36 XW _ inb _ (by omega) 1 ((k0_off283_eq r).trans (congrArg (fun z => ![4, 256, z]) (by omega)))
theorem tile368 (inb) :
    k0_pay191 (F := F) (rgM.view.readAt (Elt F) (Rect.unit (s := S8x512x8192) k0_off284 S1x256x256.size inb).toLoadRect (ringT (F := F) XW 36)) = tileW XW 36 8 0 :=
  tile36 XW _ inb 8 (by omega) 0 k0_off284_eq
theorem tile369 (inb) :
    k0_pay191 (F := F) (rgM.view.readAt (Elt F) (Rect.unit (s := S8x512x8192) k0_off285 S1x256x256.size inb).toLoadRect (ringT (F := F) XW 36)) = tileW XW 36 8 1 :=
  tile36 XW _ inb 8 (by omega) 1 k0_off285_eq

theorem selE (arg5 : Memref sig .tc .vmem S192x18944 .f32) (fO fs fsc fwv fbv) :
    ∃ (io : _) (ix : _) (iw : _) (is : _),
    SelPost (F := F) arg5 fO (arg5.view.writes (Elt F) fO (selL 1#1 s1M.view fs fsc fwv fbv
        (fun r₁ r₂ => ![128 + 8 * r₁, 128 * r₂ + 17920]) (fun r => ![128 + 8 * r, 0]) (fun r => ![140 + r, 0]) (fun r₁ r₂ => ![128 + 8 * r₁, 128 * r₂]) io ix iw is)) True fs fsc fwv fbv 128 140 :=
  ⟨inb_o (off := fun r₁ r₂ => ![128 + 8 * r₁, 128 * r₂ + 17920]) (R := 128) (T := 140) (by omega) (by omega) (fun r₁ r₂ => congrArg₂ (fun y z => ![y, z]) rfl (by omega)), inb_x (off := fun r => ![128 + 8 * r, 0]) (R := 128) (by omega) (fun _ => rfl),
    inb_w (off := fun r => ![140 + r, 0]) (T := 140) (by omega) (fun _ => rfl), inb_s (off := fun r₁ r₂ => ![128 + 8 * r₁, 128 * r₂]) (R := 128) (by omega) (fun _ _ => rfl),
    selL_post arg5 fO 1#1 s1M.view fs fsc fwv fbv _ _ _ _ _ _ _ _ _ _ True (fun _ => rfl) (by omega) (fun r₁ r₂ => congrArg₂ (fun y z => ![y, z]) rfl (by omega)) (fun _ => rfl) (fun _ => rfl) (fun _ _ => rfl)⟩
/-- The last chunk of the last block. -/
theorem last_MS {s : Mxu F} (H : MS s 0 1 (fun q => some (tileW XW 36 24 q)) 0 fits_0_192 (accN XW C 36 24) 48 fits_48_192 none)
    {x0 x1 x2 x3 x4 x5 x6 x7 : Lhs F} {a0 a1 a2 a3 a4 a5 a6 b0 b1 b2 b3 b4 b5 b6 : Tile F}
    (hx0 : x0 = lhsC C 24) (ha0 : a0 = tileW XW 36 25 0) (hb0 : b0 = tileW XW 36 25 1)
    (hx1 : x1 = lhsC C 25) (ha1 : a1 = tileW XW 36 26 0) (hb1 : b1 = tileW XW 36 26 1)
    (hx2 : x2 = lhsC C 26) (ha2 : a2 = tileW XW 36 27 0) (hb2 : b2 = tileW XW 36 27 1)
    (hx3 : x3 = lhsC C 27) (ha3 : a3 = tileW XW 36 28 0) (hb3 : b3 = tileW XW 36 28 1)
    (hx4 : x4 = lhsC C 28) (ha4 : a4 = tileW XW 36 29 0) (hb4 : b4 = tileW XW 36 29 1)
    (hx5 : x5 = lhsC C 29) (ha5 : a5 = tileW XW 36 30 0) (hb5 : b5 = tileW XW 36 30 1)
    (hx6 : x6 = lhsC C 30) (ha6 : a6 = tileW XW 36 31 0) (hb6 : b6 = tileW XW 36 31 1) (hx7 : x7 = lhsC C 31) :
    MS (accs (step (step (step (step (step (step (step s 0 1 0 fits_0_192 x0 a0 b0) 1 0 0 fits_0_192 x1 a1 b1) 0 1 0 fits_0_192 x2 a2 b2) 1 0 0 fits_0_192 x3 a3 b3) 0 1 0 fits_0_192 x4 a4 b4) 1 0 0 fits_0_192 x5 a5 b5) 0 1 0 fits_0_192 x6 a6 b6) 1 0 fits_0_192 x7) 0 1 (fun _ => none) 0 fits_0_192 (some (accE XW C 36)) 48 fits_48_192 none := by
  subst hx7
  exact MS.accs (step_MS XW C 36 (by decide) 30 (by decide) (step_MS XW C 36 (by decide) 29 (by decide) (step_MS XW C 36 (by decide) 28 (by decide) (step_MS XW C 36 (by decide) 27 (by decide) (step_MS XW C 36 (by decide) 26 (by decide) (step_MS XW C 36 (by decide) 25 (by decide) (step_MS XW C 36 (by decide) 24 (by decide) H hx0 ha0 hb0) hx1 ha1 hb1) hx2 ha2 hb2) hx3 ha3 hb3) hx4 ha4 hb4) hx5 ha5 hb5) hx6 ha6 hb6) (by decide) (by decide) (lhsC C 31) (fun _ => rfl)

/-- The ring after the last block. -/
theorem ring_end (c : Dev nD) : iprop(slotP (F := F) c 36 (ringT (F := F) XW 36) ∗ ringS c XW 36 37) ⊢ iprop(bigSep (Finset.range 8) (freeP (F := F) c) ∗ bigSep (Finset.range 37) (homeP c XW)) := by
  unfold ringS
  have e : ∀ b, freeP (F := F) c (b + 8) = freeP c b := fun b => by
    unfold freeP
    rw [cell_8]
    exact congrArg (fun P : Buf (Elt F) (rgM.view.loc (c : Thread nD τ)) → sProp 𝕄 => iprop(cellP c b ∗ ∃ f, P f)) (funext fun f => slot_8 c b f)
  have e5 : ∀ b, freeP (F := F) c (b + 40) = freeP c b := fun b => by
    rw [show b + 40 = b + 8 + 8 + 8 + 8 + 8 by omega, e, e, e, e, e]
  have e4 : ∀ b, freeP (F := F) c (b + 32) = freeP c b := fun b => by
    rw [show b + 32 = b + 8 + 8 + 8 + 8 by omega, e, e, e, e]
  have hA : bigSep (Finset.Ico 37 44) (freeP (F := F) c) = iprop(freeP c 5 ∗ freeP c 6 ∗ freeP c 7 ∗ freeP c 0 ∗ freeP c 1 ∗ freeP c 2 ∗ freeP c 3 ∗ emp) := by
    rw [Ico_left _ (show 37 < 44 by omega), Ico_left _ (show 37 + 1 < 44 by omega), Ico_left _ (show 37 + 1 + 1 < 44 by omega), Ico_left _ (show 37 + 1 + 1 + 1 < 44 by omega),
      Ico_left _ (show 37 + 1 + 1 + 1 + 1 < 44 by omega), Ico_left _ (show 37 + 1 + 1 + 1 + 1 + 1 < 44 by omega), Ico_left _ (show 37 + 1 + 1 + 1 + 1 + 1 + 1 < 44 by omega), Finset.Ico_self, bigSep_empty,
      show freeP (F := F) c 37 = freeP c 5 from e4 5, show freeP (F := F) c (37 + 1) = freeP c 6 from e4 6, show freeP (F := F) c (37 + 1 + 1) = freeP c 7 from e4 7, show freeP (F := F) c (37 + 1 + 1 + 1) = freeP c 0 from e5 0,
      show freeP (F := F) c (37 + 1 + 1 + 1 + 1) = freeP c 1 from e5 1, show freeP (F := F) c (37 + 1 + 1 + 1 + 1 + 1) = freeP c 2 from e5 2, show freeP (F := F) c (37 + 1 + 1 + 1 + 1 + 1 + 1) = freeP c 3 from e5 3]
    rfl
  have hB : iprop(freeP (F := F) c 0 ∗ freeP c 1 ∗ freeP c 2 ∗ freeP c 3 ∗ freeP c 4 ∗ freeP c 5 ∗ freeP c 6 ∗ freeP c 7) ⊢ bigSep (Finset.range 8) (freeP (F := F) c) := by
    rw [Finset.range_eq_Ico, Ico_left _ (show 0 < 8 by omega)]
    iintro ⟨A, B⟩
    isplitl [A]; · iexact A
    iapply (ico_1_8 (freeP (F := F) c)); iexact B
  rw [show (36 + 1 : ℕ) = 37 from rfl, show (36 + 8 : ℕ) = 44 from rfl, hA]
  iintro ⟨S, K, HH, -, ⟨F5, F6, F7, F0, F1, F2, F3, -⟩, -⟩
  isplitr [HH]
  · iapply hB
    isplitl [F0]; · iexact F0
    isplitl [F1]; · iexact F1
    isplitl [F2]; · iexact F2
    isplitl [F3]; · iexact F3
    isplitl [S K]
    · iapply (entails_of_eq (e4 4))
      unfold freeP
      isplitl [K]; · iexact K
      iexists _; iexact S
    isplitl [F5]; · iexact F5
    isplitl [F6]; · iexact F6
    iexact F7
  · iexact HH

theorem rd_co (G : coM.view.ty.Contents (Elt F)) (y : S192x8192.Idx) : coM.view.read (Elt F) G y = G y := rfl
theorem co_landed (f : coM.view.ty.Contents (Elt F)) (p : S192x8192.Idx → Elt F .fp8e4m3) : coM.view.writes (Elt F) f [⟨Rect.whole S192x8192, p⟩] = p :=
  funext fun y => (rd_co _ y).symm.trans (congrFun (View.read_writes_whole coM.view f p) y)

theorem idx_sc (inb) (x : S192x128.Idx) : (Rect.unit (s := S192x128) ![0, 0] S192x128.size inb).emb x = x := by
  funext a; apply Fin.ext; fin_cases a
  · show 0 + 1 * (x 0).val = (x 0).val; omega
  · show 0 + 1 * (x 1).val = (x 1).val; omega
theorem idx_so (inb) (x : S1x192.Idx) : (Rect.unit (s := S1x192) ![0, 0] S1x192.size inb).emb x = x := by
  funext a; apply Fin.ext; fin_cases a
  · show 0 + 1 * (x 0).val = (x 0).val; omega
  · show 0 + 1 * (x 1).val = (x 1).val; omega
/-- The row of scales, as the body stores it. -/
theorem scale_row (arg7 : Memref sig .tc .vmem S1x192 .f32) (f7 : arg7.view.ty.Contents (Elt F)) (X : XB F) (i0 i1) :
    arg7.view.read (Elt F) (arg7.view.writes (Elt F) f7 [⟨Rect.unit (s := S1x192) ![0, 0] S1x192.size i1,
      k0_pay3 (F := F) (scM.view.readAt (Elt F) (Rect.unit (s := S192x128) ![0, 0] S192x128.size i0).toLoadRect (Sspec (F := F) X))⟩]) = scaleO (F := F) X := by
  have e : scM.view.readAt (Elt F) (Rect.unit (s := S192x128) ![0, 0] S192x128.size i0).toLoadRect (Sspec (F := F) X) = Sspec (F := F) X := by
    funext x
    rw [View.readAt_apply]
    exact congrArg (Sspec (F := F) X) (idx_sc i0 x)
  rw [e]
  funext y
  have h := View.read_writes_cons_emb arg7.view f7 (Rect.unit (s := S1x192) ![0, 0] S1x192.size i1) (k0_pay3 (F := F) (Sspec (F := F) X)) [] y
  rwa [idx_so] at h
end Tail

end Cert.Proof.KernelIdeal
-- ==== Proof.IdealBody.lean ====
/- The body. -/
module

public import proofs.«01_k».proof.Proof.IdealTail

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ

section Body
variable (c : Dev nD) (X : Buf (Elt F) (xM.view.loc (c : Thread nD τ))) (XW : Buf (Elt F) (wM.view.loc (c : Thread nD τ)))
  (VS : Buf (Elt F) (wsM.view.loc (c : Thread nD τ))) (VB : Buf (Elt F) (bsM.view.loc (c : Thread nD τ))) (i : grid0.Coords)
  (arg5 : Memref sig .tc .vmem S192x18944 .f32) (harg5 : arg5.IsWhole) (arg7 : Memref sig .tc .vmem S1x192 .f32) (harg7 : arg7.IsWhole)

set_option maxHeartbeats 8000000 in
theorem bodyRun :
    preP c X XW VS VB arg5 arg7
      ⊢ wp frame (wpE (defs₀ (F := F)) 𝒱₀ (c : Thread nD τ) none) Set.univ
        (cc0_fp8_head_topk (F := F) i xM (Memref.isWhole_whole _) wM (Memref.isWhole_whole _) wsM (Memref.isWhole_whole _) bsM (Memref.isWhole_whole _) arg5 harg5 coM (Memref.isWhole_whole _) arg7 harg7 xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11)
        (fun _ => postP c X XW VS VB arg5 arg7) := by
  have hi := i0 i
  unfold preP argsP scrP
  iintro ⟨⟨HX, HR, HH, HS, HB, Hsc0, Hsc1, Hoc⟩, ⟨⟨%fcd, Hcd⟩, ⟨%fwv, Hwv⟩, ⟨%fbv, Hbv⟩, ⟨%fsc, Hsc⟩, ⟨%fs0, Hs0⟩, ⟨%fs1, Hs1⟩⟩, ⟨%fco, Hco⟩, ⟨%fO, HO⟩, ⟨%f7, H7⟩, ⟨%W, HW⟩⟩
  ihave HX := (entails_of_eq (show bigSep (Finset.range 6) (xdoneP c X) = bigSep (Finset.Ico 0 6) (xdoneP c X) by rw [Finset.range_eq_Ico])) $$ HX
  ihave HR := (entails_of_eq (show bigSep (Finset.range 8) (freeP (F := F) c) = bigSep (Finset.Ico 0 8) (freeP (F := F) c) by rw [Finset.range_eq_Ico])) $$ HR
  ihave HH := (entails_of_eq (show bigSep (Finset.range 37) (homeP c XW) = bigSep (Finset.Ico 0 37) (homeP c XW) by rw [Finset.range_eq_Ico])) $$ HH
  ihave HX := (takeP (xdoneP c X) 0 6 (by omega)) $$ HX
  icases HX with ⟨⟨Hxc0, ⟨%fx0, Hxd0⟩, Hxs0⟩, HX⟩
  ihave HX := (takeP (xdoneP c X) 1 6 (by omega)) $$ HX
  icases HX with ⟨⟨Hxc1, ⟨%fx1, Hxd1⟩, Hxs1⟩, HX⟩
  ihave HX := (takeP (xdoneP c X) 2 6 (by omega)) $$ HX
  icases HX with ⟨⟨Hxc2, ⟨%fx2, Hxd2⟩, Hxs2⟩, HX⟩
  ihave HX := (takeP (xdoneP c X) 3 6 (by omega)) $$ HX
  icases HX with ⟨⟨Hxc3, ⟨%fx3, Hxd3⟩, Hxs3⟩, HX⟩
  ihave HX := (takeP (xdoneP c X) 4 6 (by omega)) $$ HX
  icases HX with ⟨⟨Hxc4, ⟨%fx4, Hxd4⟩, Hxs4⟩, HX⟩
  ihave HX := (takeP (xdoneP c X) 5 6 (by omega)) $$ HX
  icases HX with ⟨⟨Hxc5, ⟨%fx5, Hxd5⟩, Hxs5⟩, HX⟩
  ihave HR := (takeFree (F := F) c 0 8 (by omega)) $$ HR
  icases HR with ⟨⟨Hwc0, ⟨%fw0, Hwd0⟩⟩, HR⟩
  ihave HH := (takeP (homeP c XW) 0 37 (by omega)) $$ HH
  icases HH with ⟨Hws0, HH⟩
  ihave HR := (takeFree (F := F) c 1 8 (by omega)) $$ HR
  icases HR with ⟨⟨Hwc1, ⟨%fw1, Hwd1⟩⟩, HR⟩
  ihave HH := (takeP (homeP c XW) 1 37 (by omega)) $$ HH
  icases HH with ⟨Hws1, HH⟩
  ihave HR := (takeFree (F := F) c 2 8 (by omega)) $$ HR
  icases HR with ⟨⟨Hwc2, ⟨%fw2, Hwd2⟩⟩, HR⟩
  ihave HH := (takeP (homeP c XW) 2 37 (by omega)) $$ HH
  icases HH with ⟨Hws2, HH⟩
  ihave HR := (takeFree (F := F) c 3 8 (by omega)) $$ HR
  icases HR with ⟨⟨Hwc3, ⟨%fw3, Hwd3⟩⟩, HR⟩
  ihave HH := (takeP (homeP c XW) 3 37 (by omega)) $$ HH
  icases HH with ⟨Hws3, HH⟩
  ihave HR := (takeFree (F := F) c 4 8 (by omega)) $$ HR
  icases HR with ⟨⟨Hwc4, ⟨%fw4, Hwd4⟩⟩, HR⟩
  ihave HH := (takeP (homeP c XW) 4 37 (by omega)) $$ HH
  icases HH with ⟨Hws4, HH⟩
  ihave HR := (takeFree (F := F) c 5 8 (by omega)) $$ HR
  icases HR with ⟨⟨Hwc5, ⟨%fw5, Hwd5⟩⟩, HR⟩
  ihave HH := (takeP (homeP c XW) 5 37 (by omega)) $$ HH
  icases HH with ⟨Hws5, HH⟩
  ihave HR := (takeFree (F := F) c 6 8 (by omega)) $$ HR
  icases HR with ⟨⟨Hwc6, ⟨%fw6, Hwd6⟩⟩, HR⟩
  ihave HH := (takeP (homeP c XW) 6 37 (by omega)) $$ HH
  icases HH with ⟨Hws6, HH⟩
  ihave HR := (takeFree (F := F) c 7 8 (by omega)) $$ HR
  icases HR with ⟨⟨Hwc7, ⟨%fw7, Hwd7⟩⟩, HR⟩
  ihave HH := (takeP (homeP c XW) 7 37 (by omega)) $$ HH
  icases HH with ⟨Hws7, HH⟩
  have hs0 : ∀ q, (Mxu.init : Mxu F).reg q 0 = none := fun q => by simp
  sl_unfold [cc0_fp8_head_topk]
  sl_exec_parts
  iclear HX HR
  sl_for (inv1 c X) $$ [Hcd Hsc HW Hxc0 Hxc1 Hxc2 Hxc3 Hxc4 Hxc5]
  case region =>
    intro t s'
    exact step1 c X i arg5 harg5 arg7 harg7 _ _ _ t s'
  · unfold inv1
    iexists fcd, fsc
    isplitr [Hcd Hsc HW Hxc0 Hxc1 Hxc2 Hxc3 Hxc4 Hxc5]
    · ipureintro
      exact ⟨fun y hy => absurd hy (by omega), fun y hy => absurd hy (by omega)⟩
    isplitl [Hcd]; · iexact Hcd
    isplitl [Hsc]; · iexact Hsc
    isplitl [HW]; · iexists W; iexact HW
    isplitl [Hxc0 Hxc1 Hxc2 Hxc3 Hxc4 Hxc5]
    · iapply (ico_0_6 (xflyP c X))
      isplitl [Hxc0]; · iexists fx0; iexact Hxc0
      isplitl [Hxc1]; · iexists fx1; iexact Hxc1
      isplitl [Hxc2]; · iexists fx2; iexact Hxc2
      isplitl [Hxc3]; · iexists fx3; iexact Hxc3
      isplitl [Hxc4]; · iexists fx4; iexact Hxc4
      iexists fx5; iexact Hxc5
    · rw [show Finset.range 0 = ∅ from rfl, bigSep_empty]
      iempintro
  irw [show Scf.trips (k0_t1_loop i).lb (k0_t1_loop i).ub (k0_t1_loop i).st = 6 from trips1 i]
  unfold inv1
  iintro %u1 ⟨%fC, %fS, %HCS, Hcd, Hsc, ⟨%W1, HW⟩, HXe, HX⟩
  obtain ⟨hC, hS⟩ := HCS
  have eC : fC = Cspec (F := F) X := funext fun y => hC y (y 0).isLt
  have eS : fS = Sspec (F := F) X := funext fun y => hS y (y 0).isLt
  clear hC hS
  subst eC eS
  iclear HXe
  ihave Hcd := (pointsTo_share (PosShare.mem_left_op_right fullShare)).1 $$ Hcd
  icases Hcd with ⟨HK, Hcd⟩
  sl_exec_parts
  ihave Hwv := (entails_of_eq (congrArg (fun g => (wvM.view.loc (c : Thread nD τ) ↦[wvM.view.set]{fullShare} g : sProp 𝕄)) (show wvM.view.writes (Elt F) wvM.view.junk [⟨Rect.whole S148x128, bodyRun.sl.dma0_6 c VS⟩] = VS from wv_landed c _ VS))) $$ Hwv
  ihave Hbv := (entails_of_eq (congrArg (fun g => (bvM.view.loc (c : Thread nD τ) ↦[bvM.view.set]{fullShare} g : sProp 𝕄)) (show bvM.view.writes (Elt F) bvM.view.junk [⟨Rect.whole S148x128, bodyRun.sl.dma0_7 c VB⟩] = VB from bv_landed c _ VB))) $$ Hbv
  ihave HR := (show slotP c 0 ((rslot 0).view.writes (Elt F) (rslot 0).view.junk [⟨Rect.whole S512x8192, bodyRun.sl.dma0_8 c XW⟩]) ⊢ slotP c 0 (ringT (F := F) XW 0) from slot_ring c XW 0 (rslot 0).view.junk) $$ Hwd0
  ihave HG := (ring_init c XW) $$ [Hwc0 Hws0 Hwc1 Hwc2 Hwc3 Hwc4 Hwc5 Hwc6 Hwc7 HH]
  · isplitl [Hwc0]; · iexact Hwc0
    isplitl [Hws0]; · iexact Hws0
    isplitr [HH]
    · iapply (ico_1_8 (flyP c XW))
      unfold flyP
      isplitl [Hwc1]; · iexists fw1; iexact Hwc1
      isplitl [Hwc2]; · iexists fw2; iexact Hwc2
      isplitl [Hwc3]; · iexists fw3; iexact Hwc3
      isplitl [Hwc4]; · iexists fw4; iexact Hwc4
      isplitl [Hwc5]; · iexists fw5; iexact Hwc5
      isplitl [Hwc6]; · iexists fw6; iexact Hwc6
      iexists fw7; iexact Hwc7
    · iexact HH
  sl_for (inv3 c XW (Cspec (F := F) X) arg5 fullShare.right VS VB (Sspec (F := F) X)) $$ [HO Hcd Hwv Hbv Hsc Hs0 HW Hs1 HR HG]
  case region =>
    intro t s'
    exact t3trip c XW (Cspec (F := F) X) i arg5 harg5 arg7 harg7 _ (congrArg (BitVec.ofNat 32) hi) _ t s' fullShare.right VS VB (Sspec (F := F) X)
  · unfold inv3 tripRes
    iexists fO, _, _
    isplitr [HO Hcd Hwv Hbv Hsc Hs0 HW Hs1 HR HG]
    rotate_left
    · isplitr [Hs1 HR HG]
      · isplitl [HO]; · iexact HO
        isplitl [Hcd]; · iexact Hcd
        isplitl [Hwv]; · iexact Hwv
        isplitl [Hbv]; · iexact Hbv
        isplitl [Hsc]; · iexact Hsc
        isplitl [Hs0]; · iexact Hs0
        iexists _; iexact HW
      isplitl [Hs1]; · iexact Hs1
      isplitl [HR]; · iexact HR
      iexact HG
    · ipureintro
      exact ⟨init_MS XW c (rslot 0).view.junk _ _, fun y hy => absurd hy (by omega), fun h => absurd h (by omega)⟩
  irw [show Scf.trips (k0_t3_loop i).lb (k0_t3_loop i).ub (k0_t3_loop i).st = 18 from trips3 i]
  unfold inv3 tripRes
  iintro %s3 ⟨%fO3, %fa3, %fb3, %H3, ⟨HO, Hcd, Hwv, Hbv, Hsc, Hs0, ⟨%W3, HW⟩⟩, Hs1, HR, HG⟩
  have M3 : MS s3 0 1 (fun q => some (tileW XW 36 0 q)) 0 fits_0_192 none 48 fits_48_192 (some (accE XW (Cspec (F := F) X) 35)) := H3.1
  have L3 : LP arg5 XW (Cspec (F := F) X) (Sspec (F := F) X) VS VB fO3 True 35 0 := ⟨H3.2.1, fun _ => H3.2.2 (by omega)⟩
  clear H3
  have hs3 := M3.emp
  ihave HG := (entails_of_eq (congrArg (ringS c XW (2 * 18)) (show hiA (2 * 18) = 37 by decide))) $$ HG
  sl_exec_parts (disch := first | assumption | (mxu_pushok_peel; done) | (mxu_pushok_peel; exact Mxu.pushOk_of_none _ _ _ _ (hs3 _)))
  sl_for (inv13 c XW (Cspec (F := F) X) arg5 fullShare.right VS VB (Sspec (F := F) X)) $$ [HO Hcd Hwv Hbv Hsc Hs1 HW HR]
  case region =>
    intro t s'
    exact step13 c XW (Cspec (F := F) X) i arg5 harg5 arg7 harg7 _ _ _ _ _ t s' fullShare.right VS VB (Sspec (F := F) X)
  · unfold inv13 tripRes
    iexists fO3, _
    isplitr [HO Hcd Hwv Hbv Hsc Hs1 HW HR]
    rotate_left
    · isplitr [HR]
      · isplitl [HO]; · iexact HO
        isplitl [Hcd]; · iexact Hcd
        isplitl [Hwv]; · iexact Hwv
        isplitl [Hbv]; · iexact Hbv
        isplitl [Hsc]; · iexact Hsc
        isplitl [Hs1]; · iexact Hs1
        iexists W3; iexact HW
      · iexact HR
    · ipureintro
      have H5 := five_MS XW (Cspec (F := F) X) 36 (by decide) M3 (lhs36 (Cspec (F := F) X) 0 (k0_off281_inb 0)) (lhs36 (Cspec (F := F) X) 1 (k0_off281_inb 1)) (lhs36 (Cspec (F := F) X) 2 (k0_off281_inb 2)) (lhs36 (Cspec (F := F) X) 3 (k0_off281_inb 3)) (lhs36 (Cspec (F := F) X) 4 (k0_off281_inb 4))
        (tile360 XW 0 (k0_off282_inb 0)) (tile361 XW 0 (k0_off283_inb 0)) (tile360 XW 1 (k0_off282_inb 1)) (tile361 XW 1 (k0_off283_inb 1)) (tile360 XW 2 (k0_off282_inb 2)) (tile361 XW 2 (k0_off283_inb 2)) (tile360 XW 3 (k0_off282_inb 3)) (tile361 XW 3 (k0_off283_inb 3)) (tile360 XW 4 (k0_off282_inb 4)) (tile361 XW 4 (k0_off283_inb 4))
      refine ⟨three_MS XW (Cspec (F := F) X) 36 (by decide) H5 (lhs36 (Cspec (F := F) X) 5 (k0_off281_inb 5)) (lhs36 (Cspec (F := F) X) 6 (k0_off281_inb 6)) (lhs36 (Cspec (F := F) X) 7 (k0_off281_inb 7))
        (tile360 XW 5 (k0_off282_inb 5)) (tile361 XW 5 (k0_off283_inb 5)) (tile360 XW 6 (k0_off282_inb 6)) (tile361 XW 6 (k0_off283_inb 6)) (tile368 XW k0_off284_inb) (tile369 XW k0_off285_inb), L3, fun hl => ?_⟩
      exact s_block s1M.view _ XW (Cspec (F := F) X) 35 H5.read0 H5.read1
  irw [show Scf.trips (k0_t13_loop i).lb (k0_t13_loop i).ub (k0_t13_loop i).st = 2 from trips13 i]
  unfold inv13 tripRes
  iintro %s13 ⟨%fO13, %fb13, %H13, ⟨HO, Hcd, Hwv, Hbv, Hsc, Hs1, ⟨%W13, HW⟩⟩, HR⟩
  obtain ⟨M13, L13, E13⟩ := H13
  have hs13 := M13.emp
  sl_exec_parts (disch := first | assumption | (mxu_pushok_peel; done) | (mxu_pushok_peel; exact Mxu.pushOk_of_none _ _ _ _ (hs13 _)))
  have ML := last_MS XW (Cspec (F := F) X) M13
    (load_lhs (Cspec (F := F) X) inb_S192x8192_S192x256_0_6144 24 (by omega) rfl) (tile36 XW ![4, 0, 6400] (by decide) 25 (by omega) 0 rfl) (tile36 XW ![4, 256, 6400] (by decide) 25 (by omega) 1 rfl)
    (load_lhs (Cspec (F := F) X) inb_S192x8192_S192x256_0_6400 25 (by omega) rfl) (tile36 XW ![4, 0, 6656] (by decide) 26 (by omega) 0 rfl) (tile36 XW ![4, 256, 6656] (by decide) 26 (by omega) 1 rfl)
    (load_lhs (Cspec (F := F) X) inb_S192x8192_S192x256_0_6656 26 (by omega) rfl) (tile36 XW ![4, 0, 6912] (by decide) 27 (by omega) 0 rfl) (tile36 XW ![4, 256, 6912] (by decide) 27 (by omega) 1 rfl)
    (load_lhs (Cspec (F := F) X) inb_S192x8192_S192x256_0_6912 27 (by omega) rfl) (tile36 XW ![4, 0, 7168] (by decide) 28 (by omega) 0 rfl) (tile36 XW ![4, 256, 7168] (by decide) 28 (by omega) 1 rfl)
    (load_lhs (Cspec (F := F) X) inb_S192x8192_S192x256_0_7168 28 (by omega) rfl) (tile36 XW ![4, 0, 7424] (by decide) 29 (by omega) 0 rfl) (tile36 XW ![4, 256, 7424] (by decide) 29 (by omega) 1 rfl)
    (load_lhs (Cspec (F := F) X) inb_S192x8192_S192x256_0_7424 29 (by omega) rfl) (tile36 XW ![4, 0, 7680] (by decide) 30 (by omega) 0 rfl) (tile36 XW ![4, 256, 7680] (by decide) 30 (by omega) 1 rfl)
    (load_lhs (Cspec (F := F) X) inb_S192x8192_S192x256_0_7680 30 (by omega) rfl) (tile36 XW ![4, 0, 7936] (by decide) 31 (by omega) 0 rfl) (tile36 XW ![4, 256, 7936] (by decide) 31 (by omega) 1 rfl)
    (load_lhs (Cspec (F := F) X) inb_S192x8192_S192x256_0_7936 31 (by omega) rfl)
  have hd : (bodyRun.sl.k0_mxu553 c X XW s13).Drained := (ML.swap.pops (by decide)).drained (by decide)
  sl_for (inv15 c XW (Cspec (F := F) X) arg5 fullShare.right VS VB (Sspec (F := F) X)) $$ [HO Hcd Hwv Hbv Hsc Hs0 HW]
  case region =>
    intro t s'
    exact step15 c XW (Cspec (F := F) X) i arg5 harg5 arg7 harg7 _ t s' fullShare.right VS VB (Sspec (F := F) X)
  · unfold inv15 tripRes
    iexists _, _
    isplitr [HO Hcd Hwv Hbv Hsc Hs0 HW]
    rotate_left
    · isplitl [HO]; · iexact HO
      isplitl [Hcd]; · iexact Hcd
      isplitl [Hwv]; · iexact Hwv
      isplitl [Hbv]; · iexact Hbv
      isplitl [Hsc]; · iexact Hsc
      isplitl [Hs0]; · iexact Hs0
      iexists W13; iexact HW
    · ipureintro
      refine ⟨?_, fun _ => s_block s0M.view _ XW (Cspec (F := F) X) 36 ML.swap.read0 ML.swap.read1⟩
      obtain ⟨io, ix, iw, is, h⟩ := selE (F := F) arg5 fO13 fb13 (Sspec (F := F) X) VS VB
      exact LP.next (LP.sel L13 E13 h) trivial
  irw [show Scf.trips (k0_t15_loop i).lb (k0_t15_loop i).ub (k0_t15_loop i).st = 3 from trips15 i]
  unfold inv15 tripRes
  iintro %s15 ⟨%fO15, %fa15, %H15, ⟨HO, Hcd, Hwv, Hbv, Hsc, Hs0, ⟨%W15, HW⟩⟩⟩
  have L15 := H15.1
  clear H15
  sl_exec_parts (disch := assumption)
  sl_step
  unfold postP argsP scrP
  iexists fO15, _
  isplitr
  rotate_left
  · ihave HG := (ring_end XW c) $$ [HR HG]
    · isplitl [HR]; · iexact HR
      iexact HG
    icases HG with ⟨HR, HH⟩
    ihave Hcd := (pointsTo_share (PosShare.mem_left_op_right fullShare)).2 $$ [HK Hcd]
    · isplitl [HK]; · iexact HK
      iexact Hcd
    isplitl [HX HR HH HS HB Hsc0 Hsc1 Hoc]
    · isplitl [HX]; · iexact HX
      isplitl [HR]; · iexact HR
      isplitl [HH]; · iexact HH
      isplitl [HS]; · iexact HS
      isplitl [HB]; · iexact HB
      isplitl [Hsc0]; · iexact Hsc0
      isplitl [Hsc1]; · iexact Hsc1
      iexact Hoc
    isplitl [Hcd Hwv Hbv Hsc Hs0 Hs1]
    · isplitl [Hcd]; · iexists _; iexact Hcd
      isplitl [Hwv]; · iexists _; iexact Hwv
      isplitl [Hbv]; · iexists _; iexact Hbv
      isplitl [Hsc]; · iexists _; iexact Hsc
      isplitl [Hs0]; · iexists _; iexact Hs0
      iexists _; iexact Hs1
    isplitl [Hco]
    · ihave Hco := (entails_of_eq (congrArg (fun g => (coM.view.loc (c : Thread nD τ) ↦[coM.view.set]{fullShare} g : sProp 𝕄)) (show coM.view.writes (Elt F) fco [⟨Rect.whole S192x8192, bodyRun.sl.dma0_16 c X⟩] = Cspec (F := F) X from co_landed fco (Cspec (F := F) X)))) $$ Hco
      iexact Hco
    isplitl [HO]; · iexact HO
    isplitl [H7]; · iexact H7
    iexists _; iexact HW
  · ipureintro
    exact ⟨fun y => (L15.next trivial : LP arg5 XW (Cspec (F := F) X) (Sspec (F := F) X) VS VB fO15 True 37 0).1 y (by have : (y 1).val < 18944 := (y 1).isLt; omega), scale_row arg7 f7 X _ _⟩

end Body

end Cert.Proof.KernelIdeal
-- ==== Proof.IdealRun.lean ====
/- The run of the program: what each array holds at the end. -/
module

public import proofs.«01_k».proof.Proof.IdealBody
public import proofs.«01_k».proof.Proof.Gen.KernelIdeal.Frame

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Unit (MS Rows Tile Lhs dep step accs pops)

variable {F : FTy → Type} [FloatOps F]
local notation "𝕄" => MT nD τ sig Unit (Elt F) ℕ (UU nD τ) ℕ
/-! ## Arrays and their blocks -/

omit [FloatOps F] in
theorem range_fin (n : ℕ) (P : ℕ → sProp 𝕄) : bigSep (Finset.range n) P = bigSep Finset.univ (fun b : Fin n => P b.val) := by
  rw [show Finset.range n = (Finset.univ : Finset (Fin n)).map Fin.valEmbedding from by
    ext x; simp only [Finset.mem_range, Finset.mem_map, Finset.mem_univ, true_and, Fin.valEmbedding_apply]
    exact ⟨fun h => ⟨⟨x, h⟩, rfl⟩, fun ⟨a, h⟩ => h ▸ a.isLt⟩, bigSep_map]
  rfl

abbrev GX (b : Fin 6) : Finset S192x8192.Idx := (Rect.unit (s := S192x8192) (strOff b.val) S32x8192.size (strOff_inb b.val)).set
abbrev GW (b : Fin 37) : Finset S18944x8192.Idx := (Rect.unit (s := S18944x8192) (blkOff b.val) S512x8192.size (blkOff_inb b.val)).set
abbrev GR (b : Fin 8) : Finset S8x512x8192.Idx := (Rect.unit (s := S8x512x8192) (slotOff b.val) S1x512x8192.size (slotOff_inb b.val)).set

theorem xstrp_set (b : Fin 6) : (xstrp b.val).view.set = GX b := View.set_slice_whole _ _
theorem xblk_set (b : Fin 6) : (xblk b.val).view.set = GX b := View.set_slice_whole _ _
theorem wblk_set (b : Fin 37) : (wblk b.val).view.set = GW b := View.set_slice_whole _ _
theorem rslot_set (b : Fin 8) : (rslot b.val).view.set = GR b := (View.set_reshape _ _).trans (View.set_slice_whole _ _)

theorem mem_GX (b : Fin 6) (y : S192x8192.Idx) : y ∈ GX b ↔ (y 0).val / 32 = b.val := by
  rw [Rect.mem_set_unit]
  have h1 : (y 1).val < 8192 := (y 1).isLt
  have hb := b.isLt
  constructor
  · intro H; have a0 : 32 * (b.val % 6) ≤ (y 0).val ∧ (y 0).val < 32 * (b.val % 6) + 32 := H 0; omega
  · intro H i; fin_cases i
    · show 32 * (b.val % 6) ≤ (y 0).val ∧ (y 0).val < 32 * (b.val % 6) + 32; omega
    · show 0 ≤ (y 1).val ∧ (y 1).val < 0 + 8192; omega
theorem mem_GW (b : Fin 37) (y : S18944x8192.Idx) : y ∈ GW b ↔ (y 0).val / 512 = b.val := by
  rw [Rect.mem_set_unit]
  have h1 : (y 1).val < 8192 := (y 1).isLt
  have hb := b.isLt
  constructor
  · intro H; have a0 : 512 * (b.val % 37) ≤ (y 0).val ∧ (y 0).val < 512 * (b.val % 37) + 512 := H 0; omega
  · intro H i; fin_cases i
    · show 512 * (b.val % 37) ≤ (y 0).val ∧ (y 0).val < 512 * (b.val % 37) + 512; omega
    · show 0 ≤ (y 1).val ∧ (y 1).val < 0 + 8192; omega
theorem mem_GR (b : Fin 8) (y : S8x512x8192.Idx) : y ∈ GR b ↔ (y 0).val = b.val := by
  rw [Rect.mem_set_unit]
  have h1 : (y 1).val < 512 := (y 1).isLt
  have h2 : (y 2).val < 8192 := (y 2).isLt
  have hb := b.isLt
  constructor
  · intro H; have a0 : b.val % 8 ≤ (y 0).val ∧ (y 0).val < b.val % 8 + 1 := H 0; omega
  · intro H i; fin_cases i
    · show b.val % 8 ≤ (y 0).val ∧ (y 0).val < b.val % 8 + 1; omega
    · show 0 ≤ (y 1).val ∧ (y 1).val < 0 + 512; omega
    · show 0 ≤ (y 2).val ∧ (y 2).val < 0 + 8192; omega

theorem GX_disjoint : ∀ b b' : Fin 6, b ≠ b' → Disjoint (GX b) (GX b') := by
  intro b b' hne; rw [Finset.disjoint_left]; intro y hy hy'; rw [mem_GX] at hy hy'; exact hne (Fin.ext (hy.symm.trans hy'))
theorem GX_cover : (Finset.univ : Finset (Fin 6)).biUnion GX = Finset.univ := by
  ext y; simp only [Finset.mem_biUnion, Finset.mem_univ, true_and, iff_true]
  have h : (y 0).val < 192 := (y 0).isLt
  exact ⟨⟨(y 0).val / 32, by omega⟩, by rw [mem_GX]⟩
theorem GW_disjoint : ∀ b b' : Fin 37, b ≠ b' → Disjoint (GW b) (GW b') := by
  intro b b' hne; rw [Finset.disjoint_left]; intro y hy hy'; rw [mem_GW] at hy hy'; exact hne (Fin.ext (hy.symm.trans hy'))
theorem GW_cover : (Finset.univ : Finset (Fin 37)).biUnion GW = Finset.univ := by
  ext y; simp only [Finset.mem_biUnion, Finset.mem_univ, true_and, iff_true]
  have h : (y 0).val < 18944 := (y 0).isLt
  exact ⟨⟨(y 0).val / 512, by omega⟩, by rw [mem_GW]⟩
theorem GR_disjoint : ∀ b b' : Fin 8, b ≠ b' → Disjoint (GR b) (GR b') := by
  intro b b' hne; rw [Finset.disjoint_left]; intro y hy hy'; rw [mem_GR] at hy hy'; exact hne (Fin.ext (hy.symm.trans hy'))
theorem GR_cover : (Finset.univ : Finset (Fin 8)).biUnion GR = Finset.univ := by
  ext y; simp only [Finset.mem_biUnion, Finset.mem_univ, true_and, iff_true]
  have h : (y 0).val < 8 := (y 0).isLt
  exact ⟨⟨(y 0).val, h⟩, by rw [mem_GR]⟩

/-- The rows are their strips. -/
theorem x_eq (c : Dev nD) (X : Buf (Elt F) (xM.view.loc (c : Thread nD τ))) :
    (((c : Thread nD τ).loc main_v0) ↦{fullShare} X : sProp 𝕄) = bigSep (Finset.range 6) (xhomeP c X) := by
  rw [range_fin, Ring.pointsTo_blocks (ℓ := (c : Thread nD τ).loc main_v0) GX GX_disjoint GX_cover]
  exact bigSep_congr fun b _ => by rw [← xblk_set]; rfl
/-- The weights are their blocks. -/
theorem w_eq (c : Dev nD) (XW : Buf (Elt F) (wM.view.loc (c : Thread nD τ))) :
    (((c : Thread nD τ).loc main_arg1) ↦{fullShare} XW : sProp 𝕄) = bigSep (Finset.range 37) (homeP c XW) := by
  rw [range_fin, Ring.pointsTo_blocks (ℓ := (c : Thread nD τ).loc main_arg1) GW GW_disjoint GW_cover]
  exact bigSep_congr fun b _ => by rw [← wblk_set]; rfl

omit [FloatOps F] in
theorem xstrP_eq (c : Dev nD) (s : Fin 6) (f) : xstrP c s.val f = (((c : Thread nD τ).loc cc0_scratch0) ↦[GX s]{fullShare} f : sProp 𝕄) :=
  congrArg (fun S => (_ ↦[S]{fullShare} f : sProp 𝕄)) (xstrp_set s)
omit [FloatOps F] in
theorem slotP_eq (c : Dev nD) (s : Fin 8) (f) : slotP c s.val f = (((c : Thread nD τ).loc cc0_scratch2) ↦[GR s]{fullShare} f : sProp 𝕄) :=
  congrArg (fun S => (_ ↦[S]{fullShare} f : sProp 𝕄)) (rslot_set s)

omit [FloatOps F] in
theorem mono_each {n : ℕ} {Φ Ψ : Fin n → sProp 𝕄} (h : ∀ b, Φ b ⊢ Ψ b) : bigSep Finset.univ Φ ⊢ bigSep Finset.univ Ψ := bigSep_mono fun b _ => h b

theorem xb_split (c : Dev nD) : iprop(∃ f : Buf (Elt F) ((c : Thread nD τ).loc cc0_scratch0), ((c : Thread nD τ).loc cc0_scratch0) ↦{fullShare} f)
    ⊢ (bigSep (Finset.range 6) (fun u => iprop(∃ f, xstrP c u f)) : sProp 𝕄) := by
  rw [range_fin]
  iintro ⟨%f, H⟩
  ihave H2 := (entails_of_eq (Ring.pointsTo_blocks (Ix := Unit) (Name := ℕ) (U := UU nD τ) (Lvl := ℕ) (q := fullShare) (ℓ := (c : Thread nD τ).loc cc0_scratch0) GX GX_disjoint GX_cover f)) $$ H
  iapply (mono_each (Φ := fun b => (((c : Thread nD τ).loc cc0_scratch0) ↦[GX b]{fullShare} f : sProp 𝕄)) fun b => by
    iintro H; iexists f; iapply (entails_of_eq (xstrP_eq c b f).symm); iexact H)
  iexact H2
theorem xb_join (c : Dev nD) (f0 : Buf (Elt F) ((c : Thread nD τ).loc cc0_scratch0)) : (bigSep (Finset.range 6) (fun u => iprop(∃ f, xstrP c u f)) : sProp 𝕄)
    ⊢ iprop(∃ f : Buf (Elt F) ((c : Thread nD τ).loc cc0_scratch0), ((c : Thread nD τ).loc cc0_scratch0) ↦{fullShare} f) := by
  rw [range_fin]
  refine BIBase.Entails.trans ?_ (Ring.pointsTo_blocks_join_exists (ℓ := (c : Thread nD τ).loc cc0_scratch0) GX GX_disjoint GX_cover f0)
  exact mono_each fun b => by
    iintro ⟨%f, H⟩; iexists f; iapply (entails_of_eq (xstrP_eq c b f)); iexact H
theorem rg_split (c : Dev nD) : iprop(∃ f : Buf (Elt F) ((c : Thread nD τ).loc cc0_scratch2), ((c : Thread nD τ).loc cc0_scratch2) ↦{fullShare} f)
    ⊢ (bigSep (Finset.range 8) (fun u => iprop(∃ f, slotP c u f)) : sProp 𝕄) := by
  rw [range_fin]
  iintro ⟨%f, H⟩
  ihave H2 := (entails_of_eq (Ring.pointsTo_blocks (Ix := Unit) (Name := ℕ) (U := UU nD τ) (Lvl := ℕ) (q := fullShare) (ℓ := (c : Thread nD τ).loc cc0_scratch2) GR GR_disjoint GR_cover f)) $$ H
  iapply (mono_each (Φ := fun b => (((c : Thread nD τ).loc cc0_scratch2) ↦[GR b]{fullShare} f : sProp 𝕄)) fun b => by
    iintro H; iexists f; iapply (entails_of_eq (slotP_eq c b f).symm); iexact H)
  iexact H2
theorem rg_join (c : Dev nD) (f0 : Buf (Elt F) ((c : Thread nD τ).loc cc0_scratch2)) : (bigSep (Finset.range 8) (fun u => iprop(∃ f, slotP c u f)) : sProp 𝕄)
    ⊢ iprop(∃ f : Buf (Elt F) ((c : Thread nD τ).loc cc0_scratch2), ((c : Thread nD τ).loc cc0_scratch2) ↦{fullShare} f) := by
  rw [range_fin]
  refine BIBase.Entails.trans ?_ (Ring.pointsTo_blocks_join_exists (ℓ := (c : Thread nD τ).loc cc0_scratch2) GR GR_disjoint GR_cover f0)
  exact mono_each fun b => by
    iintro ⟨%f, H⟩; iexists f; iapply (entails_of_eq (slotP_eq c b f)); iexact H

/-! ## The kernel's own semaphores -/

abbrev osem : Fin 17 → SemLoc sig :=
  ![.dma (xsm 0).sem, .dma (xsm 1).sem, .dma (xsm 2).sem, .dma (xsm 3).sem, .dma (xsm 4).sem, .dma (xsm 5).sem,
    .dma (csm 0).sem, .dma (csm 1).sem, .dma (csm 2).sem, .dma (csm 3).sem, .dma (csm 4).sem, .dma (csm 5).sem, .dma (csm 6).sem, .dma (csm 7).sem,
    .dma (ssm 0).sem, .dma (ssm 1).sem, .dma cc0_scratch11.sem]
theorem ownSemFacts : Pipeline.OwnSemFacts spec0 osem := by decide

open Idealize.ShloMosaic.Pipeline (Dat BodyObligation)

omit [FloatOps F] in
theorem assocSep (P Q R : sProp 𝕄) : iprop((P ∗ Q) ∗ R) = iprop(P ∗ Q ∗ R) :=
  equiv_iff.mp ⟨BI.sep_assoc, BI.sep_assoc'⟩
omit [FloatOps F] in
theorem range6 (P : ℕ → sProp 𝕄) : bigSep (Finset.range 6) P = iprop(P 0 ∗ P 1 ∗ P 2 ∗ P 3 ∗ P 4 ∗ P 5) := by
  rw [range_fin, bigSep_univ_eq_bigSepL [(0 : Fin 6), 1, 2, 3, 4, 5] (by decide) (by decide)]; rfl
omit [FloatOps F] in
theorem range8 (P : ℕ → sProp 𝕄) : bigSep (Finset.range 8) P = iprop(P 0 ∗ P 1 ∗ P 2 ∗ P 3 ∗ P 4 ∗ P 5 ∗ P 6 ∗ P 7) := by
  rw [range_fin, bigSep_univ_eq_bigSepL [(0 : Fin 8), 1, 2, 3, 4, 5, 6, 7] (by decide) (by decide)]; rfl

omit [FloatOps F] in
/-- The kernel's own cells at zero, array by array. -/
theorem ownSems0_eq (c : Dev nD) : (Pipeline.ownSems0 (Ix := Unit) (Name := ℕ) (U := UU nD τ) (Lvl := ℕ) (Val := Elt F) (τ := τ) osem c : sProp 𝕄)
    = iprop(bigSep (Finset.range 6) (xcellP (F := F) c) ∗ bigSep (Finset.range 8) (cellP (F := F) c) ∗ scellP (F := F) c 0 ∗ scellP (F := F) c 1 ∗ ocellP (F := F) c) := by
  rw [Pipeline.ownSems0_eq_of_list c osem [0, 1, 2, 3, 4, 5, 6, 7, 8, 9, 10, 11, 12, 13, 14, 15, 16] (by decide) (by decide), range6, range8]
  simp only [assocSep]
  rfl

omit [FloatOps F] in
/-- A memref of a whole buffer is held as the buffer is. -/
theorem holds_whole (c : Dev nD) (b : Ref sig .tc) (f : Buf (Elt F) ((c : Thread nD τ).loc b)) :
    ((View.whole b).loc (c : Thread nD τ) ↦[(View.whole b).set]{fullShare} f : sProp 𝕄) = (((c : Thread nD τ).loc b) ↦{fullShare} f) := by
  rw [View.set_whole]

/-! ## The pipeline's proof data -/

variable (m : (ℓ : Loc nD τ sig) → Buf (Elt F) ℓ) (ρ : Dev nD → PrngReg)

/-- The rows, the weights, the columns' scales and biases as the region finds them. -/
abbrev rows (c : Dev nD) : Buf (Elt F) (xM.view.loc (c : Thread nD τ)) := V m c main_v0
abbrev wts (c : Dev nD) : Buf (Elt F) (wM.view.loc (c : Thread nD τ)) := V m c main_arg1
abbrev wsc (c : Dev nD) : Buf (Elt F) (wsM.view.loc (c : Thread nD τ)) := V m c main_v1
abbrev bia (c : Dev nD) : Buf (Elt F) (bsM.view.loc (c : Thread nD τ)) := V m c main_v2
/-- The logits the run leaves. -/
def logits (c : Dev nD) : S192x18944.Idx → Elt F .f32 :=
  fun y => lgt (wts m c) (Cspec (F := F) (rows m c)) (Sspec (F := F) (rows m c)) (wsc m c) (bia m c) y

/-- The region invariant: the arguments home, the scratch at anything; after the point the codes are at the specification's. -/
def Φ (c : Dev nD) (t : Fin (cfg0.N + 1)) : sProp 𝕄 :=
  iprop(argsP c (rows m c) (wts m c) (wsc m c) (bia m c) ∗ scrP (F := F) c ∗ ∃ f, ⌜t ≠ 0 → f = Cspec (F := F) (rows m c)⌝ ∗ holdsP c coM f)

def dats (_ : Fin 1) (c : Dev nD) : Dat τ (Elt F) Unit ℕ (UU nD τ) ℕ cfg0 c where
  A w := V m c (Pipeline.arrRef spec0 w)
  after w t := match w with
    | ⟨0, _⟩ => logits m c
    | ⟨1, _⟩ => scaleO (F := F) (rows m c)
  Φ t := Φ m c t
  q _ := fullShare
  owed _ := 0

theorem after_w0 (c : Dev nD) (t : Fin cfg0.N) : (dats m 0 c).after 0 t = logits m c := by dsimp only [dats]
theorem after_w1 (c : Dev nD) (t : Fin cfg0.N) : (dats m 0 c).after 1 t = scaleO (F := F) (rows m c) := by dsimp only [dats]

/-! ## The body obligation -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)

theorem defs_tc : (defs₀ (F := F)) .tc cfg0.body
    = fun a => cc0_fp8_head_topk (F := F) (grid0.coords a.1) xM (Memref.isWhole_whole _) wM (Memref.isWhole_whole _) wsM (Memref.isWhole_whole _) bsM (Memref.isWhole_whole _) (win0_0.stage (a.2 0)) (hstage0_0 ((a.2 0).cast nbuf0_0)) coM (Memref.isWhole_whole _) (win0_1.stage (a.2 1)) (hstage0_1 ((a.2 1).cast nbuf0_1)) xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 := rfl
theorem prog_eq (t : Fin cfg0.N) : (defs₀ (F := F)) .tc cfg0.body (cfg0.bodyArgs t (cfg0.slots t))
    = cc0_fp8_head_topk (F := F) (grid0.coords t) xM (Memref.isWhole_whole _) wM (Memref.isWhole_whole _) wsM (Memref.isWhole_whole _) bsM (Memref.isWhole_whole _) (st0_0 t) (hst0 t) coM (Memref.isWhole_whole _) (st0_1 t) (hst1 t) xbM (Memref.isWhole_whole _) cdM (Memref.isWhole_whole _) rgM (Memref.isWhole_whole _) wvM (Memref.isWhole_whole _) bvM (Memref.isWhole_whole _) scM (Memref.isWhole_whole _) s0M (Memref.isWhole_whole _) s1M (Memref.isWhole_whole _) cc0_scratch8 cc0_scratch9 cc0_scratch10 cc0_scratch11 :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0, after_w1]
  rw [show (dats m 0 c).Φ t.castSucc = Φ m c t.castSucc from rfl, show (dats m 0 c).Φ t.succ = Φ m c t.succ from rfl]
  unfold Dat.owesAt Pipeline.owesWithin
  rw [show (dats m 0 c).owed t.castSucc = 0 from rfl, show (dats m 0 c).owed t.succ = 0 from rfl]
  unfold owns Φ
  iintro ⟨⟨HA, HS, ⟨%fc, -, HC⟩⟩, ⟨%W, -, HW⟩, ⟨%d0, %g0, %hg0, H5⟩, ⟨%d1, %g1, -, H7⟩⟩
  sl_rw [prog_eq t]
  iapply (wp_wand_r Idealize.ShloMosaic.frame (wpE (defs₀ (F := F)) 𝒱₀ (c : Thread nD τ) none) Set.univ (Q := fun _ => postP c (rows m c) (wts m c) (wsc m c) (bia m c) (st0_0 t) (st0_1 t)))
  isplitl [HA HS HC HW H5 H7]
  · iapply (bodyRun c (rows m c) (wts m c) (wsc m c) (bia m c) (grid0.coords t) (st0_0 t) (hst0 t) (st0_1 t) (hst1 t))
    unfold preP
    isplitl [HA]; · iexact HA
    isplitl [HS]; · iexact HS
    isplitl [HC]; · iexists fc; iexact HC
    isplitl [H5]; · iexists g0; iexact H5
    isplitl [H7]; · iexists g1; iexact H7
    iexists W; iexact HW
  iintro %u HP
  unfold postP
  icases HP with ⟨%f5, %f7, %h57, HA, HS, HC, H5, H7, ⟨%W', HW⟩⟩
  isplitl [HA HS HC]
  · isplitl [HA]; · iexact HA
    isplitl [HS]; · iexact HS
    iexists _; isplitr; · ipureintro; exact fun _ => rfl
    iexact HC
  isplitl [HW]
  · iexists W'; isplitr; · ipureintro; exact fun _ _ => Or.inl trivial
    iexact HW
  isplitl [H5]
  · iexists _; isplitr; · ipureintro; exact funext h57.1
    iexact H5
  iexists _; isplitr; · ipureintro; exact h57.2
  iexact H7

/-! ## The run -/

/-- What the body never holds: the other arguments. -/
def restP (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3))
/-- What the body takes beside its scratch and semaphores. -/
def inP (c : Dev nD) : sProp 𝕄 :=
  iprop(bigSep (Finset.range 6) (xhomeP c (rows m c)) ∗ bigSep (Finset.range 37) (homeP c (wts m c)) ∗ holdsP c wsM (wsc m c) ∗ holdsP c bsM (bia m c)
    ∗ (∃ f, holdsP c coM f) ∗ Pipeline.ownSems0 osem c)
/-- What of it is read off at the end. -/
def outP (c : Dev nD) : sProp 𝕄 :=
  iprop((((c : Thread nD τ).loc main_arg1) ↦{fullShare} V m c main_arg1) ∗ (((c : Thread nD τ).loc main_v3_1) ↦{fullShare} Cspec (F := F) (rows m c)))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_v3_1) = Cspec (F := F) (rows m c)
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem xdone_eq (c : Dev nD) (X : Buf (Elt F) (xM.view.loc (c : Thread nD τ))) : bigSep (Finset.range 6) (xdoneP c X)
    = (iprop(bigSep (Finset.range 6) (xcellP (F := F) c) ∗ bigSep (Finset.range 6) (fun u => iprop(∃ f, xstrP c u f)) ∗ bigSep (Finset.range 6) (xhomeP c X)) : sProp 𝕄) :=
  (bigSep_sep _ _ _).trans (congrArg (fun R : sProp 𝕄 => iprop(bigSep (Finset.range 6) (xcellP (F := F) c) ∗ R)) (bigSep_sep _ _ _))
theorem free_eq (c : Dev nD) : bigSep (Finset.range 8) (freeP (F := F) c)
    = (iprop(bigSep (Finset.range 8) (cellP (F := F) c) ∗ bigSep (Finset.range 8) (fun u => iprop(∃ f, slotP c u f))) : sProp 𝕄) := bigSep_sep _ _ _

theorem args_in (c : Dev nD) : iprop(inP m c ∗ Pipeline.scopedRest (Ix := Unit) (Name := ℕ) (U := UU nD τ) (Lvl := ℕ) (Val := Elt F) spec0 c) ⊢ Φ m c 0 := by
  unfold inP Φ argsP scrP
  rw [scopedRest0_eq, ownSems0_eq]
  rw [xdone_eq, free_eq]
  iintro ⟨⟨HX, HH, HS, HB, ⟨%fc, HC⟩, HxC, HcC, H0, H1, Ho⟩, K0, ⟨%f1, K1⟩, K2, ⟨%f3, K3⟩, ⟨%f4, K4⟩, ⟨%f5, K5⟩, ⟨%f6, K6⟩, ⟨%f7, K7⟩⟩
  ihave K0 := (xb_split c) $$ K0
  ihave K2 := (rg_split c) $$ K2
  isplitl [HX HxC K0 HcC K2 HH HS HB H0 H1 Ho]
  · isplitl [HX HxC K0]
    · isplitl [HxC]; · iexact HxC
      isplitl [K0]; · iexact K0
      iexact HX
    isplitl [HcC K2]
    · isplitl [HcC]; · iexact HcC
      iexact K2
    isplitl [HH]; · iexact HH
    isplitl [HS]; · iexact HS
    isplitl [HB]; · iexact HB
    isplitl [H0]; · iexact H0
    isplitl [H1]; · iexact H1
    iexact Ho
  isplitl [K1 K3 K4 K5 K6 K7]
  · isplitl [K1]; · iexists f1; iapply (entails_of_eq (holds_whole c cc0_scratch1 f1).symm); iexact K1
    isplitl [K3]; · iexists f3; iapply (entails_of_eq (holds_whole c cc0_scratch3 f3).symm); iexact K3
    isplitl [K4]; · iexists f4; iapply (entails_of_eq (holds_whole c cc0_scratch4 f4).symm); iexact K4
    isplitl [K5]; · iexists f5; iapply (entails_of_eq (holds_whole c cc0_scratch5 f5).symm); iexact K5
    isplitl [K6]; · iexists f6; iapply (entails_of_eq (holds_whole c cc0_scratch6 f6).symm); iexact K6
    iexists f7; iapply (entails_of_eq (holds_whole c cc0_scratch7 f7).symm); iexact K7
  iexists fc; isplitr; · ipureintro; exact fun h => absurd rfl h
  iexact HC

theorem args_out (c : Dev nD) : Φ m c (Fin.last cfg0.N) ⊢ iprop(outP m c ∗ Pipeline.ownSems0 osem c ∗ Pipeline.scopedRest (Ix := Unit) (Name := ℕ) (U := UU nD τ) (Lvl := ℕ) (Val := Elt F) spec0 c) := by
  unfold outP Φ argsP scrP
  rw [scopedRest0_eq, ownSems0_eq, w_eq c (wts m c)]
  rw [xdone_eq, free_eq]
  iintro ⟨⟨⟨HxC, K0, HX⟩, ⟨HcC, K2⟩, HH, HS, HB, H0, H1, Ho⟩, ⟨⟨%f1, K1⟩, ⟨%f3, K3⟩, ⟨%f4, K4⟩, ⟨%f5, K5⟩, ⟨%f6, K6⟩, ⟨%f7, K7⟩⟩, ⟨%fc, %hfc, HC⟩⟩
  rw [hfc (by decide)]
  ihave HC := (entails_of_eq (holds_whole c main_v3_1 _)) $$ HC
  ihave K0 := (xb_join c (fun _ => default)) $$ K0
  ihave K2 := (rg_join c (fun _ => default)) $$ K2
  isplitl [HH HC]
  · isplitl [HH]; · iexact HH
    iexact HC
  isplitl [HxC HcC H0 H1 Ho]
  · isplitl [HxC]; · iexact HxC
    isplitl [HcC]; · iexact HcC
    isplitl [H0]; · iexact H0
    isplitl [H1]; · iexact H1
    iexact Ho
  isplitl [K0]; · iexact K0
  isplitl [K1]; · iexists f1; iapply (entails_of_eq (holds_whole c cc0_scratch1 f1)); iexact K1
  isplitl [K2]; · iexact K2
  isplitl [K3]; · iexists f3; iapply (entails_of_eq (holds_whole c cc0_scratch3 f3)); iexact K3
  isplitl [K4]; · iexists f4; iapply (entails_of_eq (holds_whole c cc0_scratch4 f4)); iexact K4
  isplitl [K5]; · iexists f5; iapply (entails_of_eq (holds_whole c cc0_scratch5 f5)); iexact K5
  isplitl [K6]; · iexists f6; iapply (entails_of_eq (holds_whole c cc0_scratch6 f6)); iexact K6
  iexists f7; iapply (entails_of_eq (holds_whole c cc0_scratch7 f7)); iexact K7

set_option backward.isDefEq.respectTransparency.types false in
/-- From any memory with zero counters: every weakly fair execution terminates, and every final state has the logits and
    the scales at what the pipeline leaves, the codes at the specification's, the arguments unchanged, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := inP m) (Y := outP m) (Z := restP m)
    (hX := fun c => by
      rw [unscopedRest0_eq, x_eq c (V m c main_v0), w_eq c (V m c main_arg1)]
      unfold inP restP
      iintro ⟨⟨H0, H1, H2, H3, K0, K1, K2, K3⟩, HO, -⟩
      imodintro
      isplitl [H1 K0 K1 K2 K3 HO]
      · isplitl [K0]; · iexact K0
        isplitl [H1]; · iexact H1
        isplitl [K1]; · iapply (entails_of_eq (holds_whole c main_v1 _).symm); iexact K1
        isplitl [K2]; · iapply (entails_of_eq (holds_whole c main_v2 _).symm); iexact K2
        isplitl [K3]; · iexists _; iapply (entails_of_eq (holds_whole c main_v3_1 _).symm); iexact K3
        iexact HO
      isplitl [H0]; · iexact H0
      isplitl [H2]; · iexact H2
      iexact H3)
    (hin := fun c => args_in m c)
    (hout := fun c => args_out m c)
    (QY := QY m)
    (hY := fun c s' => by
      unfold outP restP
      iintro ⟨⟨H1, HC⟩, ⟨H0, H2, H3⟩, HSI⟩
      icombine HSI H0 gives %h0
      icombine HSI H1 gives %h1
      icombine HSI H2 gives %h2
      icombine HSI H3 gives %h3
      icombine HSI HC gives %hC
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ hC⟩
      iexact HSI)
    (hQ := fun _ hh hz => ⟨hh, hz⟩)

/-- The frame: the arguments end unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2.1.trans (V_main_arg0 m c), (h.1 c).2.2.1.trans (V_main_arg1 m c),
    (h.1 c).2.2.2.1.trans (V_main_arg2 m c), (h.1 c).2.2.2.2.1.trans (V_main_arg3 m c)⟩, h.2⟩) (run_main m ρ)
end Cert.Proof.KernelIdeal
-- ==== Proof.Quant.lean ====
/- The quantiser over the extended reals: the kernel's codes and scales are the reference's. The kernel takes a row's
   largest absolute value a tile at a time and finds the exponent field by a search; the reference takes it over the
   whole row and counts the powers of two it reaches. -/
module

public import proofs.«01_k».proof.Proof.IdealT1
public import proofs.«01_k».proof.Proof.Gen.ReferenceIdeal.Skeleton
public import Idealize.ShloMosaic.Lib.ValueIdx
public import Idealize.ShloMosaic.PureOps.Reduce
public import Idealize.ShloMosaic.PureOps.Ideal.Laws
public import Idealize.ShloMosaic.Lib.Pipeline.Value

@[expose] public section

set_option maxRecDepth 16384

noncomputable section

namespace Cert.Proof.Value

open Idealize.ShloMosaic
open Idealize.ShloMosaic.ValueIdx hiding ix2 ix1
open scoped BigOperators

/-! ## The powers of two and the field -/

/-- The float whose exponent field is `k` and whose fraction is zero. -/
def thr (k : ℕ) : EReal := Ideal.ofBits .f32 (BitVec.ofNat 32 k <<< (23#32))

/-- A word with no sign and no fraction denotes a power of two. -/
theorem ieee_pow (w : BitVec 32) (k : ℕ) (hv : w.toNat = k * 2 ^ 23) (h1 : 1 ≤ k) (h2 : k < 255) :
    Ideal.ieee 8 23 w = (((2 : ℝ) ^ ((k : Int) - 127) : ℝ) : EReal) := by
  have hex : (w.extractLsb' 23 8).toNat = k := by
    rw [BitVec.extractLsb'_toNat, hv, Nat.shiftRight_eq_div_pow]; omega
  have hfr : (w.extractLsb' 0 23).toNat = 0 := by
    rw [BitVec.extractLsb'_toNat, hv, Nat.shiftRight_eq_div_pow]; omega
  have hneg : (w.extractLsb' (8 + 23) 1 == 1#1) = false := by
    rw [beq_eq_false_iff_ne]; intro h
    have := congrArg BitVec.toNat h
    rw [BitVec.extractLsb'_toNat, hv, Nat.shiftRight_eq_div_pow] at this
    have h3 : (1#1).toNat = 1 := rfl
    rw [h3] at this
    omega
  unfold Ideal.ieee
  simp only [hex, hfr, hneg]
  rw [if_neg (by omega), if_neg (by omega)]
  congr 1
  rw [show ((k : Int) - (2 ^ (8 - 1) - 1) - (23 : ℕ)) = ((k : Int) - 127) - 23 by norm_num, zpow_sub₀ (by norm_num : (2 : ℝ) ≠ 0)]
  norm_num
  try field_simp

theorem word_val {k : ℕ} (h2 : k ≤ 255) : (BitVec.ofNat 32 k <<< (23#32)).toNat = k * 2 ^ 23 := by
  rw [BitVec.shiftLeft_eq', BitVec.toNat_shiftLeft, BitVec.toNat_ofNat, Nat.shiftLeft_eq]
  have : (23#32).toNat = 23 := rfl
  rw [this]; omega

theorem thr_eq {k : ℕ} (h1 : 1 ≤ k) (h2 : k < 255) : thr k = (((2 : ℝ) ^ ((k : Int) - 127) : ℝ) : EReal) :=
  ieee_pow _ k (word_val (by omega)) h1 h2

theorem thr_top : thr 255 = ⊤ := by
  unfold thr; simp [Ideal.ofBits, Ideal.ieee]

theorem thr_mono {j k : ℕ} (h1 : 1 ≤ j) (h : j ≤ k) (h2 : k ≤ 255) : thr j ≤ thr k := by
  rcases Nat.lt_or_ge k 255 with hk | hk
  · rw [thr_eq h1 (by omega), thr_eq (by omega) hk]
    exact EReal.coe_le_coe_iff.mpr (zpow_le_zpow_right₀ (by norm_num) (by omega))
  · obtain rfl : k = 255 := by omega
    rw [thr_top]; exact le_top

/-- The number of the powers of two, from field 1 to field 255, that `v` reaches. -/
def fld (v : EReal) : ℕ := by classical exact Nat.findGreatest (fun k => thr k ≤ v) 255
theorem fld_le (v : EReal) : fld v ≤ 255 := by classical exact Nat.findGreatest_le 255
theorem thr_le_iff (v : EReal) {k : ℕ} (h1 : 1 ≤ k) (h2 : k ≤ 255) : thr k ≤ v ↔ k ≤ fld v := by
  classical
  constructor
  · intro h; exact Nat.le_findGreatest h2 h
  · intro h
    have h0 : fld v ≠ 0 := by omega
    have hs : thr (fld v) ≤ v := Nat.findGreatest_of_ne_zero (P := fun k => thr k ≤ v) (n := 255) rfl h0
    exact (thr_mono h1 h (fld_le v)).trans hs

/-- One comparison of the search: the bit `s` is added where `v` reaches that power of two. -/
def probe (v : EReal) (a s : BitVec 32) : BitVec 32 :=
  Scalar.select (Ideal.cmp .oge v (Ideal.ofBits .f32 (IntOp.shli .vector (IntOp.addi a s) 23#32))) (IntOp.addi a s) a

theorem oge_thr (v : EReal) {k : ℕ} (h1 : 1 ≤ k) (h2 : k ≤ 255) :
    Ideal.cmp .oge v (thr k) = BitVec.ofBool (decide (k ≤ fld v)) := by
  have := thr_le_iff v h1 h2
  simp only [Ideal.cmp, this]

theorem probe_eq (v : EReal) {a s : ℕ} (b : ℕ) (h1 : 1 ≤ a + s) (h2 : a + s ≤ 255) (hb : b = if a + s ≤ fld v then a + s else a) :
    probe v (BitVec.ofNat 32 a) (BitVec.ofNat 32 s) = BitVec.ofNat 32 b := by
  have hs : IntOp.addi (BitVec.ofNat 32 a) (BitVec.ofNat 32 s) = BitVec.ofNat 32 (a + s) := (BitVec.ofNat_add ..).symm
  have hc : Ideal.cmp .oge v (Ideal.ofBits .f32 (IntOp.shli .vector (BitVec.ofNat 32 (a + s)) 23#32)) = BitVec.ofBool (decide (a + s ≤ fld v)) :=
    oge_thr v h1 h2
  unfold probe
  rw [hs, hc, hb]
  by_cases h : a + s ≤ fld v
  · rw [if_pos h, decide_eq_true h]; rfl
  · rw [if_neg h, decide_eq_false h]; rfl

/-- The search of eight comparisons. -/
def search (v : EReal) : BitVec 32 :=
  probe v (probe v (probe v (probe v (probe v (probe v (probe v (probe v 0#32 128#32) 64#32) 32#32) 16#32) 8#32) 4#32) 2#32) 1#32

theorem search_eq (v : EReal) : search v = BitVec.ofNat 32 (fld v) := by
  have hK := fld_le v
  unfold search
  rw [probe_eq v (a := 0) (s := 128) (fld v / 128 * 128) (by omega) (by omega) (by split <;> omega),
    probe_eq v (s := 64) (fld v / 64 * 64) (by omega) (by omega) (by split <;> omega),
    probe_eq v (s := 32) (fld v / 32 * 32) (by omega) (by omega) (by split <;> omega),
    probe_eq v (s := 16) (fld v / 16 * 16) (by omega) (by omega) (by split <;> omega),
    probe_eq v (s := 8) (fld v / 8 * 8) (by omega) (by omega) (by split <;> omega),
    probe_eq v (s := 4) (fld v / 4 * 4) (by omega) (by omega) (by split <;> omega),
    probe_eq v (s := 2) (fld v / 2 * 2) (by omega) (by omega) (by split <;> omega),
    probe_eq v (s := 1) (fld v) (by omega) (by omega) (by split <;> omega)]

/-- The exponent of the scale of a row whose field is `f`. -/
def expo (f : BitVec 32) : BitVec 32 :=
  Scalar.select (IntOp.ori (IntOp.cmpi .eq f 0#32) (IntOp.cmpi .eq f 255#32)) 0#32 (IntOp.subi f 126#32)
/-- The scale of a row whose field is `f`, and its inverse. -/
def scl (f : BitVec 32) : EReal := Ideal.ofBits .f32 (IntOp.shli .vector (IntOp.addi 127#32 (expo f)) 23#32)
def inv (f : BitVec 32) : EReal := Ideal.ofBits .f32 (IntOp.shli .vector (IntOp.subi 127#32 (expo f)) 23#32)
/-- 1/448 as the programs have it, and ±448. -/
def c448 : EReal := Ideal.ofBits .f32 0x3B124925#32
def lo : EReal := Ideal.ofBits .f32 0xC3E00000#32
def hi : EReal := Ideal.ofBits .f32 0x43E00000#32
theorem lo_bf16 : Ideal.ofBits .bf16 0xC3E0#16 = lo := by
  unfold lo; simp [Ideal.ofBits, Ideal.ieee, -EReal.coe_mul]; norm_num
theorem hi_bf16 : Ideal.ofBits .bf16 0x43E0#16 = hi := by
  unfold hi; simp [Ideal.ofBits, Ideal.ieee, -EReal.coe_mul]; norm_num

/-! ## A row's largest absolute value -/

abbrev X192 := (⟨2, ![192, 8192]⟩ : Shape).Idx → EReal
/-- The largest absolute value of row `r`. -/
def amax (X : X192) (r : Fin 192) : EReal := (Finset.univ : Finset (Fin 8192)).fold max ⊥ fun j => max (X (ix2 r j)) (-X (ix2 r j))

open Cert.KernelIdeal Cert.KernelIdeal.Gen Cert.Proof.KernelIdeal

theorem mN_le (g : ℕ → Vec Ideal S32x128 .bf16) (n : ℕ) (x : S32x128.Idx) (c : EReal) :
    mN (F := Ideal) g n x ≤ c ↔ ∀ k ≤ n, max (g k x) (-(g k x)) ≤ c := by
  induction n with
  | zero =>
    constructor
    · intro h k hk; obtain rfl : k = 0 := by omega
      exact h
    · intro h; exact h 0 le_rfl
  | succ n ih =>
    have e : mN (F := Ideal) g (n + 1) x = max (mN (F := Ideal) g n x) (max (g (n + 1) x) (-(g (n + 1) x))) := rfl
    rw [e, max_le_iff, ih]
    constructor
    · rintro ⟨h1, h2⟩ k hk
      rcases Nat.lt_or_ge k (n + 1) with h | h
      · exact h1 k (by omega)
      · obtain rfl : k = n + 1 := by omega
        exact h2
    · intro h; exact ⟨fun k hk => h k (by omega), h _ le_rfl⟩

/-- The kernel's value of the row over 448. -/
def kv (g : ℕ → Vec Ideal S32x128 .bf16) : FVec Ideal S32x128 .f32 :=
  k0_pay9 (F := Ideal) (mN g 56) (g 57) (g 58) (g 59) (g 60) (g 61) (g 62) (g 63)

theorem bot_word : (FloatOps.ofBits .f32 0xFF800000#32 : Ideal .f32) = (⊥ : EReal) := by
  show Ideal.ofBits .f32 0xFF800000#32 = ⊥; simp [Ideal.ofBits, Ideal.ieee]

theorem kv_eq (g : ℕ → Vec Ideal S32x128 .bf16) (p : Fin 32) (l : Fin 128) :
    kv g (ix2 p l) = ((Finset.univ : Finset (Fin 128)).fold max (⊥ : EReal) fun j => mN (F := Ideal) g 63 (ix2 p j)) * c448 := by
  unfold kv k0_pay9
  show broadcastTo S32x128 _ _ _ * _ = _
  congr 1
  rw [broadcastTo_apply _ _ (ix2 p l) (ix2 p 0) (by intro a; fin_cases a <;> rfl), shapeCast_self,
    shapeCast_apply _ _ (ix2 p 0) (ix1 p) (by simp [Shape.rowMajor_val_one, Shape.rowMajor_val_two])]
  refine (Ideal.multiReduction_maximumf_single _ _ _ _ _ _).trans ?_
  rw [bot_word]
  refine congrArg (fun f : Fin 128 → EReal => Finset.fold max (⊥ : EReal) f Finset.univ) (funext fun j => ?_)
  show mN (F := Ideal) g 63 _ = _
  congr 1
  funext a; apply Fin.ext
  fin_cases a <;> rfl

/-- One comparison of the search, on every row. -/
def probeV (V : FVec Ideal S32x128 .f32) (a : IVec S32x128 32) (s : BitVec 32) : IVec S32x128 32 :=
  select (cmpf .oge V (bitcastToFloat .f32 (shli (addi a (broadcast S32x128 s)) (broadcast S32x128 23#32)))) (addi a (broadcast S32x128 s)) a
theorem probeV_apply (V : FVec Ideal S32x128 .f32) (a : IVec S32x128 32) (s : BitVec 32) (x : S32x128.Idx) :
    probeV V a s x = probe (V x) (a x) s := rfl
theorem pay10_eq (g : ℕ → Vec Ideal S32x128 .bf16) :
    k0_pay10 (F := Ideal) (mN g 56) (g 57) (g 58) (g 59) (g 60) (g 61) (g 62) (g 63) = probeV (kv g) (broadcast S32x128 0#32) 128#32 := by
  unfold k0_pay10 probeV kv; rfl
theorem pay13_eq (A : FVec Ideal S32x128 .f32) (B : IVec S32x128 32) :
    k0_pay13 (F := Ideal) A B (addi B (broadcast S32x128 64#32)) k0_pay12
      = probeV A (probeV A (probeV A (probeV A (probeV A (probeV A (probeV A B 64#32) 32#32) 16#32) 8#32) 4#32) 2#32) 1#32 := by
  unfold k0_pay13 k0_pay12 probeV; rfl
theorem field_eq (g : ℕ → Vec Ideal S32x128 .bf16) (x : S32x128.Idx) : fieldG (F := Ideal) g x = search (kv g x) := by
  have e : fieldG (F := Ideal) g = k0_pay13 (F := Ideal) (kv g) (k0_pay10 (F := Ideal) (mN g 56) (g 57) (g 58) (g 59) (g 60) (g 61) (g 62) (g 63))
      (addi (k0_pay10 (F := Ideal) (mN g 56) (g 57) (g 58) (g 59) (g 60) (g 61) (g 62) (g 63)) (broadcast S32x128 64#32)) k0_pay12 := by
    unfold fieldG kv k0_pay11; rfl
  rw [e, pay13_eq, pay10_eq]
  simp only [probeV_apply]
  rfl

/-- The kernel's row maximum, over 64 tiles of 128 lanes, is the row's. -/
theorem kv_row (X : X192) (r : Fin 192) (l : Fin 128) :
    kv (xtile (F := Ideal) X (r.val / 32)) (ix2 ⟨r.val % 32, by omega⟩ l) = amax X r * c448 := by
  rw [kv_eq]
  congr 1
  have hr := r.isLt
  have ht : ∀ (k : ℕ) (j : Fin 128), k ≤ 63 → xtile (F := Ideal) X (r.val / 32) k (ix2 ⟨r.val % 32, by omega⟩ j) = X (ix2 r ⟨128 * (k % 64) + j.val, by omega⟩) := by
    intro k j hk
    unfold xtile
    congr 1
    funext a; apply Fin.ext
    fin_cases a
    · show 32 * (r.val / 32 % 6) + r.val % 32 = r.val; omega
    · rfl
  refine eq_of_forall_ge_iff fun c => ?_
  unfold amax
  rw [Finset.fold_max_le, Finset.fold_max_le]
  refine and_congr_right fun _ => ⟨fun h j _ => ?_, fun h j _ => ?_⟩
  · have hj := j.isLt
    have := (mN_le _ _ _ _).mp (h ⟨j.val % 128, by omega⟩ (Finset.mem_univ _)) (j.val / 128) (by omega)
    rw [ht _ _ (by omega)] at this
    have ej : (⟨128 * (j.val / 128 % 64) + j.val % 128, by omega⟩ : Fin 8192) = j := Fin.ext (by show 128 * (j.val / 128 % 64) + j.val % 128 = j.val; omega)
    rw [ej] at this
    exact this
  · rw [mN_le]
    intro k hk
    rw [ht k j hk]
    exact h _ (Finset.mem_univ _)

/-! ## The row's field, codes and scale -/

/-- The exponent field of row `r`'s largest absolute value over 448. -/
def fieldOf (X : X192) (r : Fin 192) : BitVec 32 := BitVec.ofNat 32 (fld (amax X r * c448))
def codeOf (X : X192) (r : Fin 192) (j : Fin 8192) : EReal := min (max (X (ix2 r j) * inv (fieldOf X r)) lo) hi
def scaleOf (X : X192) (r : Fin 192) : EReal := scl (fieldOf X r)

theorem field_row (X : X192) (r : Fin 192) (l : Fin 128) :
    fieldG (F := Ideal) (xtile (F := Ideal) X (r.val / 32)) (ix2 ⟨r.val % 32, by omega⟩ l) = fieldOf X r := by
  rw [field_eq, kv_row, search_eq]; rfl

theorem pay15_apply (f : IVec S32x128 32) (x : S32x128.Idx) : k0_pay15 f k0_pay14 x = expo (f x) := rfl

theorem pay16_apply (f : IVec S32x128 32) (x : S32x128.Idx) : k0_pay16 (F := Ideal) f k0_pay14 x = scl (f x) := by
  unfold k0_pay16
  show shapeCast S32x128 _ _ x = _
  rw [shapeCast_self]
  rfl

theorem pay17_apply (f : IVec S32x128 32) (x : S32x128.Idx) : k0_pay17 (F := Ideal) f k0_pay14 x = inv (f x) := rfl

theorem pay21_apply (v w : FVec Ideal S32x128 .bf16) (x : S32x128.Idx) : k0_pay21 (F := Ideal) v w x = min (max (w x * v x) lo) hi := by
  unfold k0_pay21
  show shapeCast S32x128 _ _ x = _
  rw [shapeCast_self, ← lo_bf16, ← hi_bf16]
  rfl

/-- The kernel's codes. -/
theorem Cspec_eq (X : X192) (r : Fin 192) (j : Fin 8192) : Cspec (F := Ideal) X (ix2 r j) = codeOf X r j := by
  have hr := r.isLt
  have hj := j.isLt
  show codeT (F := Ideal) (xtile X (r.val / 32)) (j.val / 128) (ix2 ⟨r.val % 32, _⟩ ⟨j.val % 128, _⟩) = _
  unfold codeT codeOf
  rw [pay21_apply, pay17_apply, field_row]
  have e : xtile (F := Ideal) X (r.val / 32) (j.val / 128) (ix2 ⟨r.val % 32, by omega⟩ ⟨j.val % 128, by omega⟩) = X (ix2 r j) := by
    unfold xtile
    congr 1
    funext a; apply Fin.ext
    fin_cases a
    · show 32 * (r.val / 32 % 6) + r.val % 32 = r.val; omega
    · show 128 * (j.val / 128 % 64) + j.val % 128 = j.val; omega
  rw [e]

/-- The kernel's scales, the same in every lane. -/
theorem Sspec_eq (X : X192) (r : Fin 192) (l : Fin 128) : Sspec (F := Ideal) X (ix2 r l) = scaleOf X r := by
  show scaleT (F := Ideal) (xtile X (r.val / 32)) (ix2 ⟨r.val % 32, _⟩ l) = _
  unfold scaleT scaleOf
  rw [pay16_apply, field_row]

end Cert.Proof.Value
-- ==== Proof.Logits.lean ====
/- The kernel's logits over the extended reals: 32 partial products of 256 of the depth, added up in turn, are the product
   over the whole depth. -/
module

public import proofs.«01_k».proof.Proof.Quant
public import proofs.«01_k».proof.Proof.IdealRing
public import proofs.«01_k».proof.Proof.IdealPro
public import Idealize.ShloMosaic.Lib.MatmulPlain

@[expose] public section

set_option maxRecDepth 16384

noncomputable section

namespace Cert.Proof.Value

open Idealize.ShloMosaic
open Idealize.ShloMosaic.ValueIdx hiding ix2 ix1 ix3
open Cert.KernelIdeal Cert.KernelIdeal.Gen Cert.Proof.KernelIdeal
open Cert.Proof.Unit (Rows Tile Lhs dep prod)
open scoped BigOperators

abbrev WV := (⟨2, ![18944, 8192]⟩ : Shape).Idx → EReal

/-- One term of the product of a row of codes and a row of weights. -/
def term (C : X192) (W : WV) (r : Fin 192) (v : Fin 18944) (k : ℕ) : EReal :=
  if h : k < 8192 then C (ix2 r ⟨k, h⟩) * W (ix2 v ⟨k, h⟩) else 0

theorem prod_apply (x : Lhs Ideal) (v : Tile Ideal) (r : Fin 192) (l : Fin 256) :
    prod x v (ix2 r l) = ∑ k : Fin 256, x (ix2 r k) * v (ix2 l k) := by
  have h := Ideal.matmul_transposedRhs_apply (M := 192) (K := 256) (N := 256) (φ₁ := .bf16) (φ₂ := .bf16) none x v (fun _ => (0 : EReal)) r l
  rw [Ideal.matmul_apply, zero_add, zero_add] at h
  exact h

theorem lhsC_apply (C : X192) (n : ℕ) (hn : n < 32) (r : Fin 192) (k : Fin 256) :
    lhsC (F := Ideal) C n (ix2 r k) = C (ix2 r ⟨256 * n + k.val, by omega⟩) := by
  show C (ix2 r ⟨256 * (n % 32) + k.val, _⟩) = _
  exact congrArg (fun j : Fin 8192 => C (ix2 r j)) (Fin.ext (by show 256 * (n % 32) + k.val = 256 * n + k.val; rw [Nat.mod_eq_of_lt hn]))

theorem tileW_apply (W : WV) (b : Fin 37) (n : ℕ) (hn : n < 32) (q : Fin 2) (l k : Fin 256) :
    tileW (F := Ideal) W b.val n q (ix2 l k) = W (ix2 ⟨512 * b.val + (256 * q.val + l.val), by omega⟩ ⟨256 * n + k.val, by omega⟩) := by
  have hb := b.isLt
  unfold tileW k0_pay191
  rw [ValueIdx.extf_apply]
  refine (shapeCast_apply (s := S1x256x256) (t := S256x256) _ shapeCasts_S1x256x256_S256x256 (ix2 l k) (ix3 (0 : Fin 1) l k) (by simp [Shape.rowMajor_val_two, Shape.rowMajor_val_three])).trans ?_
  refine congrArg₂ (fun (i : Fin 18944) (j : Fin 8192) => W (ix2 i j)) (Fin.ext ?_) (Fin.ext ?_)
  · show 512 * ((b.val + n / 32) % 37) + (256 * q.val + l.val) = 512 * b.val + (256 * q.val + l.val)
    rw [Nat.div_eq_of_lt hn, Nat.add_zero, Nat.mod_eq_of_lt hb]
  · show 256 * (n % 32) + k.val = 256 * n + k.val
    rw [Nat.mod_eq_of_lt hn]

/-- A step's product is the next 256 terms. -/
theorem prod_terms (C : X192) (W : WV) (b : Fin 37) (n : ℕ) (hn : n < 32) (q : Fin 2) (r : Fin 192) (l : Fin 256) :
    prod (lhsC (F := Ideal) C n) (tileW (F := Ideal) W b.val n q) (ix2 r l)
      = ∑ k ∈ Finset.range 256, term C W r ⟨512 * b.val + (256 * q.val + l.val), by omega⟩ (256 * n + k) := by
  rw [prod_apply, ← Fin.sum_univ_eq_sum_range (fun k => term C W r ⟨512 * b.val + (256 * q.val + l.val), by omega⟩ (256 * n + k)) 256]
  refine Finset.sum_congr rfl fun k _ => ?_
  have hk := k.isLt
  rw [lhsC_apply C n hn, tileW_apply W b n hn, term, dif_pos (by omega)]

theorem dep_terms (C : X192) (W : WV) (b : Fin 37) (n : ℕ) (hn : n < 32) (q : Fin 2) (r : Fin 192) (l : Fin 256) :
    dep (accN (F := Ideal) W C b.val n) (lhsC C n) (tileW W b.val n) q (ix2 r l)
      = ∑ k ∈ Finset.range (256 * (n + 1)), term C W r ⟨512 * b.val + (256 * q.val + l.val), by omega⟩ k := by
  induction n with
  | zero =>
    show prod _ _ (ix2 r l) = _
    rw [prod_terms C W b 0 hn]
    simp only [Nat.mul_zero, Nat.zero_add, Nat.mul_one]
  | succ n ih =>
    show dep (accN (F := Ideal) W C b.val n) (lhsC C n) (tileW W b.val n) q (ix2 r l) + prod (lhsC (F := Ideal) C (n + 1)) (tileW (F := Ideal) W b.val (n + 1) q) (ix2 r l) = _
    rw [ih (by omega), prod_terms C W b (n + 1) hn, show 256 * (n + 1 + 1) = 256 * (n + 1) + 256 by omega, Finset.sum_range_add]

/-- The products of a block, popped, are those over the whole depth. -/
theorem sT_eq (C : X192) (W : WV) (r : Fin 192) (v : Fin 18944) :
    sT (F := Ideal) W C (v.val / 512) (ix2 r ⟨v.val % 512, by omega⟩) = ∑ k : Fin 8192, C (ix2 r k) * W (ix2 v k) := by
  have hv := v.isLt
  have h := dep_terms C W ⟨v.val / 512, by omega⟩ 31 (by omega) ⟨v.val % 512 / 256, by omega⟩ r ⟨v.val % 512 % 256, by omega⟩
  refine Eq.trans (b := dep (accN (F := Ideal) W C (v.val / 512) 31) (lhsC C 31) (tileW W (v.val / 512) 31) ⟨v.val % 512 / 256, by omega⟩ (ix2 r ⟨v.val % 512 % 256, by omega⟩)) rfl (h.trans ?_)
  have ev : (⟨512 * (v.val / 512) + (256 * (v.val % 512 / 256) + v.val % 512 % 256), by omega⟩ : Fin 18944) = v :=
    Fin.ext (by show 512 * (v.val / 512) + (256 * (v.val % 512 / 256) + v.val % 512 % 256) = v.val; omega)
  refine (Finset.sum_congr rfl fun k _ => congrArg (fun v => term C W r v k) ev).trans ?_
  rw [← Fin.sum_univ_eq_sum_range (fun k => term C W r v k) (256 * (31 + 1))]
  refine Finset.sum_congr rfl fun k _ => ?_
  rw [term, dif_pos k.isLt]

/-- One logit of the kernel. -/
theorem lgt_eq (X : X192) (W : WV) (wv bv : (⟨2, ![148, 128]⟩ : Shape).Idx → EReal) (r : Fin 192) (v : Fin 18944) :
    lgt (F := Ideal) W (Cspec (F := Ideal) X) (Sspec (F := Ideal) X) wv bv (ix2 r v)
      = (∑ k : Fin 8192, codeOf X r k * W (ix2 v k)) * scaleOf X r * wv (ix2 ⟨v.val / 128, by omega⟩ ⟨v.val % 128, by omega⟩) + bv (ix2 ⟨v.val / 128, by omega⟩ ⟨v.val % 128, by omega⟩) := by
  show sT (F := Ideal) W (Cspec (F := Ideal) X) (v.val / 512) (ix2 r ⟨v.val % 512, _⟩) * Sspec (F := Ideal) X (ix2 r ⟨v.val % 128, _⟩) * wv (ix2 ⟨v.val / 128, _⟩ ⟨v.val % 128, _⟩) + bv (ix2 ⟨v.val / 128, _⟩ ⟨v.val % 128, _⟩) = _
  rw [Sspec_eq, sT_eq]
  refine congrArg (fun t : EReal => t * scaleOf X r * _ + _) (Finset.sum_congr rfl fun k _ => congrArg (· * W (ix2 v k)) (Cspec_eq X r k))

/-- The kernel's scales as it stores them, in a row. -/
theorem scaleO_eq (X : X192) (r : Fin 192) : scaleO (F := Ideal) X (ix2 0 r) = scaleOf X r := by
  unfold scaleO k0_pay3
  show extractStridedSlice S1x192 _ _ _ (ix2 0 r) = _
  rw [extractStridedSlice_apply _ _ _ (ix2 0 r) (ix2 0 r) (by intro a; fin_cases a <;> simp),
    transpose_apply _ _ _ (ix2 0 r) (ix2 r 0) (by intro a; fin_cases a <;> rfl)]
  exact Sspec_eq X r 0

end Cert.Proof.Value
-- ==== Proof.KVal.lean ====
/- What the kernel's run leaves in its three results, over the extended reals. -/
module

public import proofs.«01_k».proof.Proof.Logits
public import proofs.«01_k».proof.Proof.IdealRun
public import Idealize.ShloMosaic.Lib.Pipeline.ValueKit.Geometry
public import Idealize.ShloMosaic.Lib.StableHlo.RunRead

@[expose] public section

set_option maxRecDepth 16384

noncomputable section

namespace Cert.Proof.Value

open Idealize.ShloMosaic Idealize.ShloMosaic.TcCoe
open Idealize.ShloMosaic.ValueIdx hiding ix2 ix1 ix3
open Idealize.SL.Sem
open Idealize.ShloMosaic.Pipeline (Dat)
open Cert.KernelIdeal Cert.KernelIdeal.Gen Cert.Proof.KernelIdeal
open scoped BigOperators

/-- The rows, weights, scales and biases as the callers hand them over, and the results they determine. -/
abbrev A0 := (⟨3, ![192, 1, 8192]⟩ : Shape).Idx → EReal
abbrev A2 := (⟨1, ![18944]⟩ : Shape).Idx → EReal
def rowsOf (a : A0) : X192 := fun y => a (ix3 (y 0) (0 : Fin 1) (y 1))
/-- The codes of every row. -/
def codes (a : A0) : X192 := fun y => codeOf (rowsOf a) (y 0) (y 1)
/-- The rows' scales, as one line. -/
def scales (a : A0) : (⟨2, ![1, 192]⟩ : Shape).Idx → EReal := fun y => scaleOf (rowsOf a) (y 1)
/-- The logits: the product of the codes with the weights, times the row's scale and the column's, plus the bias. -/
def outs (a : A0) (W : WV) (s b : A2) : (⟨2, ![192, 18944]⟩ : Shape).Idx → EReal := fun y =>
  (∑ k : Fin 8192, codeOf (rowsOf a) (y 0) k * W (ix2 (y 1) k)) * scaleOf (rowsOf a) (y 0) * s (ix1 (y 1)) + b (ix1 (y 1))

variable (m : (ℓ : Loc nD τ sig) → Buf (Elt Ideal) ℓ) (c : Dev nD)

theorem V_v0 : (V m c main_v0 : X192) = rowsOf (m ((c : Thread nD τ).loc main_arg0)) := by
  have h : (V m c main_v0 : X192) = shapeCast S192x8192 (m ((c : Thread nD τ).loc main_arg0) : A0) shapeCasts_S192x1x8192_S192x8192 := by
    show StableHlo.after hostOps0 _ _ = _
    after_reads_simp
    rfl
  rw [h]
  funext y
  exact shapeCast_apply _ shapeCasts_S192x1x8192_S192x8192 y (ix3 (y 0) (0 : Fin 1) (y 1)) (by simp [Shape.rowMajor_val_two, Shape.rowMajor_val_three])

theorem V_v1 (v : Fin 18944) : (V m c main_v1 : (⟨2, ![148, 128]⟩ : Shape).Idx → EReal) (ix2 ⟨v.val / 128, by omega⟩ ⟨v.val % 128, by omega⟩)
    = (m ((c : Thread nD τ).loc main_arg2) : A2) (ix1 v) := by
  have h : (V m c main_v1 : (⟨2, ![148, 128]⟩ : Shape).Idx → EReal) = shapeCast S148x128 (m ((c : Thread nD τ).loc main_arg2) : A2) shapeCasts_S18944_S148x128 := by
    show StableHlo.after hostOps0 _ _ = _
    after_reads_simp
    rfl
  rw [h]
  exact shapeCast_apply _ shapeCasts_S18944_S148x128 _ (ix1 v) (by
    simp only [Shape.rowMajor_val_two, Shape.rowMajor_val_one]
    show v.val = v.val / 128 * 128 + v.val % 128
    omega)

theorem V_v2 (v : Fin 18944) : (V m c main_v2 : (⟨2, ![148, 128]⟩ : Shape).Idx → EReal) (ix2 ⟨v.val / 128, by omega⟩ ⟨v.val % 128, by omega⟩)
    = (m ((c : Thread nD τ).loc main_arg3) : A2) (ix1 v) := by
  have h : (V m c main_v2 : (⟨2, ![148, 128]⟩ : Shape).Idx → EReal) = shapeCast S148x128 (m ((c : Thread nD τ).loc main_arg3) : A2) shapeCasts_S18944_S148x128 := by
    show StableHlo.after hostOps0 _ _ = _
    after_reads_simp
    rfl
  rw [h]
  exact shapeCast_apply _ shapeCasts_S18944_S148x128 _ (ix1 v) (by
    simp only [Shape.rowMajor_val_two, Shape.rowMajor_val_one]
    show v.val = v.val / 128 * 128 + v.val % 128
    omega)

/-- The logits' array at the end. -/
theorem arr0 : ((dats (F := Ideal) m 0 c).arrAt 0 cfg0.N : S192x18944.Idx → EReal) = logits (F := Ideal) m c :=
  Dat.arrAt_eq_of_after_last (dats (F := Ideal) m 0 c) 0 t0_0 (by decide +kernel) _ fun j => by rw [after_w0]; rfl
/-- The scales' array at the end. -/
theorem arr1 : ((dats (F := Ideal) m 0 c).arrAt 1 cfg0.N : S1x192.Idx → EReal) = scaleO (F := Ideal) (rows m c) :=
  Dat.arrAt_eq_of_after_last (dats (F := Ideal) m 0 c) 1 t0_0 (by decide +kernel) _ fun j => by rw [after_w1]; rfl

theorem logits_out : (logits (F := Ideal) m c : S192x18944.Idx → EReal)
    = outs (m ((c : Thread nD τ).loc main_arg0)) (m ((c : Thread nD τ).loc main_arg1)) (m ((c : Thread nD τ).loc main_arg2)) (m ((c : Thread nD τ).loc main_arg3)) := by
  funext y
  obtain ⟨r, v, rfl⟩ : ∃ (r : Fin 192) (v : Fin 18944), y = ix2 r v := ⟨y 0, y 1, by funext a; fin_cases a <;> rfl⟩
  refine (lgt_eq (rows m c) (wts m c) (wsc m c) (bia m c) r v).trans ?_
  have h0 : (rows m c : X192) = rowsOf (m ((c : Thread nD τ).loc main_arg0)) := V_v0 m c
  have h1 : (wts m c : WV) = m ((c : Thread nD τ).loc main_arg1) := V_main_arg1 m c
  rw [h0, h1]
  exact congrArg₂ (fun s b : EReal => (∑ k : Fin 8192, codeOf (rowsOf (m ((c : Thread nD τ).loc main_arg0))) r k * (m ((c : Thread nD τ).loc main_arg1) : WV) (ix2 v k)) * scaleOf (rowsOf (m ((c : Thread nD τ).loc main_arg0))) r * s + b) (V_v1 m c v) (V_v2 m c v)

theorem codes_out : (Cspec (F := Ideal) (rows m c) : X192) = codes (m ((c : Thread nD τ).loc main_arg0)) := by
  funext y
  obtain ⟨r, j, rfl⟩ : ∃ (r : Fin 192) (j : Fin 8192), y = ix2 r j := ⟨y 0, y 1, by funext a; fin_cases a <;> rfl⟩
  have h0 : (rows m c : X192) = rowsOf (m ((c : Thread nD τ).loc main_arg0)) := V_v0 m c
  refine (Cspec_eq (rows m c) r j).trans ?_
  rw [h0]; rfl

theorem scales_out : (scaleO (F := Ideal) (rows m c) : S1x192.Idx → EReal) = scales (m ((c : Thread nD τ).loc main_arg0)) := by
  funext y
  obtain ⟨r, rfl⟩ : ∃ (r : Fin 192), y = ix2 (0 : Fin 1) r := ⟨y 1, by
    funext a; fin_cases a
    · exact Subsingleton.elim (α := Fin 1) _ _
    · rfl⟩
  have h0 : (rows m c : X192) = rowsOf (m ((c : Thread nD τ).loc main_arg0)) := V_v0 m c
  refine (scaleO_eq (rows m c) r).trans ?_
  rw [h0]; rfl

/-- What the run of the kernel leaves. -/
theorem run_k (ρ : Dev nD → PrngReg) : θ_run (Cert.KernelIdeal.defs (F := Ideal)) (onTc (τ := τ) (Cert.KernelIdeal.main (F := Ideal))) ⟨m, fun _ => 0, ρ⟩ (fun r => ∀ c : Dev nD,
    r.2.mem ((c : Thread nD τ).loc main_v3_0) = outs (m ((c : Thread nD τ).loc main_arg0)) (m ((c : Thread nD τ).loc main_arg1)) (m ((c : Thread nD τ).loc main_arg2)) (m ((c : Thread nD τ).loc main_arg3))
    ∧ r.2.mem ((c : Thread nD τ).loc main_v3_1) = codes (m ((c : Thread nD τ).loc main_arg0))
    ∧ r.2.mem ((c : Thread nD τ).loc main_v3_2) = scales (m ((c : Thread nD τ).loc main_arg0))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) := by
  refine (θ_run (Cert.KernelIdeal.defs (F := Ideal)) _ _).mono (fun r h c => ?_) (Cert.Proof.KernelIdeal.run_main (F := Ideal) m ρ)
  obtain ⟨hw, h0, h1, h2, h3, hc⟩ := h.1 c
  exact ⟨((hw 0).trans (arr0 m c)).trans (logits_out m c), hc.trans (codes_out m c), ((hw 1).trans (arr1 m c)).trans (scales_out m c),
    h0.trans (V_main_arg0 m c), h1.trans (V_main_arg1 m c), h2.trans (V_main_arg2 m c), h3.trans (V_main_arg3 m c)⟩

end Cert.Proof.Value

end
-- ==== Proof.Ref.lean ====
/- The reference over the extended reals, element by element: its codes, its scales and its logits. -/
module

public import proofs.«01_k».proof.Proof.Quant
public import proofs.«01_k».proof.Proof.Gen.ReferenceIdeal.Skeleton
public import Idealize.ShloMosaic.Lib.MatmulPlain

@[expose] public section

set_option maxRecDepth 16384

noncomputable section

namespace Cert.Proof.Value

open Idealize.ShloMosaic
open Idealize.ShloMosaic.ValueIdx hiding ix2 ix1
open Cert.ReferenceIdeal Cert.ReferenceIdeal.Gen
open scoped BigOperators

/-! ## The exponent field, counted -/

/-- A count of the numbers from 1 to `K`, word by word. -/
theorem count_eq (f : Fin 256 → BitVec 32) (K : ℕ) (hK : K ≤ 255) (hf : ∀ k : Fin 256, f k = if 1 ≤ k.val ∧ k.val ≤ K then 1#32 else 0#32) :
    (Finset.univ : Finset (Fin 256)).fold IntOp.addi 0#32 f = BitVec.ofNat 32 K := by
  have h1 : ∀ s : Finset (Fin 256), s.fold IntOp.addi 0#32 f = BitVec.ofNat 32 (∑ k ∈ s, if 1 ≤ k.val ∧ k.val ≤ K then 1 else 0) := by
    intro s
    induction s using Finset.cons_induction with
    | empty => rfl
    | cons a S ha ih =>
      rw [Finset.fold_cons, Finset.sum_cons, ih, hf, BitVec.ofNat_add]
      unfold IntOp.addi
      split <;> rfl
  rw [h1]
  refine congrArg (BitVec.ofNat 32) ?_
  rw [Fin.sum_univ_eq_sum_range (fun k => if 1 ≤ k ∧ k ≤ K then 1 else 0) 256, ← Finset.sum_filter, Finset.sum_const, smul_eq_mul, mul_one,
    show ((Finset.range 256).filter fun k => 1 ≤ k ∧ k ≤ K) = Finset.Icc 1 K from by
      ext k; simp only [Finset.mem_filter, Finset.mem_range, Finset.mem_Icc]; omega]
  simp

/-- A row's largest absolute value over 448, as the reference takes it. -/
theorem ref_row (X : X192) (r : Fin 192) :
    mulf (shapeCast S192x1 (multiReduction .maximumf [1] S192 (absf (k0_pay4 (F := Ideal) X)) 0xFF800000#32 reduces_S192x8192_S192 (.inl rfl) rfl) shapeCasts_S192_S192x1)
      (broadcast S192x1 (Scalar.ofBits .f32 0x3B124925#32)) (ix2 r 0) = amax X r * c448 := by
  show shapeCast S192x1 _ _ (ix2 r 0) * c448 = _
  refine congrArg (· * c448) ?_
  rw [shapeCast_apply _ _ (ix2 r 0) (ix1 r) (by simp [Shape.rowMajor_val_one, Shape.rowMajor_val_two])]
  refine (Ideal.multiReduction_maximumf_single _ _ _ _ _ _).trans ?_
  rw [bot_word]
  refine congrArg (fun f : Fin 8192 → EReal => Finset.fold max (⊥ : EReal) f Finset.univ) (funext fun j => ?_)
  have e : (reduces_S192x8192_S192.lift (ix1 r) j) = ix2 r j := by
    funext a; apply Fin.ext
    fin_cases a <;> rfl
  show FloatOps.absf (k0_pay4 (F := Ideal) X (reduces_S192x8192_S192.lift (ix1 r) j)) = _
  rw [e]
  unfold k0_pay4
  rw [shapeCast_self]
  rfl

/-- The reference's exponent. -/
theorem pay5_eq (X : X192) (r : Fin 192) : k0_pay5 (F := Ideal) X (ix2 r 0) = expo (fieldOf X r) := by
  unfold k0_pay5
  show expo (shapeCast S192x1 _ _ (ix2 r 0)) = _
  refine congrArg expo ?_
  rw [shapeCast_apply _ _ (ix2 r 0) (ix1 r) (by simp [Shape.rowMajor_val_one, Shape.rowMajor_val_two])]
  refine (multiReductionI_eq_fold _ _ _ _ _ _).trans ?_
  refine (Shape.Reduces.fold_filter_drop_single _ _ _ _ _).trans ?_
  unfold fieldOf
  refine count_eq _ _ (fld_le _) fun k => ?_
  have e : (reduces_S192x256_S192.lift (ix1 r) k) = ix2 r k := by
    funext a; apply Fin.ext
    fin_cases a <;> rfl
  show extui 32 _ _ (reduces_S192x256_S192.lift (ix1 r) k) = _
  rw [e]
  show BitVec.setWidth 32 (IntOp.andi (Ideal.cmp .oge (broadcastTo S192x256 _ _ (ix2 r k)) (broadcastTo S192x256 _ _ (ix2 r k))) (broadcastTo S192x256 _ _ (ix2 r k))) = _
  rw [broadcastTo_apply _ _ (ix2 r k) (ix2 r 0) (by intro a; fin_cases a <;> rfl),
    broadcastTo_apply _ _ (ix2 r k) (ix2 0 k) (by intro a; fin_cases a <;> rfl),
    broadcastTo_apply _ _ (ix2 r k) (ix2 0 k) (by intro a; fin_cases a <;> rfl), ref_row]
  have hio : iota .tc S1x256 32 [1] iota_S1x256_d1_w32 (ix2 0 k) = BitVec.ofNat 32 k.val := iota_single_apply ..
  show BitVec.setWidth 32 (IntOp.andi (Ideal.cmp .oge _ (Ideal.ofBits .f32 (IntOp.shli .vector (iota .tc S1x256 32 [1] iota_S1x256_d1_w32 (ix2 0 k)) 23#32))) (IntOp.cmpi .sgt (iota .tc S1x256 32 [1] iota_S1x256_d1_w32 (ix2 0 k)) 0#32)) = _
  rw [hio]
  have hk := k.isLt
  rcases Nat.eq_zero_or_pos k.val with h0 | h0
  · rw [h0, if_neg (by omega)]
    rw [show IntOp.cmpi .sgt (BitVec.ofNat 32 0) 0#32 = 0#1 from rfl]
    unfold IntOp.andi
    rw [BitVec.and_zero]; rfl
  · have h1 : IntOp.cmpi .sgt (BitVec.ofNat 32 k.val) 0#32 = 1#1 := by
      have : ∀ k : Fin 256, 0 < k.val → IntOp.cmpi .sgt (BitVec.ofNat 32 k.val) 0#32 = 1#1 := by decide
      exact this k h0
    have h2 : Ideal.cmp .oge (amax X r * c448) (Ideal.ofBits .f32 (IntOp.shli .vector (BitVec.ofNat 32 k.val) 23#32)) = BitVec.ofBool (decide (k.val ≤ fld (amax X r * c448))) :=
      oge_thr _ h0 (by omega)
    rw [h1, h2]
    by_cases h : k.val ≤ fld (amax X r * c448)
    · rw [if_pos ⟨h0, h⟩, decide_eq_true h]; rfl
    · rw [if_neg (by omega), decide_eq_false h]; rfl

/-- The reference's scales. -/
theorem pay6_eq (X : X192) (r : Fin 192) : k0_pay6 (F := Ideal) X (ix2 r 0) = scaleOf X r := by
  have : k0_pay6 (F := Ideal) X (ix2 r 0) = Ideal.ofBits .f32 (IntOp.shli .vector (IntOp.addi 127#32 (k0_pay5 (F := Ideal) X (ix2 r 0))) 23#32) := rfl
  rw [this, pay5_eq]; rfl

/-- The reference's codes. -/
theorem pay1_eq (X : X192) (r : Fin 192) (j : Fin 8192) :
    k0_pay1 (F := Ideal) (k0_pay7 X) (Scalar.ofBits .f32 0xC3E00000#32) (Scalar.ofBits .f32 0x43E00000#32) (ix2 r j) = codeOf X r j := by
  have h4 : k0_pay4 (F := Ideal) X (ix2 r j) = X (ix2 r j) := by unfold k0_pay4; rw [shapeCast_self]; rfl
  have h7 : k0_pay7 (F := Ideal) X (ix2 r j) = X (ix2 r j) * inv (fieldOf X r) := by
    unfold k0_pay7
    show k0_pay4 (F := Ideal) X (ix2 r j) * broadcastTo S192x8192 _ _ (ix2 r j) = _
    rw [h4, broadcastTo_apply _ _ (ix2 r j) (ix2 r 0) (by intro a; fin_cases a <;> rfl)]
    refine congrArg (X (ix2 r j) * ·) ?_
    show Ideal.ofBits .f32 (IntOp.shli .vector (IntOp.subi 127#32 (k0_pay5 (F := Ideal) X (ix2 r 0))) 23#32) = _
    rw [pay5_eq]; rfl
  have h1 : k0_pay1 (F := Ideal) (k0_pay7 X) (Scalar.ofBits .f32 0xC3E00000#32) (Scalar.ofBits .f32 0x43E00000#32) (ix2 r j) = min hi (max lo (k0_pay7 (F := Ideal) X (ix2 r j))) := rfl
  rw [h1, h7, codeOf, min_comm, max_comm lo]

/-- The reference's logits. -/
theorem pay2_eq (X : X192) (W : (⟨2, ![18944, 8192]⟩ : Shape).Idx → EReal) (s b : (⟨2, ![1, 18944]⟩ : Shape).Idx → EReal) (r : Fin 192) (v : Fin 18944) :
    k0_pay2 (F := Ideal) (k0_pay6 X) (k0_pay7 X) (Scalar.ofBits .f32 0xC3E00000#32) (Scalar.ofBits .f32 0x43E00000#32) W s b (ix2 r v)
      = (∑ k : Fin 8192, codeOf X r k * W (ix2 v k)) * scaleOf X r * s (ix2 0 v) + b (ix2 0 v) := by
  unfold k0_pay2
  show FloatOps.matmul _ _ _ _ _ (ix2 r v) * broadcastTo S192x18944 _ _ (ix2 r v) * broadcastTo S192x18944 _ _ (ix2 r v) + broadcastTo S192x18944 _ _ (ix2 r v) = _
  rw [broadcastTo_apply _ _ (ix2 r v) (ix2 r 0) (by intro a; fin_cases a <;> rfl),
    broadcastTo_apply _ _ (ix2 r v) (ix2 0 v) (by intro a; fin_cases a <;> rfl),
    broadcastTo_apply _ _ (ix2 r v) (ix2 0 v) (by intro a; fin_cases a <;> rfl), shapeCast_self, shapeCast_self, pay6_eq]
  have hd : dot_S192x8192_S18944x8192_S192x18944_1_1_0_0_n_n = DotDims.transposedRhs 192 8192 18944 := rfl
  rw [hd]
  refine congrArg (fun t : EReal => t * scaleOf X r * s (ix2 0 v) + b (ix2 0 v)) ?_
  refine (Ideal.matmul_transposedRhs_apply none _ _ _ r v).trans ?_
  rw [show (constant (F := Ideal) S192x18944 .f32 0x00000000#32 (ValueIdx.ix2 r v) : EReal) = 0 from Ideal.ofBits_zero_f32, zero_add]
  exact Finset.sum_congr rfl fun k _ => congrArg (· * W (ix2 v k)) (pay1_eq X r k)

end Cert.Proof.Value
-- ==== Proof.RVal.lean ====
/- What the reference leaves in its three results, over the extended reals. -/
module

public import proofs.«01_k».proof.Proof.KVal
public import proofs.«01_k».proof.Proof.Ref
public import proofs.«01_k».proof.Proof.Gen.ReferenceIdeal.Frame

@[expose] public section

set_option maxRecDepth 16384

noncomputable section

namespace Cert.Proof.Value

open Idealize.ShloMosaic Idealize.ShloMosaic.TcCoe
open Idealize.ShloMosaic.ValueIdx hiding ix2 ix1 ix3
open Idealize.SL.Sem
open Idealize.ShloMosaic.Pipeline (Dat)
open Cert.ReferenceIdeal Cert.ReferenceIdeal.Gen
open scoped BigOperators

variable (m : (ℓ : Loc nD τ sig) → Buf (Elt Ideal) ℓ) (c : Dev nD)

theorem R_v0 : (V m c main_v0 : X192) = rowsOf (m ((c : Thread nD τ).loc main_arg0)) := by
  have h : (V m c main_v0 : X192) = shapeCast S192x8192 (m ((c : Thread nD τ).loc main_arg0) : A0) shapeCasts_S192x1x8192_S192x8192 := by
    show StableHlo.after hostOps0 _ _ = _
    after_reads_simp
    rfl
  rw [h]
  funext y
  exact shapeCast_apply _ shapeCasts_S192x1x8192_S192x8192 y (ix3 (y 0) (0 : Fin 1) (y 1)) (by simp [Shape.rowMajor_val_two, Shape.rowMajor_val_three])

theorem R_v1 (v : Fin 18944) : (V m c main_v1 : (⟨2, ![1, 18944]⟩ : Shape).Idx → EReal) (ix2 0 v) = (m ((c : Thread nD τ).loc main_arg2) : A2) (ix1 v) := by
  have h : (V m c main_v1 : (⟨2, ![1, 18944]⟩ : Shape).Idx → EReal) = shapeCast S1x18944 (m ((c : Thread nD τ).loc main_arg2) : A2) shapeCasts_S18944_S1x18944 := by
    show StableHlo.after hostOps0 _ _ = _
    after_reads_simp
    rfl
  rw [h]
  exact shapeCast_apply _ shapeCasts_S18944_S1x18944 _ (ix1 v) (by
    simp only [Shape.rowMajor_val_two, Shape.rowMajor_val_one]
    show v.val = 0 * 18944 + v.val
    omega)

theorem R_v2 (v : Fin 18944) : (V m c main_v2 : (⟨2, ![1, 18944]⟩ : Shape).Idx → EReal) (ix2 0 v) = (m ((c : Thread nD τ).loc main_arg3) : A2) (ix1 v) := by
  have h : (V m c main_v2 : (⟨2, ![1, 18944]⟩ : Shape).Idx → EReal) = shapeCast S1x18944 (m ((c : Thread nD τ).loc main_arg3) : A2) shapeCasts_S18944_S1x18944 := by
    show StableHlo.after hostOps0 _ _ = _
    after_reads_simp
    rfl
  rw [h]
  exact shapeCast_apply _ shapeCasts_S18944_S1x18944 _ (ix1 v) (by
    simp only [Shape.rowMajor_val_two, Shape.rowMajor_val_one]
    show v.val = 0 * 18944 + v.val
    omega)

/-- Each input's block is its whole array. -/
theorem blk_0 : (iblk (F := Ideal) m c 0 t0_0 : X192) = V m c main_v0 :=
  Memref.read_access_unit_zero (Elt Ideal) main_v0
    (show (fun a => (win0_0.index t0_0) a * main_v0.ty.shape.size a) = fun _ => 0 from
      funext fun a => by fin_cases a <;> decide) (fun a => by fin_cases a <;> decide) _
theorem blk_1 : (iblk (F := Ideal) m c 1 t0_0 : WV) = V m c main_arg1 :=
  Memref.read_access_unit_zero (Elt Ideal) main_arg1
    (show (fun a => (win0_1.index t0_0) a * main_arg1.ty.shape.size a) = fun _ => 0 from
      funext fun a => by fin_cases a <;> decide) (fun a => by fin_cases a <;> decide) _
theorem blk_2 : (iblk (F := Ideal) m c 2 t0_0 : (⟨2, ![1, 18944]⟩ : Shape).Idx → EReal) = V m c main_v1 :=
  Memref.read_access_unit_zero (Elt Ideal) main_v1
    (show (fun a => (win0_2.index t0_0) a * main_v1.ty.shape.size a) = fun _ => 0 from
      funext fun a => by fin_cases a <;> decide) (fun a => by fin_cases a <;> decide) _
theorem blk_3 : (iblk (F := Ideal) m c 3 t0_0 : (⟨2, ![1, 18944]⟩ : Shape).Idx → EReal) = V m c main_v2 :=
  Memref.read_access_unit_zero (Elt Ideal) main_v2
    (show (fun a => (win0_3.index t0_0) a * main_v2.ty.shape.size a) = fun _ => 0 from
      funext fun a => by fin_cases a <;> decide) (fun a => by fin_cases a <;> decide) _

theorem zero2 : (![0, 0] : Fin 2 → ℕ) = fun _ => 0 := by funext a; fin_cases a <;> rfl

section body
variable (X : X192) (W : WV) (s b : (⟨2, ![1, 18944]⟩ : Shape).Idx → EReal)

theorem out4 : out0_4 (F := Ideal) X W s b
    = k0_pay2 (F := Ideal) (k0_pay6 X) (k0_pay7 X) (Scalar.ofBits .f32 0xC3E00000#32) (Scalar.ofBits .f32 0x43E00000#32) W s b := by
  unfold_out out0_4
  rw [View.canon_unit_zero zero2, View.ld_unit_zero zero2, View.ld_unit_zero zero2, View.ld_unit_zero zero2, View.ld_unit_zero zero2]
theorem out5 : out0_5 (F := Ideal) X W s b = k0_pay1 (F := Ideal) (k0_pay7 X) (Scalar.ofBits .f32 0xC3E00000#32) (Scalar.ofBits .f32 0x43E00000#32) := by
  unfold_out out0_5
  rw [View.canon_unit_zero zero2, View.ld_unit_zero zero2]
theorem out6 : out0_6 (F := Ideal) X W s b = k0_pay3 (F := Ideal) (k0_pay6 X) := by
  unfold_out out0_6
  rw [View.canon_unit_zero zero2, View.ld_unit_zero zero2]
end body

theorem rout4 : (out0_4 (F := Ideal) (iblk m c 0 t0_0) (iblk m c 1 t0_0) (iblk m c 2 t0_0) (iblk m c 3 t0_0) : S192x18944.Idx → EReal)
    = outs (m ((c : Thread nD τ).loc main_arg0)) (m ((c : Thread nD τ).loc main_arg1)) (m ((c : Thread nD τ).loc main_arg2)) (m ((c : Thread nD τ).loc main_arg3)) := by
  refine (out4 _ _ _ _).trans ?_
  funext y
  obtain ⟨r, v, rfl⟩ : ∃ (r : Fin 192) (v : Fin 18944), y = ix2 r v := ⟨y 0, y 1, by funext a; fin_cases a <;> rfl⟩
  refine (pay2_eq _ _ _ _ r v).trans ?_
  rw [show (iblk (F := Ideal) m c 0 t0_0 : X192) = rowsOf (m ((c : Thread nD τ).loc main_arg0)) from (blk_0 m c).trans (R_v0 m c),
    show (iblk (F := Ideal) m c 1 t0_0 : WV) = m ((c : Thread nD τ).loc main_arg1) from (blk_1 m c).trans (V_main_arg1 m c)]
  exact congrArg₂ (fun s b : EReal => (∑ k : Fin 8192, codeOf (rowsOf (m ((c : Thread nD τ).loc main_arg0))) r k * (m ((c : Thread nD τ).loc main_arg1) : WV) (ix2 v k)) * scaleOf (rowsOf (m ((c : Thread nD τ).loc main_arg0))) r * s + b)
    ((congrFun (blk_2 m c) (ix2 0 v)).trans (R_v1 m c v)) ((congrFun (blk_3 m c) (ix2 0 v)).trans (R_v2 m c v))

theorem rout5 : (out0_5 (F := Ideal) (iblk m c 0 t0_0) (iblk m c 1 t0_0) (iblk m c 2 t0_0) (iblk m c 3 t0_0) : X192)
    = codes (m ((c : Thread nD τ).loc main_arg0)) := by
  refine (out5 _ _ _ _).trans ?_
  funext y
  obtain ⟨r, j, rfl⟩ : ∃ (r : Fin 192) (j : Fin 8192), y = ix2 r j := ⟨y 0, y 1, by funext a; fin_cases a <;> rfl⟩
  refine (pay1_eq _ r j).trans ?_
  rw [show (iblk (F := Ideal) m c 0 t0_0 : X192) = rowsOf (m ((c : Thread nD τ).loc main_arg0)) from (blk_0 m c).trans (R_v0 m c)]
  rfl

theorem rout6 : (out0_6 (F := Ideal) (iblk m c 0 t0_0) (iblk m c 1 t0_0) (iblk m c 2 t0_0) (iblk m c 3 t0_0) : S1x192.Idx → EReal)
    = scales (m ((c : Thread nD τ).loc main_arg0)) := by
  refine (out6 _ _ _ _).trans ?_
  funext y
  obtain ⟨r, rfl⟩ : ∃ (r : Fin 192), y = ix2 (0 : Fin 1) r := ⟨y 1, by
    funext a; fin_cases a
    · exact Subsingleton.elim (α := Fin 1) _ _
    · rfl⟩
  unfold k0_pay3
  refine (transpose_apply _ _ _ (ix2 0 r) (ix2 r 0) (by intro a; fin_cases a <;> rfl)).trans ?_
  refine (pay6_eq _ r).trans ?_
  rw [show (iblk (F := Ideal) m c 0 t0_0 : X192) = rowsOf (m ((c : Thread nD τ).loc main_arg0)) from (blk_0 m c).trans (R_v0 m c)]
  rfl

/-- Each result's array at the end is what the body leaves. -/
theorem last4 (G : S192x18944.Idx → EReal) (h : (dats (F := Ideal) m 0 c).after 4 t0_0 = G) : ((dats (F := Ideal) m 0 c).arrAt 4 cfg0.N : S192x18944.Idx → EReal) = G :=
  Dat.arrAt_eq_of_after_last (dats (F := Ideal) m 0 c) 4 t0_0 (by decide +kernel) G fun j => by rw [h]; rfl
theorem rarr4 : ((dats (F := Ideal) m 0 c).arrAt 4 cfg0.N : S192x18944.Idx → EReal) = out0_4 (F := Ideal) (iblk m c 0 t0_0) (iblk m c 1 t0_0) (iblk m c 2 t0_0) (iblk m c 3 t0_0) :=
  last4 m c _ (after0_4 m c t0_0)
theorem last5 (G : S192x8192.Idx → EReal) (h : (dats (F := Ideal) m 0 c).after 5 t0_0 = G) : ((dats (F := Ideal) m 0 c).arrAt 5 cfg0.N : S192x8192.Idx → EReal) = G :=
  Dat.arrAt_eq_of_after_last (dats (F := Ideal) m 0 c) 5 t0_0 (by decide +kernel) G fun j => by rw [h]; rfl
theorem rarr5 : ((dats (F := Ideal) m 0 c).arrAt 5 cfg0.N : S192x8192.Idx → EReal) = out0_5 (F := Ideal) (iblk m c 0 t0_0) (iblk m c 1 t0_0) (iblk m c 2 t0_0) (iblk m c 3 t0_0) :=
  last5 m c _ (after0_5 m c t0_0)
theorem last6 (G : S1x192.Idx → EReal) (h : (dats (F := Ideal) m 0 c).after 6 t0_0 = G) : ((dats (F := Ideal) m 0 c).arrAt 6 cfg0.N : S1x192.Idx → EReal) = G :=
  Dat.arrAt_eq_of_after_last (dats (F := Ideal) m 0 c) 6 t0_0 (by decide +kernel) G fun j => by rw [h]; rfl
theorem rarr6 : ((dats (F := Ideal) m 0 c).arrAt 6 cfg0.N : S1x192.Idx → EReal) = out0_6 (F := Ideal) (iblk m c 0 t0_0) (iblk m c 1 t0_0) (iblk m c 2 t0_0) (iblk m c 3 t0_0) :=
  last6 m c _ (after0_6 m c t0_0)

/-- What the run of the reference leaves. -/
theorem run_r (ρ : Dev nD → PrngReg) : θ_run (Cert.ReferenceIdeal.defs (F := Ideal)) (onTc (τ := τ) (Cert.ReferenceIdeal.main (F := Ideal))) ⟨m, fun _ => 0, ρ⟩ (fun r => ∀ c : Dev nD,
    r.2.mem ((c : Thread nD τ).loc main_v3_0) = outs (m ((c : Thread nD τ).loc main_arg0)) (m ((c : Thread nD τ).loc main_arg1)) (m ((c : Thread nD τ).loc main_arg2)) (m ((c : Thread nD τ).loc main_arg3))
    ∧ r.2.mem ((c : Thread nD τ).loc main_v3_1) = codes (m ((c : Thread nD τ).loc main_arg0))
    ∧ r.2.mem ((c : Thread nD τ).loc main_v3_2) = scales (m ((c : Thread nD τ).loc main_arg0))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) := by
  refine (θ_run (Cert.ReferenceIdeal.defs (F := Ideal)) _ _).mono (fun r h c => ?_) (Cert.ReferenceIdeal.Gen.run_main (F := Ideal) m ρ)
  exact ⟨(((h c).1 4).trans (rarr4 m c)).trans (rout4 m c), (((h c).1 5).trans (rarr5 m c)).trans (rout5 m c), (((h c).1 6).trans (rarr6 m c)).trans (rout6 m c),
    ((h c).2 main_arg0 (Pipeline.mem_restRefs_of main_arg0 (by decide) (by decide))).trans (V_main_arg0 m c),
    ((h c).1 1).trans (((dats m 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run
public import proofs.«01_k».proof.Proof.IdealRun
public import proofs.«01_k».proof.Proof.KVal
public import proofs.«01_k».proof.Proof.RVal
public import Idealize.ShloMosaic.Adequacy
public import Idealize.ShloMosaic.Init

@[expose] public section

noncomputable section

namespace Cert.Proof

open Idealize.ShloMosaic Idealize.SL.Sem Cert.Kernel

/-- From equal arguments the kernel and the reference leave equal logits, codes and scales. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, Value.run_k m g, ?_⟩
  refine (θ_run (Cert.ReferenceIdeal.defs (F := Ideal)) _ _).mono (fun r h c => ?_) (Value.run_r m' g')
  obtain ⟨h0, h1, h2, hf⟩ := h c
  obtain ⟨e0, e1, e2, e3⟩ := hargs c
  rw [e0, e1, e2, e3] at h0
  rw [e0] at h1 h2
  exact ⟨h0, h1, h2, hf⟩

theorem claim : Cert.Claim := ⟨Cert.Kernel.Gen.facts, Cert.KernelIdeal.Gen.facts, Cert.ReferenceIdeal.Gen.facts,
  fun m g _ => Cert.Proof.Kernel.frame_run m g, fun m g _ => Cert.Proof.KernelIdeal.frame_run m g,
  fun m g _ => Cert.ReferenceIdeal.Gen.frame m g, trivial, algebraic⟩

end Cert.Proof

end
